-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Grouped (m : (ℓ : Loc Cert.Grouped.nD Cert.Grouped.τ Cert.Grouped.sig) → Buf (Elt Bits) ℓ) : Prop :=
  True

def Pre_GroupedIdeal (m : (ℓ : Loc Cert.GroupedIdeal.nD Cert.GroupedIdeal.τ Cert.GroupedIdeal.sig) → Buf (Elt Ideal) ℓ) : Prop :=
  True

def Pre_GroupedIdeal_finite_grouped [hPre_finite_grouped : Cert.Pre_finite_grouped.Facts] (m : (ℓ : Loc Cert.GroupedIdeal.nD Cert.GroupedIdeal.τ Cert.GroupedIdeal.sig) → Buf (Elt Ideal) ℓ) : Prop :=
  ∀ c : Dev Cert.GroupedIdeal.nD,
    (Cert.Pre_finite_grouped.fn (F := Ideal) (m ((c.tc : Thread Cert.GroupedIdeal.nD Cert.GroupedIdeal.τ).loc Cert.GroupedIdeal.main_arg0)) (m ((c.tc : Thread Cert.GroupedIdeal.nD Cert.GroupedIdeal.τ).loc Cert.GroupedIdeal.main_arg1)) (m ((c.tc : Thread Cert.GroupedIdeal.nD Cert.GroupedIdeal.τ).loc Cert.GroupedIdeal.main_arg2))) = (fun _ => 1#1)

def Pre_GroupedReferenceIdeal (m : (ℓ : Loc Cert.GroupedReferenceIdeal.nD Cert.GroupedReferenceIdeal.τ Cert.GroupedReferenceIdeal.sig) → Buf (Elt Ideal) ℓ) : Prop :=
  True

def Pre_GroupedReferenceIdeal_finite_grouped [hPre_finite_grouped : Cert.Pre_finite_grouped.Facts] (m : (ℓ : Loc Cert.GroupedReferenceIdeal.nD Cert.GroupedReferenceIdeal.τ Cert.GroupedReferenceIdeal.sig) → Buf (Elt Ideal) ℓ) : Prop :=
  ∀ c : Dev Cert.GroupedReferenceIdeal.nD,
    (Cert.Pre_finite_grouped.fn (F := Ideal) (m ((c.tc : Thread Cert.GroupedReferenceIdeal.nD Cert.GroupedReferenceIdeal.τ).loc Cert.GroupedReferenceIdeal.main_arg0)) (m ((c.tc : Thread Cert.GroupedReferenceIdeal.nD Cert.GroupedReferenceIdeal.τ).loc Cert.GroupedReferenceIdeal.main_arg1)) (m ((c.tc : Thread Cert.GroupedReferenceIdeal.nD Cert.GroupedReferenceIdeal.τ).loc Cert.GroupedReferenceIdeal.main_arg2))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Joined (m : (ℓ : Loc Cert.Joined.nD Cert.Joined.τ Cert.Joined.sig) → Buf (Elt Bits) ℓ) : Prop :=
  True

def Pre_JoinedIdeal (m : (ℓ : Loc Cert.JoinedIdeal.nD Cert.JoinedIdeal.τ Cert.JoinedIdeal.sig) → Buf (Elt Ideal) ℓ) : Prop :=
  True

def Pre_JoinedReferenceIdeal (m : (ℓ : Loc Cert.JoinedReferenceIdeal.nD Cert.JoinedReferenceIdeal.τ Cert.JoinedReferenceIdeal.sig) → Buf (Elt Ideal) ℓ) : Prop :=
  True

def Pre_Added (m : (ℓ : Loc Cert.Added.nD Cert.Added.τ Cert.Added.sig) → Buf (Elt Bits) ℓ) : Prop :=
  True

def Pre_AddedIdeal (m : (ℓ : Loc Cert.AddedIdeal.nD Cert.AddedIdeal.τ Cert.AddedIdeal.sig) → Buf (Elt Ideal) ℓ) : Prop :=
  True

def Pre_AddedReferenceIdeal (m : (ℓ : Loc Cert.AddedReferenceIdeal.nD Cert.AddedReferenceIdeal.τ Cert.AddedReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentReferenceIdeal (m : (ℓ : Loc Cert.LatentReferenceIdeal.nD Cert.LatentReferenceIdeal.τ Cert.LatentReferenceIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleReferenceIdeal (m : (ℓ : Loc Cert.NormSampleReferenceIdeal.nD Cert.NormSampleReferenceIdeal.τ Cert.NormSampleReferenceIdeal.sig) → Buf (Elt Ideal) ℓ) : Prop :=
  True

def Pre_ProjectSample (m : (ℓ : Loc Cert.ProjectSample.nD Cert.ProjectSample.τ Cert.ProjectSample.sig) → Buf (Elt Bits) ℓ) : Prop :=
  True

def Pre_ProjectSampleIdeal (m : (ℓ : Loc Cert.ProjectSampleIdeal.nD Cert.ProjectSampleIdeal.τ Cert.ProjectSampleIdeal.sig) → Buf (Elt Ideal) ℓ) : Prop :=
  True

def Pre_ProjectSampleReferenceIdeal (m : (ℓ : Loc Cert.ProjectSampleReferenceIdeal.nD Cert.ProjectSampleReferenceIdeal.τ Cert.ProjectSampleReferenceIdeal.sig) → Buf (Elt Ideal) ℓ) : Prop :=
  True

def Pre_LatentSample (m : (ℓ : Loc Cert.LatentSample.nD Cert.LatentSample.τ Cert.LatentSample.sig) → Buf (Elt Bits) ℓ) : Prop :=
  True

def Pre_LatentSampleIdeal (m : (ℓ : Loc Cert.LatentSampleIdeal.nD Cert.LatentSampleIdeal.τ Cert.LatentSampleIdeal.sig) → Buf (Elt Ideal) ℓ) : Prop :=
  True

def Pre_LatentSampleReferenceIdeal (m : (ℓ : Loc Cert.LatentSampleReferenceIdeal.nD Cert.LatentSampleReferenceIdeal.τ Cert.LatentSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Grouped [hGrouped : Cert.Grouped.Facts] : Prop :=
  ∀ (m : (ℓ : Loc Cert.Grouped.nD Cert.Grouped.τ Cert.Grouped.sig) → Buf (Elt Bits) ℓ) (g : Dev Cert.Grouped.nD → PrngReg), Pre_Grouped m →
    θ_run (Cert.Grouped.defs (F := Bits)) (onTc (τ := Cert.Grouped.τ) (Cert.Grouped.main (F := Bits))) ⟨m, fun _ => 0, g⟩ (fun r => (∀ c : Dev Cert.Grouped.nD,
      r.2.mem ((c.tc : Thread Cert.Grouped.nD Cert.Grouped.τ).loc Cert.Grouped.main_arg0) = m ((c.tc : Thread Cert.Grouped.nD Cert.Grouped.τ).loc Cert.Grouped.main_arg0)
      ∧ r.2.mem ((c.tc : Thread Cert.Grouped.nD Cert.Grouped.τ).loc Cert.Grouped.main_arg1) = m ((c.tc : Thread Cert.Grouped.nD Cert.Grouped.τ).loc Cert.Grouped.main_arg1)
      ∧ r.2.mem ((c.tc : Thread Cert.Grouped.nD Cert.Grouped.τ).loc Cert.Grouped.main_arg2) = m ((c.tc : Thread Cert.Grouped.nD Cert.Grouped.τ).loc Cert.Grouped.main_arg2))
      ∧ r.2.sem = fun _ => 0)

def quiescent_GroupedIdeal [hGroupedIdeal : Cert.GroupedIdeal.Facts] : Prop :=
  ∀ (m : (ℓ : Loc Cert.GroupedIdeal.nD Cert.GroupedIdeal.τ Cert.GroupedIdeal.sig) → Buf (Elt Ideal) ℓ) (g : Dev Cert.GroupedIdeal.nD → PrngReg), Pre_GroupedIdeal m →
    θ_run (Cert.GroupedIdeal.defs (F := Ideal)) (onTc (τ := Cert.GroupedIdeal.τ) (Cert.GroupedIdeal.main (F := Ideal))) ⟨m, fun _ => 0, g⟩ (fun r => (∀ c : Dev Cert.GroupedIdeal.nD,
      r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
      ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
      ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2))
      ∧ r.2.sem = fun _ => 0)

def quiescent_GroupedIdeal_pre_finite_grouped [hGroupedIdeal : Cert.GroupedIdeal.Facts] [hPre_finite_grouped : Cert.Pre_finite_grouped.Facts] : Prop :=
  ∀ (m : (ℓ : Loc Cert.GroupedIdeal.nD Cert.GroupedIdeal.τ Cert.GroupedIdeal.sig) → Buf (Elt Ideal) ℓ) (g : Dev Cert.GroupedIdeal.nD → PrngReg), Pre_GroupedIdeal_finite_grouped m →
    θ_run (Cert.GroupedIdeal.defs (F := Ideal)) (onTc (τ := Cert.GroupedIdeal.τ) (Cert.GroupedIdeal.main (F := Ideal))) ⟨m, fun _ => 0, g⟩ (fun r => (∀ c : Dev Cert.GroupedIdeal.nD,
      r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
      ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
      ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2))
      ∧ r.2.sem = fun _ => 0)

def quiescent_GroupedReferenceIdeal [hGroupedReferenceIdeal : Cert.GroupedReferenceIdeal.Facts] : Prop :=
  ∀ (m : (ℓ : Loc Cert.GroupedReferenceIdeal.nD Cert.GroupedReferenceIdeal.τ Cert.GroupedReferenceIdeal.sig) → Buf (Elt Ideal) ℓ) (g : Dev Cert.GroupedReferenceIdeal.nD → PrngReg), Pre_GroupedReferenceIdeal m →
    θ_run (Cert.GroupedReferenceIdeal.defs (F := Ideal)) (onTc (τ := Cert.GroupedReferenceIdeal.τ) (Cert.GroupedReferenceIdeal.main (F := Ideal))) ⟨m, fun _ => 0, g⟩ (fun r => (∀ c : Dev Cert.GroupedReferenceIdeal.nD,
      r.2.mem ((c.tc : Thread Cert.GroupedReferenceIdeal.nD Cert.GroupedReferenceIdeal.τ).loc Cert.GroupedReferenceIdeal.main_arg0) = m ((c.tc : Thread Cert.GroupedReferenceIdeal.nD Cert.GroupedReferenceIdeal.τ).loc Cert.GroupedReferenceIdeal.main_arg0)
      ∧ r.2.mem ((c.tc : Thread Cert.GroupedReferenceIdeal.nD Cert.GroupedReferenceIdeal.τ).loc Cert.GroupedReferenceIdeal.main_arg1) = m ((c.tc : Thread Cert.GroupedReferenceIdeal.nD Cert.GroupedReferenceIdeal.τ).loc Cert.GroupedReferenceIdeal.main_arg1)
      ∧ r.2.mem ((c.tc : Thread Cert.GroupedReferenceIdeal.nD Cert.GroupedReferenceIdeal.τ).loc Cert.GroupedReferenceIdeal.main_arg2) = m ((c.tc : Thread Cert.GroupedReferenceIdeal.nD Cert.GroupedReferenceIdeal.τ).loc Cert.GroupedReferenceIdeal.main_arg2))
      ∧ r.2.sem = fun _ => 0)

def quiescent_GroupedReferenceIdeal_pre_finite_grouped [hGroupedReferenceIdeal : Cert.GroupedReferenceIdeal.Facts] [hPre_finite_grouped : Cert.Pre_finite_grouped.Facts] : Prop :=
  ∀ (m : (ℓ : Loc Cert.GroupedReferenceIdeal.nD Cert.GroupedReferenceIdeal.τ Cert.GroupedReferenceIdeal.sig) → Buf (Elt Ideal) ℓ) (g : Dev Cert.GroupedReferenceIdeal.nD → PrngReg), Pre_GroupedReferenceIdeal_finite_grouped m →
    θ_run (Cert.GroupedReferenceIdeal.defs (F := Ideal)) (onTc (τ := Cert.GroupedReferenceIdeal.τ) (Cert.GroupedReferenceIdeal.main (F := Ideal))) ⟨m, fun _ => 0, g⟩ (fun r => (∀ c : Dev Cert.GroupedReferenceIdeal.nD,
      r.2.mem ((c.tc : Thread Cert.GroupedReferenceIdeal.nD Cert.GroupedReferenceIdeal.τ).loc Cert.GroupedReferenceIdeal.main_arg0) = m ((c.tc : Thread Cert.GroupedReferenceIdeal.nD Cert.GroupedReferenceIdeal.τ).loc Cert.GroupedReferenceIdeal.main_arg0)
      ∧ r.2.mem ((c.tc : Thread Cert.GroupedReferenceIdeal.nD Cert.GroupedReferenceIdeal.τ).loc Cert.GroupedReferenceIdeal.main_arg1) = m ((c.tc : Thread Cert.GroupedReferenceIdeal.nD Cert.GroupedReferenceIdeal.τ).loc Cert.GroupedReferenceIdeal.main_arg1)
      ∧ r.2.mem ((c.tc : Thread Cert.GroupedReferenceIdeal.nD Cert.GroupedReferenceIdeal.τ).loc Cert.GroupedReferenceIdeal.main_arg2) = m ((c.tc : Thread Cert.GroupedReferenceIdeal.nD Cert.GroupedReferenceIdeal.τ).loc Cert.GroupedReferenceIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Joined [hJoined : Cert.Joined.Facts] : Prop :=
  ∀ (m : (ℓ : Loc Cert.Joined.nD Cert.Joined.τ Cert.Joined.sig) → Buf (Elt Bits) ℓ) (g : Dev Cert.Joined.nD → PrngReg), Pre_Joined m →
    θ_run (Cert.Joined.defs (F := Bits)) (onTc (τ := Cert.Joined.τ) (Cert.Joined.main (F := Bits))) ⟨m, fun _ => 0, g⟩ (fun r => (∀ c : Dev Cert.Joined.nD,
      r.2.mem ((c.tc : Thread Cert.Joined.nD Cert.Joined.τ).loc Cert.Joined.main_arg0) = m ((c.tc : Thread Cert.Joined.nD Cert.Joined.τ).loc Cert.Joined.main_arg0)
      ∧ r.2.mem ((c.tc : Thread Cert.Joined.nD Cert.Joined.τ).loc Cert.Joined.main_arg1) = m ((c.tc : Thread Cert.Joined.nD Cert.Joined.τ).loc Cert.Joined.main_arg1)
      ∧ r.2.mem ((c.tc : Thread Cert.Joined.nD Cert.Joined.τ).loc Cert.Joined.main_arg2) = m ((c.tc : Thread Cert.Joined.nD Cert.Joined.τ).loc Cert.Joined.main_arg2)
      ∧ r.2.mem ((c.tc : Thread Cert.Joined.nD Cert.Joined.τ).loc Cert.Joined.main_arg3) = m ((c.tc : Thread Cert.Joined.nD Cert.Joined.τ).loc Cert.Joined.main_arg3))
      ∧ r.2.sem = fun _ => 0)

def quiescent_JoinedIdeal [hJoinedIdeal : Cert.JoinedIdeal.Facts] : Prop :=
  ∀ (m : (ℓ : Loc Cert.JoinedIdeal.nD Cert.JoinedIdeal.τ Cert.JoinedIdeal.sig) → Buf (Elt Ideal) ℓ) (g : Dev Cert.JoinedIdeal.nD → PrngReg), Pre_JoinedIdeal m →
    θ_run (Cert.JoinedIdeal.defs (F := Ideal)) (onTc (τ := Cert.JoinedIdeal.τ) (Cert.JoinedIdeal.main (F := Ideal))) ⟨m, fun _ => 0, g⟩ (fun r => (∀ c : Dev Cert.JoinedIdeal.nD,
      r.2.mem ((c.tc : Thread Cert.JoinedIdeal.nD Cert.JoinedIdeal.τ).loc Cert.JoinedIdeal.main_arg0) = m ((c.tc : Thread Cert.JoinedIdeal.nD Cert.JoinedIdeal.τ).loc Cert.JoinedIdeal.main_arg0)
      ∧ r.2.mem ((c.tc : Thread Cert.JoinedIdeal.nD Cert.JoinedIdeal.τ).loc Cert.JoinedIdeal.main_arg1) = m ((c.tc : Thread Cert.JoinedIdeal.nD Cert.JoinedIdeal.τ).loc Cert.JoinedIdeal.main_arg1)
      ∧ r.2.mem ((c.tc : Thread Cert.JoinedIdeal.nD Cert.JoinedIdeal.τ).loc Cert.JoinedIdeal.main_arg2) = m ((c.tc : Thread Cert.JoinedIdeal.nD Cert.JoinedIdeal.τ).loc Cert.JoinedIdeal.main_arg2)
      ∧ r.2.mem ((c.tc : Thread Cert.JoinedIdeal.nD Cert.JoinedIdeal.τ).loc Cert.JoinedIdeal.main_arg3) = m ((c.tc : Thread Cert.JoinedIdeal.nD Cert.JoinedIdeal.τ).loc Cert.JoinedIdeal.main_arg3))
      ∧ r.2.sem = fun _ => 0)

def quiescent_JoinedReferenceIdeal [hJoinedReferenceIdeal : Cert.JoinedReferenceIdeal.Facts] : Prop :=
  ∀ (m : (ℓ : Loc Cert.JoinedReferenceIdeal.nD Cert.JoinedReferenceIdeal.τ Cert.JoinedReferenceIdeal.sig) → Buf (Elt Ideal) ℓ) (g : Dev Cert.JoinedReferenceIdeal.nD → PrngReg), Pre_JoinedReferenceIdeal m →
    θ_run (Cert.JoinedReferenceIdeal.defs (F := Ideal)) (onTc (τ := Cert.JoinedReferenceIdeal.τ) (Cert.JoinedReferenceIdeal.main (F := Ideal))) ⟨m, fun _ => 0, g⟩ (fun r => (∀ c : Dev Cert.JoinedReferenceIdeal.nD,
      r.2.mem ((c.tc : Thread Cert.JoinedReferenceIdeal.nD Cert.JoinedReferenceIdeal.τ).loc Cert.JoinedReferenceIdeal.main_arg0) = m ((c.tc : Thread Cert.JoinedReferenceIdeal.nD Cert.JoinedReferenceIdeal.τ).loc Cert.JoinedReferenceIdeal.main_arg0)
      ∧ r.2.mem ((c.tc : Thread Cert.JoinedReferenceIdeal.nD Cert.JoinedReferenceIdeal.τ).loc Cert.JoinedReferenceIdeal.main_arg1) = m ((c.tc : Thread Cert.JoinedReferenceIdeal.nD Cert.JoinedReferenceIdeal.τ).loc Cert.JoinedReferenceIdeal.main_arg1)
      ∧ r.2.mem ((c.tc : Thread Cert.JoinedReferenceIdeal.nD Cert.JoinedReferenceIdeal.τ).loc Cert.JoinedReferenceIdeal.main_arg2) = m ((c.tc : Thread Cert.JoinedReferenceIdeal.nD Cert.JoinedReferenceIdeal.τ).loc Cert.JoinedReferenceIdeal.main_arg2)
      ∧ r.2.mem ((c.tc : Thread Cert.JoinedReferenceIdeal.nD Cert.JoinedReferenceIdeal.τ).loc Cert.JoinedReferenceIdeal.main_arg3) = m ((c.tc : Thread Cert.JoinedReferenceIdeal.nD Cert.JoinedReferenceIdeal.τ).loc Cert.JoinedReferenceIdeal.main_arg3))
      ∧ r.2.sem = fun _ => 0)

def quiescent_Added [hAdded : Cert.Added.Facts] : Prop :=
  ∀ (m : (ℓ : Loc Cert.Added.nD Cert.Added.τ Cert.Added.sig) → Buf (Elt Bits) ℓ) (g : Dev Cert.Added.nD → PrngReg), Pre_Added m →
    θ_run (Cert.Added.defs (F := Bits)) (onTc (τ := Cert.Added.τ) (Cert.Added.main (F := Bits))) ⟨m, fun _ => 0, g⟩ (fun r => (∀ c : Dev Cert.Added.nD,
      r.2.mem ((c.tc : Thread Cert.Added.nD Cert.Added.τ).loc Cert.Added.main_arg0) = m ((c.tc : Thread Cert.Added.nD Cert.Added.τ).loc Cert.Added.main_arg0)
      ∧ r.2.mem ((c.tc : Thread Cert.Added.nD Cert.Added.τ).loc Cert.Added.main_arg1) = m ((c.tc : Thread Cert.Added.nD Cert.Added.τ).loc Cert.Added.main_arg1)
      ∧ r.2.mem ((c.tc : Thread Cert.Added.nD Cert.Added.τ).loc Cert.Added.main_arg2) = m ((c.tc : Thread Cert.Added.nD Cert.Added.τ).loc Cert.Added.main_arg2))
      ∧ r.2.sem = fun _ => 0)

def quiescent_AddedIdeal [hAddedIdeal : Cert.AddedIdeal.Facts] : Prop :=
  ∀ (m : (ℓ : Loc Cert.AddedIdeal.nD Cert.AddedIdeal.τ Cert.AddedIdeal.sig) → Buf (Elt Ideal) ℓ) (g : Dev Cert.AddedIdeal.nD → PrngReg), Pre_AddedIdeal m →
    θ_run (Cert.AddedIdeal.defs (F := Ideal)) (onTc (τ := Cert.AddedIdeal.τ) (Cert.AddedIdeal.main (F := Ideal))) ⟨m, fun _ => 0, g⟩ (fun r => (∀ c : Dev Cert.AddedIdeal.nD,
      r.2.mem ((c.tc : Thread Cert.AddedIdeal.nD Cert.AddedIdeal.τ).loc Cert.AddedIdeal.main_arg0) = m ((c.tc : Thread Cert.AddedIdeal.nD Cert.AddedIdeal.τ).loc Cert.AddedIdeal.main_arg0)
      ∧ r.2.mem ((c.tc : Thread Cert.AddedIdeal.nD Cert.AddedIdeal.τ).loc Cert.AddedIdeal.main_arg1) = m ((c.tc : Thread Cert.AddedIdeal.nD Cert.AddedIdeal.τ).loc Cert.AddedIdeal.main_arg1)
      ∧ r.2.mem ((c.tc : Thread Cert.AddedIdeal.nD Cert.AddedIdeal.τ).loc Cert.AddedIdeal.main_arg2) = m ((c.tc : Thread Cert.AddedIdeal.nD Cert.AddedIdeal.τ).loc Cert.AddedIdeal.main_arg2))
      ∧ r.2.sem = fun _ => 0)

def quiescent_AddedReferenceIdeal [hAddedReferenceIdeal : Cert.AddedReferenceIdeal.Facts] : Prop :=
  ∀ (m : (ℓ : Loc Cert.AddedReferenceIdeal.nD Cert.AddedReferenceIdeal.τ Cert.AddedReferenceIdeal.sig) → Buf (Elt Ideal) ℓ) (g : Dev Cert.AddedReferenceIdeal.nD → PrngReg), Pre_AddedReferenceIdeal m →
    θ_run (Cert.AddedReferenceIdeal.defs (F := Ideal)) (onTc (τ := Cert.AddedReferenceIdeal.τ) (Cert.AddedReferenceIdeal.main (F := Ideal))) ⟨m, fun _ => 0, g⟩ (fun r => (∀ c : Dev Cert.AddedReferenceIdeal.nD,
      r.2.mem ((c.tc : Thread Cert.AddedReferenceIdeal.nD Cert.AddedReferenceIdeal.τ).loc Cert.AddedReferenceIdeal.main_arg0) = m ((c.tc : Thread Cert.AddedReferenceIdeal.nD Cert.AddedReferenceIdeal.τ).loc Cert.AddedReferenceIdeal.main_arg0)
      ∧ r.2.mem ((c.tc : Thread Cert.AddedReferenceIdeal.nD Cert.AddedReferenceIdeal.τ).loc Cert.AddedReferenceIdeal.main_arg1) = m ((c.tc : Thread Cert.AddedReferenceIdeal.nD Cert.AddedReferenceIdeal.τ).loc Cert.AddedReferenceIdeal.main_arg1)
      ∧ r.2.mem ((c.tc : Thread Cert.AddedReferenceIdeal.nD Cert.AddedReferenceIdeal.τ).loc Cert.AddedReferenceIdeal.main_arg2) = m ((c.tc : Thread Cert.AddedReferenceIdeal.nD Cert.AddedReferenceIdeal.τ).loc Cert.AddedReferenceIdeal.main_arg2))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4)
      ∧ r.2.mem ((c.tc : Thread Cert.Latent.nD Cert.Latent.τ).loc Cert.Latent.main_arg5) = m ((c.tc : Thread Cert.Latent.nD Cert.Latent.τ).loc Cert.Latent.main_arg5)
      ∧ r.2.mem ((c.tc : Thread Cert.Latent.nD Cert.Latent.τ).loc Cert.Latent.main_arg6) = m ((c.tc : Thread Cert.Latent.nD Cert.Latent.τ).loc Cert.Latent.main_arg6)
      ∧ r.2.mem ((c.tc : Thread Cert.Latent.nD Cert.Latent.τ).loc Cert.Latent.main_arg7) = m ((c.tc : Thread Cert.Latent.nD Cert.Latent.τ).loc Cert.Latent.main_arg7)
      ∧ r.2.mem ((c.tc : Thread Cert.Latent.nD Cert.Latent.τ).loc Cert.Latent.main_arg8) = m ((c.tc : Thread Cert.Latent.nD Cert.Latent.τ).loc Cert.Latent.main_arg8))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
      ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6)
      ∧ r.2.mem ((c.tc : Thread Cert.LatentIdeal.nD Cert.LatentIdeal.τ).loc Cert.LatentIdeal.main_arg7) = m ((c.tc : Thread Cert.LatentIdeal.nD Cert.LatentIdeal.τ).loc Cert.LatentIdeal.main_arg7)
      ∧ r.2.mem ((c.tc : Thread Cert.LatentIdeal.nD Cert.LatentIdeal.τ).loc Cert.LatentIdeal.main_arg8) = m ((c.tc : Thread Cert.LatentIdeal.nD Cert.LatentIdeal.τ).loc Cert.LatentIdeal.main_arg8))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5)
      ∧ r.2.mem ((c.tc : Thread Cert.LatentReferenceIdeal.nD Cert.LatentReferenceIdeal.τ).loc Cert.LatentReferenceIdeal.main_arg6) = m ((c.tc : Thread Cert.LatentReferenceIdeal.nD Cert.LatentReferenceIdeal.τ).loc Cert.LatentReferenceIdeal.main_arg6)
      ∧ r.2.mem ((c.tc : Thread Cert.LatentReferenceIdeal.nD Cert.LatentReferenceIdeal.τ).loc Cert.LatentReferenceIdeal.main_arg7) = m ((c.tc : Thread Cert.LatentReferenceIdeal.nD Cert.LatentReferenceIdeal.τ).loc Cert.LatentReferenceIdeal.main_arg7)
      ∧ r.2.mem ((c.tc : Thread Cert.LatentReferenceIdeal.nD Cert.LatentReferenceIdeal.τ).loc Cert.LatentReferenceIdeal.main_arg8) = m ((c.tc : Thread Cert.LatentReferenceIdeal.nD Cert.LatentReferenceIdeal.τ).loc Cert.LatentReferenceIdeal.main_arg8))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ r.2.sem = fun _ => 0)

def quiescent_NormSampleReferenceIdeal [hNormSampleReferenceIdeal : Cert.NormSampleReferenceIdeal.Facts] : Prop :=
  ∀ (m : (ℓ : Loc Cert.NormSampleReferenceIdeal.nD Cert.NormSampleReferenceIdeal.τ Cert.NormSampleReferenceIdeal.sig) → Buf (Elt Ideal) ℓ) (g : Dev Cert.NormSampleReferenceIdeal.nD → PrngReg), Pre_NormSampleReferenceIdeal m →
    θ_run (Cert.NormSampleReferenceIdeal.defs (F := Ideal)) (onTc (τ := Cert.NormSampleReferenceIdeal.τ) (Cert.NormSampleReferenceIdeal.main (F := Ideal))) ⟨m, fun _ => 0, g⟩ (fun r => (∀ c : Dev Cert.NormSampleReferenceIdeal.nD,
      r.2.mem ((c.tc : Thread Cert.NormSampleReferenceIdeal.nD Cert.NormSampleReferenceIdeal.τ).loc Cert.NormSampleReferenceIdeal.main_arg0) = m ((c.tc : Thread Cert.NormSampleReferenceIdeal.nD Cert.NormSampleReferenceIdeal.τ).loc Cert.NormSampleReferenceIdeal.main_arg0)
      ∧ r.2.mem ((c.tc : Thread Cert.NormSampleReferenceIdeal.nD Cert.NormSampleReferenceIdeal.τ).loc Cert.NormSampleReferenceIdeal.main_arg1) = m ((c.tc : Thread Cert.NormSampleReferenceIdeal.nD Cert.NormSampleReferenceIdeal.τ).loc Cert.NormSampleReferenceIdeal.main_arg1))
      ∧ r.2.sem = fun _ => 0)

def quiescent_ProjectSample [hProjectSample : Cert.ProjectSample.Facts] : Prop :=
  ∀ (m : (ℓ : Loc Cert.ProjectSample.nD Cert.ProjectSample.τ Cert.ProjectSample.sig) → Buf (Elt Bits) ℓ) (g : Dev Cert.ProjectSample.nD → PrngReg), Pre_ProjectSample m →
    θ_run (Cert.ProjectSample.defs (F := Bits)) (onTc (τ := Cert.ProjectSample.τ) (Cert.ProjectSample.main (F := Bits))) ⟨m, fun _ => 0, g⟩ (fun r => (∀ c : Dev Cert.ProjectSample.nD,
      r.2.mem ((c.tc : Thread Cert.ProjectSample.nD Cert.ProjectSample.τ).loc Cert.ProjectSample.main_arg0) = m ((c.tc : Thread Cert.ProjectSample.nD Cert.ProjectSample.τ).loc Cert.ProjectSample.main_arg0)
      ∧ r.2.mem ((c.tc : Thread Cert.ProjectSample.nD Cert.ProjectSample.τ).loc Cert.ProjectSample.main_arg1) = m ((c.tc : Thread Cert.ProjectSample.nD Cert.ProjectSample.τ).loc Cert.ProjectSample.main_arg1)
      ∧ r.2.mem ((c.tc : Thread Cert.ProjectSample.nD Cert.ProjectSample.τ).loc Cert.ProjectSample.main_arg2) = m ((c.tc : Thread Cert.ProjectSample.nD Cert.ProjectSample.τ).loc Cert.ProjectSample.main_arg2)
      ∧ r.2.mem ((c.tc : Thread Cert.ProjectSample.nD Cert.ProjectSample.τ).loc Cert.ProjectSample.main_arg3) = m ((c.tc : Thread Cert.ProjectSample.nD Cert.ProjectSample.τ).loc Cert.ProjectSample.main_arg3))
      ∧ r.2.sem = fun _ => 0)

def quiescent_ProjectSampleIdeal [hProjectSampleIdeal : Cert.ProjectSampleIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg), Pre_ProjectSampleIdeal m →
    θ_run (Cert.ProjectSampleIdeal.defs (F := Ideal)) (onTc (τ := Cert.ProjectSampleIdeal.τ) (Cert.ProjectSampleIdeal.main (F := Ideal))) ⟨m, fun _ => 0, g⟩ (fun r => (∀ c : Dev Cert.ProjectSampleIdeal.nD,
      r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
      ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
      ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2)
      ∧ r.2.mem ((c.tc : Thread Cert.ProjectSampleIdeal.nD Cert.ProjectSampleIdeal.τ).loc Cert.ProjectSampleIdeal.main_arg3) = m ((c.tc : Thread Cert.ProjectSampleIdeal.nD Cert.ProjectSampleIdeal.τ).loc Cert.ProjectSampleIdeal.main_arg3))
      ∧ r.2.sem = fun _ => 0)

def quiescent_ProjectSampleReferenceIdeal [hProjectSampleReferenceIdeal : Cert.ProjectSampleReferenceIdeal.Facts] : Prop :=
  ∀ (m : (ℓ : Loc Cert.ProjectSampleReferenceIdeal.nD Cert.ProjectSampleReferenceIdeal.τ Cert.ProjectSampleReferenceIdeal.sig) → Buf (Elt Ideal) ℓ) (g : Dev Cert.ProjectSampleReferenceIdeal.nD → PrngReg), Pre_ProjectSampleReferenceIdeal m →
    θ_run (Cert.ProjectSampleReferenceIdeal.defs (F := Ideal)) (onTc (τ := Cert.ProjectSampleReferenceIdeal.τ) (Cert.ProjectSampleReferenceIdeal.main (F := Ideal))) ⟨m, fun _ => 0, g⟩ (fun r => (∀ c : Dev Cert.ProjectSampleReferenceIdeal.nD,
      r.2.mem ((c.tc : Thread Cert.ProjectSampleReferenceIdeal.nD Cert.ProjectSampleReferenceIdeal.τ).loc Cert.ProjectSampleReferenceIdeal.main_arg0) = m ((c.tc : Thread Cert.ProjectSampleReferenceIdeal.nD Cert.ProjectSampleReferenceIdeal.τ).loc Cert.ProjectSampleReferenceIdeal.main_arg0)
      ∧ r.2.mem ((c.tc : Thread Cert.ProjectSampleReferenceIdeal.nD Cert.ProjectSampleReferenceIdeal.τ).loc Cert.ProjectSampleReferenceIdeal.main_arg1) = m ((c.tc : Thread Cert.ProjectSampleReferenceIdeal.nD Cert.ProjectSampleReferenceIdeal.τ).loc Cert.ProjectSampleReferenceIdeal.main_arg1)
      ∧ r.2.mem ((c.tc : Thread Cert.ProjectSampleReferenceIdeal.nD Cert.ProjectSampleReferenceIdeal.τ).loc Cert.ProjectSampleReferenceIdeal.main_arg2) = m ((c.tc : Thread Cert.ProjectSampleReferenceIdeal.nD Cert.ProjectSampleReferenceIdeal.τ).loc Cert.ProjectSampleReferenceIdeal.main_arg2)
      ∧ r.2.mem ((c.tc : Thread Cert.ProjectSampleReferenceIdeal.nD Cert.ProjectSampleReferenceIdeal.τ).loc Cert.ProjectSampleReferenceIdeal.main_arg3) = m ((c.tc : Thread Cert.ProjectSampleReferenceIdeal.nD Cert.ProjectSampleReferenceIdeal.τ).loc Cert.ProjectSampleReferenceIdeal.main_arg3))
      ∧ r.2.sem = fun _ => 0)

def quiescent_LatentSample [hLatentSample : Cert.LatentSample.Facts] : Prop :=
  ∀ (m : (ℓ : Loc Cert.LatentSample.nD Cert.LatentSample.τ Cert.LatentSample.sig) → Buf (Elt Bits) ℓ) (g : Dev Cert.LatentSample.nD → PrngReg), Pre_LatentSample m →
    θ_run (Cert.LatentSample.defs (F := Bits)) (onTc (τ := Cert.LatentSample.τ) (Cert.LatentSample.main (F := Bits))) ⟨m, fun _ => 0, g⟩ (fun r => (∀ c : Dev Cert.LatentSample.nD,
      r.2.mem ((c.tc : Thread Cert.LatentSample.nD Cert.LatentSample.τ).loc Cert.LatentSample.main_arg0) = m ((c.tc : Thread Cert.LatentSample.nD Cert.LatentSample.τ).loc Cert.LatentSample.main_arg0)
      ∧ r.2.mem ((c.tc : Thread Cert.LatentSample.nD Cert.LatentSample.τ).loc Cert.LatentSample.main_arg1) = m ((c.tc : Thread Cert.LatentSample.nD Cert.LatentSample.τ).loc Cert.LatentSample.main_arg1)
      ∧ r.2.mem ((c.tc : Thread Cert.LatentSample.nD Cert.LatentSample.τ).loc Cert.LatentSample.main_arg2) = m ((c.tc : Thread Cert.LatentSample.nD Cert.LatentSample.τ).loc Cert.LatentSample.main_arg2)
      ∧ r.2.mem ((c.tc : Thread Cert.LatentSample.nD Cert.LatentSample.τ).loc Cert.LatentSample.main_arg3) = m ((c.tc : Thread Cert.LatentSample.nD Cert.LatentSample.τ).loc Cert.LatentSample.main_arg3)
      ∧ r.2.mem ((c.tc : Thread Cert.LatentSample.nD Cert.LatentSample.τ).loc Cert.LatentSample.main_arg4) = m ((c.tc : Thread Cert.LatentSample.nD Cert.LatentSample.τ).loc Cert.LatentSample.main_arg4)
      ∧ r.2.mem ((c.tc : Thread Cert.LatentSample.nD Cert.LatentSample.τ).loc Cert.LatentSample.main_arg5) = m ((c.tc : Thread Cert.LatentSample.nD Cert.LatentSample.τ).loc Cert.LatentSample.main_arg5)
      ∧ r.2.mem ((c.tc : Thread Cert.LatentSample.nD Cert.LatentSample.τ).loc Cert.LatentSample.main_arg6) = m ((c.tc : Thread Cert.LatentSample.nD Cert.LatentSample.τ).loc Cert.LatentSample.main_arg6)
      ∧ r.2.mem ((c.tc : Thread Cert.LatentSample.nD Cert.LatentSample.τ).loc Cert.LatentSample.main_arg7) = m ((c.tc : Thread Cert.LatentSample.nD Cert.LatentSample.τ).loc Cert.LatentSample.main_arg7)
      ∧ r.2.mem ((c.tc : Thread Cert.LatentSample.nD Cert.LatentSample.τ).loc Cert.LatentSample.main_arg8) = m ((c.tc : Thread Cert.LatentSample.nD Cert.LatentSample.τ).loc Cert.LatentSample.main_arg8))
      ∧ r.2.sem = fun _ => 0)

def quiescent_LatentSampleIdeal [hLatentSampleIdeal : Cert.LatentSampleIdeal.Facts] : Prop :=
  ∀ (m : (ℓ : Loc Cert.LatentSampleIdeal.nD Cert.LatentSampleIdeal.τ Cert.LatentSampleIdeal.sig) → Buf (Elt Ideal) ℓ) (g : Dev Cert.LatentSampleIdeal.nD → PrngReg), Pre_LatentSampleIdeal m →
    θ_run (Cert.LatentSampleIdeal.defs (F := Ideal)) (onTc (τ := Cert.LatentSampleIdeal.τ) (Cert.LatentSampleIdeal.main (F := Ideal))) ⟨m, fun _ => 0, g⟩ (fun r => (∀ c : Dev Cert.LatentSampleIdeal.nD,
      r.2.mem ((c.tc : Thread Cert.LatentSampleIdeal.nD Cert.LatentSampleIdeal.τ).loc Cert.LatentSampleIdeal.main_arg0) = m ((c.tc : Thread Cert.LatentSampleIdeal.nD Cert.LatentSampleIdeal.τ).loc Cert.LatentSampleIdeal.main_arg0)
      ∧ r.2.mem ((c.tc : Thread Cert.LatentSampleIdeal.nD Cert.LatentSampleIdeal.τ).loc Cert.LatentSampleIdeal.main_arg1) = m ((c.tc : Thread Cert.LatentSampleIdeal.nD Cert.LatentSampleIdeal.τ).loc Cert.LatentSampleIdeal.main_arg1)
      ∧ r.2.mem ((c.tc : Thread Cert.LatentSampleIdeal.nD Cert.LatentSampleIdeal.τ).loc Cert.LatentSampleIdeal.main_arg2) = m ((c.tc : Thread Cert.LatentSampleIdeal.nD Cert.LatentSampleIdeal.τ).loc Cert.LatentSampleIdeal.main_arg2)
      ∧ r.2.mem ((c.tc : Thread Cert.LatentSampleIdeal.nD Cert.LatentSampleIdeal.τ).loc Cert.LatentSampleIdeal.main_arg3) = m ((c.tc : Thread Cert.LatentSampleIdeal.nD Cert.LatentSampleIdeal.τ).loc Cert.LatentSampleIdeal.main_arg3)
      ∧ r.2.mem ((c.tc : Thread Cert.LatentSampleIdeal.nD Cert.LatentSampleIdeal.τ).loc Cert.LatentSampleIdeal.main_arg4) = m ((c.tc : Thread Cert.LatentSampleIdeal.nD Cert.LatentSampleIdeal.τ).loc Cert.LatentSampleIdeal.main_arg4)
      ∧ r.2.mem ((c.tc : Thread Cert.LatentSampleIdeal.nD Cert.LatentSampleIdeal.τ).loc Cert.LatentSampleIdeal.main_arg5) = m ((c.tc : Thread Cert.LatentSampleIdeal.nD Cert.LatentSampleIdeal.τ).loc Cert.LatentSampleIdeal.main_arg5)
      ∧ r.2.mem ((c.tc : Thread Cert.LatentSampleIdeal.nD Cert.LatentSampleIdeal.τ).loc Cert.LatentSampleIdeal.main_arg6) = m ((c.tc : Thread Cert.LatentSampleIdeal.nD Cert.LatentSampleIdeal.τ).loc Cert.LatentSampleIdeal.main_arg6)
      ∧ r.2.mem ((c.tc : Thread Cert.LatentSampleIdeal.nD Cert.LatentSampleIdeal.τ).loc Cert.LatentSampleIdeal.main_arg7) = m ((c.tc : Thread Cert.LatentSampleIdeal.nD Cert.LatentSampleIdeal.τ).loc Cert.LatentSampleIdeal.main_arg7)
      ∧ r.2.mem ((c.tc : Thread Cert.LatentSampleIdeal.nD Cert.LatentSampleIdeal.τ).loc Cert.LatentSampleIdeal.main_arg8) = m ((c.tc : Thread Cert.LatentSampleIdeal.nD Cert.LatentSampleIdeal.τ).loc Cert.LatentSampleIdeal.main_arg8))
      ∧ r.2.sem = fun _ => 0)

def quiescent_LatentSampleReferenceIdeal [hLatentSampleReferenceIdeal : Cert.LatentSampleReferenceIdeal.Facts] : Prop :=
  ∀ (m : (ℓ : Loc Cert.LatentSampleReferenceIdeal.nD Cert.LatentSampleReferenceIdeal.τ Cert.LatentSampleReferenceIdeal.sig) → Buf (Elt Ideal) ℓ) (g : Dev Cert.LatentSampleReferenceIdeal.nD → PrngReg), Pre_LatentSampleReferenceIdeal m →
    θ_run (Cert.LatentSampleReferenceIdeal.defs (F := Ideal)) (onTc (τ := Cert.LatentSampleReferenceIdeal.τ) (Cert.LatentSampleReferenceIdeal.main (F := Ideal))) ⟨m, fun _ => 0, g⟩ (fun r => (∀ c : Dev Cert.LatentSampleReferenceIdeal.nD,
      r.2.mem ((c.tc : Thread Cert.LatentSampleReferenceIdeal.nD Cert.LatentSampleReferenceIdeal.τ).loc Cert.LatentSampleReferenceIdeal.main_arg0) = m ((c.tc : Thread Cert.LatentSampleReferenceIdeal.nD Cert.LatentSampleReferenceIdeal.τ).loc Cert.LatentSampleReferenceIdeal.main_arg0)
      ∧ r.2.mem ((c.tc : Thread Cert.LatentSampleReferenceIdeal.nD Cert.LatentSampleReferenceIdeal.τ).loc Cert.LatentSampleReferenceIdeal.main_arg1) = m ((c.tc : Thread Cert.LatentSampleReferenceIdeal.nD Cert.LatentSampleReferenceIdeal.τ).loc Cert.LatentSampleReferenceIdeal.main_arg1)
      ∧ r.2.mem ((c.tc : Thread Cert.LatentSampleReferenceIdeal.nD Cert.LatentSampleReferenceIdeal.τ).loc Cert.LatentSampleReferenceIdeal.main_arg2) = m ((c.tc : Thread Cert.LatentSampleReferenceIdeal.nD Cert.LatentSampleReferenceIdeal.τ).loc Cert.LatentSampleReferenceIdeal.main_arg2)
      ∧ r.2.mem ((c.tc : Thread Cert.LatentSampleReferenceIdeal.nD Cert.LatentSampleReferenceIdeal.τ).loc Cert.LatentSampleReferenceIdeal.main_arg3) = m ((c.tc : Thread Cert.LatentSampleReferenceIdeal.nD Cert.LatentSampleReferenceIdeal.τ).loc Cert.LatentSampleReferenceIdeal.main_arg3)
      ∧ r.2.mem ((c.tc : Thread Cert.LatentSampleReferenceIdeal.nD Cert.LatentSampleReferenceIdeal.τ).loc Cert.LatentSampleReferenceIdeal.main_arg4) = m ((c.tc : Thread Cert.LatentSampleReferenceIdeal.nD Cert.LatentSampleReferenceIdeal.τ).loc Cert.LatentSampleReferenceIdeal.main_arg4)
      ∧ r.2.mem ((c.tc : Thread Cert.LatentSampleReferenceIdeal.nD Cert.LatentSampleReferenceIdeal.τ).loc Cert.LatentSampleReferenceIdeal.main_arg5) = m ((c.tc : Thread Cert.LatentSampleReferenceIdeal.nD Cert.LatentSampleReferenceIdeal.τ).loc Cert.LatentSampleReferenceIdeal.main_arg5)
      ∧ r.2.mem ((c.tc : Thread Cert.LatentSampleReferenceIdeal.nD Cert.LatentSampleReferenceIdeal.τ).loc Cert.LatentSampleReferenceIdeal.main_arg6) = m ((c.tc : Thread Cert.LatentSampleReferenceIdeal.nD Cert.LatentSampleReferenceIdeal.τ).loc Cert.LatentSampleReferenceIdeal.main_arg6)
      ∧ r.2.mem ((c.tc : Thread Cert.LatentSampleReferenceIdeal.nD Cert.LatentSampleReferenceIdeal.τ).loc Cert.LatentSampleReferenceIdeal.main_arg7) = m ((c.tc : Thread Cert.LatentSampleReferenceIdeal.nD Cert.LatentSampleReferenceIdeal.τ).loc Cert.LatentSampleReferenceIdeal.main_arg7)
      ∧ r.2.mem ((c.tc : Thread Cert.LatentSampleReferenceIdeal.nD Cert.LatentSampleReferenceIdeal.τ).loc Cert.LatentSampleReferenceIdeal.main_arg8) = m ((c.tc : Thread Cert.LatentSampleReferenceIdeal.nD Cert.LatentSampleReferenceIdeal.τ).loc Cert.LatentSampleReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v40) = v0 c
          ∧ r.2.mem ((c.tc : Thread Cert.FfnReferenceIdeal.nD Cert.FfnReferenceIdeal.τ).loc Cert.FfnReferenceIdeal.main_v41) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Grouped_GroupedIdeal : Prop :=
  IdealRules.named_const.Statement Cert.GroupedIdeal.κ "mask" .f32 0xF149F2CA#32 ⊥

def algebraic_GroupedIdeal_GroupedReferenceIdeal_pre_finite_grouped [hGroupedIdeal : Cert.GroupedIdeal.Facts] [hGroupedReferenceIdeal : Cert.GroupedReferenceIdeal.Facts] [hPre_finite_grouped : Cert.Pre_finite_grouped.Facts] : Prop :=
  ∀ (m : (ℓ : Loc Cert.GroupedIdeal.nD Cert.GroupedIdeal.τ Cert.GroupedIdeal.sig) → Buf (Elt Ideal) ℓ) (g : Dev Cert.GroupedIdeal.nD → PrngReg)
    (m' : (ℓ : Loc Cert.GroupedReferenceIdeal.nD Cert.GroupedReferenceIdeal.τ Cert.GroupedReferenceIdeal.sig) → Buf (Elt Ideal) ℓ) (g' : Dev Cert.GroupedReferenceIdeal.nD → PrngReg), Pre_GroupedIdeal_finite_grouped m →
    (∀ c : Dev Cert.GroupedIdeal.nD,
      m' ((c.tc : Thread Cert.GroupedReferenceIdeal.nD Cert.GroupedReferenceIdeal.τ).loc Cert.GroupedReferenceIdeal.main_arg0) = m ((c.tc : Thread Cert.GroupedIdeal.nD Cert.GroupedIdeal.τ).loc Cert.GroupedIdeal.main_arg0)
      ∧ m' ((c.tc : Thread Cert.GroupedReferenceIdeal.nD Cert.GroupedReferenceIdeal.τ).loc Cert.GroupedReferenceIdeal.main_arg1) = m ((c.tc : Thread Cert.GroupedIdeal.nD Cert.GroupedIdeal.τ).loc Cert.GroupedIdeal.main_arg1)
      ∧ m' ((c.tc : Thread Cert.GroupedReferenceIdeal.nD Cert.GroupedReferenceIdeal.τ).loc Cert.GroupedReferenceIdeal.main_arg2) = m ((c.tc : Thread Cert.GroupedIdeal.nD Cert.GroupedIdeal.τ).loc Cert.GroupedIdeal.main_arg2)) →
    ∃ (v0 : (c : Dev Cert.GroupedIdeal.nD) → Buf (Elt Ideal) ((c.tc : Thread Cert.GroupedIdeal.nD Cert.GroupedIdeal.τ).loc Cert.GroupedIdeal.main_v1)),
      θ_run (Cert.GroupedIdeal.defs (F := Ideal)) (onTc (τ := Cert.GroupedIdeal.τ) (Cert.GroupedIdeal.main (F := Ideal))) ⟨m, fun _ => 0, g⟩ (fun r => ∀ c : Dev Cert.GroupedIdeal.nD,
          r.2.mem ((c.tc : Thread Cert.GroupedIdeal.nD Cert.GroupedIdeal.τ).loc Cert.GroupedIdeal.main_v1) = v0 c
          ∧ r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
          ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
          ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2))
      ∧ θ_run (Cert.GroupedReferenceIdeal.defs (F := Ideal)) (onTc (τ := Cert.GroupedReferenceIdeal.τ) (Cert.GroupedReferenceIdeal.main (F := Ideal))) ⟨m', fun _ => 0, g'⟩ (fun r => ∀ c : Dev Cert.GroupedReferenceIdeal.nD,
          r.2.mem ((c.tc : Thread Cert.GroupedReferenceIdeal.nD Cert.GroupedReferenceIdeal.τ).loc Cert.GroupedReferenceIdeal.main_v31) = v0 c
          ∧ r.2.mem ((c.tc : Thread Cert.GroupedReferenceIdeal.nD Cert.GroupedReferenceIdeal.τ).loc Cert.GroupedReferenceIdeal.main_arg0) = m' ((c.tc : Thread Cert.GroupedReferenceIdeal.nD Cert.GroupedReferenceIdeal.τ).loc Cert.GroupedReferenceIdeal.main_arg0)
          ∧ r.2.mem ((c.tc : Thread Cert.GroupedReferenceIdeal.nD Cert.GroupedReferenceIdeal.τ).loc Cert.GroupedReferenceIdeal.main_arg1) = m' ((c.tc : Thread Cert.GroupedReferenceIdeal.nD Cert.GroupedReferenceIdeal.τ).loc Cert.GroupedReferenceIdeal.main_arg1)
          ∧ r.2.mem ((c.tc : Thread Cert.GroupedReferenceIdeal.nD Cert.GroupedReferenceIdeal.τ).loc Cert.GroupedReferenceIdeal.main_arg2) = m' ((c.tc : Thread Cert.GroupedReferenceIdeal.nD Cert.GroupedReferenceIdeal.τ).loc Cert.GroupedReferenceIdeal.main_arg2))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v43_2)) (v1 : (c : Dev Cert.ProjectIdeal.nD) → Buf (Elt Ideal) ((c.tc : Thread Cert.ProjectIdeal.nD Cert.ProjectIdeal.τ).loc Cert.ProjectIdeal.main_v43_4)) (v2 : (c : Dev Cert.ProjectIdeal.nD) → Buf (Elt Ideal) ((c.tc : Thread Cert.ProjectIdeal.nD Cert.ProjectIdeal.τ).loc Cert.ProjectIdeal.main_v43_5)) (v3 : (c : Dev Cert.ProjectIdeal.nD) → Buf (Elt Ideal) ((c.tc : Thread Cert.ProjectIdeal.nD Cert.ProjectIdeal.τ).loc Cert.ProjectIdeal.main_v43_6)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v43_2) = v0 c
          ∧ r.2.mem ((c.tc : Thread Cert.ProjectIdeal.nD Cert.ProjectIdeal.τ).loc Cert.ProjectIdeal.main_v43_4) = v1 c
          ∧ r.2.mem ((c.tc : Thread Cert.ProjectIdeal.nD Cert.ProjectIdeal.τ).loc Cert.ProjectIdeal.main_v43_5) = v2 c
          ∧ r.2.mem ((c.tc : Thread Cert.ProjectIdeal.nD Cert.ProjectIdeal.τ).loc Cert.ProjectIdeal.main_v43_6) = v3 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v14) = v0 c
          ∧ r.2.mem ((c.tc : Thread Cert.ProjectReferenceIdeal.nD Cert.ProjectReferenceIdeal.τ).loc Cert.ProjectReferenceIdeal.main_v15) = v1 c
          ∧ r.2.mem ((c.tc : Thread Cert.ProjectReferenceIdeal.nD Cert.ProjectReferenceIdeal.τ).loc Cert.ProjectReferenceIdeal.main_v16) = v2 c
          ∧ r.2.mem ((c.tc : Thread Cert.ProjectReferenceIdeal.nD Cert.ProjectReferenceIdeal.τ).loc Cert.ProjectReferenceIdeal.main_v21) = v3 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Joined_JoinedIdeal : Prop :=
  True

def algebraic_JoinedIdeal_JoinedReferenceIdeal [hJoinedIdeal : Cert.JoinedIdeal.Facts] [hJoinedReferenceIdeal : Cert.JoinedReferenceIdeal.Facts] : Prop :=
  ∀ (m : (ℓ : Loc Cert.JoinedIdeal.nD Cert.JoinedIdeal.τ Cert.JoinedIdeal.sig) → Buf (Elt Ideal) ℓ) (g : Dev Cert.JoinedIdeal.nD → PrngReg)
    (m' : (ℓ : Loc Cert.JoinedReferenceIdeal.nD Cert.JoinedReferenceIdeal.τ Cert.JoinedReferenceIdeal.sig) → Buf (Elt Ideal) ℓ) (g' : Dev Cert.JoinedReferenceIdeal.nD → PrngReg), Pre_JoinedIdeal m →
    (∀ c : Dev Cert.JoinedIdeal.nD,
      m' ((c.tc : Thread Cert.JoinedReferenceIdeal.nD Cert.JoinedReferenceIdeal.τ).loc Cert.JoinedReferenceIdeal.main_arg0) = m ((c.tc : Thread Cert.JoinedIdeal.nD Cert.JoinedIdeal.τ).loc Cert.JoinedIdeal.main_arg0)
      ∧ m' ((c.tc : Thread Cert.JoinedReferenceIdeal.nD Cert.JoinedReferenceIdeal.τ).loc Cert.JoinedReferenceIdeal.main_arg1) = m ((c.tc : Thread Cert.JoinedIdeal.nD Cert.JoinedIdeal.τ).loc Cert.JoinedIdeal.main_arg1)
      ∧ m' ((c.tc : Thread Cert.JoinedReferenceIdeal.nD Cert.JoinedReferenceIdeal.τ).loc Cert.JoinedReferenceIdeal.main_arg2) = m ((c.tc : Thread Cert.JoinedIdeal.nD Cert.JoinedIdeal.τ).loc Cert.JoinedIdeal.main_arg2)
      ∧ m' ((c.tc : Thread Cert.JoinedReferenceIdeal.nD Cert.JoinedReferenceIdeal.τ).loc Cert.JoinedReferenceIdeal.main_arg3) = m ((c.tc : Thread Cert.JoinedIdeal.nD Cert.JoinedIdeal.τ).loc Cert.JoinedIdeal.main_arg3)) →
    ∃ (v0 : (c : Dev Cert.JoinedIdeal.nD) → Buf (Elt Ideal) ((c.tc : Thread Cert.JoinedIdeal.nD Cert.JoinedIdeal.τ).loc Cert.JoinedIdeal.main_v3)),
      θ_run (Cert.JoinedIdeal.defs (F := Ideal)) (onTc (τ := Cert.JoinedIdeal.τ) (Cert.JoinedIdeal.main (F := Ideal))) ⟨m, fun _ => 0, g⟩ (fun r => ∀ c : Dev Cert.JoinedIdeal.nD,
          r.2.mem ((c.tc : Thread Cert.JoinedIdeal.nD Cert.JoinedIdeal.τ).loc Cert.JoinedIdeal.main_v3) = v0 c
          ∧ r.2.mem ((c.tc : Thread Cert.JoinedIdeal.nD Cert.JoinedIdeal.τ).loc Cert.JoinedIdeal.main_arg0) = m ((c.tc : Thread Cert.JoinedIdeal.nD Cert.JoinedIdeal.τ).loc Cert.JoinedIdeal.main_arg0)
          ∧ r.2.mem ((c.tc : Thread Cert.JoinedIdeal.nD Cert.JoinedIdeal.τ).loc Cert.JoinedIdeal.main_arg1) = m ((c.tc : Thread Cert.JoinedIdeal.nD Cert.JoinedIdeal.τ).loc Cert.JoinedIdeal.main_arg1)
          ∧ r.2.mem ((c.tc : Thread Cert.JoinedIdeal.nD Cert.JoinedIdeal.τ).loc Cert.JoinedIdeal.main_arg2) = m ((c.tc : Thread Cert.JoinedIdeal.nD Cert.JoinedIdeal.τ).loc Cert.JoinedIdeal.main_arg2)
          ∧ r.2.mem ((c.tc : Thread Cert.JoinedIdeal.nD Cert.JoinedIdeal.τ).loc Cert.JoinedIdeal.main_arg3) = m ((c.tc : Thread Cert.JoinedIdeal.nD Cert.JoinedIdeal.τ).loc Cert.JoinedIdeal.main_arg3))
      ∧ θ_run (Cert.JoinedReferenceIdeal.defs (F := Ideal)) (onTc (τ := Cert.JoinedReferenceIdeal.τ) (Cert.JoinedReferenceIdeal.main (F := Ideal))) ⟨m', fun _ => 0, g'⟩ (fun r => ∀ c : Dev Cert.JoinedReferenceIdeal.nD,
          r.2.mem ((c.tc : Thread Cert.JoinedReferenceIdeal.nD Cert.JoinedReferenceIdeal.τ).loc Cert.JoinedReferenceIdeal.main_v3) = v0 c
          ∧ r.2.mem ((c.tc : Thread Cert.JoinedReferenceIdeal.nD Cert.JoinedReferenceIdeal.τ).loc Cert.JoinedReferenceIdeal.main_arg0) = m' ((c.tc : Thread Cert.JoinedReferenceIdeal.nD Cert.JoinedReferenceIdeal.τ).loc Cert.JoinedReferenceIdeal.main_arg0)
          ∧ r.2.mem ((c.tc : Thread Cert.JoinedReferenceIdeal.nD Cert.JoinedReferenceIdeal.τ).loc Cert.JoinedReferenceIdeal.main_arg1) = m' ((c.tc : Thread Cert.JoinedReferenceIdeal.nD Cert.JoinedReferenceIdeal.τ).loc Cert.JoinedReferenceIdeal.main_arg1)
          ∧ r.2.mem ((c.tc : Thread Cert.JoinedReferenceIdeal.nD Cert.JoinedReferenceIdeal.τ).loc Cert.JoinedReferenceIdeal.main_arg2) = m' ((c.tc : Thread Cert.JoinedReferenceIdeal.nD Cert.JoinedReferenceIdeal.τ).loc Cert.JoinedReferenceIdeal.main_arg2)
          ∧ r.2.mem ((c.tc : Thread Cert.JoinedReferenceIdeal.nD Cert.JoinedReferenceIdeal.τ).loc Cert.JoinedReferenceIdeal.main_arg3) = m' ((c.tc : Thread Cert.JoinedReferenceIdeal.nD Cert.JoinedReferenceIdeal.τ).loc Cert.JoinedReferenceIdeal.main_arg3))

def preserves_Added_AddedIdeal : Prop :=
  True

def algebraic_AddedIdeal_AddedReferenceIdeal [hAddedIdeal : Cert.AddedIdeal.Facts] [hAddedReferenceIdeal : Cert.AddedReferenceIdeal.Facts] : Prop :=
  ∀ (m : (ℓ : Loc Cert.AddedIdeal.nD Cert.AddedIdeal.τ Cert.AddedIdeal.sig) → Buf (Elt Ideal) ℓ) (g : Dev Cert.AddedIdeal.nD → PrngReg)
    (m' : (ℓ : Loc Cert.AddedReferenceIdeal.nD Cert.AddedReferenceIdeal.τ Cert.AddedReferenceIdeal.sig) → Buf (Elt Ideal) ℓ) (g' : Dev Cert.AddedReferenceIdeal.nD → PrngReg), Pre_AddedIdeal m →
    (∀ c : Dev Cert.AddedIdeal.nD,
      m' ((c.tc : Thread Cert.AddedReferenceIdeal.nD Cert.AddedReferenceIdeal.τ).loc Cert.AddedReferenceIdeal.main_arg0) = m ((c.tc : Thread Cert.AddedIdeal.nD Cert.AddedIdeal.τ).loc Cert.AddedIdeal.main_arg0)
      ∧ m' ((c.tc : Thread Cert.AddedReferenceIdeal.nD Cert.AddedReferenceIdeal.τ).loc Cert.AddedReferenceIdeal.main_arg1) = m ((c.tc : Thread Cert.AddedIdeal.nD Cert.AddedIdeal.τ).loc Cert.AddedIdeal.main_arg1)
      ∧ m' ((c.tc : Thread Cert.AddedReferenceIdeal.nD Cert.AddedReferenceIdeal.τ).loc Cert.AddedReferenceIdeal.main_arg2) = m ((c.tc : Thread Cert.AddedIdeal.nD Cert.AddedIdeal.τ).loc Cert.AddedIdeal.main_arg2)) →
    ∃ (v0 : (c : Dev Cert.AddedIdeal.nD) → Buf (Elt Ideal) ((c.tc : Thread Cert.AddedIdeal.nD Cert.AddedIdeal.τ).loc Cert.AddedIdeal.main_v1)),
      θ_run (Cert.AddedIdeal.defs (F := Ideal)) (onTc (τ := Cert.AddedIdeal.τ) (Cert.AddedIdeal.main (F := Ideal))) ⟨m, fun _ => 0, g⟩ (fun r => ∀ c : Dev Cert.AddedIdeal.nD,
          r.2.mem ((c.tc : Thread Cert.AddedIdeal.nD Cert.AddedIdeal.τ).loc Cert.AddedIdeal.main_v1) = v0 c
          ∧ r.2.mem ((c.tc : Thread Cert.AddedIdeal.nD Cert.AddedIdeal.τ).loc Cert.AddedIdeal.main_arg0) = m ((c.tc : Thread Cert.AddedIdeal.nD Cert.AddedIdeal.τ).loc Cert.AddedIdeal.main_arg0)
          ∧ r.2.mem ((c.tc : Thread Cert.AddedIdeal.nD Cert.AddedIdeal.τ).loc Cert.AddedIdeal.main_arg1) = m ((c.tc : Thread Cert.AddedIdeal.nD Cert.AddedIdeal.τ).loc Cert.AddedIdeal.main_arg1)
          ∧ r.2.mem ((c.tc : Thread Cert.AddedIdeal.nD Cert.AddedIdeal.τ).loc Cert.AddedIdeal.main_arg2) = m ((c.tc : Thread Cert.AddedIdeal.nD Cert.AddedIdeal.τ).loc Cert.AddedIdeal.main_arg2))
      ∧ θ_run (Cert.AddedReferenceIdeal.defs (F := Ideal)) (onTc (τ := Cert.AddedReferenceIdeal.τ) (Cert.AddedReferenceIdeal.main (F := Ideal))) ⟨m', fun _ => 0, g'⟩ (fun r => ∀ c : Dev Cert.AddedReferenceIdeal.nD,
          r.2.mem ((c.tc : Thread Cert.AddedReferenceIdeal.nD Cert.AddedReferenceIdeal.τ).loc Cert.AddedReferenceIdeal.main_v2) = v0 c
          ∧ r.2.mem ((c.tc : Thread Cert.AddedReferenceIdeal.nD Cert.AddedReferenceIdeal.τ).loc Cert.AddedReferenceIdeal.main_arg0) = m' ((c.tc : Thread Cert.AddedReferenceIdeal.nD Cert.AddedReferenceIdeal.τ).loc Cert.AddedReferenceIdeal.main_arg0)
          ∧ r.2.mem ((c.tc : Thread Cert.AddedReferenceIdeal.nD Cert.AddedReferenceIdeal.τ).loc Cert.AddedReferenceIdeal.main_arg1) = m' ((c.tc : Thread Cert.AddedReferenceIdeal.nD Cert.AddedReferenceIdeal.τ).loc Cert.AddedReferenceIdeal.main_arg1)
          ∧ r.2.mem ((c.tc : Thread Cert.AddedReferenceIdeal.nD Cert.AddedReferenceIdeal.τ).loc Cert.AddedReferenceIdeal.main_arg2) = m' ((c.tc : Thread Cert.AddedReferenceIdeal.nD Cert.AddedReferenceIdeal.τ).loc Cert.AddedReferenceIdeal.main_arg2))

def preserves_Latent_LatentIdeal : Prop :=
  True

def algebraic_LatentIdeal_LatentReferenceIdeal [hLatentIdeal : Cert.LatentIdeal.Facts] [hLatentReferenceIdeal : Cert.LatentReferenceIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)
      ∧ m' ((c.tc : Thread Cert.LatentReferenceIdeal.nD Cert.LatentReferenceIdeal.τ).loc Cert.LatentReferenceIdeal.main_arg4) = m ((c.tc : Thread Cert.LatentIdeal.nD Cert.LatentIdeal.τ).loc Cert.LatentIdeal.main_arg4)
      ∧ m' ((c.tc : Thread Cert.LatentReferenceIdeal.nD Cert.LatentReferenceIdeal.τ).loc Cert.LatentReferenceIdeal.main_arg5) = m ((c.tc : Thread Cert.LatentIdeal.nD Cert.LatentIdeal.τ).loc Cert.LatentIdeal.main_arg5)
      ∧ m' ((c.tc : Thread Cert.LatentReferenceIdeal.nD Cert.LatentReferenceIdeal.τ).loc Cert.LatentReferenceIdeal.main_arg6) = m ((c.tc : Thread Cert.LatentIdeal.nD Cert.LatentIdeal.τ).loc Cert.LatentIdeal.main_arg6)
      ∧ m' ((c.tc : Thread Cert.LatentReferenceIdeal.nD Cert.LatentReferenceIdeal.τ).loc Cert.LatentReferenceIdeal.main_arg7) = m ((c.tc : Thread Cert.LatentIdeal.nD Cert.LatentIdeal.τ).loc Cert.LatentIdeal.main_arg7)
      ∧ m' ((c.tc : Thread Cert.LatentReferenceIdeal.nD Cert.LatentReferenceIdeal.τ).loc Cert.LatentReferenceIdeal.main_arg8) = m ((c.tc : Thread Cert.LatentIdeal.nD Cert.LatentIdeal.τ).loc Cert.LatentIdeal.main_arg8)) →
    ∃ (v0 : (c : Dev Cert.LatentIdeal.nD) → Buf (Elt Ideal) ((c.tc : Thread Cert.LatentIdeal.nD Cert.LatentIdeal.τ).loc Cert.LatentIdeal.main_v102_1)) (v1 : (c : Dev Cert.LatentIdeal.nD) → Buf (Elt Ideal) ((c.tc : Thread Cert.LatentIdeal.nD Cert.LatentIdeal.τ).loc Cert.LatentIdeal.main_v102_4)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v102_1) = v0 c
          ∧ r.2.mem ((c.tc : Thread Cert.LatentIdeal.nD Cert.LatentIdeal.τ).loc Cert.LatentIdeal.main_v102_4) = v1 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
          ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
          ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6)
          ∧ r.2.mem ((c.tc : Thread Cert.LatentIdeal.nD Cert.LatentIdeal.τ).loc Cert.LatentIdeal.main_arg7) = m ((c.tc : Thread Cert.LatentIdeal.nD Cert.LatentIdeal.τ).loc Cert.LatentIdeal.main_arg7)
          ∧ r.2.mem ((c.tc : Thread Cert.LatentIdeal.nD Cert.LatentIdeal.τ).loc Cert.LatentIdeal.main_arg8) = m ((c.tc : Thread Cert.LatentIdeal.nD Cert.LatentIdeal.τ).loc Cert.LatentIdeal.main_arg8))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v27) = v0 c
          ∧ r.2.mem ((c.tc : Thread Cert.LatentReferenceIdeal.nD Cert.LatentReferenceIdeal.τ).loc Cert.LatentReferenceIdeal.main_v30) = v1 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4)
          ∧ r.2.mem ((c.tc : Thread Cert.LatentReferenceIdeal.nD Cert.LatentReferenceIdeal.τ).loc Cert.LatentReferenceIdeal.main_arg5) = m' ((c.tc : Thread Cert.LatentReferenceIdeal.nD Cert.LatentReferenceIdeal.τ).loc Cert.LatentReferenceIdeal.main_arg5)
          ∧ r.2.mem ((c.tc : Thread Cert.LatentReferenceIdeal.nD Cert.LatentReferenceIdeal.τ).loc Cert.LatentReferenceIdeal.main_arg6) = m' ((c.tc : Thread Cert.LatentReferenceIdeal.nD Cert.LatentReferenceIdeal.τ).loc Cert.LatentReferenceIdeal.main_arg6)
          ∧ r.2.mem ((c.tc : Thread Cert.LatentReferenceIdeal.nD Cert.LatentReferenceIdeal.τ).loc Cert.LatentReferenceIdeal.main_arg7) = m' ((c.tc : Thread Cert.LatentReferenceIdeal.nD Cert.LatentReferenceIdeal.τ).loc Cert.LatentReferenceIdeal.main_arg7)
          ∧ r.2.mem ((c.tc : Thread Cert.LatentReferenceIdeal.nD Cert.LatentReferenceIdeal.τ).loc Cert.LatentReferenceIdeal.main_arg8) = m' ((c.tc : Thread Cert.LatentReferenceIdeal.nD Cert.LatentReferenceIdeal.τ).loc Cert.LatentReferenceIdeal.main_arg8))

def preserves_NormSample_NormSampleIdeal : Prop :=
  True

def algebraic_NormSampleIdeal_NormSampleReferenceIdeal [hNormSampleIdeal : Cert.NormSampleIdeal.Facts] [hNormSampleReferenceIdeal : Cert.NormSampleReferenceIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleReferenceIdeal.nD Cert.NormSampleReferenceIdeal.τ Cert.NormSampleReferenceIdeal.sig) → Buf (Elt Ideal) ℓ) (g' : Dev Cert.NormSampleReferenceIdeal.nD → PrngReg), Pre_NormSampleIdeal m →
    (∀ c : Dev Cert.NormSampleIdeal.nD,
      m' ((c.tc : Thread Cert.NormSampleReferenceIdeal.nD Cert.NormSampleReferenceIdeal.τ).loc Cert.NormSampleReferenceIdeal.main_arg0) = m ((c.tc : Thread Cert.NormSampleIdeal.nD Cert.NormSampleIdeal.τ).loc Cert.NormSampleIdeal.main_arg0)
      ∧ m' ((c.tc : Thread Cert.NormSampleReferenceIdeal.nD Cert.NormSampleReferenceIdeal.τ).loc Cert.NormSampleReferenceIdeal.main_arg1) = m ((c.tc : Thread Cert.NormSampleIdeal.nD Cert.NormSampleIdeal.τ).loc Cert.NormSampleIdeal.main_arg1)) →
    ∃ (v0 : (c : Dev Cert.NormSampleIdeal.nD) → Buf (Elt Ideal) ((c.tc : Thread Cert.NormSampleIdeal.nD Cert.NormSampleIdeal.τ).loc Cert.NormSampleIdeal.main_v1)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v1) = v0 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ θ_run (Cert.NormSampleReferenceIdeal.defs (F := Ideal)) (onTc (τ := Cert.NormSampleReferenceIdeal.τ) (Cert.NormSampleReferenceIdeal.main (F := Ideal))) ⟨m', fun _ => 0, g'⟩ (fun r => ∀ c : Dev Cert.NormSampleReferenceIdeal.nD,
          r.2.mem ((c.tc : Thread Cert.NormSampleReferenceIdeal.nD Cert.NormSampleReferenceIdeal.τ).loc Cert.NormSampleReferenceIdeal.main_v12) = v0 c
          ∧ r.2.mem ((c.tc : Thread Cert.NormSampleReferenceIdeal.nD Cert.NormSampleReferenceIdeal.τ).loc Cert.NormSampleReferenceIdeal.main_arg0) = m' ((c.tc : Thread Cert.NormSampleReferenceIdeal.nD Cert.NormSampleReferenceIdeal.τ).loc Cert.NormSampleReferenceIdeal.main_arg0)
          ∧ r.2.mem ((c.tc : Thread Cert.NormSampleReferenceIdeal.nD Cert.NormSampleReferenceIdeal.τ).loc Cert.NormSampleReferenceIdeal.main_arg1) = m' ((c.tc : Thread Cert.NormSampleReferenceIdeal.nD Cert.NormSampleReferenceIdeal.τ).loc Cert.NormSampleReferenceIdeal.main_arg1))

def preserves_ProjectSample_ProjectSampleIdeal : Prop :=
  True

def algebraic_ProjectSampleIdeal_ProjectSampleReferenceIdeal [hProjectSampleIdeal : Cert.ProjectSampleIdeal.Facts] [hProjectSampleReferenceIdeal : Cert.ProjectSampleReferenceIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg)
    (m' : (ℓ : Loc Cert.ProjectSampleReferenceIdeal.nD Cert.ProjectSampleReferenceIdeal.τ Cert.ProjectSampleReferenceIdeal.sig) → Buf (Elt Ideal) ℓ) (g' : Dev Cert.ProjectSampleReferenceIdeal.nD → PrngReg), Pre_ProjectSampleIdeal m →
    (∀ c : Dev Cert.ProjectSampleIdeal.nD,
      m' ((c.tc : Thread Cert.ProjectSampleReferenceIdeal.nD Cert.ProjectSampleReferenceIdeal.τ).loc Cert.ProjectSampleReferenceIdeal.main_arg0) = m ((c.tc : Thread Cert.ProjectSampleIdeal.nD Cert.ProjectSampleIdeal.τ).loc Cert.ProjectSampleIdeal.main_arg0)
      ∧ m' ((c.tc : Thread Cert.ProjectSampleReferenceIdeal.nD Cert.ProjectSampleReferenceIdeal.τ).loc Cert.ProjectSampleReferenceIdeal.main_arg1) = m ((c.tc : Thread Cert.ProjectSampleIdeal.nD Cert.ProjectSampleIdeal.τ).loc Cert.ProjectSampleIdeal.main_arg1)
      ∧ m' ((c.tc : Thread Cert.ProjectSampleReferenceIdeal.nD Cert.ProjectSampleReferenceIdeal.τ).loc Cert.ProjectSampleReferenceIdeal.main_arg2) = m ((c.tc : Thread Cert.ProjectSampleIdeal.nD Cert.ProjectSampleIdeal.τ).loc Cert.ProjectSampleIdeal.main_arg2)
      ∧ m' ((c.tc : Thread Cert.ProjectSampleReferenceIdeal.nD Cert.ProjectSampleReferenceIdeal.τ).loc Cert.ProjectSampleReferenceIdeal.main_arg3) = m ((c.tc : Thread Cert.ProjectSampleIdeal.nD Cert.ProjectSampleIdeal.τ).loc Cert.ProjectSampleIdeal.main_arg3)) →
    ∃ (v0 : (c : Dev Cert.ProjectSampleIdeal.nD) → Buf (Elt Ideal) ((c.tc : Thread Cert.ProjectSampleIdeal.nD Cert.ProjectSampleIdeal.τ).loc Cert.ProjectSampleIdeal.main_v43_2)) (v1 : (c : Dev Cert.ProjectSampleIdeal.nD) → Buf (Elt Ideal) ((c.tc : Thread Cert.ProjectSampleIdeal.nD Cert.ProjectSampleIdeal.τ).loc Cert.ProjectSampleIdeal.main_v43_4)) (v2 : (c : Dev Cert.ProjectSampleIdeal.nD) → Buf (Elt Ideal) ((c.tc : Thread Cert.ProjectSampleIdeal.nD Cert.ProjectSampleIdeal.τ).loc Cert.ProjectSampleIdeal.main_v43_5)) (v3 : (c : Dev Cert.ProjectSampleIdeal.nD) → Buf (Elt Ideal) ((c.tc : Thread Cert.ProjectSampleIdeal.nD Cert.ProjectSampleIdeal.τ).loc Cert.ProjectSampleIdeal.main_v43_6)),
      θ_run (Cert.ProjectSampleIdeal.defs (F := Ideal)) (onTc (τ := Cert.ProjectSampleIdeal.τ) (Cert.ProjectSampleIdeal.main (F := Ideal))) ⟨m, fun _ => 0, g⟩ (fun r => ∀ c : Dev Cert.ProjectSampleIdeal.nD,
          r.2.mem ((c.tc : Thread Cert.ProjectSampleIdeal.nD Cert.ProjectSampleIdeal.τ).loc Cert.ProjectSampleIdeal.main_v43_2) = v0 c
          ∧ r.2.mem ((c.tc : Thread Cert.ProjectSampleIdeal.nD Cert.ProjectSampleIdeal.τ).loc Cert.ProjectSampleIdeal.main_v43_4) = v1 c
          ∧ r.2.mem ((c.tc : Thread Cert.ProjectSampleIdeal.nD Cert.ProjectSampleIdeal.τ).loc Cert.ProjectSampleIdeal.main_v43_5) = v2 c
          ∧ r.2.mem ((c.tc : Thread Cert.ProjectSampleIdeal.nD Cert.ProjectSampleIdeal.τ).loc Cert.ProjectSampleIdeal.main_v43_6) = v3 c
          ∧ r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
          ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
          ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2)
          ∧ r.2.mem ((c.tc : Thread Cert.ProjectSampleIdeal.nD Cert.ProjectSampleIdeal.τ).loc Cert.ProjectSampleIdeal.main_arg3) = m ((c.tc : Thread Cert.ProjectSampleIdeal.nD Cert.ProjectSampleIdeal.τ).loc Cert.ProjectSampleIdeal.main_arg3))
      ∧ θ_run (Cert.ProjectSampleReferenceIdeal.defs (F := Ideal)) (onTc (τ := Cert.ProjectSampleReferenceIdeal.τ) (Cert.ProjectSampleReferenceIdeal.main (F := Ideal))) ⟨m', fun _ => 0, g'⟩ (fun r => ∀ c : Dev Cert.ProjectSampleReferenceIdeal.nD,
          r.2.mem ((c.tc : Thread Cert.ProjectSampleReferenceIdeal.nD Cert.ProjectSampleReferenceIdeal.τ).loc Cert.ProjectSampleReferenceIdeal.main_v14) = v0 c
          ∧ r.2.mem ((c.tc : Thread Cert.ProjectSampleReferenceIdeal.nD Cert.ProjectSampleReferenceIdeal.τ).loc Cert.ProjectSampleReferenceIdeal.main_v15) = v1 c
          ∧ r.2.mem ((c.tc : Thread Cert.ProjectSampleReferenceIdeal.nD Cert.ProjectSampleReferenceIdeal.τ).loc Cert.ProjectSampleReferenceIdeal.main_v16) = v2 c
          ∧ r.2.mem ((c.tc : Thread Cert.ProjectSampleReferenceIdeal.nD Cert.ProjectSampleReferenceIdeal.τ).loc Cert.ProjectSampleReferenceIdeal.main_v21) = v3 c
          ∧ r.2.mem ((c.tc : Thread Cert.ProjectSampleReferenceIdeal.nD Cert.ProjectSampleReferenceIdeal.τ).loc Cert.ProjectSampleReferenceIdeal.main_arg0) = m' ((c.tc : Thread Cert.ProjectSampleReferenceIdeal.nD Cert.ProjectSampleReferenceIdeal.τ).loc Cert.ProjectSampleReferenceIdeal.main_arg0)
          ∧ r.2.mem ((c.tc : Thread Cert.ProjectSampleReferenceIdeal.nD Cert.ProjectSampleReferenceIdeal.τ).loc Cert.ProjectSampleReferenceIdeal.main_arg1) = m' ((c.tc : Thread Cert.ProjectSampleReferenceIdeal.nD Cert.ProjectSampleReferenceIdeal.τ).loc Cert.ProjectSampleReferenceIdeal.main_arg1)
          ∧ r.2.mem ((c.tc : Thread Cert.ProjectSampleReferenceIdeal.nD Cert.ProjectSampleReferenceIdeal.τ).loc Cert.ProjectSampleReferenceIdeal.main_arg2) = m' ((c.tc : Thread Cert.ProjectSampleReferenceIdeal.nD Cert.ProjectSampleReferenceIdeal.τ).loc Cert.ProjectSampleReferenceIdeal.main_arg2)
          ∧ r.2.mem ((c.tc : Thread Cert.ProjectSampleReferenceIdeal.nD Cert.ProjectSampleReferenceIdeal.τ).loc Cert.ProjectSampleReferenceIdeal.main_arg3) = m' ((c.tc : Thread Cert.ProjectSampleReferenceIdeal.nD Cert.ProjectSampleReferenceIdeal.τ).loc Cert.ProjectSampleReferenceIdeal.main_arg3))

def preserves_LatentSample_LatentSampleIdeal : Prop :=
  True

def algebraic_LatentSampleIdeal_LatentSampleReferenceIdeal [hLatentSampleIdeal : Cert.LatentSampleIdeal.Facts] [hLatentSampleReferenceIdeal : Cert.LatentSampleReferenceIdeal.Facts] : Prop :=
  ∀ (m : (ℓ : Loc Cert.LatentSampleIdeal.nD Cert.LatentSampleIdeal.τ Cert.LatentSampleIdeal.sig) → Buf (Elt Ideal) ℓ) (g : Dev Cert.LatentSampleIdeal.nD → PrngReg)
    (m' : (ℓ : Loc Cert.LatentSampleReferenceIdeal.nD Cert.LatentSampleReferenceIdeal.τ Cert.LatentSampleReferenceIdeal.sig) → Buf (Elt Ideal) ℓ) (g' : Dev Cert.LatentSampleReferenceIdeal.nD → PrngReg), Pre_LatentSampleIdeal m →
    (∀ c : Dev Cert.LatentSampleIdeal.nD,
      m' ((c.tc : Thread Cert.LatentSampleReferenceIdeal.nD Cert.LatentSampleReferenceIdeal.τ).loc Cert.LatentSampleReferenceIdeal.main_arg0) = m ((c.tc : Thread Cert.LatentSampleIdeal.nD Cert.LatentSampleIdeal.τ).loc Cert.LatentSampleIdeal.main_arg0)
      ∧ m' ((c.tc : Thread Cert.LatentSampleReferenceIdeal.nD Cert.LatentSampleReferenceIdeal.τ).loc Cert.LatentSampleReferenceIdeal.main_arg1) = m ((c.tc : Thread Cert.LatentSampleIdeal.nD Cert.LatentSampleIdeal.τ).loc Cert.LatentSampleIdeal.main_arg1)
      ∧ m' ((c.tc : Thread Cert.LatentSampleReferenceIdeal.nD Cert.LatentSampleReferenceIdeal.τ).loc Cert.LatentSampleReferenceIdeal.main_arg2) = m ((c.tc : Thread Cert.LatentSampleIdeal.nD Cert.LatentSampleIdeal.τ).loc Cert.LatentSampleIdeal.main_arg2)
      ∧ m' ((c.tc : Thread Cert.LatentSampleReferenceIdeal.nD Cert.LatentSampleReferenceIdeal.τ).loc Cert.LatentSampleReferenceIdeal.main_arg3) = m ((c.tc : Thread Cert.LatentSampleIdeal.nD Cert.LatentSampleIdeal.τ).loc Cert.LatentSampleIdeal.main_arg3)
      ∧ m' ((c.tc : Thread Cert.LatentSampleReferenceIdeal.nD Cert.LatentSampleReferenceIdeal.τ).loc Cert.LatentSampleReferenceIdeal.main_arg4) = m ((c.tc : Thread Cert.LatentSampleIdeal.nD Cert.LatentSampleIdeal.τ).loc Cert.LatentSampleIdeal.main_arg4)
      ∧ m' ((c.tc : Thread Cert.LatentSampleReferenceIdeal.nD Cert.LatentSampleReferenceIdeal.τ).loc Cert.LatentSampleReferenceIdeal.main_arg5) = m ((c.tc : Thread Cert.LatentSampleIdeal.nD Cert.LatentSampleIdeal.τ).loc Cert.LatentSampleIdeal.main_arg5)
      ∧ m' ((c.tc : Thread Cert.LatentSampleReferenceIdeal.nD Cert.LatentSampleReferenceIdeal.τ).loc Cert.LatentSampleReferenceIdeal.main_arg6) = m ((c.tc : Thread Cert.LatentSampleIdeal.nD Cert.LatentSampleIdeal.τ).loc Cert.LatentSampleIdeal.main_arg6)
      ∧ m' ((c.tc : Thread Cert.LatentSampleReferenceIdeal.nD Cert.LatentSampleReferenceIdeal.τ).loc Cert.LatentSampleReferenceIdeal.main_arg7) = m ((c.tc : Thread Cert.LatentSampleIdeal.nD Cert.LatentSampleIdeal.τ).loc Cert.LatentSampleIdeal.main_arg7)
      ∧ m' ((c.tc : Thread Cert.LatentSampleReferenceIdeal.nD Cert.LatentSampleReferenceIdeal.τ).loc Cert.LatentSampleReferenceIdeal.main_arg8) = m ((c.tc : Thread Cert.LatentSampleIdeal.nD Cert.LatentSampleIdeal.τ).loc Cert.LatentSampleIdeal.main_arg8)) →
    ∃ (v0 : (c : Dev Cert.LatentSampleIdeal.nD) → Buf (Elt Ideal) ((c.tc : Thread Cert.LatentSampleIdeal.nD Cert.LatentSampleIdeal.τ).loc Cert.LatentSampleIdeal.main_v102_1)),
      θ_run (Cert.LatentSampleIdeal.defs (F := Ideal)) (onTc (τ := Cert.LatentSampleIdeal.τ) (Cert.LatentSampleIdeal.main (F := Ideal))) ⟨m, fun _ => 0, g⟩ (fun r => ∀ c : Dev Cert.LatentSampleIdeal.nD,
          r.2.mem ((c.tc : Thread Cert.LatentSampleIdeal.nD Cert.LatentSampleIdeal.τ).loc Cert.LatentSampleIdeal.main_v102_1) = v0 c
          ∧ r.2.mem ((c.tc : Thread Cert.LatentSampleIdeal.nD Cert.LatentSampleIdeal.τ).loc Cert.LatentSampleIdeal.main_arg0) = m ((c.tc : Thread Cert.LatentSampleIdeal.nD Cert.LatentSampleIdeal.τ).loc Cert.LatentSampleIdeal.main_arg0)
          ∧ r.2.mem ((c.tc : Thread Cert.LatentSampleIdeal.nD Cert.LatentSampleIdeal.τ).loc Cert.LatentSampleIdeal.main_arg1) = m ((c.tc : Thread Cert.LatentSampleIdeal.nD Cert.LatentSampleIdeal.τ).loc Cert.LatentSampleIdeal.main_arg1)
          ∧ r.2.mem ((c.tc : Thread Cert.LatentSampleIdeal.nD Cert.LatentSampleIdeal.τ).loc Cert.LatentSampleIdeal.main_arg2) = m ((c.tc : Thread Cert.LatentSampleIdeal.nD Cert.LatentSampleIdeal.τ).loc Cert.LatentSampleIdeal.main_arg2)
          ∧ r.2.mem ((c.tc : Thread Cert.LatentSampleIdeal.nD Cert.LatentSampleIdeal.τ).loc Cert.LatentSampleIdeal.main_arg3) = m ((c.tc : Thread Cert.LatentSampleIdeal.nD Cert.LatentSampleIdeal.τ).loc Cert.LatentSampleIdeal.main_arg3)
          ∧ r.2.mem ((c.tc : Thread Cert.LatentSampleIdeal.nD Cert.LatentSampleIdeal.τ).loc Cert.LatentSampleIdeal.main_arg4) = m ((c.tc : Thread Cert.LatentSampleIdeal.nD Cert.LatentSampleIdeal.τ).loc Cert.LatentSampleIdeal.main_arg4)
          ∧ r.2.mem ((c.tc : Thread Cert.LatentSampleIdeal.nD Cert.LatentSampleIdeal.τ).loc Cert.LatentSampleIdeal.main_arg5) = m ((c.tc : Thread Cert.LatentSampleIdeal.nD Cert.LatentSampleIdeal.τ).loc Cert.LatentSampleIdeal.main_arg5)
          ∧ r.2.mem ((c.tc : Thread Cert.LatentSampleIdeal.nD Cert.LatentSampleIdeal.τ).loc Cert.LatentSampleIdeal.main_arg6) = m ((c.tc : Thread Cert.LatentSampleIdeal.nD Cert.LatentSampleIdeal.τ).loc Cert.LatentSampleIdeal.main_arg6)
          ∧ r.2.mem ((c.tc : Thread Cert.LatentSampleIdeal.nD Cert.LatentSampleIdeal.τ).loc Cert.LatentSampleIdeal.main_arg7) = m ((c.tc : Thread Cert.LatentSampleIdeal.nD Cert.LatentSampleIdeal.τ).loc Cert.LatentSampleIdeal.main_arg7)
          ∧ r.2.mem ((c.tc : Thread Cert.LatentSampleIdeal.nD Cert.LatentSampleIdeal.τ).loc Cert.LatentSampleIdeal.main_arg8) = m ((c.tc : Thread Cert.LatentSampleIdeal.nD Cert.LatentSampleIdeal.τ).loc Cert.LatentSampleIdeal.main_arg8))
      ∧ θ_run (Cert.LatentSampleReferenceIdeal.defs (F := Ideal)) (onTc (τ := Cert.LatentSampleReferenceIdeal.τ) (Cert.LatentSampleReferenceIdeal.main (F := Ideal))) ⟨m', fun _ => 0, g'⟩ (fun r => ∀ c : Dev Cert.LatentSampleReferenceIdeal.nD,
          r.2.mem ((c.tc : Thread Cert.LatentSampleReferenceIdeal.nD Cert.LatentSampleReferenceIdeal.τ).loc Cert.LatentSampleReferenceIdeal.main_v27) = v0 c
          ∧ r.2.mem ((c.tc : Thread Cert.LatentSampleReferenceIdeal.nD Cert.LatentSampleReferenceIdeal.τ).loc Cert.LatentSampleReferenceIdeal.main_arg0) = m' ((c.tc : Thread Cert.LatentSampleReferenceIdeal.nD Cert.LatentSampleReferenceIdeal.τ).loc Cert.LatentSampleReferenceIdeal.main_arg0)
          ∧ r.2.mem ((c.tc : Thread Cert.LatentSampleReferenceIdeal.nD Cert.LatentSampleReferenceIdeal.τ).loc Cert.LatentSampleReferenceIdeal.main_arg1) = m' ((c.tc : Thread Cert.LatentSampleReferenceIdeal.nD Cert.LatentSampleReferenceIdeal.τ).loc Cert.LatentSampleReferenceIdeal.main_arg1)
          ∧ r.2.mem ((c.tc : Thread Cert.LatentSampleReferenceIdeal.nD Cert.LatentSampleReferenceIdeal.τ).loc Cert.LatentSampleReferenceIdeal.main_arg2) = m' ((c.tc : Thread Cert.LatentSampleReferenceIdeal.nD Cert.LatentSampleReferenceIdeal.τ).loc Cert.LatentSampleReferenceIdeal.main_arg2)
          ∧ r.2.mem ((c.tc : Thread Cert.LatentSampleReferenceIdeal.nD Cert.LatentSampleReferenceIdeal.τ).loc Cert.LatentSampleReferenceIdeal.main_arg3) = m' ((c.tc : Thread Cert.LatentSampleReferenceIdeal.nD Cert.LatentSampleReferenceIdeal.τ).loc Cert.LatentSampleReferenceIdeal.main_arg3)
          ∧ r.2.mem ((c.tc : Thread Cert.LatentSampleReferenceIdeal.nD Cert.LatentSampleReferenceIdeal.τ).loc Cert.LatentSampleReferenceIdeal.main_arg4) = m' ((c.tc : Thread Cert.LatentSampleReferenceIdeal.nD Cert.LatentSampleReferenceIdeal.τ).loc Cert.LatentSampleReferenceIdeal.main_arg4)
          ∧ r.2.mem ((c.tc : Thread Cert.LatentSampleReferenceIdeal.nD Cert.LatentSampleReferenceIdeal.τ).loc Cert.LatentSampleReferenceIdeal.main_arg5) = m' ((c.tc : Thread Cert.LatentSampleReferenceIdeal.nD Cert.LatentSampleReferenceIdeal.τ).loc Cert.LatentSampleReferenceIdeal.main_arg5)
          ∧ r.2.mem ((c.tc : Thread Cert.LatentSampleReferenceIdeal.nD Cert.LatentSampleReferenceIdeal.τ).loc Cert.LatentSampleReferenceIdeal.main_arg6) = m' ((c.tc : Thread Cert.LatentSampleReferenceIdeal.nD Cert.LatentSampleReferenceIdeal.τ).loc Cert.LatentSampleReferenceIdeal.main_arg6)
          ∧ r.2.mem ((c.tc : Thread Cert.LatentSampleReferenceIdeal.nD Cert.LatentSampleReferenceIdeal.τ).loc Cert.LatentSampleReferenceIdeal.main_arg7) = m' ((c.tc : Thread Cert.LatentSampleReferenceIdeal.nD Cert.LatentSampleReferenceIdeal.τ).loc Cert.LatentSampleReferenceIdeal.main_arg7)
          ∧ r.2.mem ((c.tc : Thread Cert.LatentSampleReferenceIdeal.nD Cert.LatentSampleReferenceIdeal.τ).loc Cert.LatentSampleReferenceIdeal.main_arg8) = m' ((c.tc : Thread Cert.LatentSampleReferenceIdeal.nD Cert.LatentSampleReferenceIdeal.τ).loc Cert.LatentSampleReferenceIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hGrouped : Cert.Grouped.Facts) (hGroupedIdeal : Cert.GroupedIdeal.Facts) (hGroupedReferenceIdeal : Cert.GroupedReferenceIdeal.Facts) (hProject : Cert.Project.Facts) (hProjectIdeal : Cert.ProjectIdeal.Facts) (hProjectReferenceIdeal : Cert.ProjectReferenceIdeal.Facts) (hNorm : Cert.Norm.Facts) (hNormIdeal : Cert.NormIdeal.Facts) (hNormReferenceIdeal : Cert.NormReferenceIdeal.Facts) (hJoined : Cert.Joined.Facts) (hJoinedIdeal : Cert.JoinedIdeal.Facts) (hJoinedReferenceIdeal : Cert.JoinedReferenceIdeal.Facts) (hAdded : Cert.Added.Facts) (hAddedIdeal : Cert.AddedIdeal.Facts) (hAddedReferenceIdeal : Cert.AddedReferenceIdeal.Facts) (hLatent : Cert.Latent.Facts) (hLatentIdeal : Cert.LatentIdeal.Facts) (hLatentReferenceIdeal : Cert.LatentReferenceIdeal.Facts) (hNormSample : Cert.NormSample.Facts) (hNormSampleIdeal : Cert.NormSampleIdeal.Facts) (hNormSampleReferenceIdeal : Cert.NormSampleReferenceIdeal.Facts) (hProjectSample : Cert.ProjectSample.Facts) (hProjectSampleIdeal : Cert.ProjectSampleIdeal.Facts) (hProjectSampleReferenceIdeal : Cert.ProjectSampleReferenceIdeal.Facts) (hLatentSample : Cert.LatentSample.Facts) (hLatentSampleIdeal : Cert.LatentSampleIdeal.Facts) (hLatentSampleReferenceIdeal : Cert.LatentSampleReferenceIdeal.Facts) (hPre_finite : Cert.Pre_finite.Facts) (hPre_finite_grouped : Cert.Pre_finite_grouped.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Grouped (hGrouped := hGrouped)
    ∧ quiescent_GroupedIdeal (hGroupedIdeal := hGroupedIdeal)
    ∧ quiescent_GroupedIdeal_pre_finite_grouped (hGroupedIdeal := hGroupedIdeal) (hPre_finite_grouped := hPre_finite_grouped)
    ∧ quiescent_GroupedReferenceIdeal (hGroupedReferenceIdeal := hGroupedReferenceIdeal)
    ∧ quiescent_GroupedReferenceIdeal_pre_finite_grouped (hGroupedReferenceIdeal := hGroupedReferenceIdeal) (hPre_finite_grouped := hPre_finite_grouped)
    ∧ quiescent_Project (hProject := hProject)
    ∧ quiescent_ProjectIdeal (hProjectIdeal := hProjectIdeal)
    ∧ quiescent_ProjectReferenceIdeal (hProjectReferenceIdeal := hProjectReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Joined (hJoined := hJoined)
    ∧ quiescent_JoinedIdeal (hJoinedIdeal := hJoinedIdeal)
    ∧ quiescent_JoinedReferenceIdeal (hJoinedReferenceIdeal := hJoinedReferenceIdeal)
    ∧ quiescent_Added (hAdded := hAdded)
    ∧ quiescent_AddedIdeal (hAddedIdeal := hAddedIdeal)
    ∧ quiescent_AddedReferenceIdeal (hAddedReferenceIdeal := hAddedReferenceIdeal)
    ∧ quiescent_Latent (hLatent := hLatent)
    ∧ quiescent_LatentIdeal (hLatentIdeal := hLatentIdeal)
    ∧ quiescent_LatentReferenceIdeal (hLatentReferenceIdeal := hLatentReferenceIdeal)
    ∧ quiescent_NormSample (hNormSample := hNormSample)
    ∧ quiescent_NormSampleIdeal (hNormSampleIdeal := hNormSampleIdeal)
    ∧ quiescent_NormSampleReferenceIdeal (hNormSampleReferenceIdeal := hNormSampleReferenceIdeal)
    ∧ quiescent_ProjectSample (hProjectSample := hProjectSample)
    ∧ quiescent_ProjectSampleIdeal (hProjectSampleIdeal := hProjectSampleIdeal)
    ∧ quiescent_ProjectSampleReferenceIdeal (hProjectSampleReferenceIdeal := hProjectSampleReferenceIdeal)
    ∧ quiescent_LatentSample (hLatentSample := hLatentSample)
    ∧ quiescent_LatentSampleIdeal (hLatentSampleIdeal := hLatentSampleIdeal)
    ∧ quiescent_LatentSampleReferenceIdeal (hLatentSampleReferenceIdeal := hLatentSampleReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Grouped_GroupedIdeal
    ∧ algebraic_GroupedIdeal_GroupedReferenceIdeal_pre_finite_grouped (hGroupedIdeal := hGroupedIdeal) (hGroupedReferenceIdeal := hGroupedReferenceIdeal) (hPre_finite_grouped := hPre_finite_grouped)
    ∧ preserves_Project_ProjectIdeal
    ∧ algebraic_ProjectIdeal_ProjectReferenceIdeal (hProjectIdeal := hProjectIdeal) (hProjectReferenceIdeal := hProjectReferenceIdeal)
    ∧ preserves_Norm_NormIdeal
    ∧ algebraic_NormIdeal_NormReferenceIdeal (hNormIdeal := hNormIdeal) (hNormReferenceIdeal := hNormReferenceIdeal)
    ∧ preserves_Joined_JoinedIdeal
    ∧ algebraic_JoinedIdeal_JoinedReferenceIdeal (hJoinedIdeal := hJoinedIdeal) (hJoinedReferenceIdeal := hJoinedReferenceIdeal)
    ∧ preserves_Added_AddedIdeal
    ∧ algebraic_AddedIdeal_AddedReferenceIdeal (hAddedIdeal := hAddedIdeal) (hAddedReferenceIdeal := hAddedReferenceIdeal)
    ∧ preserves_Latent_LatentIdeal
    ∧ algebraic_LatentIdeal_LatentReferenceIdeal (hLatentIdeal := hLatentIdeal) (hLatentReferenceIdeal := hLatentReferenceIdeal)
    ∧ preserves_NormSample_NormSampleIdeal
    ∧ algebraic_NormSampleIdeal_NormSampleReferenceIdeal (hNormSampleIdeal := hNormSampleIdeal) (hNormSampleReferenceIdeal := hNormSampleReferenceIdeal)
    ∧ preserves_ProjectSample_ProjectSampleIdeal
    ∧ algebraic_ProjectSampleIdeal_ProjectSampleReferenceIdeal (hProjectSampleIdeal := hProjectSampleIdeal) (hProjectSampleReferenceIdeal := hProjectSampleReferenceIdeal)
    ∧ preserves_LatentSample_LatentSampleIdeal
    ∧ algebraic_LatentSampleIdeal_LatentSampleReferenceIdeal (hLatentSampleIdeal := hLatentSampleIdeal) (hLatentSampleReferenceIdeal := hLatentSampleReferenceIdeal)
-- ==== Pre_finite.lean ====
abbrev S16384x2048 : Shape := ⟨2, ![16384, 2048]⟩
abbrev S16384x1024 : Shape := ⟨2, ![16384, 1024]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .bf16) (main_arg1 : FVec F S16384x2048 .bf16) (main_arg2 : FVec F S16384x1024 .bf16) : IVec S_ 1 :=
  let main_v0 : FVec F S16384x2048 .f32 := (extf .f32 · bitsLt_bf16_f32) main_arg0
  let main_cst : FVec F S_ .f32 := constant S_ .f32 0xFF800000#32
  let main_v1 : FVec F S16384x2048 .f32 := broadcastInDim S16384x2048 ![] bcast_S_S16384x2048 main_cst
  let main_v2 : IVec S16384x2048 1 := cmpf .ogt main_v0 main_v1
  let main_cst_0 : FVec F S_ .f32 := constant S_ .f32 0x7F800000#32
  let main_v3 : FVec F S16384x2048 .f32 := broadcastInDim S16384x2048 ![] bcast_S_S16384x2048 main_cst_0
  let main_v4 : IVec S16384x2048 1 := cmpf .olt main_v0 main_v3
  let main_v5 : IVec S16384x2048 1 := andi main_v2 main_v4
  let main_c : IVec S_ 1 := constantI S_ 1 1#1
  let main_v6 : IVec S_ 1 := (fun x v => Host.reduce IntOp.andi x v reducesTo_S16384x2048_S_d0_1 h_S_) main_v5 main_c
  let main_v7 : FVec F S16384x2048 .f32 := (extf .f32 · bitsLt_bf16_f32) main_arg1
  let main_cst_1 : FVec F S_ .f32 := constant S_ .f32 0xFF800000#32
  let main_v8 : FVec F S16384x2048 .f32 := broadcastInDim S16384x2048 ![] bcast_S_S16384x2048 main_cst_1
  let main_v9 : IVec S16384x2048 1 := cmpf .ogt main_v7 main_v8
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v7 main_v10
  let main_v12 : IVec S16384x2048 1 := andi main_v9 main_v11
  let main_c_3 : IVec S_ 1 := constantI S_ 1 1#1
  let main_v13 : IVec S_ 1 := (fun x v => Host.reduce IntOp.andi x v reducesTo_S16384x2048_S_d0_1 h_S_) main_v12 main_c_3
  let main_v14 : IVec S_ 1 := andi main_v6 main_v13
  main_v14
-- ==== Pre_finite_grouped.lean ====
abbrev S16384x1024 : Shape := ⟨2, ![16384, 1024]⟩
abbrev S2x16384x128 : Shape := ⟨3, ![2, 16384, 128]⟩
abbrev S16384x128 : Shape := ⟨2, ![16384, 128]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2x16384x128 : S_.BroadcastsInDim S2x16384x128 (![] : Fin 0 → Fin S2x16384x128.rank)
  reducesTo_S2x16384x128_S_d0_1_2 : S2x16384x128.ReducesTo [0, 1, 2] S_

variable [Facts]

def fn {F : FTy → Type} [FloatOps F] (main_arg0 : FVec F S16384x1024 .bf16) (main_arg1 : FVec F S2x16384x128 .bf16) (main_arg2 : FVec F S16384x128 .bf16) : IVec S_ 1 :=
  let main_v0 : FVec F S16384x1024 .f32 := (extf .f32 · bitsLt_bf16_f32) main_arg0
  let main_cst : FVec F S_ .f32 := constant S_ .f32 0xFF800000#32
  let main_v1 : FVec F S16384x1024 .f32 := broadcastInDim S16384x1024 ![] bcast_S_S16384x1024 main_cst
  let main_v2 : IVec S16384x1024 1 := cmpf .ogt main_v0 main_v1
  let main_cst_0 : FVec F S_ .f32 := constant S_ .f32 0x7F800000#32
  let main_v3 : FVec F S16384x1024 .f32 := broadcastInDim S16384x1024 ![] bcast_S_S16384x1024 main_cst_0
  let main_v4 : IVec S16384x1024 1 := cmpf .olt main_v0 main_v3
  let main_v5 : IVec S16384x1024 1 := andi main_v2 main_v4
  let main_c : IVec S_ 1 := constantI S_ 1 1#1
  let main_v6 : IVec S_ 1 := (fun x v => Host.reduce IntOp.andi x v reducesTo_S16384x1024_S_d0_1 h_S_) main_v5 main_c
  let main_v7 : FVec F S2x16384x128 .f32 := (extf .f32 · bitsLt_bf16_f32) main_arg1
  let main_cst_1 : FVec F S_ .f32 := constant S_ .f32 0xFF800000#32
  let main_v8 : FVec F S2x16384x128 .f32 := broadcastInDim S2x16384x128 ![] bcast_S_S2x16384x128 main_cst_1
  let main_v9 : IVec S2x16384x128 1 := cmpf .ogt main_v7 main_v8
  let main_cst_2 : FVec F S_ .f32 := constant S_ .f32 0x7F800000#32
  let main_v10 : FVec F S2x16384x128 .f32 := broadcastInDim S2x16384x128 ![] bcast_S_S2x16384x128 main_cst_2
  let main_v11 : IVec S2x16384x128 1 := cmpf .olt main_v7 main_v10
  let main_v12 : IVec S2x16384x128 1 := andi main_v9 main_v11
  let main_c_3 : IVec S_ 1 := constantI S_ 1 1#1
  let main_v13 : IVec S_ 1 := (fun x v => Host.reduce IntOp.andi x v reducesTo_S2x16384x128_S_d0_1_2 h_S_) main_v12 main_c_3
  let main_v14 : IVec S_ 1 := andi main_v6 main_v13
  main_v14
-- ==== Kernel.lean ====
abbrev S16384x2048 : Shape := ⟨2, ![16384, 2048]⟩
abbrev S16384x1024 : Shape := ⟨2, ![16384, 1024]⟩
abbrev S16384x16x128 : Shape := ⟨3, ![16384, 16, 128]⟩
abbrev S16x16384x128 : Shape := ⟨3, ![16, 16384, 128]⟩
abbrev S1024x16384 : Shape := ⟨2, ![1024, 16384]⟩
abbrev S1024x256 : Shape := ⟨2, ![1024, 256]⟩
abbrev S2x16384x128 : Shape := ⟨3, ![2, 16384, 128]⟩
abbrev S128x16384 : Shape := ⟨2, ![128, 16384]⟩
abbrev S1024x128 : Shape := ⟨2, ![1024, 128]⟩
abbrev S1x512 : Shape := ⟨2, ![1, 512]⟩
abbrev S64x512 : Shape := ⟨2, ![64, 512]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S64x1024 : Shape := ⟨2, ![64, 1024]⟩
abbrev S1024x64 : Shape := ⟨2, ![1024, 64]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384x16x128, .bf16⟩
  | .hbm, ⟨4, _⟩ => ⟨S16x16384x128, .bf16⟩
  | .hbm, ⟨5, _⟩ => ⟨S1024x16384, .bf16⟩
  | .hbm, ⟨6, _⟩ => ⟨S16384x1024, .bf16⟩
  | .local _ .vmem, ⟨0, _⟩ => ⟨S1024x256, .bf16⟩
  | .local _ .vmem, ⟨1, _⟩ => ⟨S1024x256, .bf16⟩
  | .local _ .vmem, ⟨2, _⟩ => ⟨S2x16384x128, .bf16⟩
  | .local _ .vmem, ⟨3, _⟩ => ⟨S2x16384x128, .bf16⟩
  | .local _ .vmem, ⟨4, _⟩ => ⟨S128x16384, .bf16⟩
  | .local _ .vmem, ⟨5, _⟩ => ⟨S128x16384, .bf16⟩
  | .local _ .vmem, ⟨6, _⟩ => ⟨S1024x128, .bf16⟩
  | .local _ .vmem, ⟨7, _⟩ => ⟨S1024x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_23 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_17 : BitVec 32 := 0#32
  let v33 : BitVec 1 := Scalar.cmpi .sgt v17 c0_i32_17
  let v34 : BitVec 32 := Scalar.extui v33
  let c0_i32_18 : BitVec 32 := 0#32
  let v35 : BitVec 1 := Scalar.cmpi .slt v17 c0_i32_18
  let v36 : BitVec 32 := Scalar.extui v35
  let v37 : BitVec 32 := Scalar.subi v34 v36
  let c2_i32 : BitVec 32 := 2#32
  let c0_i32_19 : BitVec 32 := 0#32
  let v38 : BitVec 1 := Scalar.cmpi .sgt c2_i32 c0_i32_19
  let v39 : BitVec 32 := Scalar.extui v38
  let c0_i32_20 : BitVec 32 := 0#32
  let v40 : BitVec 1 := Scalar.cmpi .slt c2_i32 c0_i32_20
  let v41 : BitVec 32 := Scalar.extui v40
  let v42 : BitVec 32 := Scalar.subi v39 v41
  let v43 : BitVec 1 := Scalar.cmpi .ne v37 v42
  let v44 : BitVec 32 := Scalar.remsi v17 c2_i32
  let c0_i32_21 : BitVec 32 := 0#32
  let v45 : BitVec 1 := Scalar.cmpi .ne v44 c0_i32_21
  let v46 : BitVec 1 := Scalar.andi v43 v45
  let v32 : BitVec 32 := Scalar.divsi v17 c2_i32
  let c1_i32_22 : BitVec 32 := 1#32
  let v47 : BitVec 32 := Scalar.subi v32 c1_i32_22
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_25 : BitVec 32 := 1#32
  ⟨c0_i32_23, v53, c1_i32_25⟩
def k0_mult1 (i : grid0.Coords) (k0_t1 : Fin (k0_t1_loop i).trips) : BitVec 32 :=
  let c0_i32_23 : BitVec 32 := 0#32
  let c1_i32_25 : BitVec 32 := 1#32
  let arg6 : BitVec 32 := Scf.iv c0_i32_23 c1_i32_25 k0_t1
  let c2_i32_161 : BitVec 32 := 2#32
  let v502 : BitVec 32 := Scalar.muli arg6 c2_i32_161
  let c0_i32_162 : BitVec 32 := 0#32
  let v503 : BitVec 32 := Scalar.addi v502 c0_i32_162
  let c512_i32_163 : BitVec 32 := 512#32
  let v504 : BitVec 32 := Scalar.muli v503 c512_i32_163
  v504
def k0_mult2 (i : grid0.Coords) (k0_t1 : Fin (k0_t1_loop i).trips) : BitVec 32 :=
  let c0_i32_23 : BitVec 32 := 0#32
  let c1_i32_25 : BitVec 32 := 1#32
  let arg6 : BitVec 32 := Scf.iv c0_i32_23 c1_i32_25 k0_t1
  let c2_i32_161 : BitVec 32 := 2#32
  let v502 : BitVec 32 := Scalar.muli arg6 c2_i32_161
  let c1_i32_164 : BitVec 32 := 1#32
  let v506 : BitVec 32 := Scalar.addi v502 c1_i32_164
  let c512_i32_165 : BitVec 32 := 512#32
  let v507 : BitVec 32 := Scalar.muli v506 c512_i32_165
  v507
def k0_off1 (i : grid0.Coords) (k0_t1 : Fin (k0_t1_loop i).trips) (c0_i32_162 : BitVec 32) : Fin 3 → Nat :=
  let c0_166 : Index := 0#32
  let c0_i32_23 : BitVec 32 := 0#32
  let c1_i32_25 : BitVec 32 := 1#32
  let arg6 : BitVec 32 := Scf.iv c0_i32_23 c1_i32_25 k0_t1
  let c2_i32_161 : BitVec 32 := 2#32
  let v502 : BitVec 32 := Scalar.muli arg6 c2_i32_161
  let v503 : BitVec 32 := Scalar.addi v502 c0_i32_162
  let c512_i32_163 : BitVec 32 := 512#32
  let v504 : BitVec 32 := Scalar.muli v503 c512_i32_163
  let v505 : BitVec 32 := v504
  let v509 : Index := Scalar.indexCast v505
  let c0_167 : Index := 0#32
  ![0, v509.toNat, 0]
def k0_off2 (i : grid0.Coords) (k0_t1 : Fin (k0_t1_loop i).trips) (c0_i32_162 : BitVec 32) : Fin 3 → Nat :=
  let c1_174 : Index := 1#32
  let c0_i32_23 : BitVec 32 := 0#32
  let c1_i32_25 : BitVec 32 := 1#32
  let arg6 : BitVec 32 := Scf.iv c0_i32_23 c1_i32_25 k0_t1
  let c2_i32_161 : BitVec 32 := 2#32
  let v502 : BitVec 32 := Scalar.muli arg6 c2_i32_161
  let v503 : BitVec 32 := Scalar.addi v502 c0_i32_162
  let c512_i32_163 : BitVec 32 := 512#32
  let v504 : BitVec 32 := Scalar.muli v503 c512_i32_163
  let v505 : BitVec 32 := v504
  let v532 : Index := Scalar.indexCast v505
  let c0_175 : Index := 0#32
  ![1, v532.toNat, 0]
def k0_off3 (i : grid0.Coords) (k0_t1 : Fin (k0_t1_loop i).trips) (c0_i32_162 : BitVec 32) : Fin 2 → Nat :=
  let c0_179 : Index := 0#32
  let c0_i32_23 : BitVec 32 := 0#32
  let c1_i32_25 : BitVec 32 := 1#32
  let arg6 : BitVec 32 := Scf.iv c0_i32_23 c1_i32_25 k0_t1
  let c2_i32_161 : BitVec 32 := 2#32
  let v502 : BitVec 32 := Scalar.muli arg6 c2_i32_161
  let v503 : BitVec 32 := Scalar.addi v502 c0_i32_162
  let c512_i32_163 : BitVec 32 := 512#32
  let v504 : BitVec 32 := Scalar.muli v503 c512_i32_163
  let v505 : BitVec 32 := v504
  let v550 : Index := Scalar.indexCast v505
  ![0, v550.toNat]
def k0_off4 (i : grid0.Coords) (k0_t1 : Fin (k0_t1_loop i).trips) (c0_i32_162 : BitVec 32) : Fin 2 → Nat :=
  let c64_193 : Index := 64#32
  let c0_i32_23 : BitVec 32 := 0#32
  let c1_i32_25 : BitVec 32 := 1#32
  let arg6 : BitVec 32 := Scf.iv c0_i32_23 c1_i32_25 k0_t1
  let c2_i32_161 : BitVec 32 := 2#32
  let v502 : BitVec 32 := Scalar.muli arg6 c2_i32_161
  let v503 : BitVec 32 := Scalar.addi v502 c0_i32_162
  let c512_i32_163 : BitVec 32 := 512#32
  let v504 : BitVec 32 := Scalar.muli v503 c512_i32_163
  let v505 : BitVec 32 := v504
  let v600 : Index := Scalar.indexCast v505
  ![64, v600.toNat]
@[reducible] def k0_t2_loop (i : grid0.Coords) : Scf.Loop 32 :=
  let c0_i32_23 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_17 : BitVec 32 := 0#32
  let v33 : BitVec 1 := Scalar.cmpi .sgt v17 c0_i32_17
  let v34 : BitVec 32 := Scalar.extui v33
  let c0_i32_18 : BitVec 32 := 0#32
  let v35 : BitVec 1 := Scalar.cmpi .slt v17 c0_i32_18
  let v36 : BitVec 32 := Scalar.extui v35
  let v37 : BitVec 32 := Scalar.subi v34 v36
  let c2_i32 : BitVec 32 := 2#32
  let c0_i32_19 : BitVec 32 := 0#32
  let v38 : BitVec 1 := Scalar.cmpi .sgt c2_i32 c0_i32_19
  let v39 : BitVec 32 := Scalar.extui v38
  let c0_i32_20 : BitVec 32 := 0#32
  let v40 : BitVec 1 := Scalar.cmpi .slt c2_i32 c0_i32_20
  let v41 : BitVec 32 := Scalar.extui v40
  let v42 : BitVec 32 := Scalar.subi v39 v41
  let v43 : BitVec 1 := Scalar.cmpi .ne v37 v42
  let v44 : BitVec 32 := Scalar.remsi v17 c2_i32
  let c0_i32_21 : BitVec 32 := 0#32
  let v45 : BitVec 1 := Scalar.cmpi .ne v44 c0_i32_21
  let v46 : BitVec 1 := Scalar.andi v43 v45
  let v32 : BitVec 32 := Scalar.divsi v17 c2_i32
  let c1_i32_22 : BitVec 32 := 1#32
  let v47 : BitVec 32 := Scalar.subi v32 c1_i32_22
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let v50 : BitVec 32 := Scalar.addi c0_i32_23 v49
  let c1_i32_26 : BitVec 32 := 1#32
  ⟨v53, v50, c1_i32_26⟩
def k0_mult3 (i : grid0.Coords) (k0_t2 : Fin (k0_t2_loop i).trips) : BitVec 32 :=
  let c0_i32_23 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_17 : BitVec 32 := 0#32
  let v33 : BitVec 1 := Scalar.cmpi .sgt v17 c0_i32_17
  let v34 : BitVec 32 := Scalar.extui v33
  let c0_i32_18 : BitVec 32 := 0#32
  let v35 : BitVec 1 := Scalar.cmpi .slt v17 c0_i32_18
  let v36 : BitVec 32 := Scalar.extui v35
  let v37 : BitVec 32 := Scalar.subi v34 v36
  let c2_i32 : BitVec 32 := 2#32
  let c0_i32_19 : BitVec 32 := 0#32
  let v38 : BitVec 1 := Scalar.cmpi .sgt c2_i32 c0_i32_19
  let v39 : BitVec 32 := Scalar.extui v38
  let c0_i32_20 : BitVec 32 := 0#32
  let v40 : BitVec 1 := Scalar.cmpi .slt c2_i32 c0_i32_20
  let v41 : BitVec 32 := Scalar.extui v40
  let v42 : BitVec 32 := Scalar.subi v39 v41
  let v43 : BitVec 1 := Scalar.cmpi .ne v37 v42
  let v44 : BitVec 32 := Scalar.remsi v17 c2_i32
  let c0_i32_21 : BitVec 32 := 0#32
  let v45 : BitVec 1 := Scalar.cmpi .ne v44 c0_i32_21
  let v46 : BitVec 1 := Scalar.andi v43 v45
  let v32 : BitVec 32 := Scalar.divsi v17 c2_i32
  let c1_i32_22 : BitVec 32 := 1#32
  let v47 : BitVec 32 := Scalar.subi v32 c1_i32_22
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg6 : BitVec 32 := Scf.iv v53 c1_i32_26 k0_t2
  let c2_i32_161 : BitVec 32 := 2#32
  let v502 : BitVec 32 := Scalar.muli arg6 c2_i32_161
  let c0_i32_162 : BitVec 32 := 0#32
  let v503 : BitVec 32 := Scalar.addi v502 c0_i32_162
  let c512_i32_163 : BitVec 32 := 512#32
  let v504 : BitVec 32 := Scalar.muli v503 c512_i32_163
  v504
def k0_mult4 (i : grid0.Coords) (k0_t2 : Fin (k0_t2_loop i).trips) : BitVec 32 :=
  let c0_i32_23 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_17 : BitVec 32 := 0#32
  let v33 : BitVec 1 := Scalar.cmpi .sgt v17 c0_i32_17
  let v34 : BitVec 32 := Scalar.extui v33
  let c0_i32_18 : BitVec 32 := 0#32
  let v35 : BitVec 1 := Scalar.cmpi .slt v17 c0_i32_18
  let v36 : BitVec 32 := Scalar.extui v35
  let v37 : BitVec 32 := Scalar.subi v34 v36
  let c2_i32 : BitVec 32 := 2#32
  let c0_i32_19 : BitVec 32 := 0#32
  let v38 : BitVec 1 := Scalar.cmpi .sgt c2_i32 c0_i32_19
  let v39 : BitVec 32 := Scalar.extui v38
  let c0_i32_20 : BitVec 32 := 0#32
  let v40 : BitVec 1 := Scalar.cmpi .slt c2_i32 c0_i32_20
  let v41 : BitVec 32 := Scalar.extui v40
  let v42 : BitVec 32 := Scalar.subi v39 v41
  let v43 : BitVec 1 := Scalar.cmpi .ne v37 v42
  let v44 : BitVec 32 := Scalar.remsi v17 c2_i32
  let c0_i32_21 : BitVec 32 := 0#32
  let v45 : BitVec 1 := Scalar.cmpi .ne v44 c0_i32_21
  let v46 : BitVec 1 := Scalar.andi v43 v45
  let v32 : BitVec 32 := Scalar.divsi v17 c2_i32
  let c1_i32_22 : BitVec 32 := 1#32
  let v47 : BitVec 32 := Scalar.subi v32 c1_i32_22
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg6 : BitVec 32 := Scf.iv v53 c1_i32_26 k0_t2
  let c2_i32_161 : BitVec 32 := 2#32
  let v502 : BitVec 32 := Scalar.muli arg6 c2_i32_161
  let c1_i32_164 : BitVec 32 := 1#32
  let v506 : BitVec 32 := Scalar.addi v502 c1_i32_164
  let c512_i32_165 : BitVec 32 := 512#32
  let v507 : BitVec 32 := Scalar.muli v506 c512_i32_165
  v507
def k0_off5 (i : grid0.Coords) (k0_t2 : Fin (k0_t2_loop i).trips) (c0_i32_162 : BitVec 32) : Fin 3 → Nat :=
  let c0_166 : Index := 0#32
  let c0_i32_23 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_17 : BitVec 32 := 0#32
  let v33 : BitVec 1 := Scalar.cmpi .sgt v17 c0_i32_17
  let v34 : BitVec 32 := Scalar.extui v33
  let c0_i32_18 : BitVec 32 := 0#32
  let v35 : BitVec 1 := Scalar.cmpi .slt v17 c0_i32_18
  let v36 : BitVec 32 := Scalar.extui v35
  let v37 : BitVec 32 := Scalar.subi v34 v36
  let c2_i32 : BitVec 32 := 2#32
  let c0_i32_19 : BitVec 32 := 0#32
  let v38 : BitVec 1 := Scalar.cmpi .sgt c2_i32 c0_i32_19
  let v39 : BitVec 32 := Scalar.extui v38
  let c0_i32_20 : BitVec 32 := 0#32
  let v40 : BitVec 1 := Scalar.cmpi .slt c2_i32 c0_i32_20
  let v41 : BitVec 32 := Scalar.extui v40
  let v42 : BitVec 32 := Scalar.subi v39 v41
  let v43 : BitVec 1 := Scalar.cmpi .ne v37 v42
  let v44 : BitVec 32 := Scalar.remsi v17 c2_i32
  let c0_i32_21 : BitVec 32 := 0#32
  let v45 : BitVec 1 := Scalar.cmpi .ne v44 c0_i32_21
  let v46 : BitVec 1 := Scalar.andi v43 v45
  let v32 : BitVec 32 := Scalar.divsi v17 c2_i32
  let c1_i32_22 : BitVec 32 := 1#32
  let v47 : BitVec 32 := Scalar.subi v32 c1_i32_22
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg6 : BitVec 32 := Scf.iv v53 c1_i32_26 k0_t2
  let c2_i32_161 : BitVec 32 := 2#32
  let v502 : BitVec 32 := Scalar.muli arg6 c2_i32_161
  let v503 : BitVec 32 := Scalar.addi v502 c0_i32_162
  let c512_i32_163 : BitVec 32 := 512#32
  let v504 : BitVec 32 := Scalar.muli v503 c512_i32_163
  let v505 : BitVec 32 := v504
  let v509 : Index := Scalar.indexCast v505
  let c0_167 : Index := 0#32
  ![0, v509.toNat, 0]
def k0_off6 (i : grid0.Coords) (k0_t2 : Fin (k0_t2_loop i).trips) (c0_i32_162 : BitVec 32) : Fin 3 → Nat :=
  let c1_174 : Index := 1#32
  let c0_i32_23 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_17 : BitVec 32 := 0#32
  let v33 : BitVec 1 := Scalar.cmpi .sgt v17 c0_i32_17
  let v34 : BitVec 32 := Scalar.extui v33
  let c0_i32_18 : BitVec 32 := 0#32
  let v35 : BitVec 1 := Scalar.cmpi .slt v17 c0_i32_18
  let v36 : BitVec 32 := Scalar.extui v35
  let v37 : BitVec 32 := Scalar.subi v34 v36
  let c2_i32 : BitVec 32 := 2#32
  let c0_i32_19 : BitVec 32 := 0#32
  let v38 : BitVec 1 := Scalar.cmpi .sgt c2_i32 c0_i32_19
  let v39 : BitVec 32 := Scalar.extui v38
  let c0_i32_20 : BitVec 32 := 0#32
  let v40 : BitVec 1 := Scalar.cmpi .slt c2_i32 c0_i32_20
  let v41 : BitVec 32 := Scalar.extui v40
  let v42 : BitVec 32 := Scalar.subi v39 v41
  let v43 : BitVec 1 := Scalar.cmpi .ne v37 v42
  let v44 : BitVec 32 := Scalar.remsi v17 c2_i32
  let c0_i32_21 : BitVec 32 := 0#32
  let v45 : BitVec 1 := Scalar.cmpi .ne v44 c0_i32_21
  let v46 : BitVec 1 := Scalar.andi v43 v45
  let v32 : BitVec 32 := Scalar.divsi v17 c2_i32
  let c1_i32_22 : BitVec 32 := 1#32
  let v47 : BitVec 32 := Scalar.subi v32 c1_i32_22
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg6 : BitVec 32 := Scf.iv v53 c1_i32_26 k0_t2
  let c2_i32_161 : BitVec 32 := 2#32
  let v502 : BitVec 32 := Scalar.muli arg6 c2_i32_161
  let v503 : BitVec 32 := Scalar.addi v502 c0_i32_162
  let c512_i32_163 : BitVec 32 := 512#32
  let v504 : BitVec 32 := Scalar.muli v503 c512_i32_163
  let v505 : BitVec 32 := v504
  let v532 : Index := Scalar.indexCast v505
  let c0_175 : Index := 0#32
  ![1, v532.toNat, 0]
def k0_off7 (i : grid0.Coords) (k0_t2 : Fin (k0_t2_loop i).trips) (c0_i32_162 : BitVec 32) : Fin 2 → Nat :=
  let c0_179 : Index := 0#32
  let c0_i32_23 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_17 : BitVec 32 := 0#32
  let v33 : BitVec 1 := Scalar.cmpi .sgt v17 c0_i32_17
  let v34 : BitVec 32 := Scalar.extui v33
  let c0_i32_18 : BitVec 32 := 0#32
  let v35 : BitVec 1 := Scalar.cmpi .slt v17 c0_i32_18
  let v36 : BitVec 32 := Scalar.extui v35
  let v37 : BitVec 32 := Scalar.subi v34 v36
  let c2_i32 : BitVec 32 := 2#32
  let c0_i32_19 : BitVec 32 := 0#32
  let v38 : BitVec 1 := Scalar.cmpi .sgt c2_i32 c0_i32_19
  let v39 : BitVec 32 := Scalar.extui v38
  let c0_i32_20 : BitVec 32 := 0#32
  let v40 : BitVec 1 := Scalar.cmpi .slt c2_i32 c0_i32_20
  let v41 : BitVec 32 := Scalar.extui v40
  let v42 : BitVec 32 := Scalar.subi v39 v41
  let v43 : BitVec 1 := Scalar.cmpi .ne v37 v42
  let v44 : BitVec 32 := Scalar.remsi v17 c2_i32
  let c0_i32_21 : BitVec 32 := 0#32
  let v45 : BitVec 1 := Scalar.cmpi .ne v44 c0_i32_21
  let v46 : BitVec 1 := Scalar.andi v43 v45
  let v32 : BitVec 32 := Scalar.divsi v17 c2_i32
  let c1_i32_22 : BitVec 32 := 1#32
  let v47 : BitVec 32 := Scalar.subi v32 c1_i32_22
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg6 : BitVec 32 := Scf.iv v53 c1_i32_26 k0_t2
  let c2_i32_161 : BitVec 32 := 2#32
  let v502 : BitVec 32 := Scalar.muli arg6 c2_i32_161
  let v503 : BitVec 32 := Scalar.addi v502 c0_i32_162
  let c512_i32_163 : BitVec 32 := 512#32
  let v504 : BitVec 32 := Scalar.muli v503 c512_i32_163
  let v505 : BitVec 32 := v504
  let v550 : Index := Scalar.indexCast v505
  ![0, v550.toNat]
def k0_off8 (i : grid0.Coords) (k0_t2 : Fin (k0_t2_loop i).trips) (c0_i32_162 : BitVec 32) : Fin 2 → Nat :=
  let c64_193 : Index := 64#32
  let c0_i32_23 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_17 : BitVec 32 := 0#32
  let v33 : BitVec 1 := Scalar.cmpi .sgt v17 c0_i32_17
  let v34 : BitVec 32 := Scalar.extui v33
  let c0_i32_18 : BitVec 32 := 0#32
  let v35 : BitVec 1 := Scalar.cmpi .slt v17 c0_i32_18
  let v36 : BitVec 32 := Scalar.extui v35
  let v37 : BitVec 32 := Scalar.subi v34 v36
  let c2_i32 : BitVec 32 := 2#32
  let c0_i32_19 : BitVec 32 := 0#32
  let v38 : BitVec 1 := Scalar.cmpi .sgt c2_i32 c0_i32_19
  let v39 : BitVec 32 := Scalar.extui v38
  let c0_i32_20 : BitVec 32 := 0#32
  let v40 : BitVec 1 := Scalar.cmpi .slt c2_i32 c0_i32_20
  let v41 : BitVec 32 := Scalar.extui v40
  let v42 : BitVec 32 := Scalar.subi v39 v41
  let v43 : BitVec 1 := Scalar.cmpi .ne v37 v42
  let v44 : BitVec 32 := Scalar.remsi v17 c2_i32
  let c0_i32_21 : BitVec 32 := 0#32
  let v45 : BitVec 1 := Scalar.cmpi .ne v44 c0_i32_21
  let v46 : BitVec 1 := Scalar.andi v43 v45
  let v32 : BitVec 32 := Scalar.divsi v17 c2_i32
  let c1_i32_22 : BitVec 32 := 1#32
  let v47 : BitVec 32 := Scalar.subi v32 c1_i32_22
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg6 : BitVec 32 := Scf.iv v53 c1_i32_26 k0_t2
  let c2_i32_161 : BitVec 32 := 2#32
  let v502 : BitVec 32 := Scalar.muli arg6 c2_i32_161
  let v503 : BitVec 32 := Scalar.addi v502 c0_i32_162
  let c512_i32_163 : BitVec 32 := 512#32
  let v504 : BitVec 32 := Scalar.muli v503 c512_i32_163
  let v505 : BitVec 32 := v504
  let v600 : Index := Scalar.indexCast v505
  ![64, v600.toNat]
def k0_mult5 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_27 : BitVec 32 := 0#32
  let v56 : BitVec 32 := Scalar.addi v17 c0_i32_27
  let c512_i32_28 : BitVec 32 := 512#32
  let v57 : BitVec 32 := Scalar.muli v56 c512_i32_28
  v57
def k0_mult6 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_29 : BitVec 32 := 1#32
  let v59 : BitVec 32 := Scalar.addi v17 c1_i32_29
  let c512_i32_30 : BitVec 32 := 512#32
  let v60 : BitVec 32 := Scalar.muli v59 c512_i32_30
  v60
def k0_off9 (i : grid0.Coords) (c0_i32_27 : BitVec 32) : Fin 3 → Nat :=
  let c0_31 : Index := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v56 : BitVec 32 := Scalar.addi v17 c0_i32_27
  let c512_i32_28 : BitVec 32 := 512#32
  let v57 : BitVec 32 := Scalar.muli v56 c512_i32_28
  let v58 : BitVec 32 := v57
  let v62 : Index := Scalar.indexCast v58
  let c0_32 : Index := 0#32
  ![0, v62.toNat, 0]
def k0_off10 (i : grid0.Coords) (c0_i32_27 : BitVec 32) : Fin 3 → Nat :=
  let c1 : Index := 1#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v56 : BitVec 32 := Scalar.addi v17 c0_i32_27
  let c512_i32_28 : BitVec 32 := 512#32
  let v57 : BitVec 32 := Scalar.muli v56 c512_i32_28
  let v58 : BitVec 32 := v57
  let v113 : Index := Scalar.indexCast v58
  let c0_48 : Index := 0#32
  ![1, v113.toNat, 0]
def k0_off11 (i : grid0.Coords) (c0_i32_27 : BitVec 32) : Fin 2 → Nat :=
  let c0_61 : Index := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v56 : BitVec 32 := Scalar.addi v17 c0_i32_27
  let c512_i32_28 : BitVec 32 := 512#32
  let v57 : BitVec 32 := Scalar.muli v56 c512_i32_28
  let v58 : BitVec 32 := v57
  let v159 : Index := Scalar.indexCast v58
  ![0, v159.toNat]
def k0_off12 (i : grid0.Coords) (c0_i32_27 : BitVec 32) : Fin 2 → Nat :=
  let c64 : Index := 64#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v56 : BitVec 32 := Scalar.addi v17 c0_i32_27
  let c512_i32_28 : BitVec 32 := 512#32
  let v57 : BitVec 32 := Scalar.muli v56 c512_i32_28
  let v58 : BitVec 32 := v57
  let v265 : Index := Scalar.indexCast v58
  ![64, v265.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x2048 : Shape := ⟨2, ![16384, 2048]⟩
abbrev S16384x1024 : Shape := ⟨2, ![16384, 1024]⟩
abbrev S16384 : Shape := ⟨1, ![16384]⟩
abbrev S16384x16x128 : Shape := ⟨3, ![16384, 16, 128]⟩
abbrev S16384x16x64 : Shape := ⟨3, ![16384, 16, 64]⟩
abbrev S16x16384x16384 : Shape := ⟨3, ![16, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S16x16384 : Shape := ⟨2, ![16, 16384]⟩
abbrev S16x16384x1 : Shape := ⟨3, ![16, 16384, 1]⟩
abbrev S16x64x16384 : Shape := ⟨3, ![16, 64, 16384]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384, .i32⟩
  | .hbm, ⟨4, _⟩ => ⟨S16384x2048, .f32⟩
  | .hbm, ⟨5, _⟩ => ⟨S16384x16x128, .f32⟩
  | .hbm, ⟨6, _⟩ => ⟨S16384x2048, .f32⟩
  | .hbm, ⟨7, _⟩ => ⟨S16384x16x128, .f32⟩
  | .hbm, ⟨8, _⟩ => ⟨S16384x1024, .f32⟩
  | .hbm, ⟨9, _⟩ => ⟨S16384x16x64, .f32⟩
  | .hbm, ⟨10, _⟩ => ⟨S16x16384x16384, .f32⟩
  | .hbm, ⟨11, _⟩ => ⟨S_, .f32⟩
  | .hbm, ⟨12, _⟩ => ⟨S_, .f32⟩
  | .hbm, ⟨13, _⟩ => ⟨S16x16384x16384, .f32⟩
  | .hbm, ⟨14, _⟩ => ⟨S16x16384x16384, .f32⟩
  | .hbm, ⟨15, _⟩ => ⟨S1x16384, .i32⟩
  | .hbm, ⟨16, _⟩ => ⟨S16384x1, .i32⟩
  | .hbm, ⟨17, _⟩ => ⟨S16384x16384, .i32⟩
  | .hbm, ⟨18, _⟩ => ⟨S16384x16384, .i32⟩
  | .hbm, ⟨19, _⟩ => ⟨S16384x16384, .i1⟩
  | .hbm, ⟨20, _⟩ => ⟨S_, .f32⟩
  | .hbm, ⟨21, _⟩ => ⟨S_, .f32⟩
  | .hbm, ⟨22, _⟩ => ⟨S16x16384x16384, .i1⟩
  | .hbm, ⟨23, _⟩ => ⟨S16x16384x16384, .f32⟩
  | .hbm, ⟨24, _⟩ => ⟨S16x16384x16384, .f32⟩
  | .hbm, ⟨25, _⟩ => ⟨S_, .f32⟩
  | .hbm, ⟨26, _⟩ => ⟨S16x16384, .f32⟩
  | .hbm, ⟨27, _⟩ => ⟨S_, .f32⟩
  | .hbm, ⟨28, _⟩ => ⟨S16x16384, .f32⟩
  | .hbm, ⟨29, _⟩ => ⟨S16x16384, .f32⟩
  | .hbm, ⟨30, _⟩ => ⟨S16x16384x1, .f32⟩
  | .hbm, ⟨31, _⟩ => ⟨S16x16384x16384, .f32⟩
  | .hbm, ⟨32, _⟩ => ⟨S16x16384x16384, .f32⟩
  | .hbm, ⟨33, _⟩ => ⟨S16x16384x16384, .f32⟩
  | .hbm, ⟨34, _⟩ => ⟨S_, .f32⟩
  | .hbm, ⟨35, _⟩ => ⟨S16x16384, .f32⟩
  | .hbm, ⟨36, _⟩ => ⟨S16x16384x1, .f32⟩
  | .hbm, ⟨37, _⟩ => ⟨S16x16384x16384, .f32⟩
  | .hbm, ⟨38, _⟩ => ⟨S16x16384x16384, .f32⟩
  | .hbm, ⟨39, _⟩ => ⟨S16x64x16384, .f32⟩
  | .hbm, ⟨40, _⟩ => ⟨S16384x16x64, .f32⟩
  | .hbm, ⟨41, _⟩ => ⟨S16384x1024, .f32⟩
  | .hbm, ⟨42, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Ffn.lean ====
abbrev S16384x1024 : Shape := ⟨2, ![16384, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S2816x1024 : Shape := ⟨2, ![2816, 1024]⟩
abbrev S8x2816 : Shape := ⟨2, ![8, 2816]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024x256 : Shape := ⟨2, ![1024, 256]⟩
abbrev S8x256 : Shape := ⟨2, ![8, 256]⟩
abbrev S1x256 : Shape := ⟨2, ![1, 256]⟩
abbrev S256x1024 : Shape := ⟨2, ![256, 1024]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S3x2816, .f32⟩
  | .hbm, ⟨5, _⟩ => ⟨S1x2816, .f32⟩
  | .hbm, ⟨6, _⟩ => ⟨S2816x1024, .bf16⟩
  | .hbm, ⟨7, _⟩ => ⟨S16384x1024, .f32⟩
  | .hbm, ⟨8, _⟩ => ⟨S8x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S3x2816, .f32⟩
  | .local _ .vmem, ⟨6, _⟩ => ⟨S1x2816, .f32⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S8x2816, .f32⟩
  | .local _ .vmem, ⟨11, _⟩ => ⟨S8x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnReferenceIdeal.lean ====
abbrev S16384x1024 : Shape := ⟨2, ![16384, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S2x2816 : Shape := ⟨2, ![2, 2816]⟩
abbrev S16386x2816 : Shape := ⟨2, ![16386, 2816]⟩
abbrev S8x2816 : Shape := ⟨2, ![8, 2816]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S3x2816, .f32⟩
  | .hbm, ⟨5, _⟩ => ⟨S1x2816, .f32⟩
  | .hbm, ⟨6, _⟩ => ⟨S2816x1024, .bf16⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1024x2816, .f32⟩
  | .hbm, ⟨23, _⟩ => ⟨S16384x2816, .f32⟩
  | .hbm, ⟨24, _⟩ => ⟨S1024x2816, .f32⟩
  | .hbm, ⟨25, _⟩ => ⟨S16384x2816, .f32⟩
  | .hbm, ⟨26, _⟩ => ⟨S_, .f32⟩
  | .hbm, ⟨27, _⟩ => ⟨S2x2816, .f32⟩
  | .hbm, ⟨28, _⟩ => ⟨S16386x2816, .f32⟩
  | .hbm, ⟨29, _⟩ => ⟨S1x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S1x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S1x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S_, .f32⟩
  | .hbm, ⟨51, _⟩ => ⟨S16384x2816, .f32⟩
  | .hbm, ⟨52, _⟩ => ⟨S16384x2816, .f32⟩
  | .hbm, ⟨53, _⟩ => ⟨S_, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S2816x1024, .f32⟩
  | .hbm, ⟨59, _⟩ => ⟨S16384x1024, .f32⟩
  | .hbm, ⟨60, _⟩ => ⟨S16384x1024, .f32⟩
  | .hbm, ⟨61, _⟩ => ⟨S8x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Grouped.lean ====
abbrev S16384x1024 : Shape := ⟨2, ![16384, 1024]⟩
abbrev S2x16384x128 : Shape := ⟨3, ![2, 16384, 128]⟩
abbrev S16384x128 : Shape := ⟨2, ![16384, 128]⟩
abbrev S128x16384 : Shape := ⟨2, ![128, 16384]⟩
abbrev S16384x512 : Shape := ⟨2, ![16384, 512]⟩
abbrev S512x1024 : Shape := ⟨2, ![512, 1024]⟩
abbrev S512x512 : Shape := ⟨2, ![512, 512]⟩
abbrev S512x128 : Shape := ⟨2, ![512, 128]⟩
abbrev S2048x128 : Shape := ⟨2, ![2048, 128]⟩
abbrev S1x512 : Shape := ⟨2, ![1, 512]⟩
abbrev S64x512 : Shape := ⟨2, ![64, 512]⟩
abbrev S1x512x128 : Shape := ⟨3, ![1, 512, 128]⟩
abbrev S512 : Shape := ⟨1, ![512]⟩
abbrev S64x2048 : Shape := ⟨2, ![64, 2048]⟩
abbrev S512x64 : Shape := ⟨2, ![512, 64]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S2x16384x128, .bf16⟩
  | .hbm, ⟨2, _⟩ => ⟨S16384x128, .bf16⟩
  | .hbm, ⟨3, _⟩ => ⟨S128x16384, .bf16⟩
  | .hbm, ⟨4, _⟩ => ⟨S16384x512, .bf16⟩
  | .local _ .vmem, ⟨0, _⟩ => ⟨S512x1024, .bf16⟩
  | .local _ .vmem, ⟨1, _⟩ => ⟨S512x1024, .bf16⟩
  | .local _ .vmem, ⟨2, _⟩ => ⟨S2x16384x128, .bf16⟩
  | .local _ .vmem, ⟨3, _⟩ => ⟨S128x16384, .bf16⟩
  | .local _ .vmem, ⟨4, _⟩ => ⟨S512x512, .bf16⟩
  | .local _ .vmem, ⟨5, _⟩ => ⟨S512x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 32], ![false, false]⟩

@[reducible] def k0_t1_loop (i : grid0.Coords) : Scf.Loop 32 :=
  let c0_i32_43 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c0_i32_37 : BitVec 32 := 0#32
  let v53 : BitVec 1 := Scalar.cmpi .sgt v17 c0_i32_37
  let v54 : BitVec 32 := Scalar.extui v53
  let c0_i32_38 : BitVec 32 := 0#32
  let v55 : BitVec 1 := Scalar.cmpi .slt v17 c0_i32_38
  let v56 : BitVec 32 := Scalar.extui v55
  let v57 : BitVec 32 := Scalar.subi v54 v56
  let c1_i32_36 : BitVec 32 := 1#32
  let c0_i32_39 : BitVec 32 := 0#32
  let v58 : BitVec 1 := Scalar.cmpi .sgt c1_i32_36 c0_i32_39
  let v59 : BitVec 32 := Scalar.extui v58
  let c0_i32_40 : BitVec 32 := 0#32
  let v60 : BitVec 1 := Scalar.cmpi .slt c1_i32_36 c0_i32_40
  let v61 : BitVec 32 := Scalar.extui v60
  let v62 : BitVec 32 := Scalar.subi v59 v61
  let v63 : BitVec 1 := Scalar.cmpi .ne v57 v62
  let v64 : BitVec 32 := Scalar.remsi v17 c1_i32_36
  let c0_i32_41 : BitVec 32 := 0#32
  let v65 : BitVec 1 := Scalar.cmpi .ne v64 c0_i32_41
  let v66 : BitVec 1 := Scalar.andi v63 v65
  let v52 : BitVec 32 := Scalar.divsi v17 c1_i32_36
  let c1_i32_42 : BitVec 32 := 1#32
  let v67 : BitVec 32 := Scalar.subi v52 c1_i32_42
  let v68 : BitVec 32 := Scalar.select v66 v67 v52
  let v69 : BitVec 32 := Scalar.subi v68 c0_i32_43
  let c1_i32_44 : BitVec 32 := 1#32
  let v71 : BitVec 32 := Scalar.divsi v69 c1_i32_44
  let v72 : BitVec 32 := Scalar.muli v71 c1_i32_44
  let v73 : BitVec 32 := Scalar.addi c0_i32_43 v72
  let c1_i32_45 : BitVec 32 := 1#32
  ⟨c0_i32_43, v73, c1_i32_45⟩
def k0_mult1 (i : grid0.Coords) (k0_t1 : Fin (k0_t1_loop i).trips) : BitVec 32 :=
  let c0_i32_43 : BitVec 32 := 0#32
  let c1_i32_45 : BitVec 32 := 1#32
  let arg6 : BitVec 32 := Scf.iv c0_i32_43 c1_i32_45 k0_t1
  let c1_i32_186 : BitVec 32 := 1#32
  let v553 : BitVec 32 := Scalar.muli arg6 c1_i32_186
  let c0_i32_187 : BitVec 32 := 0#32
  let v554 : BitVec 32 := Scalar.addi v553 c0_i32_187
  let c512_i32_188 : BitVec 32 := 512#32
  let v555 : BitVec 32 := Scalar.muli v554 c512_i32_188
  v555
def k0_off1 (i : grid0.Coords) (k0_t1 : Fin (k0_t1_loop i).trips) : Fin 3 → Nat :=
  let c0_189 : Index := 0#32
  let c0_i32_43 : BitVec 32 := 0#32
  let c1_i32_45 : BitVec 32 := 1#32
  let arg6 : BitVec 32 := Scf.iv c0_i32_43 c1_i32_45 k0_t1
  let c1_i32_186 : BitVec 32 := 1#32
  let v553 : BitVec 32 := Scalar.muli arg6 c1_i32_186
  let c0_i32_187 : BitVec 32 := 0#32
  let v554 : BitVec 32 := Scalar.addi v553 c0_i32_187
  let c512_i32_188 : BitVec 32 := 512#32
  let v555 : BitVec 32 := Scalar.muli v554 c512_i32_188
  let v556 : BitVec 32 := v555
  let v557 : Index := Scalar.indexCast v556
  let c0_190 : Index := 0#32
  ![0, v557.toNat, 0]
def k0_off2 (i : grid0.Coords) (k0_t1 : Fin (k0_t1_loop i).trips) : Fin 2 → Nat :=
  let c0_202 : Index := 0#32
  let c0_i32_43 : BitVec 32 := 0#32
  let c1_i32_45 : BitVec 32 := 1#32
  let arg6 : BitVec 32 := Scf.iv c0_i32_43 c1_i32_45 k0_t1
  let c1_i32_186 : BitVec 32 := 1#32
  let v553 : BitVec 32 := Scalar.muli arg6 c1_i32_186
  let c0_i32_187 : BitVec 32 := 0#32
  let v554 : BitVec 32 := Scalar.addi v553 c0_i32_187
  let c512_i32_188 : BitVec 32 := 512#32
  let v555 : BitVec 32 := Scalar.muli v554 c512_i32_188
  let v556 : BitVec 32 := v555
  let v598 : Index := Scalar.indexCast v556
  ![0, v598.toNat]
def k0_off3 (i : grid0.Coords) (k0_t1 : Fin (k0_t1_loop i).trips) : Fin 3 → Nat :=
  let c1_211 : Index := 1#32
  let c0_i32_43 : BitVec 32 := 0#32
  let c1_i32_45 : BitVec 32 := 1#32
  let arg6 : BitVec 32 := Scf.iv c0_i32_43 c1_i32_45 k0_t1
  let c1_i32_186 : BitVec 32 := 1#32
  let v553 : BitVec 32 := Scalar.muli arg6 c1_i32_186
  let c0_i32_187 : BitVec 32 := 0#32
  let v554 : BitVec 32 := Scalar.addi v553 c0_i32_187
  let c512_i32_188 : BitVec 32 := 512#32
  let v555 : BitVec 32 := Scalar.muli v554 c512_i32_188
  let v556 : BitVec 32 := v555
  let v630 : Index := Scalar.indexCast v556
  let c0_212 : Index := 0#32
  ![1, v630.toNat, 0]
def k0_off4 (i : grid0.Coords) (k0_t1 : Fin (k0_t1_loop i).trips) : Fin 2 → Nat :=
  let c64_230 : Index := 64#32
  let c0_i32_43 : BitVec 32 := 0#32
  let c1_i32_45 : BitVec 32 := 1#32
  let arg6 : BitVec 32 := Scf.iv c0_i32_43 c1_i32_45 k0_t1
  let c1_i32_186 : BitVec 32 := 1#32
  let v553 : BitVec 32 := Scalar.muli arg6 c1_i32_186
  let c0_i32_187 : BitVec 32 := 0#32
  let v554 : BitVec 32 := Scalar.addi v553 c0_i32_187
  let c512_i32_188 : BitVec 32 := 512#32
  let v555 : BitVec 32 := Scalar.muli v554 c512_i32_188
  let v556 : BitVec 32 := v555
  let v698 : Index := Scalar.indexCast v556
  ![64, v698.toNat]
@[reducible] def k0_t2_loop (i : grid0.Coords) : Scf.Loop 32 :=
  let c0_i32_43 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c0_i32_37 : BitVec 32 := 0#32
  let v53 : BitVec 1 := Scalar.cmpi .sgt v17 c0_i32_37
  let v54 : BitVec 32 := Scalar.extui v53
  let c0_i32_38 : BitVec 32 := 0#32
  let v55 : BitVec 1 := Scalar.cmpi .slt v17 c0_i32_38
  let v56 : BitVec 32 := Scalar.extui v55
  let v57 : BitVec 32 := Scalar.subi v54 v56
  let c1_i32_36 : BitVec 32 := 1#32
  let c0_i32_39 : BitVec 32 := 0#32
  let v58 : BitVec 1 := Scalar.cmpi .sgt c1_i32_36 c0_i32_39
  let v59 : BitVec 32 := Scalar.extui v58
  let c0_i32_40 : BitVec 32 := 0#32
  let v60 : BitVec 1 := Scalar.cmpi .slt c1_i32_36 c0_i32_40
  let v61 : BitVec 32 := Scalar.extui v60
  let v62 : BitVec 32 := Scalar.subi v59 v61
  let v63 : BitVec 1 := Scalar.cmpi .ne v57 v62
  let v64 : BitVec 32 := Scalar.remsi v17 c1_i32_36
  let c0_i32_41 : BitVec 32 := 0#32
  let v65 : BitVec 1 := Scalar.cmpi .ne v64 c0_i32_41
  let v66 : BitVec 1 := Scalar.andi v63 v65
  let v52 : BitVec 32 := Scalar.divsi v17 c1_i32_36
  let c1_i32_42 : BitVec 32 := 1#32
  let v67 : BitVec 32 := Scalar.subi v52 c1_i32_42
  let v68 : BitVec 32 := Scalar.select v66 v67 v52
  let v69 : BitVec 32 := Scalar.subi v68 c0_i32_43
  let c1_i32_44 : BitVec 32 := 1#32
  let v71 : BitVec 32 := Scalar.divsi v69 c1_i32_44
  let v72 : BitVec 32 := Scalar.muli v71 c1_i32_44
  let v73 : BitVec 32 := Scalar.addi c0_i32_43 v72
  let v70 : BitVec 32 := Scalar.addi c0_i32_43 v69
  let c1_i32_46 : BitVec 32 := 1#32
  ⟨v73, v70, c1_i32_46⟩
def k0_mult2 (i : grid0.Coords) (k0_t2 : Fin (k0_t2_loop i).trips) : BitVec 32 :=
  let c0_i32_43 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c0_i32_37 : BitVec 32 := 0#32
  let v53 : BitVec 1 := Scalar.cmpi .sgt v17 c0_i32_37
  let v54 : BitVec 32 := Scalar.extui v53
  let c0_i32_38 : BitVec 32 := 0#32
  let v55 : BitVec 1 := Scalar.cmpi .slt v17 c0_i32_38
  let v56 : BitVec 32 := Scalar.extui v55
  let v57 : BitVec 32 := Scalar.subi v54 v56
  let c1_i32_36 : BitVec 32 := 1#32
  let c0_i32_39 : BitVec 32 := 0#32
  let v58 : BitVec 1 := Scalar.cmpi .sgt c1_i32_36 c0_i32_39
  let v59 : BitVec 32 := Scalar.extui v58
  let c0_i32_40 : BitVec 32 := 0#32
  let v60 : BitVec 1 := Scalar.cmpi .slt c1_i32_36 c0_i32_40
  let v61 : BitVec 32 := Scalar.extui v60
  let v62 : BitVec 32 := Scalar.subi v59 v61
  let v63 : BitVec 1 := Scalar.cmpi .ne v57 v62
  let v64 : BitVec 32 := Scalar.remsi v17 c1_i32_36
  let c0_i32_41 : BitVec 32 := 0#32
  let v65 : BitVec 1 := Scalar.cmpi .ne v64 c0_i32_41
  let v66 : BitVec 1 := Scalar.andi v63 v65
  let v52 : BitVec 32 := Scalar.divsi v17 c1_i32_36
  let c1_i32_42 : BitVec 32 := 1#32
  let v67 : BitVec 32 := Scalar.subi v52 c1_i32_42
  let v68 : BitVec 32 := Scalar.select v66 v67 v52
  let v69 : BitVec 32 := Scalar.subi v68 c0_i32_43
  let c1_i32_44 : BitVec 32 := 1#32
  let v71 : BitVec 32 := Scalar.divsi v69 c1_i32_44
  let v72 : BitVec 32 := Scalar.muli v71 c1_i32_44
  let v73 : BitVec 32 := Scalar.addi c0_i32_43 v72
  let c1_i32_46 : BitVec 32 := 1#32
  let arg6 : BitVec 32 := Scf.iv v73 c1_i32_46 k0_t2
  let c1_i32_186 : BitVec 32 := 1#32
  let v553 : BitVec 32 := Scalar.muli arg6 c1_i32_186
  let c0_i32_187 : BitVec 32 := 0#32
  let v554 : BitVec 32 := Scalar.addi v553 c0_i32_187
  let c512_i32_188 : BitVec 32 := 512#32
  let v555 : BitVec 32 := Scalar.muli v554 c512_i32_188
  v555
def k0_off5 (i : grid0.Coords) (k0_t2 : Fin (k0_t2_loop i).trips) : Fin 3 → Nat :=
  let c0_189 : Index := 0#32
  let c0_i32_43 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c0_i32_37 : BitVec 32 := 0#32
  let v53 : BitVec 1 := Scalar.cmpi .sgt v17 c0_i32_37
  let v54 : BitVec 32 := Scalar.extui v53
  let c0_i32_38 : BitVec 32 := 0#32
  let v55 : BitVec 1 := Scalar.cmpi .slt v17 c0_i32_38
  let v56 : BitVec 32 := Scalar.extui v55
  let v57 : BitVec 32 := Scalar.subi v54 v56
  let c1_i32_36 : BitVec 32 := 1#32
  let c0_i32_39 : BitVec 32 := 0#32
  let v58 : BitVec 1 := Scalar.cmpi .sgt c1_i32_36 c0_i32_39
  let v59 : BitVec 32 := Scalar.extui v58
  let c0_i32_40 : BitVec 32 := 0#32
  let v60 : BitVec 1 := Scalar.cmpi .slt c1_i32_36 c0_i32_40
  let v61 : BitVec 32 := Scalar.extui v60
  let v62 : BitVec 32 := Scalar.subi v59 v61
  let v63 : BitVec 1 := Scalar.cmpi .ne v57 v62
  let v64 : BitVec 32 := Scalar.remsi v17 c1_i32_36
  let c0_i32_41 : BitVec 32 := 0#32
  let v65 : BitVec 1 := Scalar.cmpi .ne v64 c0_i32_41
  let v66 : BitVec 1 := Scalar.andi v63 v65
  let v52 : BitVec 32 := Scalar.divsi v17 c1_i32_36
  let c1_i32_42 : BitVec 32 := 1#32
  let v67 : BitVec 32 := Scalar.subi v52 c1_i32_42
  let v68 : BitVec 32 := Scalar.select v66 v67 v52
  let v69 : BitVec 32 := Scalar.subi v68 c0_i32_43
  let c1_i32_44 : BitVec 32 := 1#32
  let v71 : BitVec 32 := Scalar.divsi v69 c1_i32_44
  let v72 : BitVec 32 := Scalar.muli v71 c1_i32_44
  let v73 : BitVec 32 := Scalar.addi c0_i32_43 v72
  let c1_i32_46 : BitVec 32 := 1#32
  let arg6 : BitVec 32 := Scf.iv v73 c1_i32_46 k0_t2
  let c1_i32_186 : BitVec 32 := 1#32
  let v553 : BitVec 32 := Scalar.muli arg6 c1_i32_186
  let c0_i32_187 : BitVec 32 := 0#32
  let v554 : BitVec 32 := Scalar.addi v553 c0_i32_187
  let c512_i32_188 : BitVec 32 := 512#32
  let v555 : BitVec 32 := Scalar.muli v554 c512_i32_188
  let v556 : BitVec 32 := v555
  let v557 : Index := Scalar.indexCast v556
  let c0_190 : Index := 0#32
  ![0, v557.toNat, 0]
def k0_off6 (i : grid0.Coords) (k0_t2 : Fin (k0_t2_loop i).trips) : Fin 2 → Nat :=
  let c0_202 : Index := 0#32
  let c0_i32_43 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c0_i32_37 : BitVec 32 := 0#32
  let v53 : BitVec 1 := Scalar.cmpi .sgt v17 c0_i32_37
  let v54 : BitVec 32 := Scalar.extui v53
  let c0_i32_38 : BitVec 32 := 0#32
  let v55 : BitVec 1 := Scalar.cmpi .slt v17 c0_i32_38
  let v56 : BitVec 32 := Scalar.extui v55
  let v57 : BitVec 32 := Scalar.subi v54 v56
  let c1_i32_36 : BitVec 32 := 1#32
  let c0_i32_39 : BitVec 32 := 0#32
  let v58 : BitVec 1 := Scalar.cmpi .sgt c1_i32_36 c0_i32_39
  let v59 : BitVec 32 := Scalar.extui v58
  let c0_i32_40 : BitVec 32 := 0#32
  let v60 : BitVec 1 := Scalar.cmpi .slt c1_i32_36 c0_i32_40
  let v61 : BitVec 32 := Scalar.extui v60
  let v62 : BitVec 32 := Scalar.subi v59 v61
  let v63 : BitVec 1 := Scalar.cmpi .ne v57 v62
  let v64 : BitVec 32 := Scalar.remsi v17 c1_i32_36
  let c0_i32_41 : BitVec 32 := 0#32
  let v65 : BitVec 1 := Scalar.cmpi .ne v64 c0_i32_41
  let v66 : BitVec 1 := Scalar.andi v63 v65
  let v52 : BitVec 32 := Scalar.divsi v17 c1_i32_36
  let c1_i32_42 : BitVec 32 := 1#32
  let v67 : BitVec 32 := Scalar.subi v52 c1_i32_42
  let v68 : BitVec 32 := Scalar.select v66 v67 v52
  let v69 : BitVec 32 := Scalar.subi v68 c0_i32_43
  let c1_i32_44 : BitVec 32 := 1#32
  let v71 : BitVec 32 := Scalar.divsi v69 c1_i32_44
  let v72 : BitVec 32 := Scalar.muli v71 c1_i32_44
  let v73 : BitVec 32 := Scalar.addi c0_i32_43 v72
  let c1_i32_46 : BitVec 32 := 1#32
  let arg6 : BitVec 32 := Scf.iv v73 c1_i32_46 k0_t2
  let c1_i32_186 : BitVec 32 := 1#32
  let v553 : BitVec 32 := Scalar.muli arg6 c1_i32_186
  let c0_i32_187 : BitVec 32 := 0#32
  let v554 : BitVec 32 := Scalar.addi v553 c0_i32_187
  let c512_i32_188 : BitVec 32 := 512#32
  let v555 : BitVec 32 := Scalar.muli v554 c512_i32_188
  let v556 : BitVec 32 := v555
  let v598 : Index := Scalar.indexCast v556
  ![0, v598.toNat]
def k0_off7 (i : grid0.Coords) (k0_t2 : Fin (k0_t2_loop i).trips) : Fin 3 → Nat :=
  let c1_211 : Index := 1#32
  let c0_i32_43 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c0_i32_37 : BitVec 32 := 0#32
  let v53 : BitVec 1 := Scalar.cmpi .sgt v17 c0_i32_37
  let v54 : BitVec 32 := Scalar.extui v53
  let c0_i32_38 : BitVec 32 := 0#32
  let v55 : BitVec 1 := Scalar.cmpi .slt v17 c0_i32_38
  let v56 : BitVec 32 := Scalar.extui v55
  let v57 : BitVec 32 := Scalar.subi v54 v56
  let c1_i32_36 : BitVec 32 := 1#32
  let c0_i32_39 : BitVec 32 := 0#32
  let v58 : BitVec 1 := Scalar.cmpi .sgt c1_i32_36 c0_i32_39
  let v59 : BitVec 32 := Scalar.extui v58
  let c0_i32_40 : BitVec 32 := 0#32
  let v60 : BitVec 1 := Scalar.cmpi .slt c1_i32_36 c0_i32_40
  let v61 : BitVec 32 := Scalar.extui v60
  let v62 : BitVec 32 := Scalar.subi v59 v61
  let v63 : BitVec 1 := Scalar.cmpi .ne v57 v62
  let v64 : BitVec 32 := Scalar.remsi v17 c1_i32_36
  let c0_i32_41 : BitVec 32 := 0#32
  let v65 : BitVec 1 := Scalar.cmpi .ne v64 c0_i32_41
  let v66 : BitVec 1 := Scalar.andi v63 v65
  let v52 : BitVec 32 := Scalar.divsi v17 c1_i32_36
  let c1_i32_42 : BitVec 32 := 1#32
  let v67 : BitVec 32 := Scalar.subi v52 c1_i32_42
  let v68 : BitVec 32 := Scalar.select v66 v67 v52
  let v69 : BitVec 32 := Scalar.subi v68 c0_i32_43
  let c1_i32_44 : BitVec 32 := 1#32
  let v71 : BitVec 32 := Scalar.divsi v69 c1_i32_44
  let v72 : BitVec 32 := Scalar.muli v71 c1_i32_44
  let v73 : BitVec 32 := Scalar.addi c0_i32_43 v72
  let c1_i32_46 : BitVec 32 := 1#32
  let arg6 : BitVec 32 := Scf.iv v73 c1_i32_46 k0_t2
  let c1_i32_186 : BitVec 32 := 1#32
  let v553 : BitVec 32 := Scalar.muli arg6 c1_i32_186
  let c0_i32_187 : BitVec 32 := 0#32
  let v554 : BitVec 32 := Scalar.addi v553 c0_i32_187
  let c512_i32_188 : BitVec 32 := 512#32
  let v555 : BitVec 32 := Scalar.muli v554 c512_i32_188
  let v556 : BitVec 32 := v555
  let v630 : Index := Scalar.indexCast v556
  let c0_212 : Index := 0#32
  ![1, v630.toNat, 0]
def k0_off8 (i : grid0.Coords) (k0_t2 : Fin (k0_t2_loop i).trips) : Fin 2 → Nat :=
  let c64_230 : Index := 64#32
  let c0_i32_43 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c0_i32_37 : BitVec 32 := 0#32
  let v53 : BitVec 1 := Scalar.cmpi .sgt v17 c0_i32_37
  let v54 : BitVec 32 := Scalar.extui v53
  let c0_i32_38 : BitVec 32 := 0#32
  let v55 : BitVec 1 := Scalar.cmpi .slt v17 c0_i32_38
  let v56 : BitVec 32 := Scalar.extui v55
  let v57 : BitVec 32 := Scalar.subi v54 v56
  let c1_i32_36 : BitVec 32 := 1#32
  let c0_i32_39 : BitVec 32 := 0#32
  let v58 : BitVec 1 := Scalar.cmpi .sgt c1_i32_36 c0_i32_39
  let v59 : BitVec 32 := Scalar.extui v58
  let c0_i32_40 : BitVec 32 := 0#32
  let v60 : BitVec 1 := Scalar.cmpi .slt c1_i32_36 c0_i32_40
  let v61 : BitVec 32 := Scalar.extui v60
  let v62 : BitVec 32 := Scalar.subi v59 v61
  let v63 : BitVec 1 := Scalar.cmpi .ne v57 v62
  let v64 : BitVec 32 := Scalar.remsi v17 c1_i32_36
  let c0_i32_41 : BitVec 32 := 0#32
  let v65 : BitVec 1 := Scalar.cmpi .ne v64 c0_i32_41
  let v66 : BitVec 1 := Scalar.andi v63 v65
  let v52 : BitVec 32 := Scalar.divsi v17 c1_i32_36
  let c1_i32_42 : BitVec 32 := 1#32
  let v67 : BitVec 32 := Scalar.subi v52 c1_i32_42
  let v68 : BitVec 32 := Scalar.select v66 v67 v52
  let v69 : BitVec 32 := Scalar.subi v68 c0_i32_43
  let c1_i32_44 : BitVec 32 := 1#32
  let v71 : BitVec 32 := Scalar.divsi v69 c1_i32_44
  let v72 : BitVec 32 := Scalar.muli v71 c1_i32_44
  let v73 : BitVec 32 := Scalar.addi c0_i32_43 v72
  let c1_i32_46 : BitVec 32 := 1#32
  let arg6 : BitVec 32 := Scf.iv v73 c1_i32_46 k0_t2
  let c1_i32_186 : BitVec 32 := 1#32
  let v553 : BitVec 32 := Scalar.muli arg6 c1_i32_186
  let c0_i32_187 : BitVec 32 := 0#32
  let v554 : BitVec 32 := Scalar.addi v553 c0_i32_187
  let c512_i32_188 : BitVec 32 := 512#32
  let v555 : BitVec 32 := Scalar.muli v554 c512_i32_188
  let v556 : BitVec 32 := v555
  let v698 : Index := Scalar.indexCast v556
  ![64, v698.toNat]
def k0_mult3 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c0_i32_47 : BitVec 32 := 0#32
  let v76 : BitVec 32 := Scalar.addi v17 c0_i32_47
  let c512_i32_48 : BitVec 32 := 512#32
  let v77 : BitVec 32 := Scalar.muli v76 c512_i32_48
  v77
def k0_off9 (i : grid0.Coords) : Fin 3 → Nat :=
  let c0_49 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c0_i32_47 : BitVec 32 := 0#32
  let v76 : BitVec 32 := Scalar.addi v17 c0_i32_47
  let c512_i32_48 : BitVec 32 := 512#32
  let v77 : BitVec 32 := Scalar.muli v76 c512_i32_48
  let v78 : BitVec 32 := v77
  let v79 : Index := Scalar.indexCast v78
  let c0_50 : Index := 0#32
  ![0, v79.toNat, 0]
def k0_off10 (i : grid0.Coords) : Fin 2 → Nat :=
  let c0_80 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c0_i32_47 : BitVec 32 := 0#32
  let v76 : BitVec 32 := Scalar.addi v17 c0_i32_47
  let c512_i32_48 : BitVec 32 := 512#32
  let v77 : BitVec 32 := Scalar.muli v76 c512_i32_48
  let v78 : BitVec 32 := v77
  let v176 : Index := Scalar.indexCast v78
  ![0, v176.toNat]
def k0_off11 (i : grid0.Coords) : Fin 3 → Nat :=
  let c1 : Index := 1#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c0_i32_47 : BitVec 32 := 0#32
  let v76 : BitVec 32 := Scalar.addi v17 c0_i32_47
  let c512_i32_48 : BitVec 32 := 512#32
  let v77 : BitVec 32 := Scalar.muli v76 c512_i32_48
  let v78 : BitVec 32 := v77
  let v236 : Index := Scalar.indexCast v78
  let c0_97 : Index := 0#32
  ![1, v236.toNat, 0]
def k0_off12 (i : grid0.Coords) : Fin 2 → Nat :=
  let c64 : Index := 64#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c0_i32_47 : BitVec 32 := 0#32
  let v76 : BitVec 32 := Scalar.addi v17 c0_i32_47
  let c512_i32_48 : BitVec 32 := 512#32
  let v77 : BitVec 32 := Scalar.muli v76 c512_i32_48
  let v78 : BitVec 32 := v77
  let v388 : Index := Scalar.indexCast v78
  ![64, v388.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GroupedIdeal.lean ====
variable {F : FTy → Type} [FloatOps F] [Named F]
def κ : String → Option EReal := fun
  | "mask" => some ⊥
  | _ => none
-- ==== GroupedReferenceIdeal.lean ====
abbrev S16384x1024 : Shape := ⟨2, ![16384, 1024]⟩
abbrev S2x16384x128 : Shape := ⟨3, ![2, 16384, 128]⟩
abbrev S16384x128 : Shape := ⟨2, ![16384, 128]⟩
abbrev S16384 : Shape := ⟨1, ![16384]⟩
abbrev S16384x2x4x128 : Shape := ⟨4, ![16384, 2, 4, 128]⟩
abbrev S16384x2x64 : Shape := ⟨3, ![16384, 2, 64]⟩
abbrev S2x16384x16384x4 : Shape := ⟨4, ![2, 16384, 16384, 4]⟩
abbrev S2x4x16384x16384 : Shape := ⟨4, ![2, 4, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S2x4x16384 : Shape := ⟨3, ![2, 4, 16384]⟩
abbrev S2x4x16384x1 : Shape := ⟨4, ![2, 4, 16384, 1]⟩
abbrev S2x64x4x16384 : Shape := ⟨4, ![2, 64, 4, 16384]⟩
abbrev S16384x2x4x64 : Shape := ⟨4, ![16384, 2, 4, 64]⟩
abbrev S16384x512 : Shape := ⟨2, ![16384, 512]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2x16384x128, .bf16⟩
  | .hbm, ⟨2, _⟩ => ⟨S16384x128, .bf16⟩
  | .hbm, ⟨3, _⟩ => ⟨S16384, .i32⟩
  | .hbm, ⟨4, _⟩ => ⟨S16384x1024, .f32⟩
  | .hbm, ⟨5, _⟩ => ⟨S16384x2x4x128, .f32⟩
  | .hbm, ⟨6, _⟩ => ⟨S16384x128, .f32⟩
  | .hbm, ⟨7, _⟩ => ⟨S16384x2x64, .f32⟩
  | .hbm, ⟨8, _⟩ => ⟨S2x16384x128, .f32⟩
  | .hbm, ⟨9, _⟩ => ⟨S2x16384x16384x4, .f32⟩
  | .hbm, ⟨10, _⟩ => ⟨S2x4x16384x16384, .f32⟩
  | .hbm, ⟨11, _⟩ => ⟨S_, .f32⟩
  | .hbm, ⟨12, _⟩ => ⟨S_, .f32⟩
  | .hbm, ⟨13, _⟩ => ⟨S2x4x16384x16384, .f32⟩
  | .hbm, ⟨14, _⟩ => ⟨S2x4x16384x16384, .f32⟩
  | .hbm, ⟨15, _⟩ => ⟨S1x16384, .i32⟩
  | .hbm, ⟨16, _⟩ => ⟨S16384x1, .i32⟩
  | .hbm, ⟨17, _⟩ => ⟨S16384x16384, .i32⟩
  | .hbm, ⟨18, _⟩ => ⟨S16384x16384, .i32⟩
  | .hbm, ⟨19, _⟩ => ⟨S16384x16384, .i1⟩
  | .hbm, ⟨20, _⟩ => ⟨S_, .f32⟩
  | .hbm, ⟨21, _⟩ => ⟨S_, .f32⟩
  | .hbm, ⟨22, _⟩ => ⟨S2x4x16384x16384, .i1⟩
  | .hbm, ⟨23, _⟩ => ⟨S2x4x16384x16384, .f32⟩
  | .hbm, ⟨24, _⟩ => ⟨S2x4x16384x16384, .f32⟩
  | .hbm, ⟨25, _⟩ => ⟨S_, .f32⟩
  | .hbm, ⟨26, _⟩ => ⟨S2x4x16384, .f32⟩
  | .hbm, ⟨27, _⟩ => ⟨S_, .f32⟩
  | .hbm, ⟨28, _⟩ => ⟨S2x4x16384, .f32⟩
  | .hbm, ⟨29, _⟩ => ⟨S2x4x16384, .f32⟩
  | .hbm, ⟨30, _⟩ => ⟨S2x4x16384x1, .f32⟩
  | .hbm, ⟨31, _⟩ => ⟨S2x4x16384x16384, .f32⟩
  | .hbm, ⟨32, _⟩ => ⟨S2x4x16384x16384, .f32⟩
  | .hbm, ⟨33, _⟩ => ⟨S2x4x16384x16384, .f32⟩
  | .hbm, ⟨34, _⟩ => ⟨S_, .f32⟩
  | .hbm, ⟨35, _⟩ => ⟨S2x4x16384, .f32⟩
  | .hbm, ⟨36, _⟩ => ⟨S2x4x16384x1, .f32⟩
  | .hbm, ⟨37, _⟩ => ⟨S2x4x16384x16384, .f32⟩
  | .hbm, ⟨38, _⟩ => ⟨S2x4x16384x16384, .f32⟩
  | .hbm, ⟨39, _⟩ => ⟨S2x64x4x16384, .f32⟩
  | .hbm, ⟨40, _⟩ => ⟨S16384x2x4x64, .f32⟩
  | .hbm, ⟨41, _⟩ => ⟨S16384x512, .f32⟩
  | .hbm, ⟨42, _⟩ => ⟨S16384x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Project.lean ====
abbrev S16384x1024 : Shape := ⟨2, ![16384, 1024]⟩
abbrev S1024 : Shape := ⟨1, ![1024]⟩
abbrev S1024x1544 : Shape := ⟨2, ![1024, 1544]⟩
abbrev S8 : Shape := ⟨1, ![8]⟩
abbrev S128 : Shape := ⟨1, ![128]⟩
abbrev S_ : Shape := ⟨0, ![]⟩
abbrev S1024x120 : Shape := ⟨2, ![1024, 120]⟩
abbrev S1024x1664 : Shape := ⟨2, ![1024, 1664]⟩
abbrev S120 : Shape := ⟨1, ![120]⟩
abbrev S1x128 : Shape := ⟨2, ![1, 128]⟩
abbrev S16384 : Shape := ⟨1, ![16384]⟩
abbrev S1x1024 : Shape := ⟨2, ![1, 1024]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S128x1 : Shape := ⟨2, ![128, 1]⟩
abbrev S16384x128 : Shape := ⟨2, ![16384, 128]⟩
abbrev S16384x512 : Shape := ⟨2, ![16384, 512]⟩
abbrev S16384x8 : Shape := ⟨2, ![16384, 8]⟩
abbrev S512x1024 : Shape := ⟨2, ![512, 1024]⟩
abbrev S512x128 : Shape := ⟨2, ![512, 128]⟩
abbrev S512x512 : Shape := ⟨2, ![512, 512]⟩
abbrev S512x8 : Shape := ⟨2, ![512, 8]⟩
abbrev S512 : Shape := ⟨1, ![512]⟩
abbrev S512x1 : Shape := ⟨2, ![512, 1]⟩
abbrev S512x1664 : Shape := ⟨2, ![512, 1664]⟩

abbrev nBuf : Space → Nat
  | .hbm => 82
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1544, .f32⟩
  | .hbm, ⟨3, _⟩ => ⟨S8, .f32⟩
  | .hbm, ⟨4, _⟩ => ⟨S128, .i32⟩
  | .hbm, ⟨5, _⟩ => ⟨S128, .i1⟩
  | .hbm, ⟨6, _⟩ => ⟨S128, .i1⟩
  | .hbm, ⟨7, _⟩ => ⟨S128, .i32⟩
  | .hbm, ⟨8, _⟩ => ⟨S_, .f32⟩
  | .hbm, ⟨9, _⟩ => ⟨S1024x120, .f32⟩
  | .hbm, ⟨10, _⟩ => ⟨S1024x1664, .f32⟩
  | .hbm, ⟨11, _⟩ => ⟨S1024x1664, .bf16⟩
  | .hbm, ⟨12, _⟩ => ⟨S_, .f32⟩
  | .hbm, ⟨13, _⟩ => ⟨S120, .f32⟩
  | .hbm, ⟨14, _⟩ => ⟨S128, .f32⟩
  | .hbm, ⟨15, _⟩ => ⟨S1x128, .f32⟩
  | .hbm, ⟨16, _⟩ => ⟨S16384, .i32⟩
  | .hbm, ⟨17, _⟩ => ⟨S1x1024, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S16384, .f32⟩
  | .hbm, ⟨27, _⟩ => ⟨S16384x1, .f32⟩
  | .hbm, ⟨28, _⟩ => ⟨S1x32, .f32⟩
  | .hbm, ⟨29, _⟩ => ⟨S16384x32, .f32⟩
  | .hbm, ⟨30, _⟩ => ⟨S16384x32, .f32⟩
  | .hbm, ⟨31, _⟩ => ⟨S16384x32, .f32⟩
  | .hbm, ⟨32, _⟩ => ⟨S16384x32, .f32⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S128x1, .i32⟩
  | .hbm, ⟨38, _⟩ => ⟨S16384x128, .f32⟩
  | .hbm, ⟨39, _⟩ => ⟨S16384x32, .f32⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S128, .i32⟩
  | .hbm, ⟨44, _⟩ => ⟨S128x1, .i32⟩
  | .hbm, ⟨45, _⟩ => ⟨S16384x128, .f32⟩
  | .hbm, ⟨46, _⟩ => ⟨S1x128, .i32⟩
  | .hbm, ⟨47, _⟩ => ⟨S_, .i32⟩
  | .hbm, ⟨48, _⟩ => ⟨S1x128, .i32⟩
  | .hbm, ⟨49, _⟩ => ⟨S1x128, .i1⟩
  | .hbm, ⟨50, _⟩ => ⟨S_, .f32⟩
  | .hbm, ⟨51, _⟩ => ⟨S_, .f32⟩
  | .hbm, ⟨52, _⟩ => ⟨S16384x128, .i1⟩
  | .hbm, ⟨53, _⟩ => ⟨S16384x128, .f32⟩
  | .hbm, ⟨54, _⟩ => ⟨S16384x128, .f32⟩
  | .hbm, ⟨55, _⟩ => ⟨S_, .i32⟩
  | .hbm, ⟨56, _⟩ => ⟨S1x128, .i32⟩
  | .hbm, ⟨57, _⟩ => ⟨S1x128, .i1⟩
  | .hbm, ⟨58, _⟩ => ⟨S16384x128, .f32⟩
  | .hbm, ⟨59, _⟩ => ⟨S_, .f32⟩
  | .hbm, ⟨60, _⟩ => ⟨S_, .f32⟩
  | .hbm, ⟨61, _⟩ => ⟨S16384x128, .i1⟩
  | .hbm, ⟨62, _⟩ => ⟨S16384x128, .f32⟩
  | .hbm, ⟨63, _⟩ => ⟨S16384x128, .f32⟩
  | .hbm, ⟨64, _⟩ => ⟨S_, .i32⟩
  | .hbm, ⟨65, _⟩ => ⟨S1x128, .i32⟩
  | .hbm, ⟨66, _⟩ => ⟨S1x128, .i1⟩
  | .hbm, ⟨67, _⟩ => ⟨S_, .f32⟩
  | .hbm, ⟨68, _⟩ => ⟨S_, .f32⟩
  | .hbm, ⟨69, _⟩ => ⟨S16384x128, .i1⟩
  | .hbm, ⟨70, _⟩ => ⟨S16384x128, .f32⟩
  | .hbm, ⟨71, _⟩ => ⟨S16384x128, .f32⟩
  | .hbm, ⟨72, _⟩ => ⟨S16384x512, .bf16⟩
  | .hbm, ⟨73, _⟩ => ⟨S16384x128, .f32⟩
  | .hbm, ⟨74, _⟩ => ⟨S16384x128, .f32⟩
  | .hbm, ⟨75, _⟩ => ⟨S16384x512, .bf16⟩
  | .hbm, ⟨76, _⟩ => ⟨S16384x128, .f32⟩
  | .hbm, ⟨77, _⟩ => ⟨S16384x128, .f32⟩
  | .hbm, ⟨78, _⟩ => ⟨S16384x8, .f32⟩
  | .hbm, ⟨79, _⟩ => ⟨S16384x8, .bf16⟩
  | .hbm, ⟨80, _⟩ => ⟨S16384x8, .bf16⟩
  | .hbm, ⟨81, _⟩ => ⟨S16384x8, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1664, .bf16⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x512, .bf16⟩
  | .local _ .vmem, ⟨12, _⟩ => ⟨S512x512, .bf16⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x512, .bf16⟩
  | .local _ .vmem, ⟨18, _⟩ => ⟨S512x512, .bf16⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x8, .f32⟩
  | .local _ .vmem, ⟨24, _⟩ => ⟨S512x8, .f32⟩
  | .local _ .vmem, ⟨25, _⟩ => ⟨S512x8, .bf16⟩
  | .local _ .vmem, ⟨26, _⟩ => ⟨S512x8, .bf16⟩
  | .local _ .vmem, ⟨27, _⟩ => ⟨S512x8, .bf16⟩
  | .local _ .vmem, ⟨28, _⟩ => ⟨S512x8, .bf16⟩
  | .local _ .vmem, ⟨29, _⟩ => ⟨S512x8, .bf16⟩
  | .local _ .vmem, ⟨30, _⟩ => ⟨S512x8, .bf16⟩
  | .local _ .vmem, ⟨31, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_3 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩
abbrev main_cst_5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v35 : Ref sig .tc := ⟨.hbm, 54, rfl⟩
abbrev main_c_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v39 : Ref sig .tc := ⟨.hbm, 63, rfl⟩
abbrev main_c_12 : Ref sig .tc := ⟨.hbm, 64, rfl⟩
abbrev main_v40 : Ref sig .tc := ⟨.hbm, 65, rfl⟩
abbrev main_v41 : Ref sig .tc := ⟨.hbm, 66, rfl⟩
abbrev main_cst_13 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v42 : Ref sig .tc := ⟨.hbm, 71, rfl⟩
abbrev main_v43_0 : Ref sig .tc := ⟨.hbm, 72, rfl⟩
abbrev main_v43_1 : Ref sig .tc := ⟨.hbm, 73, rfl⟩
abbrev main_v43_2 : Ref sig .tc := ⟨.hbm, 74, rfl⟩
abbrev main_v43_3 : Ref sig .tc := ⟨.hbm, 75, rfl⟩
abbrev main_v43_4 : Ref sig .tc := ⟨.hbm, 76, rfl⟩
abbrev main_v43_5 : Ref sig .tc := ⟨.hbm, 77, rfl⟩
abbrev main_v43_6 : Ref sig .tc := ⟨.hbm, 78, rfl⟩
abbrev main_v43_7 : Ref sig .tc := ⟨.hbm, 79, rfl⟩
abbrev main_v43_8 : Ref sig .tc := ⟨.hbm, 80, rfl⟩
abbrev main_v43_9 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x8 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x8 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x8 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjectReferenceIdeal.lean ====
abbrev S16384x1024 : Shape := ⟨2, ![16384, 1024]⟩
abbrev S1024 : Shape := ⟨1, ![1024]⟩
abbrev S1024x1544 : Shape := ⟨2, ![1024, 1544]⟩
abbrev S8 : Shape := ⟨1, ![8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1544 : Shape := ⟨2, ![16384, 1544]⟩
abbrev S16384x128 : Shape := ⟨2, ![16384, 128]⟩
abbrev S16384x8 : Shape := ⟨2, ![16384, 8]⟩
abbrev S1x8 : Shape := ⟨2, ![1, 8]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1544, .f32⟩
  | .hbm, ⟨3, _⟩ => ⟨S8, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1544, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S16384x8, .f32⟩
  | .hbm, ⟨25, _⟩ => ⟨S1x8, .f32⟩
  | .hbm, ⟨26, _⟩ => ⟨S16384x8, .f32⟩
  | .hbm, ⟨27, _⟩ => ⟨S16384x8, .f32⟩
  | .hbm, ⟨28, _⟩ => ⟨S16384x8, .f32⟩
  | .hbm, ⟨29, _⟩ => ⟨S_, .f32⟩
  | .hbm, ⟨30, _⟩ => ⟨S16384x8, .f32⟩
  | .hbm, ⟨31, _⟩ => ⟨S16384x8, .f32⟩
  | .hbm, ⟨32, _⟩ => ⟨S16384x8, .f32⟩
  | .hbm, ⟨33, _⟩ => ⟨S16384x8, .f32⟩
  | .hbm, ⟨34, _⟩ => ⟨S16384x8, .i1⟩
  | .hbm, ⟨35, _⟩ => ⟨S16384x8, .f32⟩
  | .hbm, ⟨36, _⟩ => ⟨S16384x8, .f32⟩
  | .hbm, ⟨37, _⟩ => ⟨S16384x8, .f32⟩
  | .hbm, ⟨38, _⟩ => ⟨S16384x8, .f32⟩
  | .hbm, ⟨39, _⟩ => ⟨S16384x8, .f32⟩
  | .hbm, ⟨40, _⟩ => ⟨S16384x8, .f32⟩
  | .hbm, ⟨41, _⟩ => ⟨S16384x8, .f32⟩
  | .hbm, ⟨42, _⟩ => ⟨S16384x8, .f32⟩
  | .hbm, ⟨43, _⟩ => ⟨S16384x8, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩

abbrev nD : Nat := 1
abbrev τ : Topo := Topo.v7x

variable {F : FTy → Type} [FloatOps F]
-- ==== Norm.lean ====
abbrev S16384x1024 : Shape := ⟨2, ![16384, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S16384x1024 : Shape := ⟨2, ![16384, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Joined.lean ====
abbrev S16384x1024 : Shape := ⟨2, ![16384, 1024]⟩
abbrev S16384x512 : Shape := ⟨2, ![16384, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== JoinedReferenceIdeal.lean ====
abbrev S16384x1024 : Shape := ⟨2, ![16384, 1024]⟩
abbrev S16384x512 : Shape := ⟨2, ![16384, 512]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S16384x1024, .bf16⟩
  | .hbm, ⟨5, _⟩ => ⟨S16384x1024, .f32⟩
  | .hbm, ⟨6, _⟩ => ⟨S16384x1024, .f32⟩
  | .hbm, ⟨7, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Added.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024x1024, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AddedReferenceIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Latent.lean ====
abbrev S16384x1024 : Shape := ⟨2, ![16384, 1024]⟩
abbrev S1024 : Shape := ⟨1, ![1024]⟩
abbrev S1024x512 : Shape := ⟨2, ![1024, 512]⟩
abbrev S512 : Shape := ⟨1, ![512]⟩
abbrev S512x1536 : Shape := ⟨2, ![512, 1536]⟩
abbrev S1024x288 : Shape := ⟨2, ![1024, 288]⟩
abbrev S256 : Shape := ⟨1, ![256]⟩
abbrev S256x16x64 : Shape := ⟨3, ![256, 16, 64]⟩
abbrev S128 : Shape := ⟨1, ![128]⟩
abbrev S16384 : Shape := ⟨1, ![16384]⟩
abbrev S512x16x96 : Shape := ⟨3, ![512, 16, 96]⟩
abbrev S_ : Shape := ⟨0, ![]⟩
abbrev S512x16x32 : Shape := ⟨3, ![512, 16, 32]⟩
abbrev S512x16x128 : Shape := ⟨3, ![512, 16, 128]⟩
abbrev S512x2048 : Shape := ⟨2, ![512, 2048]⟩
abbrev S1024x96 : Shape := ⟨2, ![1024, 96]⟩
abbrev S1024x384 : Shape := ⟨2, ![1024, 384]⟩
abbrev S256x16x128 : Shape := ⟨3, ![256, 16, 128]⟩
abbrev S32x64 : Shape := ⟨2, ![32, 64]⟩
abbrev S32x32 : Shape := ⟨2, ![32, 32]⟩
abbrev S32x128 : Shape := ⟨2, ![32, 128]⟩
abbrev S32x1x128 : Shape := ⟨3, ![32, 1, 128]⟩
abbrev S32x16x128 : Shape := ⟨3, ![32, 16, 128]⟩
abbrev S96x16x128 : Shape := ⟨3, ![96, 16, 128]⟩
abbrev S384x16x128 : Shape := ⟨3, ![384, 16, 128]⟩
abbrev S384x2048 : Shape := ⟨2, ![384, 2048]⟩
abbrev S256x1024 : Shape := ⟨2, ![256, 1024]⟩
abbrev S1x1024 : Shape := ⟨2, ![1, 1024]⟩
abbrev S1x512 : Shape := ⟨2, ![1, 512]⟩
abbrev S1x256 : Shape := ⟨2, ![1, 256]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S128x1 : Shape := ⟨2, ![128, 1]⟩
abbrev S16384x128 : Shape := ⟨2, ![16384, 128]⟩
abbrev S1x128 : Shape := ⟨2, ![1, 128]⟩
abbrev S16384x2048 : Shape := ⟨2, ![16384, 2048]⟩
abbrev S16384x256 : Shape := ⟨2, ![16384, 256]⟩
abbrev S16384x32 : Shape := ⟨2, ![16384, 32]⟩
abbrev S512x1024 : Shape := ⟨2, ![512, 1024]⟩
abbrev S512x128 : Shape := ⟨2, ![512, 128]⟩
abbrev S512x256 : Shape := ⟨2, ![512, 256]⟩
abbrev S512x32 : Shape := ⟨2, ![512, 32]⟩
abbrev S512x1 : Shape := ⟨2, ![512, 1]⟩
abbrev S512x512 : Shape := ⟨2, ![512, 512]⟩
abbrev S512x384 : Shape := ⟨2, ![512, 384]⟩

abbrev nBuf : Space → Nat
  | .hbm => 169
  | .vmem => 32
  | .smem => 0
  | _ => 0

abbrev hbmTy0_0 (i : Nat) : BufTy := match i % 128 with
  | 0 => ⟨S16384x1024, .f32⟩
  | 1 => ⟨S1024, .f32⟩
  | 2 => ⟨S1024x512, .f32⟩
  | 3 => ⟨S512, .f32⟩
  | 4 => ⟨S512x1536, .f32⟩
  | 5 => ⟨S1024x288, .f32⟩
  | 6 => ⟨S256, .f32⟩
  | 7 => ⟨S256x16x64, .f32⟩
  | 8 => ⟨S256x16x64, .f32⟩
  | 9 => ⟨S128, .i32⟩
  | 10 => ⟨S128, .i1⟩
  | 11 => ⟨S128, .i1⟩
  | 12 => ⟨S128, .i32⟩
  | 13 => ⟨S128, .i32⟩
  | 14 => ⟨S128, .i1⟩
  | 15 => ⟨S128, .i1⟩
  | 16 => ⟨S128, .i32⟩
  | 17 => ⟨S16384, .i32⟩
  | 18 => ⟨S512x16x96, .f32⟩
  | 19 => ⟨S_, .f32⟩
  | 20 => ⟨S512x16x32, .f32⟩
  | 21 => ⟨S512x16x128, .f32⟩
  | 22 => ⟨S512x2048, .f32⟩
  | 23 => ⟨S512x2048, .bf16⟩
  | 24 => ⟨S_, .f32⟩
  | 25 => ⟨S1024x96, .f32⟩
  | 26 => ⟨S1024x384, .f32⟩
  | 27 => ⟨S1024x384, .bf16⟩
  | 28 => ⟨S_, .f32⟩
  | 29 => ⟨S256x16x64, .f32⟩
  | 30 => ⟨S256x16x128, .f32⟩
  | 31 => ⟨S_, .f32⟩
  | 32 => ⟨S32x64, .f32⟩
  | 33 => ⟨S32x32, .i32⟩
  | 34 => ⟨S32x32, .i32⟩
  | 35 => ⟨S_, .i32⟩
  | 36 => ⟨S32x32, .i32⟩
  | 37 => ⟨S32x32, .i32⟩
  | 38 => ⟨S32x32, .i1⟩
  | 39 => ⟨S32x32, .f32⟩
  | 40 => ⟨S_, .f32⟩
  | 41 => ⟨S32x32, .f32⟩
  | 42 => ⟨S32x128, .f32⟩
  | 43 => ⟨S32x1x128, .f32⟩
  | 44 => ⟨S32x16x128, .f32⟩
  | 45 => ⟨S_, .f32⟩
  | 46 => ⟨S96x16x128, .f32⟩
  | 47 => ⟨S384x16x128, .f32⟩
  | 48 => ⟨S384x2048, .f32⟩
  | 49 => ⟨S384x2048, .bf16⟩
  | 50 => ⟨S256x1024, .f32⟩
  | 51 => ⟨S256x1024, .bf16⟩
  | 52 => ⟨S1x1024, .f32⟩
  | 53 => ⟨S1024x512, .bf16⟩
  | 54 => ⟨S1x512, .f32⟩
  | 55 => ⟨S1x256, .f32⟩
  | 56 => ⟨S16, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S16384, .f32⟩
  | 65 => ⟨S16384x1, .f32⟩
  | 66 => ⟨S1x16, .f32⟩
  | 67 => ⟨S16384x16, .f32⟩
  | 68 => ⟨S16384x16, .f32⟩
  | 69 => ⟨S16384x16, .f32⟩
  | 70 => ⟨S16384x16, .f32⟩
  | 71 => ⟨S_, .i32⟩
  | 72 => ⟨S128, .i32⟩
  | 73 => ⟨S128, .i32⟩
  | 74 => ⟨S128, .i32⟩
  | 75 => ⟨S128x1, .i32⟩
  | 76 => ⟨S16384x128, .f32⟩
  | 77 => ⟨S16384x16, .f32⟩
  | 78 => ⟨S_, .i32⟩
  | 79 => ⟨S128, .i32⟩
  | 80 => ⟨S128, .i32⟩
  | 81 => ⟨S128, .i32⟩
  | 82 => ⟨S128x1, .i32⟩
  | 83 => ⟨S16384x128, .f32⟩
  | 84 => ⟨S1x128, .i32⟩
  | 85 => ⟨S_, .i32⟩
  | 86 => ⟨S1x128, .i32⟩
  | 87 => ⟨S1x128, .i1⟩
  | 88 => ⟨S_, .f32⟩
  | 89 => ⟨S_, .f32⟩
  | 90 => ⟨S16384x128, .i1⟩
  | 91 => ⟨S16384x128, .f32⟩
  | 92 => ⟨S16384x128, .f32⟩
  | 93 => ⟨S_, .i32⟩
  | 94 => ⟨S1x128, .i32⟩
  | 95 => ⟨S1x128, .i1⟩
  | 96 => ⟨S16384x128, .f32⟩
  | 97 => ⟨S_, .f32⟩
  | 98 => ⟨S_, .f32⟩
  | 99 => ⟨S16384x128, .i1⟩
  | 100 => ⟨S16384x128, .f32⟩
  | 101 => ⟨S16384x128, .f32⟩
  | 102 => ⟨S_, .i32⟩
  | 103 => ⟨S1x128, .i32⟩
  | 104 => ⟨S1x128, .i1⟩
  | 105 => ⟨S_, .f32⟩
  | 106 => ⟨S_, .f32⟩
  | 107 => ⟨S16384x128, .i1⟩
  | 108 => ⟨S16384x128, .f32⟩
  | 109 => ⟨S16384x128, .f32⟩
  | 110 => ⟨S16, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S16384, .f32⟩
  | 119 => ⟨S16384x1, .f32⟩
  | 120 => ⟨S1x16, .f32⟩
  | 121 => ⟨S16384x16, .f32⟩
  | 122 => ⟨S16384x16, .f32⟩
  | 123 => ⟨S16384x16, .f32⟩
  | 124 => ⟨S16384x16, .f32⟩
  | 125 => ⟨S_, .i32⟩
  | 126 => ⟨S128, .i32⟩
  | 127 => ⟨S128, .i32⟩
  | _ => ⟨S16384x1024, .f32⟩

abbrev hbmTy0_1 (i : Nat) : BufTy := match i % 128 with
  | 0 => ⟨S128, .i32⟩
  | 1 => ⟨S128x1, .i32⟩
  | 2 => ⟨S16384x128, .f32⟩
  | 3 => ⟨S16384x16, .f32⟩
  | 4 => ⟨S_, .i32⟩
  | 5 => ⟨S128, .i32⟩
  | 6 => ⟨S128, .i32⟩
  | 7 => ⟨S128, .i32⟩
  | 8 => ⟨S128x1, .i32⟩
  | 9 => ⟨S16384x128, .f32⟩
  | 10 => ⟨S1x128, .i32⟩
  | 11 => ⟨S_, .i32⟩
  | 12 => ⟨S1x128, .i32⟩
  | 13 => ⟨S1x128, .i1⟩
  | 14 => ⟨S_, .f32⟩
  | 15 => ⟨S_, .f32⟩
  | 16 => ⟨S16384x128, .i1⟩
  | 17 => ⟨S16384x128, .f32⟩
  | 18 => ⟨S16384x128, .f32⟩
  | 19 => ⟨S_, .i32⟩
  | 20 => ⟨S1x128, .i32⟩
  | 21 => ⟨S1x128, .i1⟩
  | 22 => ⟨S16384x128, .f32⟩
  | 23 => ⟨S_, .f32⟩
  | 24 => ⟨S_, .f32⟩
  | 25 => ⟨S16384x128, .i1⟩
  | 26 => ⟨S16384x128, .f32⟩
  | 27 => ⟨S16384x128, .f32⟩
  | 28 => ⟨S_, .i32⟩
  | 29 => ⟨S1x128, .i32⟩
  | 30 => ⟨S1x128, .i1⟩
  | 31 => ⟨S_, .f32⟩
  | 32 => ⟨S_, .f32⟩
  | 33 => ⟨S16384x128, .i1⟩
  | 34 => ⟨S16384x128, .f32⟩
  | 35 => ⟨S16384x128, .f32⟩
  | 36 => ⟨S16384x2048, .bf16⟩
  | 37 => ⟨S16384x256, .f32⟩
  | 38 => ⟨S16384x32, .f32⟩
  | 39 => ⟨S16384x2048, .bf16⟩
  | 40 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1x512, .f32⟩
  | .local _ .vmem, ⟨5, _⟩ => ⟨S512x2048, .bf16⟩
  | .local _ .vmem, ⟨6, _⟩ => ⟨S1024x384, .bf16⟩
  | .local _ .vmem, ⟨7, _⟩ => ⟨S1x256, .f32⟩
  | .local _ .vmem, ⟨8, _⟩ => ⟨S384x2048, .bf16⟩
  | .local _ .vmem, ⟨9, _⟩ => ⟨S256x1024, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x2048, .bf16⟩
  | .local _ .vmem, ⟨23, _⟩ => ⟨S512x2048, .bf16⟩
  | .local _ .vmem, ⟨24, _⟩ => ⟨S512x256, .f32⟩
  | .local _ .vmem, ⟨25, _⟩ => ⟨S512x256, .f32⟩
  | .local _ .vmem, ⟨26, _⟩ => ⟨S512x32, .f32⟩
  | .local _ .vmem, ⟨27, _⟩ => ⟨S512x32, .f32⟩
  | .local _ .vmem, ⟨28, _⟩ => ⟨S512x2048, .bf16⟩
  | .local _ .vmem, ⟨29, _⟩ => ⟨S512x2048, .bf16⟩
  | .local _ .vmem, ⟨30, _⟩ => ⟨S512x1024, .bf16⟩
  | .local _ .vmem, ⟨31, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_c_5 : Ref sig .tc := ⟨.hbm, 15, rfl⟩
abbrev main_c_6 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_7 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_8 : Ref sig .tc := ⟨.hbm, 28, rfl⟩
abbrev main_v9 : Ref sig .tc := ⟨.hbm, 29, rfl⟩
abbrev main_v10 : Ref sig .tc := ⟨.hbm, 30, rfl⟩
abbrev main_cst_9 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_10 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_11 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_12 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_13 : Ref sig .tc := ⟨.hbm, 58, rfl⟩
abbrev main_v34 : Ref sig .tc := ⟨.hbm, 59, rfl⟩
abbrev main_v35 : Ref sig .tc := ⟨.hbm, 60, rfl⟩
abbrev main_cst_14 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_15 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_16 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_17 : Ref sig .tc := ⟨.hbm, 85, rfl⟩
abbrev main_v57 : Ref sig .tc := ⟨.hbm, 86, rfl⟩
abbrev main_v58 : Ref sig .tc := ⟨.hbm, 87, rfl⟩
abbrev main_cst_18 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_v59 : Ref sig .tc := ⟨.hbm, 92, rfl⟩
abbrev main_c_19 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_20 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v63 : Ref sig .tc := ⟨.hbm, 101, rfl⟩
abbrev main_c_21 : Ref sig .tc := ⟨.hbm, 102, rfl⟩
abbrev main_v64 : Ref sig .tc := ⟨.hbm, 103, rfl⟩
abbrev main_v65 : Ref sig .tc := ⟨.hbm, 104, rfl⟩
abbrev main_cst_22 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_23 : Ref sig .tc := ⟨.hbm, 112, rfl⟩
abbrev main_v69 : Ref sig .tc := ⟨.hbm, 113, rfl⟩
abbrev main_v70 : Ref sig .tc := ⟨.hbm, 114, rfl⟩
abbrev main_cst_24 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_25 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_c_26 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_c_27 : Ref sig .tc := ⟨.hbm, 139, rfl⟩
abbrev main_v92 : Ref sig .tc := ⟨.hbm, 140, rfl⟩
abbrev main_v93 : Ref sig .tc := ⟨.hbm, 141, rfl⟩
abbrev main_cst_28 : Ref sig .tc := ⟨.hbm, 142, rfl⟩
abbrev main_call3_v0 : Ref sig .tc := ⟨.hbm, 143, rfl⟩
abbrev main_call3_v1 : Ref sig .tc := ⟨.hbm, 144, rfl⟩
abbrev main_call3_v2 : Ref sig .tc := ⟨.hbm, 145, rfl⟩
abbrev main_v94 : Ref sig .tc := ⟨.hbm, 146, rfl⟩
abbrev main_c_29 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_cst_30 : Ref sig .tc := ⟨.hbm, 151, rfl⟩
abbrev main_call4_v0 : Ref sig .tc := ⟨.hbm, 152, rfl⟩
abbrev main_call4_v1 : Ref sig .tc := ⟨.hbm, 153, rfl⟩
abbrev main_call4_v2 : Ref sig .tc := ⟨.hbm, 154, rfl⟩
abbrev main_v98 : Ref sig .tc := ⟨.hbm, 155, rfl⟩
abbrev main_c_31 : Ref sig .tc := ⟨.hbm, 156, rfl⟩
abbrev main_v99 : Ref sig .tc := ⟨.hbm, 157, rfl⟩
abbrev main_v100 : Ref sig .tc := ⟨.hbm, 158, rfl⟩
abbrev main_cst_32 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_v101 : Ref sig .tc := ⟨.hbm, 163, rfl⟩
abbrev main_v102_0 : Ref sig .tc := ⟨.hbm, 164, rfl⟩
abbrev main_v102_1 : Ref sig .tc := ⟨.hbm, 165, rfl⟩
abbrev main_v102_2 : Ref sig .tc := ⟨.hbm, 166, rfl⟩
abbrev main_v102_3 : Ref sig .tc := ⟨.hbm, 167, rfl⟩
abbrev main_v102_4 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== LatentReferenceIdeal.lean ====
abbrev S16384x1024 : Shape := ⟨2, ![16384, 1024]⟩
abbrev S1024 : Shape := ⟨1, ![1024]⟩
abbrev S1024x512 : Shape := ⟨2, ![1024, 512]⟩
abbrev S512 : Shape := ⟨1, ![512]⟩
abbrev S512x1536 : Shape := ⟨2, ![512, 1536]⟩
abbrev S1024x288 : Shape := ⟨2, ![1024, 288]⟩
abbrev S256 : Shape := ⟨1, ![256]⟩
abbrev S256x16x64 : Shape := ⟨3, ![256, 16, 64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x288 : Shape := ⟨2, ![16384, 288]⟩
abbrev S16384x256 : Shape := ⟨2, ![16384, 256]⟩
abbrev S1x256 : Shape := ⟨2, ![1, 256]⟩
abbrev S16384x16x64 : Shape := ⟨3, ![16384, 16, 64]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x512, .f32⟩
  | .hbm, ⟨3, _⟩ => ⟨S512, .f32⟩
  | .hbm, ⟨4, _⟩ => ⟨S512x1536, .f32⟩
  | .hbm, ⟨5, _⟩ => ⟨S1024x288, .f32⟩
  | .hbm, ⟨6, _⟩ => ⟨S256, .f32⟩
  | .hbm, ⟨7, _⟩ => ⟨S256x16x64, .f32⟩
  | .hbm, ⟨8, _⟩ => ⟨S256x16x64, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x288, .f32⟩
  | .hbm, ⟨26, _⟩ => ⟨S16384x256, .f32⟩
  | .hbm, ⟨27, _⟩ => ⟨S16384x256, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x256, .f32⟩
  | .hbm, ⟨39, _⟩ => ⟨S16384x256, .f32⟩
  | .hbm, ⟨40, _⟩ => ⟨S1x256, .f32⟩
  | .hbm, ⟨41, _⟩ => ⟨S16384x256, .f32⟩
  | .hbm, ⟨42, _⟩ => ⟨S16384x256, .f32⟩
  | .hbm, ⟨43, _⟩ => ⟨S16384x16x64, .f32⟩
  | .hbm, ⟨44, _⟩ => ⟨S16384x1024, .f32⟩
  | .hbm, ⟨45, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== NormSample.lean ====
abbrev S128x1024 : Shape := ⟨2, ![128, 1024]⟩
abbrev S1024 : Shape := ⟨1, ![1024]⟩
abbrev S1x1024 : Shape := ⟨2, ![1, 1024]⟩
abbrev S128 : Shape := ⟨1, ![128]⟩
abbrev S128x1 : Shape := ⟨2, ![128, 1]⟩

abbrev nBuf : Space → Nat
  | .hbm => 4
  | .vmem => 3
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1x1024, .f32⟩
  | .hbm, ⟨3, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormSampleReferenceIdeal.lean ====
abbrev S128x1024 : Shape := ⟨2, ![128, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S128x1024, .f32⟩
  | .hbm, ⟨3, _⟩ => ⟨S_, .f32⟩
  | .hbm, ⟨4, _⟩ => ⟨S128, .f32⟩
  | .hbm, ⟨5, _⟩ => ⟨S128x1, .f32⟩
  | .hbm, ⟨6, _⟩ => ⟨S_, .f32⟩
  | .hbm, ⟨7, _⟩ => ⟨S128x1, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S128x1, .f32⟩
  | .hbm, ⟨13, _⟩ => ⟨S128x1024, .f32⟩
  | .hbm, ⟨14, _⟩ => ⟨S128x1024, .f32⟩
  | .hbm, ⟨15, _⟩ => ⟨S1x1024, .f32⟩
  | .hbm, ⟨16, _⟩ => ⟨S128x1024, .f32⟩
  | .hbm, ⟨17, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ProjectSample.lean ====
abbrev S128x1024 : Shape := ⟨2, ![128, 1024]⟩
abbrev S1024 : Shape := ⟨1, ![1024]⟩
abbrev S1024x1544 : Shape := ⟨2, ![1024, 1544]⟩
abbrev S8 : Shape := ⟨1, ![8]⟩
abbrev S128 : Shape := ⟨1, ![128]⟩
abbrev S_ : Shape := ⟨0, ![]⟩
abbrev S1024x120 : Shape := ⟨2, ![1024, 120]⟩
abbrev S1024x1664 : Shape := ⟨2, ![1024, 1664]⟩
abbrev S120 : Shape := ⟨1, ![120]⟩
abbrev S1x128 : Shape := ⟨2, ![1, 128]⟩
abbrev S1x1024 : Shape := ⟨2, ![1, 1024]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x128 : Shape := ⟨2, ![128, 128]⟩
abbrev S128x512 : Shape := ⟨2, ![128, 512]⟩
abbrev S128x8 : Shape := ⟨2, ![128, 8]⟩
abbrev S128x1664 : Shape := ⟨2, ![128, 1664]⟩

abbrev nBuf : Space → Nat
  | .hbm => 83
  | .vmem => 18
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x1544, .f32⟩
  | .hbm, ⟨3, _⟩ => ⟨S8, .f32⟩
  | .hbm, ⟨4, _⟩ => ⟨S128, .i32⟩
  | .hbm, ⟨5, _⟩ => ⟨S128, .i1⟩
  | .hbm, ⟨6, _⟩ => ⟨S128, .i1⟩
  | .hbm, ⟨7, _⟩ => ⟨S128, .i32⟩
  | .hbm, ⟨8, _⟩ => ⟨S_, .f32⟩
  | .hbm, ⟨9, _⟩ => ⟨S1024x120, .f32⟩
  | .hbm, ⟨10, _⟩ => ⟨S1024x1664, .f32⟩
  | .hbm, ⟨11, _⟩ => ⟨S1024x1664, .bf16⟩
  | .hbm, ⟨12, _⟩ => ⟨S_, .f32⟩
  | .hbm, ⟨13, _⟩ => ⟨S120, .f32⟩
  | .hbm, ⟨14, _⟩ => ⟨S128, .f32⟩
  | .hbm, ⟨15, _⟩ => ⟨S1x128, .f32⟩
  | .hbm, ⟨16, _⟩ => ⟨S1x1024, .f32⟩
  | .hbm, ⟨17, _⟩ => ⟨S_, .i32⟩
  | .hbm, ⟨18, _⟩ => ⟨S128, .i32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S128, .f32⟩
  | .hbm, ⟨28, _⟩ => ⟨S128x1, .f32⟩
  | .hbm, ⟨29, _⟩ => ⟨S1x32, .f32⟩
  | .hbm, ⟨30, _⟩ => ⟨S128x32, .f32⟩
  | .hbm, ⟨31, _⟩ => ⟨S128x32, .f32⟩
  | .hbm, ⟨32, _⟩ => ⟨S128x32, .f32⟩
  | .hbm, ⟨33, _⟩ => ⟨S128x32, .f32⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S128, .i32⟩
  | .hbm, ⟨38, _⟩ => ⟨S128x1, .i32⟩
  | .hbm, ⟨39, _⟩ => ⟨S128x128, .f32⟩
  | .hbm, ⟨40, _⟩ => ⟨S128x32, .f32⟩
  | .hbm, ⟨41, _⟩ => ⟨S_, .i32⟩
  | .hbm, ⟨42, _⟩ => ⟨S128, .i32⟩
  | .hbm, ⟨43, _⟩ => ⟨S128, .i32⟩
  | .hbm, ⟨44, _⟩ => ⟨S128, .i32⟩
  | .hbm, ⟨45, _⟩ => ⟨S128x1, .i32⟩
  | .hbm, ⟨46, _⟩ => ⟨S128x128, .f32⟩
  | .hbm, ⟨47, _⟩ => ⟨S1x128, .i32⟩
  | .hbm, ⟨48, _⟩ => ⟨S_, .i32⟩
  | .hbm, ⟨49, _⟩ => ⟨S1x128, .i32⟩
  | .hbm, ⟨50, _⟩ => ⟨S1x128, .i1⟩
  | .hbm, ⟨51, _⟩ => ⟨S_, .f32⟩
  | .hbm, ⟨52, _⟩ => ⟨S_, .f32⟩
  | .hbm, ⟨53, _⟩ => ⟨S128x128, .i1⟩
  | .hbm, ⟨54, _⟩ => ⟨S128x128, .f32⟩
  | .hbm, ⟨55, _⟩ => ⟨S128x128, .f32⟩
  | .hbm, ⟨56, _⟩ => ⟨S_, .i32⟩
  | .hbm, ⟨57, _⟩ => ⟨S1x128, .i32⟩
  | .hbm, ⟨58, _⟩ => ⟨S1x128, .i1⟩
  | .hbm, ⟨59, _⟩ => ⟨S128x128, .f32⟩
  | .hbm, ⟨60, _⟩ => ⟨S_, .f32⟩
  | .hbm, ⟨61, _⟩ => ⟨S_, .f32⟩
  | .hbm, ⟨62, _⟩ => ⟨S128x128, .i1⟩
  | .hbm, ⟨63, _⟩ => ⟨S128x128, .f32⟩
  | .hbm, ⟨64, _⟩ => ⟨S128x128, .f32⟩
  | .hbm, ⟨65, _⟩ => ⟨S_, .i32⟩
  | .hbm, ⟨66, _⟩ => ⟨S1x128, .i32⟩
  | .hbm, ⟨67, _⟩ => ⟨S1x128, .i1⟩
  | .hbm, ⟨68, _⟩ => ⟨S_, .f32⟩
  | .hbm, ⟨69, _⟩ => ⟨S_, .f32⟩
  | .hbm, ⟨70, _⟩ => ⟨S128x128, .i1⟩
  | .hbm, ⟨71, _⟩ => ⟨S128x128, .f32⟩
  | .hbm, ⟨72, _⟩ => ⟨S128x128, .f32⟩
  | .hbm, ⟨73, _⟩ => ⟨S128x512, .bf16⟩
  | .hbm, ⟨74, _⟩ => ⟨S128x128, .f32⟩
  | .hbm, ⟨75, _⟩ => ⟨S128x128, .f32⟩
  | .hbm, ⟨76, _⟩ => ⟨S128x512, .bf16⟩
  | .hbm, ⟨77, _⟩ => ⟨S128x128, .f32⟩
  | .hbm, ⟨78, _⟩ => ⟨S128x128, .f32⟩
  | .hbm, ⟨79, _⟩ => ⟨S128x8, .f32⟩
  | .hbm, ⟨80, _⟩ => ⟨S128x8, .bf16⟩
  | .hbm, ⟨81, _⟩ => ⟨S128x8, .bf16⟩
  | .hbm, ⟨82, _⟩ => ⟨S128x8, .bf16⟩
  | .local _ .vmem, ⟨0, _⟩ => ⟨S128x1024, .f32⟩
  | .local _ .vmem, ⟨1, _⟩ => ⟨S1x1024, .f32⟩
  | .local _ .vmem, ⟨2, _⟩ => ⟨S1024x1664, .bf16⟩
  | .local _ .vmem, ⟨3, _⟩ => ⟨S1x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x512, .bf16⟩
  | .local _ .vmem, ⟨8, _⟩ => ⟨S128x128, .f32⟩
  | .local _ .vmem, ⟨9, _⟩ => ⟨S128x128, .f32⟩
  | .local _ .vmem, ⟨10, _⟩ => ⟨S128x512, .bf16⟩
  | .local _ .vmem, ⟨11, _⟩ => ⟨S128x128, .f32⟩
  | .local _ .vmem, ⟨12, _⟩ => ⟨S128x128, .f32⟩
  | .local _ .vmem, ⟨13, _⟩ => ⟨S128x8, .f32⟩
  | .local _ .vmem, ⟨14, _⟩ => ⟨S128x8, .bf16⟩
  | .local _ .vmem, ⟨15, _⟩ => ⟨S128x8, .bf16⟩
  | .local _ .vmem, ⟨16, _⟩ => ⟨S128x8, .bf16⟩
  | .local _ .vmem, ⟨17, _⟩ => ⟨S1x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_3 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_5 : Ref sig .tc := ⟨.hbm, 21, rfl⟩
abbrev main_v10 : Ref sig .tc := ⟨.hbm, 22, rfl⟩
abbrev main_v11 : Ref sig .tc := ⟨.hbm, 23, rfl⟩
abbrev main_cst_6 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v35 : Ref sig .tc := ⟨.hbm, 55, rfl⟩
abbrev main_c_11 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_12 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v39 : Ref sig .tc := ⟨.hbm, 64, rfl⟩
abbrev main_c_13 : Ref sig .tc := ⟨.hbm, 65, rfl⟩
abbrev main_v40 : Ref sig .tc := ⟨.hbm, 66, rfl⟩
abbrev main_v41 : Ref sig .tc := ⟨.hbm, 67, rfl⟩
abbrev main_cst_14 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v42 : Ref sig .tc := ⟨.hbm, 72, rfl⟩
abbrev main_v43_0 : Ref sig .tc := ⟨.hbm, 73, rfl⟩
abbrev main_v43_1 : Ref sig .tc := ⟨.hbm, 74, rfl⟩
abbrev main_v43_2 : Ref sig .tc := ⟨.hbm, 75, rfl⟩
abbrev main_v43_3 : Ref sig .tc := ⟨.hbm, 76, rfl⟩
abbrev main_v43_4 : Ref sig .tc := ⟨.hbm, 77, rfl⟩
abbrev main_v43_5 : Ref sig .tc := ⟨.hbm, 78, rfl⟩
abbrev main_v43_6 : Ref sig .tc := ⟨.hbm, 79, rfl⟩
abbrev main_v43_7 : Ref sig .tc := ⟨.hbm, 80, rfl⟩
abbrev main_v43_8 : Ref sig .tc := ⟨.hbm, 81, rfl⟩
abbrev main_v43_9 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x8 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x8 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x8 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== ProjectSampleReferenceIdeal.lean ====
abbrev S128x1024 : Shape := ⟨2, ![128, 1024]⟩
abbrev S1024 : Shape := ⟨1, ![1024]⟩
abbrev S1024x1544 : Shape := ⟨2, ![1024, 1544]⟩
abbrev S8 : Shape := ⟨1, ![8]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x1544 : Shape := ⟨2, ![128, 1544]⟩
abbrev S128x128 : Shape := ⟨2, ![128, 128]⟩
abbrev S128x8 : Shape := ⟨2, ![128, 8]⟩
abbrev S1x8 : Shape := ⟨2, ![1, 8]⟩

abbrev nBuf : Space → Nat
  | .hbm => 44
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x1544, .f32⟩
  | .hbm, ⟨3, _⟩ => ⟨S8, .f32⟩
  | .hbm, ⟨4, _⟩ => ⟨S128x1024, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x1024, .f32⟩
  | .hbm, ⟨16, _⟩ => ⟨S128x1024, .f32⟩
  | .hbm, ⟨17, _⟩ => ⟨S1x1024, .f32⟩
  | .hbm, ⟨18, _⟩ => ⟨S128x1024, .f32⟩
  | .hbm, ⟨19, _⟩ => ⟨S128x1024, .f32⟩
  | .hbm, ⟨20, _⟩ => ⟨S128x1544, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x8, .f32⟩
  | .hbm, ⟨25, _⟩ => ⟨S1x8, .f32⟩
  | .hbm, ⟨26, _⟩ => ⟨S128x8, .f32⟩
  | .hbm, ⟨27, _⟩ => ⟨S128x8, .f32⟩
  | .hbm, ⟨28, _⟩ => ⟨S128x8, .f32⟩
  | .hbm, ⟨29, _⟩ => ⟨S_, .f32⟩
  | .hbm, ⟨30, _⟩ => ⟨S128x8, .f32⟩
  | .hbm, ⟨31, _⟩ => ⟨S128x8, .f32⟩
  | .hbm, ⟨32, _⟩ => ⟨S128x8, .f32⟩
  | .hbm, ⟨33, _⟩ => ⟨S128x8, .f32⟩
  | .hbm, ⟨34, _⟩ => ⟨S128x8, .i1⟩
  | .hbm, ⟨35, _⟩ => ⟨S128x8, .f32⟩
  | .hbm, ⟨36, _⟩ => ⟨S128x8, .f32⟩
  | .hbm, ⟨37, _⟩ => ⟨S128x8, .f32⟩
  | .hbm, ⟨38, _⟩ => ⟨S128x8, .f32⟩
  | .hbm, ⟨39, _⟩ => ⟨S128x8, .f32⟩
  | .hbm, ⟨40, _⟩ => ⟨S128x8, .f32⟩
  | .hbm, ⟨41, _⟩ => ⟨S128x8, .f32⟩
  | .hbm, ⟨42, _⟩ => ⟨S128x8, .f32⟩
  | .hbm, ⟨43, _⟩ => ⟨S128x8, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩

abbrev nD : Nat := 1
abbrev τ : Topo := Topo.v7x

variable {F : FTy → Type} [FloatOps F]
-- ==== LatentSample.lean ====
abbrev S128x1024 : Shape := ⟨2, ![128, 1024]⟩
abbrev S1024 : Shape := ⟨1, ![1024]⟩
abbrev S1024x512 : Shape := ⟨2, ![1024, 512]⟩
abbrev S512 : Shape := ⟨1, ![512]⟩
abbrev S512x1536 : Shape := ⟨2, ![512, 1536]⟩
abbrev S1024x288 : Shape := ⟨2, ![1024, 288]⟩
abbrev S256 : Shape := ⟨1, ![256]⟩
abbrev S256x16x64 : Shape := ⟨3, ![256, 16, 64]⟩
abbrev S128 : Shape := ⟨1, ![128]⟩
abbrev S_ : Shape := ⟨0, ![]⟩
abbrev S512x16x96 : Shape := ⟨3, ![512, 16, 96]⟩
abbrev S512x16x32 : Shape := ⟨3, ![512, 16, 32]⟩
abbrev S512x16x128 : Shape := ⟨3, ![512, 16, 128]⟩
abbrev S512x2048 : Shape := ⟨2, ![512, 2048]⟩
abbrev S1024x96 : Shape := ⟨2, ![1024, 96]⟩
abbrev S1024x384 : Shape := ⟨2, ![1024, 384]⟩
abbrev S256x16x128 : Shape := ⟨3, ![256, 16, 128]⟩
abbrev S32x64 : Shape := ⟨2, ![32, 64]⟩
abbrev S32x32 : Shape := ⟨2, ![32, 32]⟩
abbrev S32x128 : Shape := ⟨2, ![32, 128]⟩
abbrev S32x1x128 : Shape := ⟨3, ![32, 1, 128]⟩
abbrev S32x16x128 : Shape := ⟨3, ![32, 16, 128]⟩
abbrev S96x16x128 : Shape := ⟨3, ![96, 16, 128]⟩
abbrev S384x16x128 : Shape := ⟨3, ![384, 16, 128]⟩
abbrev S384x2048 : Shape := ⟨2, ![384, 2048]⟩
abbrev S256x1024 : Shape := ⟨2, ![256, 1024]⟩
abbrev S1x1024 : Shape := ⟨2, ![1, 1024]⟩
abbrev S1x512 : Shape := ⟨2, ![1, 512]⟩
abbrev S1x256 : Shape := ⟨2, ![1, 256]⟩
abbrev S16 : Shape := ⟨1, ![16]⟩
abbrev S128x1 : Shape := ⟨2, ![128, 1]⟩
abbrev S1x16 : Shape := ⟨2, ![1, 16]⟩
abbrev S128x16 : Shape := ⟨2, ![128, 16]⟩
abbrev S128x128 : Shape := ⟨2, ![128, 128]⟩
abbrev S1x128 : Shape := ⟨2, ![1, 128]⟩
abbrev S128x2048 : Shape := ⟨2, ![128, 2048]⟩
abbrev S128x256 : Shape := ⟨2, ![128, 256]⟩
abbrev S128x32 : Shape := ⟨2, ![128, 32]⟩
abbrev S128x512 : Shape := ⟨2, ![128, 512]⟩
abbrev S128x384 : Shape := ⟨2, ![128, 384]⟩

abbrev nBuf : Space → Nat
  | .hbm => 170
  | .vmem => 20
  | .smem => 0
  | _ => 0

abbrev hbmTy0_0 (i : Nat) : BufTy := match i % 128 with
  | 0 => ⟨S128x1024, .f32⟩
  | 1 => ⟨S1024, .f32⟩
  | 2 => ⟨S1024x512, .f32⟩
  | 3 => ⟨S512, .f32⟩
  | 4 => ⟨S512x1536, .f32⟩
  | 5 => ⟨S1024x288, .f32⟩
  | 6 => ⟨S256, .f32⟩
  | 7 => ⟨S256x16x64, .f32⟩
  | 8 => ⟨S256x16x64, .f32⟩
  | 9 => ⟨S128, .i32⟩
  | 10 => ⟨S128, .i1⟩
  | 11 => ⟨S128, .i1⟩
  | 12 => ⟨S128, .i32⟩
  | 13 => ⟨S128, .i32⟩
  | 14 => ⟨S128, .i1⟩
  | 15 => ⟨S128, .i1⟩
  | 16 => ⟨S128, .i32⟩
  | 17 => ⟨S_, .i32⟩
  | 18 => ⟨S128, .i32⟩
  | 19 => ⟨S512x16x96, .f32⟩
  | 20 => ⟨S_, .f32⟩
  | 21 => ⟨S512x16x32, .f32⟩
  | 22 => ⟨S512x16x128, .f32⟩
  | 23 => ⟨S512x2048, .f32⟩
  | 24 => ⟨S512x2048, .bf16⟩
  | 25 => ⟨S_, .f32⟩
  | 26 => ⟨S1024x96, .f32⟩
  | 27 => ⟨S1024x384, .f32⟩
  | 28 => ⟨S1024x384, .bf16⟩
  | 29 => ⟨S_, .f32⟩
  | 30 => ⟨S256x16x64, .f32⟩
  | 31 => ⟨S256x16x128, .f32⟩
  | 32 => ⟨S_, .f32⟩
  | 33 => ⟨S32x64, .f32⟩
  | 34 => ⟨S32x32, .i32⟩
  | 35 => ⟨S32x32, .i32⟩
  | 36 => ⟨S_, .i32⟩
  | 37 => ⟨S32x32, .i32⟩
  | 38 => ⟨S32x32, .i32⟩
  | 39 => ⟨S32x32, .i1⟩
  | 40 => ⟨S32x32, .f32⟩
  | 41 => ⟨S_, .f32⟩
  | 42 => ⟨S32x32, .f32⟩
  | 43 => ⟨S32x128, .f32⟩
  | 44 => ⟨S32x1x128, .f32⟩
  | 45 => ⟨S32x16x128, .f32⟩
  | 46 => ⟨S_, .f32⟩
  | 47 => ⟨S96x16x128, .f32⟩
  | 48 => ⟨S384x16x128, .f32⟩
  | 49 => ⟨S384x2048, .f32⟩
  | 50 => ⟨S384x2048, .bf16⟩
  | 51 => ⟨S256x1024, .f32⟩
  | 52 => ⟨S256x1024, .bf16⟩
  | 53 => ⟨S1x1024, .f32⟩
  | 54 => ⟨S1024x512, .bf16⟩
  | 55 => ⟨S1x512, .f32⟩
  | 56 => ⟨S1x256, .f32⟩
  | 57 => ⟨S16, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S128, .f32⟩
  | 66 => ⟨S128x1, .f32⟩
  | 67 => ⟨S1x16, .f32⟩
  | 68 => ⟨S128x16, .f32⟩
  | 69 => ⟨S128x16, .f32⟩
  | 70 => ⟨S128x16, .f32⟩
  | 71 => ⟨S128x16, .f32⟩
  | 72 => ⟨S_, .i32⟩
  | 73 => ⟨S128, .i32⟩
  | 74 => ⟨S128, .i32⟩
  | 75 => ⟨S128, .i32⟩
  | 76 => ⟨S128x1, .i32⟩
  | 77 => ⟨S128x128, .f32⟩
  | 78 => ⟨S128x16, .f32⟩
  | 79 => ⟨S_, .i32⟩
  | 80 => ⟨S128, .i32⟩
  | 81 => ⟨S128, .i32⟩
  | 82 => ⟨S128, .i32⟩
  | 83 => ⟨S128x1, .i32⟩
  | 84 => ⟨S128x128, .f32⟩
  | 85 => ⟨S1x128, .i32⟩
  | 86 => ⟨S_, .i32⟩
  | 87 => ⟨S1x128, .i32⟩
  | 88 => ⟨S1x128, .i1⟩
  | 89 => ⟨S_, .f32⟩
  | 90 => ⟨S_, .f32⟩
  | 91 => ⟨S128x128, .i1⟩
  | 92 => ⟨S128x128, .f32⟩
  | 93 => ⟨S128x128, .f32⟩
  | 94 => ⟨S_, .i32⟩
  | 95 => ⟨S1x128, .i32⟩
  | 96 => ⟨S1x128, .i1⟩
  | 97 => ⟨S128x128, .f32⟩
  | 98 => ⟨S_, .f32⟩
  | 99 => ⟨S_, .f32⟩
  | 100 => ⟨S128x128, .i1⟩
  | 101 => ⟨S128x128, .f32⟩
  | 102 => ⟨S128x128, .f32⟩
  | 103 => ⟨S_, .i32⟩
  | 104 => ⟨S1x128, .i32⟩
  | 105 => ⟨S1x128, .i1⟩
  | 106 => ⟨S_, .f32⟩
  | 107 => ⟨S_, .f32⟩
  | 108 => ⟨S128x128, .i1⟩
  | 109 => ⟨S128x128, .f32⟩
  | 110 => ⟨S128x128, .f32⟩
  | 111 => ⟨S16, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S128, .f32⟩
  | 120 => ⟨S128x1, .f32⟩
  | 121 => ⟨S1x16, .f32⟩
  | 122 => ⟨S128x16, .f32⟩
  | 123 => ⟨S128x16, .f32⟩
  | 124 => ⟨S128x16, .f32⟩
  | 125 => ⟨S128x16, .f32⟩
  | 126 => ⟨S_, .i32⟩
  | 127 => ⟨S128, .i32⟩
  | _ => ⟨S128x1024, .f32⟩

abbrev hbmTy0_1 (i : Nat) : BufTy := match i % 128 with
  | 0 => ⟨S128, .i32⟩
  | 1 => ⟨S128, .i32⟩
  | 2 => ⟨S128x1, .i32⟩
  | 3 => ⟨S128x128, .f32⟩
  | 4 => ⟨S128x16, .f32⟩
  | 5 => ⟨S_, .i32⟩
  | 6 => ⟨S128, .i32⟩
  | 7 => ⟨S128, .i32⟩
  | 8 => ⟨S128, .i32⟩
  | 9 => ⟨S128x1, .i32⟩
  | 10 => ⟨S128x128, .f32⟩
  | 11 => ⟨S1x128, .i32⟩
  | 12 => ⟨S_, .i32⟩
  | 13 => ⟨S1x128, .i32⟩
  | 14 => ⟨S1x128, .i1⟩
  | 15 => ⟨S_, .f32⟩
  | 16 => ⟨S_, .f32⟩
  | 17 => ⟨S128x128, .i1⟩
  | 18 => ⟨S128x128, .f32⟩
  | 19 => ⟨S128x128, .f32⟩
  | 20 => ⟨S_, .i32⟩
  | 21 => ⟨S1x128, .i32⟩
  | 22 => ⟨S1x128, .i1⟩
  | 23 => ⟨S128x128, .f32⟩
  | 24 => ⟨S_, .f32⟩
  | 25 => ⟨S_, .f32⟩
  | 26 => ⟨S128x128, .i1⟩
  | 27 => ⟨S128x128, .f32⟩
  | 28 => ⟨S128x128, .f32⟩
  | 29 => ⟨S_, .i32⟩
  | 30 => ⟨S1x128, .i32⟩
  | 31 => ⟨S1x128, .i1⟩
  | 32 => ⟨S_, .f32⟩
  | 33 => ⟨S_, .f32⟩
  | 34 => ⟨S128x128, .i1⟩
  | 35 => ⟨S128x128, .f32⟩
  | 36 => ⟨S128x128, .f32⟩
  | 37 => ⟨S128x2048, .bf16⟩
  | 38 => ⟨S128x256, .f32⟩
  | 39 => ⟨S128x32, .f32⟩
  | 40 => ⟨S128x2048, .bf16⟩
  | 41 => ⟨S128x1024, .bf16⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S1x1024, .f32⟩
  | .local _ .vmem, ⟨2, _⟩ => ⟨S1024x512, .bf16⟩
  | .local _ .vmem, ⟨3, _⟩ => ⟨S1x512, .f32⟩
  | .local _ .vmem, ⟨4, _⟩ => ⟨S512x2048, .bf16⟩
  | .local _ .vmem, ⟨5, _⟩ => ⟨S1024x384, .bf16⟩
  | .local _ .vmem, ⟨6, _⟩ => ⟨S1x256, .f32⟩
  | .local _ .vmem, ⟨7, _⟩ => ⟨S384x2048, .bf16⟩
  | .local _ .vmem, ⟨8, _⟩ => ⟨S256x1024, .bf16⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x2048, .bf16⟩
  | .local _ .vmem, ⟨16, _⟩ => ⟨S128x256, .f32⟩
  | .local _ .vmem, ⟨17, _⟩ => ⟨S128x32, .f32⟩
  | .local _ .vmem, ⟨18, _⟩ => ⟨S128x2048, .bf16⟩
  | .local _ .vmem, ⟨19, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_c_5 : Ref sig .tc := ⟨.hbm, 15, rfl⟩
abbrev main_c_6 : Ref sig .tc := ⟨.hbm, 16, rfl⟩
abbrev main_c_7 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_8 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_9 : Ref sig .tc := ⟨.hbm, 29, rfl⟩
abbrev main_v9 : Ref sig .tc := ⟨.hbm, 30, rfl⟩
abbrev main_v10 : Ref sig .tc := ⟨.hbm, 31, rfl⟩
abbrev main_cst_10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_11 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_12 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_13 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_14 : Ref sig .tc := ⟨.hbm, 59, rfl⟩
abbrev main_v34 : Ref sig .tc := ⟨.hbm, 60, rfl⟩
abbrev main_v35 : Ref sig .tc := ⟨.hbm, 61, rfl⟩
abbrev main_cst_15 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_16 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_17 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_18 : Ref sig .tc := ⟨.hbm, 86, rfl⟩
abbrev main_v57 : Ref sig .tc := ⟨.hbm, 87, rfl⟩
abbrev main_v58 : Ref sig .tc := ⟨.hbm, 88, rfl⟩
abbrev main_cst_19 : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_v59 : Ref sig .tc := ⟨.hbm, 93, rfl⟩
abbrev main_c_20 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_21 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v63 : Ref sig .tc := ⟨.hbm, 102, rfl⟩
abbrev main_c_22 : Ref sig .tc := ⟨.hbm, 103, rfl⟩
abbrev main_v64 : Ref sig .tc := ⟨.hbm, 104, rfl⟩
abbrev main_v65 : Ref sig .tc := ⟨.hbm, 105, rfl⟩
abbrev main_cst_23 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_24 : Ref sig .tc := ⟨.hbm, 113, rfl⟩
abbrev main_v69 : Ref sig .tc := ⟨.hbm, 114, rfl⟩
abbrev main_v70 : Ref sig .tc := ⟨.hbm, 115, rfl⟩
abbrev main_cst_25 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_c_26 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_c_27 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_c_28 : Ref sig .tc := ⟨.hbm, 140, rfl⟩
abbrev main_v92 : Ref sig .tc := ⟨.hbm, 141, rfl⟩
abbrev main_v93 : Ref sig .tc := ⟨.hbm, 142, rfl⟩
abbrev main_cst_29 : Ref sig .tc := ⟨.hbm, 143, rfl⟩
abbrev main_call3_v0 : Ref sig .tc := ⟨.hbm, 144, rfl⟩
abbrev main_call3_v1 : Ref sig .tc := ⟨.hbm, 145, rfl⟩
abbrev main_call3_v2 : Ref sig .tc := ⟨.hbm, 146, rfl⟩
abbrev main_v94 : Ref sig .tc := ⟨.hbm, 147, rfl⟩
abbrev main_c_30 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_cst_31 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_v98 : Ref sig .tc := ⟨.hbm, 156, rfl⟩
abbrev main_c_32 : Ref sig .tc := ⟨.hbm, 157, rfl⟩
abbrev main_v99 : Ref sig .tc := ⟨.hbm, 158, rfl⟩
abbrev main_v100 : Ref sig .tc := ⟨.hbm, 159, rfl⟩
abbrev main_cst_33 : Ref sig .tc := ⟨.hbm, 160, rfl⟩
abbrev main_call5_v0 : Ref sig .tc := ⟨.hbm, 161, rfl⟩
abbrev main_call5_v1 : Ref sig .tc := ⟨.hbm, 162, rfl⟩
abbrev main_call5_v2 : Ref sig .tc := ⟨.hbm, 163, rfl⟩
abbrev main_v101 : Ref sig .tc := ⟨.hbm, 164, rfl⟩
abbrev main_v102_0 : Ref sig .tc := ⟨.hbm, 165, rfl⟩
abbrev main_v102_1 : Ref sig .tc := ⟨.hbm, 166, rfl⟩
abbrev main_v102_2 : Ref sig .tc := ⟨.hbm, 167, rfl⟩
abbrev main_v102_3 : Ref sig .tc := ⟨.hbm, 168, rfl⟩
abbrev main_v102_4 : Ref sig .tc := ⟨.hbm, 169, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x2048 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]
-- ==== LatentSampleReferenceIdeal.lean ====
abbrev S128x1024 : Shape := ⟨2, ![128, 1024]⟩
abbrev S1024 : Shape := ⟨1, ![1024]⟩
abbrev S1024x512 : Shape := ⟨2, ![1024, 512]⟩
abbrev S512 : Shape := ⟨1, ![512]⟩
abbrev S512x1536 : Shape := ⟨2, ![512, 1536]⟩
abbrev S1024x288 : Shape := ⟨2, ![1024, 288]⟩
abbrev S256 : Shape := ⟨1, ![256]⟩
abbrev S256x16x64 : Shape := ⟨3, ![256, 16, 64]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x288 : Shape := ⟨2, ![128, 288]⟩
abbrev S128x256 : Shape := ⟨2, ![128, 256]⟩
abbrev S1x256 : Shape := ⟨2, ![1, 256]⟩

abbrev nBuf : Space → Nat
  | .hbm => 43
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x512, .f32⟩
  | .hbm, ⟨3, _⟩ => ⟨S512, .f32⟩
  | .hbm, ⟨4, _⟩ => ⟨S512x1536, .f32⟩
  | .hbm, ⟨5, _⟩ => ⟨S1024x288, .f32⟩
  | .hbm, ⟨6, _⟩ => ⟨S256, .f32⟩
  | .hbm, ⟨7, _⟩ => ⟨S256x16x64, .f32⟩
  | .hbm, ⟨8, _⟩ => ⟨S256x16x64, .f32⟩
  | .hbm, ⟨9, _⟩ => ⟨S128x1024, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x1, .f32⟩
  | .hbm, ⟨20, _⟩ => ⟨S128x1024, .f32⟩
  | .hbm, ⟨21, _⟩ => ⟨S128x1024, .f32⟩
  | .hbm, ⟨22, _⟩ => ⟨S1x1024, .f32⟩
  | .hbm, ⟨23, _⟩ => ⟨S128x1024, .f32⟩
  | .hbm, ⟨24, _⟩ => ⟨S128x1024, .f32⟩
  | .hbm, ⟨25, _⟩ => ⟨S128x288, .f32⟩
  | .hbm, ⟨26, _⟩ => ⟨S128x256, .f32⟩
  | .hbm, ⟨27, _⟩ => ⟨S128x256, .f32⟩
  | .hbm, ⟨28, _⟩ => ⟨S_, .f32⟩
  | .hbm, ⟨29, _⟩ => ⟨S128, .f32⟩
  | .hbm, ⟨30, _⟩ => ⟨S128x1, .f32⟩
  | .hbm, ⟨31, _⟩ => ⟨S_, .f32⟩
  | .hbm, ⟨32, _⟩ => ⟨S128x1, .f32⟩
  | .hbm, ⟨33, _⟩ => ⟨S128x1, .f32⟩
  | .hbm, ⟨34, _⟩ => ⟨S_, .f32⟩
  | .hbm, ⟨35, _⟩ => ⟨S128x1, .f32⟩
  | .hbm, ⟨36, _⟩ => ⟨S128x1, .f32⟩
  | .hbm, ⟨37, _⟩ => ⟨S128x1, .f32⟩
  | .hbm, ⟨38, _⟩ => ⟨S128x256, .f32⟩
  | .hbm, ⟨39, _⟩ => ⟨S128x256, .f32⟩
  | .hbm, ⟨40, _⟩ => ⟨S1x256, .f32⟩
  | .hbm, ⟨41, _⟩ => ⟨S128x256, .f32⟩
  | .hbm, ⟨42, _⟩ => ⟨S128x256, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Proof.Chain.lean ====
/-
  One block of 512 queries and one tile of 512 keys: the operations that the kernel's body prints for them, named.

  The body works on four blocks of 512 queries side by side (two heads, two halves of the 1024 queries of a grid point)
  and carries three vectors for each: the largest score so far, the sum of the powers of two, and the weighted sum of
  the values. A tile of keys takes them a step on (`chain`). A trip of the body's loop takes each block two tiles on
  (`trip_eq`).
-/
module

public import proofs.«01_k».proof.Proof.Gen.KernelIdeal.Value

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F] [Named F]

/-- What is carried for a block of 512 queries: the largest score, the sum of powers, the weighted sum of values. -/
abbrev Carry (F : FTy → Type) [FloatOps F] := FVec F S1x512 .f32 × FVec F S1x512 .f32 × FVec F S64x512 .f32

/-- What is carried for the four blocks, as the loop carries it. -/
abbrev Carries (F : FTy → Type) [FloatOps F] := FVec F S1x512 .f32 × FVec F S1x512 .f32 × FVec F S64x512 .f32
  × FVec F S1x512 .f32 × FVec F S1x512 .f32 × FVec F S64x512 .f32
  × FVec F S1x512 .f32 × FVec F S1x512 .f32 × FVec F S64x512 .f32
  × FVec F S1x512 .f32 × FVec F S1x512 .f32 × FVec F S64x512 .f32

/-- The four blocks side by side. -/
def pack (a b c d : Carry F) : Carries F :=
  (a.1, a.2.1, a.2.2, b.1, b.2.1, b.2.2, c.1, c.2.1, c.2.2, d.1, d.2.1, d.2.2)

/-- Nothing seen yet. -/
def start : Carry F :=
  (broadcast S1x512 (Named.named κ "mask" 0xF149F2CA#32), broadcast S1x512 (Scalar.ofBits .f32 0x00000000#32),
    broadcast S64x512 (Scalar.ofBits .f32 0x00000000#32))

/-- The scores of a tile of 512 keys (rows) and the 512 queries (columns) from row `o` of the head's queries. -/
def scores (q : Vec F S1024x128 .bf16) (o : Fin 2 → ℕ) (ho : S1024x128.Slices o S512x128) (k : Vec F S1x512x128 .bf16) :
    FVec F S512x512 .f32 :=
  matmul dot_S512x128_S512x128_S512x512_1_1_0_0_n_n none (shapeCast S512x128 k shapeCasts_S1x512x128_S512x128)
    (extractStridedSlice S512x128 o q ho) (constant S512x512 .f32 0x00000000#32)

/-- The largest score after the tile `x`. -/
def newTop (x : FVec F S512x512 .f32) (m : FVec F S1x512 .f32) : FVec F S1x512 .f32 :=
  maximumf m (shapeCast S1x512 (multiReduction .maximumf [0] S512 x 0xFF800000#32 reduces_S512x512_S512 (.inl rfl) rfl)
    shapeCasts_S512_S1x512)

/-- The tile's powers of two. -/
def powers (x : FVec F S512x512 .f32) (m : FVec F S1x512 .f32) : FVec F S512x512 .f32 :=
  exp2 (subf x (broadcastTo S512x512 (newTop x m) broadcasts_S1x512_S512x512))

/-- The factor by which the sums so far are rescaled. -/
def scale (x : FVec F S512x512 .f32) (m : FVec F S1x512 .f32) : FVec F S1x512 .f32 := exp2 (subf m (newTop x m))

/-- The tile with scores `x` and values `v` taken into what is carried. -/
def chain (x : FVec F S512x512 .f32) (v : Vec F S64x512 .bf16) (s : Carry F) : Carry F :=
  (newTop x s.1,
    addf (mulf (scale x s.1) s.2.1) (shapeCast S1x512 (multiReduction .add [0] S512 (powers x s.1) 0x00000000#32
      reduces_S512x512_S512 (.inl rfl) rfl) shapeCasts_S512_S1x512),
    addf (mulf (broadcastTo S64x512 (scale x s.1) broadcasts_S1x512_S64x512) s.2.2)
      (matmul dot_S64x512_S512x512_S64x512_1_0_0_1_n_n none (shapeCast S64x512 v shapeCasts_S64x512_S64x512)
        (truncf .bf16 (powers x s.1) bitsLt_bf16_f32) (constant S64x512 .f32 0x00000000#32)))

/-- The first and the second half of a head's 1024 queries. -/
abbrev lo (q : Vec F S1024x128 .bf16) (k : Vec F S1x512x128 .bf16) := scores q ![0, 0] slices_S1024x128_o0_0_S512x128 k
abbrev hi (q : Vec F S1024x128 .bf16) (k : Vec F S1x512x128 .bf16) := scores q ![512, 0] slices_S1024x128_o512_0_S512x128 k

/-- The tile of keys that trip `k` of the loop loads for head `0`, its `r`-th. -/
abbrev key0 {a3 : Memref sig .tc .vmem S2x16384x128 .bf16} (X : BufTy.Contents (Elt F) a3.view.ty) (i : grid0.Coords)
    (k : Fin (k0_t1_loop i).trips) (r : Fin 2) : Vec F S1x512x128 .bf16 :=
  View.readAt (Elt F) a3.view (Rect.unit (s := S2x16384x128) (k0_off1 i k (BitVec.ofNat 32 r.val)) S1x512x128.size
    (k0_off1_inb i k r)).toLoadRect X
/-- The same for head `1`. -/
abbrev key1 {a3 : Memref sig .tc .vmem S2x16384x128 .bf16} (X : BufTy.Contents (Elt F) a3.view.ty) (i : grid0.Coords)
    (k : Fin (k0_t1_loop i).trips) (r : Fin 2) : Vec F S1x512x128 .bf16 :=
  View.readAt (Elt F) a3.view (Rect.unit (s := S2x16384x128) (k0_off2 i k (BitVec.ofNat 32 r.val)) S1x512x128.size
    (k0_off2_inb i k r)).toLoadRect X
/-- The tile of values that trip `k` of the loop loads for head `0`, its `r`-th. -/
abbrev val0 {a4 : Memref sig .tc .vmem S128x16384 .bf16} (X : BufTy.Contents (Elt F) a4.view.ty) (i : grid0.Coords)
    (k : Fin (k0_t1_loop i).trips) (r : Fin 2) : Vec F S64x512 .bf16 :=
  View.readAt (Elt F) a4.view (Rect.unit (s := S128x16384) (k0_off3 i k (BitVec.ofNat 32 r.val)) S64x512.size
    (k0_off3_inb i k r)).toLoadRect X
/-- The same for head `1`. -/
abbrev val1 {a4 : Memref sig .tc .vmem S128x16384 .bf16} (X : BufTy.Contents (Elt F) a4.view.ty) (i : grid0.Coords)
    (k : Fin (k0_t1_loop i).trips) (r : Fin 2) : Vec F S64x512 .bf16 :=
  View.readAt (Elt F) a4.view (Rect.unit (s := S128x16384) (k0_off4 i k (BitVec.ofNat 32 r.val)) S64x512.size
    (k0_off4_inb i k r)).toLoadRect X

set_option maxHeartbeats 2000000 in
/-- A trip of the loop takes each of the four blocks two tiles on. -/
theorem trip_eq (𝒱 : Variants) (cd : Dev nD) (bd : Option 𝒱.V) (i : grid0.Coords) (arg2 : Memref sig .tc .vmem S1024x256 .bf16) (harg2 : arg2.IsWhole) (arg3 : Memref sig .tc .vmem S2x16384x128 .bf16) (harg3 : arg3.IsWhole) (arg4 : Memref sig .tc .vmem S128x16384 .bf16) (harg4 : arg4.IsWhole) (arg5 : Memref sig .tc .vmem S1024x128 .bf16) (harg5 : arg5.IsWhole)
    (v17 : BitVec 32) (q0 q1 : Vec F S1024x128 .bf16) (v20 v21 : FVec F S1x512 .f32) (v22 : FVec F S64x512 .f32) (v23 v24 : FVec F S1x512 .f32) (v25 : FVec F S64x512 .f32) (v26 v27 : FVec F S1x512 .f32) (v28 : FVec F S64x512 .f32) (v29 v30 : FVec F S1x512 .f32) (v31 : FVec F S64x512 .f32) (c2_i32 v32 : BitVec 32)
    (X3 : BufTy.Contents (Elt F) arg3.view.ty) (X4 : BufTy.Contents (Elt F) arg4.view.ty) (k : Fin (k0_t1_loop i).trips) (a b c d : Carry F) :
    tripR_k0_t1 𝒱 cd bd i arg2 harg2 arg3 harg3 arg4 harg4 arg5 harg5 v17 q0 q1 v20 v21 v22 v23 v24 v25 v26 v27 v28 v29 v30 v31 c2_i32 v32 X3 X4 k (pack a b c d)
      = pack (chain (lo q0 (key0 X3 i k 1)) (val0 X4 i k 1) (chain (lo q0 (key0 X3 i k 0)) (val0 X4 i k 0) a))
          (chain (hi q0 (key0 X3 i k 1)) (val0 X4 i k 1) (chain (hi q0 (key0 X3 i k 0)) (val0 X4 i k 0) b))
          (chain (lo q1 (key1 X3 i k 1)) (val1 X4 i k 1) (chain (lo q1 (key1 X3 i k 0)) (val1 X4 i k 0) c))
          (chain (hi q1 (key1 X3 i k 1)) (val1 X4 i k 1) (chain (hi q1 (key1 X3 i k 0)) (val1 X4 i k 0) d)) := by
  unfold tripR_k0_t1 trip_k0_t1
  rfl

end Cert.KernelIdeal.Attn

end
-- ==== Proof.Body.lean ====
/-
  What the kernel's body leaves in its output block, written with the named operations of `Chain`: the loop takes each
  of the four blocks of queries to the tile its mask begins in, two masked tiles follow, and the weighted sum over the
  sum of powers is what is stored.
-/
module

public import proofs.«01_k».proof.Proof.Chain

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F] [Named F]

/-- The first query of a grid point. -/
def firstQuery (i : grid0.Coords) : BitVec 32 := Scalar.muli (BitVec.ofNat 32 (i 1).val) 1024#32

/-- The tile of keys in which the first query of a grid point lies: `firstQuery` over 512, rounded down. -/
def firstTile (i : grid0.Coords) : BitVec 32 :=
  Scalar.select
    (Scalar.andi
      (Scalar.cmpi .ne
        (Scalar.subi (Scalar.extui (Scalar.cmpi .sgt (firstQuery i) 0#32)) (Scalar.extui (Scalar.cmpi .slt (firstQuery i) 0#32)) : BitVec 32)
        (Scalar.subi (Scalar.extui (Scalar.cmpi .sgt 512#32 0#32)) (Scalar.extui (Scalar.cmpi .slt 512#32 0#32))))
      (Scalar.cmpi .ne (Scalar.remsi (firstQuery i) 512#32) 0#32))
    (Scalar.subi (Scalar.divsi (firstQuery i) 512#32) 1#32) (Scalar.divsi (firstQuery i) 512#32)

/-- The positions of the keys of masked tile `u`. -/
def keyPos (i : grid0.Coords) (u : BitVec 32) : IVec S512x512 32 :=
  addi (broadcast S512x512 (Scalar.muli (Scalar.addi (firstTile i) u) 512#32)) (iota .tc S512x512 32 [0] iota_S512x512_d0_w32)

/-- The places of the queries from row `o` in their grid point, before they are reduced modulo 1024. -/
def place (o : BitVec 32) : IVec S512x512 32 :=
  remsi (addi (broadcast S512x512 o) (iota .tc S512x512 32 [1] iota_S512x512_d1_w32))
    (broadcast S512x512 (Scalar.select (Scalar.cmpi .eq 1024#32 0#32) 1#32 1024#32))

/-- The positions of the queries from row `o` of a grid point. -/
def queryPos (i : grid0.Coords) (o : BitVec 32) : IVec S512x512 32 :=
  addi (broadcast S512x512 (firstQuery i))
    (select
      (andi
        (xori (cmpi .slt (place o) (broadcast S512x512 0#32))
          (broadcastTo S512x512 (broadcast S512x512 (Scalar.cmpi .slt (Scalar.select (Scalar.cmpi .eq 1024#32 0#32) 1#32 1024#32) 0#32))
            broadcasts_S512x512_S512x512))
        (cmpi .ne (place o) (broadcast S512x512 0#32)))
      (addi (place o) (broadcast S512x512 (Scalar.select (Scalar.cmpi .eq 1024#32 0#32) 1#32 1024#32)))
      (place o))

/-- The scores of masked tile `u` against the queries from row `o`: a key after the query counts as the mask's value. -/
def masked (i : grid0.Coords) (o u : BitVec 32) (x : FVec F S512x512 .f32) : FVec F S512x512 .f32 :=
  select (cmpi .sle (keyPos i u) (queryPos i o)) x (broadcast S512x512 (Named.named κ "mask" 0xF149F2CA#32))

/-- The masked tiles' keys and values, for head `0` and head `1`. -/
abbrev mkey0 {a3 : Memref sig .tc .vmem S2x16384x128 .bf16} (X : BufTy.Contents (Elt F) a3.view.ty) (i : grid0.Coords)
    (r : Fin 2) : Vec F S1x512x128 .bf16 :=
  View.readAt (Elt F) a3.view (Rect.unit (s := S2x16384x128) (k0_off9 i (BitVec.ofNat 32 r.val)) S1x512x128.size
    (k0_off9_inb i r)).toLoadRect X
abbrev mkey1 {a3 : Memref sig .tc .vmem S2x16384x128 .bf16} (X : BufTy.Contents (Elt F) a3.view.ty) (i : grid0.Coords)
    (r : Fin 2) : Vec F S1x512x128 .bf16 :=
  View.readAt (Elt F) a3.view (Rect.unit (s := S2x16384x128) (k0_off10 i (BitVec.ofNat 32 r.val)) S1x512x128.size
    (k0_off10_inb i r)).toLoadRect X
abbrev mval0 {a4 : Memref sig .tc .vmem S128x16384 .bf16} (X : BufTy.Contents (Elt F) a4.view.ty) (i : grid0.Coords)
    (r : Fin 2) : Vec F S64x512 .bf16 :=
  View.readAt (Elt F) a4.view (Rect.unit (s := S128x16384) (k0_off11 i (BitVec.ofNat 32 r.val)) S64x512.size
    (k0_off11_inb i r)).toLoadRect X
abbrev mval1 {a4 : Memref sig .tc .vmem S128x16384 .bf16} (X : BufTy.Contents (Elt F) a4.view.ty) (i : grid0.Coords)
    (r : Fin 2) : Vec F S64x512 .bf16 :=
  View.readAt (Elt F) a4.view (Rect.unit (s := S128x16384) (k0_off12 i (BitVec.ofNat 32 r.val)) S64x512.size
    (k0_off12_inb i r)).toLoadRect X

/-- A block's carry after its two masked tiles. -/
def finish (i : grid0.Coords) (o : BitVec 32) (x0 x1 : FVec F S512x512 .f32) (v0 v1 : Vec F S64x512 .bf16) (s : Carry F) :
    Carry F :=
  chain (masked i o 1#32 x1) v1 (chain (masked i o 0#32 x0) v0 s)

/-- The weighted sum of values over the sum of powers. -/
def quotient (s : Carry F) : FVec F S64x512 .f32 := divf s.2.2 (broadcastTo S64x512 s.2.1 broadcasts_S1x512_S64x512)

/-- What is stored for a head: its two blocks side by side, turned to rows of queries. -/
def stored (a b : Carry F) : Vec F S1024x64 .bf16 :=
  truncf .bf16 (transpose S1024x64 [1, 0]
    (concatenate S64x1024 1 [⟨S64x512, quotient a⟩, ⟨S64x512, quotient b⟩] concatenates_S64x512_S64x512_S64x1024_d1)
    transposes_S64x1024_p1_0_S1024x64) bitsLt_bf16_f32

/-- The four carries out of what the loop carries. -/
def un0 (L : Carries F) : Carry F := (L.1, L.2.1, L.2.2.1)
def un1 (L : Carries F) : Carry F := (L.2.2.2.1, L.2.2.2.2.1, L.2.2.2.2.2.1)
def un2 (L : Carries F) : Carry F := (L.2.2.2.2.2.2.1, L.2.2.2.2.2.2.2.1, L.2.2.2.2.2.2.2.2.1)
def un3 (L : Carries F) : Carry F := (L.2.2.2.2.2.2.2.2.2.1, L.2.2.2.2.2.2.2.2.2.2.1, L.2.2.2.2.2.2.2.2.2.2.2)

section
variable (cd : Dev nD) (i : grid0.Coords) (arg2 : Memref sig .tc .vmem S1024x256 .bf16) (harg2 : arg2.IsWhole) (arg3 : Memref sig .tc .vmem S2x16384x128 .bf16) (harg3 : arg3.IsWhole) (arg4 : Memref sig .tc .vmem S128x16384 .bf16) (harg4 : arg4.IsWhole) (arg5 : Memref sig .tc .vmem S1024x128 .bf16) (harg5 : arg5.IsWhole)
  (x0 : Vec F S1024x256 .bf16) (x1 : Vec F S2x16384x128 .bf16) (x2 : Vec F S128x16384 .bf16)

/-- The queries of head `0` and of head `1` in a block. -/
abbrev query0 : Vec F S1024x128 .bf16 :=
  View.readAt (Elt F) arg2.view (Rect.unit (s := S1024x256) ![0, 0] S1024x128.size inb_S1024x256_S1024x128_0_0).toLoadRect (harg2.unread x0)
abbrev query1 : Vec F S1024x128 .bf16 :=
  View.readAt (Elt F) arg2.view (Rect.unit (s := S1024x256) ![0, 128] S1024x128.size inb_S1024x256_S1024x128_0_128).toLoadRect (harg2.unread x0)

/-- What the first loop carries out. -/
def loop1 (v17 v32 : BitVec 32) : Carries F :=
  st_k0_t1 Variants.none cd none i arg2 harg2 arg3 harg3 arg4 harg4 arg5 harg5 v17 (query0 arg2 harg2 x0) (query1 arg2 harg2 x0)
    k0_pay99 k0_pay100 k0_pay101 k0_pay102 k0_pay103 k0_pay104 k0_pay105 k0_pay106 k0_pay107 k0_pay108 k0_pay109 k0_pay110
    2#32 v32 (harg3.unread x1) (harg4.unread x2)
    (k0_pay99, k0_pay100, k0_pay101, k0_pay102, k0_pay103, k0_pay104, k0_pay105, k0_pay106, k0_pay107, k0_pay108, k0_pay109, k0_pay110)
    (k0_t1_loop i).trips

/-- What the second loop carries out. -/
def loop2 (v17 v32 v53 : BitVec 32) : Carries F :=
  st_k0_t2 Variants.none cd none i arg2 harg2 arg3 harg3 arg4 harg4 arg5 harg5 v17 (query0 arg2 harg2 x0) (query1 arg2 harg2 x0)
    k0_pay99 k0_pay100 k0_pay101 k0_pay102 k0_pay103 k0_pay104 k0_pay105 k0_pay106 k0_pay107 k0_pay108 k0_pay109 k0_pay110
    2#32 v32 v53 (harg3.unread x1) (harg4.unread x2) (loop1 cd i arg2 harg2 arg3 harg3 arg4 harg4 arg5 harg5 x0 x1 x2 v17 v32)
    (k0_t2_loop i).trips

/-- What is stored for head `0` and for head `1`, from what the loops carry out. -/
def head0 (L : Carries F) : Vec F S1024x64 .bf16 :=
  stored (finish i 0#32 (lo (query0 arg2 harg2 x0) (mkey0 (harg3.unread x1) i 0)) (lo (query0 arg2 harg2 x0) (mkey0 (harg3.unread x1) i 1))
      (mval0 (harg4.unread x2) i 0) (mval0 (harg4.unread x2) i 1) (un0 L))
    (finish i 512#32 (hi (query0 arg2 harg2 x0) (mkey0 (harg3.unread x1) i 0)) (hi (query0 arg2 harg2 x0) (mkey0 (harg3.unread x1) i 1))
      (mval0 (harg4.unread x2) i 0) (mval0 (harg4.unread x2) i 1) (un1 L))
def head1 (L : Carries F) : Vec F S1024x64 .bf16 :=
  stored (finish i 0#32 (lo (query1 arg2 harg2 x0) (mkey1 (harg3.unread x1) i 0)) (lo (query1 arg2 harg2 x0) (mkey1 (harg3.unread x1) i 1))
      (mval1 (harg4.unread x2) i 0) (mval1 (harg4.unread x2) i 1) (un2 L))
    (finish i 512#32 (hi (query1 arg2 harg2 x0) (mkey1 (harg3.unread x1) i 0)) (hi (query1 arg2 harg2 x0) (mkey1 (harg3.unread x1) i 1))
      (mval1 (harg4.unread x2) i 0) (mval1 (harg4.unread x2) i 1) (un3 L))

/-- What the loops carry out, as the body names it. -/
def carried : Carries F :=
  loop2 cd i arg2 harg2 arg3 harg3 arg4 harg4 arg5 harg5 x0 x1 x2 (kernelRun0_A.sl.v17 i) (kernelRun0_A.sl.v32 i) (kernelRun0_A.sl.v53 i)

theorem carried0 : un0 (carried cd i arg2 harg2 arg3 harg3 arg4 harg4 arg5 harg5 x0 x1 x2)
    = (kernelRun0_A.sl.r_2 cd i arg2 harg2 arg3 harg3 arg4 harg4 arg5 harg5 x0 x1 x2,
        kernelRun0_A.sl.r_3 cd i arg2 harg2 arg3 harg3 arg4 harg4 arg5 harg5 x0 x1 x2,
        kernelRun0_A.sl.r_4 cd i arg2 harg2 arg3 harg3 arg4 harg4 arg5 harg5 x0 x1 x2) := by
  unfold kernelRun0_A.sl.r_2 kernelRun0_A.sl.r_3 kernelRun0_A.sl.r_4 kernelRun0_A.sl.r kernelRun0_A.sl.r_1 un0 carried loop2 loop1; dsimp only

theorem carried1 : un1 (carried cd i arg2 harg2 arg3 harg3 arg4 harg4 arg5 harg5 x0 x1 x2)
    = (kernelRun0_A.sl.r_5 cd i arg2 harg2 arg3 harg3 arg4 harg4 arg5 harg5 x0 x1 x2,
        kernelRun0_A.sl.r_6 cd i arg2 harg2 arg3 harg3 arg4 harg4 arg5 harg5 x0 x1 x2,
        kernelRun0_A.sl.r_7 cd i arg2 harg2 arg3 harg3 arg4 harg4 arg5 harg5 x0 x1 x2) := by
  unfold kernelRun0_A.sl.r_5 kernelRun0_A.sl.r_6 kernelRun0_A.sl.r_7 kernelRun0_A.sl.r kernelRun0_A.sl.r_1 un1 carried loop2 loop1; dsimp only

theorem carried2 : un2 (carried cd i arg2 harg2 arg3 harg3 arg4 harg4 arg5 harg5 x0 x1 x2)
    = (kernelRun0_A.sl.r_8 cd i arg2 harg2 arg3 harg3 arg4 harg4 arg5 harg5 x0 x1 x2,
        kernelRun0_A.sl.r_9 cd i arg2 harg2 arg3 harg3 arg4 harg4 arg5 harg5 x0 x1 x2,
        kernelRun0_A.sl.r_10 cd i arg2 harg2 arg3 harg3 arg4 harg4 arg5 harg5 x0 x1 x2) := by
  unfold kernelRun0_A.sl.r_8 kernelRun0_A.sl.r_9 kernelRun0_A.sl.r_10 kernelRun0_A.sl.r kernelRun0_A.sl.r_1 un2 carried loop2 loop1; dsimp only

theorem carried3 : un3 (carried cd i arg2 harg2 arg3 harg3 arg4 harg4 arg5 harg5 x0 x1 x2)
    = (kernelRun0_A.sl.r_11 cd i arg2 harg2 arg3 harg3 arg4 harg4 arg5 harg5 x0 x1 x2,
        kernelRun0_A.sl.r_12 cd i arg2 harg2 arg3 harg3 arg4 harg4 arg5 harg5 x0 x1 x2,
        kernelRun0_A.sl.r_13 cd i arg2 harg2 arg3 harg3 arg4 harg4 arg5 harg5 x0 x1 x2) := by
  unfold kernelRun0_A.sl.r_11 kernelRun0_A.sl.r_12 kernelRun0_A.sl.r_13 kernelRun0_A.sl.r kernelRun0_A.sl.r_1 un3 carried loop2 loop1; dsimp only

theorem first0 :
    (kernelRun0_A.sl.r_16 cd i arg2 harg2 arg3 harg3 arg4 harg4 arg5 harg5 x0 x1 x2,
      kernelRun0_A.sl.r_19 cd i arg2 harg2 arg3 harg3 arg4 harg4 arg5 harg5 x0 x1 x2,
      kernelRun0_A.sl.r_25 cd i arg2 harg2 arg3 harg3 arg4 harg4 arg5 harg5 x0 x1 x2)
    = chain (masked i 0#32 0#32 (lo (query0 arg2 harg2 x0) (mkey0 (harg3.unread x1) i 0))) (mval0 (harg4.unread x2) i 0)
        (un0 (carried cd i arg2 harg2 arg3 harg3 arg4 harg4 arg5 harg5 x0 x1 x2)) := by
  rw [carried0]
  unfold kernelRun0_A.sl.r_16 kernelRun0_A.sl.r_19 kernelRun0_A.sl.r_25 kernelRun0_A.sl.r_17 kernelRun0_A.sl.r_18 kernelRun0_A.sl.r_14
  generalize kernelRun0_A.sl.r_2 cd i arg2 harg2 arg3 harg3 arg4 harg4 arg5 harg5 x0 x1 x2 = m
  generalize kernelRun0_A.sl.r_3 cd i arg2 harg2 arg3 harg3 arg4 harg4 arg5 harg5 x0 x1 x2 = l
  generalize kernelRun0_A.sl.r_4 cd i arg2 harg2 arg3 harg3 arg4 harg4 arg5 harg5 x0 x1 x2 = a
  rfl

theorem second0 :
    (kernelRun0_A.sl.r_43 cd i arg2 harg2 arg3 harg3 arg4 harg4 arg5 harg5 x0 x1 x2,
      kernelRun0_A.sl.r_50 cd i arg2 harg2 arg3 harg3 arg4 harg4 arg5 harg5 x0 x1 x2)
    = (finish i 0#32 (lo (query0 arg2 harg2 x0) (mkey0 (harg3.unread x1) i 0)) (lo (query0 arg2 harg2 x0) (mkey0 (harg3.unread x1) i 1)) (mval0 (harg4.unread x2) i 0) (mval0 (harg4.unread x2) i 1)
        (un0 (carried cd i arg2 harg2 arg3 harg3 arg4 harg4 arg5 harg5 x0 x1 x2))).2 := by
  unfold finish
  rw [← first0]
  unfold kernelRun0_A.sl.r_43 kernelRun0_A.sl.r_50 kernelRun0_A.sl.r_41 kernelRun0_A.sl.r_42 kernelRun0_A.sl.r_32 kernelRun0_A.sl.r_40
  generalize kernelRun0_A.sl.r_16 cd i arg2 harg2 arg3 harg3 arg4 harg4 arg5 harg5 x0 x1 x2 = m
  generalize kernelRun0_A.sl.r_19 cd i arg2 harg2 arg3 harg3 arg4 harg4 arg5 harg5 x0 x1 x2 = l
  generalize kernelRun0_A.sl.r_25 cd i arg2 harg2 arg3 harg3 arg4 harg4 arg5 harg5 x0 x1 x2 = a
  rfl

theorem first1 :
    (kernelRun0_A.sl.r_21 cd i arg2 harg2 arg3 harg3 arg4 harg4 arg5 harg5 x0 x1 x2,
      kernelRun0_A.sl.r_24 cd i arg2 harg2 arg3 harg3 arg4 harg4 arg5 harg5 x0 x1 x2,
      kernelRun0_A.sl.r_31 cd i arg2 harg2 arg3 harg3 arg4 harg4 arg5 harg5 x0 x1 x2)
    = chain (masked i 512#32 0#32 (hi (query0 arg2 harg2 x0) (mkey0 (harg3.unread x1) i 0))) (mval0 (harg4.unread x2) i 0)
        (un1 (carried cd i arg2 harg2 arg3 harg3 arg4 harg4 arg5 harg5 x0 x1 x2)) := by
  rw [carried1]
  unfold kernelRun0_A.sl.r_21 kernelRun0_A.sl.r_24 kernelRun0_A.sl.r_31 kernelRun0_A.sl.r_22 kernelRun0_A.sl.r_23 kernelRun0_A.sl.r_15
  generalize kernelRun0_A.sl.r_5 cd i arg2 harg2 arg3 harg3 arg4 harg4 arg5 harg5 x0 x1 x2 = m
  generalize kernelRun0_A.sl.r_6 cd i arg2 harg2 arg3 harg3 arg4 harg4 arg5 harg5 x0 x1 x2 = l
  generalize kernelRun0_A.sl.r_7 cd i arg2 harg2 arg3 harg3 arg4 harg4 arg5 harg5 x0 x1 x2 = a
  rfl

theorem second1 :
    (kernelRun0_A.sl.r_49 cd i arg2 harg2 arg3 harg3 arg4 harg4 arg5 harg5 x0 x1 x2,
      kernelRun0_A.sl.r_56 cd i arg2 harg2 arg3 harg3 arg4 harg4 arg5 harg5 x0 x1 x2)
    = (finish i 512#32 (hi (query0 arg2 harg2 x0) (mkey0 (harg3.unread x1) i 0)) (hi (query0 arg2 harg2 x0) (mkey0 (harg3.unread x1) i 1)) (mval0 (harg4.unread x2) i 0) (mval0 (harg4.unread x2) i 1)
        (un1 (carried cd i arg2 harg2 arg3 harg3 arg4 harg4 arg5 harg5 x0 x1 x2))).2 := by
  unfold finish
  rw [← first1]
  unfold kernelRun0_A.sl.r_49 kernelRun0_A.sl.r_56 kernelRun0_A.sl.r_47 kernelRun0_A.sl.r_48 kernelRun0_A.sl.r_39 kernelRun0_A.sl.r_46
  generalize kernelRun0_A.sl.r_21 cd i arg2 harg2 arg3 harg3 arg4 harg4 arg5 harg5 x0 x1 x2 = m
  generalize kernelRun0_A.sl.r_24 cd i arg2 harg2 arg3 harg3 arg4 harg4 arg5 harg5 x0 x1 x2 = l
  generalize kernelRun0_A.sl.r_31 cd i arg2 harg2 arg3 harg3 arg4 harg4 arg5 harg5 x0 x1 x2 = a
  rfl

theorem first2 :
    (kernelRun0_A.sl.r_27 cd i arg2 harg2 arg3 harg3 arg4 harg4 arg5 harg5 x0 x1 x2,
      kernelRun0_A.sl.r_30 cd i arg2 harg2 arg3 harg3 arg4 harg4 arg5 harg5 x0 x1 x2,
      kernelRun0_A.sl.r_38 cd i arg2 harg2 arg3 harg3 arg4 harg4 arg5 harg5 x0 x1 x2)
    = chain (masked i 0#32 0#32 (lo (query1 arg2 harg2 x0) (mkey1 (harg3.unread x1) i 0))) (mval1 (harg4.unread x2) i 0)
        (un2 (carried cd i arg2 harg2 arg3 harg3 arg4 harg4 arg5 harg5 x0 x1 x2)) := by
  rw [carried2]
  unfold kernelRun0_A.sl.r_27 kernelRun0_A.sl.r_30 kernelRun0_A.sl.r_38 kernelRun0_A.sl.r_28 kernelRun0_A.sl.r_29 kernelRun0_A.sl.r_20
  generalize kernelRun0_A.sl.r_8 cd i arg2 harg2 arg3 harg3 arg4 harg4 arg5 harg5 x0 x1 x2 = m
  generalize kernelRun0_A.sl.r_9 cd i arg2 harg2 arg3 harg3 arg4 harg4 arg5 harg5 x0 x1 x2 = l
  generalize kernelRun0_A.sl.r_10 cd i arg2 harg2 arg3 harg3 arg4 harg4 arg5 harg5 x0 x1 x2 = a
  rfl

theorem second2 :
    (kernelRun0_A.sl.r_55 cd i arg2 harg2 arg3 harg3 arg4 harg4 arg5 harg5 x0 x1 x2,
      kernelRun0_A.sl.r_59 cd i arg2 harg2 arg3 harg3 arg4 harg4 arg5 harg5 x0 x1 x2)
    = (finish i 0#32 (lo (query1 arg2 harg2 x0) (mkey1 (harg3.unread x1) i 0)) (lo (query1 arg2 harg2 x0) (mkey1 (harg3.unread x1) i 1)) (mval1 (harg4.unread x2) i 0) (mval1 (harg4.unread x2) i 1)
        (un2 (carried cd i arg2 harg2 arg3 harg3 arg4 harg4 arg5 harg5 x0 x1 x2))).2 := by
  unfold finish
  rw [← first2]
  unfold kernelRun0_A.sl.r_55 kernelRun0_A.sl.r_59 kernelRun0_A.sl.r_53 kernelRun0_A.sl.r_54 kernelRun0_A.sl.r_45 kernelRun0_A.sl.r_52
  generalize kernelRun0_A.sl.r_27 cd i arg2 harg2 arg3 harg3 arg4 harg4 arg5 harg5 x0 x1 x2 = m
  generalize kernelRun0_A.sl.r_30 cd i arg2 harg2 arg3 harg3 arg4 harg4 arg5 harg5 x0 x1 x2 = l
  generalize kernelRun0_A.sl.r_38 cd i arg2 harg2 arg3 harg3 arg4 harg4 arg5 harg5 x0 x1 x2 = a
  rfl

theorem first3 :
    (kernelRun0_A.sl.r_33 cd i arg2 harg2 arg3 harg3 arg4 harg4 arg5 harg5 x0 x1 x2,
      kernelRun0_A.sl.r_37 cd i arg2 harg2 arg3 harg3 arg4 harg4 arg5 harg5 x0 x1 x2,
      kernelRun0_A.sl.r_44 cd i arg2 harg2 arg3 harg3 arg4 harg4 arg5 harg5 x0 x1 x2)
    = chain (masked i 512#32 0#32 (hi (query1 arg2 harg2 x0) (mkey1 (harg3.unread x1) i 0))) (mval1 (harg4.unread x2) i 0)
        (un3 (carried cd i arg2 harg2 arg3 harg3 arg4 harg4 arg5 harg5 x0 x1 x2)) := by
  rw [carried3]
  unfold kernelRun0_A.sl.r_37 kernelRun0_A.sl.r_44 kernelRun0_A.sl.r_35 kernelRun0_A.sl.r_36 kernelRun0_A.sl.r_34 kernelRun0_A.sl.r_33 kernelRun0_A.sl.r_26
  generalize kernelRun0_A.sl.r_11 cd i arg2 harg2 arg3 harg3 arg4 harg4 arg5 harg5 x0 x1 x2 = m
  generalize kernelRun0_A.sl.r_12 cd i arg2 harg2 arg3 harg3 arg4 harg4 arg5 harg5 x0 x1 x2 = l
  generalize kernelRun0_A.sl.r_13 cd i arg2 harg2 arg3 harg3 arg4 harg4 arg5 harg5 x0 x1 x2 = a
  rfl

theorem second3 :
    (kernelRun0_A.sl.r_58 cd i arg2 harg2 arg3 harg3 arg4 harg4 arg5 harg5 x0 x1 x2,
      kernelRun0_A.sl.r_60 cd i arg2 harg2 arg3 harg3 arg4 harg4 arg5 harg5 x0 x1 x2)
    = (finish i 512#32 (hi (query1 arg2 harg2 x0) (mkey1 (harg3.unread x1) i 0)) (hi (query1 arg2 harg2 x0) (mkey1 (harg3.unread x1) i 1)) (mval1 (harg4.unread x2) i 0) (mval1 (harg4.unread x2) i 1)
        (un3 (carried cd i arg2 harg2 arg3 harg3 arg4 harg4 arg5 harg5 x0 x1 x2))).2 := by
  unfold finish
  rw [← first3]
  unfold kernelRun0_A.sl.r_58 kernelRun0_A.sl.r_60 kernelRun0_A.sl.r_51 kernelRun0_A.sl.r_57
  generalize kernelRun0_A.sl.r_33 cd i arg2 harg2 arg3 harg3 arg4 harg4 arg5 harg5 x0 x1 x2 = m
  generalize kernelRun0_A.sl.r_37 cd i arg2 harg2 arg3 harg3 arg4 harg4 arg5 harg5 x0 x1 x2 = l
  generalize kernelRun0_A.sl.r_44 cd i arg2 harg2 arg3 harg3 arg4 harg4 arg5 harg5 x0 x1 x2 = a
  rfl

theorem head0_eq :
    k0_pay1 (kernelRun0_A.sl.r_61 cd i arg2 harg2 arg3 harg3 arg4 harg4 arg5 harg5 x0 x1 x2)
      = head0 i arg2 harg2 arg3 harg3 arg4 harg4 x0 x1 x2 (carried cd i arg2 harg2 arg3 harg3 arg4 harg4 arg5 harg5 x0 x1 x2) := by
  unfold head0 stored quotient kernelRun0_A.sl.r_61
  rw [← second0 cd i arg2 harg2 arg3 harg3 arg4 harg4 arg5 harg5 x0 x1 x2, ← second1 cd i arg2 harg2 arg3 harg3 arg4 harg4 arg5 harg5 x0 x1 x2]
  rfl

theorem head1_eq :
    k0_pay2 (kernelRun0_A.sl.r_55 cd i arg2 harg2 arg3 harg3 arg4 harg4 arg5 harg5 x0 x1 x2) (kernelRun0_A.sl.r_58 cd i arg2 harg2 arg3 harg3 arg4 harg4 arg5 harg5 x0 x1 x2)
        (kernelRun0_A.sl.r_59 cd i arg2 harg2 arg3 harg3 arg4 harg4 arg5 harg5 x0 x1 x2) (kernelRun0_A.sl.r_60 cd i arg2 harg2 arg3 harg3 arg4 harg4 arg5 harg5 x0 x1 x2)
      = head1 i arg2 harg2 arg3 harg3 arg4 harg4 x0 x1 x2 (carried cd i arg2 harg2 arg3 harg3 arg4 harg4 arg5 harg5 x0 x1 x2) := by
  unfold head1 stored quotient
  rw [← second2 cd i arg2 harg2 arg3 harg3 arg4 harg4 arg5 harg5 x0 x1 x2, ← second3 cd i arg2 harg2 arg3 harg3 arg4 harg4 arg5 harg5 x0 x1 x2]
  rfl

/-- The output block: the two heads beside each other. -/
theorem out_eq :
    out0_A_3 cd i arg2 harg2 arg3 harg3 arg4 harg4 arg5 harg5 x0 x1 x2
      = View.canon [⟨Rect.unit ![0, 64] ![1024, 64] inb_S1024x128_S1024x64_0_64,
            head1 i arg2 harg2 arg3 harg3 arg4 harg4 x0 x1 x2 (carried cd i arg2 harg2 arg3 harg3 arg4 harg4 arg5 harg5 x0 x1 x2)⟩,
          ⟨Rect.unit ![0, 0] ![1024, 64] inb_S1024x128_S1024x64_0_0,
            head0 i arg2 harg2 arg3 harg3 arg4 harg4 x0 x1 x2 (carried cd i arg2 harg2 arg3 harg3 arg4 harg4 arg5 harg5 x0 x1 x2)⟩] := by
  unfold out0_A_3
  rw [View.read_writes_eq_canon _ _ _ (cover0_A_3 cd _ _ _ _ _ _ _ _ _ _ _ _), ← head0_eq, ← head1_eq]
  unfold kernelRun0_A
  dsimp only
end

end Cert.KernelIdeal.Attn

end
-- ==== Proof.Tile.lean ====
/-
  The named operations of `Chain` and `Body` at the ideal numbers, entry by entry.
-/
module

public import proofs.«01_k».proof.Proof.Body
public import Idealize.ShloMosaic.Lib.Pointwise
public import Idealize.ShloMosaic.Lib.WordCmp

@[expose] public section

set_option maxRecDepth 16384

noncomputable section

namespace Cert.KernelIdeal.Attn

open Cert.KernelIdeal Cert.KernelIdeal.Gen Idealize.ShloMosaic Idealize.ShloMosaic.TcCoe Idealize.SL.Sem

theorem start_top (j : S1x512.Idx) : (start (F := Ideal)).1 j = ⊥ := rfl
theorem start_mass (j : S1x512.Idx) : (start (F := Ideal)).2.1 j = 0 := by
  exact Ideal.ofBits_zero_f32
theorem start_total (j : S64x512.Idx) : (start (F := Ideal)).2.2 j = 0 := by
  exact Ideal.ofBits_zero_f32

theorem scores_apply (q : Vec Ideal S1024x128 .bf16) (u : Fin 2) (hs : S1024x128.Slices ![512 * u.val, 0] S512x128)
    (k : Vec Ideal S1x512x128 .bf16) (a b : Fin 512) :
    scores q ![512 * u.val, 0] hs k (ix2 a b) = ∑ d : Fin 128, k (ix3 0 a d) * q (ix2 ⟨512 * u.val + b.val, by omega⟩ d) := by
  unfold scores
  pointwise

theorem newTop_apply (x : FVec Ideal S512x512 .f32) (m : FVec Ideal S1x512 .f32) (b : Fin 512) :
    newTop x m (ix2 0 b) = max (m (ix2 0 b)) (Finset.univ.fold max ⊥ fun a : Fin 512 => x (ix2 a b)) := by
  unfold newTop
  pointwise
  rw [show Ideal.ofBits FTy.f32 0xFF800000#32 = ⊥ by simp [Ideal.ofBits, Ideal.ieee]]

theorem powers_apply (x : FVec Ideal S512x512 .f32) (m : FVec Ideal S1x512 .f32) (a b : Fin 512) :
    powers x m (ix2 a b) = Ideal.exp2 (x (ix2 a b) - newTop x m (ix2 0 b)) := by
  unfold powers
  pointwise
  rfl

theorem scale_apply (x : FVec Ideal S512x512 .f32) (m : FVec Ideal S1x512 .f32) (b : Fin 512) :
    scale x m (ix2 0 b) = Ideal.exp2 (m (ix2 0 b) - newTop x m (ix2 0 b)) := by
  unfold scale
  pointwise
  rfl

theorem chain_mass (x : FVec Ideal S512x512 .f32) (v : Vec Ideal S64x512 .bf16) (s : Carry Ideal) (b : Fin 512) :
    (chain x v s).2.1 (ix2 0 b)
      = Ideal.exp2 (s.1 (ix2 0 b) - newTop x s.1 (ix2 0 b)) * s.2.1 (ix2 0 b)
        + ∑ a : Fin 512, Ideal.exp2 (x (ix2 a b) - newTop x s.1 (ix2 0 b)) := by
  unfold chain
  pointwise
  simp only [scale_apply, powers_apply]

theorem chain_total (x : FVec Ideal S512x512 .f32) (v : Vec Ideal S64x512 .bf16) (s : Carry Ideal) (d : Fin 64) (b : Fin 512) :
    (chain x v s).2.2 (ix2 d b)
      = Ideal.exp2 (s.1 (ix2 0 b) - newTop x s.1 (ix2 0 b)) * s.2.2 (ix2 d b)
        + ∑ a : Fin 512, v (ix2 d a) * Ideal.exp2 (x (ix2 a b) - newTop x s.1 (ix2 0 b)) := by
  unfold chain
  pointwise
  simp only [scale_apply, powers_apply]

/-- The first tile with a mask is the one the grid point's first query is in. -/
theorem firstTile_eq (i : grid0.Coords) : firstTile i = BitVec.ofNat 32 (2 * (i 1).val) := by
  unfold firstTile firstQuery
  generalize i 1 = n
  revert n
  decide +kernel

theorem firstQuery_eq (i : grid0.Coords) : firstQuery i = BitVec.ofNat 32 (1024 * (i 1).val) := by
  unfold firstQuery
  generalize i 1 = n
  revert n
  decide +kernel

/-- A query's place in its grid point is less than 1024, so that it is its own remainder. -/
theorem place_eq (h : Fin 2) (b : Fin 512) :
    (let r := IntOp.remsi ArithUnit.vector (IntOp.addi (BitVec.ofNat 32 (512 * h.val)) (BitVec.ofNat 32 b.val))
        (Scalar.select (Scalar.cmpi CmpIPredicate.eq 1024#32 0#32) 1#32 1024#32);
      Scalar.select
        (IntOp.andi
          (IntOp.xori (IntOp.cmpi CmpIPredicate.slt r 0#32)
            (Scalar.cmpi CmpIPredicate.slt (Scalar.select (Scalar.cmpi CmpIPredicate.eq 1024#32 0#32) 1#32 1024#32) 0#32))
          (IntOp.cmpi CmpIPredicate.ne r 0#32))
        (IntOp.addi r (Scalar.select (Scalar.cmpi CmpIPredicate.eq 1024#32 0#32) 1#32 1024#32)) r)
      = BitVec.ofNat 32 (512 * h.val + b.val) := by
  revert h b
  decide +kernel

theorem masked_apply (i : grid0.Coords) (h u : Fin 2) (x : FVec Ideal S512x512 .f32) (a b : Fin 512) :
    masked i (BitVec.ofNat 32 (512 * h.val)) (BitVec.ofNat 32 u.val) x (ix2 a b)
      = if 1024 * (i 1).val + 512 * u.val + a.val ≤ 1024 * (i 1).val + 512 * h.val + b.val then x (ix2 a b) else ⊥ := by
  unfold masked keyPos queryPos place
  pointwise
  have hp := place_eq h b
  dsimp only at hp
  rw [hp, firstTile_eq, firstQuery_eq, WordCmp.cmpi_sle_eq]
  have hi : (i 1).val < 16 := (i 1).isLt
  have hk : (IntOp.addi (Scalar.muli (Scalar.addi (BitVec.ofNat 32 (2 * (i 1).val)) (BitVec.ofNat 32 u.val)) 512#32)
      (BitVec.ofNat 32 a.val)).toInt = 1024 * (i 1).val + 512 * u.val + a.val := by
    have : IntOp.addi (Scalar.muli (Scalar.addi (BitVec.ofNat 32 (2 * (i 1).val)) (BitVec.ofNat 32 u.val)) 512#32)
        (BitVec.ofNat 32 a.val) = BitVec.ofNat 32 (1024 * (i 1).val + 512 * u.val + a.val) := by
      apply BitVec.eq_of_toNat_eq
      simp [IntOp.addi, IntOp.muli, Scalar.addi, Scalar.muli, BitVec.toNat_add, BitVec.toNat_mul]
      omega
    rw [this, BitVec.toInt_eq_toNat_of_lt] <;> simp <;> omega
  have hq : (IntOp.addi (BitVec.ofNat 32 (1024 * (i 1).val)) (BitVec.ofNat 32 (512 * h.val + b.val))).toInt
      = 1024 * (i 1).val + 512 * h.val + b.val := by
    have : IntOp.addi (BitVec.ofNat 32 (1024 * (i 1).val)) (BitVec.ofNat 32 (512 * h.val + b.val))
        = BitVec.ofNat 32 (1024 * (i 1).val + 512 * h.val + b.val) := by
      apply BitVec.eq_of_toNat_eq
      simp [IntOp.addi, BitVec.toNat_add]
      omega
    rw [this, BitVec.toInt_eq_toNat_of_lt] <;> simp <;> omega
  rw [hk, hq]
  split_ifs with hle
  · rw [decide_eq_true (by omega)]; rfl
  · rw [decide_eq_false (by omega)]; rfl

end Cert.KernelIdeal.Attn

end
-- ==== Proof.Loads.lean ====
/-
  The tiles of queries, keys and values that the body loads, read from the blocks of the grid point.
-/
module

public import proofs.«01_k».proof.Proof.Tile
public import Idealize.ShloMosaic.Lib.LoopRemainder
public import Idealize.ShloMosaic.Lib.Pipeline.ValueKit.Tiles

@[expose] public section

set_option maxRecDepth 16384

noncomputable section

namespace Cert.KernelIdeal.Attn

open Cert.KernelIdeal Cert.KernelIdeal.Gen Idealize.ShloMosaic Idealize.ShloMosaic.TcCoe Idealize.SL.Sem

/-- The loop runs over the blocks of 1024 keys that lie before the grid point's queries. -/
theorem trips1 (i : grid0.Coords) : (k0_t1_loop i).trips = (i 1).val := by
  unfold k0_t1_loop
  dsimp only
  generalize i 1 = n
  revert n
  decide +kernel

/-- The second loop is what is left over of the first: nothing. -/
theorem trips2 (i : grid0.Coords) : (k0_t2_loop i).trips = 0 := by
  unfold k0_t2_loop
  dsimp only
  generalize i 1 = n
  revert n
  decide +kernel

/-- The offset at which trip `k` of the loop loads its `r`-th tile. -/
theorem loopTile (k : Fin 16) (r : Fin 2) :
    (Scalar.indexCast (Scalar.muli (Scalar.addi (Scalar.muli (Scf.iv 0#32 1#32 k.val) 2#32) (BitVec.ofNat 32 r.val)) 512#32)).toNat
      = 1024 * k.val + 512 * r.val := by
  revert k r
  decide +kernel

theorem trip_lt (i : grid0.Coords) (k : Fin (k0_t1_loop i).trips) : k.val < 16 :=
  lt_trans (lt_of_lt_of_eq k.isLt (trips1 i)) (i 1).isLt

theorem off1 (i : grid0.Coords) (k : Fin (k0_t1_loop i).trips) (r : Fin 2) :
    k0_off1 i k (BitVec.ofNat 32 r.val) = ![0, 1024 * k.val + 512 * r.val, 0] := by
  rw [← loopTile ⟨k.val, trip_lt i k⟩ r]; rfl
theorem off2 (i : grid0.Coords) (k : Fin (k0_t1_loop i).trips) (r : Fin 2) :
    k0_off2 i k (BitVec.ofNat 32 r.val) = ![1, 1024 * k.val + 512 * r.val, 0] := by
  rw [← loopTile ⟨k.val, trip_lt i k⟩ r]; rfl
theorem off3 (i : grid0.Coords) (k : Fin (k0_t1_loop i).trips) (r : Fin 2) :
    k0_off3 i k (BitVec.ofNat 32 r.val) = ![0, 1024 * k.val + 512 * r.val] := by
  rw [← loopTile ⟨k.val, trip_lt i k⟩ r]; rfl
theorem off4 (i : grid0.Coords) (k : Fin (k0_t1_loop i).trips) (r : Fin 2) :
    k0_off4 i k (BitVec.ofNat 32 r.val) = ![64, 1024 * k.val + 512 * r.val] := by
  rw [← loopTile ⟨k.val, trip_lt i k⟩ r]; rfl

/-- The offset of the `r`-th masked tile. -/
theorem maskTile (i : grid0.Coords) (r : Fin 2) :
    (Scalar.indexCast (Scalar.muli (Scalar.addi (firstTile i) (BitVec.ofNat 32 r.val)) 512#32)).toNat
      = 1024 * (i 1).val + 512 * r.val := by
  rw [firstTile_eq]
  generalize i 1 = n
  revert n r
  decide +kernel

theorem off9 (i : grid0.Coords) (r : Fin 2) :
    k0_off9 i (BitVec.ofNat 32 r.val) = ![0, 1024 * (i 1).val + 512 * r.val, 0] := by
  rw [← maskTile i r]; rfl
theorem off10 (i : grid0.Coords) (r : Fin 2) :
    k0_off10 i (BitVec.ofNat 32 r.val) = ![1, 1024 * (i 1).val + 512 * r.val, 0] := by
  rw [← maskTile i r]; rfl
theorem off11 (i : grid0.Coords) (r : Fin 2) :
    k0_off11 i (BitVec.ofNat 32 r.val) = ![0, 1024 * (i 1).val + 512 * r.val] := by
  rw [← maskTile i r]; rfl
theorem off12 (i : grid0.Coords) (r : Fin 2) :
    k0_off12 i (BitVec.ofNat 32 r.val) = ![64, 1024 * (i 1).val + 512 * r.val] := by
  rw [← maskTile i r]; rfl

/-- A tile of keys loaded from a block of two heads' keys. -/
theorem keys_apply (a3 : Memref sig .tc .vmem S2x16384x128 .bf16) (h3 : a3.IsWhole) (x1 : Vec Ideal S2x16384x128 .bf16)
    {off : Fin 3 → ℕ} (inb) (h : Fin 2) (n : ℕ) (hoff : off = ![h.val, n, 0]) (a : Fin 512) (d : Fin 128) (ha : n + a.val < 16384) :
    (View.readAt (Elt Ideal) a3.view (Rect.unit (s := S2x16384x128) off S1x512x128.size inb).toLoadRect (h3.unread x1) :
      Vec Ideal S1x512x128 .bf16) (ix3 0 a d) = x1 (ix3 h ⟨n + a.val, ha⟩ d) := by
  subst hoff
  rw [View.readAt_eq_ld, h3.read_unread]
  refine View.ld_unit_apply_of x1 _ _ _ _ _ fun e => ?_
  match e with
  | ⟨0, _⟩ => rfl
  | ⟨1, _⟩ => rfl
  | ⟨2, _⟩ => exact (Nat.zero_add _).symm

/-- A tile of values loaded from a block of two heads' values. -/
theorem values_apply (a4 : Memref sig .tc .vmem S128x16384 .bf16) (h4 : a4.IsWhole) (x2 : Vec Ideal S128x16384 .bf16)
    {off : Fin 2 → ℕ} (inb) (h : Fin 2) (n : ℕ) (hoff : off = ![64 * h.val, n]) (d : Fin 64) (a : Fin 512) (ha : n + a.val < 16384) :
    (View.readAt (Elt Ideal) a4.view (Rect.unit (s := S128x16384) off S64x512.size inb).toLoadRect (h4.unread x2) :
      Vec Ideal S64x512 .bf16) (ix2 d a) = x2 (ix2 ⟨64 * h.val + d.val, by omega⟩ ⟨n + a.val, ha⟩) := by
  subst hoff
  rw [View.readAt_eq_ld, h4.read_unread]
  refine View.ld_unit_apply_of x2 _ _ _ _ _ fun e => ?_
  match e with
  | ⟨0, _⟩ => rfl
  | ⟨1, _⟩ => rfl

/-- The queries of a head loaded from a block of two heads' queries. -/
theorem queries_apply (a2 : Memref sig .tc .vmem S1024x256 .bf16) (h2 : a2.IsWhole) (x0 : Vec Ideal S1024x256 .bf16)
    {off : Fin 2 → ℕ} (inb) (h : Fin 2) (hoff : off = ![0, 128 * h.val]) (j : Fin 1024) (d : Fin 128) :
    (View.readAt (Elt Ideal) a2.view (Rect.unit (s := S1024x256) off S1024x128.size inb).toLoadRect (h2.unread x0) :
      Vec Ideal S1024x128 .bf16) (ix2 j d) = x0 (ix2 j ⟨128 * h.val + d.val, by omega⟩) := by
  subst hoff
  rw [View.readAt_eq_ld, h2.read_unread]
  refine View.ld_unit_apply_of x0 _ _ _ _ _ fun e => ?_
  match e with
  | ⟨0, _⟩ => exact (Nat.zero_add _).symm
  | ⟨1, _⟩ => rfl

end Cert.KernelIdeal.Attn

end
-- ==== Proof.Softmax.lean ====
/-
  Softmax over the extended reals, taken a tile of keys at a time.

  A query has one score per key and one value per key. The largest score, the sum of the powers of two of the scores
  less the largest, and the sum of the values weighted by these powers are defined over the first `n` keys (`top`,
  `mass`, `total`). Going on by a tile of keys rescales the two sums by the power of two of the difference of the
  largest scores; this holds for every extended real. Keys whose score is `⊥` change nothing. The quotient of the two
  sums is the weighted average that softmax defines.
-/
module

public import Idealize.ShloMosaic.PureOps.Ideal
public import Idealize.ShloMosaic.PureOps.Ideal.Laws

@[expose] public section

noncomputable section

namespace Cert.Softmax

open Idealize.ShloMosaic

/-! ## Powers of two -/

theorem exp2_bot : Ideal.exp2 ⊥ = 0 := rfl

theorem exp2_coe (r : ℝ) : Ideal.exp2 (r : EReal) = ((Real.rpow 2 r : ℝ) : EReal) := rfl

theorem exp2_nonneg (x : EReal) : 0 ≤ Ideal.exp2 x := by
  induction x with
  | bot => exact le_refl _
  | top => exact le_top
  | coe r => exact EReal.coe_nonneg.mpr (Real.rpow_nonneg (by norm_num) r)

theorem exp2_zero : Ideal.exp2 0 = 1 := by
  rw [← EReal.coe_zero, exp2_coe]; simp [Real.rpow_eq_pow]

/-- A difference of ordered scores is not `⊤`, so its power of two is not. -/
theorem exp2_sub_ne_top {x y : EReal} (h : x ≤ y) : Ideal.exp2 (x - y) ≠ ⊤ := by
  induction y with
  | bot => obtain rfl := le_bot_iff.mp h; decide
  | top => rw [EReal.sub_top]; decide
  | coe b =>
    induction x with
    | bot => rw [EReal.bot_sub]; decide
    | top => exact absurd h (not_le.mpr (EReal.coe_lt_top b))
    | coe a => rw [← EReal.coe_sub, exp2_coe]; exact EReal.coe_ne_top _

/-- Rescaling: passing from the largest score `y` to a larger one `z`. -/
theorem exp2_sub_mul {x y z : EReal} (hxy : x ≤ y) (hyz : y ≤ z) :
    Ideal.exp2 (y - z) * Ideal.exp2 (x - y) = Ideal.exp2 (x - z) := by
  induction x with
  | bot => simp [exp2_bot]
  | top =>
    obtain rfl := top_le_iff.mp hxy
    obtain rfl := top_le_iff.mp hyz
    simp [exp2_bot]
  | coe a =>
    induction z with
    | top => simp [exp2_bot]
    | bot =>
      obtain rfl := le_bot_iff.mp hyz
      exact absurd hxy (not_le.mpr (EReal.bot_lt_coe a))
    | coe c =>
      induction y with
      | bot => exact absurd hxy (not_le.mpr (EReal.bot_lt_coe a))
      | top => exact absurd hyz (not_le.mpr (EReal.coe_lt_top c))
      | coe b =>
        simp only [← EReal.coe_sub, exp2_coe, ← EReal.coe_mul, Real.rpow_eq_pow]
        rw [← Real.rpow_add (by norm_num)]
        ring_nf

/-- A factor that is not negative and not `⊤` goes into a sum. -/
theorem mul_sum {ι : Type} {a : EReal} (h0 : 0 ≤ a) (ht : a ≠ ⊤) (s : Finset ι) (f : ι → EReal) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top h0 ht, ih]

/-- A sum of reals, taken in the extended reals, is the sum of the reals. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ## The first `n` keys -/

/-- The largest of the first `n` scores. -/
def top (x : ℕ → EReal) (n : ℕ) : EReal := (Finset.range n).sup x

/-- The sum of the powers of two of the first `n` scores less the largest. -/
def mass (x : ℕ → EReal) (n : ℕ) : EReal := ∑ s ∈ Finset.range n, Ideal.exp2 (x s - top x n)

/-- The sum of the first `n` values, each weighted by its score's power of two. -/
def total (x w : ℕ → EReal) (n : ℕ) : EReal := ∑ s ∈ Finset.range n, w s * Ideal.exp2 (x s - top x n)

theorem top_zero (x : ℕ → EReal) : top x 0 = ⊥ := rfl
theorem mass_zero (x : ℕ → EReal) : mass x 0 = 0 := rfl
theorem total_zero (x w : ℕ → EReal) : total x w 0 = 0 := rfl

theorem le_top_of_lt (x : ℕ → EReal) {s n : ℕ} (h : s < n) : x s ≤ top x n :=
  Finset.le_sup (f := x) (Finset.mem_range.mpr h)

theorem top_mono (x : ℕ → EReal) {n k : ℕ} (h : n ≤ k) : top x n ≤ top x k :=
  Finset.sup_mono (Finset.range_mono h)

/-- A tile's largest score, as a fold over the tile. -/
theorem top_add (x : ℕ → EReal) (n b : ℕ) :
    max (top x n) (Finset.univ.fold max ⊥ fun k : Fin b => x (n + k)) = top x (n + b) := by
  have hf : (Finset.univ.fold max ⊥ fun k : Fin b => x (n + k)) = Finset.univ.sup fun k : Fin b => x (n + k) := rfl
  rw [hf]
  apply le_antisymm
  · refine max_le (top_mono x (Nat.le_add_right n b)) (Finset.sup_le fun k _ => le_top_of_lt x ?_)
    exact Nat.add_lt_add_left k.isLt n
  · refine Finset.sup_le fun s hs => ?_
    have hs := Finset.mem_range.mp hs
    by_cases h : s < n
    · exact (le_top_of_lt x h).trans (le_max_left _ _)
    · have hb : s - n < b := by omega
      refine le_trans ?_ (le_max_right _ _)
      have := Finset.le_sup (f := fun k : Fin b => x (n + k)) (Finset.mem_univ ⟨s - n, hb⟩)
      simpa [Nat.add_sub_cancel' (Nat.le_of_not_lt h)] using this

theorem mass_add (x : ℕ → EReal) (n b : ℕ) :
    Ideal.exp2 (top x n - top x (n + b)) * mass x n + ∑ k : Fin b, Ideal.exp2 (x (n + k) - top x (n + b))
      = mass x (n + b) := by
  have hle := top_mono x (Nat.le_add_right n b)
  unfold mass
  rw [mul_sum (exp2_nonneg _) (exp2_sub_ne_top hle), Finset.sum_range_add, Finset.sum_range]
  congr 1
  · rw [← Finset.sum_range fun s => Ideal.exp2 (top x n - top x (n + b)) * Ideal.exp2 (x s - top x n)]
    exact Finset.sum_congr rfl fun s hs => exp2_sub_mul (le_top_of_lt x (Finset.mem_range.mp hs)) hle
  · rw [Finset.sum_range]

theorem total_add (x w : ℕ → EReal) (n b : ℕ) :
    Ideal.exp2 (top x n - top x (n + b)) * total x w n
        + ∑ k : Fin b, w (n + k) * Ideal.exp2 (x (n + k) - top x (n + b))
      = total x w (n + b) := by
  have hle := top_mono x (Nat.le_add_right n b)
  unfold total
  rw [mul_sum (exp2_nonneg _) (exp2_sub_ne_top hle), Finset.sum_range_add]
  congr 1
  · refine Finset.sum_congr rfl fun s hs => ?_
    rw [mul_left_comm, exp2_sub_mul (le_top_of_lt x (Finset.mem_range.mp hs)) hle]
  · rw [Finset.sum_range]

/-! ## Keys that are masked -/

theorem top_masked (x : ℕ → EReal) {n N : ℕ} (hn : n ≤ N) (h : ∀ s, n ≤ s → s < N → x s = ⊥) : top x N = top x n := by
  refine le_antisymm (Finset.sup_le fun s hs => ?_) (top_mono x hn)
  by_cases hs' : s < n
  · exact le_top_of_lt x hs'
  · rw [h s (Nat.le_of_not_lt hs') (Finset.mem_range.mp hs)]; exact bot_le

theorem mass_masked (x : ℕ → EReal) {n N : ℕ} (hn : n ≤ N) (h : ∀ s, n ≤ s → s < N → x s = ⊥) :
    mass x N = mass x n := by
  unfold mass
  rw [top_masked x hn h]
  refine (Finset.sum_subset (Finset.range_mono hn) fun s hs hs' => ?_).symm
  rw [h s (by simpa using hs') (Finset.mem_range.mp hs), EReal.bot_sub, exp2_bot]

theorem total_masked (x w : ℕ → EReal) {n N : ℕ} (hn : n ≤ N) (h : ∀ s, n ≤ s → s < N → x s = ⊥) :
    total x w N = total x w n := by
  unfold total
  rw [top_masked x hn h]
  refine (Finset.sum_subset (Finset.range_mono hn) fun s hs hs' => ?_).symm
  rw [h s (by simpa using hs') (Finset.mem_range.mp hs), EReal.bot_sub, exp2_bot, mul_zero]

/-! ## The quotient -/

/-- Some score among the first `n` is a real and none is `⊤`: then the largest is a real. -/
theorem top_coe (x : ℕ → EReal) {n : ℕ} (hx : ∀ s < n, x s ≠ ⊤) {s₀ : ℕ} (h₀ : s₀ < n) (hb : x s₀ ≠ ⊥) :
    ∃ r : ℝ, top x n = r := by
  have h1 : top x n ≠ ⊥ := fun h => hb (le_bot_iff.mp (h ▸ le_top_of_lt x h₀))
  have h2 : top x n ≠ ⊤ := by
    refine ne_of_lt ((Finset.sup_lt_iff (by simp)).mpr fun s hs => ?_)
    exact lt_top_iff_ne_top.mpr (hx s (Finset.mem_range.mp hs))
  exact ⟨(top x n).toReal, (EReal.coe_toReal h2 h1).symm⟩

/-- Then the sum of the powers is a positive real. -/
theorem mass_coe (x : ℕ → EReal) {n : ℕ} (hx : ∀ s < n, x s ≠ ⊤) {s₀ : ℕ} (h₀ : s₀ < n) (hb : x s₀ ≠ ⊥) :
    ∃ r : ℝ, 0 < r ∧ mass x n = r := by
  obtain ⟨M, hM⟩ := top_coe x hx h₀ hb
  have hterm : ∀ s ∈ Finset.range n, ∃ r : ℝ, 0 ≤ r ∧ (x s ≠ ⊥ → 0 < r) ∧ Ideal.exp2 (x s - top x n) = r := by
    intro s hs
    rw [hM]
    have ht := hx s (Finset.mem_range.mp hs)
    generalize x s = y at ht ⊢
    induction y with
    | bot => exact ⟨0, le_refl _, fun h => absurd rfl h, by rw [EReal.bot_sub, exp2_bot]; rfl⟩
    | top => exact absurd rfl ht
    | coe a =>
      have := Real.rpow_pos_of_pos (show (0 : ℝ) < 2 by norm_num) (a - M)
      exact ⟨_, this.le, fun _ => this, by rw [← EReal.coe_sub, exp2_coe]; rfl⟩
  choose! f hf0 hfp hf using hterm
  refine ⟨∑ s ∈ Finset.range n, f s, ?_, ?_⟩
  · exact Finset.sum_pos' hf0 ⟨s₀, Finset.mem_range.mpr h₀, hfp s₀ (Finset.mem_range.mpr h₀) hb⟩
  · unfold mass
    rw [Finset.sum_congr rfl hf, coe_sum]

/-- Division by a positive real goes into the weighted sum. -/
theorem div_total (x w : ℕ → EReal) {n : ℕ} {r : ℝ} (hr : 0 < r) (hm : mass x n = r) :
    Ideal.div (total x w n) (mass x n)
      = ∑ s ∈ Finset.range n, w s * Ideal.div (Ideal.exp2 (x s - top x n)) (mass x n) := by
  have hne : (r : EReal) ≠ 0 := by simpa using hr.ne'
  have hinv : ((r : EReal))⁻¹ = ((r⁻¹ : ℝ) : EReal) := (EReal.coe_inv r).symm
  have h0 : (0 : EReal) ≤ ((r⁻¹ : ℝ) : EReal) := EReal.coe_nonneg.mpr (inv_nonneg.mpr hr.le)
  simp only [hm, Ideal.div, if_neg hne, hinv, total]
  rw [mul_comm, mul_sum h0 (EReal.coe_ne_top _)]
  refine Finset.sum_congr rfl fun s _ => ?_
  rw [mul_left_comm, mul_comm (((r⁻¹ : ℝ) : EReal))]

/-! ## Base two and base e -/

/-- `e` to the difference of scores in units of `log 2` is two to the difference of the scores. -/
theorem exp_sub_log_two {x : EReal} (hx : x ≠ ⊤) (M : ℝ) :
    Ideal.exp (x * (Real.log 2 : ℝ) - (M : EReal) * (Real.log 2 : ℝ)) = Ideal.exp2 (x - M) := by
  have hl : 0 < Real.log 2 := Real.log_pos (by norm_num)
  induction x with
  | bot => rw [EReal.bot_mul_coe_of_pos hl, EReal.bot_sub, EReal.bot_sub]; rfl
  | top => exact absurd rfl hx
  | coe a =>
    simp only [← EReal.coe_mul, ← EReal.coe_sub]
    show ((Real.exp _ : ℝ) : EReal) = ((Real.rpow 2 _ : ℝ) : EReal)
    rw [Real.rpow_eq_pow, Real.rpow_def_of_pos (by norm_num)]
    ring_nf

/-- The largest score in units of `log 2`. -/
theorem top_mul_log_two (x : ℕ → EReal) (n : ℕ) :
    top (fun s => x s * (Real.log 2 : ℝ)) n = top x n * (Real.log 2 : ℝ) := by
  have hl : 0 < Real.log 2 := Real.log_pos (by norm_num)
  have hmono : Monotone fun y : EReal => y * (Real.log 2 : ℝ) :=
    fun a b h => mul_le_mul_of_nonneg_right h (EReal.coe_nonneg.mpr hl.le)
  exact (Finset.comp_sup_eq_sup_comp_of_is_total (s := Finset.range n) (f := x) _ hmono (EReal.bot_mul_coe_of_pos hl)).symm

/-- A softmax in the natural exponential, over scores times `log 2`, and the values it weighs: the weighted sum over the sum of
    powers of two. -/
theorem softmax_eq (x w : ℕ → EReal) {n : ℕ} (S : Fin n → EReal) (hS : ∀ s : Fin n, S s = x s.val * (Real.log 2 : ℝ))
    (hx : ∀ s < n, x s ≠ ⊤) {s₀ : ℕ} (h₀ : s₀ < n) (hb : x s₀ ≠ ⊥) :
    ∑ s : Fin n, w s.val * Ideal.div (Ideal.exp (S s - max ⊥ (Finset.univ.fold max ⊥ S)))
        (∑ r : Fin n, Ideal.exp (S r - max ⊥ (Finset.univ.fold max ⊥ S)))
      = Ideal.div (total x w n) (mass x n) := by
  obtain ⟨M, hM⟩ := top_coe x hx h₀ hb
  have hfold : max ⊥ (Finset.univ.fold max ⊥ S) = (M : EReal) * (Real.log 2 : ℝ) := by
    have h := top_add (fun s => x s * (Real.log 2 : ℝ)) 0 n
    simp only [top_zero, Nat.zero_add, top_mul_log_two, hM] at h
    rw [show S = fun s : Fin n => x s.val * (Real.log 2 : ℝ) from funext hS]
    exact h
  have hexp : ∀ s : Fin n, Ideal.exp (S s - max ⊥ (Finset.univ.fold max ⊥ S)) = Ideal.exp2 (x s.val - top x n) := fun s => by
    rw [hfold, hS, exp_sub_log_two (hx s.val s.isLt), hM]
  obtain ⟨r, hr, hm⟩ := mass_coe x hx h₀ hb
  rw [div_total x w hr hm, Finset.sum_range]
  simp only [hexp]
  refine Finset.sum_congr rfl fun s _ => ?_
  rw [mass, Finset.sum_range]

end Cert.Softmax

end
-- ==== Proof.Columns.lean ====
/-
  What is carried for a block of 512 queries after the first `n` keys: per query, the largest score, the sum of powers and
  the weighted sum of `Softmax`, over the keys that the query may see. The loop and the two masked tiles keep it so.
-/
module

public import proofs.«01_k».proof.Proof.Loads
public import proofs.«01_k».proof.Proof.Softmax

@[expose] public section

set_option maxRecDepth 16384

noncomputable section

namespace Cert.KernelIdeal.Attn

open Cert.KernelIdeal Cert.KernelIdeal.Gen Idealize.ShloMosaic Idealize.ShloMosaic.TcCoe Idealize.SL.Sem Cert.Softmax

/-- The carry `s` holds, for the score sequences `X` of its 512 queries and the weights `W` of its 64 columns, the state
    after the first `n` keys. -/
structure Holds (s : Carry Ideal) (X : Fin 512 → ℕ → EReal) (W : Fin 64 → ℕ → EReal) (n : ℕ) : Prop where
  top : ∀ b, s.1 (ix2 0 b) = top (X b) n
  mass : ∀ b, s.2.1 (ix2 0 b) = mass (X b) n
  total : ∀ d b, s.2.2 (ix2 d b) = total (X b) (W d) n

theorem holds_start (X : Fin 512 → ℕ → EReal) (W : Fin 64 → ℕ → EReal) : Holds start X W 0 where
  top b := by rw [start_top, top_zero]
  mass b := by rw [start_mass, mass_zero]
  total d b := by rw [start_total, total_zero]

/-- A tile whose scores and values are the sequences' next 512 entries takes the state 512 keys on. -/
theorem Holds.chain {s : Carry Ideal} {X : Fin 512 → ℕ → EReal} {W : Fin 64 → ℕ → EReal} {n : ℕ} (hs : Holds s X W n)
    (x : FVec Ideal S512x512 .f32) (v : Vec Ideal S64x512 .bf16) (hx : ∀ a b : Fin 512, x (ix2 a b) = X b (n + a.val))
    (hv : ∀ (d : Fin 64) (a : Fin 512), v (ix2 d a) = W d (n + a.val)) : Holds (chain x v s) X W (n + 512) := by
  have ht : ∀ b, newTop x s.1 (ix2 0 b) = Softmax.top (X b) (n + 512) := fun b => by
    rw [newTop_apply, hs.top, ← top_add]; simp only [hx]
  refine ⟨fun b => ht b, fun b => ?_, fun d b => ?_⟩
  · rw [chain_mass, ht, hs.top, hs.mass, ← mass_add]; simp only [hx]
  · rw [chain_total, ht, hs.top, hs.total, ← total_add]; simp only [hx, hv]

section
variable (i : grid0.Coords) (x0 : Vec Ideal S1024x256 .bf16) (x1 : Vec Ideal S2x16384x128 .bf16) (x2 : Vec Ideal S128x16384 .bf16)

/-- The score of key `s` and query `j` of a grid point, for head `h` of its two. -/
def score (h : Fin 2) (j : Fin 1024) (s : ℕ) : EReal :=
  if hs : s < 16384 then ∑ d : Fin 128, x1 (ix3 h ⟨s, hs⟩ d) * x0 (ix2 j ⟨128 * h.val + d.val, by omega⟩) else ⊥

/-- The same where the query may see the key, and `⊥` where it may not. -/
def seen (h : Fin 2) (j : Fin 1024) (s : ℕ) : EReal := if s ≤ 1024 * (i 1).val + j.val then score x0 x1 h j s else ⊥

/-- The value of key `s` in column `d` of head `h`. -/
def weight (h : Fin 2) (d : Fin 64) (s : ℕ) : EReal :=
  if hs : s < 16384 then x2 (ix2 ⟨64 * h.val + d.val, by omega⟩ ⟨s, hs⟩) else 0

/-- Query `b` of half `u` of a grid point. -/
def half (u : Fin 2) (b : Fin 512) : Fin 1024 := ⟨512 * u.val + b.val, by omega⟩

/-- The state of half `u` of head `h` after `n` keys. -/
def At (h u : Fin 2) (s : Carry Ideal) (n : ℕ) : Prop :=
  Holds s (fun b => seen i x0 x1 h (half u b)) (weight x2 h) n

variable (arg2 : Memref sig .tc .vmem S1024x256 .bf16) (harg2 : arg2.IsWhole) (arg3 : Memref sig .tc .vmem S2x16384x128 .bf16) (harg3 : arg3.IsWhole) (arg4 : Memref sig .tc .vmem S128x16384 .bf16) (harg4 : arg4.IsWhole)

/-- The scores of a loaded tile of keys and half `u` of the queries. -/
theorem tile_score (u h : Fin 2) {oq : Fin 2 → ℕ} (hs : S1024x128.Slices ![512 * u.val, 0] S512x128) (iq) (hoq : oq = ![0, 128 * h.val]) {ok : Fin 3 → ℕ} (ik) (n : ℕ)
    (hok : ok = ![h.val, n, 0]) (hn : n + 512 ≤ 16384) (a b : Fin 512) :
    scores (F := Ideal) (View.readAt (Elt Ideal) arg2.view (Rect.unit (s := S1024x256) oq S1024x128.size iq).toLoadRect (harg2.unread x0))
      ![512 * u.val, 0] hs
      (View.readAt (Elt Ideal) arg3.view (Rect.unit (s := S2x16384x128) ok S1x512x128.size ik).toLoadRect (harg3.unread x1)) (ix2 a b)
      = score x0 x1 h (half u b) (n + a.val) := by
  rw [scores_apply, score, dif_pos (by omega)]
  refine Finset.sum_congr rfl fun d _ => ?_
  rw [keys_apply arg3 harg3 x1 ik h n hok a d (by omega), queries_apply arg2 harg2 x0 iq h hoq]
  rfl

/-- A loaded tile of values. -/
theorem tile_value (h : Fin 2) {ov : Fin 2 → ℕ} (iv) (n : ℕ) (hov : ov = ![64 * h.val, n]) (hn : n + 512 ≤ 16384) (d : Fin 64) (a : Fin 512) :
    (View.readAt (Elt Ideal) arg4.view (Rect.unit (s := S128x16384) ov S64x512.size iv).toLoadRect (harg4.unread x2) :
      Vec Ideal S64x512 .bf16) (ix2 d a) = weight x2 h d (n + a.val) := by
  rw [weight, dif_pos (by omega), values_apply arg4 harg4 x2 iv h n hov d a (by omega)]

/-- A tile that lies before the grid point's queries takes the state 512 keys on. -/
theorem At.tile {h u : Fin 2} {s : Carry Ideal} {n : ℕ} (H : At i x0 x1 x2 h u s n) {oq : Fin 2 → ℕ} (hs : S1024x128.Slices ![512 * u.val, 0] S512x128) (iq) (hoq : oq = ![0, 128 * h.val])
    {ok : Fin 3 → ℕ} (ik) (hok : ok = ![h.val, n, 0]) {ov : Fin 2 → ℕ} (iv) (hov : ov = ![64 * h.val, n]) (hn : n + 512 ≤ 1024 * (i 1).val) :
    At i x0 x1 x2 h u (chain
      (scores (F := Ideal) (View.readAt (Elt Ideal) arg2.view (Rect.unit (s := S1024x256) oq S1024x128.size iq).toLoadRect (harg2.unread x0))
        ![512 * u.val, 0] hs
        (View.readAt (Elt Ideal) arg3.view (Rect.unit (s := S2x16384x128) ok S1x512x128.size ik).toLoadRect (harg3.unread x1)))
      (View.readAt (Elt Ideal) arg4.view (Rect.unit (s := S128x16384) ov S64x512.size iv).toLoadRect (harg4.unread x2)) s) (n + 512) := by
  have hi : (i 1).val < 16 := (i 1).isLt
  refine Holds.chain H _ _ (fun a b => ?_) (fun d a => ?_)
  · rw [tile_score x0 x1 arg2 harg2 arg3 harg3 u h hs iq hoq ik n hok (by omega), seen, if_pos (by omega)]
  · exact tile_value x2 arg4 harg4 h iv n hov (by omega) d a

/-- A masked tile takes the state 512 keys on. -/
theorem At.masked {h u : Fin 2} {s : Carry Ideal} (r : Fin 2) (H : At i x0 x1 x2 h u s (1024 * (i 1).val + 512 * r.val)) {oq : Fin 2 → ℕ}
    (hs : S1024x128.Slices ![512 * u.val, 0] S512x128) (iq) (hoq : oq = ![0, 128 * h.val])
    {ok : Fin 3 → ℕ} (ik) (hok : ok = ![h.val, 1024 * (i 1).val + 512 * r.val, 0]) {ov : Fin 2 → ℕ} (iv) (hov : ov = ![64 * h.val, 1024 * (i 1).val + 512 * r.val]) :
    At i x0 x1 x2 h u (chain
      (masked i (BitVec.ofNat 32 (512 * u.val)) (BitVec.ofNat 32 r.val)
        (scores (F := Ideal) (View.readAt (Elt Ideal) arg2.view (Rect.unit (s := S1024x256) oq S1024x128.size iq).toLoadRect (harg2.unread x0))
          ![512 * u.val, 0] hs
          (View.readAt (Elt Ideal) arg3.view (Rect.unit (s := S2x16384x128) ok S1x512x128.size ik).toLoadRect (harg3.unread x1))))
      (View.readAt (Elt Ideal) arg4.view (Rect.unit (s := S128x16384) ov S64x512.size iv).toLoadRect (harg4.unread x2)) s)
      (1024 * (i 1).val + 512 * r.val + 512) := by
  have hi : (i 1).val < 16 := (i 1).isLt
  refine Holds.chain H _ _ (fun a b => ?_) (fun d a => ?_)
  · rw [masked_apply, tile_score x0 x1 arg2 harg2 arg3 harg3 u h hs iq hoq ik _ hok (by omega), seen]
    refine if_congr ?_ rfl rfl
    simp only [half]; omega
  · exact tile_value x2 arg4 harg4 h iv _ hov (by omega) d a

end

end Cert.KernelIdeal.Attn

end
-- ==== Proof.Block.lean ====
/-
  The block of outputs that the body leaves at a grid point: per query and column, the weighted sum over the sum of powers,
  both after the keys up to the end of the grid point's own.
-/
module

public import proofs.«01_k».proof.Proof.Columns

@[expose] public section

set_option maxRecDepth 16384

noncomputable section

namespace Cert.KernelIdeal.Attn

open Cert.KernelIdeal Cert.KernelIdeal.Gen Idealize.ShloMosaic Idealize.ShloMosaic.TcCoe Idealize.SL.Sem Cert.Softmax

section
variable (cd : Dev nD) (i : grid0.Coords) (arg2 : Memref sig .tc .vmem S1024x256 .bf16) (harg2 : arg2.IsWhole) (arg3 : Memref sig .tc .vmem S2x16384x128 .bf16) (harg3 : arg3.IsWhole) (arg4 : Memref sig .tc .vmem S128x16384 .bf16) (harg4 : arg4.IsWhole) (arg5 : Memref sig .tc .vmem S1024x128 .bf16) (harg5 : arg5.IsWhole)
  (x0 : Vec Ideal S1024x256 .bf16) (x1 : Vec Ideal S2x16384x128 .bf16) (x2 : Vec Ideal S128x16384 .bf16)

/-- The states of the four blocks after `n` keys. -/
def All (L : Carries Ideal) (n : ℕ) : Prop :=
  At i x0 x1 x2 0 0 (un0 L) n ∧ At i x0 x1 x2 0 1 (un1 L) n ∧ At i x0 x1 x2 1 0 (un2 L) n ∧ At i x0 x1 x2 1 1 (un3 L) n

/-- What the loop carries before trip `k`. -/
def state (v17 v32 : BitVec 32) (k : ℕ) : Carries Ideal :=
  st_k0_t1 (F := Ideal) Variants.none cd none i arg2 harg2 arg3 harg3 arg4 harg4 arg5 harg5 v17 (query0 arg2 harg2 x0) (query1 arg2 harg2 x0)
    k0_pay99 k0_pay100 k0_pay101 k0_pay102 k0_pay103 k0_pay104 k0_pay105 k0_pay106 k0_pay107 k0_pay108 k0_pay109 k0_pay110
    2#32 v32 (harg3.unread x1) (harg4.unread x2)
    (k0_pay99, k0_pay100, k0_pay101, k0_pay102, k0_pay103, k0_pay104, k0_pay105, k0_pay106, k0_pay107, k0_pay108, k0_pay109, k0_pay110) k

theorem all_state (v17 v32 : BitVec 32) (k : ℕ) (hk : k ≤ (k0_t1_loop i).trips) :
    All i x0 x1 x2 (state cd i arg2 harg2 arg3 harg3 arg4 harg4 arg5 harg5 x0 x1 x2 v17 v32 k) (1024 * k) := by
  induction k with
  | zero =>
    unfold state
    rw [st_k0_t1_zero]
    exact ⟨holds_start _ _, holds_start _ _, holds_start _ _, holds_start _ _⟩
  | succ k ih =>
    have hlt : k < (k0_t1_loop i).trips := hk
    obtain ⟨h0, h1, h2, h3⟩ := ih (le_of_lt hlt)
    have hi := trips1 i
    unfold state
    rw [st_k0_t1_succ (F := Ideal) Variants.none cd none i arg2 harg2 arg3 harg3 arg4 harg4 arg5 harg5 v17 _ _ _ _ _ _ _ _ _ _ _ _ _ _ _ _ _ _ _ ⟨k, hlt⟩]
    have e := trip_eq (F := Ideal) Variants.none cd none i arg2 harg2 arg3 harg3 arg4 harg4 arg5 harg5 v17 (query0 arg2 harg2 x0) (query1 arg2 harg2 x0)
      k0_pay99 k0_pay100 k0_pay101 k0_pay102 k0_pay103 k0_pay104 k0_pay105 k0_pay106 k0_pay107 k0_pay108 k0_pay109 k0_pay110
      2#32 v32 (harg3.unread x1) (harg4.unread x2) ⟨k, hlt⟩
      (un0 (state cd i arg2 harg2 arg3 harg3 arg4 harg4 arg5 harg5 x0 x1 x2 v17 v32 k))
      (un1 (state cd i arg2 harg2 arg3 harg3 arg4 harg4 arg5 harg5 x0 x1 x2 v17 v32 k))
      (un2 (state cd i arg2 harg2 arg3 harg3 arg4 harg4 arg5 harg5 x0 x1 x2 v17 v32 k))
      (un3 (state cd i arg2 harg2 arg3 harg3 arg4 harg4 arg5 harg5 x0 x1 x2 v17 v32 k))
    refine Eq.mpr (congrArg (All i x0 x1 x2 · _) e) ?_
    refine ⟨?_, ?_, ?_, ?_⟩
    · exact (h0.tile i x0 x1 x2 arg2 harg2 arg3 harg3 arg4 harg4 slices_S1024x128_o0_0_S512x128 inb_S1024x256_S1024x128_0_0 rfl
          (k0_off1_inb i ⟨k, hlt⟩ 0) (off1 i ⟨k, hlt⟩ 0) (k0_off3_inb i ⟨k, hlt⟩ 0) (off3 i ⟨k, hlt⟩ 0) (by omega)).tile
        i x0 x1 x2 arg2 harg2 arg3 harg3 arg4 harg4 slices_S1024x128_o0_0_S512x128 inb_S1024x256_S1024x128_0_0 rfl
          (k0_off1_inb i ⟨k, hlt⟩ 1) (off1 i ⟨k, hlt⟩ 1) (k0_off3_inb i ⟨k, hlt⟩ 1) (off3 i ⟨k, hlt⟩ 1) (by omega)
    · exact (h1.tile i x0 x1 x2 arg2 harg2 arg3 harg3 arg4 harg4 slices_S1024x128_o512_0_S512x128 inb_S1024x256_S1024x128_0_0 rfl
          (k0_off1_inb i ⟨k, hlt⟩ 0) (off1 i ⟨k, hlt⟩ 0) (k0_off3_inb i ⟨k, hlt⟩ 0) (off3 i ⟨k, hlt⟩ 0) (by omega)).tile
        i x0 x1 x2 arg2 harg2 arg3 harg3 arg4 harg4 slices_S1024x128_o512_0_S512x128 inb_S1024x256_S1024x128_0_0 rfl
          (k0_off1_inb i ⟨k, hlt⟩ 1) (off1 i ⟨k, hlt⟩ 1) (k0_off3_inb i ⟨k, hlt⟩ 1) (off3 i ⟨k, hlt⟩ 1) (by omega)
    · exact (h2.tile i x0 x1 x2 arg2 harg2 arg3 harg3 arg4 harg4 slices_S1024x128_o0_0_S512x128 inb_S1024x256_S1024x128_0_128 rfl
          (k0_off2_inb i ⟨k, hlt⟩ 0) (off2 i ⟨k, hlt⟩ 0) (k0_off4_inb i ⟨k, hlt⟩ 0) (off4 i ⟨k, hlt⟩ 0) (by omega)).tile
        i x0 x1 x2 arg2 harg2 arg3 harg3 arg4 harg4 slices_S1024x128_o0_0_S512x128 inb_S1024x256_S1024x128_0_128 rfl
          (k0_off2_inb i ⟨k, hlt⟩ 1) (off2 i ⟨k, hlt⟩ 1) (k0_off4_inb i ⟨k, hlt⟩ 1) (off4 i ⟨k, hlt⟩ 1) (by omega)
    · exact (h3.tile i x0 x1 x2 arg2 harg2 arg3 harg3 arg4 harg4 slices_S1024x128_o512_0_S512x128 inb_S1024x256_S1024x128_0_128 rfl
          (k0_off2_inb i ⟨k, hlt⟩ 0) (off2 i ⟨k, hlt⟩ 0) (k0_off4_inb i ⟨k, hlt⟩ 0) (off4 i ⟨k, hlt⟩ 0) (by omega)).tile
        i x0 x1 x2 arg2 harg2 arg3 harg3 arg4 harg4 slices_S1024x128_o512_0_S512x128 inb_S1024x256_S1024x128_0_128 rfl
          (k0_off2_inb i ⟨k, hlt⟩ 1) (off2 i ⟨k, hlt⟩ 1) (k0_off4_inb i ⟨k, hlt⟩ 1) (off4 i ⟨k, hlt⟩ 1) (by omega)

/-- After both loops the four blocks stand at the grid point's own keys. -/
theorem all_carried : All i x0 x1 x2 (carried cd i arg2 harg2 arg3 harg3 arg4 harg4 arg5 harg5 x0 x1 x2) (1024 * (i 1).val) := by
  have e : carried (F := Ideal) cd i arg2 harg2 arg3 harg3 arg4 harg4 arg5 harg5 x0 x1 x2
      = state cd i arg2 harg2 arg3 harg3 arg4 harg4 arg5 harg5 x0 x1 x2 (kernelRun0_A.sl.v17 i) (kernelRun0_A.sl.v32 i) (k0_t1_loop i).trips := by
    unfold carried loop2
    rw [trips2, st_k0_t2_zero]
    rfl
  rw [e]
  have := all_state cd i arg2 harg2 arg3 harg3 arg4 harg4 arg5 harg5 x0 x1 x2 (kernelRun0_A.sl.v17 i) (kernelRun0_A.sl.v32 i) _ le_rfl
  rwa [show 1024 * (k0_t1_loop i).trips = 1024 * (i 1).val by rw [trips1]] at this

/-- The output of query `j` in column `d` of head `h`. -/
def attended (h : Fin 2) (j : Fin 1024) (d : Fin 64) : EReal :=
  Ideal.div (total (seen i x0 x1 h j) (weight x2 h d) (1024 * (i 1).val + 1024))
    (mass (seen i x0 x1 h j) (1024 * (i 1).val + 1024))

theorem stored_apply (h : Fin 2) (a b : Carry Ideal) (ha : At i x0 x1 x2 h 0 a (1024 * (i 1).val + 1024))
    (hb : At i x0 x1 x2 h 1 b (1024 * (i 1).val + 1024)) (j : Fin 1024) (d : Fin 64) :
    stored a b (ix2 j d) = attended i x0 x1 x2 h j d := by
  unfold stored quotient
  pointwise
  unfold attended
  split
  · rw [ha.total, ha.mass]
    have e : half 0 ⟨j.val, by assumption⟩ = j := Fin.ext (by simp [half])
    rw [e]
  · rw [hb.total, hb.mass]
    have e : half 1 ⟨j.val - 512, by omega⟩ = j := Fin.ext (by simp only [half]; omega)
    rw [e]

/-- The whole block: 64 columns for head `0`, 64 for head `1`. -/
def block : Vec Ideal S1024x128 .bf16 := fun y =>
  attended i x0 x1 x2 ⟨(y 1).val / 64, by have h : (y 1).val < 128 := (y 1).isLt; omega⟩ (y 0) ⟨(y 1).val % 64, Nat.mod_lt _ (by decide)⟩

theorem head0_apply (j : Fin 1024) (d : Fin 64) :
    head0 i arg2 harg2 arg3 harg3 arg4 harg4 x0 x1 x2 (carried cd i arg2 harg2 arg3 harg3 arg4 harg4 arg5 harg5 x0 x1 x2) (ix2 j d)
      = attended i x0 x1 x2 0 j d := by
  obtain ⟨h0, h1, -, -⟩ := all_carried cd i arg2 harg2 arg3 harg3 arg4 harg4 arg5 harg5 x0 x1 x2
  exact stored_apply i x0 x1 x2 0 _ _
    (((h0.masked i x0 x1 x2 arg2 harg2 arg3 harg3 arg4 harg4 0 slices_S1024x128_o0_0_S512x128 inb_S1024x256_S1024x128_0_0 rfl
      (k0_off9_inb i 0) (off9 i 0) (k0_off11_inb i 0) (off11 i 0))).masked i x0 x1 x2 arg2 harg2 arg3 harg3 arg4 harg4 1
      slices_S1024x128_o0_0_S512x128 inb_S1024x256_S1024x128_0_0 rfl (k0_off9_inb i 1) (off9 i 1) (k0_off11_inb i 1) (off11 i 1))
    (((h1.masked i x0 x1 x2 arg2 harg2 arg3 harg3 arg4 harg4 0 slices_S1024x128_o512_0_S512x128 inb_S1024x256_S1024x128_0_0 rfl
      (k0_off9_inb i 0) (off9 i 0) (k0_off11_inb i 0) (off11 i 0))).masked i x0 x1 x2 arg2 harg2 arg3 harg3 arg4 harg4 1
      slices_S1024x128_o512_0_S512x128 inb_S1024x256_S1024x128_0_0 rfl (k0_off9_inb i 1) (off9 i 1) (k0_off11_inb i 1) (off11 i 1)) j d

theorem head1_apply (j : Fin 1024) (d : Fin 64) :
    head1 i arg2 harg2 arg3 harg3 arg4 harg4 x0 x1 x2 (carried cd i arg2 harg2 arg3 harg3 arg4 harg4 arg5 harg5 x0 x1 x2) (ix2 j d)
      = attended i x0 x1 x2 1 j d := by
  obtain ⟨-, -, h2, h3⟩ := all_carried cd i arg2 harg2 arg3 harg3 arg4 harg4 arg5 harg5 x0 x1 x2
  exact stored_apply i x0 x1 x2 1 _ _
    (((h2.masked i x0 x1 x2 arg2 harg2 arg3 harg3 arg4 harg4 0 slices_S1024x128_o0_0_S512x128 inb_S1024x256_S1024x128_0_128 rfl
      (k0_off10_inb i 0) (off10 i 0) (k0_off12_inb i 0) (off12 i 0))).masked i x0 x1 x2 arg2 harg2 arg3 harg3 arg4 harg4 1
      slices_S1024x128_o0_0_S512x128 inb_S1024x256_S1024x128_0_128 rfl (k0_off10_inb i 1) (off10 i 1) (k0_off12_inb i 1) (off12 i 1))
    (((h3.masked i x0 x1 x2 arg2 harg2 arg3 harg3 arg4 harg4 0 slices_S1024x128_o512_0_S512x128 inb_S1024x256_S1024x128_0_128 rfl
      (k0_off10_inb i 0) (off10 i 0) (k0_off12_inb i 0) (off12 i 0))).masked i x0 x1 x2 arg2 harg2 arg3 harg3 arg4 harg4 1
      slices_S1024x128_o512_0_S512x128 inb_S1024x256_S1024x128_0_128 rfl (k0_off10_inb i 1) (off10 i 1) (k0_off12_inb i 1) (off12 i 1)) j d

/-- What the body leaves in its output block. -/
theorem out_block :
    out0_A_3 (F := Ideal) cd i arg2 harg2 arg3 harg3 arg4 harg4 arg5 harg5 x0 x1 x2 = block i x0 x1 x2 := by
  rw [out_eq]
  funext y
  refine View.canon_apply_of_pieces (S := S1024x128) (block i x0 x1 x2) _ ?_ y ?_
  · intro p hp
    simp only [List.mem_cons, List.not_mem_nil, or_false] at hp
    rcases hp with rfl | rfl
    · intro x
      have e := head1_apply cd i arg2 harg2 arg3 harg3 arg4 harg4 arg5 harg5 x0 x1 x2 (x 0) (x 1)
      rw [show (ix2 (x 0) (x 1) : S1024x64.Idx) = x from (eq_ix2 x).symm] at e
      refine e.trans ?_
      have hx : (x 1).val < 64 := (x 1).isLt
      unfold block
      congr 1
      · exact Fin.ext (by show 1 = (64 + 1 * (x 1).val) / 64; omega)
      · exact Fin.ext (by show (x 0).val = 0 + 1 * (x 0).val; omega)
      · exact Fin.ext (by show (x 1).val = (64 + 1 * (x 1).val) % 64; omega)
    · intro x
      have e := head0_apply cd i arg2 harg2 arg3 harg3 arg4 harg4 arg5 harg5 x0 x1 x2 (x 0) (x 1)
      rw [show (ix2 (x 0) (x 1) : S1024x64.Idx) = x from (eq_ix2 x).symm] at e
      refine e.trans ?_
      have hx : (x 1).val < 64 := (x 1).isLt
      unfold block
      congr 1
      · exact Fin.ext (by show 0 = (0 + 1 * (x 1).val) / 64; omega)
      · exact Fin.ext (by show (x 0).val = 0 + 1 * (x 0).val; omega)
      · exact Fin.ext (by show (x 1).val = (0 + 1 * (x 1).val) % 64; omega)
  · have h0 : (y 0).val < 1024 := (y 0).isLt
    have h1 : (y 1).val < 128 := (y 1).isLt
    by_cases h : (y 1).val < 64
    · refine ⟨_, List.mem_cons_of_mem _ (List.mem_cons_self ..), ?_⟩
      rw [Rect.mem_set_unit]
      intro a
      match a with
      | ⟨0, _⟩ => exact ⟨Nat.zero_le _, h0⟩
      | ⟨1, _⟩ => exact ⟨Nat.zero_le _, h⟩
    · refine ⟨_, List.mem_cons_self .., ?_⟩
      rw [Rect.mem_set_unit]
      intro a
      match a with
      | ⟨0, _⟩ => exact ⟨Nat.zero_le _, h0⟩
      | ⟨1, _⟩ => exact ⟨Nat.not_lt.mp h, h1⟩

end

end Cert.KernelIdeal.Attn

end
-- ==== Proof.Goal.lean ====
/-
  The attention that both programs compute, as one function of the queries, the keys and the values: per query and
  column, the values weighted by the powers of two of the scores of the keys up to the query, over the sum of those powers.
-/
module

public import proofs.«01_k».proof.Proof.Softmax
public import Idealize.ShloMosaic.Lib.Pointwise

@[expose] public section

noncomputable section

namespace Cert.Softmax

open Idealize.ShloMosaic

/-- The queries, or the keys: 16384 positions, 16 heads of 128 columns. -/
abbrev Wide := FVec Ideal ⟨2, ![16384, 2048]⟩ .bf16
/-- The values, or the attention: 16384 positions, 16 heads of 64 columns. -/
abbrev Narrow := FVec Ideal ⟨2, ![16384, 1024]⟩ .bf16

/-- The score of key `s` for query `t` in head `h`. -/
def logit (q k : Wide) (h : Fin 16) (t : Fin 16384) (s : ℕ) : EReal :=
  if hs : s < 16384 then ∑ d : Fin 128, k (ix2 ⟨s, hs⟩ ⟨128 * h.val + d.val, by omega⟩) * q (ix2 t ⟨128 * h.val + d.val, by omega⟩) else ⊥

/-- The same for the keys up to the query, and `⊥` for those after it. -/
def causal (q k : Wide) (h : Fin 16) (t : Fin 16384) (s : ℕ) : EReal := if s ≤ t.val then logit q k h t s else ⊥

/-- Column `e` of the values. -/
def column (v : Narrow) (e : Fin 1024) (s : ℕ) : EReal := if hs : s < 16384 then v (ix2 ⟨s, hs⟩ e) else 0

/-- The attention of query `t` in column `e`, which is a column of head `e / 64`. -/
def attention (q k : Wide) (v : Narrow) (t : Fin 16384) (e : Fin 1024) : EReal :=
  Ideal.div (total (causal q k ⟨e.val / 64, by omega⟩ t) (column v e) 16384)
    (mass (causal q k ⟨e.val / 64, by omega⟩ t) 16384)

/-- The keys after a query can be left out of its sums. -/
theorem attention_eq (q k : Wide) (v : Narrow) (t : Fin 16384) (e : Fin 1024) (h : Fin 16) (hh : h.val = e.val / 64) (n : ℕ)
    (hn : t.val < n) (hN : n ≤ 16384) :
    attention q k v t e = Ideal.div (total (causal q k h t) (column v e) n) (mass (causal q k h t) n) := by
  have hz : ∀ s, n ≤ s → s < 16384 → causal q k h t s = ⊥ := fun s hs _ => by
    rw [causal, if_neg (by omega)]
  rw [attention, show (⟨e.val / 64, by omega⟩ : Fin 16) = h from Fin.ext hh.symm, total_masked _ _ hN hz, mass_masked _ hN hz]

/-- The whole array. -/
def attend (q k : Wide) (v : Narrow) : Narrow := fun y => attention q k v (y 0) (y 1)

end Cert.Softmax

end
-- ==== Proof.Array.lean ====
/-
  The array that the kernel leaves: the attention of its three arguments. The block of every grid point is the block of
  that array, and the blocks cover it.
-/
module

public import proofs.«01_k».proof.Proof.Block
public import proofs.«01_k».proof.Proof.Goal
public import proofs.«01_k».proof.Proof.Gen.KernelIdeal.Value
public import Idealize.ShloMosaic.Lib.Pipeline.ValueKit.Geometry

@[expose] public section

set_option maxRecDepth 16384

noncomputable section

namespace Cert.KernelIdeal.Attn

open Cert.KernelIdeal Cert.KernelIdeal.Gen Idealize.ShloMosaic Idealize.ShloMosaic.TcCoe Idealize.SL.Sem Cert.Softmax

variable (m : (ℓ : Loc nD τ sig) → Buf (Elt Ideal) ℓ) (c : Dev nD)

/-- The queries, the keys and the values. -/
abbrev qs : Wide := m ((c : Thread nD τ).loc main_arg0)
abbrev ks : Wide := m ((c : Thread nD τ).loc main_arg1)
abbrev vs : Narrow := m ((c : Thread nD τ).loc main_arg2)

/-- Where each window's block lies: the head pair along the heads, the query block along the queries. -/
theorem places : ∀ t : Fin cfg0.N,
    (win0_0.index t 0 = (grid0.coords t 1).val ∧ win0_0.index t 1 = (grid0.coords t 0).val)
    ∧ (win0_1.index t 0 = (grid0.coords t 0).val ∧ win0_1.index t 1 = 0 ∧ win0_1.index t 2 = 0)
    ∧ (win0_2.index t 0 = (grid0.coords t 0).val ∧ win0_2.index t 1 = 0)
    ∧ (win0_3.index t 0 = (grid0.coords t 1).val ∧ win0_3.index t 1 = (grid0.coords t 0).val) :=
  (by decide +kernel : ∀ t : Fin grid0.N, _)

theorem pair_lt (i : grid0.Coords) : (i 0).val < 8 := (i 0).isLt
theorem tile_lt (i : grid0.Coords) : (i 1).val < 16 := (i 1).isLt

/-- The query block of a grid point. -/
theorem queries_block (t : Fin cfg0.N) (j : Fin 1024) (e : Fin 256) :
    (iblk m c 0 t : Vec Ideal S1024x256 .bf16) (ix2 j e)
      = qs m c (ix2 ⟨1024 * (grid0.coords t 1).val + j.val, by have := tile_lt (grid0.coords t); omega⟩
          ⟨256 * (grid0.coords t 0).val + e.val, by have := pair_lt (grid0.coords t); omega⟩) := by
  obtain ⟨⟨h0, h1⟩, -⟩ := places t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t 0 * 1024 + 1 * j.val = 1024 * (grid0.coords t 1).val + j.val; rw [h0]; omega
  | ⟨1, _⟩ => show win0_0.index t 1 * 256 + 1 * e.val = 256 * (grid0.coords t 0).val + e.val; rw [h1]; omega

/-- The keys, head by head, as the launch finds them. -/
theorem keys_laid : (V m c main_v1 : FVec Ideal S16x16384x128 .bf16)
    = transpose S16x16384x128 [1, 0, 2] (shapeCast S16384x16x128 (ks m c) shapeCasts_S16384x2048_S16384x16x128)
        transposes_S16384x16x128_S16x16384x128_1_0_2 := by
  unfold V
  after_results_simp
  rfl

/-- The values, column by column, as the launch finds them. -/
theorem values_laid : (V m c main_v2 : FVec Ideal S1024x16384 .bf16)
    = transpose S1024x16384 [1, 0] (vs m c) transposes_S16384x1024_S1024x16384_1_0 := by
  unfold V
  after_results_simp

theorem keys_laid_apply (h : Fin 16) (s : Fin 16384) (d : Fin 128) :
    (V m c main_v1 : FVec Ideal S16x16384x128 .bf16) (ix3 h s d) = ks m c (ix2 s ⟨128 * h.val + d.val, by omega⟩) := by
  rw [keys_laid]
  pointwise
  congr 2
  exact Fin.ext (by dsimp only; omega)

theorem values_laid_apply (e : Fin 1024) (s : Fin 16384) :
    (V m c main_v2 : FVec Ideal S1024x16384 .bf16) (ix2 e s) = vs m c (ix2 s e) := by
  rw [values_laid]
  pointwise

/-- The block of keys of a grid point: those of its two heads. -/
theorem keys_block (t : Fin cfg0.N) (h : Fin 2) (s : Fin 16384) (d : Fin 128) :
    (iblk m c 1 t : Vec Ideal S2x16384x128 .bf16) (ix3 h s d)
      = ks m c (ix2 s ⟨128 * (2 * (grid0.coords t 0).val + h.val) + d.val, by have := pair_lt (grid0.coords t); omega⟩) := by
  obtain ⟨-, ⟨h0, h1, h2⟩, -⟩ := places t
  have hp := pair_lt (grid0.coords t)
  refine Eq.trans ?_ (keys_laid_apply m c ⟨2 * (grid0.coords t 0).val + h.val, by omega⟩ s d)
  unfold iblk
  rw [View.read_apply]
  show V m c main_v1 _ = V m c main_v1 _
  refine congrArg (V m c main_v1) ?_
  funext a
  apply Fin.ext
  match a with
  | ⟨0, _⟩ => show win0_1.index t 0 * 2 + 1 * h.val = 2 * (grid0.coords t 0).val + h.val; rw [h0]; omega
  | ⟨1, _⟩ => show win0_1.index t 1 * 16384 + 1 * s.val = s.val; rw [h1]; omega
  | ⟨2, _⟩ => show win0_1.index t 2 * 128 + 1 * d.val = d.val; rw [h2]; omega

/-- The block of values of a grid point: the columns of its two heads. -/
theorem values_block (t : Fin cfg0.N) (a : Fin 128) (s : Fin 16384) :
    (iblk m c 2 t : Vec Ideal S128x16384 .bf16) (ix2 a s)
      = vs m c (ix2 s ⟨128 * (grid0.coords t 0).val + a.val, by have := pair_lt (grid0.coords t); omega⟩) := by
  obtain ⟨-, -, ⟨h0, h1⟩, -⟩ := places t
  have hp := pair_lt (grid0.coords t)
  refine Eq.trans ?_ (values_laid_apply m c ⟨128 * (grid0.coords t 0).val + a.val, by omega⟩ s)
  unfold iblk
  rw [View.read_apply]
  show V m c main_v2 _ = V m c main_v2 _
  refine congrArg (V m c main_v2) ?_
  funext b
  apply Fin.ext
  match b with
  | ⟨0, _⟩ => show win0_2.index t 0 * 128 + 1 * a.val = 128 * (grid0.coords t 0).val + a.val; rw [h0]; omega
  | ⟨1, _⟩ => show win0_2.index t 1 * 16384 + 1 * s.val = s.val; rw [h1]; omega

/-- Query `j` of a grid point. -/
def query (i : grid0.Coords) (j : Fin 1024) : Fin 16384 := ⟨1024 * (i 1).val + j.val, by have := tile_lt i; omega⟩
/-- Head `h` of a grid point. -/
def head (i : grid0.Coords) (h : Fin 2) : Fin 16 := ⟨2 * (i 0).val + h.val, by have := pair_lt i; omega⟩

/-- What a query of a grid point sees. -/
theorem seen_eq (t : Fin cfg0.N) (h : Fin 2) (j : Fin 1024) :
    seen (grid0.coords t) (iblk m c 0 t) (iblk m c 1 t) h j
      = causal (qs m c) (ks m c) (head (grid0.coords t) h) (query (grid0.coords t) j) := by
  have hp := pair_lt (grid0.coords t)
  funext s
  unfold seen causal score logit
  refine if_congr Iff.rfl (dite_congr rfl (fun hs => Finset.sum_congr rfl fun d _ => ?_) fun _ => rfl) rfl
  rw [keys_block, queries_block]
  refine congrArg₂ (· * ·) rfl (congrArg (qs m c) ?_)
  exact congrArg (ix2 _) (Fin.ext (by show 256 * (grid0.coords t 0).val + (128 * h.val + d.val) = 128 * (2 * (grid0.coords t 0).val + h.val) + d.val; omega))

theorem weight_eq (t : Fin cfg0.N) (h : Fin 2) (d : Fin 64) :
    weight (iblk m c 2 t) h d = column (vs m c) ⟨64 * (head (grid0.coords t) h).val + d.val, by
      have := (head (grid0.coords t) h).isLt; omega⟩ := by
  have hp := pair_lt (grid0.coords t)
  funext s
  unfold weight column
  refine dite_congr rfl (fun hs => ?_) fun _ => rfl
  rw [values_block]
  exact congrArg (vs m c) (congrArg (ix2 _) (Fin.ext (by
    show 128 * (grid0.coords t 0).val + (64 * h.val + d.val) = 64 * (2 * (grid0.coords t 0).val + h.val) + d.val; omega)))

/-- A grid point's block is its block of the attention. -/
theorem block_apply (t : Fin cfg0.N) (j : Fin 1024) (e : Fin 128) :
    block (grid0.coords t) (iblk m c 0 t) (iblk m c 1 t) (iblk m c 2 t) (ix2 j e)
      = attention (qs m c) (ks m c) (vs m c) (query (grid0.coords t) j)
          ⟨128 * (grid0.coords t 0).val + e.val, by have := pair_lt (grid0.coords t); omega⟩ := by
  have hp := pair_lt (grid0.coords t)
  have hq := tile_lt (grid0.coords t)
  rw [attention_eq _ _ _ _ _ (head (grid0.coords t) ⟨e.val / 64, by omega⟩)
    (by show 2 * (grid0.coords t 0).val + e.val / 64 = (128 * (grid0.coords t 0).val + e.val) / 64; omega)
    (1024 * (grid0.coords t 1).val + 1024) (by show 1024 * (grid0.coords t 1).val + j.val < _; omega) (by omega)]
  show attended _ _ _ _ ⟨e.val / 64, _⟩ j ⟨e.val % 64, _⟩ = _
  unfold attended
  rw [seen_eq, weight_eq]
  congr 3
  exact Fin.ext (by
    show 64 * (2 * (grid0.coords t 0).val + e.val / 64) + e.val % 64 = 128 * (grid0.coords t 0).val + e.val; omega)

theorem flushed_eq (t : Fin cfg0.N) (_ : (cfg0.win 3).flush t = true) :
    (dats m 0 c).flushed 3 t = ((cfg0.win 3).blk t).view.read (Elt Ideal) (attend (qs m c) (ks m c) (vs m c)) := by
  obtain ⟨-, -, -, h0, h1⟩ := places t
  rw [Value.flushed3_A, out_block]
  have key : ∀ (y : S1024x128.Idx) (z : S16384x1024.Idx), (z 0).val = 1024 * (grid0.coords t 1).val + (y 0).val →
      (z 1).val = 128 * (grid0.coords t 0).val + (y 1).val →
      block (grid0.coords t) (iblk m c 0 t) (iblk m c 1 t) (iblk m c 2 t) y = attend (qs m c) (ks m c) (vs m c) z := by
    intro y z e0 e1
    obtain ⟨j, e, rfl⟩ : ∃ (j : Fin 1024) (e : Fin 128), y = ix2 j e := ⟨y 0, y 1, eq_ix2 y⟩
    rw [block_apply]
    exact congrArg₂ (attention (qs m c) (ks m c) (vs m c)) (Fin.ext e0.symm) (Fin.ext e1.symm)
  funext y
  rw [View.read_apply]
  have z0 : (((cfg0.win 3).blk t).view.emb y 0 : ℕ) = 1024 * (grid0.coords t 1).val + (y 0).val := by
    blk_simp [h0]
    rw [Nat.mul_comm]
  have z1 : (((cfg0.win 3).blk t).view.emb y 1 : ℕ) = 128 * (grid0.coords t 0).val + (y 1).val := by
    blk_simp [h1]
    rw [Nat.mul_comm]
  rw [Pipeline.Window.cut_apply]
  refine (key ((cfg0.win 3).xinj (grid0.coords t) y) (((cfg0.win 3).blk t).view.emb y) z0 z1).trans ?_
  exact (cast_eq _ _).symm

/-- Every head pair and query block is some grid point's. -/
theorem points : ∀ (p : Fin 8) (q : Fin 16), ∃ t : Fin cfg0.N, (grid0.coords t 0).val = p.val ∧ (grid0.coords t 1).val = q.val :=
  (by decide +kernel : ∀ (p : Fin 8) (q : Fin 16), ∃ t : Fin grid0.N, (grid0.coords t 0).val = p.val ∧ (grid0.coords t 1).val = q.val)

theorem sizes : ∀ t : Fin cfg0.N, win0_3.xsize (grid0.coords t) 0 = 1024 ∧ win0_3.xsize (grid0.coords t) 1 = 128 :=
  (by decide +kernel : ∀ t : Fin grid0.N, _)

theorem cover (i : S16384x1024.Idx) : ∃ t : Fin cfg0.N, (cfg0.win 3).flush t = true ∧ i ∈ ((cfg0.win 3).blk t).view.set := by
  have b0 : (i 0).val < 16384 := (i 0).isLt
  have b1 : (i 1).val < 1024 := (i 1).isLt
  obtain ⟨t, hp, hq⟩ := points ⟨(i 1).val / 128, by omega⟩ ⟨(i 0).val / 1024, by omega⟩
  obtain ⟨-, -, -, h0, h1⟩ := places t
  obtain ⟨s0, s1⟩ := sizes t
  refine ⟨t, flush0_3 t, ?_⟩
  show i ∈ ((View.whole main_v3).slice (win0_3.rect t)).set
  rw [View.set_slice_whole, Rect.mem_set_unit]
  intro a
  match a with
  | ⟨0, _⟩ =>
    show win0_3.index t 0 * 1024 ≤ (i 0).val ∧ (i 0).val < win0_3.index t 0 * 1024 + win0_3.xsize (grid0.coords t) 0
    rw [h0, s0, hq]; dsimp only; omega
  | ⟨1, _⟩ =>
    show win0_3.index t 1 * 128 ≤ (i 1).val ∧ (i 1).val < win0_3.index t 1 * 128 + win0_3.xsize (grid0.coords t) 1
    rw [h1, s1, hp]; dsimp only; omega

/-- The array after the run. -/
theorem array_eq : (dats m 0 c).arrAt 3 cfg0.N = attend (qs m c) (ks m c) (vs m c) :=
  (dats m 0 c).arrAt_eq_of_cover 3 (attend (qs m c) (ks m c) (vs m c)) (flushed_eq m c) (cover)

end Cert.KernelIdeal.Attn

end
-- ==== Proof.Reference.lean ====
/-
  The reference, read at an index.
-/
module

public import proofs.«01_k».proof.Proof.Goal
public import proofs.«01_k».proof.Proof.Gen.ReferenceIdeal.Run
public import proofs.«01_k».proof.Proof.Gen.ReferenceIdeal.Read
public import Idealize.ShloMosaic.Lib.Pointwise
public import Idealize.ShloMosaic.Lib.WordCmp

@[expose] public section

set_option maxRecDepth 16384

noncomputable section

namespace Cert.ReferenceIdeal.Attn

open Cert.ReferenceIdeal Cert.ReferenceIdeal.Gen Idealize.ShloMosaic Idealize.ShloMosaic.TcCoe Idealize.SL.Sem Cert.Softmax

variable (m : (ℓ : Loc nD τ sig) → Buf (Elt Ideal) ℓ) (c : Dev nD)

/-- The queries, the keys and the values. -/
abbrev qs : Wide := m ((c : Thread nD τ).loc main_arg0)
abbrev ks : Wide := m ((c : Thread nD τ).loc main_arg1)
abbrev vs : Narrow := m ((c : Thread nD τ).loc main_arg2)

theorem log_two : Ideal.log (Ideal.ofBits .f32 0x40000000#32) = (Real.log 2 : ℝ) := by
  have h : Ideal.ofBits .f32 0x40000000#32 = ((2 : ℝ) : EReal) := by
    simp only [Ideal.ofBits, Ideal.ieee]
    simp
    rw [← EReal.coe_mul]
    norm_num
  rw [h]
  show (if (2 : ℝ) ≤ 0 then (⊥ : EReal) else (Real.log 2 : ℝ)) = _
  rw [if_neg (by norm_num)]

theorem bot_word : Ideal.ofBits .f32 0xFF800000#32 = ⊥ := by simp [Ideal.ofBits, Ideal.ieee]

/-- A masked score as the reference writes it. -/
def written (q k : Wide) (h : Fin 16) (t s : Fin 16384) : EReal :=
  Scalar.select (IntOp.cmpi CmpIPredicate.sle (BitVec.ofNat 32 s.val) (BitVec.ofNat 32 t.val))
    ((∑ d : Fin 128, q (ix2 t ⟨h.val * 128 + d.val, by omega⟩) * k (ix2 s ⟨h.val * 128 + d.val, by omega⟩))
      * Ideal.log (Ideal.ofBits .f32 0x40000000#32)) (Ideal.ofBits .f32 0xFF800000#32)

theorem toInt_position (s : Fin 16384) : (BitVec.ofNat 32 s.val).toInt = s.val := by
  rw [BitVec.toInt_eq_toNat_of_lt] <;> simp <;> omega

/-- It is the score, or `⊥`, times `log 2`. -/
theorem written_eq (q k : Wide) (h : Fin 16) (t s : Fin 16384) :
    written q k h t s = causal q k h t s.val * (Real.log 2 : ℝ) := by
  have hl : 0 < Real.log 2 := Real.log_pos (by norm_num)
  unfold written causal logit
  rw [dif_pos s.isLt, WordCmp.cmpi_sle_eq, toInt_position, toInt_position, log_two, bot_word]
  by_cases hc : s.val ≤ t.val
  · rw [if_pos hc, show decide ((s.val : ℤ) ≤ (t.val : ℤ)) = true by simpa using hc]
    show _ * _ = _ * _
    refine congrArg (· * ((Real.log 2 : ℝ) : EReal)) (Finset.sum_congr rfl fun d _ => ?_)
    rw [mul_comm]
    refine congrArg₂ (· * ·) (congrArg k (congrArg (ix2 _) (Fin.ext ?_))) (congrArg q (congrArg (ix2 _) (Fin.ext ?_))) <;>
      · dsimp only; omega
  · rw [if_neg hc, show decide ((s.val : ℤ) ≤ (t.val : ℤ)) = false by simpa using hc, EReal.bot_mul_coe_of_pos hl]
    rfl

/-- A score of finite queries and keys is finite. -/
theorem logit_coe (q k : Wide) (hq : ∀ i, q i ≠ ⊥ ∧ q i ≠ ⊤) (hk : ∀ i, k i ≠ ⊥ ∧ k i ≠ ⊤) (h : Fin 16) (t : Fin 16384) (s : ℕ) (hs : s < 16384) :
    ∃ r : ℝ, logit q k h t s = r := by
  have hc : ∀ x : EReal, x ≠ ⊥ ∧ x ≠ ⊤ → x = (x.toReal : EReal) := fun x hx => (EReal.coe_toReal hx.2 hx.1).symm
  refine ⟨∑ d : Fin 128, (k (ix2 ⟨s, hs⟩ ⟨128 * h.val + d.val, by omega⟩)).toReal * (q (ix2 t ⟨128 * h.val + d.val, by omega⟩)).toReal, ?_⟩
  rw [logit, dif_pos hs, ← coe_sum]
  refine Finset.sum_congr rfl fun d _ => ?_
  rw [EReal.coe_mul, ← hc _ (hk _), ← hc _ (hq _)]

/-- The largest masked score of a query, as the reference writes it. -/
def peak (q k : Wide) (h : Fin 16) (t : Fin 16384) : EReal :=
  max (Ideal.ofBits .f32 0xFF800000#32) (Finset.univ.fold max (Ideal.ofBits .f32 0xFF800000#32) (written q k h t))

/-- The values weighed by a softmax of the masked scores, as the reference writes them. -/
def softened (q k : Wide) (v : Narrow) (t : Fin 16384) (e : Fin 1024) : EReal :=
  ∑ s : Fin 16384, v (ix2 s e) * Ideal.div (Ideal.exp (written q k ⟨e.val / 64, by omega⟩ t s - peak q k ⟨e.val / 64, by omega⟩ t))
    (∑ r : Fin 16384, Ideal.exp (written q k ⟨e.val / 64, by omega⟩ t r - peak q k ⟨e.val / 64, by omega⟩ t))

theorem softened_eq (q k : Wide) (v : Narrow) (hq : ∀ i, q i ≠ ⊥ ∧ q i ≠ ⊤) (hk : ∀ i, k i ≠ ⊥ ∧ k i ≠ ⊤) (t : Fin 16384) (e : Fin 1024) :
    softened q k v t e = attention q k v t e := by
  have h := softmax_eq (causal q k ⟨e.val / 64, by omega⟩ t) (column v e) (n := 16384) (written q k ⟨e.val / 64, by omega⟩ t) (written_eq q k _ t) (s₀ := t.val)
    (fun s hs => by
      obtain ⟨r, hr⟩ := logit_coe q k hq hk ⟨e.val / 64, by omega⟩ t s hs
      unfold causal
      split
      · rw [hr]; exact EReal.coe_ne_top r
      · exact bot_ne_top) t.isLt
    (by
      obtain ⟨r, hr⟩ := logit_coe q k hq hk ⟨e.val / 64, by omega⟩ t t.val t.isLt
      rw [causal, if_pos le_rfl, hr]
      exact EReal.coe_ne_bot r)
  unfold attention
  rw [← h]
  simp only [softened, peak, bot_word]
  refine Finset.sum_congr rfl fun s _ => ?_
  rw [column, dif_pos s.isLt]

section
open Read

variable (q k : Wide) (v : Narrow)

/-- The position grid's comparison. -/
theorem allowed_at (h : Fin 16) (t s : Fin 16384) :
    val_main_call0_v1 (F := Ideal) (ix3 h t s) = IntOp.cmpi CmpIPredicate.sle (BitVec.ofNat 32 s.val) (BitVec.ofNat 32 t.val) := by
  rw [val_main_call0_v1_apply, val_main_v15_apply, val_main_v13_apply, val_main_v14_apply, val_main_v11_apply, val_main_v12_apply]
  rfl

/-- The value masked scores take. -/
theorem absent_at (h : Fin 16) (t s : Fin 16384) :
    val_main_call0_v2 (F := Ideal) (ix3 h t s) = Ideal.ofBits .f32 0xFF800000#32 := by
  rw [val_main_call0_v2_apply]
  rfl

/-- The queries by head. -/
theorem query_at (t : Fin 16384) (h : Fin 16) (d : Fin 128) :
    val_main_v2 (F := Ideal) q (ix3 t h d) = q (ix2 t ⟨h.val * 128 + d.val, by omega⟩) := by
  rw [val_main_v2_apply, val_main_v1_apply]
  show q _ = q _
  refine congrArg q (funext fun a => Fin.ext ?_)
  match a with
  | ⟨0, _⟩ => show ((t.val * 16 + h.val) * 128 + d.val) / 2048 = t.val; omega
  | ⟨1, _⟩ => show ((t.val * 16 + h.val) * 128 + d.val) % 2048 = h.val * 128 + d.val; omega

/-- The keys by head. -/
theorem key_at (t : Fin 16384) (h : Fin 16) (d : Fin 128) :
    val_main_v4 (F := Ideal) k (ix3 t h d) = k (ix2 t ⟨h.val * 128 + d.val, by omega⟩) := by
  rw [val_main_v4_apply, val_main_v3_apply]
  show k _ = k _
  refine congrArg k (funext fun a => Fin.ext ?_)
  match a with
  | ⟨0, _⟩ => show ((t.val * 16 + h.val) * 128 + d.val) / 2048 = t.val; omega
  | ⟨1, _⟩ => show ((t.val * 16 + h.val) * 128 + d.val) % 2048 = h.val * 128 + d.val; omega

/-- The values by head. -/
theorem value_at (t : Fin 16384) (h : Fin 16) (d : Fin 64) :
    val_main_v6 (F := Ideal) v (ix3 t h d) = v (ix2 t ⟨h.val * 64 + d.val, by omega⟩) := by
  rw [val_main_v6_apply, val_main_v5_apply]
  show v _ = v _
  refine congrArg v (funext fun a => Fin.ext ?_)
  match a with
  | ⟨0, _⟩ => show ((t.val * 16 + h.val) * 64 + d.val) / 1024 = t.val; omega
  | ⟨1, _⟩ => show ((t.val * 16 + h.val) * 64 + d.val) % 1024 = h.val * 64 + d.val; omega

/-- Two indices of rank three with equal coordinates. -/
theorem same3 {a b c : ℕ} (f : (⟨3, ![a, b, c]⟩ : Shape).Idx) (x : Fin a) (y : Fin b) (z : Fin c)
    (h0 : (f 0).val = x.val) (h1 : (f 1).val = y.val) (h2 : (f 2).val = z.val) : f = ix3 x y z :=
  funext fun i => Fin.ext (match i with | ⟨0, _⟩ => h0 | ⟨1, _⟩ => h1 | ⟨2, _⟩ => h2)

/-- Two indices of rank two with equal coordinates. -/
theorem same2 {a b : ℕ} (f : (⟨2, ![a, b]⟩ : Shape).Idx) (x : Fin a) (y : Fin b)
    (h0 : (f 0).val = x.val) (h1 : (f 1).val = y.val) : f = ix2 x y :=
  funext fun i => Fin.ext (match i with | ⟨0, _⟩ => h0 | ⟨1, _⟩ => h1)

/-- The product of a query and a key. -/
theorem product_at (h : Fin 16) (t s : Fin 16384) :
    val_main_v7 (F := Ideal) q k (ix3 h t s)
      = ∑ d : Fin 128, q (ix2 t ⟨h.val * 128 + d.val, by omega⟩) * k (ix2 s ⟨h.val * 128 + d.val, by omega⟩) := by
  rw [val_main_v7_apply]
  refine Finset.sum_congr rfl fun d _ => ?_
  rw [same3 (lidx_main_v7 (ix3 h t s) d) t h d rfl rfl rfl, same3 (ridx_main_v7 (ix3 h t s) d) s h d rfl rfl rfl, query_at, key_at]

/-- The factor the scores carry. -/
theorem scale_at (h : Fin 16) (t s : Fin 16384) :
    val_main_v9 (F := Ideal) (ix3 h t s) = Ideal.log (Ideal.ofBits .f32 0x40000000#32) := by
  rw [val_main_v9_apply]
  rfl

/-- The masked scores. -/
theorem masked_at (h : Fin 16) (t s : Fin 16384) : val_main_v16 (F := Ideal) q k (ix3 h t s) = written q k h t s := by
  rw [val_main_v16_apply, allowed_at, absent_at, val_main_v10_apply, product_at, scale_at]
  rfl

/-- Their largest. -/
theorem peak_at (h : Fin 16) (t : Fin 16384) : val_main_v19 (F := Ideal) q k (ix2 h t) = peak q k h t := by
  have hm : val_main_v17 (F := Ideal) q k (ix2 h t) = Finset.univ.fold max (Ideal.ofBits .f32 0xFF800000#32) (written q k h t) := by
    unfold val_main_v17
    have hx : (fun s => val_main_v16 (F := Ideal) q k (ix3 h t s)) = written q k h t := funext fun s => masked_at q k h t s
    revert hx
    generalize val_main_v16 (F := Ideal) q k = x
    intro hx
    change FVec Ideal S16x16384x16384 .f32 at x
    rw [Host.reduce_eq_fold_single FloatOps.maximumf x _ reducesTo_S16x16384x16384_S16x16384_d2
      (show S16x16384x16384.Reduces [2] S16x16384 by decide) h_S_, ← hx]
    refine congrArg (fun f => Finset.fold max (Ideal.ofBits .f32 0xFF800000#32) f (Finset.univ : Finset (Fin 16384))) (funext fun s => congrArg x ?_)
    exact same3 _ h t s rfl rfl rfl
  rw [val_main_v19_apply, val_main_v18_apply, hm]
  rfl

/-- The exponentials. -/
theorem power_at (h : Fin 16) (t s : Fin 16384) :
    val_main_v23 (F := Ideal) q k (ix3 h t s) = Ideal.exp (written q k h t s - peak q k h t) := by
  rw [val_main_v23_apply, val_main_v22_apply, masked_at, val_main_v21_apply, val_main_v20_apply, same2 (idx_main_v20 _) h t rfl rfl, peak_at]
  rfl

/-- Their sum. -/
theorem total_at (h : Fin 16) (t : Fin 16384) :
    val_main_v24 (F := Ideal) q k (ix2 h t) = ∑ r : Fin 16384, Ideal.exp (written q k h t r - peak q k h t) := by
  rw [val_main_v24_apply, show val_main_cst_3 (F := Ideal) (Shape.Idx.first h_S_) = 0 from Ideal.ofBits_zero .f32, zero_add]
  refine Finset.sum_congr rfl fun r _ => ?_
  rw [same3 (idx_main_v24 (ix2 h t) r) h t r rfl rfl rfl, power_at]

/-- The weights. -/
theorem weight_at (h : Fin 16) (t s : Fin 16384) :
    val_main_v27 (F := Ideal) q k (ix3 h t s) = Ideal.div (Ideal.exp (written q k h t s - peak q k h t))
      (∑ r : Fin 16384, Ideal.exp (written q k h t r - peak q k h t)) := by
  rw [val_main_v27_apply, power_at, val_main_v26_apply, val_main_v25_apply, same2 (idx_main_v25 _) h t rfl rfl, total_at]
  rfl

/-- The weighed values. -/
theorem mixed_at (h : Fin 16) (d : Fin 64) (t : Fin 16384) :
    val_main_v28 (F := Ideal) q k v (ix3 h d t) = ∑ s : Fin 16384, v (ix2 s ⟨h.val * 64 + d.val, by omega⟩)
      * Ideal.div (Ideal.exp (written q k h t s - peak q k h t)) (∑ r : Fin 16384, Ideal.exp (written q k h t r - peak q k h t)) := by
  rw [val_main_v28_apply]
  refine Finset.sum_congr rfl fun s _ => ?_
  rw [same3 (lidx_main_v28 (ix3 h d t) s) s h d rfl rfl rfl, same3 (ridx_main_v28 (ix3 h d t) s) h t s rfl rfl rfl, value_at, weight_at]

/-- The result. -/
theorem result_at (t : Fin 16384) (e : Fin 1024) : val_main_v31 (F := Ideal) q k v (ix2 t e) = softened q k v t e := by
  rw [val_main_v31_apply, val_main_v30_apply, val_main_v29_apply,
    same3 (idx_main_v29 (idx_main_v30 (ix2 t e))) (⟨e.val / 64, by omega⟩ : Fin 16) (⟨e.val % 64, by omega⟩ : Fin 64) t
      (by show (t.val * 1024 + e.val) / 64 % 16 = e.val / 64; omega) (by show (t.val * 1024 + e.val) % 64 = e.val % 64; omega)
      (by show (t.val * 1024 + e.val) / 1024 = t.val; omega), mixed_at]
  have he : (⟨e.val / 64 * 64 + e.val % 64, by omega⟩ : Fin 1024) = e := Fin.ext (by show e.val / 64 * 64 + e.val % 64 = e.val; omega)
  show (∑ s : Fin 16384, v (ix2 s (⟨e.val / 64 * 64 + e.val % 64, _⟩ : Fin 1024)) * _) = _
  rw [he]
  rfl

end

/-- The reference's result at an index. -/
theorem read (t : Fin 16384) (e : Fin 1024) :
    (Value.res_main_v31 (F := Ideal) m c : FVec Ideal S16384x1024 .bf16) (ix2 t e) = softened (qs m c) (ks m c) (vs m c) t e := by
  rw [Read.val_main_v31_eq]
  exact result_at _ _ _ t e

/-- The whole result. -/
theorem result_eq (hq : ∀ i, qs m c i ≠ ⊥ ∧ qs m c i ≠ ⊤) (hk : ∀ i, ks m c i ≠ ⊥ ∧ ks m c i ≠ ⊤) :
    Value.res_out0 (F := Ideal) m c = attend (qs m c) (ks m c) (vs m c) := by
  have key : ∀ y : S16384x1024.Idx, (Value.res_main_v31 (F := Ideal) m c : FVec Ideal S16384x1024 .bf16) y
      = attend (qs m c) (ks m c) (vs m c) y := fun y => by
    obtain ⟨t, e, rfl⟩ : ∃ (t : Fin 16384) (e : Fin 1024), y = ix2 t e := ⟨y 0, y 1, eq_ix2 y⟩
    exact (read m c t e).trans (softened_eq _ _ _ hq hk t e)
  exact funext key

end Cert.ReferenceIdeal.Attn

end
-- ==== Proof.Finite.lean ====
/-
  The precondition read back: every query and every key is finite.
-/
module

public import proofs.«01_k».proof.Proof.Goal
public import proofs.«01_k».proof.Pre_finite
public import Idealize.ShloMosaic.Lib.ReduceAll
public import Idealize.ShloMosaic.Lib.Pointwise

@[expose] public section

noncomputable section

namespace Cert.Pre_finite

open Idealize.ShloMosaic Cert.Softmax

/-- The side conditions of the precondition's operations. -/
theorem sound : Facts where
  bitsLt_bf16_f32 := by decide
  bcast_S_S16384x2048 := by decide
  reducesTo_S16384x2048_S_d0_1 := by decide
  h_S_ := by decide

/-- An element strictly between the two infinities is finite. -/
theorem between (x : EReal) (h : IntOp.andi (Ideal.cmp .ogt x (Ideal.ofBits .f32 0xFF800000#32)) (Ideal.cmp .olt x (Ideal.ofBits .f32 0x7F800000#32)) = 1#1) :
    x ≠ ⊥ ∧ x ≠ ⊤ := by
  have hb : Ideal.ofBits .f32 0xFF800000#32 = ⊥ := by simp [Ideal.ofBits, Ideal.ieee]
  have ht : Ideal.ofBits .f32 0x7F800000#32 = ⊤ := by simp [Ideal.ofBits, Ideal.ieee]
  rw [hb, ht] at h
  constructor <;> rintro rfl <;> simp [Ideal.cmp, IntOp.andi] at h

/-- The word `1` says that the queries and the keys are finite. -/
theorem finite_of [Facts] (q k : Wide) (v : Narrow) (h : fn (F := Ideal) q k v = fun _ => 1#1) :
    (∀ i, q i ≠ ⊥ ∧ q i ≠ ⊤) ∧ ∀ i, k i ≠ ⊥ ∧ k i ≠ ⊤ := by
  have h0 := congrFun h (Shape.Idx.first Facts.h_S_)
  unfold fn at h0
  obtain ⟨a, b⟩ := IntOp.andi_eq_one.1 h0
  haveI : Subsingleton S_.Idx := ⟨fun x y => funext fun i => i.elim0⟩
  exact ⟨fun i => between _ (Host.reduce_andi_all _ _ _ _ _ a i), fun i => between _ (Host.reduce_andi_all _ _ _ _ _ b i)⟩

end Cert.Pre_finite

end
-- ==== Proof.Gated.lean ====
/-
  The feed-forward layer that both of its programs compute, as one function of the seven arrays: a row is scaled by the
  inverse root of its mean square, multiplied by two matrices, the first product is mixed with those of the two rows
  before it, passed through `z / (1 + exp (-z))`, multiplied by the second product and by a third matrix, and added
  to the row.
-/
module

public import Idealize.ShloMosaic.PureOps.Ideal
public import Idealize.ShloMosaic.Lib.Pointwise

@[expose] public section

noncomputable section

namespace Cert.Gated

open Idealize.ShloMosaic

/-- The matrices of the first two products. -/
abbrev Widening := FVec Ideal ⟨2, ![1024, 2816]⟩ .bf16
/-- The matrix of the last product. -/
abbrev Narrowing := FVec Ideal ⟨2, ![2816, 1024]⟩ .bf16
/-- The weights of the mixture of three rows, and what is added to it. -/
abbrev Weights := FVec Ideal ⟨2, ![3, 2816]⟩ .f32
abbrev Offsets := FVec Ideal ⟨2, ![1, 2816]⟩ .f32

/-- A row over the root of its mean square, scaled column by column. -/
def normed (v g : Fin 1024 → EReal) (k : Fin 1024) : EReal :=
  v k * Ideal.rsqrt (Ideal.div (∑ a : Fin 1024, v a * v a) (Ideal.ofBits .f32 0x44800000#32) + Ideal.ofBits .f32 0x358637BD#32) * g k

/-- Its product with a matrix. -/
def image (v g : Fin 1024 → EReal) (w : Widening) (j : Fin 2816) : EReal := ∑ k : Fin 1024, normed v g k * w (ix2 k j)

/-- The mixture of three rows in a column: the row two before, the row before and the row itself. -/
def mixed (cw : Weights) (cb : Offsets) (j : Fin 2816) (g2 g1 g0 : EReal) : EReal :=
  cb (ix2 0 j) + cw (ix2 0 j) * g2 + cw (ix2 1 j) * g1 + cw (ix2 2 j) * g0

/-- The mixture over one and a power of it, times the second product. -/
def active (z u : EReal) : EReal := Ideal.div z (1 + Ideal.exp (0 - z)) * u

section
variable (x : Fin 16384 → Fin 1024 → EReal) (g : Fin 1024 → EReal) (wg wu : Widening) (cw : Weights) (cb : Offsets) (wd : Narrowing)

/-- The first product of the row `d` before row `t`, zero when there is none. -/
def earlier (d : ℕ) (t : Fin 16384) (j : Fin 2816) : EReal :=
  if d ≤ t.val then image (x ⟨t.val - d, by omega⟩) g wg j else 0

/-- What a row passes to the last product. -/
def passed (t : Fin 16384) (j : Fin 2816) : EReal :=
  active (mixed cw cb j (earlier x g wg 2 t j) (earlier x g wg 1 t j) (image (x t) g wg j)) (image (x t) g wu j)

/-- A row of the result. -/
def output (t : Fin 16384) (e : Fin 1024) : EReal := x t e + ∑ j : Fin 2816, passed x g wg wu cw cb t j * wd (ix2 j e)

end

/-- The whole first result. -/
def layer (x : FVec Ideal ⟨2, ![16384, 1024]⟩ .f32) (g : FVec Ideal ⟨2, ![1, 1024]⟩ .f32) (wg wu : Widening) (cw : Weights)
    (cb : Offsets) (wd : Narrowing) : FVec Ideal ⟨2, ![16384, 1024]⟩ .f32 :=
  fun y => output (fun t k => x (ix2 t k)) (fun k => g (ix2 0 k)) wg wu cw cb wd (y 0) (y 1)

/-- The whole second result: the first products of the last eight rows. -/
def trail (x : FVec Ideal ⟨2, ![16384, 1024]⟩ .f32) (g : FVec Ideal ⟨2, ![1, 1024]⟩ .f32) (wg : Widening) :
    FVec Ideal ⟨2, ![8, 2816]⟩ .f32 :=
  fun y => image (fun k => x (ix2 ⟨16376 + (y 0).val, by have h : (y 0).val < 8 := (y 0).isLt; omega⟩ k)) (fun k => g (ix2 0 k)) wg (y 1)

/-- A sum over 2816 columns by 11 blocks of 256. -/
theorem sum_blocks (f : Fin 2816 → EReal) :
    ∑ j : Fin 2816, f j = ∑ c : Fin 11, ∑ a : Fin 256, f ⟨256 * c.val + a.val, by omega⟩ := by
  rw [← Fintype.sum_prod_type']
  refine (Fintype.sum_equiv (finProdFinEquiv (m := 11) (n := 256)) _ _ fun p => ?_).symm
  refine congrArg f (Fin.ext ?_)
  show 256 * p.1.val + p.2.val = p.2.val + 256 * p.1.val
  omega

end Cert.Gated

end
-- ==== Proof.Chunk.lean ====
/-
  One block of 256 columns of the feed-forward kernel's body, as one function of what it reads, and its value at an index.
-/
module

public import proofs.«01_k».proof.Proof.Gated
public import proofs.«01_k».proof.Proof.Gen.FfnIdeal.Frame
public import Idealize.ShloMosaic.Lib.Pointwise
public import Idealize.ShloMosaic.Lib.WordCmp

@[expose] public section

set_option maxRecDepth 16384

noncomputable section

namespace Cert.FfnIdeal.Conv

open Cert.FfnIdeal Cert.FfnIdeal.Gen Idealize.ShloMosaic Idealize.ShloMosaic.TcCoe Idealize.SL.Sem Cert.Gated

section
variable {F : FTy → Type} [FloatOps F]

/-- The number of each row of a tile. -/
def rows : IVec S512x256 32 := iota .tc S512x256 32 [0] iota_S512x256_d0_w32

/-- What a block of columns adds to a tile's rows. -/
def chunk (h : FVec F S512x1024 .bf16) (wg wu : Vec F S1024x256 .bf16) (tail : Vec F S8x256 .f32) (cb c0 c1 c2 : Vec F S1x256 .f32)
    (wd : Vec F S256x1024 .bf16) (acc : FVec F S512x1024 .f32) : FVec F S512x1024 .f32 :=
  k0_pay1 acc (k0_pay84 h wg) (k0_pay85 h wu) (k0_pay86 rows h wg tail) (k0_pay87 rows h wg tail) cb c0 c1 c2 wd

/-- The last rows of a tile's first products in a block of columns. -/
def last (h : FVec F S512x1024 .bf16) (wg : Vec F S1024x256 .bf16) : FVec F S8x256 .f32 := k0_pay89 h wg

theorem last_eq (h : FVec F S512x1024 .bf16) (wg : Vec F S1024x256 .bf16) : k0_pay88 h wg = last h wg := by
  unfold k0_pay88 last k0_pay89
  dsimp only
  rw [shapeCast_self]
end

theorem normed_apply (x : Vec Ideal S512x1024 .f32) (g : Vec Ideal S1x1024 .f32) (r : Fin 512) (k : Fin 1024) :
    k0_pay3 x g (ix2 r k) = normed (fun a => x (ix2 r a)) (fun a => g (ix2 0 a)) k := by
  unfold k0_pay3 normed
  pointwise

theorem gate_apply (h : FVec Ideal S512x1024 .bf16) (w : Vec Ideal S1024x256 .bf16) (r : Fin 512) (a : Fin 256) :
    k0_pay84 h w (ix2 r a) = ∑ k : Fin 1024, h (ix2 r k) * w (ix2 k a) := by
  unfold k0_pay84
  pointwise

theorem up_apply (h : FVec Ideal S512x1024 .bf16) (w : Vec Ideal S1024x256 .bf16) (r : Fin 512) (a : Fin 256) :
    k0_pay85 h w (ix2 r a) = ∑ k : Fin 1024, h (ix2 r k) * w (ix2 k a) := by
  unfold k0_pay85
  pointwise

theorem last_apply (h : FVec Ideal S512x1024 .bf16) (w : Vec Ideal S1024x256 .bf16) (r : Fin 8) (a : Fin 256) :
    last h w (ix2 r a) = ∑ k : Fin 1024, h (ix2 ⟨504 + r.val, by omega⟩ k) * w (ix2 k a) := by
  unfold last k0_pay89
  pointwise
  rw [← gate_apply]

/-- A choice by the number of a row. -/
theorem select_row (r : Fin 512) (k : Fin 2) (x y : EReal) :
    Scalar.select (IntOp.cmpi CmpIPredicate.eq (BitVec.ofNat 32 r.val) (BitVec.ofNat 32 k.val)) x y = if r.val = k.val then x else y := by
  have h : ∀ (r : Fin 512) (k : Fin 2), IntOp.cmpi CmpIPredicate.eq (BitVec.ofNat 32 r.val) (BitVec.ofNat 32 k.val)
      = if r.val = k.val then 1#1 else 0#1 := by decide +kernel
  rw [h]
  split_ifs <;> rfl

/-- The first products of the row before, the last of the tile before at the tile's first row. -/
theorem before1_apply (h : FVec Ideal S512x1024 .bf16) (w : Vec Ideal S1024x256 .bf16) (t : Vec Ideal S8x256 .f32) (r : Fin 512) (a : Fin 256) :
    k0_pay86 rows h w t (ix2 r a)
      = if r.val = 0 then t (ix2 7 a) else k0_pay84 h w (ix2 ⟨r.val - 1, by omega⟩ a) := by
  unfold k0_pay86 rows
  pointwise
  refine (select_row r 0 _ _).trans ?_
  by_cases h0 : r.val = 0
  · exact (if_pos h0).trans (if_pos h0).symm
  refine (if_neg h0).trans (Eq.trans ?_ (if_neg h0).symm)
  exact congrArg (k0_pay84 h w) (congrArg (ix2 · a) (Fin.ext (by show (r.val + 512 - 1) % 512 = r.val - 1; omega)))

/-- The first products of the row two before, likewise. -/
theorem before2_apply (h : FVec Ideal S512x1024 .bf16) (w : Vec Ideal S1024x256 .bf16) (t : Vec Ideal S8x256 .f32) (r : Fin 512) (a : Fin 256) :
    k0_pay87 rows h w t (ix2 r a)
      = if r.val = 0 then t (ix2 6 a) else if r.val = 1 then t (ix2 7 a) else k0_pay84 h w (ix2 ⟨r.val - 2, by omega⟩ a) := by
  unfold k0_pay87 rows
  pointwise
  refine (select_row r 0 _ _).trans ?_
  by_cases h0 : r.val = 0
  · exact (if_pos h0).trans (if_pos h0).symm
  refine (if_neg h0).trans (Eq.trans ?_ (if_neg h0).symm)
  refine (select_row r 1 _ _).trans ?_
  by_cases h1 : r.val = 1
  · exact (if_pos h1).trans (if_pos h1).symm
  refine (if_neg h1).trans (Eq.trans ?_ (if_neg h1).symm)
  exact congrArg (k0_pay84 h w) (congrArg (ix2 · a) (Fin.ext (by show (r.val + 512 - 2) % 512 = r.val - 2; omega)))

theorem chunk_apply (h : FVec Ideal S512x1024 .bf16) (wg wu : Vec Ideal S1024x256 .bf16) (tail : Vec Ideal S8x256 .f32)
    (cb c0 c1 c2 : Vec Ideal S1x256 .f32) (wd : Vec Ideal S256x1024 .bf16) (acc : FVec Ideal S512x1024 .f32) (r : Fin 512) (e : Fin 1024) :
    chunk h wg wu tail cb c0 c1 c2 wd acc (ix2 r e)
      = acc (ix2 r e) + ∑ a : Fin 256, active
          (cb (ix2 0 a) + c0 (ix2 0 a) * k0_pay87 rows h wg tail (ix2 r a) + c1 (ix2 0 a) * k0_pay86 rows h wg tail (ix2 r a)
            + c2 (ix2 0 a) * k0_pay84 h wg (ix2 r a)) (k0_pay85 h wu (ix2 r a)) * wd (ix2 a e) := by
  unfold chunk k0_pay1 active
  pointwise

end Cert.FfnIdeal.Conv

end
-- ==== Proof.Steps.lean ====
/-
  The feed-forward kernel's body as eleven steps over the blocks of columns, and what it leaves in its blocks and in its scratch.
-/
module

public import proofs.«01_k».proof.Proof.Chunk
public import Idealize.ShloMosaic.Lib.Pipeline.ValueKit.Tiles
public import Idealize.ShloMosaic.Lib.Pipeline.ReadBack

@[expose] public section

set_option maxRecDepth 16384

noncomputable section

namespace Cert.FfnIdeal.Conv

open Cert.FfnIdeal Cert.FfnIdeal.Gen Idealize.ShloMosaic Idealize.ShloMosaic.TcCoe Idealize.SL.Sem Cert.Gated

section
variable {F : FTy → Type} [FloatOps F]

/-- A column of block `k`. -/
def at256 (k : Fin 11) (a : Fin 256) : Fin 2816 := ⟨256 * k.val + a.val, by omega⟩

/-- Block `k` of a matrix's columns. -/
def wide (w : Vec F S1024x2816 .bf16) (k : Fin 11) : Vec F S1024x256 .bf16 := fun y => w (ix2 (y 0) (at256 k (y 1)))
/-- Block `k` of a matrix's rows. -/
def tall (w : Vec F S2816x1024 .bf16) (k : Fin 11) : Vec F S256x1024 .bf16 := fun y => w (ix2 (at256 k (y 0)) (y 1))
/-- Block `k` of a row of the mixture's weights. -/
def weight (w : Vec F S3x2816 .f32) (j : Fin 3) (k : Fin 11) : Vec F S1x256 .f32 := fun y => w (ix2 j (at256 k (y 1)))
/-- Block `k` of the mixture's offsets. -/
def offset (w : Vec F S1x2816 .f32) (k : Fin 11) : Vec F S1x256 .f32 := fun y => w (ix2 (y 0) (at256 k (y 1)))
/-- Block `k` of the rows kept between tiles. -/
def kept (w : Vec F S8x2816 .f32) (k : Fin 11) : Vec F S8x256 .f32 := fun y => w (ix2 (y 0) (at256 k (y 1)))

theorem wide_read (a : Memref sig .tc .vmem S1024x2816 .bf16) (h : a.IsWhole) (x : Vec F S1024x2816 .bf16) {off : Fin 2 → ℕ} (inb)
    (k : Fin 11) (ho : off = ![0, 256 * k.val]) :
    (View.readAt (Elt F) a.view (Rect.unit (s := S1024x2816) off S1024x256.size inb).toLoadRect (h.unread x) : Vec F S1024x256 .bf16) = wide x k := by
  subst ho
  rw [View.readAt_eq_ld, h.read_unread]
  funext y
  refine View.ld_unit_apply_of x _ _ _ _ _ fun e => ?_
  match e with
  | ⟨0, _⟩ => exact (Nat.zero_add _).symm
  | ⟨1, _⟩ => rfl

theorem tall_read (a : Memref sig .tc .vmem S2816x1024 .bf16) (h : a.IsWhole) (x : Vec F S2816x1024 .bf16) {off : Fin 2 → ℕ} (inb)
    (k : Fin 11) (ho : off = ![256 * k.val, 0]) :
    (View.readAt (Elt F) a.view (Rect.unit (s := S2816x1024) off S256x1024.size inb).toLoadRect (h.unread x) : Vec F S256x1024 .bf16) = tall x k := by
  subst ho
  rw [View.readAt_eq_ld, h.read_unread]
  funext y
  refine View.ld_unit_apply_of x _ _ _ _ _ fun e => ?_
  match e with
  | ⟨0, _⟩ => rfl
  | ⟨1, _⟩ => exact (Nat.zero_add _).symm

theorem weight_read (a : Memref sig .tc .vmem S3x2816 .f32) (h : a.IsWhole) (x : Vec F S3x2816 .f32) {off : Fin 2 → ℕ} (inb)
    (j : Fin 3) (k : Fin 11) (ho : off = ![j.val, 256 * k.val]) :
    (View.readAt (Elt F) a.view (Rect.unit (s := S3x2816) off S1x256.size inb).toLoadRect (h.unread x) : Vec F S1x256 .f32) = weight x j k := by
  subst ho
  rw [View.readAt_eq_ld, h.read_unread]
  funext y
  refine View.ld_unit_apply_of x _ _ _ _ _ fun e => ?_
  match e with
  | ⟨0, _⟩ =>
    have h0 : (y 0).val < 1 := (y 0).isLt
    show j.val = j.val + (y 0).val
    omega
  | ⟨1, _⟩ => rfl

theorem offset_read (a : Memref sig .tc .vmem S1x2816 .f32) (h : a.IsWhole) (x : Vec F S1x2816 .f32) {off : Fin 2 → ℕ} (inb)
    (k : Fin 11) (ho : off = ![0, 256 * k.val]) :
    (View.readAt (Elt F) a.view (Rect.unit (s := S1x2816) off S1x256.size inb).toLoadRect (h.unread x) : Vec F S1x256 .f32) = offset x k := by
  subst ho
  rw [View.readAt_eq_ld, h.read_unread]
  funext y
  refine View.ld_unit_apply_of x _ _ _ _ _ fun e => ?_
  match e with
  | ⟨0, _⟩ => exact (Nat.zero_add _).symm
  | ⟨1, _⟩ => rfl

theorem kept_ld (x : Vec F S8x2816 .f32) {off : Fin 2 → ℕ} (inb) (k : Fin 11) (ho : off = ![0, 256 * k.val]) :
    (View.ld x (Rect.unit (s := S8x2816) off S8x256.size inb) : Vec F S8x256 .f32) = kept x k := by
  subst ho
  funext y
  refine View.ld_unit_apply_of x _ _ _ _ _ fun e => ?_
  match e with
  | ⟨0, _⟩ => exact (Nat.zero_add _).symm
  | ⟨1, _⟩ => rfl

theorem kept_read (a : Memref sig .tc .vmem S8x2816 .f32) (h : a.IsWhole) (x : Vec F S8x2816 .f32) {off : Fin 2 → ℕ} (inb)
    (k : Fin 11) (ho : off = ![0, 256 * k.val]) :
    (View.readAt (Elt F) a.view (Rect.unit (s := S8x2816) off S8x256.size inb).toLoadRect (h.unread x) : Vec F S8x256 .f32) = kept x k := by
  rw [View.readAt_eq_ld, h.read_unread]
  exact kept_ld x inb k ho

/-- What block `k` of the columns adds to a tile's rows. -/
def step (x2 x3 : Vec F S1024x2816 .bf16) (x4 : Vec F S3x2816 .f32) (x5 : Vec F S1x2816 .f32) (x6 : Vec F S2816x1024 .bf16)
    (h : FVec F S512x1024 .bf16) (tail : Vec F S8x256 .f32) (k : Fin 11) (acc : FVec F S512x1024 .f32) : FVec F S512x1024 .f32 :=
  chunk h (wide x2 k) (wide x3 k) tail (offset x5 k) (weight x4 0 k) (weight x4 1 k) (weight x4 2 k) (tall x6 k) acc

/-- All blocks, one after the other. -/
def steps (x2 x3 : Vec F S1024x2816 .bf16) (x4 : Vec F S3x2816 .f32) (x5 : Vec F S1x2816 .f32) (x6 : Vec F S2816x1024 .bf16)
    (h : FVec F S512x1024 .bf16) (tail : Fin 11 → Vec F S8x256 .f32) (x : FVec F S512x1024 .f32) : FVec F S512x1024 .f32 :=
  let f := fun (k : Fin 11) acc => step x2 x3 x4 x5 x6 h (tail k) k acc
  f 10 (f 9 (f 8 (f 7 (f 6 (f 5 (f 4 (f 3 (f 2 (f 1 (f 0 x))))))))))

theorem step_of_reads (a3 : Memref sig .tc .vmem S1024x2816 .bf16) (h3 : a3.IsWhole) (a4 : Memref sig .tc .vmem S1024x2816 .bf16) (h4 : a4.IsWhole)
    (a5 : Memref sig .tc .vmem S3x2816 .f32) (h5 : a5.IsWhole) (a6 : Memref sig .tc .vmem S1x2816 .f32) (h6 : a6.IsWhole)
    (a7 : Memref sig .tc .vmem S2816x1024 .bf16) (h7 : a7.IsWhole)
    (x2 x3 : Vec F S1024x2816 .bf16) (x4 : Vec F S3x2816 .f32) (x5 : Vec F S1x2816 .f32) (x6 : Vec F S2816x1024 .bf16)
    (k : Fin 11) {o o0 o1 o2 o7 : Fin 2 → ℕ} (i3 i6 j0 j1 j2 i7)
    (ho : o = ![0, 256 * k.val]) (ho0 : o0 = ![(0 : Fin 3).val, 256 * k.val]) (ho1 : o1 = ![(1 : Fin 3).val, 256 * k.val])
    (ho2 : o2 = ![(2 : Fin 3).val, 256 * k.val]) (ho7 : o7 = ![256 * k.val, 0])
    (h : FVec F S512x1024 .bf16) (tail : Vec F S8x256 .f32) (acc : FVec F S512x1024 .f32) :
    chunk h (View.readAt (Elt F) a3.view (Rect.unit (s := S1024x2816) o S1024x256.size i3).toLoadRect (h3.unread x2))
        (View.readAt (Elt F) a4.view (Rect.unit (s := S1024x2816) o S1024x256.size i3).toLoadRect (h4.unread x3)) tail
        (View.readAt (Elt F) a6.view (Rect.unit (s := S1x2816) o S1x256.size i6).toLoadRect (h6.unread x5))
        (View.readAt (Elt F) a5.view (Rect.unit (s := S3x2816) o0 S1x256.size j0).toLoadRect (h5.unread x4))
        (View.readAt (Elt F) a5.view (Rect.unit (s := S3x2816) o1 S1x256.size j1).toLoadRect (h5.unread x4))
        (View.readAt (Elt F) a5.view (Rect.unit (s := S3x2816) o2 S1x256.size j2).toLoadRect (h5.unread x4))
        (View.readAt (Elt F) a7.view (Rect.unit (s := S2816x1024) o7 S256x1024.size i7).toLoadRect (h7.unread x6)) acc
      = step x2 x3 x4 x5 x6 h tail k acc := by
  unfold step
  rw [wide_read a3 h3 x2 i3 k ho, wide_read a4 h4 x3 i3 k ho, offset_read a6 h6 x5 i6 k ho, weight_read a5 h5 x4 j0 0 k ho0,
    weight_read a5 h5 x4 j1 1 k ho1, weight_read a5 h5 x4 j2 2 k ho2, tall_read a7 h7 x6 i7 k ho7]

theorem last_of_read (a3 : Memref sig .tc .vmem S1024x2816 .bf16) (h3 : a3.IsWhole) (x2 : Vec F S1024x2816 .bf16) (k : Fin 11) {o : Fin 2 → ℕ} (i3)
    (ho : o = ![0, 256 * k.val]) (h : FVec F S512x1024 .bf16) :
    last h (View.readAt (Elt F) a3.view (Rect.unit (s := S1024x2816) o S1024x256.size i3).toLoadRect (h3.unread x2)) = last h (wide x2 k) := by
  rw [wide_read a3 h3 x2 i3 k ho]

end

section
variable {F : FTy → Type} [FloatOps F]
variable (c : Dev nD) (i : grid0.Coords) (arg1 : Memref sig .tc .vmem S512x1024 .f32) (harg1 : arg1.IsWhole) (arg2 : Memref sig .tc .vmem S1x1024 .f32) (harg2 : arg2.IsWhole)
  (arg3 : Memref sig .tc .vmem S1024x2816 .bf16) (harg3 : arg3.IsWhole) (arg4 : Memref sig .tc .vmem S1024x2816 .bf16) (harg4 : arg4.IsWhole)
  (arg5 : Memref sig .tc .vmem S3x2816 .f32) (harg5 : arg5.IsWhole) (arg6 : Memref sig .tc .vmem S1x2816 .f32) (harg6 : arg6.IsWhole)
  (arg7 : Memref sig .tc .vmem S2816x1024 .bf16) (harg7 : arg7.IsWhole) (arg8 : Memref sig .tc .vmem S512x1024 .f32) (harg8 : arg8.IsWhole)
  (arg9 : Memref sig .tc .vmem S8x2816 .f32) (harg9 : arg9.IsWhole) (arg10 : Memref sig .tc .vmem S8x2816 .f32) (harg10 : arg10.IsWhole)
  (x0 : Vec F S512x1024 .f32) (x1 : Vec F S1x1024 .f32) (x2 x3 : Vec F S1024x2816 .bf16) (x4 : Vec F S3x2816 .f32) (x5 : Vec F S1x2816 .f32)
  (x6 : Vec F S2816x1024 .bf16) (xs0 : Vec F S8x2816 .f32)

theorem accB0 :
    kernelRun0_B.sl.r_7 c arg1 harg1 arg2 harg2 arg3 harg3 arg4 harg4 arg5 harg5 arg6 harg6 arg7 harg7 arg10 harg10 x0 x1 x2 x3 x4 x5 x6 xs0
      = step x2 x3 x4 x5 x6 (kernelRun0_B.sl.r_1 c arg1 harg1 arg2 harg2 x0 x1) (View.readAt (Elt F) arg10.view (Rect.unit (s := S8x2816) ![0, 0] S8x256.size inb_S8x2816_S8x256_0_0).toLoadRect (harg10.unread xs0)) 0 (kernelRun0_B.sl.r c arg1 harg1 x0) := by
  refine Eq.trans ?_ (step_of_reads arg3 harg3 arg4 harg4 arg5 harg5 arg6 harg6 arg7 harg7 x2 x3 x4 x5 x6 0 inb_S1024x2816_S1024x256_0_0 inb_S1x2816_S1x256_0_0
    inb_S3x2816_S1x256_0_0 inb_S3x2816_S1x256_1_0 inb_S3x2816_S1x256_2_0 inb_S2816x1024_S256x1024_0_0 rfl rfl rfl rfl rfl _ _ _)
  unfold kernelRun0_B.sl.r_7 kernelRun0_B.sl.r_6 kernelRun0_B.sl.r_5 kernelRun0_B.sl.r_4 kernelRun0_B.sl.r_3 kernelRun0_B.sl.r_2
  rfl

theorem accB1 :
    kernelRun0_B.sl.r_12 c arg1 harg1 arg2 harg2 arg3 harg3 arg4 harg4 arg5 harg5 arg6 harg6 arg7 harg7 arg10 harg10 x0 x1 x2 x3 x4 x5 x6 xs0
      = step x2 x3 x4 x5 x6 (kernelRun0_B.sl.r_1 c arg1 harg1 arg2 harg2 x0 x1) (kernelRun0_B.sl.v79 c arg10 harg10 xs0) 1 (kernelRun0_B.sl.r_7 c arg1 harg1 arg2 harg2 arg3 harg3 arg4 harg4 arg5 harg5 arg6 harg6 arg7 harg7 arg10 harg10 x0 x1 x2 x3 x4 x5 x6 xs0) := by
  refine Eq.trans ?_ (step_of_reads arg3 harg3 arg4 harg4 arg5 harg5 arg6 harg6 arg7 harg7 x2 x3 x4 x5 x6 1 inb_S1024x2816_S1024x256_0_256 inb_S1x2816_S1x256_0_256
    inb_S3x2816_S1x256_0_256 inb_S3x2816_S1x256_1_256 inb_S3x2816_S1x256_2_256 inb_S2816x1024_S256x1024_256_0 rfl rfl rfl rfl rfl _ _ _)
  unfold kernelRun0_B.sl.r_12 kernelRun0_B.sl.r_11 kernelRun0_B.sl.r_10 kernelRun0_B.sl.r_9 kernelRun0_B.sl.r_8
  generalize kernelRun0_B.sl.r_7 c arg1 harg1 arg2 harg2 arg3 harg3 arg4 harg4 arg5 harg5 arg6 harg6 arg7 harg7 arg10 harg10 x0 x1 x2 x3 x4 x5 x6 xs0 = acc
  generalize kernelRun0_B.sl.r_1 c arg1 harg1 arg2 harg2 x0 x1 = h
  rfl

theorem accB2 :
    kernelRun0_B.sl.r_19 c arg1 harg1 arg2 harg2 arg3 harg3 arg4 harg4 arg5 harg5 arg6 harg6 arg7 harg7 arg10 harg10 x0 x1 x2 x3 x4 x5 x6 xs0
      = step x2 x3 x4 x5 x6 (kernelRun0_B.sl.r_1 c arg1 harg1 arg2 harg2 x0 x1) (kernelRun0_B.sl.v135 c arg10 harg10 xs0) 2 (kernelRun0_B.sl.r_12 c arg1 harg1 arg2 harg2 arg3 harg3 arg4 harg4 arg5 harg5 arg6 harg6 arg7 harg7 arg10 harg10 x0 x1 x2 x3 x4 x5 x6 xs0) := by
  refine Eq.trans ?_ (step_of_reads arg3 harg3 arg4 harg4 arg5 harg5 arg6 harg6 arg7 harg7 x2 x3 x4 x5 x6 2 inb_S1024x2816_S1024x256_0_512 inb_S1x2816_S1x256_0_512
    inb_S3x2816_S1x256_0_512 inb_S3x2816_S1x256_1_512 inb_S3x2816_S1x256_2_512 inb_S2816x1024_S256x1024_512_0 rfl rfl rfl rfl rfl _ _ _)
  unfold kernelRun0_B.sl.r_19 kernelRun0_B.sl.r_18 kernelRun0_B.sl.r_17 kernelRun0_B.sl.r_16 kernelRun0_B.sl.r_15 kernelRun0_B.sl.r_14 kernelRun0_B.sl.r_13
  generalize kernelRun0_B.sl.r_12 c arg1 harg1 arg2 harg2 arg3 harg3 arg4 harg4 arg5 harg5 arg6 harg6 arg7 harg7 arg10 harg10 x0 x1 x2 x3 x4 x5 x6 xs0 = acc
  generalize kernelRun0_B.sl.r_1 c arg1 harg1 arg2 harg2 x0 x1 = h
  rfl

theorem accB3 :
    kernelRun0_B.sl.r_23 c arg1 harg1 arg2 harg2 arg3 harg3 arg4 harg4 arg5 harg5 arg6 harg6 arg7 harg7 arg10 harg10 x0 x1 x2 x3 x4 x5 x6 xs0
      = step x2 x3 x4 x5 x6 (kernelRun0_B.sl.r_1 c arg1 harg1 arg2 harg2 x0 x1) (kernelRun0_B.sl.v191 c arg10 harg10 xs0) 3 (kernelRun0_B.sl.r_19 c arg1 harg1 arg2 harg2 arg3 harg3 arg4 harg4 arg5 harg5 arg6 harg6 arg7 harg7 arg10 harg10 x0 x1 x2 x3 x4 x5 x6 xs0) := by
  refine Eq.trans ?_ (step_of_reads arg3 harg3 arg4 harg4 arg5 harg5 arg6 harg6 arg7 harg7 x2 x3 x4 x5 x6 3 inb_S1024x2816_S1024x256_0_768 inb_S1x2816_S1x256_0_768
    inb_S3x2816_S1x256_0_768 inb_S3x2816_S1x256_1_768 inb_S3x2816_S1x256_2_768 inb_S2816x1024_S256x1024_768_0 rfl rfl rfl rfl rfl _ _ _)
  unfold kernelRun0_B.sl.r_23 kernelRun0_B.sl.r_22 kernelRun0_B.sl.r_21 kernelRun0_B.sl.r_20
  generalize kernelRun0_B.sl.r_19 c arg1 harg1 arg2 harg2 arg3 harg3 arg4 harg4 arg5 harg5 arg6 harg6 arg7 harg7 arg10 harg10 x0 x1 x2 x3 x4 x5 x6 xs0 = acc
  generalize kernelRun0_B.sl.r_1 c arg1 harg1 arg2 harg2 x0 x1 = h
  rfl

theorem accB4 :
    kernelRun0_B.sl.r_28 c arg1 harg1 arg2 harg2 arg3 harg3 arg4 harg4 arg5 harg5 arg6 harg6 arg7 harg7 arg10 harg10 x0 x1 x2 x3 x4 x5 x6 xs0
      = step x2 x3 x4 x5 x6 (kernelRun0_B.sl.r_1 c arg1 harg1 arg2 harg2 x0 x1) (kernelRun0_B.sl.v247 c arg10 harg10 xs0) 4 (kernelRun0_B.sl.r_23 c arg1 harg1 arg2 harg2 arg3 harg3 arg4 harg4 arg5 harg5 arg6 harg6 arg7 harg7 arg10 harg10 x0 x1 x2 x3 x4 x5 x6 xs0) := by
  refine Eq.trans ?_ (step_of_reads arg3 harg3 arg4 harg4 arg5 harg5 arg6 harg6 arg7 harg7 x2 x3 x4 x5 x6 4 inb_S1024x2816_S1024x256_0_1024 inb_S1x2816_S1x256_0_1024
    inb_S3x2816_S1x256_0_1024 inb_S3x2816_S1x256_1_1024 inb_S3x2816_S1x256_2_1024 inb_S2816x1024_S256x1024_1024_0 rfl rfl rfl rfl rfl _ _ _)
  unfold kernelRun0_B.sl.r_28 kernelRun0_B.sl.r_27 kernelRun0_B.sl.r_26 kernelRun0_B.sl.r_25 kernelRun0_B.sl.r_24
  generalize kernelRun0_B.sl.r_23 c arg1 harg1 arg2 harg2 arg3 harg3 arg4 harg4 arg5 harg5 arg6 harg6 arg7 harg7 arg10 harg10 x0 x1 x2 x3 x4 x5 x6 xs0 = acc
  generalize kernelRun0_B.sl.r_1 c arg1 harg1 arg2 harg2 x0 x1 = h
  rfl

theorem accB5 :
    kernelRun0_B.sl.r_33 c arg1 harg1 arg2 harg2 arg3 harg3 arg4 harg4 arg5 harg5 arg6 harg6 arg7 harg7 arg10 harg10 x0 x1 x2 x3 x4 x5 x6 xs0
      = step x2 x3 x4 x5 x6 (kernelRun0_B.sl.r_1 c arg1 harg1 arg2 harg2 x0 x1) (kernelRun0_B.sl.v303 c arg10 harg10 xs0) 5 (kernelRun0_B.sl.r_28 c arg1 harg1 arg2 harg2 arg3 harg3 arg4 harg4 arg5 harg5 arg6 harg6 arg7 harg7 arg10 harg10 x0 x1 x2 x3 x4 x5 x6 xs0) := by
  refine Eq.trans ?_ (step_of_reads arg3 harg3 arg4 harg4 arg5 harg5 arg6 harg6 arg7 harg7 x2 x3 x4 x5 x6 5 inb_S1024x2816_S1024x256_0_1280 inb_S1x2816_S1x256_0_1280
    inb_S3x2816_S1x256_0_1280 inb_S3x2816_S1x256_1_1280 inb_S3x2816_S1x256_2_1280 inb_S2816x1024_S256x1024_1280_0 rfl rfl rfl rfl rfl _ _ _)
  unfold kernelRun0_B.sl.r_33 kernelRun0_B.sl.r_32 kernelRun0_B.sl.r_31 kernelRun0_B.sl.r_30 kernelRun0_B.sl.r_29
  generalize kernelRun0_B.sl.r_28 c arg1 harg1 arg2 harg2 arg3 harg3 arg4 harg4 arg5 harg5 arg6 harg6 arg7 harg7 arg10 harg10 x0 x1 x2 x3 x4 x5 x6 xs0 = acc
  generalize kernelRun0_B.sl.r_1 c arg1 harg1 arg2 harg2 x0 x1 = h
  rfl

theorem accB6 :
    kernelRun0_B.sl.r_39 c arg1 harg1 arg2 harg2 arg3 harg3 arg4 harg4 arg5 harg5 arg6 harg6 arg7 harg7 arg10 harg10 x0 x1 x2 x3 x4 x5 x6 xs0
      = step x2 x3 x4 x5 x6 (kernelRun0_B.sl.r_1 c arg1 harg1 arg2 harg2 x0 x1) (kernelRun0_B.sl.v359 c arg10 harg10 xs0) 6 (kernelRun0_B.sl.r_33 c arg1 harg1 arg2 harg2 arg3 harg3 arg4 harg4 arg5 harg5 arg6 harg6 arg7 harg7 arg10 harg10 x0 x1 x2 x3 x4 x5 x6 xs0) := by
  refine Eq.trans ?_ (step_of_reads arg3 harg3 arg4 harg4 arg5 harg5 arg6 harg6 arg7 harg7 x2 x3 x4 x5 x6 6 inb_S1024x2816_S1024x256_0_1536 inb_S1x2816_S1x256_0_1536
    inb_S3x2816_S1x256_0_1536 inb_S3x2816_S1x256_1_1536 inb_S3x2816_S1x256_2_1536 inb_S2816x1024_S256x1024_1536_0 rfl rfl rfl rfl rfl _ _ _)
  unfold kernelRun0_B.sl.r_39 kernelRun0_B.sl.r_37 kernelRun0_B.sl.r_36 kernelRun0_B.sl.r_35 kernelRun0_B.sl.r_34
  generalize kernelRun0_B.sl.r_33 c arg1 harg1 arg2 harg2 arg3 harg3 arg4 harg4 arg5 harg5 arg6 harg6 arg7 harg7 arg10 harg10 x0 x1 x2 x3 x4 x5 x6 xs0 = acc
  generalize kernelRun0_B.sl.r_1 c arg1 harg1 arg2 harg2 x0 x1 = h
  rfl

theorem accB7 :
    kernelRun0_B.sl.r_43 c arg1 harg1 arg2 harg2 arg3 harg3 arg4 harg4 arg5 harg5 arg6 harg6 arg7 harg7 arg10 harg10 x0 x1 x2 x3 x4 x5 x6 xs0
      = step x2 x3 x4 x5 x6 (kernelRun0_B.sl.r_1 c arg1 harg1 arg2 harg2 x0 x1) (kernelRun0_B.sl.v415 c arg10 harg10 xs0) 7 (kernelRun0_B.sl.r_39 c arg1 harg1 arg2 harg2 arg3 harg3 arg4 harg4 arg5 harg5 arg6 harg6 arg7 harg7 arg10 harg10 x0 x1 x2 x3 x4 x5 x6 xs0) := by
  refine Eq.trans ?_ (step_of_reads arg3 harg3 arg4 harg4 arg5 harg5 arg6 harg6 arg7 harg7 x2 x3 x4 x5 x6 7 inb_S1024x2816_S1024x256_0_1792 inb_S1x2816_S1x256_0_1792
    inb_S3x2816_S1x256_0_1792 inb_S3x2816_S1x256_1_1792 inb_S3x2816_S1x256_2_1792 inb_S2816x1024_S256x1024_1792_0 rfl rfl rfl rfl rfl _ _ _)
  unfold kernelRun0_B.sl.r_43 kernelRun0_B.sl.r_42 kernelRun0_B.sl.r_41 kernelRun0_B.sl.r_40
  generalize kernelRun0_B.sl.r_39 c arg1 harg1 arg2 harg2 arg3 harg3 arg4 harg4 arg5 harg5 arg6 harg6 arg7 harg7 arg10 harg10 x0 x1 x2 x3 x4 x5 x6 xs0 = acc
  generalize kernelRun0_B.sl.r_1 c arg1 harg1 arg2 harg2 x0 x1 = h
  rfl

theorem accB8 :
    kernelRun0_B.sl.r_49 c arg1 harg1 arg2 harg2 arg3 harg3 arg4 harg4 arg5 harg5 arg6 harg6 arg7 harg7 arg10 harg10 x0 x1 x2 x3 x4 x5 x6 xs0
      = step x2 x3 x4 x5 x6 (kernelRun0_B.sl.r_1 c arg1 harg1 arg2 harg2 x0 x1) (kernelRun0_B.sl.v471 c arg10 harg10 xs0) 8 (kernelRun0_B.sl.r_43 c arg1 harg1 arg2 harg2 arg3 harg3 arg4 harg4 arg5 harg5 arg6 harg6 arg7 harg7 arg10 harg10 x0 x1 x2 x3 x4 x5 x6 xs0) := by
  refine Eq.trans ?_ (step_of_reads arg3 harg3 arg4 harg4 arg5 harg5 arg6 harg6 arg7 harg7 x2 x3 x4 x5 x6 8 inb_S1024x2816_S1024x256_0_2048 inb_S1x2816_S1x256_0_2048
    inb_S3x2816_S1x256_0_2048 inb_S3x2816_S1x256_1_2048 inb_S3x2816_S1x256_2_2048 inb_S2816x1024_S256x1024_2048_0 rfl rfl rfl rfl rfl _ _ _)
  unfold kernelRun0_B.sl.r_49 kernelRun0_B.sl.r_47 kernelRun0_B.sl.r_46 kernelRun0_B.sl.r_45 kernelRun0_B.sl.r_44
  generalize kernelRun0_B.sl.r_43 c arg1 harg1 arg2 harg2 arg3 harg3 arg4 harg4 arg5 harg5 arg6 harg6 arg7 harg7 arg10 harg10 x0 x1 x2 x3 x4 x5 x6 xs0 = acc
  generalize kernelRun0_B.sl.r_1 c arg1 harg1 arg2 harg2 x0 x1 = h
  rfl

theorem accB9 :
    kernelRun0_B.sl.r_55 c arg1 harg1 arg2 harg2 arg3 harg3 arg4 harg4 arg5 harg5 arg6 harg6 arg7 harg7 arg10 harg10 x0 x1 x2 x3 x4 x5 x6 xs0
      = step x2 x3 x4 x5 x6 (kernelRun0_B.sl.r_1 c arg1 harg1 arg2 harg2 x0 x1) (kernelRun0_B.sl.v527 c arg10 harg10 xs0) 9 (kernelRun0_B.sl.r_49 c arg1 harg1 arg2 harg2 arg3 harg3 arg4 harg4 arg5 harg5 arg6 harg6 arg7 harg7 arg10 harg10 x0 x1 x2 x3 x4 x5 x6 xs0) := by
  refine Eq.trans ?_ (step_of_reads arg3 harg3 arg4 harg4 arg5 harg5 arg6 harg6 arg7 harg7 x2 x3 x4 x5 x6 9 inb_S1024x2816_S1024x256_0_2304 inb_S1x2816_S1x256_0_2304
    inb_S3x2816_S1x256_0_2304 inb_S3x2816_S1x256_1_2304 inb_S3x2816_S1x256_2_2304 inb_S2816x1024_S256x1024_2304_0 rfl rfl rfl rfl rfl _ _ _)
  unfold kernelRun0_B.sl.r_55 kernelRun0_B.sl.r_54 kernelRun0_B.sl.r_53 kernelRun0_B.sl.r_52 kernelRun0_B.sl.r_51 kernelRun0_B.sl.r_50
  generalize kernelRun0_B.sl.r_49 c arg1 harg1 arg2 harg2 arg3 harg3 arg4 harg4 arg5 harg5 arg6 harg6 arg7 harg7 arg10 harg10 x0 x1 x2 x3 x4 x5 x6 xs0 = acc
  generalize kernelRun0_B.sl.r_1 c arg1 harg1 arg2 harg2 x0 x1 = h
  rfl

theorem accB10 :
    k0_pay1 (kernelRun0_B.sl.r_55 c arg1 harg1 arg2 harg2 arg3 harg3 arg4 harg4 arg5 harg5 arg6 harg6 arg7 harg7 arg10 harg10 x0 x1 x2 x3 x4 x5 x6 xs0) (kernelRun0_B.sl.r_56 c arg1 harg1 arg2 harg2 arg3 harg3 x0 x1 x2) (kernelRun0_B.sl.r_57 c arg1 harg1 arg2 harg2 arg4 harg4 x0 x1 x3) (kernelRun0_B.sl.r_58 c arg1 harg1 arg2 harg2 arg3 harg3 arg10 harg10 x0 x1 x2 xs0) (kernelRun0_B.sl.r_59 c arg1 harg1 arg2 harg2 arg3 harg3 arg10 harg10 x0 x1 x2 xs0)
        (View.readAt (Elt F) arg6.view (Rect.unit (s := S1x2816) ![0, 2560] S1x256.size inb_S1x2816_S1x256_0_2560).toLoadRect (harg6.unread x5))
        (View.readAt (Elt F) arg5.view (Rect.unit (s := S3x2816) ![0, 2560] S1x256.size inb_S3x2816_S1x256_0_2560).toLoadRect (harg5.unread x4))
        (View.readAt (Elt F) arg5.view (Rect.unit (s := S3x2816) ![1, 2560] S1x256.size inb_S3x2816_S1x256_1_2560).toLoadRect (harg5.unread x4))
        (View.readAt (Elt F) arg5.view (Rect.unit (s := S3x2816) ![2, 2560] S1x256.size inb_S3x2816_S1x256_2_2560).toLoadRect (harg5.unread x4))
        (View.readAt (Elt F) arg7.view (Rect.unit (s := S2816x1024) ![2560, 0] S256x1024.size inb_S2816x1024_S256x1024_2560_0).toLoadRect (harg7.unread x6))
      = step x2 x3 x4 x5 x6 (kernelRun0_B.sl.r_1 c arg1 harg1 arg2 harg2 x0 x1) (kernelRun0_B.sl.v583 c arg10 harg10 xs0) 10 (kernelRun0_B.sl.r_55 c arg1 harg1 arg2 harg2 arg3 harg3 arg4 harg4 arg5 harg5 arg6 harg6 arg7 harg7 arg10 harg10 x0 x1 x2 x3 x4 x5 x6 xs0) := by
  refine Eq.trans ?_ (step_of_reads arg3 harg3 arg4 harg4 arg5 harg5 arg6 harg6 arg7 harg7 x2 x3 x4 x5 x6 10 inb_S1024x2816_S1024x256_0_2560 inb_S1x2816_S1x256_0_2560
    inb_S3x2816_S1x256_0_2560 inb_S3x2816_S1x256_1_2560 inb_S3x2816_S1x256_2_2560 inb_S2816x1024_S256x1024_2560_0 rfl rfl rfl rfl rfl _ _ _)
  unfold kernelRun0_B.sl.r_59 kernelRun0_B.sl.r_58 kernelRun0_B.sl.r_57 kernelRun0_B.sl.r_56
  generalize kernelRun0_B.sl.r_55 c arg1 harg1 arg2 harg2 arg3 harg3 arg4 harg4 arg5 harg5 arg6 harg6 arg7 harg7 arg10 harg10 x0 x1 x2 x3 x4 x5 x6 xs0 = acc
  generalize kernelRun0_B.sl.r_1 c arg1 harg1 arg2 harg2 x0 x1 = h
  rfl

end

section
variable {F : FTy → Type} [FloatOps F]
variable (c : Dev nD) (i : grid0.Coords) (arg1 : Memref sig .tc .vmem S512x1024 .f32) (harg1 : arg1.IsWhole) (arg2 : Memref sig .tc .vmem S1x1024 .f32) (harg2 : arg2.IsWhole)
  (arg3 : Memref sig .tc .vmem S1024x2816 .bf16) (harg3 : arg3.IsWhole) (arg4 : Memref sig .tc .vmem S1024x2816 .bf16) (harg4 : arg4.IsWhole)
  (arg5 : Memref sig .tc .vmem S3x2816 .f32) (harg5 : arg5.IsWhole) (arg6 : Memref sig .tc .vmem S1x2816 .f32) (harg6 : arg6.IsWhole)
  (arg7 : Memref sig .tc .vmem S2816x1024 .bf16) (harg7 : arg7.IsWhole) (arg8 : Memref sig .tc .vmem S512x1024 .f32) (harg8 : arg8.IsWhole)
  (arg9 : Memref sig .tc .vmem S8x2816 .f32) (harg9 : arg9.IsWhole) (arg10 : Memref sig .tc .vmem S8x2816 .f32) (harg10 : arg10.IsWhole)
  (x0 : Vec F S512x1024 .f32) (x1 : Vec F S1x1024 .f32) (x2 x3 : Vec F S1024x2816 .bf16) (x4 : Vec F S3x2816 .f32) (x5 : Vec F S1x2816 .f32)
  (x6 : Vec F S2816x1024 .bf16) (xs0 : Vec F S8x2816 .f32)

theorem accA0 :
    kernelRun0_A.sl.r_7 c arg1 harg1 arg2 harg2 arg3 harg3 arg4 harg4 arg5 harg5 arg6 harg6 arg7 harg7 arg10 x0 x1 x2 x3 x4 x5 x6
      = step x2 x3 x4 x5 x6 (kernelRun0_A.sl.r_1 c arg1 harg1 arg2 harg2 x0 x1) (kernelRun0_A.sl.v23 c arg10) 0 (kernelRun0_A.sl.r c arg1 harg1 x0) := by
  refine Eq.trans ?_ (step_of_reads arg3 harg3 arg4 harg4 arg5 harg5 arg6 harg6 arg7 harg7 x2 x3 x4 x5 x6 0 inb_S1024x2816_S1024x256_0_0 inb_S1x2816_S1x256_0_0
    inb_S3x2816_S1x256_0_0 inb_S3x2816_S1x256_1_0 inb_S3x2816_S1x256_2_0 inb_S2816x1024_S256x1024_0_0 rfl rfl rfl rfl rfl _ _ _)
  unfold kernelRun0_A.sl.r_7 kernelRun0_A.sl.r_6 kernelRun0_A.sl.r_5 kernelRun0_A.sl.r_4 kernelRun0_A.sl.r_3 kernelRun0_A.sl.r_2
  rfl

theorem accA1 :
    kernelRun0_A.sl.r_12 c arg1 harg1 arg2 harg2 arg3 harg3 arg4 harg4 arg5 harg5 arg6 harg6 arg7 harg7 arg10 x0 x1 x2 x3 x4 x5 x6
      = step x2 x3 x4 x5 x6 (kernelRun0_A.sl.r_1 c arg1 harg1 arg2 harg2 x0 x1) (kernelRun0_A.sl.v79 c arg1 harg1 arg2 harg2 arg3 harg3 arg10 x0 x1 x2) 1 (kernelRun0_A.sl.r_7 c arg1 harg1 arg2 harg2 arg3 harg3 arg4 harg4 arg5 harg5 arg6 harg6 arg7 harg7 arg10 x0 x1 x2 x3 x4 x5 x6) := by
  refine Eq.trans ?_ (step_of_reads arg3 harg3 arg4 harg4 arg5 harg5 arg6 harg6 arg7 harg7 x2 x3 x4 x5 x6 1 inb_S1024x2816_S1024x256_0_256 inb_S1x2816_S1x256_0_256
    inb_S3x2816_S1x256_0_256 inb_S3x2816_S1x256_1_256 inb_S3x2816_S1x256_2_256 inb_S2816x1024_S256x1024_256_0 rfl rfl rfl rfl rfl _ _ _)
  unfold kernelRun0_A.sl.r_12 kernelRun0_A.sl.r_11 kernelRun0_A.sl.r_10 kernelRun0_A.sl.r_9 kernelRun0_A.sl.r_8
  generalize kernelRun0_A.sl.r_7 c arg1 harg1 arg2 harg2 arg3 harg3 arg4 harg4 arg5 harg5 arg6 harg6 arg7 harg7 arg10 x0 x1 x2 x3 x4 x5 x6 = acc
  generalize kernelRun0_A.sl.r_1 c arg1 harg1 arg2 harg2 x0 x1 = h
  rfl

theorem accA2 :
    kernelRun0_A.sl.r_19 c arg1 harg1 arg2 harg2 arg3 harg3 arg4 harg4 arg5 harg5 arg6 harg6 arg7 harg7 arg10 x0 x1 x2 x3 x4 x5 x6
      = step x2 x3 x4 x5 x6 (kernelRun0_A.sl.r_1 c arg1 harg1 arg2 harg2 x0 x1) (kernelRun0_A.sl.v135 c arg1 harg1 arg2 harg2 arg3 harg3 arg10 x0 x1 x2) 2 (kernelRun0_A.sl.r_12 c arg1 harg1 arg2 harg2 arg3 harg3 arg4 harg4 arg5 harg5 arg6 harg6 arg7 harg7 arg10 x0 x1 x2 x3 x4 x5 x6) := by
  refine Eq.trans ?_ (step_of_reads arg3 harg3 arg4 harg4 arg5 harg5 arg6 harg6 arg7 harg7 x2 x3 x4 x5 x6 2 inb_S1024x2816_S1024x256_0_512 inb_S1x2816_S1x256_0_512
    inb_S3x2816_S1x256_0_512 inb_S3x2816_S1x256_1_512 inb_S3x2816_S1x256_2_512 inb_S2816x1024_S256x1024_512_0 rfl rfl rfl rfl rfl _ _ _)
  unfold kernelRun0_A.sl.r_19 kernelRun0_A.sl.r_18 kernelRun0_A.sl.r_17 kernelRun0_A.sl.r_16 kernelRun0_A.sl.r_15 kernelRun0_A.sl.r_14 kernelRun0_A.sl.r_13
  generalize kernelRun0_A.sl.r_12 c arg1 harg1 arg2 harg2 arg3 harg3 arg4 harg4 arg5 harg5 arg6 harg6 arg7 harg7 arg10 x0 x1 x2 x3 x4 x5 x6 = acc
  generalize kernelRun0_A.sl.r_1 c arg1 harg1 arg2 harg2 x0 x1 = h
  rfl

theorem accA3 :
    kernelRun0_A.sl.r_23 c arg1 harg1 arg2 harg2 arg3 harg3 arg4 harg4 arg5 harg5 arg6 harg6 arg7 harg7 arg10 x0 x1 x2 x3 x4 x5 x6
      = step x2 x3 x4 x5 x6 (kernelRun0_A.sl.r_1 c arg1 harg1 arg2 harg2 x0 x1) (kernelRun0_A.sl.v191 c arg1 harg1 arg2 harg2 arg3 harg3 arg10 x0 x1 x2) 3 (kernelRun0_A.sl.r_19 c arg1 harg1 arg2 harg2 arg3 harg3 arg4 harg4 arg5 harg5 arg6 harg6 arg7 harg7 arg10 x0 x1 x2 x3 x4 x5 x6) := by
  refine Eq.trans ?_ (step_of_reads arg3 harg3 arg4 harg4 arg5 harg5 arg6 harg6 arg7 harg7 x2 x3 x4 x5 x6 3 inb_S1024x2816_S1024x256_0_768 inb_S1x2816_S1x256_0_768
    inb_S3x2816_S1x256_0_768 inb_S3x2816_S1x256_1_768 inb_S3x2816_S1x256_2_768 inb_S2816x1024_S256x1024_768_0 rfl rfl rfl rfl rfl _ _ _)
  unfold kernelRun0_A.sl.r_23 kernelRun0_A.sl.r_22 kernelRun0_A.sl.r_21 kernelRun0_A.sl.r_20
  generalize kernelRun0_A.sl.r_19 c arg1 harg1 arg2 harg2 arg3 harg3 arg4 harg4 arg5 harg5 arg6 harg6 arg7 harg7 arg10 x0 x1 x2 x3 x4 x5 x6 = acc
  generalize kernelRun0_A.sl.r_1 c arg1 harg1 arg2 harg2 x0 x1 = h
  rfl

theorem accA4 :
    kernelRun0_A.sl.r_28 c arg1 harg1 arg2 harg2 arg3 harg3 arg4 harg4 arg5 harg5 arg6 harg6 arg7 harg7 arg10 x0 x1 x2 x3 x4 x5 x6
      = step x2 x3 x4 x5 x6 (kernelRun0_A.sl.r_1 c arg1 harg1 arg2 harg2 x0 x1) (kernelRun0_A.sl.v247 c arg1 harg1 arg2 harg2 arg3 harg3 arg10 x0 x1 x2) 4 (kernelRun0_A.sl.r_23 c arg1 harg1 arg2 harg2 arg3 harg3 arg4 harg4 arg5 harg5 arg6 harg6 arg7 harg7 arg10 x0 x1 x2 x3 x4 x5 x6) := by
  refine Eq.trans ?_ (step_of_reads arg3 harg3 arg4 harg4 arg5 harg5 arg6 harg6 arg7 harg7 x2 x3 x4 x5 x6 4 inb_S1024x2816_S1024x256_0_1024 inb_S1x2816_S1x256_0_1024
    inb_S3x2816_S1x256_0_1024 inb_S3x2816_S1x256_1_1024 inb_S3x2816_S1x256_2_1024 inb_S2816x1024_S256x1024_1024_0 rfl rfl rfl rfl rfl _ _ _)
  unfold kernelRun0_A.sl.r_28 kernelRun0_A.sl.r_27 kernelRun0_A.sl.r_26 kernelRun0_A.sl.r_25 kernelRun0_A.sl.r_24
  generalize kernelRun0_A.sl.r_23 c arg1 harg1 arg2 harg2 arg3 harg3 arg4 harg4 arg5 harg5 arg6 harg6 arg7 harg7 arg10 x0 x1 x2 x3 x4 x5 x6 = acc
  generalize kernelRun0_A.sl.r_1 c arg1 harg1 arg2 harg2 x0 x1 = h
  rfl

theorem accA5 :
    kernelRun0_A.sl.r_33 c arg1 harg1 arg2 harg2 arg3 harg3 arg4 harg4 arg5 harg5 arg6 harg6 arg7 harg7 arg10 x0 x1 x2 x3 x4 x5 x6
      = step x2 x3 x4 x5 x6 (kernelRun0_A.sl.r_1 c arg1 harg1 arg2 harg2 x0 x1) (kernelRun0_A.sl.v303 c arg1 harg1 arg2 harg2 arg3 harg3 arg10 x0 x1 x2) 5 (kernelRun0_A.sl.r_28 c arg1 harg1 arg2 harg2 arg3 harg3 arg4 harg4 arg5 harg5 arg6 harg6 arg7 harg7 arg10 x0 x1 x2 x3 x4 x5 x6) := by
  refine Eq.trans ?_ (step_of_reads arg3 harg3 arg4 harg4 arg5 harg5 arg6 harg6 arg7 harg7 x2 x3 x4 x5 x6 5 inb_S1024x2816_S1024x256_0_1280 inb_S1x2816_S1x256_0_1280
    inb_S3x2816_S1x256_0_1280 inb_S3x2816_S1x256_1_1280 inb_S3x2816_S1x256_2_1280 inb_S2816x1024_S256x1024_1280_0 rfl rfl rfl rfl rfl _ _ _)
  unfold kernelRun0_A.sl.r_33 kernelRun0_A.sl.r_32 kernelRun0_A.sl.r_31 kernelRun0_A.sl.r_30 kernelRun0_A.sl.r_29
  generalize kernelRun0_A.sl.r_28 c arg1 harg1 arg2 harg2 arg3 harg3 arg4 harg4 arg5 harg5 arg6 harg6 arg7 harg7 arg10 x0 x1 x2 x3 x4 x5 x6 = acc
  generalize kernelRun0_A.sl.r_1 c arg1 harg1 arg2 harg2 x0 x1 = h
  rfl

theorem accA6 :
    kernelRun0_A.sl.r_39 c arg1 harg1 arg2 harg2 arg3 harg3 arg4 harg4 arg5 harg5 arg6 harg6 arg7 harg7 arg10 x0 x1 x2 x3 x4 x5 x6
      = step x2 x3 x4 x5 x6 (kernelRun0_A.sl.r_1 c arg1 harg1 arg2 harg2 x0 x1) (kernelRun0_A.sl.v359 c arg1 harg1 arg2 harg2 arg3 harg3 arg10 x0 x1 x2) 6 (kernelRun0_A.sl.r_33 c arg1 harg1 arg2 harg2 arg3 harg3 arg4 harg4 arg5 harg5 arg6 harg6 arg7 harg7 arg10 x0 x1 x2 x3 x4 x5 x6) := by
  refine Eq.trans ?_ (step_of_reads arg3 harg3 arg4 harg4 arg5 harg5 arg6 harg6 arg7 harg7 x2 x3 x4 x5 x6 6 inb_S1024x2816_S1024x256_0_1536 inb_S1x2816_S1x256_0_1536
    inb_S3x2816_S1x256_0_1536 inb_S3x2816_S1x256_1_1536 inb_S3x2816_S1x256_2_1536 inb_S2816x1024_S256x1024_1536_0 rfl rfl rfl rfl rfl _ _ _)
  unfold kernelRun0_A.sl.r_39 kernelRun0_A.sl.r_37 kernelRun0_A.sl.r_36 kernelRun0_A.sl.r_35 kernelRun0_A.sl.r_34
  generalize kernelRun0_A.sl.r_33 c arg1 harg1 arg2 harg2 arg3 harg3 arg4 harg4 arg5 harg5 arg6 harg6 arg7 harg7 arg10 x0 x1 x2 x3 x4 x5 x6 = acc
  generalize kernelRun0_A.sl.r_1 c arg1 harg1 arg2 harg2 x0 x1 = h
  rfl

theorem accA7 :
    kernelRun0_A.sl.r_43 c arg1 harg1 arg2 harg2 arg3 harg3 arg4 harg4 arg5 harg5 arg6 harg6 arg7 harg7 arg10 x0 x1 x2 x3 x4 x5 x6
      = step x2 x3 x4 x5 x6 (kernelRun0_A.sl.r_1 c arg1 harg1 arg2 harg2 x0 x1) (kernelRun0_A.sl.v415 c arg1 harg1 arg2 harg2 arg3 harg3 arg10 x0 x1 x2) 7 (kernelRun0_A.sl.r_39 c arg1 harg1 arg2 harg2 arg3 harg3 arg4 harg4 arg5 harg5 arg6 harg6 arg7 harg7 arg10 x0 x1 x2 x3 x4 x5 x6) := by
  refine Eq.trans ?_ (step_of_reads arg3 harg3 arg4 harg4 arg5 harg5 arg6 harg6 arg7 harg7 x2 x3 x4 x5 x6 7 inb_S1024x2816_S1024x256_0_1792 inb_S1x2816_S1x256_0_1792
    inb_S3x2816_S1x256_0_1792 inb_S3x2816_S1x256_1_1792 inb_S3x2816_S1x256_2_1792 inb_S2816x1024_S256x1024_1792_0 rfl rfl rfl rfl rfl _ _ _)
  unfold kernelRun0_A.sl.r_43 kernelRun0_A.sl.r_42 kernelRun0_A.sl.r_41 kernelRun0_A.sl.r_40
  generalize kernelRun0_A.sl.r_39 c arg1 harg1 arg2 harg2 arg3 harg3 arg4 harg4 arg5 harg5 arg6 harg6 arg7 harg7 arg10 x0 x1 x2 x3 x4 x5 x6 = acc
  generalize kernelRun0_A.sl.r_1 c arg1 harg1 arg2 harg2 x0 x1 = h
  rfl

theorem accA8 :
    kernelRun0_A.sl.r_49 c arg1 harg1 arg2 harg2 arg3 harg3 arg4 harg4 arg5 harg5 arg6 harg6 arg7 harg7 arg10 x0 x1 x2 x3 x4 x5 x6
      = step x2 x3 x4 x5 x6 (kernelRun0_A.sl.r_1 c arg1 harg1 arg2 harg2 x0 x1) (kernelRun0_A.sl.v471 c arg1 harg1 arg2 harg2 arg3 harg3 arg10 x0 x1 x2) 8 (kernelRun0_A.sl.r_43 c arg1 harg1 arg2 harg2 arg3 harg3 arg4 harg4 arg5 harg5 arg6 harg6 arg7 harg7 arg10 x0 x1 x2 x3 x4 x5 x6) := by
  refine Eq.trans ?_ (step_of_reads arg3 harg3 arg4 harg4 arg5 harg5 arg6 harg6 arg7 harg7 x2 x3 x4 x5 x6 8 inb_S1024x2816_S1024x256_0_2048 inb_S1x2816_S1x256_0_2048
    inb_S3x2816_S1x256_0_2048 inb_S3x2816_S1x256_1_2048 inb_S3x2816_S1x256_2_2048 inb_S2816x1024_S256x1024_2048_0 rfl rfl rfl rfl rfl _ _ _)
  unfold kernelRun0_A.sl.r_49 kernelRun0_A.sl.r_47 kernelRun0_A.sl.r_46 kernelRun0_A.sl.r_45 kernelRun0_A.sl.r_44
  generalize kernelRun0_A.sl.r_43 c arg1 harg1 arg2 harg2 arg3 harg3 arg4 harg4 arg5 harg5 arg6 harg6 arg7 harg7 arg10 x0 x1 x2 x3 x4 x5 x6 = acc
  generalize kernelRun0_A.sl.r_1 c arg1 harg1 arg2 harg2 x0 x1 = h
  rfl

theorem accA9 :
    kernelRun0_A.sl.r_55 c arg1 harg1 arg2 harg2 arg3 harg3 arg4 harg4 arg5 harg5 arg6 harg6 arg7 harg7 arg10 x0 x1 x2 x3 x4 x5 x6
      = step x2 x3 x4 x5 x6 (kernelRun0_A.sl.r_1 c arg1 harg1 arg2 harg2 x0 x1) (kernelRun0_A.sl.v527 c arg1 harg1 arg2 harg2 arg3 harg3 arg10 x0 x1 x2) 9 (kernelRun0_A.sl.r_49 c arg1 harg1 arg2 harg2 arg3 harg3 arg4 harg4 arg5 harg5 arg6 harg6 arg7 harg7 arg10 x0 x1 x2 x3 x4 x5 x6) := by
  refine Eq.trans ?_ (step_of_reads arg3 harg3 arg4 harg4 arg5 harg5 arg6 harg6 arg7 harg7 x2 x3 x4 x5 x6 9 inb_S1024x2816_S1024x256_0_2304 inb_S1x2816_S1x256_0_2304
    inb_S3x2816_S1x256_0_2304 inb_S3x2816_S1x256_1_2304 inb_S3x2816_S1x256_2_2304 inb_S2816x1024_S256x1024_2304_0 rfl rfl rfl rfl rfl _ _ _)
  unfold kernelRun0_A.sl.r_55 kernelRun0_A.sl.r_54 kernelRun0_A.sl.r_53 kernelRun0_A.sl.r_52 kernelRun0_A.sl.r_51 kernelRun0_A.sl.r_50
  generalize kernelRun0_A.sl.r_49 c arg1 harg1 arg2 harg2 arg3 harg3 arg4 harg4 arg5 harg5 arg6 harg6 arg7 harg7 arg10 x0 x1 x2 x3 x4 x5 x6 = acc
  generalize kernelRun0_A.sl.r_1 c arg1 harg1 arg2 harg2 x0 x1 = h
  rfl

theorem accA10 :
    k0_pay1 (kernelRun0_A.sl.r_55 c arg1 harg1 arg2 harg2 arg3 harg3 arg4 harg4 arg5 harg5 arg6 harg6 arg7 harg7 arg10 x0 x1 x2 x3 x4 x5 x6) (kernelRun0_A.sl.r_56 c arg1 harg1 arg2 harg2 arg3 harg3 x0 x1 x2) (kernelRun0_A.sl.r_57 c arg1 harg1 arg2 harg2 arg4 harg4 x0 x1 x3) (kernelRun0_A.sl.r_58 c arg1 harg1 arg2 harg2 arg3 harg3 arg10 x0 x1 x2) (kernelRun0_A.sl.r_59 c arg1 harg1 arg2 harg2 arg3 harg3 arg10 x0 x1 x2)
        (View.readAt (Elt F) arg6.view (Rect.unit (s := S1x2816) ![0, 2560] S1x256.size inb_S1x2816_S1x256_0_2560).toLoadRect (harg6.unread x5))
        (View.readAt (Elt F) arg5.view (Rect.unit (s := S3x2816) ![0, 2560] S1x256.size inb_S3x2816_S1x256_0_2560).toLoadRect (harg5.unread x4))
        (View.readAt (Elt F) arg5.view (Rect.unit (s := S3x2816) ![1, 2560] S1x256.size inb_S3x2816_S1x256_1_2560).toLoadRect (harg5.unread x4))
        (View.readAt (Elt F) arg5.view (Rect.unit (s := S3x2816) ![2, 2560] S1x256.size inb_S3x2816_S1x256_2_2560).toLoadRect (harg5.unread x4))
        (View.readAt (Elt F) arg7.view (Rect.unit (s := S2816x1024) ![2560, 0] S256x1024.size inb_S2816x1024_S256x1024_2560_0).toLoadRect (harg7.unread x6))
      = step x2 x3 x4 x5 x6 (kernelRun0_A.sl.r_1 c arg1 harg1 arg2 harg2 x0 x1) (kernelRun0_A.sl.v583 c arg1 harg1 arg2 harg2 arg3 harg3 arg10 x0 x1 x2) 10 (kernelRun0_A.sl.r_55 c arg1 harg1 arg2 harg2 arg3 harg3 arg4 harg4 arg5 harg5 arg6 harg6 arg7 harg7 arg10 x0 x1 x2 x3 x4 x5 x6) := by
  refine Eq.trans ?_ (step_of_reads arg3 harg3 arg4 harg4 arg5 harg5 arg6 harg6 arg7 harg7 x2 x3 x4 x5 x6 10 inb_S1024x2816_S1024x256_0_2560 inb_S1x2816_S1x256_0_2560
    inb_S3x2816_S1x256_0_2560 inb_S3x2816_S1x256_1_2560 inb_S3x2816_S1x256_2_2560 inb_S2816x1024_S256x1024_2560_0 rfl rfl rfl rfl rfl _ _ _)
  unfold kernelRun0_A.sl.r_59 kernelRun0_A.sl.r_58 kernelRun0_A.sl.r_57 kernelRun0_A.sl.r_56
  generalize kernelRun0_A.sl.r_55 c arg1 harg1 arg2 harg2 arg3 harg3 arg4 harg4 arg5 harg5 arg6 harg6 arg7 harg7 arg10 x0 x1 x2 x3 x4 x5 x6 = acc
  generalize kernelRun0_A.sl.r_1 c arg1 harg1 arg2 harg2 x0 x1 = h
  rfl

end

end Cert.FfnIdeal.Conv

end
-- ==== Proof.Whole.lean ====
/-
  What the feed-forward kernel's body leaves in its two output blocks and in its scratch, as functions of what it reads.
-/
module

public import proofs.«01_k».proof.Proof.Steps

@[expose] public section

set_option maxRecDepth 16384

noncomputable section

namespace Cert.FfnIdeal.Conv

open Cert.FfnIdeal Cert.FfnIdeal.Gen Idealize.ShloMosaic Idealize.ShloMosaic.TcCoe Idealize.SL.Sem Cert.Gated

section
variable {F : FTy → Type} [FloatOps F]

/-- The eleven blocks of columns beside each other. -/
def beside (w : Fin 11 → Vec F S8x256 .f32) : Vec F S8x2816 .f32 := fun y =>
  w ⟨(y 1).val / 256, by have h : (y 1).val < 2816 := (y 1).isLt; omega⟩ (ix2 (y 0) ⟨(y 1).val % 256, Nat.mod_lt _ (by decide)⟩)

theorem block_inb (n : ℕ) (h : n ≤ 10) : ∀ a : Fin 2, (![0, 256 * n] : Fin 2 → ℕ) a + S8x256.size a ≤ S8x2816.size a := by
  intro a
  match a with
  | ⟨0, _⟩ => exact le_of_eq rfl
  | ⟨1, _⟩ => show 256 * n + 256 ≤ 2816; omega

/-- Stores of the eleven blocks, the last block stored last, leave them beside each other. -/
theorem canon_beside (w : Fin 11 → Vec F S8x256 .f32) (L' : List (View.Piece (Elt F) S8x2816 .f32)) :
    View.canon ((List.ofFn fun k : Fin 11 => (⟨Rect.unit (s := S8x2816) ![0, 256 * (10 - k.val)] S8x256.size (block_inb _ (Nat.sub_le _ _)),
      w ⟨10 - k.val, by omega⟩⟩ : View.Piece (Elt F) S8x2816 .f32)) ++ L') = beside w := by
  funext y
  have h0 : (y 0).val < 8 := (y 0).isLt
  have h1 : (y 1).val < 2816 := (y 1).isLt
  refine View.canon_append_of_pieces (beside w) L' _ ?_ y ?_
  · intro p hp x
    obtain ⟨k, rfl⟩ := List.mem_ofFn.1 hp
    have hx : (x 1).val < 256 := (x 1).isLt
    have e0 : (x : S8x256.Idx) = ix2 (x 0) (x 1) := eq_ix2 x
    refine (congrArg (w ⟨10 - k.val, by omega⟩) e0).trans ?_
    unfold beside
    refine congrArg₂ (fun (p : Fin 11) (q : S8x256.Idx) => w p q) (Fin.ext ?_) (congrArg₂ ix2 (Fin.ext ?_) (Fin.ext ?_))
    · show 10 - k.val = (256 * (10 - k.val) + 1 * (x 1).val) / 256
      omega
    · show (x 0).val = 0 + 1 * (x 0).val
      omega
    · show (x 1).val = (256 * (10 - k.val) + 1 * (x 1).val) % 256
      omega
  · refine ⟨_, List.mem_ofFn.2 ⟨⟨10 - (y 1).val / 256, by omega⟩, rfl⟩, ?_⟩
    rw [Rect.mem_set_unit]
    intro a
    match a with
    | ⟨0, _⟩ => exact ⟨Nat.zero_le _, h0⟩
    | ⟨1, _⟩ =>
      show 256 * (10 - (10 - (y 1).val / 256)) ≤ (y 1).val ∧ (y 1).val < 256 * (10 - (10 - (y 1).val / 256)) + 256
      omega

theorem row_read (a : Memref sig .tc .vmem S512x1024 .f32) (h : a.IsWhole) (x : Vec F S512x1024 .f32) {off : Fin 2 → ℕ} (inb) (ho : off = fun _ => 0) :
    (View.readAt (Elt F) a.view (Rect.unit (s := S512x1024) off S512x1024.size inb).toLoadRect (h.unread x) : Vec F S512x1024 .f32) = x := by
  rw [View.readAt_eq_ld, h.read_unread]
  exact View.ld_unit_zero ho inb x

theorem scale_read (a : Memref sig .tc .vmem S1x1024 .f32) (h : a.IsWhole) (x : Vec F S1x1024 .f32) {off : Fin 2 → ℕ} (inb) (ho : off = fun _ => 0) :
    (View.readAt (Elt F) a.view (Rect.unit (s := S1x1024) off S1x1024.size inb).toLoadRect (h.unread x) : Vec F S1x1024 .f32) = x := by
  rw [View.readAt_eq_ld, h.read_unread]
  exact View.ld_unit_zero ho inb x

theorem zeros2 : (![0, 0] : Fin 2 → ℕ) = fun _ => 0 := by
  funext a
  match a with
  | ⟨0, _⟩ => rfl
  | ⟨1, _⟩ => rfl

/-- A block read from a scratch that one store filled. -/
theorem fill_read (a : Memref sig .tc .vmem S8x2816 .f32) (w : Vec F S8x2816 .f32) {off : Fin 2 → ℕ} (inb0) (inb) (k : Fin 11) (ho : off = ![0, 256 * k.val]) :
    (a.view.readCov [(⟨Rect.unit (s := S8x2816) ![0, 0] S8x2816.size inb0, w⟩ : View.Piece (Elt F) S8x2816 .f32)]
      (Rect.unit (s := S8x2816) off S8x256.size inb).toLoadRect : Vec F S8x256 .f32) = kept w k := by
  rw [View.readCov_eq_canon', View.canon_unit_zero zeros2]
  exact kept_ld w inb k ho

/-- The last rows of a tile's first products, in all columns. -/
def lasts (x0 : Vec F S512x1024 .f32) (x1 : Vec F S1x1024 .f32) (x2 : Vec F S1024x2816 .bf16) : Vec F S8x2816 .f32 :=
  beside fun k => last (k0_pay3 x0 x1) (wide x2 k)

/-- The rows of a tile, given the last first products of the tile before. -/
def tile (x0 : Vec F S512x1024 .f32) (x1 : Vec F S1x1024 .f32) (x2 x3 : Vec F S1024x2816 .bf16) (x4 : Vec F S3x2816 .f32) (x5 : Vec F S1x2816 .f32)
    (x6 : Vec F S2816x1024 .bf16) (before : Vec F S8x2816 .f32) : Vec F S512x1024 .f32 :=
  steps x2 x3 x4 x5 x6 (k0_pay3 x0 x1) (kept before) x0

end

section
variable {F : FTy → Type} [FloatOps F]
variable (c : Dev nD) (i : grid0.Coords) (arg1 : Memref sig .tc .vmem S512x1024 .f32) (harg1 : arg1.IsWhole) (arg2 : Memref sig .tc .vmem S1x1024 .f32) (harg2 : arg2.IsWhole)
  (arg3 : Memref sig .tc .vmem S1024x2816 .bf16) (harg3 : arg3.IsWhole) (arg4 : Memref sig .tc .vmem S1024x2816 .bf16) (harg4 : arg4.IsWhole)
  (arg5 : Memref sig .tc .vmem S3x2816 .f32) (harg5 : arg5.IsWhole) (arg6 : Memref sig .tc .vmem S1x2816 .f32) (harg6 : arg6.IsWhole)
  (arg7 : Memref sig .tc .vmem S2816x1024 .bf16) (harg7 : arg7.IsWhole) (arg8 : Memref sig .tc .vmem S512x1024 .f32) (harg8 : arg8.IsWhole)
  (arg9 : Memref sig .tc .vmem S8x2816 .f32) (harg9 : arg9.IsWhole) (arg10 : Memref sig .tc .vmem S8x2816 .f32) (harg10 : arg10.IsWhole)
  (x0 : Vec F S512x1024 .f32) (x1 : Vec F S1x1024 .f32) (x2 x3 : Vec F S1024x2816 .bf16) (x4 : Vec F S3x2816 .f32) (x5 : Vec F S1x2816 .f32)
  (x6 : Vec F S2816x1024 .bf16) (xs0 : Vec F S8x2816 .f32)

theorem normedB : kernelRun0_B.sl.r_1 c arg1 harg1 arg2 harg2 x0 x1 = k0_pay3 x0 x1 := by
  unfold kernelRun0_B.sl.r_1
  rw [row_read arg1 harg1 x0 _ zeros2, scale_read arg2 harg2 x1 _ zeros2]

theorem putB0 : k0_pay12 (kernelRun0_B.sl.r_2 c arg1 harg1 arg2 harg2 arg3 harg3 x0 x1 x2) = last (k0_pay3 x0 x1) (wide x2 0) := by
  rw [← normedB c arg1 harg1 arg2 harg2 x0 x1, ← wide_read arg3 harg3 x2 inb_S1024x2816_S1024x256_0_0 0 rfl]
  unfold kernelRun0_B.sl.r_2
  rfl

theorem putB1 : k0_pay18 (kernelRun0_B.sl.r_1 c arg1 harg1 arg2 harg2 x0 x1) (View.readAt (Elt F) arg3.view (Rect.unit (s := S1024x2816) ![0, 256] S1024x256.size inb_S1024x2816_S1024x256_0_256).toLoadRect (harg3.unread x2)) = last (k0_pay3 x0 x1) (wide x2 1) := by
  rw [← normedB c arg1 harg1 arg2 harg2 x0 x1, ← wide_read arg3 harg3 x2 inb_S1024x2816_S1024x256_0_256 1 rfl]
  rfl

theorem putB2 : k0_pay30 (kernelRun0_B.sl.r_13 c arg1 harg1 arg2 harg2 arg3 harg3 x0 x1 x2) = last (k0_pay3 x0 x1) (wide x2 2) := by
  rw [← normedB c arg1 harg1 arg2 harg2 x0 x1, ← wide_read arg3 harg3 x2 inb_S1024x2816_S1024x256_0_512 2 rfl]
  unfold kernelRun0_B.sl.r_13
  rfl

theorem putB3 : k0_pay35 (kernelRun0_B.sl.r_20 c arg1 harg1 arg2 harg2 arg3 harg3 x0 x1 x2) = last (k0_pay3 x0 x1) (wide x2 3) := by
  rw [← normedB c arg1 harg1 arg2 harg2 x0 x1, ← wide_read arg3 harg3 x2 inb_S1024x2816_S1024x256_0_768 3 rfl]
  unfold kernelRun0_B.sl.r_20
  rfl

theorem putB4 : k0_pay43 (kernelRun0_B.sl.r_24 c arg1 harg1 arg2 harg2 arg3 harg3 x0 x1 x2) = last (k0_pay3 x0 x1) (wide x2 4) := by
  rw [← normedB c arg1 harg1 arg2 harg2 x0 x1, ← wide_read arg3 harg3 x2 inb_S1024x2816_S1024x256_0_1024 4 rfl]
  unfold kernelRun0_B.sl.r_24
  rfl

theorem putB5 : k0_pay48 (kernelRun0_B.sl.r_29 c arg1 harg1 arg2 harg2 arg3 harg3 x0 x1 x2) = last (k0_pay3 x0 x1) (wide x2 5) := by
  rw [← normedB c arg1 harg1 arg2 harg2 x0 x1, ← wide_read arg3 harg3 x2 inb_S1024x2816_S1024x256_0_1280 5 rfl]
  unfold kernelRun0_B.sl.r_29
  rfl

theorem putB6 : k0_pay58 (kernelRun0_B.sl.r_34 c arg1 harg1 arg2 harg2 arg3 harg3 x0 x1 x2) = last (k0_pay3 x0 x1) (wide x2 6) := by
  rw [← normedB c arg1 harg1 arg2 harg2 x0 x1, ← wide_read arg3 harg3 x2 inb_S1024x2816_S1024x256_0_1536 6 rfl]
  unfold kernelRun0_B.sl.r_34
  rfl

theorem putB7 : k0_pay63 (kernelRun0_B.sl.r_40 c arg1 harg1 arg2 harg2 arg3 harg3 x0 x1 x2) = last (k0_pay3 x0 x1) (wide x2 7) := by
  rw [← normedB c arg1 harg1 arg2 harg2 x0 x1, ← wide_read arg3 harg3 x2 inb_S1024x2816_S1024x256_0_1792 7 rfl]
  unfold kernelRun0_B.sl.r_40
  rfl

theorem putB8 : k0_pay72 (kernelRun0_B.sl.r_1 c arg1 harg1 arg2 harg2 x0 x1) (View.readAt (Elt F) arg3.view (Rect.unit (s := S1024x2816) ![0, 2048] S1024x256.size inb_S1024x2816_S1024x256_0_2048).toLoadRect (harg3.unread x2)) = last (k0_pay3 x0 x1) (wide x2 8) := by
  rw [← normedB c arg1 harg1 arg2 harg2 x0 x1, ← wide_read arg3 harg3 x2 inb_S1024x2816_S1024x256_0_2048 8 rfl]
  rfl

theorem putB9 : k0_pay79 (kernelRun0_B.sl.r_50 c arg1 harg1 arg2 harg2 arg3 harg3 x0 x1 x2) = last (k0_pay3 x0 x1) (wide x2 9) := by
  rw [← normedB c arg1 harg1 arg2 harg2 x0 x1, ← wide_read arg3 harg3 x2 inb_S1024x2816_S1024x256_0_2304 9 rfl]
  unfold kernelRun0_B.sl.r_50
  rfl

theorem putB10 : k0_pay89 (kernelRun0_B.sl.r_1 c arg1 harg1 arg2 harg2 x0 x1) (View.readAt (Elt F) arg3.view (Rect.unit (s := S1024x2816) ![0, 2560] S1024x256.size inb_S1024x2816_S1024x256_0_2560).toLoadRect (harg3.unread x2)) = last (k0_pay3 x0 x1) (wide x2 10) := by
  rw [← normedB c arg1 harg1 arg2 harg2 x0 x1, ← wide_read arg3 harg3 x2 inb_S1024x2816_S1024x256_0_2560 10 rfl]
  rfl

theorem keepB0 : k0_pay11 (kernelRun0_B.sl.r_2 c arg1 harg1 arg2 harg2 arg3 harg3 x0 x1 x2) = last (k0_pay3 x0 x1) (wide x2 0) := by
  rw [← normedB c arg1 harg1 arg2 harg2 x0 x1, ← wide_read arg3 harg3 x2 inb_S1024x2816_S1024x256_0_0 0 rfl]
  unfold kernelRun0_B.sl.r_2
  exact (shapeCast_self _ _).trans rfl

theorem keepB1 : k0_pay17 (kernelRun0_B.sl.r_1 c arg1 harg1 arg2 harg2 x0 x1) (View.readAt (Elt F) arg3.view (Rect.unit (s := S1024x2816) ![0, 256] S1024x256.size inb_S1024x2816_S1024x256_0_256).toLoadRect (harg3.unread x2)) = last (k0_pay3 x0 x1) (wide x2 1) := by
  rw [← normedB c arg1 harg1 arg2 harg2 x0 x1, ← wide_read arg3 harg3 x2 inb_S1024x2816_S1024x256_0_256 1 rfl]
  exact (shapeCast_self _ _).trans rfl

theorem keepB2 : k0_pay29 (kernelRun0_B.sl.r_13 c arg1 harg1 arg2 harg2 arg3 harg3 x0 x1 x2) = last (k0_pay3 x0 x1) (wide x2 2) := by
  rw [← normedB c arg1 harg1 arg2 harg2 x0 x1, ← wide_read arg3 harg3 x2 inb_S1024x2816_S1024x256_0_512 2 rfl]
  unfold kernelRun0_B.sl.r_13
  exact (shapeCast_self _ _).trans rfl

theorem keepB3 : k0_pay34 (kernelRun0_B.sl.r_20 c arg1 harg1 arg2 harg2 arg3 harg3 x0 x1 x2) = last (k0_pay3 x0 x1) (wide x2 3) := by
  rw [← normedB c arg1 harg1 arg2 harg2 x0 x1, ← wide_read arg3 harg3 x2 inb_S1024x2816_S1024x256_0_768 3 rfl]
  unfold kernelRun0_B.sl.r_20
  exact (shapeCast_self _ _).trans rfl

theorem keepB4 : k0_pay42 (kernelRun0_B.sl.r_24 c arg1 harg1 arg2 harg2 arg3 harg3 x0 x1 x2) = last (k0_pay3 x0 x1) (wide x2 4) := by
  rw [← normedB c arg1 harg1 arg2 harg2 x0 x1, ← wide_read arg3 harg3 x2 inb_S1024x2816_S1024x256_0_1024 4 rfl]
  unfold kernelRun0_B.sl.r_24
  exact (shapeCast_self _ _).trans rfl

theorem keepB5 : k0_pay47 (kernelRun0_B.sl.r_29 c arg1 harg1 arg2 harg2 arg3 harg3 x0 x1 x2) = last (k0_pay3 x0 x1) (wide x2 5) := by
  rw [← normedB c arg1 harg1 arg2 harg2 x0 x1, ← wide_read arg3 harg3 x2 inb_S1024x2816_S1024x256_0_1280 5 rfl]
  unfold kernelRun0_B.sl.r_29
  exact (shapeCast_self _ _).trans rfl

theorem keepB6 : k0_pay57 (kernelRun0_B.sl.r_38 c arg1 harg1 arg2 harg2 arg3 harg3 x0 x1 x2) = last (k0_pay3 x0 x1) (wide x2 6) := by
  rw [← normedB c arg1 harg1 arg2 harg2 x0 x1, ← wide_read arg3 harg3 x2 inb_S1024x2816_S1024x256_0_1536 6 rfl]
  unfold kernelRun0_B.sl.r_38
  exact (shapeCast_self _ _).trans rfl

theorem keepB7 : k0_pay62 (kernelRun0_B.sl.r_40 c arg1 harg1 arg2 harg2 arg3 harg3 x0 x1 x2) = last (k0_pay3 x0 x1) (wide x2 7) := by
  rw [← normedB c arg1 harg1 arg2 harg2 x0 x1, ← wide_read arg3 harg3 x2 inb_S1024x2816_S1024x256_0_1792 7 rfl]
  unfold kernelRun0_B.sl.r_40
  exact (shapeCast_self _ _).trans rfl

theorem keepB8 : k0_pay71 (kernelRun0_B.sl.r_1 c arg1 harg1 arg2 harg2 x0 x1) (View.readAt (Elt F) arg3.view (Rect.unit (s := S1024x2816) ![0, 2048] S1024x256.size inb_S1024x2816_S1024x256_0_2048).toLoadRect (harg3.unread x2)) = last (k0_pay3 x0 x1) (wide x2 8) := by
  rw [← normedB c arg1 harg1 arg2 harg2 x0 x1, ← wide_read arg3 harg3 x2 inb_S1024x2816_S1024x256_0_2048 8 rfl]
  exact (shapeCast_self _ _).trans rfl

theorem keepB9 : k0_pay78 (kernelRun0_B.sl.r_50 c arg1 harg1 arg2 harg2 arg3 harg3 x0 x1 x2) = last (k0_pay3 x0 x1) (wide x2 9) := by
  rw [← normedB c arg1 harg1 arg2 harg2 x0 x1, ← wide_read arg3 harg3 x2 inb_S1024x2816_S1024x256_0_2304 9 rfl]
  unfold kernelRun0_B.sl.r_50
  exact (shapeCast_self _ _).trans rfl

theorem keepB10 : k0_pay88 (kernelRun0_B.sl.r_1 c arg1 harg1 arg2 harg2 x0 x1) (View.readAt (Elt F) arg3.view (Rect.unit (s := S1024x2816) ![0, 2560] S1024x256.size inb_S1024x2816_S1024x256_0_2560).toLoadRect (harg3.unread x2)) = last (k0_pay3 x0 x1) (wide x2 10) := by
  rw [← normedB c arg1 harg1 arg2 harg2 x0 x1, ← wide_read arg3 harg3 x2 inb_S1024x2816_S1024x256_0_2560 10 rfl]
  exact (shapeCast_self _ _).trans rfl

theorem tailB0 : (View.readAt (Elt F) arg10.view (Rect.unit (s := S8x2816) ![0, 0] S8x256.size inb_S8x2816_S8x256_0_0).toLoadRect (harg10.unread xs0)) = kept xs0 0 := by
  exact kept_read arg10 harg10 xs0 inb_S8x2816_S8x256_0_0 0 rfl

theorem tailB1 : kernelRun0_B.sl.v79 c arg10 harg10 xs0 = kept xs0 1 := by
  unfold kernelRun0_B.sl.v79
  exact kept_read arg10 harg10 xs0 inb_S8x2816_S8x256_0_256 1 rfl

theorem tailB2 : kernelRun0_B.sl.v135 c arg10 harg10 xs0 = kept xs0 2 := by
  unfold kernelRun0_B.sl.v135
  exact kept_read arg10 harg10 xs0 inb_S8x2816_S8x256_0_512 2 rfl

theorem tailB3 : kernelRun0_B.sl.v191 c arg10 harg10 xs0 = kept xs0 3 := by
  unfold kernelRun0_B.sl.v191
  exact kept_read arg10 harg10 xs0 inb_S8x2816_S8x256_0_768 3 rfl

theorem tailB4 : kernelRun0_B.sl.v247 c arg10 harg10 xs0 = kept xs0 4 := by
  unfold kernelRun0_B.sl.v247
  exact kept_read arg10 harg10 xs0 inb_S8x2816_S8x256_0_1024 4 rfl

theorem tailB5 : kernelRun0_B.sl.v303 c arg10 harg10 xs0 = kept xs0 5 := by
  unfold kernelRun0_B.sl.v303
  exact kept_read arg10 harg10 xs0 inb_S8x2816_S8x256_0_1280 5 rfl

theorem tailB6 : kernelRun0_B.sl.v359 c arg10 harg10 xs0 = kept xs0 6 := by
  unfold kernelRun0_B.sl.v359
  exact kept_read arg10 harg10 xs0 inb_S8x2816_S8x256_0_1536 6 rfl

theorem tailB7 : kernelRun0_B.sl.v415 c arg10 harg10 xs0 = kept xs0 7 := by
  unfold kernelRun0_B.sl.v415
  exact kept_read arg10 harg10 xs0 inb_S8x2816_S8x256_0_1792 7 rfl

theorem tailB8 : kernelRun0_B.sl.v471 c arg10 harg10 xs0 = kept xs0 8 := by
  unfold kernelRun0_B.sl.v471
  exact kept_read arg10 harg10 xs0 inb_S8x2816_S8x256_0_2048 8 rfl

theorem tailB9 : kernelRun0_B.sl.v527 c arg10 harg10 xs0 = kept xs0 9 := by
  unfold kernelRun0_B.sl.v527
  exact kept_read arg10 harg10 xs0 inb_S8x2816_S8x256_0_2304 9 rfl

theorem tailB10 : kernelRun0_B.sl.v583 c arg10 harg10 xs0 = kept xs0 10 := by
  unfold kernelRun0_B.sl.v583
  exact kept_read arg10 harg10 xs0 inb_S8x2816_S8x256_0_2560 10 rfl

theorem rowsB (hc0 : ¬cond0_0 i) : out0_B_7 c i arg1 harg1 arg2 harg2 arg3 harg3 arg4 harg4 arg5 harg5 arg6 harg6 arg7 harg7 arg8 harg8 arg9 harg9 arg10 harg10 hc0 x0 x1 x2 x3 x4 x5 x6 xs0 = tile x0 x1 x2 x3 x4 x5 x6 xs0 := by
  unfold out0_B_7
  rw [View.read_writes_junk_eq_canon]
  unfold kernelRun0_B
  dsimp only
  refine (View.canon_unit_zero zeros2 inb_S512x1024_S512x1024_0_0 _).trans ?_
  refine (accB10 c arg1 harg1 arg2 harg2 arg3 harg3 arg4 harg4 arg5 harg5 arg6 harg6 arg7 harg7 arg10 harg10 x0 x1 x2 x3 x4 x5 x6 xs0).trans ?_
  rw [accB9, accB8, accB7, accB6, accB5, accB4, accB3, accB2, accB1, accB0, normedB,
    tailB0, tailB1, tailB2, tailB3, tailB4, tailB5, tailB6, tailB7, tailB8, tailB9, tailB10]
  unfold kernelRun0_B.sl.r
  rw [row_read arg1 harg1 x0 _ zeros2]
  rfl

theorem endsB (hc0 : ¬cond0_0 i) : out0_B_8 c i arg1 harg1 arg2 harg2 arg3 harg3 arg4 harg4 arg5 harg5 arg6 harg6 arg7 harg7 arg8 harg8 arg9 harg9 arg10 harg10 hc0 x0 x1 x2 x3 x4 x5 x6 xs0 = lasts x0 x1 x2 := by
  unfold out0_B_8
  rw [View.read_writes_junk_eq_canon]
  unfold kernelRun0_B
  dsimp only
  rw [putB0, putB1, putB2, putB3, putB4, putB5, putB6, putB7, putB9, putB10]
  rw [show kernelRun0_B.sl.r_48 c arg1 harg1 arg2 harg2 arg3 harg3 x0 x1 x2 = last (k0_pay3 x0 x1) (wide x2 8) from putB8 ..]
  exact canon_beside (fun k => last (k0_pay3 x0 x1) (wide x2 k)) []

theorem keepsB (hc0 : ¬cond0_0 i) : sout0_B_0 c i arg1 harg1 arg2 harg2 arg3 harg3 arg4 harg4 arg5 harg5 arg6 harg6 arg7 harg7 arg8 harg8 arg9 harg9 arg10 harg10 hc0 x0 x1 x2 x3 x4 x5 x6 xs0 = lasts x0 x1 x2 := by
  unfold sout0_B_0
  rw [View.read_writes_junk_eq_canon]
  unfold kernelRun0_B
  dsimp only
  rw [keepB0, keepB1, keepB2, keepB3, keepB4, keepB5, keepB6, keepB7, keepB8, keepB9, keepB10]
  exact canon_beside (fun k => last (k0_pay3 x0 x1) (wide x2 k)) []

end

section
variable {F : FTy → Type} [FloatOps F]
variable (c : Dev nD) (i : grid0.Coords) (arg1 : Memref sig .tc .vmem S512x1024 .f32) (harg1 : arg1.IsWhole) (arg2 : Memref sig .tc .vmem S1x1024 .f32) (harg2 : arg2.IsWhole)
  (arg3 : Memref sig .tc .vmem S1024x2816 .bf16) (harg3 : arg3.IsWhole) (arg4 : Memref sig .tc .vmem S1024x2816 .bf16) (harg4 : arg4.IsWhole)
  (arg5 : Memref sig .tc .vmem S3x2816 .f32) (harg5 : arg5.IsWhole) (arg6 : Memref sig .tc .vmem S1x2816 .f32) (harg6 : arg6.IsWhole)
  (arg7 : Memref sig .tc .vmem S2816x1024 .bf16) (harg7 : arg7.IsWhole) (arg8 : Memref sig .tc .vmem S512x1024 .f32) (harg8 : arg8.IsWhole)
  (arg9 : Memref sig .tc .vmem S8x2816 .f32) (harg9 : arg9.IsWhole) (arg10 : Memref sig .tc .vmem S8x2816 .f32) (harg10 : arg10.IsWhole)
  (x0 : Vec F S512x1024 .f32) (x1 : Vec F S1x1024 .f32) (x2 x3 : Vec F S1024x2816 .bf16) (x4 : Vec F S3x2816 .f32) (x5 : Vec F S1x2816 .f32)
  (x6 : Vec F S2816x1024 .bf16) (xs0 : Vec F S8x2816 .f32)

theorem normedA : kernelRun0_A.sl.r_1 c arg1 harg1 arg2 harg2 x0 x1 = k0_pay3 x0 x1 := by
  unfold kernelRun0_A.sl.r_1
  rw [row_read arg1 harg1 x0 _ zeros2, scale_read arg2 harg2 x1 _ zeros2]

theorem putA0 : k0_pay12 (kernelRun0_A.sl.r_2 c arg1 harg1 arg2 harg2 arg3 harg3 x0 x1 x2) = last (k0_pay3 x0 x1) (wide x2 0) := by
  rw [← normedA c arg1 harg1 arg2 harg2 x0 x1, ← wide_read arg3 harg3 x2 inb_S1024x2816_S1024x256_0_0 0 rfl]
  unfold kernelRun0_A.sl.r_2
  rfl

theorem putA1 : k0_pay18 (kernelRun0_A.sl.r_1 c arg1 harg1 arg2 harg2 x0 x1) (View.readAt (Elt F) arg3.view (Rect.unit (s := S1024x2816) ![0, 256] S1024x256.size inb_S1024x2816_S1024x256_0_256).toLoadRect (harg3.unread x2)) = last (k0_pay3 x0 x1) (wide x2 1) := by
  rw [← normedA c arg1 harg1 arg2 harg2 x0 x1, ← wide_read arg3 harg3 x2 inb_S1024x2816_S1024x256_0_256 1 rfl]
  rfl

theorem putA2 : k0_pay30 (kernelRun0_A.sl.r_13 c arg1 harg1 arg2 harg2 arg3 harg3 x0 x1 x2) = last (k0_pay3 x0 x1) (wide x2 2) := by
  rw [← normedA c arg1 harg1 arg2 harg2 x0 x1, ← wide_read arg3 harg3 x2 inb_S1024x2816_S1024x256_0_512 2 rfl]
  unfold kernelRun0_A.sl.r_13
  rfl

theorem putA3 : k0_pay35 (kernelRun0_A.sl.r_20 c arg1 harg1 arg2 harg2 arg3 harg3 x0 x1 x2) = last (k0_pay3 x0 x1) (wide x2 3) := by
  rw [← normedA c arg1 harg1 arg2 harg2 x0 x1, ← wide_read arg3 harg3 x2 inb_S1024x2816_S1024x256_0_768 3 rfl]
  unfold kernelRun0_A.sl.r_20
  rfl

theorem putA4 : k0_pay43 (kernelRun0_A.sl.r_24 c arg1 harg1 arg2 harg2 arg3 harg3 x0 x1 x2) = last (k0_pay3 x0 x1) (wide x2 4) := by
  rw [← normedA c arg1 harg1 arg2 harg2 x0 x1, ← wide_read arg3 harg3 x2 inb_S1024x2816_S1024x256_0_1024 4 rfl]
  unfold kernelRun0_A.sl.r_24
  rfl

theorem putA5 : k0_pay48 (kernelRun0_A.sl.r_29 c arg1 harg1 arg2 harg2 arg3 harg3 x0 x1 x2) = last (k0_pay3 x0 x1) (wide x2 5) := by
  rw [← normedA c arg1 harg1 arg2 harg2 x0 x1, ← wide_read arg3 harg3 x2 inb_S1024x2816_S1024x256_0_1280 5 rfl]
  unfold kernelRun0_A.sl.r_29
  rfl

theorem putA6 : k0_pay58 (kernelRun0_A.sl.r_34 c arg1 harg1 arg2 harg2 arg3 harg3 x0 x1 x2) = last (k0_pay3 x0 x1) (wide x2 6) := by
  rw [← normedA c arg1 harg1 arg2 harg2 x0 x1, ← wide_read arg3 harg3 x2 inb_S1024x2816_S1024x256_0_1536 6 rfl]
  unfold kernelRun0_A.sl.r_34
  rfl

theorem putA7 : k0_pay63 (kernelRun0_A.sl.r_40 c arg1 harg1 arg2 harg2 arg3 harg3 x0 x1 x2) = last (k0_pay3 x0 x1) (wide x2 7) := by
  rw [← normedA c arg1 harg1 arg2 harg2 x0 x1, ← wide_read arg3 harg3 x2 inb_S1024x2816_S1024x256_0_1792 7 rfl]
  unfold kernelRun0_A.sl.r_40
  rfl

theorem putA8 : k0_pay72 (kernelRun0_A.sl.r_1 c arg1 harg1 arg2 harg2 x0 x1) (View.readAt (Elt F) arg3.view (Rect.unit (s := S1024x2816) ![0, 2048] S1024x256.size inb_S1024x2816_S1024x256_0_2048).toLoadRect (harg3.unread x2)) = last (k0_pay3 x0 x1) (wide x2 8) := by
  rw [← normedA c arg1 harg1 arg2 harg2 x0 x1, ← wide_read arg3 harg3 x2 inb_S1024x2816_S1024x256_0_2048 8 rfl]
  rfl

theorem putA9 : k0_pay79 (kernelRun0_A.sl.r_50 c arg1 harg1 arg2 harg2 arg3 harg3 x0 x1 x2) = last (k0_pay3 x0 x1) (wide x2 9) := by
  rw [← normedA c arg1 harg1 arg2 harg2 x0 x1, ← wide_read arg3 harg3 x2 inb_S1024x2816_S1024x256_0_2304 9 rfl]
  unfold kernelRun0_A.sl.r_50
  rfl

theorem putA10 : k0_pay89 (kernelRun0_A.sl.r_1 c arg1 harg1 arg2 harg2 x0 x1) (View.readAt (Elt F) arg3.view (Rect.unit (s := S1024x2816) ![0, 2560] S1024x256.size inb_S1024x2816_S1024x256_0_2560).toLoadRect (harg3.unread x2)) = last (k0_pay3 x0 x1) (wide x2 10) := by
  rw [← normedA c arg1 harg1 arg2 harg2 x0 x1, ← wide_read arg3 harg3 x2 inb_S1024x2816_S1024x256_0_2560 10 rfl]
  rfl

theorem keepA0 : k0_pay11 (kernelRun0_A.sl.r_2 c arg1 harg1 arg2 harg2 arg3 harg3 x0 x1 x2) = last (k0_pay3 x0 x1) (wide x2 0) := by
  rw [← normedA c arg1 harg1 arg2 harg2 x0 x1, ← wide_read arg3 harg3 x2 inb_S1024x2816_S1024x256_0_0 0 rfl]
  unfold kernelRun0_A.sl.r_2
  exact (shapeCast_self _ _).trans rfl

theorem keepA1 : k0_pay17 (kernelRun0_A.sl.r_1 c arg1 harg1 arg2 harg2 x0 x1) (View.readAt (Elt F) arg3.view (Rect.unit (s := S1024x2816) ![0, 256] S1024x256.size inb_S1024x2816_S1024x256_0_256).toLoadRect (harg3.unread x2)) = last (k0_pay3 x0 x1) (wide x2 1) := by
  rw [← normedA c arg1 harg1 arg2 harg2 x0 x1, ← wide_read arg3 harg3 x2 inb_S1024x2816_S1024x256_0_256 1 rfl]
  exact (shapeCast_self _ _).trans rfl

theorem keepA2 : k0_pay29 (kernelRun0_A.sl.r_13 c arg1 harg1 arg2 harg2 arg3 harg3 x0 x1 x2) = last (k0_pay3 x0 x1) (wide x2 2) := by
  rw [← normedA c arg1 harg1 arg2 harg2 x0 x1, ← wide_read arg3 harg3 x2 inb_S1024x2816_S1024x256_0_512 2 rfl]
  unfold kernelRun0_A.sl.r_13
  exact (shapeCast_self _ _).trans rfl

theorem keepA3 : k0_pay34 (kernelRun0_A.sl.r_20 c arg1 harg1 arg2 harg2 arg3 harg3 x0 x1 x2) = last (k0_pay3 x0 x1) (wide x2 3) := by
  rw [← normedA c arg1 harg1 arg2 harg2 x0 x1, ← wide_read arg3 harg3 x2 inb_S1024x2816_S1024x256_0_768 3 rfl]
  unfold kernelRun0_A.sl.r_20
  exact (shapeCast_self _ _).trans rfl

theorem keepA4 : k0_pay42 (kernelRun0_A.sl.r_24 c arg1 harg1 arg2 harg2 arg3 harg3 x0 x1 x2) = last (k0_pay3 x0 x1) (wide x2 4) := by
  rw [← normedA c arg1 harg1 arg2 harg2 x0 x1, ← wide_read arg3 harg3 x2 inb_S1024x2816_S1024x256_0_1024 4 rfl]
  unfold kernelRun0_A.sl.r_24
  exact (shapeCast_self _ _).trans rfl

theorem keepA5 : k0_pay47 (kernelRun0_A.sl.r_29 c arg1 harg1 arg2 harg2 arg3 harg3 x0 x1 x2) = last (k0_pay3 x0 x1) (wide x2 5) := by
  rw [← normedA c arg1 harg1 arg2 harg2 x0 x1, ← wide_read arg3 harg3 x2 inb_S1024x2816_S1024x256_0_1280 5 rfl]
  unfold kernelRun0_A.sl.r_29
  exact (shapeCast_self _ _).trans rfl

theorem keepA6 : k0_pay57 (kernelRun0_A.sl.r_38 c arg1 harg1 arg2 harg2 arg3 harg3 x0 x1 x2) = last (k0_pay3 x0 x1) (wide x2 6) := by
  rw [← normedA c arg1 harg1 arg2 harg2 x0 x1, ← wide_read arg3 harg3 x2 inb_S1024x2816_S1024x256_0_1536 6 rfl]
  unfold kernelRun0_A.sl.r_38
  exact (shapeCast_self _ _).trans rfl

theorem keepA7 : k0_pay62 (kernelRun0_A.sl.r_40 c arg1 harg1 arg2 harg2 arg3 harg3 x0 x1 x2) = last (k0_pay3 x0 x1) (wide x2 7) := by
  rw [← normedA c arg1 harg1 arg2 harg2 x0 x1, ← wide_read arg3 harg3 x2 inb_S1024x2816_S1024x256_0_1792 7 rfl]
  unfold kernelRun0_A.sl.r_40
  exact (shapeCast_self _ _).trans rfl

theorem keepA8 : k0_pay71 (kernelRun0_A.sl.r_1 c arg1 harg1 arg2 harg2 x0 x1) (View.readAt (Elt F) arg3.view (Rect.unit (s := S1024x2816) ![0, 2048] S1024x256.size inb_S1024x2816_S1024x256_0_2048).toLoadRect (harg3.unread x2)) = last (k0_pay3 x0 x1) (wide x2 8) := by
  rw [← normedA c arg1 harg1 arg2 harg2 x0 x1, ← wide_read arg3 harg3 x2 inb_S1024x2816_S1024x256_0_2048 8 rfl]
  exact (shapeCast_self _ _).trans rfl

theorem keepA9 : k0_pay78 (kernelRun0_A.sl.r_50 c arg1 harg1 arg2 harg2 arg3 harg3 x0 x1 x2) = last (k0_pay3 x0 x1) (wide x2 9) := by
  rw [← normedA c arg1 harg1 arg2 harg2 x0 x1, ← wide_read arg3 harg3 x2 inb_S1024x2816_S1024x256_0_2304 9 rfl]
  unfold kernelRun0_A.sl.r_50
  exact (shapeCast_self _ _).trans rfl

theorem keepA10 : k0_pay88 (kernelRun0_A.sl.r_1 c arg1 harg1 arg2 harg2 x0 x1) (View.readAt (Elt F) arg3.view (Rect.unit (s := S1024x2816) ![0, 2560] S1024x256.size inb_S1024x2816_S1024x256_0_2560).toLoadRect (harg3.unread x2)) = last (k0_pay3 x0 x1) (wide x2 10) := by
  rw [← normedA c arg1 harg1 arg2 harg2 x0 x1, ← wide_read arg3 harg3 x2 inb_S1024x2816_S1024x256_0_2560 10 rfl]
  exact (shapeCast_self _ _).trans rfl

theorem tailA0 : kernelRun0_A.sl.v23 (F := F) c arg10 = kept k0_pay2 0 := by
  unfold kernelRun0_A.sl.v23 kernelRun0_A.sl.HS0_1
  exact fill_read arg10 k0_pay2 inb_S8x2816_S8x2816_0_0 inb_S8x2816_S8x256_0_0 0 rfl

theorem tailA1 : kernelRun0_A.sl.v79 c arg1 harg1 arg2 harg2 arg3 harg3 arg10 x0 x1 x2 = kept k0_pay2 1 := by
  unfold kernelRun0_A.sl.v79 kernelRun0_A.sl.HS0_2 kernelRun0_A.sl.HS0_1
  rw [View.readCov_skip _ _ _ _ _ rfl]
  exact fill_read arg10 k0_pay2 inb_S8x2816_S8x2816_0_0 inb_S8x2816_S8x256_0_256 1 rfl

theorem tailA2 : kernelRun0_A.sl.v135 c arg1 harg1 arg2 harg2 arg3 harg3 arg10 x0 x1 x2 = kept k0_pay2 2 := by
  unfold kernelRun0_A.sl.v135 kernelRun0_A.sl.HS0_3 kernelRun0_A.sl.HS0_2 kernelRun0_A.sl.HS0_1
  rw [View.readCov_skip _ _ _ _ _ rfl]
  rw [View.readCov_skip _ _ _ _ _ rfl]
  exact fill_read arg10 k0_pay2 inb_S8x2816_S8x2816_0_0 inb_S8x2816_S8x256_0_512 2 rfl

theorem tailA3 : kernelRun0_A.sl.v191 c arg1 harg1 arg2 harg2 arg3 harg3 arg10 x0 x1 x2 = kept k0_pay2 3 := by
  unfold kernelRun0_A.sl.v191 kernelRun0_A.sl.HS0_4 kernelRun0_A.sl.HS0_3 kernelRun0_A.sl.HS0_2 kernelRun0_A.sl.HS0_1
  rw [View.readCov_skip _ _ _ _ _ rfl]
  rw [View.readCov_skip _ _ _ _ _ rfl]
  rw [View.readCov_skip _ _ _ _ _ rfl]
  exact fill_read arg10 k0_pay2 inb_S8x2816_S8x2816_0_0 inb_S8x2816_S8x256_0_768 3 rfl

theorem tailA4 : kernelRun0_A.sl.v247 c arg1 harg1 arg2 harg2 arg3 harg3 arg10 x0 x1 x2 = kept k0_pay2 4 := by
  unfold kernelRun0_A.sl.v247 kernelRun0_A.sl.HS0_5 kernelRun0_A.sl.HS0_4 kernelRun0_A.sl.HS0_3 kernelRun0_A.sl.HS0_2 kernelRun0_A.sl.HS0_1
  rw [View.readCov_skip _ _ _ _ _ rfl]
  rw [View.readCov_skip _ _ _ _ _ rfl]
  rw [View.readCov_skip _ _ _ _ _ rfl]
  rw [View.readCov_skip _ _ _ _ _ rfl]
  exact fill_read arg10 k0_pay2 inb_S8x2816_S8x2816_0_0 inb_S8x2816_S8x256_0_1024 4 rfl

theorem tailA5 : kernelRun0_A.sl.v303 c arg1 harg1 arg2 harg2 arg3 harg3 arg10 x0 x1 x2 = kept k0_pay2 5 := by
  unfold kernelRun0_A.sl.v303 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  exact fill_read arg10 k0_pay2 inb_S8x2816_S8x2816_0_0 inb_S8x2816_S8x256_0_1280 5 rfl

theorem tailA6 : kernelRun0_A.sl.v359 c arg1 harg1 arg2 harg2 arg3 harg3 arg10 x0 x1 x2 = kept k0_pay2 6 := by
  unfold kernelRun0_A.sl.v359 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  exact fill_read arg10 k0_pay2 inb_S8x2816_S8x2816_0_0 inb_S8x2816_S8x256_0_1536 6 rfl

theorem tailA7 : kernelRun0_A.sl.v415 c arg1 harg1 arg2 harg2 arg3 harg3 arg10 x0 x1 x2 = kept k0_pay2 7 := by
  unfold kernelRun0_A.sl.v415 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  exact fill_read arg10 k0_pay2 inb_S8x2816_S8x2816_0_0 inb_S8x2816_S8x256_0_1792 7 rfl

theorem tailA8 : kernelRun0_A.sl.v471 c arg1 harg1 arg2 harg2 arg3 harg3 arg10 x0 x1 x2 = kept k0_pay2 8 := by
  unfold kernelRun0_A.sl.v471 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  exact fill_read arg10 k0_pay2 inb_S8x2816_S8x2816_0_0 inb_S8x2816_S8x256_0_2048 8 rfl

theorem tailA9 : kernelRun0_A.sl.v527 c arg1 harg1 arg2 harg2 arg3 harg3 arg10 x0 x1 x2 = kept k0_pay2 9 := by
  unfold kernelRun0_A.sl.v527 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  exact fill_read arg10 k0_pay2 inb_S8x2816_S8x2816_0_0 inb_S8x2816_S8x256_0_2304 9 rfl

theorem tailA10 : kernelRun0_A.sl.v583 c arg1 harg1 arg2 harg2 arg3 harg3 arg10 x0 x1 x2 = kept k0_pay2 10 := by
  unfold kernelRun0_A.sl.v583 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  rw [View.readCov_skip _ _ _ _ _ rfl]
  exact fill_read arg10 k0_pay2 inb_S8x2816_S8x2816_0_0 inb_S8x2816_S8x256_0_2560 10 rfl

theorem rowsA (hc0 : cond0_0 i) : out0_A_7 c i arg1 harg1 arg2 harg2 arg3 harg3 arg4 harg4 arg5 harg5 arg6 harg6 arg7 harg7 arg8 harg8 arg9 harg9 arg10 harg10 hc0 x0 x1 x2 x3 x4 x5 x6 = tile x0 x1 x2 x3 x4 x5 x6 k0_pay2 := by
  unfold out0_A_7
  rw [View.read_writes_junk_eq_canon]
  unfold kernelRun0_A
  dsimp only
  refine (View.canon_unit_zero zeros2 inb_S512x1024_S512x1024_0_0 _).trans ?_
  refine (accA10 c arg1 harg1 arg2 harg2 arg3 harg3 arg4 harg4 arg5 harg5 arg6 harg6 arg7 harg7 arg10 x0 x1 x2 x3 x4 x5 x6).trans ?_
  rw [accA9, accA8, accA7, accA6, accA5, accA4, accA3, accA2, accA1, accA0, normedA,
    tailA0, tailA1, tailA2, tailA3, tailA4, tailA5, tailA6, tailA7, tailA8, tailA9, tailA10]
  unfold kernelRun0_A.sl.r
  rw [row_read arg1 harg1 x0 _ zeros2]
  rfl

theorem endsA (hc0 : cond0_0 i) : out0_A_8 c i arg1 harg1 arg2 harg2 arg3 harg3 arg4 harg4 arg5 harg5 arg6 harg6 arg7 harg7 arg8 harg8 arg9 harg9 arg10 harg10 hc0 x0 x1 x2 x3 x4 x5 x6 = lasts x0 x1 x2 := by
  unfold out0_A_8
  rw [View.read_writes_junk_eq_canon]
  unfold kernelRun0_A
  dsimp only
  rw [putA0, putA1, putA2, putA3, putA4, putA5, putA6, putA7, putA9, putA10]
  rw [show kernelRun0_A.sl.r_48 c arg1 harg1 arg2 harg2 arg3 harg3 x0 x1 x2 = last (k0_pay3 x0 x1) (wide x2 8) from putA8 ..]
  exact canon_beside (fun k => last (k0_pay3 x0 x1) (wide x2 k)) []

theorem keepsA (hc0 : cond0_0 i) : sout0_A_0 c i arg1 harg1 arg2 harg2 arg3 harg3 arg4 harg4 arg5 harg5 arg6 harg6 arg7 harg7 arg8 harg8 arg9 harg9 arg10 harg10 hc0 x0 x1 x2 x3 x4 x5 x6 = lasts x0 x1 x2 := by
  unfold sout0_A_0
  rw [View.read_writes_junk_eq_canon]
  unfold kernelRun0_A
  dsimp only
  unfold kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [keepA0, keepA1, keepA2, keepA3, keepA4, keepA5, keepA6, keepA7, keepA8, keepA9, keepA10]
  exact canon_beside (fun k => last (k0_pay3 x0 x1) (wide x2 k)) [⟨Rect.unit ![0, 0] S8x2816.size inb_S8x2816_S8x2816_0_0, k0_pay2⟩]

end

end Cert.FfnIdeal.Conv

end
-- ==== Proof.Values.lean ====
/-
  The rows that the feed-forward kernel's body leaves, index by index.
-/
module

public import proofs.«01_k».proof.Proof.Whole

@[expose] public section

set_option maxRecDepth 16384

noncomputable section

namespace Cert.FfnIdeal.Conv

open Cert.FfnIdeal Cert.FfnIdeal.Gen Idealize.ShloMosaic Idealize.ShloMosaic.TcCoe Idealize.SL.Sem Cert.Gated

/-- A row of a tile. -/
def row (x0 : Vec Ideal S512x1024 .f32) (r : Fin 512) : Fin 1024 → EReal := fun k => x0 (ix2 r k)
/-- The scales of the columns. -/
def scale (x1 : Vec Ideal S1x1024 .f32) : Fin 1024 → EReal := fun k => x1 (ix2 0 k)

theorem product_apply (x0 : Vec Ideal S512x1024 .f32) (x1 : Vec Ideal S1x1024 .f32) (w : Vec Ideal S1024x2816 .bf16) (k : Fin 11) (r : Fin 512)
    (a : Fin 256) : ∑ b : Fin 1024, k0_pay3 x0 x1 (ix2 r b) * wide w k (ix2 b a) = image (row x0 r) (scale x1) w (at256 k a) := by
  unfold image
  refine Finset.sum_congr rfl fun b _ => ?_
  rw [normed_apply]
  rfl

theorem lasts_apply (x0 : Vec Ideal S512x1024 .f32) (x1 : Vec Ideal S1x1024 .f32) (x2 : Vec Ideal S1024x2816 .bf16) (r : Fin 8) (j : Fin 2816) :
    lasts x0 x1 x2 (ix2 r j) = image (row x0 ⟨504 + r.val, by omega⟩) (scale x1) x2 j := by
  unfold lasts beside
  refine (last_apply _ _ _ _).trans ?_
  refine (product_apply x0 x1 x2 _ _ _).trans ?_
  congr 1
  exact Fin.ext (by show 256 * (j.val / 256) + j.val % 256 = j.val; omega)

section
variable (x0 : Vec Ideal S512x1024 .f32) (x1 : Vec Ideal S1x1024 .f32) (x2 x3 : Vec Ideal S1024x2816 .bf16) (x4 : Vec Ideal S3x2816 .f32)
  (x5 : Vec Ideal S1x2816 .f32) (x6 : Vec Ideal S2816x1024 .bf16) (before : Vec Ideal S8x2816 .f32)

/-- The first product of the row before a row of the tile. -/
def prior1 (r : Fin 512) (j : Fin 2816) : EReal :=
  if r.val = 0 then before (ix2 7 j) else image (row x0 ⟨r.val - 1, by omega⟩) (scale x1) x2 j

/-- The first product of the row two before. -/
def prior2 (r : Fin 512) (j : Fin 2816) : EReal :=
  if r.val = 0 then before (ix2 6 j) else if r.val = 1 then before (ix2 7 j) else image (row x0 ⟨r.val - 2, by omega⟩) (scale x1) x2 j

/-- What a row of the tile passes to the last product. -/
def handed (r : Fin 512) (j : Fin 2816) : EReal :=
  active (mixed x4 x5 j (prior2 x0 x1 x2 before r j) (prior1 x0 x1 x2 before r j) (image (row x0 r) (scale x1) x2 j)) (image (row x0 r) (scale x1) x3 j)

theorem step_apply (k : Fin 11) (acc : FVec Ideal S512x1024 .f32) (r : Fin 512) (e : Fin 1024) :
    step x2 x3 x4 x5 x6 (k0_pay3 x0 x1) (kept before k) k acc (ix2 r e)
      = acc (ix2 r e) + ∑ a : Fin 256, handed x0 x1 x2 x3 x4 x5 before r (at256 k a) * x6 (ix2 (at256 k a) e) := by
  unfold step
  rw [chunk_apply]
  refine congrArg (acc (ix2 r e) + ·) (Finset.sum_congr rfl fun a _ => ?_)
  rw [before1_apply, before2_apply, up_apply, product_apply]
  simp only [gate_apply, product_apply]
  rfl

theorem tile_apply (r : Fin 512) (e : Fin 1024) :
    tile x0 x1 x2 x3 x4 x5 x6 before (ix2 r e)
      = x0 (ix2 r e) + ∑ j : Fin 2816, handed x0 x1 x2 x3 x4 x5 before r j * x6 (ix2 j e) := by
  unfold tile steps
  dsimp only
  simp only [step_apply]
  rw [sum_blocks]
  simp only [Fin.sum_univ_succ (n := 10), Fin.sum_univ_succ (n := 9), Fin.sum_univ_succ (n := 8), Fin.sum_univ_succ (n := 7), Fin.sum_univ_succ (n := 6),
    Fin.sum_univ_succ (n := 5), Fin.sum_univ_succ (n := 4), Fin.sum_univ_succ (n := 3), Fin.sum_univ_succ (n := 2), Fin.sum_univ_succ (n := 1),
    Fin.sum_univ_one, add_assoc]
  rfl

end

end Cert.FfnIdeal.Conv

end
-- ==== Proof.Layer.lean ====
/-
  The arrays that the feed-forward kernel leaves: the layer of its seven arguments and the first products of its last rows.
  A tile of 512 rows finds in the scratch the last first products of the tile before it, and zeros at the first tile.
-/
module

public import proofs.«01_k».proof.Proof.Values
public import proofs.«01_k».proof.Proof.Gen.FfnIdeal.Value
public import Idealize.ShloMosaic.Lib.Pipeline.ValueKit.Geometry

@[expose] public section

set_option maxRecDepth 16384

noncomputable section

namespace Cert.FfnIdeal.Conv

open Cert.FfnIdeal Cert.FfnIdeal.Gen Idealize.ShloMosaic Idealize.ShloMosaic.TcCoe Idealize.SL.Sem Cert.Gated

variable (m : (ℓ : Loc nD τ sig) → Buf (Elt Ideal) ℓ) (c : Dev nD)

/-- The rows, their scales, the two first matrices, the mixture's weights and offsets, and the last matrix. -/
abbrev xs : FVec Ideal ⟨2, ![16384, 1024]⟩ .f32 := m ((c : Thread nD τ).loc main_arg0)
abbrev gs : FVec Ideal ⟨2, ![1, 1024]⟩ .f32 := m ((c : Thread nD τ).loc main_arg1)
abbrev wgs : Widening := m ((c : Thread nD τ).loc main_arg2)
abbrev wus : Widening := m ((c : Thread nD τ).loc main_arg3)
abbrev cws : Weights := m ((c : Thread nD τ).loc main_arg4)
abbrev cbs : Offsets := m ((c : Thread nD τ).loc main_arg5)
abbrev wds : Narrowing := m ((c : Thread nD τ).loc main_arg6)

/-- Where each window's block lies: the rows tile by tile, everything else whole. -/
theorem places : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = t.val ∧ win0_7.index t 1 = 0)
    ∧ (win0_8.index t 0 = 0 ∧ win0_8.index t 1 = 0) :=
  (by decide +kernel : ∀ t : Fin grid0.N, _)

theorem point_lt (t : Fin cfg0.N) : t.val < 32 := lt_of_lt_of_eq t.isLt (show cfg0.N = 32 from N_0)

/-- A tile's rows. -/
theorem rows_block (t : Fin cfg0.N) (r : Fin 512) (k : Fin 1024) :
    (iblk m c 0 t : Vec Ideal S512x1024 .f32) (ix2 r k)
      = xs m c (ix2 ⟨512 * t.val + r.val, by have := point_lt t; omega⟩ k) := by
  obtain ⟨⟨h0, h1⟩, -⟩ := places t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t 0 * 512 + 1 * r.val = 512 * t.val + r.val; rw [h0]; omega
  | ⟨1, _⟩ => show win0_0.index t 1 * 1024 + 1 * k.val = k.val; rw [h1]; omega

theorem gs_block (t : Fin cfg0.N) : (iblk m c 1 t : Vec Ideal S1x1024 .f32) = gs m c := by
  obtain ⟨-, ⟨h0, h1⟩, -⟩ := places t
  funext y
  unfold iblk
  rw [View.read_apply]
  show V m c main_arg1 _ = _
  rw [V_main_arg1]
  refine congrArg (m ((c : Thread nD τ).loc main_arg1)) ?_
  funext a
  apply Fin.ext
  match a with
  | ⟨0, _⟩ => show win0_1.index t 0 * 1 + 1 * (y 0).val = (y 0).val; rw [h0]; omega
  | ⟨1, _⟩ => show win0_1.index t 1 * 1024 + 1 * (y 1).val = (y 1).val; rw [h1]; omega

theorem wgs_block (t : Fin cfg0.N) : (iblk m c 2 t : Vec Ideal S1024x2816 .bf16) = wgs m c := by
  obtain ⟨-, -, ⟨h0, h1⟩, -⟩ := places t
  funext y
  unfold iblk
  rw [View.read_apply]
  show V m c main_arg2 _ = _
  rw [V_main_arg2]
  refine congrArg (m ((c : Thread nD τ).loc main_arg2)) ?_
  funext a
  apply Fin.ext
  match a with
  | ⟨0, _⟩ => show win0_2.index t 0 * 1024 + 1 * (y 0).val = (y 0).val; rw [h0]; omega
  | ⟨1, _⟩ => show win0_2.index t 1 * 2816 + 1 * (y 1).val = (y 1).val; rw [h1]; omega

theorem wus_block (t : Fin cfg0.N) : (iblk m c 3 t : Vec Ideal S1024x2816 .bf16) = wus m c := by
  obtain ⟨-, -, -, ⟨h0, h1⟩, -⟩ := places t
  funext y
  unfold iblk
  rw [View.read_apply]
  show V m c main_arg3 _ = _
  rw [V_main_arg3]
  refine congrArg (m ((c : Thread nD τ).loc main_arg3)) ?_
  funext a
  apply Fin.ext
  match a with
  | ⟨0, _⟩ => show win0_3.index t 0 * 1024 + 1 * (y 0).val = (y 0).val; rw [h0]; omega
  | ⟨1, _⟩ => show win0_3.index t 1 * 2816 + 1 * (y 1).val = (y 1).val; rw [h1]; omega

theorem cws_block (t : Fin cfg0.N) : (iblk m c 4 t : Vec Ideal S3x2816 .f32) = cws m c := by
  obtain ⟨-, -, -, -, ⟨h0, h1⟩, -⟩ := places t
  funext y
  unfold iblk
  rw [View.read_apply]
  show V m c main_arg4 _ = _
  rw [V_main_arg4]
  refine congrArg (m ((c : Thread nD τ).loc main_arg4)) ?_
  funext a
  apply Fin.ext
  match a with
  | ⟨0, _⟩ => show win0_4.index t 0 * 3 + 1 * (y 0).val = (y 0).val; rw [h0]; omega
  | ⟨1, _⟩ => show win0_4.index t 1 * 2816 + 1 * (y 1).val = (y 1).val; rw [h1]; omega

theorem cbs_block (t : Fin cfg0.N) : (iblk m c 5 t : Vec Ideal S1x2816 .f32) = cbs m c := by
  obtain ⟨-, -, -, -, -, ⟨h0, h1⟩, -⟩ := places t
  funext y
  unfold iblk
  rw [View.read_apply]
  show V m c main_arg5 _ = _
  rw [V_main_arg5]
  refine congrArg (m ((c : Thread nD τ).loc main_arg5)) ?_
  funext a
  apply Fin.ext
  match a with
  | ⟨0, _⟩ => show win0_5.index t 0 * 1 + 1 * (y 0).val = (y 0).val; rw [h0]; omega
  | ⟨1, _⟩ => show win0_5.index t 1 * 2816 + 1 * (y 1).val = (y 1).val; rw [h1]; omega

theorem wds_block (t : Fin cfg0.N) : (iblk m c 6 t : Vec Ideal S2816x1024 .bf16) = wds m c := by
  obtain ⟨-, -, -, -, -, -, ⟨h0, h1⟩, -⟩ := places t
  funext y
  unfold iblk
  rw [View.read_apply]
  show V m c main_arg6 _ = _
  rw [V_main_arg6]
  refine congrArg (m ((c : Thread nD τ).loc main_arg6)) ?_
  funext a
  apply Fin.ext
  match a with
  | ⟨0, _⟩ => show win0_6.index t 0 * 2816 + 1 * (y 0).val = (y 0).val; rw [h0]; omega
  | ⟨1, _⟩ => show win0_6.index t 1 * 1024 + 1 * (y 1).val = (y 1).val; rw [h1]; omega

/-- The tile `t` of rows. -/
abbrev part (t : Fin cfg0.N) : Vec Ideal S512x1024 .f32 := iblk m c 0 t

/-- What the scratch holds after tile `t`. -/
theorem scratch_eq (t : Fin cfg0.N) : (outsAt0 m c t.val t.isLt).2.2 = lasts (part m c t) (gs m c) (wgs m c) := by
  rw [← gs_block m c t, ← wgs_block m c t]
  by_cases h0 : t.val % 32 = 0
  · rw [outsAt0_A m c t h0]
    dsimp only
    rw [keepsA]
  · rw [outsAt0_B m c t h0]
    dsimp only
    rw [keepsB]

/-- What the second output holds after tile `t`. -/
theorem second_eq (t : Fin cfg0.N) : (outsAt0 m c t.val t.isLt).2.1 = lasts (part m c t) (gs m c) (wgs m c) := by
  rw [← gs_block m c t, ← wgs_block m c t]
  by_cases h0 : t.val % 32 = 0
  · rw [outsAt0_A m c t h0]
    dsimp only
    rw [endsA]
  · rw [outsAt0_B m c t h0]
    dsimp only
    rw [endsB]

/-- What tile `t` finds in the scratch. -/
def found (t : Fin cfg0.N) : Vec Ideal S8x2816 .f32 :=
  if t.val % 32 = 0 then (k0_pay2 (F := Ideal)) else lasts (part m c ⟨t.val - 1, lt_of_le_of_lt (Nat.sub_le _ _) t.isLt⟩) (gs m c) (wgs m c)

/-- What the first output holds after tile `t`. -/
theorem first_eq (t : Fin cfg0.N) : (outsAt0 m c t.val t.isLt).1
    = tile (part m c t) (gs m c) (wgs m c) (wus m c) (cws m c) (cbs m c) (wds m c) (found m c t) := by
  rw [← gs_block m c t, ← wgs_block m c t, ← wus_block m c t, ← cws_block m c t, ← cbs_block m c t, ← wds_block m c t]
  by_cases h0 : t.val % 32 = 0
  · rw [outsAt0_A m c t h0, show found m c t = (k0_pay2 (F := Ideal)) from if_pos h0]
    dsimp only
    rw [rowsA]
  · rw [outsAt0_B m c t h0, show found m c t = (outsAt0 m c (t.val - 1) (Nat.lt_of_le_of_lt (Nat.sub_le _ _) t.isLt)).2.2 from
      (if_neg h0).trans (scratch_eq m c ⟨t.val - 1, lt_of_le_of_lt (Nat.sub_le _ _) t.isLt⟩).symm]
    dsimp only
    rw [rowsB]

/-- Row `t` of the array, as the layer's definition takes it. -/
abbrev line (s : Fin 16384) : Fin 1024 → EReal := fun k => xs m c (ix2 s k)

theorem row_part (t : Fin cfg0.N) (r : Fin 512) :
    row (part m c t) r = line m c ⟨512 * t.val + r.val, by have := point_lt t; omega⟩ :=
  funext fun k => rows_block m c t r k

/-- What a tile finds in the scratch is the first product of the row `8 - q` before the tile, zero before the first. -/
theorem found_apply (t : Fin cfg0.N) (q : Fin 8) (j : Fin 2816) :
    found m c t (ix2 q j)
      = earlier (line m c) (scale (gs m c)) (wgs m c) (8 - q.val) ⟨512 * t.val, by have := point_lt t; omega⟩ j := by
  have ht := point_lt t
  unfold found earlier
  by_cases h0 : t.val % 32 = 0
  · rw [if_pos h0, if_neg (by show ¬ 8 - q.val ≤ 512 * t.val; omega)]
    unfold k0_pay2
    pointwise
  · rw [if_neg h0, if_pos (by show 8 - q.val ≤ 512 * t.val; omega), lasts_apply, row_part]
    congr 2
    exact Fin.ext (by show 512 * (t.val - 1) + (504 + q.val) = 512 * t.val - (8 - q.val); omega)

/-- A row of the array from its tile. -/
abbrev place (t : Fin cfg0.N) (r : Fin 512) : Fin 16384 := ⟨512 * t.val + r.val, by have := point_lt t; omega⟩

theorem prior1_eq (t : Fin cfg0.N) (r : Fin 512) (j : Fin 2816) :
    prior1 (part m c t) (gs m c) (wgs m c) (found m c t) r j
      = earlier (line m c) (scale (gs m c)) (wgs m c) 1 (place t r) j := by
  have ht := point_lt t
  unfold prior1
  by_cases h : r.val = 0
  · rw [if_pos h, found_apply]
    have e : (⟨512 * t.val, by omega⟩ : Fin 16384) = place t r := Fin.ext (by show 512 * t.val = 512 * t.val + r.val; omega)
    rw [e]
    rfl
  · rw [if_neg h, row_part]
    unfold earlier
    rw [if_pos (by show 1 ≤ 512 * t.val + r.val; omega)]
    congr 2
    exact Fin.ext (by show 512 * t.val + (r.val - 1) = 512 * t.val + r.val - 1; omega)

theorem prior2_eq (t : Fin cfg0.N) (r : Fin 512) (j : Fin 2816) :
    prior2 (part m c t) (gs m c) (wgs m c) (found m c t) r j
      = earlier (line m c) (scale (gs m c)) (wgs m c) 2 (place t r) j := by
  have ht := point_lt t
  unfold prior2
  by_cases h : r.val = 0
  · rw [if_pos h, found_apply]
    have e : (⟨512 * t.val, by omega⟩ : Fin 16384) = place t r := Fin.ext (by show 512 * t.val = 512 * t.val + r.val; omega)
    rw [e]
    rfl
  by_cases h1 : r.val = 1
  · rw [if_neg h, if_pos h1, found_apply]
    unfold earlier
    by_cases h2 : t.val = 0
    · rw [if_neg (by show ¬ 1 ≤ 512 * t.val; omega), if_neg (by show ¬ 2 ≤ 512 * t.val + r.val; omega)]
    · rw [if_pos (by show 1 ≤ 512 * t.val; omega), if_pos (by show 2 ≤ 512 * t.val + r.val; omega)]
      congr 2
      exact Fin.ext (by show 512 * t.val - 1 = 512 * t.val + r.val - 2; omega)
  · rw [if_neg h, if_neg h1, row_part]
    unfold earlier
    rw [if_pos (by show 2 ≤ 512 * t.val + r.val; omega)]
    congr 2
    exact Fin.ext (by show 512 * t.val + (r.val - 2) = 512 * t.val + r.val - 2; omega)

/-- A tile's row is the layer's. -/
theorem tile_eq (t : Fin cfg0.N) (r : Fin 512) (e : Fin 1024) :
    tile (part m c t) (gs m c) (wgs m c) (wus m c) (cws m c) (cbs m c) (wds m c) (found m c t) (ix2 r e)
      = layer (xs m c) (gs m c) (wgs m c) (wus m c) (cws m c) (cbs m c) (wds m c) (ix2 (place t r) e) := by
  rw [tile_apply]
  show _ = output (line m c) (scale (gs m c)) (wgs m c) (wus m c) (cws m c) (cbs m c) (wds m c) (place t r) e
  unfold output
  refine congrArg₂ (· + ·) (rows_block m c t r e) (Finset.sum_congr rfl fun j _ => ?_)
  refine congrArg (· * wds m c (ix2 j e)) ?_
  unfold handed passed
  rw [prior1_eq, prior2_eq, row_part]

theorem flushed7_layer (t : Fin cfg0.N) (_ : (cfg0.win 7).flush t = true) :
    (dats m 0 c).flushed 7 t = ((cfg0.win 7).blk t).view.read (Elt Ideal)
      (layer (xs m c) (gs m c) (wgs m c) (wus m c) (cws m c) (cbs m c) (wds m c)) := by
  obtain ⟨-, -, -, -, -, -, -, ⟨h0, h1⟩, -⟩ := places t
  rw [Value.flushed7, first_eq]
  have key : ∀ (y : S512x1024.Idx) (z : S16384x1024.Idx), (z 0).val = 512 * t.val + (y 0).val → (z 1).val = (y 1).val →
      tile (part m c t) (gs m c) (wgs m c) (wus m c) (cws m c) (cbs m c) (wds m c) (found m c t) y
        = layer (xs m c) (gs m c) (wgs m c) (wus m c) (cws m c) (cbs m c) (wds m c) z := by
    intro y z e0 e1
    obtain ⟨r, e, rfl⟩ : ∃ (r : Fin 512) (e : Fin 1024), y = ix2 r e := ⟨y 0, y 1, eq_ix2 y⟩
    rw [tile_eq]
    exact congrArg₂ (output (line m c) (scale (gs m c)) (wgs m c) (wus m c) (cws m c) (cbs m c) (wds m c)) (Fin.ext e0.symm) (Fin.ext e1.symm)
  funext y
  rw [View.read_apply]
  have z0 : (((cfg0.win 7).blk t).view.emb y 0 : ℕ) = 512 * t.val + (y 0).val := by
    blk_simp [h0]
    rw [Nat.mul_comm]
  have z1 : (((cfg0.win 7).blk t).view.emb y 1 : ℕ) = (y 1).val := by
    blk_simp [h1]
  rw [Pipeline.Window.cut_apply]
  refine (key ((cfg0.win 7).xinj (grid0.coords t) y) (((cfg0.win 7).blk t).view.emb y) z0 z1).trans ?_
  exact (cast_eq _ _).symm

theorem last_point : ∀ t : Fin cfg0.N, (cfg0.win 8).flush t = true → t.val = 31 :=
  (by decide +kernel : ∀ t : Fin grid0.N, win0_8.flush t = true → t.val = 31)

theorem flushed8_trail (t : Fin cfg0.N) (hf : (cfg0.win 8).flush t = true) :
    (dats m 0 c).flushed 8 t = ((cfg0.win 8).blk t).view.read (Elt Ideal) (trail (xs m c) (gs m c) (wgs m c)) := by
  obtain ⟨-, -, -, -, -, -, -, -, ⟨h0, h1⟩⟩ := places t
  have ht := last_point t hf
  rw [Value.flushed8, second_eq]
  have key : ∀ (y z : S8x2816.Idx), (z 0).val = (y 0).val → (z 1).val = (y 1).val →
      lasts (part m c t) (gs m c) (wgs m c) y = trail (xs m c) (gs m c) (wgs m c) z := by
    intro y z e0 e1
    obtain ⟨r, e, rfl⟩ : ∃ (r : Fin 8) (e : Fin 2816), y = ix2 r e := ⟨y 0, y 1, eq_ix2 y⟩
    obtain ⟨r', e', rfl⟩ : ∃ (r' : Fin 8) (e' : Fin 2816), z = ix2 r' e' := ⟨z 0, z 1, eq_ix2 z⟩
    obtain rfl : r' = r := Fin.ext e0
    obtain rfl : e' = e := Fin.ext e1
    rw [lasts_apply, row_part]
    show image (line m c _) _ _ _ = image (line m c _) _ _ _
    congr 2
    exact Fin.ext (by show 512 * t.val + (504 + r'.val) = 16376 + r'.val; omega)
  funext y
  rw [View.read_apply]
  have z0 : (((cfg0.win 8).blk t).view.emb y 0 : ℕ) = (y 0).val := by
    blk_simp [h0]
  have z1 : (((cfg0.win 8).blk t).view.emb y 1 : ℕ) = (y 1).val := by
    blk_simp [h1]
  rw [Pipeline.Window.cut_apply]
  refine (key ((cfg0.win 8).xinj (grid0.coords t) y) (((cfg0.win 8).blk t).view.emb y) z0 z1).trans ?_
  exact (cast_eq _ _).symm

/-- The first array after the run. -/
theorem first_array : (dats m 0 c).arrAt 7 cfg0.N = layer (xs m c) (gs m c) (wgs m c) (wus m c) (cws m c) (cbs m c) (wds m c) :=
  (dats m 0 c).arrAt_eq_of_cover 7 _ (flushed7_layer m c) fun i => (Value.covered_iff7 i).2 (by
    have b0 : (i 0).val < 16384 := (i 0).isLt
    have b1 : (i 1).val < 1024 := (i 1).isLt
    omega)

/-- The second array after the run. -/
theorem second_array : (dats m 0 c).arrAt 8 cfg0.N = trail (xs m c) (gs m c) (wgs m c) :=
  (dats m 0 c).arrAt_eq_of_cover 8 _ (flushed8_trail m c) fun i => (Value.covered_iff8 i).2 (by
    have b0 : (i 0).val < 8 := (i 0).isLt
    have b1 : (i 1).val < 2816 := (i 1).isLt
    omega)

end Cert.FfnIdeal.Conv

end
-- ==== Proof.FfnReference.lean ====
/-
  The feed-forward reference, read at an index.
-/
module

public import proofs.«01_k».proof.Proof.Gated
public import proofs.«01_k».proof.Proof.Gen.FfnReferenceIdeal.Run
public import proofs.«01_k».proof.Proof.Gen.FfnReferenceIdeal.Read
public import Idealize.ShloMosaic.Lib.Pointwise

@[expose] public section

set_option maxRecDepth 16384

noncomputable section

namespace Cert.FfnReferenceIdeal.Conv

open Cert.FfnReferenceIdeal Cert.FfnReferenceIdeal.Gen Cert.FfnReferenceIdeal.Read Idealize.ShloMosaic Idealize.ShloMosaic.TcCoe Idealize.SL.Sem Cert.Gated

/-- One over one and a power of `z`, times `z`, is `z` over one and that power: the divisor is never zero. -/
theorem share_eq (z : EReal) : z * Ideal.div 1 (1 + Ideal.exp (-z)) = Ideal.div z (1 + Ideal.exp (0 - z)) := by
  have hp : ∀ a : EReal, 0 ≤ Ideal.exp a := fun a => by
    induction a with
    | bot => exact le_refl _
    | top => exact le_top
    | coe r => exact EReal.coe_nonneg.2 (Real.exp_pos r).le
  have hne : 1 + Ideal.exp (-z) ≠ 0 := ne_of_gt (lt_of_lt_of_le zero_lt_one (le_add_of_nonneg_right (hp _)))
  rw [zero_sub]
  unfold Ideal.div
  rw [if_neg hne, if_neg hne, one_mul]

/-- Two indices with equal coordinates. -/
theorem same2 {a b : ℕ} (f : (⟨2, ![a, b]⟩ : Shape).Idx) (x : Fin a) (y : Fin b)
    (h0 : (f 0).val = x.val) (h1 : (f 1).val = y.val) : f = ix2 x y :=
  funext fun i => Fin.ext (match i with | ⟨0, _⟩ => h0 | ⟨1, _⟩ => h1)

theorem same1 {a : ℕ} (f : (⟨1, ![a]⟩ : Shape).Idx) (x : Fin a) (h0 : (f 0).val = x.val) : f = ix1 x :=
  funext fun i => Fin.ext (match i with | ⟨0, _⟩ => h0)

section
variable (x : FVec Ideal ⟨2, ![16384, 1024]⟩ .f32) (g : FVec Ideal ⟨2, ![1, 1024]⟩ .f32) (wg wu : Widening) (cw : Weights)
  (cb : Offsets) (wd : Narrowing)

/-- A row, and the scales. -/
abbrev line (t : Fin 16384) : Fin 1024 → EReal := fun k => x (ix2 t k)
abbrev scale : Fin 1024 → EReal := fun k => g (ix2 0 k)

/-- The sum of a row's squares. -/
theorem squares_at (t : Fin 16384) : val_main_v1 (F := Ideal) x (ix1 t) = ∑ k : Fin 1024, x (ix2 t k) * x (ix2 t k) := by
  rw [val_main_v1_apply, show val_main_cst (F := Ideal) (Shape.Idx.first h_S_) = 0 from Ideal.ofBits_zero .f32, zero_add]
  refine Finset.sum_congr rfl fun k _ => ?_
  rw [same2 (idx_main_v1 (ix1 t) k) t k rfl rfl, val_main_v0_apply]
  rfl

/-- The normed rows. -/
theorem normed_at (t : Fin 16384) (k : Fin 1024) : val_main_v11 (F := Ideal) x g (ix2 t k) = normed (line x t) (scale g) k := by
  rw [val_main_v11_apply, val_main_v9_apply, val_main_v10_apply, val_main_v8_apply, val_main_v7_apply, val_main_v6_apply,
    val_main_v4_apply, val_main_v2_apply, val_main_v3_apply, val_main_v5_apply, val_main_cst_0_apply, val_main_cst_1_apply,
    same2 (idx_main_v10 (ix2 t k)) 0 k rfl rfl, same1 (idx_main_v2 (idx_main_v8 (ix2 t k))) t rfl, squares_at]
  rfl

theorem gate_at (t : Fin 16384) (j : Fin 2816) : val_main_v13 (F := Ideal) x g wg (ix2 t j) = image (line x t) (scale g) wg j := by
  rw [val_main_v13_apply]
  refine Finset.sum_congr rfl fun k _ => ?_
  rw [same2 (lidx_main_v13 (ix2 t j) k) t k rfl rfl, same2 (ridx_main_v13 (ix2 t j) k) k j rfl rfl, normed_at, val_main_v12_apply]
  rfl

theorem up_at (t : Fin 16384) (j : Fin 2816) : val_main_v15 (F := Ideal) x g wu (ix2 t j) = image (line x t) (scale g) wu j := by
  rw [val_main_v15_apply]
  refine Finset.sum_congr rfl fun k _ => ?_
  rw [same2 (lidx_main_v15 (ix2 t j) k) t k rfl rfl, same2 (ridx_main_v15 (ix2 t j) k) k j rfl rfl, normed_at, val_main_v14_apply]
  rfl

/-- The first products after two rows of zeros. -/
theorem padded_at (t : Fin 16386) (j : Fin 2816) : val_main_v17 (F := Ideal) x g wg (ix2 t j)
    = if h : 2 ≤ t.val then image (line x ⟨t.val - 2, by omega⟩) (scale g) wg j else 0 := by
  unfold val_main_v17
  by_cases h : 2 ≤ t.val
  · rw [dif_pos h, ← gate_at]
    generalize val_main_v13 (F := Ideal) x g wg = b
    refine concatenate_pair_apply_right (s₁ := S2x2816) (s₂ := S16384x2816) (t := S16386x2816) 0 _ _ _ (ix2 t j) rfl rfl (ix2 (⟨t.val - 2, by omega⟩ : Fin 16384) j) (fun a ha => ?_) ?_
    · match a with
      | ⟨0, _⟩ => exact absurd rfl ha
      | ⟨1, _⟩ => rfl
    · show t.val - 2 + 2 = t.val
      omega
  · rw [dif_neg h]
    generalize val_main_v13 (F := Ideal) x g wg = b
    refine (concatenate_pair_apply_left (s₁ := S2x2816) (s₂ := S16384x2816) (t := S16386x2816) 0 _ _ _ (ix2 t j) rfl (ix2 (⟨t.val, by omega⟩ : Fin 2) j) (fun a => ?_)).trans ?_
    · match a with
      | ⟨0, _⟩ => rfl
      | ⟨1, _⟩ => rfl
    · rw [val_main_v16_apply]
      exact Ideal.ofBits_zero .f32

/-- The mixture of three rows. -/
theorem mixed_at (t : Fin 16384) (j : Fin 2816) : val_main_v35 (F := Ideal) x g wg cw cb (ix2 t j)
    = mixed cw cb j (earlier (line x) (scale g) wg 2 t j) (earlier (line x) (scale g) wg 1 t j) (image (line x t) (scale g) wg j) := by
  have e2 : val_main_v19 (F := Ideal) x g wg (ix2 t j) = earlier (line x) (scale g) wg 2 t j := by
    rw [val_main_v19_apply, same2 (idx_main_v19 (ix2 t j)) (⟨t.val, by omega⟩ : Fin 16386) j rfl rfl, padded_at]
    unfold earlier
    by_cases h : 2 ≤ t.val
    · rw [if_pos h]
      exact dif_pos h
    · rw [if_neg h]
      exact dif_neg h
  have e1 : val_main_v25 (F := Ideal) x g wg (ix2 t j) = earlier (line x) (scale g) wg 1 t j := by
    rw [val_main_v25_apply, same2 (idx_main_v25 (ix2 t j)) (⟨1 + t.val, by omega⟩ : Fin 16386) j rfl rfl, padded_at]
    unfold earlier
    by_cases h : 1 ≤ t.val
    · rw [if_pos h, dif_pos (show 2 ≤ 1 + t.val by omega)]
      congr 2
      exact Fin.ext (show 1 + t.val - 2 = t.val - 1 by omega)
    · rw [if_neg h]
      exact dif_neg (show ¬ 2 ≤ 1 + t.val by omega)
  have e0 : val_main_v30 (F := Ideal) x g wg (ix2 t j) = image (line x t) (scale g) wg j := by
    rw [val_main_v30_apply, same2 (idx_main_v30 (ix2 t j)) (⟨2 + t.val, by omega⟩ : Fin 16386) j rfl rfl, padded_at,
      dif_pos (show 2 ≤ 2 + t.val by omega)]
    congr 2
    exact Fin.ext (show 2 + t.val - 2 = t.val by omega)
  rw [val_main_v35_apply, val_main_v34_apply, val_main_v33_apply, val_main_v28_apply, val_main_v23_apply, val_main_v21_apply,
    val_main_v27_apply, val_main_v32_apply, e2, e1, e0, val_main_v20_apply, val_main_v18_apply, val_main_v26_apply, val_main_v24_apply,
    val_main_v31_apply, val_main_v29_apply, same2 (idx_main_v34 (ix2 t j)) 0 j rfl rfl,
    same2 (idx_main_v18 (idx_main_v20 (ix2 t j))) 0 j rfl rfl, same2 (idx_main_v24 (idx_main_v26 (ix2 t j))) 1 j rfl rfl,
    same2 (idx_main_v29 (idx_main_v31 (ix2 t j))) 2 j rfl rfl,
    show val_main_v22 (F := Ideal) (ix2 t j) = 0 from (val_main_v22_apply _).trans (Ideal.ofBits_zero .f32)]
  generalize earlier (line x) (scale g) wg 2 t j = g2
  generalize earlier (line x) (scale g) wg 1 t j = g1
  generalize image (line x t) (scale g) wg j = g0
  show cb (ix2 0 j) + (0 + cw (ix2 0 j) * g2 + cw (ix2 1 j) * g1 + cw (ix2 2 j) * g0) = mixed cw cb j g2 g1 g0
  unfold mixed
  rw [zero_add, ← add_assoc, ← add_assoc]

/-- What a row passes to the last product. -/
theorem passed_at (t : Fin 16384) (j : Fin 2816) : val_main_v37 (F := Ideal) x g wg wu cw cb (ix2 t j)
    = passed (line x) (scale g) wg wu cw cb t j := by
  rw [val_main_v37_apply, val_main_v36_apply, up_at, val_main_call0_v5_apply, val_main_call0_v4_apply, val_main_call0_v3_apply,
    val_main_call0_v2_apply, val_main_call0_v1_apply, val_main_call0_v0_apply, mixed_at, val_main_call0_cst_apply, val_main_call0_cst_0_apply]
  unfold passed
  generalize mixed cw cb j _ _ _ = z
  show z * Ideal.div (Ideal.ofBits .f32 0x3F800000#32) (Ideal.ofBits .f32 0x3F800000#32 + Ideal.exp (-z)) * _ = _
  rw [Ideal.ofBits_one_f32, share_eq]
  rfl

/-- The first result. -/
theorem output_at (t : Fin 16384) (e : Fin 1024) : val_main_v40 (F := Ideal) x g wg wu cw cb wd (ix2 t e)
    = output (line x) (scale g) wg wu cw cb wd t e := by
  rw [val_main_v40_apply, val_main_v39_apply]
  refine congrArg (x (ix2 t e) + ·) (Finset.sum_congr rfl fun j _ => ?_)
  rw [same2 (lidx_main_v39 (ix2 t e) j) t j rfl rfl, same2 (ridx_main_v39 (ix2 t e) j) j e rfl rfl, passed_at, val_main_v38_apply]
  rfl

theorem layer_eq : val_main_v40 (F := Ideal) x g wg wu cw cb wd = layer x g wg wu cw cb wd := by
  have key : ∀ y : S16384x1024.Idx, val_main_v40 (F := Ideal) x g wg wu cw cb wd y = layer x g wg wu cw cb wd y := fun y => by
    obtain ⟨t, e, rfl⟩ : ∃ (t : Fin 16384) (e : Fin 1024), y = ix2 t e := ⟨y 0, y 1, eq_ix2 y⟩
    exact output_at x g wg wu cw cb wd t e
  exact funext key

/-- The second result. -/
theorem trail_eq : val_main_v41 (F := Ideal) x g wg = trail x g wg := by
  have key : ∀ y : S8x2816.Idx, val_main_v41 (F := Ideal) x g wg y = trail x g wg y := fun y => by
    obtain ⟨r, j, rfl⟩ : ∃ (r : Fin 8) (j : Fin 2816), y = ix2 r j := ⟨y 0, y 1, eq_ix2 y⟩
    rw [val_main_v41_apply, same2 (idx_main_v41 (ix2 r j)) (⟨16376 + r.val, by omega⟩ : Fin 16384) j rfl rfl, gate_at]
    rfl
  exact funext key

end

end Cert.FfnReferenceIdeal.Conv

end
-- ==== Proof.GroupedIdealRun.lean ====
/-
  The run of the grouped call's body at one grid point (with the named mask).

  The body's key loop is entered with many values that it never reads (the blocks carried so far, the grid's first
  coordinate, the query offset). `firstLoop` and `secondLoop` are the loops' invariants with fixed values for these, so
  that what the body reads (the keys, the values, the two stacks of queries and the carried blocks) determines the
  invariant. `bodyRun` is the body's triple: from whole buffers it ends with the inputs as they were and the output's
  buffer written by a list of pieces.
-/
module

public import proofs.«01_k».proof.Proof.Gen.GroupedIdeal.Frame.Runs
public import Idealize.ShloMosaic.Lib.Claim
public import Idealize.ShloMosaic.Lib.Pipeline.Value

@[expose] public section

set_option maxRecDepth 16384

noncomputable section

namespace Cert.GroupedIdeal.Run

open Cert.GroupedIdeal Cert.GroupedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- A row that stands for the rows the loops do not read. -/
abbrev row : FVec F S1x512 .f32 := constant S1x512 .f32 0#32

/-- A block that stands for the blocks the loops do not read. -/
abbrev blk : FVec F S64x512 .f32 := constant S64x512 .f32 0#32

/-- The eight blocks the loops carry, three vectors each. -/
abbrev Carried (F : FTy → Type) [FloatOps F] := FVec F S1x512 .f32 × FVec F S1x512 .f32 × FVec F S64x512 .f32
  × FVec F S1x512 .f32 × FVec F S1x512 .f32 × FVec F S64x512 .f32
  × FVec F S1x512 .f32 × FVec F S1x512 .f32 × FVec F S64x512 .f32
  × FVec F S1x512 .f32 × FVec F S1x512 .f32 × FVec F S64x512 .f32
  × FVec F S1x512 .f32 × FVec F S1x512 .f32 × FVec F S64x512 .f32
  × FVec F S1x512 .f32 × FVec F S1x512 .f32 × FVec F S64x512 .f32
  × FVec F S1x512 .f32 × FVec F S1x512 .f32 × FVec F S64x512 .f32
  × FVec F S1x512 .f32 × FVec F S1x512 .f32 × FVec F S64x512 .f32

set_option warn.classDefReducibility false in
/-- The first key loop's invariant, what it does not read fixed. -/
@[sl_loop] def firstLoop (𝒱 : Variants) (c : Dev nD) (bd : Option 𝒱.V) (E : Set ℕ) (i : grid0.Coords) (arg2 : Memref sig .tc .vmem S512x1024 .bf16) (harg2 : arg2.IsWhole)
    (arg3 : Memref sig .tc .vmem S2x16384x128 .bf16) (harg3 : arg3.IsWhole) (arg4 : Memref sig .tc .vmem S128x16384 .bf16)
    (harg4 : arg4.IsWhole) (arg5 : Memref sig .tc .vmem S512x512 .bf16) (harg5 : arg5.IsWhole)
    (q q' : FVec F S2048x128 .bf16) (X : BufTy.Contents (Elt F) arg3.view.ty) (Y : BufTy.Contents (Elt F) arg4.view.ty)
    (init : Carried F) :=
  loopInv_k0_t1 (F := F) 𝒱 c bd E i arg2 harg2 arg3 harg3 arg4 harg4 arg5 harg5 0#32 0#32 q q'
    row row blk row row blk row row blk row row blk row row blk row row blk row row blk row row blk 0#32 0#1 0#32 X Y init

set_option warn.classDefReducibility false in
/-- The second key loop's invariant, what it does not read fixed. -/
@[sl_loop] def secondLoop (𝒱 : Variants) (c : Dev nD) (bd : Option 𝒱.V) (E : Set ℕ) (i : grid0.Coords) (arg2 : Memref sig .tc .vmem S512x1024 .bf16) (harg2 : arg2.IsWhole)
    (arg3 : Memref sig .tc .vmem S2x16384x128 .bf16) (harg3 : arg3.IsWhole) (arg4 : Memref sig .tc .vmem S128x16384 .bf16)
    (harg4 : arg4.IsWhole) (arg5 : Memref sig .tc .vmem S512x512 .bf16) (harg5 : arg5.IsWhole)
    (q q' : FVec F S2048x128 .bf16) (n : BitVec 32) (X : BufTy.Contents (Elt F) arg3.view.ty)
    (Y : BufTy.Contents (Elt F) arg4.view.ty) (init : Carried F) :=
  loopInv_k0_t2 (F := F) 𝒱 c bd E i arg2 harg2 arg3 harg3 arg4 harg4 arg5 harg5 0#32 0#32 q q'
    row row blk row row blk row row blk row row blk row row blk row row blk row row blk row row blk 0#32 0#1 0#32 n X Y init

local notation "𝕄" => MT nD τ sig Unit (Elt F) ℕ (UR sig nD τ) ℕ

set_option maxHeartbeats 4000000 in
/-- The body's triple: from whole buffers with the query, key and value blocks it ends with them unchanged, and with
    the output's buffer written by the pieces that the run finds. -/
noncomputable def bodyRun (c : Dev nD) (i : grid0.Coords) (arg2 : Memref sig .tc .vmem S512x1024 .bf16) (harg2 : arg2.IsWhole)
    (arg3 : Memref sig .tc .vmem S2x16384x128 .bf16) (harg3 : arg3.IsWhole) (arg4 : Memref sig .tc .vmem S128x16384 .bf16)
    (harg4 : arg4.IsWhole) (arg5 : Memref sig .tc .vmem S512x512 .bf16) (harg5 : arg5.IsWhole)
    (x0 : Vec F S512x1024 .bf16) (x1 : Vec F S2x16384x128 .bf16) (x2 : Vec F S128x16384 .bf16) :
    { L3 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0_flash_attention i arg2 harg2 arg3 harg3 arg4 harg4 arg5 harg5) K } := by
  refine ⟨?_, fun E K => ?run⟩
  case run =>
    simp only [cc0_flash_attention_eq_skeleton]; unfold cc0_flash_attention_skel
    simp only [k0_part21_eq_skeleton, k0_part9_eq_skeleton, k0_part10_eq_skeleton, k0_part11_eq_skeleton, k0_part12_eq_skeleton, k0_part13_eq_skeleton, k0_part14_eq_skeleton,
      k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The eight pieces that the run writes, each 512 queries by 64 columns, tile the output's block. -/
theorem covered (c : Dev nD) (i : grid0.Coords) (arg2 : Memref sig .tc .vmem S512x1024 .bf16) (harg2 : arg2.IsWhole)
    (arg3 : Memref sig .tc .vmem S2x16384x128 .bf16) (harg3 : arg3.IsWhole) (arg4 : Memref sig .tc .vmem S128x16384 .bf16)
    (harg4 : arg4.IsWhole) (arg5 : Memref sig .tc .vmem S512x512 .bf16) (harg5 : arg5.IsWhole)
    (x0 : Vec F S512x1024 .bf16) (x1 : Vec F S2x16384x128 .bf16) (x2 : Vec F S128x16384 .bf16) (y : S512x512.Idx) :
    ∃ pc ∈ (bodyRun c i arg2 harg2 arg3 harg3 arg4 harg4 arg5 harg5 x0 x1 x2).1, y ∈ pc.1.set :=
  View.cover_of_tiledL (bodyRun c i arg2 harg2 arg3 harg3 arg4 harg4 arg5 harg5 x0 x1 x2).1 S512x64.size
    (by sl_kernel_rfl) y

/-- What a run of the body leaves in the output's buffer. -/
def written (c : Dev nD) (i : grid0.Coords) (arg2 : Memref sig .tc .vmem S512x1024 .bf16) (harg2 : arg2.IsWhole)
    (arg3 : Memref sig .tc .vmem S2x16384x128 .bf16) (harg3 : arg3.IsWhole) (arg4 : Memref sig .tc .vmem S128x16384 .bf16)
    (harg4 : arg4.IsWhole) (arg5 : Memref sig .tc .vmem S512x512 .bf16) (harg5 : arg5.IsWhole)
    (x0 : Vec F S512x1024 .bf16) (x1 : Vec F S2x16384x128 .bf16) (x2 : Vec F S128x16384 .bf16) : Vec F S512x512 .bf16 :=
  VO0_3.read (Elt F) (VO0_3.writes (Elt F) VO0_3.junk
    (bodyRun c i arg2 harg2 arg3 harg3 arg4 harg4 arg5 harg5 x0 x1 x2).1)

/-- What the output's buffer holds after grid point `t`. -/
def leaves (c : Dev nD) (t : Fin cfg0.N) : Vec F S512x512 .bf16 :=
  written c (grid0.coords t) (ms0_0 t) (hs0_0 t) (ms0_1 t) (hs0_1 t) (ms0_2 t) (hs0_2 t) (ms0_3 t) (hs0_3 t)
    (iblk m c 0 t) (iblk m c 1 t) (iblk m c 2 t)

/-- What the pipeline over the grid is proved about: the arrays as they are when it starts, after each point the
    inputs' buffers at their blocks and the output's at `leaves`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => leaves m c t
  Φ _ := Pipeline.ΦA spec0 c
  q _ := fullShare
  owed _ := 0

/-- The pipeline's arrays are as they were when it started. -/
theorem array_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
/-- After a point the output's buffer holds what the body's run leaves. -/
theorem after3 (c : Dev nD) (t : Fin cfg0.N) : (dats m 0 c).after 3 t = leaves m c t := by dsimp only [dats]

theorem before0 (c : Dev nD) (t : Fin cfg0.N) (d) : (dats m 0 c).before 0 t d = iblk m c 0 t :=
  before0_0_of m (dats m 0 c) (array_eq m c 0) (after0 m c) t d
theorem before1 (c : Dev nD) (t : Fin cfg0.N) (d) : (dats m 0 c).before 1 t d = iblk m c 1 t :=
  before0_1_of m (dats m 0 c) (array_eq m c 1) (after1 m c) t d
theorem before2 (c : Dev nD) (t : Fin cfg0.N) (d) : (dats m 0 c).before 2 t d = iblk m c 2 t :=
  before0_2_of m (dats m 0 c) (array_eq m c 2) (after2 m c) t d

/-- What the body is called with at point `t`. -/
def entry (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body returns at point `t`. -/
def exit (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any grid point takes `entry` to `exit`: the inputs' buffers hold their blocks, so `bodyRun` applies. -/
theorem body_at (c : Dev nD) (t : Fin cfg0.N) :
    entry m c t ⊢ wp frame (wpE (defs₀ (F := F)) Variants.none c none) Set.univ (bodyAt0 t) (fun _ => exit m c t) := by
  unfold entry exit bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  unfold leaves written
  iintro ⟨HΦ, Ho, ⟨%d0, H0⟩, ⟨%d1, H1⟩, ⟨%d2, H2⟩, ⟨%d3, H3⟩⟩
  iapply ((bodyRun c (grid0.coords t) _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (covered c _ _ _ _ _ _ _ _ _ _ _ _)

/-- The pipeline's body at point `t`'s buffers is the kernel's body there. -/
theorem body_row (t : Fin cfg0.N) :
    defs₀ (F := F) .tc cfg0.body (cfg0.bodyArgs t (cfg0.slots t)) = bodyAt0 t := by
  unfold defs₀; rw [Defs.onTc_tc]

/-- What the pipeline asks of its body, at every point. -/
theorem obligation (c : Dev nD) : BodyObligation (dats (F := F) m 0 c) (defs₀ (F := F)) Variants.none () Set.univ :=
  fun t => by
    rw [bigSep_W0, bigSep_W0, body_row]
    exact triple_restated (body_at m c t) rfl .rfl fun _ => .rfl

set_option backward.isDefEq.respectTransparency.types false in
/-- Every run of the program ends, with the pipeline's arrays as its proof data say and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := array_eq m) (hΦ := fun _ _ => rfl)

/-- `run_quiet` without the counters. -/
theorem run_arrays : θ_run defs (onTc (τ := τ) (main (F := F))) (s₀ m ρ) (Pipeline.FramePost cfgs (dats m) 0 (V m)) :=
  (θ_run defs _ _).mono (fun _ h => h.1) (run_quiet m ρ)

/-- Every run of the program ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (array_eq m) (run_arrays m ρ)) ((θ_run defs _ _).mono (fun _ h => h.2) (run_quiet m ρ))

/-- What point `t` writes back to the result is what the body's run leaves. -/
theorem flushed (c : Dev nD) (t : Fin cfg0.N) :
    (dats m 0 c).flushed 3 t = (cfg0.win 3).cut (grid0.coords t) (leaves m c t) := by
  show (cfg0.win 3).cut (grid0.coords t) ((dats m 0 c).after 3 t) = _
  rw [after3]

/-- Different grid points write different blocks of the result. -/
theorem index_inj : ∀ t t' : Fin cfg0.N, win0_3.index t = win0_3.index t' → t = t' :=
  (by decide +kernel : ∀ t t' : Fin grid0.N, win0_3.index t = win0_3.index t' → t = t')

/-- So the blocks of two points are disjoint. -/
theorem disjoint : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (index_inj t t' h)

/-- Block `t` of the result at the end is what point `t` wrote back. -/
theorem blocks (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint cfg0.N t t.isLt hf

/-- Every run of the program ends with the result at the pipeline's array and the arguments as they were. -/
theorem run_blocks : θ_run defs (onTc (τ := τ) (main (F := F))) ⟨m, fun _ => 0, ρ⟩ fun r => ∀ c : Dev nD,
      r.2.mem ((c : Thread nD τ).loc main_v1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨h.1.1 c |>.1 3, h.2.1 c⟩)
    (θ_run_and (θ_run_and (run_arrays m ρ) (run_arrays m ρ)) (frame m ρ))

end Cert.GroupedIdeal.Run

end
-- ==== Proof.GroupedBody.lean ====
/-
  What the grouped call's body leaves in its output block, written with the named operations of `Chain`.

  The body works on eight blocks of 512 queries side by side: for each of the two key heads the four query heads that
  share it. A trip of its loop takes each of the eight one tile of keys on, a masked tile follows, and the weighted sum
  over the sum of powers is what is stored.
-/
module

public import proofs.«01_k».proof.Proof.Chain
public import proofs.«01_k».proof.Proof.GroupedIdealRun

@[expose] public section

set_option maxRecDepth 16384

noncomputable section

namespace Cert.GroupedIdeal.Run

open Cert.GroupedIdeal Cert.GroupedIdeal.Gen Idealize.ShloMosaic Idealize.ShloMosaic.TcCoe Idealize.SL.Sem
open Cert.KernelIdeal.Attn (Carry chain)

variable {F : FTy → Type} [FloatOps F] [Named F]

/-- What is carried for query head `a` of key head `h`, out of what the loop carries. -/
def part (L : Carried F) : Fin 2 → Fin 4 → Carry F
  | 0, 0 => (L.1, L.2.1, L.2.2.1)
  | 0, 1 => (L.2.2.2.1, L.2.2.2.2.1, L.2.2.2.2.2.1)
  | 0, 2 => (L.2.2.2.2.2.2.1, L.2.2.2.2.2.2.2.1, L.2.2.2.2.2.2.2.2.1)
  | 0, 3 => (L.2.2.2.2.2.2.2.2.2.1, L.2.2.2.2.2.2.2.2.2.2.1, L.2.2.2.2.2.2.2.2.2.2.2.1)
  | 1, 0 => (L.2.2.2.2.2.2.2.2.2.2.2.2.1, L.2.2.2.2.2.2.2.2.2.2.2.2.2.1, L.2.2.2.2.2.2.2.2.2.2.2.2.2.2.1)
  | 1, 1 => (L.2.2.2.2.2.2.2.2.2.2.2.2.2.2.2.1, L.2.2.2.2.2.2.2.2.2.2.2.2.2.2.2.2.1, L.2.2.2.2.2.2.2.2.2.2.2.2.2.2.2.2.2.1)
  | 1, 2 => (L.2.2.2.2.2.2.2.2.2.2.2.2.2.2.2.2.2.2.1, L.2.2.2.2.2.2.2.2.2.2.2.2.2.2.2.2.2.2.2.1,
      L.2.2.2.2.2.2.2.2.2.2.2.2.2.2.2.2.2.2.2.2.1)
  | 1, 3 => (L.2.2.2.2.2.2.2.2.2.2.2.2.2.2.2.2.2.2.2.2.2.1, L.2.2.2.2.2.2.2.2.2.2.2.2.2.2.2.2.2.2.2.2.2.2.1,
      L.2.2.2.2.2.2.2.2.2.2.2.2.2.2.2.2.2.2.2.2.2.2.2)

/-- The 512 queries of query head `a` in the stack of four. -/
theorem slices (a : Fin 4) : S2048x128.Slices ![512 * a.val, 0] S512x128 := by
  revert a
  decide

/-- The scores of a tile of 512 keys (rows) and the 512 queries (columns) of query head `a` in a stack of four. -/
def scores (q : FVec F S2048x128 .bf16) (a : Fin 4) (k : Vec F S1x512x128 .bf16) : FVec F S512x512 .f32 :=
  matmul dot_S512x128_S512x128_S512x512_1_1_0_0_n_n none (shapeCast S512x128 k shapeCasts_S1x512x128_S512x128)
    (extractStridedSlice S512x128 ![512 * a.val, 0] q (slices a)) (constant S512x512 .f32 0x00000000#32)

/-- The tile of keys that trip `k` of the loop loads for a key head. -/
def keys {a3 : Memref sig .tc .vmem S2x16384x128 .bf16} (X : BufTy.Contents (Elt F) a3.view.ty) (i : grid0.Coords)
    (k : Fin (k0_t1_loop i).trips) : Fin 2 → Vec F S1x512x128 .bf16
  | 0 => View.readAt (Elt F) a3.view (Rect.unit (s := S2x16384x128) (k0_off1 i k) S1x512x128.size (k0_off1_inb i k)).toLoadRect X
  | 1 => View.readAt (Elt F) a3.view (Rect.unit (s := S2x16384x128) (k0_off3 i k) S1x512x128.size (k0_off3_inb i k)).toLoadRect X

/-- The tile of values that trip `k` of the loop loads for a key head. -/
def values {a4 : Memref sig .tc .vmem S128x16384 .bf16} (Y : BufTy.Contents (Elt F) a4.view.ty) (i : grid0.Coords)
    (k : Fin (k0_t1_loop i).trips) : Fin 2 → Vec F S64x512 .bf16
  | 0 => View.readAt (Elt F) a4.view (Rect.unit (s := S128x16384) (k0_off2 i k) S64x512.size (k0_off2_inb i k)).toLoadRect Y
  | 1 => View.readAt (Elt F) a4.view (Rect.unit (s := S128x16384) (k0_off4 i k) S64x512.size (k0_off4_inb i k)).toLoadRect Y

/-- The masked tile of keys for a key head. -/
def maskedKeys {a3 : Memref sig .tc .vmem S2x16384x128 .bf16} (X : BufTy.Contents (Elt F) a3.view.ty) (i : grid0.Coords) :
    Fin 2 → Vec F S1x512x128 .bf16
  | 0 => View.readAt (Elt F) a3.view (Rect.unit (s := S2x16384x128) (k0_off9 i) S1x512x128.size (k0_off9_inb i)).toLoadRect X
  | 1 => View.readAt (Elt F) a3.view (Rect.unit (s := S2x16384x128) (k0_off11 i) S1x512x128.size (k0_off11_inb i)).toLoadRect X

/-- The masked tile of values for a key head. -/
def maskedValues {a4 : Memref sig .tc .vmem S128x16384 .bf16} (Y : BufTy.Contents (Elt F) a4.view.ty) (i : grid0.Coords) :
    Fin 2 → Vec F S64x512 .bf16
  | 0 => View.readAt (Elt F) a4.view (Rect.unit (s := S128x16384) (k0_off10 i) S64x512.size (k0_off10_inb i)).toLoadRect Y
  | 1 => View.readAt (Elt F) a4.view (Rect.unit (s := S128x16384) (k0_off12 i) S64x512.size (k0_off12_inb i)).toLoadRect Y

/-- The positions of the keys of the masked tile. -/
def keyPos (i : grid0.Coords) : IVec S512x512 32 :=
  addi (broadcast S512x512 (bodyRun.sl.v77 i)) (iota .tc S512x512 32 [0] iota_S512x512_d0_w32)

/-- The places of query head `a`'s queries in the stack, reduced modulo 512. -/
def place (a : Fin 4) : IVec S512x512 32 :=
  remsi (addi (broadcast S512x512 (BitVec.ofNat 32 (512 * a.val))) (iota .tc S512x512 32 [1] iota_S512x512_d1_w32))
    (broadcast S512x512 512#32)

/-- The positions of the queries of query head `a`. -/
def queryPos (i : grid0.Coords) (a : Fin 4) : IVec S512x512 32 :=
  addi (broadcast S512x512 (Scalar.muli (BitVec.ofNat 32 (i 1).val) 512#32))
    (select
      (andi
        (xori (cmpi .slt (place a) (broadcast S512x512 0#32))
          (broadcastTo S512x512 (broadcast S512x512 (Scalar.cmpi .slt 512#32 0#32)) broadcasts_S512x512_S512x512))
        (cmpi .ne (place a) (broadcast S512x512 0#32)))
      (addi (place a) (broadcast S512x512 512#32))
      (place a))

/-- The scores of the masked tile: a key after the query counts as the mask's value. -/
def masked (i : grid0.Coords) (a : Fin 4) (x : FVec F S512x512 .f32) : FVec F S512x512 .f32 :=
  select (cmpi .sle (keyPos i) (queryPos i a)) x (broadcast S512x512 (Named.named κ "mask" 0xF149F2CA#32))

/-- The stacks of four query heads for the two key heads, of a block of eight. -/
def stack (arg2 : Memref sig .tc .vmem S512x1024 .bf16) (harg2 : arg2.IsWhole) (c : Dev nD) (x0 : Vec F S512x1024 .bf16) :
    Fin 2 → FVec F S2048x128 .bf16
  | 0 => bodyRun.sl.r c arg2 harg2 x0
  | 1 => bodyRun.sl.r_1 c arg2 harg2 x0

section
variable (cd : Dev nD) (i : grid0.Coords) (arg2 : Memref sig .tc .vmem S512x1024 .bf16) (harg2 : arg2.IsWhole)
  (arg3 : Memref sig .tc .vmem S2x16384x128 .bf16) (harg3 : arg3.IsWhole) (arg4 : Memref sig .tc .vmem S128x16384 .bf16)
  (harg4 : arg4.IsWhole) (arg5 : Memref sig .tc .vmem S512x512 .bf16) (harg5 : arg5.IsWhole)

/-- What the loop carries before trip `k`. -/
def state (q q' : FVec F S2048x128 .bf16) (X : BufTy.Contents (Elt F) arg3.view.ty) (Y : BufTy.Contents (Elt F) arg4.view.ty)
    (init : Carried F) (k : ℕ) : Carried F :=
  st_k0_t1 (F := F) Variants.none cd none i arg2 harg2 arg3 harg3 arg4 harg4 arg5 harg5 0#32 0#32 q q'
    row row blk row row blk row row blk row row blk row row blk row row blk row row blk row row blk 0#32 0#1 0#32 X Y init k

set_option maxHeartbeats 4000000 in
/-- A trip of the loop takes each of the eight blocks a tile on. -/
theorem state_succ (q : Fin 2 → FVec F S2048x128 .bf16) (X : BufTy.Contents (Elt F) arg3.view.ty)
    (Y : BufTy.Contents (Elt F) arg4.view.ty) (init : Carried F) (k : Fin (k0_t1_loop i).trips) (h : Fin 2) (a : Fin 4) :
    part (state cd i arg2 harg2 arg3 harg3 arg4 harg4 arg5 harg5 (q 0) (q 1) X Y init (k.val + 1)) h a
      = chain (scores (q h) a (keys X i k h)) (values Y i k h)
          (part (state cd i arg2 harg2 arg3 harg3 arg4 harg4 arg5 harg5 (q 0) (q 1) X Y init k.val) h a) := by
  unfold state
  rw [st_k0_t1_succ]
  generalize st_k0_t1 (F := F) Variants.none cd none i arg2 harg2 arg3 harg3 arg4 harg4 arg5 harg5 0#32 0#32 (q 0) (q 1)
    row row blk row row blk row row blk row row blk row row blk row row blk row row blk row row blk 0#32 0#1 0#32 X Y init k.val = L
  obtain ⟨_, _, _, _, _, _, _, _, _, _, _, _, _, _, _, _, _, _, _, _, _, _, _, _⟩ := L
  unfold tripR_k0_t1 trip_k0_t1
  match h, a with
  | 0, 0 => rfl
  | 0, 1 => rfl
  | 0, 2 => rfl
  | 0, 3 => rfl
  | 1, 0 => rfl
  | 1, 1 => rfl
  | 1, 2 => rfl
  | 1, 3 => rfl

/-- What the second loop, which makes no trips, passes to the masked tile. -/
def carried (x0 : Vec F S512x1024 .bf16) (x1 : Vec F S2x16384x128 .bf16) (x2 : Vec F S128x16384 .bf16) : Carried F :=
  st_k0_t2 (F := F) Variants.none cd none i arg2 harg2 arg3 harg3 arg4 harg4 arg5 harg5 0#32 0#32
    (bodyRun.sl.r cd arg2 harg2 x0) (bodyRun.sl.r_1 cd arg2 harg2 x0)
    row row blk row row blk row row blk row row blk row row blk row row blk row row blk row row blk 0#32 0#1 0#32
    (bodyRun.sl.v73 i) (harg3.unread x1) (harg4.unread x2)
    (state cd i arg2 harg2 arg3 harg3 arg4 harg4 arg5 harg5 (bodyRun.sl.r cd arg2 harg2 x0) (bodyRun.sl.r_1 cd arg2 harg2 x0)
      (harg3.unread x1) (harg4.unread x2)
      (k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132)
      (k0_t1_loop i).trips)
    (k0_t2_loop i).trips

/-- What is left for query head `a` of key head `h` after the masked tile. -/
def final (x0 : Vec F S512x1024 .bf16) (x1 : Vec F S2x16384x128 .bf16) (x2 : Vec F S128x16384 .bf16) (h : Fin 2) (a : Fin 4) :
    Carry F :=
  chain (masked i a (scores (stack arg2 harg2 cd x0 h) a (maskedKeys (harg3.unread x1) i h)))
    (maskedValues (harg4.unread x2) i h)
    (part (carried cd i arg2 harg2 arg3 harg3 arg4 harg4 arg5 harg5 x0 x1 x2) h a)

variable (x0 : Vec F S512x1024 .bf16) (x1 : Vec F S2x16384x128 .bf16) (x2 : Vec F S128x16384 .bf16)

/-- What is carried into the masked tile, as the body names it. -/
def named : Fin 2 → Fin 4 → Carry F
  | 0, 0 => (bodyRun.sl.r_2 cd i arg2 harg2 arg3 harg3 arg4 harg4 arg5 harg5 x0 x1 x2, bodyRun.sl.r_3 cd i arg2 harg2 arg3 harg3 arg4 harg4 arg5 harg5 x0 x1 x2,
      bodyRun.sl.r_4 cd i arg2 harg2 arg3 harg3 arg4 harg4 arg5 harg5 x0 x1 x2)
  | 0, 1 => (bodyRun.sl.r_5 cd i arg2 harg2 arg3 harg3 arg4 harg4 arg5 harg5 x0 x1 x2, bodyRun.sl.r_6 cd i arg2 harg2 arg3 harg3 arg4 harg4 arg5 harg5 x0 x1 x2,
      bodyRun.sl.r_7 cd i arg2 harg2 arg3 harg3 arg4 harg4 arg5 harg5 x0 x1 x2)
  | 0, 2 => (bodyRun.sl.r_8 cd i arg2 harg2 arg3 harg3 arg4 harg4 arg5 harg5 x0 x1 x2, bodyRun.sl.r_9 cd i arg2 harg2 arg3 harg3 arg4 harg4 arg5 harg5 x0 x1 x2,
      bodyRun.sl.r_10 cd i arg2 harg2 arg3 harg3 arg4 harg4 arg5 harg5 x0 x1 x2)
  | 0, 3 => (bodyRun.sl.r_11 cd i arg2 harg2 arg3 harg3 arg4 harg4 arg5 harg5 x0 x1 x2, bodyRun.sl.r_12 cd i arg2 harg2 arg3 harg3 arg4 harg4 arg5 harg5 x0 x1 x2,
      bodyRun.sl.r_13 cd i arg2 harg2 arg3 harg3 arg4 harg4 arg5 harg5 x0 x1 x2)
  | 1, 0 => (bodyRun.sl.r_14 cd i arg2 harg2 arg3 harg3 arg4 harg4 arg5 harg5 x0 x1 x2, bodyRun.sl.r_15 cd i arg2 harg2 arg3 harg3 arg4 harg4 arg5 harg5 x0 x1 x2,
      bodyRun.sl.r_16 cd i arg2 harg2 arg3 harg3 arg4 harg4 arg5 harg5 x0 x1 x2)
  | 1, 1 => (bodyRun.sl.r_17 cd i arg2 harg2 arg3 harg3 arg4 harg4 arg5 harg5 x0 x1 x2, bodyRun.sl.r_18 cd i arg2 harg2 arg3 harg3 arg4 harg4 arg5 harg5 x0 x1 x2,
      bodyRun.sl.r_19 cd i arg2 harg2 arg3 harg3 arg4 harg4 arg5 harg5 x0 x1 x2)
  | 1, 2 => (bodyRun.sl.r_20 cd i arg2 harg2 arg3 harg3 arg4 harg4 arg5 harg5 x0 x1 x2, bodyRun.sl.r_21 cd i arg2 harg2 arg3 harg3 arg4 harg4 arg5 harg5 x0 x1 x2,
      bodyRun.sl.r_22 cd i arg2 harg2 arg3 harg3 arg4 harg4 arg5 harg5 x0 x1 x2)
  | 1, 3 => (bodyRun.sl.r_23 cd i arg2 harg2 arg3 harg3 arg4 harg4 arg5 harg5 x0 x1 x2, bodyRun.sl.r_24 cd i arg2 harg2 arg3 harg3 arg4 harg4 arg5 harg5 x0 x1 x2,
      bodyRun.sl.r_25 cd i arg2 harg2 arg3 harg3 arg4 harg4 arg5 harg5 x0 x1 x2)

theorem part_carried (h : Fin 2) (a : Fin 4) : part (carried cd i arg2 harg2 arg3 harg3 arg4 harg4 arg5 harg5 x0 x1 x2) h a = named cd i arg2 harg2 arg3 harg3 arg4 harg4 arg5 harg5 x0 x1 x2 h a :=
  match h, a with
  | 0, 0 => by unfold named bodyRun.sl.r_2 bodyRun.sl.r_3 bodyRun.sl.r_4 part carried state; dsimp only
  | 0, 1 => by unfold named bodyRun.sl.r_5 bodyRun.sl.r_6 bodyRun.sl.r_7 part carried state; dsimp only
  | 0, 2 => by unfold named bodyRun.sl.r_8 bodyRun.sl.r_9 bodyRun.sl.r_10 part carried state; dsimp only
  | 0, 3 => by unfold named bodyRun.sl.r_11 bodyRun.sl.r_12 bodyRun.sl.r_13 part carried state; dsimp only
  | 1, 0 => by unfold named bodyRun.sl.r_14 bodyRun.sl.r_15 bodyRun.sl.r_16 part carried state; dsimp only
  | 1, 1 => by unfold named bodyRun.sl.r_17 bodyRun.sl.r_18 bodyRun.sl.r_19 part carried state; dsimp only
  | 1, 2 => by unfold named bodyRun.sl.r_20 bodyRun.sl.r_21 bodyRun.sl.r_22 part carried state; dsimp only
  | 1, 3 => by unfold named bodyRun.sl.r_23 bodyRun.sl.r_24 bodyRun.sl.r_25 part carried state; dsimp only

/-- The sums of powers and the weighted sums of values after the masked tile, as the body names them. -/
def left : Fin 2 → Fin 4 → FVec F S1x512 .f32 × FVec F S64x512 .f32
  | 0, 0 => (bodyRun.sl.r_28 cd i arg2 harg2 arg3 harg3 arg4 harg4 arg5 harg5 x0 x1 x2, bodyRun.sl.r_34 cd i arg2 harg2 arg3 harg3 arg4 harg4 arg5 harg5 x0 x1 x2)
  | 0, 1 => (bodyRun.sl.r_33 cd i arg2 harg2 arg3 harg3 arg4 harg4 arg5 harg5 x0 x1 x2, bodyRun.sl.r_40 cd i arg2 harg2 arg3 harg3 arg4 harg4 arg5 harg5 x0 x1 x2)
  | 0, 2 => (bodyRun.sl.r_39 cd i arg2 harg2 arg3 harg3 arg4 harg4 arg5 harg5 x0 x1 x2, bodyRun.sl.r_46 cd i arg2 harg2 arg3 harg3 arg4 harg4 arg5 harg5 x0 x1 x2)
  | 0, 3 => (bodyRun.sl.r_45 cd i arg2 harg2 arg3 harg3 arg4 harg4 arg5 harg5 x0 x1 x2, bodyRun.sl.r_52 cd i arg2 harg2 arg3 harg3 arg4 harg4 arg5 harg5 x0 x1 x2)
  | 1, 0 => (bodyRun.sl.r_50 cd i arg2 harg2 arg3 harg3 arg4 harg4 arg5 harg5 x0 x1 x2, bodyRun.sl.r_58 cd i arg2 harg2 arg3 harg3 arg4 harg4 arg5 harg5 x0 x1 x2)
  | 1, 1 => (bodyRun.sl.r_57 cd i arg2 harg2 arg3 harg3 arg4 harg4 arg5 harg5 x0 x1 x2, bodyRun.sl.r_64 cd i arg2 harg2 arg3 harg3 arg4 harg4 arg5 harg5 x0 x1 x2)
  | 1, 2 => (bodyRun.sl.r_63 cd i arg2 harg2 arg3 harg3 arg4 harg4 arg5 harg5 x0 x1 x2, bodyRun.sl.v495 cd i arg2 harg2 arg3 harg3 arg4 harg4 arg5 harg5 x0 x1 x2)
  | 1, 3 => (bodyRun.sl.v488 cd i arg2 harg2 arg3 harg3 arg4 harg4 arg5 harg5 x0 x1 x2, bodyRun.sl.v502 cd i arg2 harg2 arg3 harg3 arg4 harg4 arg5 harg5 x0 x1 x2)

theorem left_eq (h : Fin 2) (a : Fin 4) :
    left cd i arg2 harg2 arg3 harg3 arg4 harg4 arg5 harg5 x0 x1 x2 h a = (final cd i arg2 harg2 arg3 harg3 arg4 harg4 arg5 harg5 x0 x1 x2 h a).2 :=
  match h, a with
  | 0, 0 => by
    unfold final
    rw [part_carried]
    unfold left named bodyRun.sl.r_34 bodyRun.sl.r_28 bodyRun.sl.r_27 bodyRun.sl.r_26
    generalize bodyRun.sl.r_2 cd i arg2 harg2 arg3 harg3 arg4 harg4 arg5 harg5 x0 x1 x2 = m
    generalize bodyRun.sl.r_3 cd i arg2 harg2 arg3 harg3 arg4 harg4 arg5 harg5 x0 x1 x2 = l
    generalize bodyRun.sl.r_4 cd i arg2 harg2 arg3 harg3 arg4 harg4 arg5 harg5 x0 x1 x2 = t
    rfl
  | 0, 1 => by
    unfold final
    rw [part_carried]
    unfold left named bodyRun.sl.r_40 bodyRun.sl.r_33 bodyRun.sl.r_32 bodyRun.sl.r_31 bodyRun.sl.r_30
    generalize bodyRun.sl.r_5 cd i arg2 harg2 arg3 harg3 arg4 harg4 arg5 harg5 x0 x1 x2 = m
    generalize bodyRun.sl.r_6 cd i arg2 harg2 arg3 harg3 arg4 harg4 arg5 harg5 x0 x1 x2 = l
    generalize bodyRun.sl.r_7 cd i arg2 harg2 arg3 harg3 arg4 harg4 arg5 harg5 x0 x1 x2 = t
    rfl
  | 0, 2 => by
    unfold final
    rw [part_carried]
    unfold left named bodyRun.sl.r_46 bodyRun.sl.r_39 bodyRun.sl.r_38 bodyRun.sl.r_37 bodyRun.sl.r_36 bodyRun.sl.r_29
    generalize bodyRun.sl.r_8 cd i arg2 harg2 arg3 harg3 arg4 harg4 arg5 harg5 x0 x1 x2 = m
    generalize bodyRun.sl.r_9 cd i arg2 harg2 arg3 harg3 arg4 harg4 arg5 harg5 x0 x1 x2 = l
    generalize bodyRun.sl.r_10 cd i arg2 harg2 arg3 harg3 arg4 harg4 arg5 harg5 x0 x1 x2 = t
    rfl
  | 0, 3 => by
    unfold final
    rw [part_carried]
    unfold left named bodyRun.sl.r_52 bodyRun.sl.r_45 bodyRun.sl.r_44 bodyRun.sl.r_43 bodyRun.sl.r_42 bodyRun.sl.r_35 bodyRun.sl.r_51
    generalize bodyRun.sl.r_11 cd i arg2 harg2 arg3 harg3 arg4 harg4 arg5 harg5 x0 x1 x2 = m
    generalize bodyRun.sl.r_12 cd i arg2 harg2 arg3 harg3 arg4 harg4 arg5 harg5 x0 x1 x2 = l
    generalize bodyRun.sl.r_13 cd i arg2 harg2 arg3 harg3 arg4 harg4 arg5 harg5 x0 x1 x2 = t
    rfl
  | 1, 0 => by
    unfold final
    rw [part_carried]
    unfold left named bodyRun.sl.r_58 bodyRun.sl.r_50 bodyRun.sl.r_49 bodyRun.sl.r_48 bodyRun.sl.r_41
    generalize bodyRun.sl.r_14 cd i arg2 harg2 arg3 harg3 arg4 harg4 arg5 harg5 x0 x1 x2 = m
    generalize bodyRun.sl.r_15 cd i arg2 harg2 arg3 harg3 arg4 harg4 arg5 harg5 x0 x1 x2 = l
    generalize bodyRun.sl.r_16 cd i arg2 harg2 arg3 harg3 arg4 harg4 arg5 harg5 x0 x1 x2 = t
    rfl
  | 1, 1 => by
    unfold final
    rw [part_carried]
    unfold left named bodyRun.sl.r_64 bodyRun.sl.r_57 bodyRun.sl.r_56 bodyRun.sl.r_55 bodyRun.sl.r_54 bodyRun.sl.r_47
    generalize bodyRun.sl.r_17 cd i arg2 harg2 arg3 harg3 arg4 harg4 arg5 harg5 x0 x1 x2 = m
    generalize bodyRun.sl.r_18 cd i arg2 harg2 arg3 harg3 arg4 harg4 arg5 harg5 x0 x1 x2 = l
    generalize bodyRun.sl.r_19 cd i arg2 harg2 arg3 harg3 arg4 harg4 arg5 harg5 x0 x1 x2 = t
    rfl
  | 1, 2 => by
    unfold final
    rw [part_carried]
    unfold left named bodyRun.sl.v495 bodyRun.sl.v494 bodyRun.sl.v493 bodyRun.sl.v492 bodyRun.sl.v491 bodyRun.sl.r_63 bodyRun.sl.r_62 bodyRun.sl.r_61 bodyRun.sl.r_60 bodyRun.sl.r_53
    generalize bodyRun.sl.r_20 cd i arg2 harg2 arg3 harg3 arg4 harg4 arg5 harg5 x0 x1 x2 = m
    generalize bodyRun.sl.r_21 cd i arg2 harg2 arg3 harg3 arg4 harg4 arg5 harg5 x0 x1 x2 = l
    generalize bodyRun.sl.r_22 cd i arg2 harg2 arg3 harg3 arg4 harg4 arg5 harg5 x0 x1 x2 = t
    rfl
  | 1, 3 => by
    unfold final
    rw [part_carried]
    unfold left named bodyRun.sl.v502 bodyRun.sl.v501 bodyRun.sl.v500 bodyRun.sl.v499 bodyRun.sl.v491 bodyRun.sl.v488 bodyRun.sl.v487 bodyRun.sl.v486 bodyRun.sl.v485 bodyRun.sl.v484 bodyRun.sl.v483 bodyRun.sl.v482 bodyRun.sl.v481 bodyRun.sl.v480 bodyRun.sl.v479 bodyRun.sl.v478 bodyRun.sl.v477 bodyRun.sl.v476 bodyRun.sl.v475 bodyRun.sl.r_65 bodyRun.sl.r_59
    generalize bodyRun.sl.r_23 cd i arg2 harg2 arg3 harg3 arg4 harg4 arg5 harg5 x0 x1 x2 = m
    generalize bodyRun.sl.r_24 cd i arg2 harg2 arg3 harg3 arg4 harg4 arg5 harg5 x0 x1 x2 = l
    generalize bodyRun.sl.r_25 cd i arg2 harg2 arg3 harg3 arg4 harg4 arg5 harg5 x0 x1 x2 = t
    rfl

/-- The weighted sum of values over the sum of powers. -/
def quotient (s : FVec F S1x512 .f32 × FVec F S64x512 .f32) : FVec F S64x512 .f32 :=
  divf s.2 (broadcastTo S64x512 s.1 broadcasts_S1x512_S64x512)

theorem parts64 (a : Fin 4) : S64x2048.Slices ![0, 512 * a.val] S64x512 := by
  revert a
  decide

/-- What is stored for query head `a` out of the four of a key head: its part of the four quotients, turned to rows of
    queries. -/
def stored (C : Fin 4 → FVec F S1x512 .f32 × FVec F S64x512 .f32) (a : Fin 4) : Vec F S512x64 .bf16 :=
  truncf .bf16 (transpose S512x64 [1, 0]
    (extractStridedSlice S64x512 ![0, 512 * a.val]
      (concatenate S64x2048 1 [⟨S64x512, quotient (C 0)⟩, ⟨S64x512, quotient (C 1)⟩, ⟨S64x512, quotient (C 2)⟩, ⟨S64x512, quotient (C 3)⟩]
        concatenates_S64x512_S64x512_S64x512_S64x512_S64x2048_d1) (parts64 a))
    transposes_S64x512_p1_0_S512x64) bitsLt_bf16_f32

/-- What is stored for query head `a` of key head `h`. -/
def headOf (h : Fin 2) (a : Fin 4) : Vec F S512x64 .bf16 :=
  stored (fun a => (final cd i arg2 harg2 arg3 harg3 arg4 harg4 arg5 harg5 x0 x1 x2 h a).2) a

/-- The eight stored pieces, as the body names them. -/
def pieceOf : Fin 2 → Fin 4 → Vec F S512x64 .bf16
  | 0, 0 => bodyRun.sl.v514 cd i arg2 harg2 arg3 harg3 arg4 harg4 arg5 harg5 x0 x1 x2
  | 0, 1 => bodyRun.sl.v518 cd i arg2 harg2 arg3 harg3 arg4 harg4 arg5 harg5 x0 x1 x2
  | 0, 2 => bodyRun.sl.v522 cd i arg2 harg2 arg3 harg3 arg4 harg4 arg5 harg5 x0 x1 x2
  | 0, 3 => k0_pay219 (bodyRun.sl.v511 cd i arg2 harg2 arg3 harg3 arg4 harg4 arg5 harg5 x0 x1 x2)
  | 1, 0 => k0_pay221 (bodyRun.sl.r_50 cd i arg2 harg2 arg3 harg3 arg4 harg4 arg5 harg5 x0 x1 x2) (bodyRun.sl.r_57 cd i arg2 harg2 arg3 harg3 arg4 harg4 arg5 harg5 x0 x1 x2) (bodyRun.sl.r_58 cd i arg2 harg2 arg3 harg3 arg4 harg4 arg5 harg5 x0 x1 x2) (bodyRun.sl.r_63 cd i arg2 harg2 arg3 harg3 arg4 harg4 arg5 harg5 x0 x1 x2) (bodyRun.sl.r_64 cd i arg2 harg2 arg3 harg3 arg4 harg4 arg5 harg5 x0 x1 x2) (bodyRun.sl.v488 cd i arg2 harg2 arg3 harg3 arg4 harg4 arg5 harg5 x0 x1 x2) (bodyRun.sl.v495 cd i arg2 harg2 arg3 harg3 arg4 harg4 arg5 harg5 x0 x1 x2) (bodyRun.sl.v502 cd i arg2 harg2 arg3 harg3 arg4 harg4 arg5 harg5 x0 x1 x2)
  | 1, 1 => k0_pay222 (bodyRun.sl.r_50 cd i arg2 harg2 arg3 harg3 arg4 harg4 arg5 harg5 x0 x1 x2) (bodyRun.sl.r_57 cd i arg2 harg2 arg3 harg3 arg4 harg4 arg5 harg5 x0 x1 x2) (bodyRun.sl.r_58 cd i arg2 harg2 arg3 harg3 arg4 harg4 arg5 harg5 x0 x1 x2) (bodyRun.sl.r_63 cd i arg2 harg2 arg3 harg3 arg4 harg4 arg5 harg5 x0 x1 x2) (bodyRun.sl.r_64 cd i arg2 harg2 arg3 harg3 arg4 harg4 arg5 harg5 x0 x1 x2) (bodyRun.sl.v488 cd i arg2 harg2 arg3 harg3 arg4 harg4 arg5 harg5 x0 x1 x2) (bodyRun.sl.v495 cd i arg2 harg2 arg3 harg3 arg4 harg4 arg5 harg5 x0 x1 x2) (bodyRun.sl.v502 cd i arg2 harg2 arg3 harg3 arg4 harg4 arg5 harg5 x0 x1 x2)
  | 1, 2 => k0_pay223 (bodyRun.sl.r_50 cd i arg2 harg2 arg3 harg3 arg4 harg4 arg5 harg5 x0 x1 x2) (bodyRun.sl.r_57 cd i arg2 harg2 arg3 harg3 arg4 harg4 arg5 harg5 x0 x1 x2) (bodyRun.sl.r_58 cd i arg2 harg2 arg3 harg3 arg4 harg4 arg5 harg5 x0 x1 x2) (bodyRun.sl.r_63 cd i arg2 harg2 arg3 harg3 arg4 harg4 arg5 harg5 x0 x1 x2) (bodyRun.sl.r_64 cd i arg2 harg2 arg3 harg3 arg4 harg4 arg5 harg5 x0 x1 x2) (bodyRun.sl.v488 cd i arg2 harg2 arg3 harg3 arg4 harg4 arg5 harg5 x0 x1 x2) (bodyRun.sl.v495 cd i arg2 harg2 arg3 harg3 arg4 harg4 arg5 harg5 x0 x1 x2) (bodyRun.sl.v502 cd i arg2 harg2 arg3 harg3 arg4 harg4 arg5 harg5 x0 x1 x2)
  | 1, 3 => k0_pay224 (bodyRun.sl.r_50 cd i arg2 harg2 arg3 harg3 arg4 harg4 arg5 harg5 x0 x1 x2) (bodyRun.sl.r_57 cd i arg2 harg2 arg3 harg3 arg4 harg4 arg5 harg5 x0 x1 x2) (bodyRun.sl.r_58 cd i arg2 harg2 arg3 harg3 arg4 harg4 arg5 harg5 x0 x1 x2) (bodyRun.sl.r_63 cd i arg2 harg2 arg3 harg3 arg4 harg4 arg5 harg5 x0 x1 x2) (bodyRun.sl.r_64 cd i arg2 harg2 arg3 harg3 arg4 harg4 arg5 harg5 x0 x1 x2) (bodyRun.sl.v488 cd i arg2 harg2 arg3 harg3 arg4 harg4 arg5 harg5 x0 x1 x2) (bodyRun.sl.v495 cd i arg2 harg2 arg3 harg3 arg4 harg4 arg5 harg5 x0 x1 x2) (bodyRun.sl.v502 cd i arg2 harg2 arg3 harg3 arg4 harg4 arg5 harg5 x0 x1 x2)

theorem pieceOf_left (h : Fin 2) (a : Fin 4) : pieceOf cd i arg2 harg2 arg3 harg3 arg4 harg4 arg5 harg5 x0 x1 x2 h a = stored (left cd i arg2 harg2 arg3 harg3 arg4 harg4 arg5 harg5 x0 x1 x2 h) a :=
  match h, a with
  | 0, 0 => rfl
  | 0, 1 => rfl
  | 0, 2 => rfl
  | 0, 3 => rfl
  | 1, 0 => rfl
  | 1, 1 => rfl
  | 1, 2 => rfl
  | 1, 3 => rfl

theorem pieceOf_eq (h : Fin 2) (a : Fin 4) : pieceOf cd i arg2 harg2 arg3 harg3 arg4 harg4 arg5 harg5 x0 x1 x2 h a = headOf cd i arg2 harg2 arg3 harg3 arg4 harg4 arg5 harg5 x0 x1 x2 h a := by
  rw [pieceOf_left]
  exact congrArg (stored · a) (funext fun a => left_eq cd i arg2 harg2 arg3 harg3 arg4 harg4 arg5 harg5 x0 x1 x2 h a)

theorem columns64 (h : Fin 2) (a : Fin 4) :
    ∀ b, (![0, 64 * (4 * h.val + a.val)] : Fin 2 → ℕ) b + S512x64.size b ≤ S512x512.size b := by
  revert h a
  decide

/-- The piece of the output block that query head `a` of key head `h` fills: 64 columns. -/
def piece (h : Fin 2) (a : Fin 4) : View.Piece (Elt F) S512x512 .bf16 :=
  ⟨Rect.unit (s := S512x512) ![0, 64 * (4 * h.val + a.val)] S512x64.size (columns64 h a), headOf cd i arg2 harg2 arg3 harg3 arg4 harg4 arg5 harg5 x0 x1 x2 h a⟩

/-- The output block: the eight heads beside each other. -/
theorem written_eq :
    written cd i arg2 harg2 arg3 harg3 arg4 harg4 arg5 harg5 x0 x1 x2 = View.canon (([(1, 3), (1, 2), (1, 1), (1, 0), (0, 3), (0, 2), (0, 1), (0, 0)] : List (Fin 2 × Fin 4)).map
      fun e => piece cd i arg2 harg2 arg3 harg3 arg4 harg4 arg5 harg5 x0 x1 x2 e.1 e.2) := by
  unfold written piece
  rw [View.read_writes_eq_canon _ _ _ (covered cd i arg2 harg2 arg3 harg3 arg4 harg4 arg5 harg5 x0 x1 x2)]
  simp only [← pieceOf_eq, List.map]
  rfl

end

end Cert.GroupedIdeal.Run

end
-- ==== Proof.GroupedTile.lean ====
/-
  The named operations of `GroupedBody` at the ideal numbers, entry by entry, and the tiles of queries, keys and values
  that the body loads from the blocks of its grid point.
-/
module

public import proofs.«01_k».proof.Proof.GroupedBody
public import proofs.«01_k».proof.Proof.Columns

@[expose] public section

set_option maxRecDepth 16384

noncomputable section

namespace Cert.GroupedIdeal.Run

open Cert.GroupedIdeal Cert.GroupedIdeal.Gen Idealize.ShloMosaic Idealize.ShloMosaic.TcCoe Idealize.SL.Sem

theorem tile_lt (i : grid0.Coords) : (i 1).val < 32 := (i 1).isLt

theorem scores_apply (q : FVec Ideal S2048x128 .bf16) (e : Fin 4) (k : Vec Ideal S1x512x128 .bf16) (a b : Fin 512) :
    scores q e k (ix2 a b) = ∑ d : Fin 128, k (ix3 0 a d) * q (ix2 ⟨512 * e.val + b.val, by omega⟩ d) := by
  unfold scores
  pointwise

/-- The first key of the masked tile is the grid point's first query. -/
theorem firstKey_eq (i : grid0.Coords) : bodyRun.sl.v77 i = BitVec.ofNat 32 (512 * (i 1).val) := by
  unfold bodyRun.sl.v77 bodyRun.sl.v76 bodyRun.sl.v17 bodyRun.sl.v16 bodyRun.sl.v15 bodyRun.sl.v14 bodyRun.sl.v13 bodyRun.sl.v12
    bodyRun.sl.v6 bodyRun.sl.v5 bodyRun.sl.v4 bodyRun.sl.v3 bodyRun.sl.v2 bodyRun.sl.v1 bodyRun.sl.v0
  generalize i 1 = n
  revert n
  decide +kernel

theorem firstQuery_eq (i : grid0.Coords) : Scalar.muli (BitVec.ofNat 32 (i 1).val) 512#32 = BitVec.ofNat 32 (512 * (i 1).val) := by
  generalize i 1 = n
  revert n
  decide +kernel

/-- A query's place in the stack of four, reduced modulo 512, is its place in the block. -/
theorem place_eq (h : Fin 4) (b : Fin 512) :
    (let r := IntOp.remsi ArithUnit.vector (IntOp.addi (BitVec.ofNat 32 (512 * h.val)) (BitVec.ofNat 32 b.val)) 512#32;
      Scalar.select
        (IntOp.andi
          (IntOp.xori (IntOp.cmpi CmpIPredicate.slt r 0#32) (Scalar.cmpi CmpIPredicate.slt 512#32 0#32))
          (IntOp.cmpi CmpIPredicate.ne r 0#32))
        (IntOp.addi r 512#32) r)
      = BitVec.ofNat 32 b.val := by
  revert h b
  decide +kernel

theorem masked_apply (i : grid0.Coords) (h : Fin 4) (x : FVec Ideal S512x512 .f32) (a b : Fin 512) :
    masked i h x (ix2 a b) = if 512 * (i 1).val + a.val ≤ 512 * (i 1).val + b.val then x (ix2 a b) else ⊥ := by
  unfold masked keyPos queryPos place
  pointwise
  have hp := place_eq h b
  dsimp only at hp
  rw [hp, firstKey_eq, firstQuery_eq, WordCmp.cmpi_sle_eq]
  have hi := tile_lt i
  have hk : ∀ c : Fin 512, (IntOp.addi (BitVec.ofNat 32 (512 * (i 1).val)) (BitVec.ofNat 32 c.val)).toInt
      = 512 * (i 1).val + c.val := by
    intro c
    have : IntOp.addi (BitVec.ofNat 32 (512 * (i 1).val)) (BitVec.ofNat 32 c.val)
        = BitVec.ofNat 32 (512 * (i 1).val + c.val) := by
      apply BitVec.eq_of_toNat_eq
      simp [IntOp.addi, BitVec.toNat_add]
    rw [this, BitVec.toInt_eq_toNat_of_lt] <;> simp <;> omega
  rw [hk, hk]
  split_ifs with hle
  · rw [decide_eq_true (by omega)]; rfl
  · rw [decide_eq_false (by omega)]; rfl

/-- The loop runs over the tiles of 512 keys that lie before the grid point's queries. -/
theorem trips1 (i : grid0.Coords) : (k0_t1_loop i).trips = (i 1).val := by
  unfold k0_t1_loop
  dsimp only
  generalize i 1 = n
  revert n
  decide +kernel

/-- The second loop is what is left over of the first: nothing. -/
theorem trips2 (i : grid0.Coords) : (k0_t2_loop i).trips = 0 := by
  unfold k0_t2_loop
  dsimp only
  generalize i 1 = n
  revert n
  decide +kernel

theorem trip_lt (i : grid0.Coords) (k : Fin (k0_t1_loop i).trips) : k.val < 32 :=
  lt_trans (lt_of_lt_of_eq k.isLt (trips1 i)) (i 1).isLt

/-- The offset at which trip `k` of the loop loads its tile. -/
theorem loopTile (i : grid0.Coords) (k : Fin (k0_t1_loop i).trips) :
    k0_off1 i k = ![0, 512 * k.val, 0] ∧ k0_off2 i k = ![0, 512 * k.val] ∧ k0_off3 i k = ![1, 512 * k.val, 0]
      ∧ k0_off4 i k = ![64, 512 * k.val] := by
  have h : ∀ k : Fin 32, (Scalar.indexCast (Scalar.muli (Scalar.addi (Scalar.muli (Scf.iv 0#32 1#32 k.val) 1#32) 0#32) 512#32)).toNat
      = 512 * k.val := by decide +kernel
  rw [← h ⟨k.val, trip_lt i k⟩]
  exact ⟨rfl, rfl, rfl, rfl⟩

/-- The offset of the masked tile. -/
theorem maskTile (i : grid0.Coords) :
    k0_off9 i = ![0, 512 * (i 1).val, 0] ∧ k0_off10 i = ![0, 512 * (i 1).val] ∧ k0_off11 i = ![1, 512 * (i 1).val, 0]
      ∧ k0_off12 i = ![64, 512 * (i 1).val] := by
  have h : (Scalar.indexCast (bodyRun.sl.v77 i)).toNat = 512 * (i 1).val := by
    rw [firstKey_eq]
    generalize i 1 = n
    revert n
    decide +kernel
  rw [← h]
  exact ⟨rfl, rfl, rfl, rfl⟩

end Cert.GroupedIdeal.Run

end
-- ==== Proof.GroupedBlock.lean ====
/-
  The block of outputs that the grouped call's body leaves at a grid point: per query and column, the weighted sum over
  the sum of powers, both after the keys up to the end of the grid point's own.
-/
module

public import proofs.«01_k».proof.Proof.GroupedTile

@[expose] public section

set_option maxRecDepth 16384

noncomputable section

namespace Cert.GroupedIdeal.Run

open Cert.GroupedIdeal Cert.GroupedIdeal.Gen Idealize.ShloMosaic Idealize.ShloMosaic.TcCoe Idealize.SL.Sem Cert.Softmax
open Cert.KernelIdeal.Attn (Carry chain Holds holds_start)

/-- A tile of keys loaded from a block of two key heads. -/
theorem keys_apply (a3 : Memref sig .tc .vmem S2x16384x128 .bf16) (h3 : a3.IsWhole) (x1 : Vec Ideal S2x16384x128 .bf16)
    {off : Fin 3 → ℕ} (inb) (h : Fin 2) (n : ℕ) (hoff : off = ![h.val, n, 0]) (a : Fin 512) (d : Fin 128) (ha : n + a.val < 16384) :
    (View.readAt (Elt Ideal) a3.view (Rect.unit (s := S2x16384x128) off S1x512x128.size inb).toLoadRect (h3.unread x1) :
      Vec Ideal S1x512x128 .bf16) (ix3 0 a d) = x1 (ix3 h ⟨n + a.val, ha⟩ d) := by
  subst hoff
  rw [View.readAt_eq_ld, h3.read_unread]
  refine View.ld_unit_apply_of x1 _ _ _ _ _ fun e => ?_
  match e with
  | ⟨0, _⟩ => rfl
  | ⟨1, _⟩ => rfl
  | ⟨2, _⟩ => exact (Nat.zero_add _).symm

/-- A tile of values loaded from a block of two key heads. -/
theorem values_apply (a4 : Memref sig .tc .vmem S128x16384 .bf16) (h4 : a4.IsWhole) (x2 : Vec Ideal S128x16384 .bf16)
    {off : Fin 2 → ℕ} (inb) (h : Fin 2) (n : ℕ) (hoff : off = ![64 * h.val, n]) (d : Fin 64) (a : Fin 512) (ha : n + a.val < 16384) :
    (View.readAt (Elt Ideal) a4.view (Rect.unit (s := S128x16384) off S64x512.size inb).toLoadRect (h4.unread x2) :
      Vec Ideal S64x512 .bf16) (ix2 d a) = x2 (ix2 ⟨64 * h.val + d.val, by omega⟩ ⟨n + a.val, ha⟩) := by
  subst hoff
  rw [View.readAt_eq_ld, h4.read_unread]
  refine View.ld_unit_apply_of x2 _ _ _ _ _ fun e => ?_
  match e with
  | ⟨0, _⟩ => rfl
  | ⟨1, _⟩ => rfl

/-- The queries of a head loaded from a block of eight. -/
theorem queries_apply (a2 : Memref sig .tc .vmem S512x1024 .bf16) (h2 : a2.IsWhole) (x0 : Vec Ideal S512x1024 .bf16)
    {off : Fin 2 → ℕ} (inb) (o : ℕ) (hoff : off = ![0, o]) (j : Fin 512) (d : Fin 128) (ho : o + d.val < 1024) :
    (View.readAt (Elt Ideal) a2.view (Rect.unit (s := S512x1024) off S512x128.size inb).toLoadRect (h2.unread x0) :
      Vec Ideal S512x128 .bf16) (ix2 j d) = x0 (ix2 j ⟨o + d.val, ho⟩) := by
  subst hoff
  rw [View.readAt_eq_ld, h2.read_unread]
  refine View.ld_unit_apply_of x0 _ _ _ _ _ fun e => ?_
  match e with
  | ⟨0, _⟩ => exact (Nat.zero_add _).symm
  | ⟨1, _⟩ => rfl

/-- Row `512 e + j` of a stack of four is query `j` of head `e`. -/
theorem stacked_apply (w : Fin 4 → Vec Ideal S512x128 .bf16) (e : Fin 4) (j : Fin 512) (d : Fin 128) :
    (k0_pay107 (w 0) (w 1) (w 2) (w 3) : FVec Ideal S2048x128 .bf16) (ix2 ⟨512 * e.val + j.val, by omega⟩ d) = w e (ix2 j d) := by
  have hj := j.isLt
  unfold k0_pay107
  pointwise
  have key : ∀ (f : Fin 4) (r : Fin 512), e.val = f.val → r.val = j.val → w f (ix2 r d) = w e (ix2 j d) := by
    intro f r hf hr
    rw [Fin.ext hf, Fin.ext hr]
  have h0 : (0 : Fin 4).val = 0 := rfl
  have h1 : (1 : Fin 4).val = 1 := rfl
  have h2 : (2 : Fin 4).val = 2 := rfl
  have h3 : (3 : Fin 4).val = 3 := rfl
  split_ifs
  all_goals exact key _ _ (by omega) (by dsimp only; omega)

theorem stack_apply (cd : Dev nD) (a2 : Memref sig .tc .vmem S512x1024 .bf16) (h2 : a2.IsWhole) (x0 : Vec Ideal S512x1024 .bf16)
    (h : Fin 2) (e : Fin 4) (j : Fin 512) (d : Fin 128) :
    stack a2 h2 cd x0 h (ix2 ⟨512 * e.val + j.val, by omega⟩ d) = x0 (ix2 j ⟨128 * (4 * h.val + e.val) + d.val, by omega⟩) := by
  have inb : ∀ (h : Fin 2) (e : Fin 4) (b), (![0, 128 * (4 * h.val + e.val)] : Fin 2 → ℕ) b + S512x128.size b ≤ S512x1024.size b := by decide
  have key := stacked_apply (fun e => View.readAt (Elt Ideal) a2.view
      (Rect.unit (s := S512x1024) ![0, 128 * (4 * h.val + e.val)] S512x128.size (inb h e)).toLoadRect (h2.unread x0)) e j d
  rw [queries_apply a2 h2 x0 (inb h e) _ rfl j d (by omega)] at key
  rw [← key]
  match h with
  | 0 => rfl
  | 1 => rfl

section
variable (cd : Dev nD) (i : grid0.Coords) (arg2 : Memref sig .tc .vmem S512x1024 .bf16) (harg2 : arg2.IsWhole)
  (arg3 : Memref sig .tc .vmem S2x16384x128 .bf16) (harg3 : arg3.IsWhole) (arg4 : Memref sig .tc .vmem S128x16384 .bf16)
  (harg4 : arg4.IsWhole) (arg5 : Memref sig .tc .vmem S512x512 .bf16) (harg5 : arg5.IsWhole)
  (x0 : Vec Ideal S512x1024 .bf16) (x1 : Vec Ideal S2x16384x128 .bf16) (x2 : Vec Ideal S128x16384 .bf16)

/-- The score of key `s` and query `j` of a grid point, for query head `e` of key head `h`. -/
def score (h : Fin 2) (e : Fin 4) (j : Fin 512) (s : ℕ) : EReal :=
  if hs : s < 16384 then ∑ d : Fin 128, x1 (ix3 h ⟨s, hs⟩ d) * x0 (ix2 j ⟨128 * (4 * h.val + e.val) + d.val, by omega⟩) else ⊥

/-- The same where the query may see the key, and `⊥` where it may not. -/
def seen (h : Fin 2) (e : Fin 4) (j : Fin 512) (s : ℕ) : EReal :=
  if s ≤ 512 * (i 1).val + j.val then score x0 x1 h e j s else ⊥

/-- The value of key `s` in column `d` of key head `h`. -/
def weight (h : Fin 2) (d : Fin 64) (s : ℕ) : EReal :=
  if hs : s < 16384 then x2 (ix2 ⟨64 * h.val + d.val, by omega⟩ ⟨s, hs⟩) else 0

/-- The state of query head `e` of key head `h` after `n` keys. -/
def At (h : Fin 2) (e : Fin 4) (s : Carry Ideal) (n : ℕ) : Prop := Holds s (seen i x0 x1 h e) (weight x2 h) n

/-- The scores of a loaded tile of keys. -/
theorem tile_score (h : Fin 2) (e : Fin 4) {off : Fin 3 → ℕ} (inb) (n : ℕ) (hoff : off = ![h.val, n, 0]) (hn : n + 512 ≤ 16384)
    (a b : Fin 512) :
    scores (stack arg2 harg2 cd x0 h) e
      (View.readAt (Elt Ideal) arg3.view (Rect.unit (s := S2x16384x128) off S1x512x128.size inb).toLoadRect (harg3.unread x1)) (ix2 a b)
      = score x0 x1 h e b (n + a.val) := by
  rw [scores_apply, score, dif_pos (by omega)]
  refine Finset.sum_congr rfl fun d _ => ?_
  rw [keys_apply arg3 harg3 x1 inb h n hoff a d (by omega), stack_apply]

/-- A loaded tile of values. -/
theorem tile_value (h : Fin 2) {off : Fin 2 → ℕ} (inb) (n : ℕ) (hoff : off = ![64 * h.val, n]) (hn : n + 512 ≤ 16384) (d : Fin 64)
    (a : Fin 512) :
    (View.readAt (Elt Ideal) arg4.view (Rect.unit (s := S128x16384) off S64x512.size inb).toLoadRect (harg4.unread x2) :
      Vec Ideal S64x512 .bf16) (ix2 d a) = weight x2 h d (n + a.val) := by
  rw [weight, dif_pos (by omega), values_apply arg4 harg4 x2 inb h n hoff d a (by omega)]

theorem trip_score (k : Fin (k0_t1_loop i).trips) (h : Fin 2) (e : Fin 4) (a b : Fin 512) :
    scores (stack arg2 harg2 cd x0 h) e (keys (harg3.unread x1) i k h) (ix2 a b) = score x0 x1 h e b (512 * k.val + a.val) := by
  have hk := trip_lt i k
  obtain ⟨o1, -, o3, -⟩ := loopTile i k
  match h with
  | 0 => exact tile_score cd arg2 harg2 arg3 harg3 x0 x1 0 e _ _ o1 (by omega) a b
  | 1 => exact tile_score cd arg2 harg2 arg3 harg3 x0 x1 1 e _ _ o3 (by omega) a b

theorem trip_value (k : Fin (k0_t1_loop i).trips) (h : Fin 2) (d : Fin 64) (a : Fin 512) :
    values (harg4.unread x2) i k h (ix2 d a) = weight x2 h d (512 * k.val + a.val) := by
  have hk := trip_lt i k
  obtain ⟨-, o2, -, o4⟩ := loopTile i k
  match h with
  | 0 => exact tile_value arg4 harg4 x2 0 _ _ o2 (by omega) d a
  | 1 => exact tile_value arg4 harg4 x2 1 _ _ o4 (by omega) d a

theorem masked_score (h : Fin 2) (e : Fin 4) (a b : Fin 512) :
    masked i e (scores (stack arg2 harg2 cd x0 h) e (maskedKeys (harg3.unread x1) i h)) (ix2 a b)
      = seen i x0 x1 h e b (512 * (i 1).val + a.val) := by
  have hi := tile_lt i
  obtain ⟨o1, -, o3, -⟩ := maskTile i
  rw [masked_apply, seen]
  refine if_congr Iff.rfl ?_ rfl
  match h with
  | 0 => exact tile_score cd arg2 harg2 arg3 harg3 x0 x1 0 e _ _ o1 (by omega) a b
  | 1 => exact tile_score cd arg2 harg2 arg3 harg3 x0 x1 1 e _ _ o3 (by omega) a b

theorem masked_value (h : Fin 2) (d : Fin 64) (a : Fin 512) :
    maskedValues (harg4.unread x2) i h (ix2 d a) = weight x2 h d (512 * (i 1).val + a.val) := by
  have hi := tile_lt i
  obtain ⟨-, o2, -, o4⟩ := maskTile i
  match h with
  | 0 => exact tile_value arg4 harg4 x2 0 _ _ o2 (by omega) d a
  | 1 => exact tile_value arg4 harg4 x2 1 _ _ o4 (by omega) d a

/-- What the eight blocks start from. -/
def begin : Carried Ideal :=
  (k0_pay109, k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129, k0_pay130,
    k0_pay131, k0_pay132)

theorem part_begin (h : Fin 2) (e : Fin 4) : part begin h e = Cert.KernelIdeal.Attn.start :=
  match h, e with
  | 0, 0 => rfl
  | 0, 1 => rfl
  | 0, 2 => rfl
  | 0, 3 => rfl
  | 1, 0 => rfl
  | 1, 1 => rfl
  | 1, 2 => rfl
  | 1, 3 => rfl

theorem at_state (h : Fin 2) (e : Fin 4) (k : ℕ) (hk : k ≤ (k0_t1_loop i).trips) :
    At i x0 x1 x2 h e (part (state cd i arg2 harg2 arg3 harg3 arg4 harg4 arg5 harg5 (stack arg2 harg2 cd x0 0) (stack arg2 harg2 cd x0 1)
      (harg3.unread x1) (harg4.unread x2) begin k) h e) (512 * k) := by
  induction k with
  | zero =>
    unfold state
    rw [st_k0_t1_zero, part_begin]
    exact holds_start _ _
  | succ k ih =>
    have hlt : k < (k0_t1_loop i).trips := hk
    have hi := trips1 i
    rw [state_succ cd i arg2 harg2 arg3 harg3 arg4 harg4 arg5 harg5 (stack arg2 harg2 cd x0) _ _ _ ⟨k, hlt⟩]
    refine Holds.chain (ih (le_of_lt hlt)) _ _ (fun a b => ?_) (fun d a => ?_)
    · rw [trip_score, seen, if_pos (by dsimp only; omega)]
    · rw [trip_value]

/-- After both loops the eight blocks stand at the grid point's own keys. -/
theorem at_carried (h : Fin 2) (e : Fin 4) :
    At i x0 x1 x2 h e (part (carried cd i arg2 harg2 arg3 harg3 arg4 harg4 arg5 harg5 x0 x1 x2) h e) (512 * (i 1).val) := by
  have eq : carried cd i arg2 harg2 arg3 harg3 arg4 harg4 arg5 harg5 x0 x1 x2
      = state cd i arg2 harg2 arg3 harg3 arg4 harg4 arg5 harg5 (stack arg2 harg2 cd x0 0) (stack arg2 harg2 cd x0 1) (harg3.unread x1) (harg4.unread x2) begin
          (k0_t1_loop i).trips := by
    unfold carried
    rw [trips2, st_k0_t2_zero]
    rfl
  rw [eq]
  have := at_state cd i arg2 harg2 arg3 harg3 arg4 harg4 arg5 harg5 x0 x1 x2 h e _ le_rfl
  rwa [show 512 * (k0_t1_loop i).trips = 512 * (i 1).val by rw [trips1]] at this

theorem at_final (h : Fin 2) (e : Fin 4) :
    At i x0 x1 x2 h e (final cd i arg2 harg2 arg3 harg3 arg4 harg4 arg5 harg5 x0 x1 x2 h e) (512 * (i 1).val + 512) := by
  unfold final
  refine Holds.chain (at_carried cd i arg2 harg2 arg3 harg3 arg4 harg4 arg5 harg5 x0 x1 x2 h e) _ _ (fun a b => ?_) (fun d a => ?_)
  · rw [masked_score]
  · rw [masked_value]

/-- The output of query `j` in column `d` of query head `e` of key head `h`. -/
def attended (h : Fin 2) (e : Fin 4) (j : Fin 512) (d : Fin 64) : EReal :=
  Ideal.div (total (seen i x0 x1 h e j) (weight x2 h d) (512 * (i 1).val + 512)) (mass (seen i x0 x1 h e j) (512 * (i 1).val + 512))

theorem stored_apply (C : Fin 4 → FVec Ideal S1x512 .f32 × FVec Ideal S64x512 .f32) (e : Fin 4) (j : Fin 512) (d : Fin 64) :
    stored C e (ix2 j d) = Ideal.div ((C e).2 (ix2 d j)) ((C e).1 (ix2 0 j)) := by
  have hj := j.isLt
  unfold stored quotient
  pointwise
  have key : ∀ (f : Fin 4) (r : Fin 512), e.val = f.val → r.val = j.val →
      Ideal.div ((C f).2 (ix2 d r)) ((C f).1 (ix2 0 r)) = Ideal.div ((C e).2 (ix2 d j)) ((C e).1 (ix2 0 j)) := by
    intro f r hf hr
    rw [Fin.ext hf, Fin.ext hr]
  have h0 : (0 : Fin 4).val = 0 := rfl
  have h1 : (1 : Fin 4).val = 1 := rfl
  have h2 : (2 : Fin 4).val = 2 := rfl
  have h3 : (3 : Fin 4).val = 3 := rfl
  split_ifs
  all_goals exact key _ _ (by omega) (by dsimp only; omega)

theorem headOf_apply (h : Fin 2) (e : Fin 4) (j : Fin 512) (d : Fin 64) :
    headOf cd i arg2 harg2 arg3 harg3 arg4 harg4 arg5 harg5 x0 x1 x2 h e (ix2 j d) = attended i x0 x1 x2 h e j d := by
  have H := at_final cd i arg2 harg2 arg3 harg3 arg4 harg4 arg5 harg5 x0 x1 x2 h e
  unfold headOf attended
  rw [stored_apply, H.mass, H.total]

/-- The whole block: 64 columns for each of the eight heads. -/
def block : Vec Ideal S512x512 .bf16 := fun y =>
  have hy : (y 1).val < 512 := (y 1).isLt
  attended i x0 x1 x2 ⟨(y 1).val / 256, by omega⟩ ⟨(y 1).val / 64 % 4, Nat.mod_lt _ (by decide)⟩ (y 0)
    ⟨(y 1).val % 64, Nat.mod_lt _ (by decide)⟩

theorem listed : ∀ (h : Fin 2) (e : Fin 4), (h, e) ∈
    ([(1, 3), (1, 2), (1, 1), (1, 0), (0, 3), (0, 2), (0, 1), (0, 0)] : List (Fin 2 × Fin 4)) := by decide

/-- What the body leaves in its output block. -/
theorem written_block : written cd i arg2 harg2 arg3 harg3 arg4 harg4 arg5 harg5 x0 x1 x2 = block i x0 x1 x2 := by
  rw [written_eq]
  funext y
  have h0 : (y 0).val < 512 := (y 0).isLt
  have h1 : (y 1).val < 512 := (y 1).isLt
  refine View.canon_apply_of_pieces (S := S512x512) (block i x0 x1 x2) _ ?_ y ?_
  · intro p hp
    obtain ⟨⟨h, e⟩, -, rfl⟩ := List.mem_map.mp hp
    intro x
    have eq := headOf_apply cd i arg2 harg2 arg3 harg3 arg4 harg4 arg5 harg5 x0 x1 x2 h e (x 0) (x 1)
    rw [show (ix2 (x 0) (x 1) : S512x64.Idx) = x from (eq_ix2 x).symm] at eq
    refine eq.trans ?_
    have hx : (x 1).val < 64 := (x 1).isLt
    have hh := h.isLt
    have he := e.isLt
    unfold block
    dsimp only
    congr 1
    · exact Fin.ext (by show h.val = (64 * (4 * h.val + e.val) + 1 * (x 1).val) / 256; omega)
    · exact Fin.ext (by show e.val = (64 * (4 * h.val + e.val) + 1 * (x 1).val) / 64 % 4; omega)
    · exact Fin.ext (by show (x 0).val = 0 + 1 * (x 0).val; omega)
    · exact Fin.ext (by show (x 1).val = (64 * (4 * h.val + e.val) + 1 * (x 1).val) % 64; omega)
  · refine ⟨_, List.mem_map.mpr ⟨_, listed ⟨(y 1).val / 256, by omega⟩ ⟨(y 1).val / 64 % 4, Nat.mod_lt _ (by decide)⟩, rfl⟩, ?_⟩
    unfold piece
    rw [Rect.mem_set_unit]
    intro a
    match a with
    | ⟨0, _⟩ => exact ⟨Nat.zero_le _, h0⟩
    | ⟨1, _⟩ =>
      show 64 * (4 * ((y 1).val / 256) + (y 1).val / 64 % 4) ≤ (y 1).val
        ∧ (y 1).val < 64 * (4 * ((y 1).val / 256) + (y 1).val / 64 % 4) + 64
      omega

end

end Cert.GroupedIdeal.Run

end
-- ==== Proof.GroupedGoal.lean ====
/-
  The grouped attention that both programs compute, as one function of the queries, the keys and the values: two key
  heads, each shared by four query heads; per query and column, the values weighted by the powers of two of the scores of
  the keys up to the query, over the sum of those powers.
-/
module

public import proofs.«01_k».proof.Proof.Softmax
public import Idealize.ShloMosaic.Lib.Pointwise

@[expose] public section

noncomputable section

namespace Cert.Softmax.Shared

open Idealize.ShloMosaic

/-- The queries: 16384 positions, 8 query heads of 128 columns. -/
abbrev Queries := FVec Ideal ⟨2, ![16384, 1024]⟩ .bf16
/-- The keys: 2 key heads, 16384 positions, 128 columns. -/
abbrev Keys := FVec Ideal ⟨3, ![2, 16384, 128]⟩ .bf16
/-- The values: 16384 positions, 2 key heads of 64 columns. -/
abbrev Vals := FVec Ideal ⟨2, ![16384, 128]⟩ .bf16
/-- The attention: 16384 positions, 8 query heads of 64 columns. -/
abbrev Result := FVec Ideal ⟨2, ![16384, 512]⟩ .bf16

/-- The score of key `s` for query `t` in query head `e` of key head `h`. -/
def logit (q : Queries) (k : Keys) (h : Fin 2) (e : Fin 4) (t : Fin 16384) (s : ℕ) : EReal :=
  if hs : s < 16384 then ∑ d : Fin 128, k (ix3 h ⟨s, hs⟩ d) * q (ix2 t ⟨128 * (4 * h.val + e.val) + d.val, by omega⟩) else ⊥

/-- The same for the keys up to the query, and `⊥` for those after it. -/
def causal (q : Queries) (k : Keys) (h : Fin 2) (e : Fin 4) (t : Fin 16384) (s : ℕ) : EReal :=
  if s ≤ t.val then logit q k h e t s else ⊥

/-- Column `d` of the values of key head `h`. -/
def column (v : Vals) (h : Fin 2) (d : Fin 64) (s : ℕ) : EReal :=
  if hs : s < 16384 then v (ix2 ⟨s, hs⟩ ⟨64 * h.val + d.val, by omega⟩) else 0

/-- The attention of query `t` in column `d` of query head `e` of key head `h`. -/
def attention (q : Queries) (k : Keys) (v : Vals) (h : Fin 2) (e : Fin 4) (t : Fin 16384) (d : Fin 64) : EReal :=
  Ideal.div (total (causal q k h e t) (column v h d) 16384) (mass (causal q k h e t) 16384)

/-- The keys after a query can be left out of its sums. -/
theorem attention_eq (q : Queries) (k : Keys) (v : Vals) (h : Fin 2) (e : Fin 4) (t : Fin 16384) (d : Fin 64) (n : ℕ)
    (hn : t.val < n) (hN : n ≤ 16384) :
    attention q k v h e t d = Ideal.div (total (causal q k h e t) (column v h d) n) (mass (causal q k h e t) n) := by
  have hz : ∀ s, n ≤ s → s < 16384 → causal q k h e t s = ⊥ := fun s hs _ => by
    rw [causal, if_neg (by omega)]
  rw [attention, total_masked _ _ hN hz, mass_masked _ hN hz]

/-- The whole array: column `64 (4 h + e) + d` is column `d` of query head `e` of key head `h`. -/
def attend (q : Queries) (k : Keys) (v : Vals) : Result := fun y =>
  have hy : (y 1).val < 512 := (y 1).isLt
  attention q k v ⟨(y 1).val / 256, by omega⟩ ⟨(y 1).val / 64 % 4, Nat.mod_lt _ (by decide)⟩ (y 0)
    ⟨(y 1).val % 64, Nat.mod_lt _ (by decide)⟩

end Cert.Softmax.Shared

end
-- ==== Proof.GroupedArray.lean ====
/-
  The array that the grouped call leaves: the grouped attention of its three arguments. The block of every grid point is
  the block of that array, and the blocks cover it.
-/
module

public import proofs.«01_k».proof.Proof.GroupedBlock
public import proofs.«01_k».proof.Proof.GroupedGoal
public import Idealize.ShloMosaic.Lib.Pipeline.ValueKit.Geometry

@[expose] public section

set_option maxRecDepth 16384

noncomputable section

namespace Cert.GroupedIdeal.Run

open Cert.GroupedIdeal Cert.GroupedIdeal.Gen Idealize.ShloMosaic Idealize.ShloMosaic.TcCoe Idealize.SL.Sem Cert.Softmax
open Cert.Softmax.Shared

variable (m : (ℓ : Loc nD τ sig) → Buf (Elt Ideal) ℓ) (c : Dev nD)

/-- The queries, the keys and the values. -/
abbrev qs : Queries := m ((c : Thread nD τ).loc main_arg0)
abbrev ks : Keys := m ((c : Thread nD τ).loc main_arg1)
abbrev vs : Vals := m ((c : Thread nD τ).loc main_arg2)

/-- Where each window's block lies: the query blocks one after another, the keys and values whole. -/
theorem places : ∀ t : Fin cfg0.N,
    (win0_0.index t 0 = (grid0.coords t 1).val ∧ win0_0.index t 1 = 0)
    ∧ (win0_1.index t 0 = 0 ∧ win0_1.index t 1 = 0 ∧ win0_1.index t 2 = 0)
    ∧ (win0_2.index t 0 = 0 ∧ win0_2.index t 1 = 0)
    ∧ (win0_3.index t 0 = (grid0.coords t 1).val ∧ win0_3.index t 1 = 0) :=
  (by decide +kernel : ∀ t : Fin grid0.N, _)

/-- Query `j` of a grid point. -/
def query (i : grid0.Coords) (j : Fin 512) : Fin 16384 := ⟨512 * (i 1).val + j.val, by have := tile_lt i; omega⟩

/-- The query block of a grid point. -/
theorem queries_block (t : Fin cfg0.N) (j : Fin 512) (e : Fin 1024) :
    (iblk m c 0 t : Vec Ideal S512x1024 .bf16) (ix2 j e) = qs m c (ix2 (query (grid0.coords t) j) e) := by
  obtain ⟨⟨h0, h1⟩, -⟩ := places t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t 0 * 512 + 1 * j.val = 512 * (grid0.coords t 1).val + j.val; rw [h0]; omega
  | ⟨1, _⟩ => show win0_0.index t 1 * 1024 + 1 * e.val = e.val; rw [h1]; omega

/-- The block of keys: all of them. -/
theorem keys_block (t : Fin cfg0.N) (h : Fin 2) (s : Fin 16384) (d : Fin 128) :
    (iblk m c 1 t : Vec Ideal S2x16384x128 .bf16) (ix3 h s d) = ks m c (ix3 h s d) := by
  obtain ⟨-, ⟨h0, h1, h2⟩, -⟩ := places t
  unfold iblk
  rw [View.read_apply]
  show V m c main_arg1 _ = _
  rw [V_main_arg1]
  refine congrArg (m ((c : Thread nD τ).loc main_arg1)) ?_
  funext a
  apply Fin.ext
  match a with
  | ⟨0, _⟩ => show win0_1.index t 0 * 2 + 1 * h.val = h.val; rw [h0]; omega
  | ⟨1, _⟩ => show win0_1.index t 1 * 16384 + 1 * s.val = s.val; rw [h1]; omega
  | ⟨2, _⟩ => show win0_1.index t 2 * 128 + 1 * d.val = d.val; rw [h2]; omega

/-- The values, column by column, as the launch finds them. -/
theorem values_laid : (V m c main_v0 : FVec Ideal S128x16384 .bf16)
    = transpose S128x16384 [1, 0] (vs m c) transposes_S16384x128_S128x16384_1_0 := by
  unfold V
  after_results_simp

theorem values_laid_apply (e : Fin 128) (s : Fin 16384) :
    (V m c main_v0 : FVec Ideal S128x16384 .bf16) (ix2 e s) = vs m c (ix2 s e) := by
  rw [values_laid]
  pointwise

/-- The block of values: all of them, column by column. -/
theorem values_block (t : Fin cfg0.N) (a : Fin 128) (s : Fin 16384) :
    (iblk m c 2 t : Vec Ideal S128x16384 .bf16) (ix2 a s) = vs m c (ix2 s a) := by
  obtain ⟨-, -, ⟨h0, h1⟩, -⟩ := places t
  refine Eq.trans ?_ (values_laid_apply m c a s)
  unfold iblk
  rw [View.read_apply]
  show V m c main_v0 _ = V m c main_v0 _
  refine congrArg (V m c main_v0) ?_
  funext b
  apply Fin.ext
  match b with
  | ⟨0, _⟩ => show win0_2.index t 0 * 128 + 1 * a.val = a.val; rw [h0]; omega
  | ⟨1, _⟩ => show win0_2.index t 1 * 16384 + 1 * s.val = s.val; rw [h1]; omega

/-- What a query of a grid point sees. -/
theorem seen_eq (t : Fin cfg0.N) (h : Fin 2) (e : Fin 4) (j : Fin 512) :
    seen (grid0.coords t) (iblk m c 0 t) (iblk m c 1 t) h e j = causal (qs m c) (ks m c) h e (query (grid0.coords t) j) := by
  funext s
  unfold seen causal score logit
  refine if_congr Iff.rfl (dite_congr rfl (fun hs => Finset.sum_congr rfl fun d _ => ?_) fun _ => rfl) rfl
  rw [keys_block, queries_block]

theorem weight_eq (t : Fin cfg0.N) (h : Fin 2) (d : Fin 64) : weight (iblk m c 2 t) h d = column (vs m c) h d := by
  funext s
  unfold weight column
  exact dite_congr rfl (fun hs => values_block m c t _ _) fun _ => rfl

/-- What a grid point computes is the attention of its queries. -/
theorem attended_eq (t : Fin cfg0.N) (h : Fin 2) (e : Fin 4) (j : Fin 512) (d : Fin 64) :
    attended (grid0.coords t) (iblk m c 0 t) (iblk m c 1 t) (iblk m c 2 t) h e j d
      = attention (qs m c) (ks m c) (vs m c) h e (query (grid0.coords t) j) d := by
  have hq := tile_lt (grid0.coords t)
  rw [attention_eq _ _ _ _ _ _ _ (512 * (grid0.coords t 1).val + 512)
    (by show 512 * (grid0.coords t 1).val + j.val < _; omega) (by omega)]
  unfold attended
  rw [seen_eq, weight_eq]

/-- A grid point's block is its block of the attention. -/
theorem block_apply (t : Fin cfg0.N) (y : S512x512.Idx) (z : S16384x512.Idx)
    (h0 : (z 0).val = 512 * (grid0.coords t 1).val + (y 0).val) (h1 : (z 1).val = (y 1).val) :
    block (grid0.coords t) (iblk m c 0 t) (iblk m c 1 t) (iblk m c 2 t) y = attend (qs m c) (ks m c) (vs m c) z := by
  refine (attended_eq m c t _ _ _ _).trans ?_
  show _ = attention _ _ _ _ _ _ _
  congr 1
  · exact Fin.ext (by show (y 1).val / 256 = (z 1).val / 256; rw [h1])
  · exact Fin.ext (by show (y 1).val / 64 % 4 = (z 1).val / 64 % 4; rw [h1])
  · exact Fin.ext h0.symm
  · exact Fin.ext (by show (y 1).val % 64 = (z 1).val % 64; rw [h1])

theorem flushed_eq (t : Fin cfg0.N) (_ : (cfg0.win 3).flush t = true) :
    (dats m 0 c).flushed 3 t = ((cfg0.win 3).blk t).view.read (Elt Ideal) (attend (qs m c) (ks m c) (vs m c)) := by
  obtain ⟨-, -, -, h0, h1⟩ := places t
  rw [flushed, leaves, written_block]
  funext y
  rw [View.read_apply]
  have z0 : (((cfg0.win 3).blk t).view.emb y 0 : ℕ) = 512 * (grid0.coords t 1).val + (y 0).val := by
    blk_simp [h0]
    rw [Nat.mul_comm]
  have z1 : (((cfg0.win 3).blk t).view.emb y 1 : ℕ) = (y 1).val := by
    blk_simp [h1]
  rw [Pipeline.Window.cut_apply]
  refine (block_apply m c t ((cfg0.win 3).xinj (grid0.coords t) y) (((cfg0.win 3).blk t).view.emb y) z0 z1).trans ?_
  exact (cast_eq _ _).symm

/-- Every query block is some grid point's. -/
theorem points : ∀ q : Fin 32, ∃ t : Fin cfg0.N, (grid0.coords t 1).val = q.val :=
  (by decide +kernel : ∀ q : Fin 32, ∃ t : Fin grid0.N, (grid0.coords t 1).val = q.val)

theorem sizes : ∀ t : Fin cfg0.N, win0_3.xsize (grid0.coords t) 0 = 512 ∧ win0_3.xsize (grid0.coords t) 1 = 512 :=
  (by decide +kernel : ∀ t : Fin grid0.N, _)

theorem cover (i : S16384x512.Idx) : ∃ t : Fin cfg0.N, (cfg0.win 3).flush t = true ∧ i ∈ ((cfg0.win 3).blk t).view.set := by
  have b0 : (i 0).val < 16384 := (i 0).isLt
  have b1 : (i 1).val < 512 := (i 1).isLt
  obtain ⟨t, hq⟩ := points ⟨(i 0).val / 512, by omega⟩
  obtain ⟨-, -, -, h0, h1⟩ := places t
  obtain ⟨s0, s1⟩ := sizes t
  refine ⟨t, flush0_3 t, ?_⟩
  show i ∈ ((View.whole main_v1).slice (win0_3.rect t)).set
  rw [View.set_slice_whole, Rect.mem_set_unit]
  intro a
  match a with
  | ⟨0, _⟩ =>
    show win0_3.index t 0 * 512 ≤ (i 0).val ∧ (i 0).val < win0_3.index t 0 * 512 + win0_3.xsize (grid0.coords t) 0
    rw [h0, s0, hq]; dsimp only; omega
  | ⟨1, _⟩ =>
    show win0_3.index t 1 * 512 ≤ (i 1).val ∧ (i 1).val < win0_3.index t 1 * 512 + win0_3.xsize (grid0.coords t) 1
    rw [h1, s1]; omega

/-- The array after the run. -/
theorem result_array : (dats m 0 c).arrAt 3 cfg0.N = attend (qs m c) (ks m c) (vs m c) :=
  (dats m 0 c).arrAt_eq_of_cover 3 (attend (qs m c) (ks m c) (vs m c)) (flushed_eq m c) (cover)

end Cert.GroupedIdeal.Run

end
-- ==== Proof.GroupedReference.lean ====
/-
  The grouped reference, read at an index.
-/
module

public import proofs.«01_k».proof.Proof.GroupedGoal
public import proofs.«01_k».proof.Proof.Reference
public import proofs.«01_k».proof.Proof.Gen.GroupedReferenceIdeal.Run
public import proofs.«01_k».proof.Proof.Gen.GroupedReferenceIdeal.Read
public import Idealize.ShloMosaic.Lib.Pointwise
public import Idealize.ShloMosaic.Lib.WordCmp

@[expose] public section

set_option maxRecDepth 16384

noncomputable section

namespace Cert.GroupedReferenceIdeal.Attn

open Cert.GroupedReferenceIdeal Cert.GroupedReferenceIdeal.Gen Idealize.ShloMosaic Idealize.ShloMosaic.TcCoe Idealize.SL.Sem
open Cert.Softmax.Shared
open Cert.Softmax (softmax_eq coe_sum)
open Cert.ReferenceIdeal.Attn (log_two bot_word toInt_position same3 same2)

variable (m : (ℓ : Loc nD τ sig) → Buf (Elt Ideal) ℓ) (c : Dev nD)

/-- The queries, the keys and the values. -/
abbrev qs : Queries := m ((c : Thread nD τ).loc main_arg0)
abbrev ks : Keys := m ((c : Thread nD τ).loc main_arg1)
abbrev vs : Vals := m ((c : Thread nD τ).loc main_arg2)

/-- The product of a query and a key as the reference writes it. -/
def product (q : Queries) (k : Keys) (h : Fin 2) (e : Fin 4) (t s : Fin 16384) : EReal :=
  ∑ d : Fin 128, k (ix3 h s d) * q (ix2 t ⟨128 * (4 * h.val + e.val) + d.val, by omega⟩)

/-- A masked score as the reference writes it. -/
def written (q : Queries) (k : Keys) (h : Fin 2) (e : Fin 4) (t s : Fin 16384) : EReal :=
  Scalar.select (IntOp.cmpi CmpIPredicate.sle (BitVec.ofNat 32 s.val) (BitVec.ofNat 32 t.val))
    (product q k h e t s * Ideal.log (Ideal.ofBits .f32 0x40000000#32)) (Ideal.ofBits .f32 0xFF800000#32)

/-- It is the score, or `⊥`, times `log 2`. -/
theorem written_eq (q : Queries) (k : Keys) (h : Fin 2) (e : Fin 4) (t s : Fin 16384) :
    written q k h e t s = causal q k h e t s.val * (Real.log 2 : ℝ) := by
  have hl : 0 < Real.log 2 := Real.log_pos (by norm_num)
  unfold written causal logit
  rw [dif_pos s.isLt, WordCmp.cmpi_sle_eq, toInt_position, toInt_position, log_two, bot_word]
  by_cases hc : s.val ≤ t.val
  · rw [if_pos hc, show decide ((s.val : ℤ) ≤ (t.val : ℤ)) = true by simpa using hc]
    rfl
  · rw [if_neg hc, show decide ((s.val : ℤ) ≤ (t.val : ℤ)) = false by simpa using hc, EReal.bot_mul_coe_of_pos hl]
    rfl

/-- A score of finite queries and keys is finite. -/
theorem logit_coe (q : Queries) (k : Keys) (hq : ∀ i, q i ≠ ⊥ ∧ q i ≠ ⊤) (hk : ∀ i, k i ≠ ⊥ ∧ k i ≠ ⊤)
    (h : Fin 2) (e : Fin 4) (t : Fin 16384) (s : ℕ) (hs : s < 16384) : ∃ r : ℝ, logit q k h e t s = r := by
  have hc : ∀ x : EReal, x ≠ ⊥ ∧ x ≠ ⊤ → x = (x.toReal : EReal) := fun x hx => (EReal.coe_toReal hx.2 hx.1).symm
  refine ⟨∑ d : Fin 128, (k (ix3 h ⟨s, hs⟩ d)).toReal * (q (ix2 t ⟨128 * (4 * h.val + e.val) + d.val, by omega⟩)).toReal, ?_⟩
  rw [logit, dif_pos hs, ← coe_sum]
  refine Finset.sum_congr rfl fun d _ => ?_
  rw [EReal.coe_mul, ← hc _ (hk _), ← hc _ (hq _)]

/-- The largest masked score of a query, as the reference writes it. -/
def peak (q : Queries) (k : Keys) (h : Fin 2) (e : Fin 4) (t : Fin 16384) : EReal :=
  max (Ideal.ofBits .f32 0xFF800000#32) (Finset.univ.fold max (Ideal.ofBits .f32 0xFF800000#32) (written q k h e t))

/-- The values weighed by a softmax of the masked scores, as the reference writes them. -/
def softened (q : Queries) (k : Keys) (v : Vals) (h : Fin 2) (e : Fin 4) (t : Fin 16384) (d : Fin 64) : EReal :=
  ∑ s : Fin 16384, v (ix2 s ⟨64 * h.val + d.val, by omega⟩) * Ideal.div (Ideal.exp (written q k h e t s - peak q k h e t))
    (∑ r : Fin 16384, Ideal.exp (written q k h e t r - peak q k h e t))

theorem softened_eq (q : Queries) (k : Keys) (v : Vals) (hq : ∀ i, q i ≠ ⊥ ∧ q i ≠ ⊤) (hk : ∀ i, k i ≠ ⊥ ∧ k i ≠ ⊤)
    (h : Fin 2) (e : Fin 4) (t : Fin 16384) (d : Fin 64) : softened q k v h e t d = attention q k v h e t d := by
  have hs := softmax_eq (causal q k h e t) (column v h d) (n := 16384) (written q k h e t) (written_eq q k h e t) (s₀ := t.val)
    (fun s hs => by
      obtain ⟨r, hr⟩ := logit_coe q k hq hk h e t s hs
      unfold causal
      split
      · rw [hr]; exact EReal.coe_ne_top r
      · exact bot_ne_top) t.isLt
    (by
      obtain ⟨r, hr⟩ := logit_coe q k hq hk h e t t.val t.isLt
      rw [causal, if_pos le_rfl, hr]
      exact EReal.coe_ne_bot r)
  unfold attention
  rw [← hs]
  simp only [softened, peak, bot_word]
  refine Finset.sum_congr rfl fun s _ => ?_
  rw [column, dif_pos s.isLt]

section
open Read

variable (q : Queries) (k : Keys) (v : Vals)

/-- Two indices of rank four with equal coordinates. -/
theorem same4 {n₀ n₁ n₂ n₃ : ℕ} (f : (⟨4, ![n₀, n₁, n₂, n₃]⟩ : Shape).Idx) (x : Fin n₀) (y : Fin n₁) (z : Fin n₂) (w : Fin n₃)
    (h0 : (f 0).val = x.val) (h1 : (f 1).val = y.val) (h2 : (f 2).val = z.val) (h3 : (f 3).val = w.val) : f = ix4 x y z w :=
  funext fun i => Fin.ext (match i with | ⟨0, _⟩ => h0 | ⟨1, _⟩ => h1 | ⟨2, _⟩ => h2 | ⟨3, _⟩ => h3)

/-- The position grid's comparison. -/
theorem allowed_at (h : Fin 2) (e : Fin 4) (t s : Fin 16384) :
    val_main_call0_v1 (F := Ideal) (ix4 h e t s) = IntOp.cmpi CmpIPredicate.sle (BitVec.ofNat 32 s.val) (BitVec.ofNat 32 t.val) := by
  rw [val_main_call0_v1_apply, val_main_v15_apply, val_main_v13_apply, val_main_v14_apply, val_main_v11_apply, val_main_v12_apply]
  rfl

/-- The value masked scores take. -/
theorem absent_at (h : Fin 2) (e : Fin 4) (t s : Fin 16384) :
    val_main_call0_v2 (F := Ideal) (ix4 h e t s) = Ideal.ofBits .f32 0xFF800000#32 := by
  rw [val_main_call0_v2_apply]
  rfl

/-- The queries by head. -/
theorem query_at (t : Fin 16384) (h : Fin 2) (e : Fin 4) (d : Fin 128) :
    val_main_v2 (F := Ideal) q (ix4 t h e d) = q (ix2 t ⟨128 * (4 * h.val + e.val) + d.val, by omega⟩) := by
  rw [val_main_v2_apply, val_main_v1_apply]
  show q _ = q _
  refine congrArg q (funext fun a => Fin.ext ?_)
  match a with
  | ⟨0, _⟩ => show (((t.val * 2 + h.val) * 4 + e.val) * 128 + d.val) / 1024 = t.val; omega
  | ⟨1, _⟩ => show (((t.val * 2 + h.val) * 4 + e.val) * 128 + d.val) % 1024 = 128 * (4 * h.val + e.val) + d.val; omega

/-- The values by head. -/
theorem value_at (t : Fin 16384) (h : Fin 2) (d : Fin 64) :
    val_main_v4 (F := Ideal) v (ix3 t h d) = v (ix2 t ⟨64 * h.val + d.val, by omega⟩) := by
  rw [val_main_v4_apply, val_main_v3_apply]
  show v _ = v _
  refine congrArg v (funext fun a => Fin.ext ?_)
  match a with
  | ⟨0, _⟩ => show ((t.val * 2 + h.val) * 64 + d.val) / 128 = t.val; omega
  | ⟨1, _⟩ => show ((t.val * 2 + h.val) * 64 + d.val) % 128 = 64 * h.val + d.val; omega

/-- The product of a query and a key. -/
theorem product_at (h : Fin 2) (e : Fin 4) (t s : Fin 16384) : val_main_v7 (F := Ideal) q k (ix4 h e t s) = product q k h e t s := by
  rw [val_main_v7_apply, same4 (idx_main_v7 (ix4 h e t s)) h s t e rfl rfl rfl rfl, val_main_v6_apply]
  refine Finset.sum_congr rfl fun d _ => ?_
  rw [same3 (lidx_main_v6 (ix4 h s t e) d) h s d rfl rfl rfl, same4 (ridx_main_v6 (ix4 h s t e) d) t h e d rfl rfl rfl rfl, query_at,
    val_main_v5_apply]
  rfl

/-- The factor the scores carry. -/
theorem scale_at (h : Fin 2) (e : Fin 4) (t s : Fin 16384) :
    val_main_v9 (F := Ideal) (ix4 h e t s) = Ideal.log (Ideal.ofBits .f32 0x40000000#32) := by
  rw [val_main_v9_apply]
  rfl

/-- The masked scores. -/
theorem masked_at (h : Fin 2) (e : Fin 4) (t s : Fin 16384) : val_main_v16 (F := Ideal) q k (ix4 h e t s) = written q k h e t s := by
  rw [val_main_v16_apply, allowed_at, absent_at, val_main_v10_apply, product_at, scale_at]
  rfl

/-- Their largest. -/
theorem peak_at (h : Fin 2) (e : Fin 4) (t : Fin 16384) : val_main_v19 (F := Ideal) q k (ix3 h e t) = peak q k h e t := by
  have hm : val_main_v17 (F := Ideal) q k (ix3 h e t) = Finset.univ.fold max (Ideal.ofBits .f32 0xFF800000#32) (written q k h e t) := by
    unfold val_main_v17
    have hx : (fun s => val_main_v16 (F := Ideal) q k (ix4 h e t s)) = written q k h e t := funext fun s => masked_at q k h e t s
    revert hx
    generalize val_main_v16 (F := Ideal) q k = x
    intro hx
    change FVec Ideal S2x4x16384x16384 .f32 at x
    rw [Host.reduce_eq_fold_single FloatOps.maximumf x _ reducesTo_S2x4x16384x16384_S2x4x16384_d3
      (show S2x4x16384x16384.Reduces [3] S2x4x16384 by decide) h_S_, ← hx]
    refine congrArg (fun f => Finset.fold max (Ideal.ofBits .f32 0xFF800000#32) f (Finset.univ : Finset (Fin 16384))) (funext fun s => congrArg x ?_)
    exact same4 _ h e t s rfl rfl rfl rfl
  rw [val_main_v19_apply, val_main_v18_apply, hm]
  rfl

/-- The exponentials. -/
theorem power_at (h : Fin 2) (e : Fin 4) (t s : Fin 16384) :
    val_main_v23 (F := Ideal) q k (ix4 h e t s) = Ideal.exp (written q k h e t s - peak q k h e t) := by
  rw [val_main_v23_apply, val_main_v22_apply, masked_at, val_main_v21_apply, val_main_v20_apply,
    same3 (idx_main_v20 _) h e t rfl rfl rfl, peak_at]
  rfl

/-- Their sum. -/
theorem total_at (h : Fin 2) (e : Fin 4) (t : Fin 16384) :
    val_main_v24 (F := Ideal) q k (ix3 h e t) = ∑ r : Fin 16384, Ideal.exp (written q k h e t r - peak q k h e t) := by
  rw [val_main_v24_apply, show val_main_cst_3 (F := Ideal) (Shape.Idx.first h_S_) = 0 from Ideal.ofBits_zero .f32, zero_add]
  refine Finset.sum_congr rfl fun r _ => ?_
  rw [same4 (idx_main_v24 (ix3 h e t) r) h e t r rfl rfl rfl rfl, power_at]

/-- The weights. -/
theorem weight_at (h : Fin 2) (e : Fin 4) (t s : Fin 16384) :
    val_main_v27 (F := Ideal) q k (ix4 h e t s) = Ideal.div (Ideal.exp (written q k h e t s - peak q k h e t))
      (∑ r : Fin 16384, Ideal.exp (written q k h e t r - peak q k h e t)) := by
  rw [val_main_v27_apply, power_at, val_main_v26_apply, val_main_v25_apply, same3 (idx_main_v25 _) h e t rfl rfl rfl, total_at]
  rfl

/-- The weighed values. -/
theorem mixed_at (h : Fin 2) (d : Fin 64) (e : Fin 4) (t : Fin 16384) :
    val_main_v28 (F := Ideal) q k v (ix4 h d e t) = softened q k v h e t d := by
  rw [val_main_v28_apply]
  refine Finset.sum_congr rfl fun s _ => ?_
  rw [same3 (lidx_main_v28 (ix4 h d e t) s) s h d rfl rfl rfl, same4 (ridx_main_v28 (ix4 h d e t) s) h e t s rfl rfl rfl rfl,
    value_at, weight_at]

/-- The result. -/
theorem result_at (t : Fin 16384) (y : Fin 512) :
    val_main_v31 (F := Ideal) q k v (ix2 t y)
      = softened q k v ⟨y.val / 256, by omega⟩ ⟨y.val / 64 % 4, by omega⟩ t ⟨y.val % 64, by omega⟩ := by
  rw [val_main_v31_apply, val_main_v30_apply, val_main_v29_apply,
    same4 (idx_main_v29 (idx_main_v30 (ix2 t y))) (⟨y.val / 256, by omega⟩ : Fin 2) (⟨y.val % 64, by omega⟩ : Fin 64)
      (⟨y.val / 64 % 4, by omega⟩ : Fin 4) t
      (by show (t.val * 512 + y.val) / 256 % 2 = y.val / 256; omega) (by show (t.val * 512 + y.val) % 64 = y.val % 64; omega)
      (by show (t.val * 512 + y.val) / 64 % 4 = y.val / 64 % 4; omega)
      (by show (t.val * 512 + y.val) / 512 = t.val; omega), mixed_at]
  rfl

end

/-- The whole result. -/
theorem result_eq (hq : ∀ i, qs m c i ≠ ⊥ ∧ qs m c i ≠ ⊤) (hk : ∀ i, ks m c i ≠ ⊥ ∧ ks m c i ≠ ⊤) :
    Value.res_out0 (F := Ideal) m c = attend (qs m c) (ks m c) (vs m c) := by
  have key : ∀ y : S16384x512.Idx, (Value.res_main_v31 (F := Ideal) m c : FVec Ideal S16384x512 .bf16) y
      = attend (qs m c) (ks m c) (vs m c) y := fun y => by
    obtain ⟨t, e, rfl⟩ : ∃ (t : Fin 16384) (e : Fin 512), y = ix2 t e := ⟨y 0, y 1, eq_ix2 y⟩
    rw [Read.val_main_v31_eq]
    exact (result_at _ _ _ t e).trans (softened_eq _ _ _ hq hk _ _ t _)
  exact funext key

end Cert.GroupedReferenceIdeal.Attn

end
-- ==== Proof.GroupedFinite.lean ====
/-
  The precondition of the grouped attention read back: every query and every key is finite.
-/
module

public import proofs.«01_k».proof.Proof.GroupedGoal
public import proofs.«01_k».proof.Proof.Finite
public import proofs.«01_k».proof.Pre_finite_grouped
public import Idealize.ShloMosaic.Lib.ReduceAll
public import Idealize.ShloMosaic.Lib.Pointwise

@[expose] public section

noncomputable section

namespace Cert.Pre_finite_grouped

open Idealize.ShloMosaic Cert.Softmax.Shared
open Cert.Pre_finite (between)

/-- The side conditions of the precondition's operations. -/
theorem sound : Facts where
  bitsLt_bf16_f32 := by decide
  bcast_S_S16384x1024 := by decide
  reducesTo_S16384x1024_S_d0_1 := by decide
  h_S_ := by decide
  bcast_S_S2x16384x128 := by decide
  reducesTo_S2x16384x128_S_d0_1_2 := by decide

/-- The word `1` says that the queries and the keys are finite. -/
theorem finite_of [Facts] (q : Queries) (k : Keys) (v : Vals) (h : fn (F := Ideal) q k v = fun _ => 1#1) :
    (∀ i, q i ≠ ⊥ ∧ q i ≠ ⊤) ∧ ∀ i, k i ≠ ⊥ ∧ k i ≠ ⊤ := by
  have h0 := congrFun h (Shape.Idx.first Facts.h_S_)
  unfold fn at h0
  obtain ⟨a, b⟩ := IntOp.andi_eq_one.1 h0
  haveI : Subsingleton S_.Idx := ⟨fun x y => funext fun i => i.elim0⟩
  exact ⟨fun i => between _ (Host.reduce_andi_all _ _ _ _ _ a i), fun i => between _ (Host.reduce_andi_all _ _ _ _ _ b i)⟩

end Cert.Pre_finite_grouped

end
-- ==== Proof.Norm.lean ====
/-
  The last norm: the kernel leaves, and its reference computes, every row over the root of its mean square, scaled column by column.
-/
module

public import proofs.«01_k».proof.Proof.FfnReference
public import proofs.«01_k».proof.Proof.Gen.NormIdeal.Value
public import proofs.«01_k».proof.Proof.Gen.NormReferenceIdeal.Run
public import proofs.«01_k».proof.Proof.Gen.NormReferenceIdeal.Read
public import Idealize.ShloMosaic.Lib.Pipeline.ValueKit.Geometry

@[expose] public section

set_option maxRecDepth 16384

noncomputable section

namespace Cert.Gated

open Idealize.ShloMosaic Idealize.ShloMosaic.TcCoe

/-- The normed rows of an array. -/
def normedRows (x : FVec Ideal ⟨2, ![16384, 1024]⟩ .f32) (g : FVec Ideal ⟨1, ![1024]⟩ .f32) : FVec Ideal ⟨2, ![16384, 1024]⟩ .f32 :=
  fun i => normed (fun k => x (ix2 (i 0) k)) (fun k => g (ix1 k)) (i 1)

end Cert.Gated

namespace Cert.NormIdeal.Rows

open Cert.NormIdeal Cert.NormIdeal.Gen Idealize.ShloMosaic Idealize.ShloMosaic.TcCoe Idealize.SL.Sem Cert.Gated

theorem payload_apply (x : Vec Ideal S1024x1024 .f32) (g : Vec Ideal S1x1024 .f32) (r k : Fin 1024) :
    k0_pay1 x g (ix2 r k) = normed (fun a => x (ix2 r a)) (fun a => g (ix2 0 a)) k := by
  unfold k0_pay1 normed
  pointwise

variable (m : (ℓ : Loc nD τ sig) → Buf (Elt Ideal) ℓ) (c : Dev nD)

/-- The rows and their scales. -/
abbrev xs : FVec Ideal ⟨2, ![16384, 1024]⟩ .f32 := m ((c : Thread nD τ).loc main_arg0)
abbrev gs : FVec Ideal ⟨1, ![1024]⟩ .f32 := m ((c : Thread nD τ).loc main_arg1)

/-- The scales as one row, as the launch finds them. -/
theorem scales_laid (k : Fin 1024) : (V m c main_v0 : FVec Ideal S1x1024 .f32) (ix2 0 k) = gs m c (ix1 k) := by
  have h : (V m c main_v0 : FVec Ideal S1x1024 .f32) = shapeCast S1x1024 (gs m c) shapeCasts_S1024_S1x1024 := by
    unfold V
    after_results_simp
    rfl
  rw [h]
  pointwise

theorem places : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

theorem point_lt (t : Fin cfg0.N) : t.val < 16 := lt_of_lt_of_eq t.isLt (show cfg0.N = 16 from N_0)

/-- A row of the array from its tile. -/
abbrev place (t : Fin cfg0.N) (r : Fin 1024) : Fin 16384 := ⟨1024 * t.val + r.val, by have := point_lt t; omega⟩

/-- A tile's rows. -/
theorem rows_block (t : Fin cfg0.N) (r k : Fin 1024) :
    (iblk m c 0 t : Vec Ideal S1024x1024 .f32) (ix2 r k) = xs m c (ix2 (place t r) k) := by
  obtain ⟨⟨h0, h1⟩, -⟩ := places t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t 0 * 1024 + 1 * r.val = 1024 * t.val + r.val; rw [h0]; omega
  | ⟨1, _⟩ => show win0_0.index t 1 * 1024 + 1 * k.val = k.val; rw [h1]; omega

theorem scales_block (t : Fin cfg0.N) (k : Fin 1024) : (iblk m c 1 t : Vec Ideal S1x1024 .f32) (ix2 0 k) = gs m c (ix1 k) := by
  obtain ⟨-, ⟨h0, h1⟩, -⟩ := places t
  rw [← scales_laid]
  unfold iblk
  rw [View.read_apply]
  show V m c main_v0 _ = V m c main_v0 _
  refine congrArg (V m c main_v0) ?_
  funext a
  apply Fin.ext
  match a with
  | ⟨0, _⟩ => show win0_1.index t 0 * 1 + 1 * 0 = 0; rw [h0]
  | ⟨1, _⟩ => show win0_1.index t 1 * 1024 + 1 * k.val = k.val; rw [h1]; omega

theorem zeros2 : (![0, 0] : Fin 2 → ℕ) = fun _ => 0 := by
  funext a
  match a with
  | ⟨0, _⟩ => rfl
  | ⟨1, _⟩ => rfl

/-- What the body leaves in its output block. -/
theorem out_eq (x : Vec Ideal S1024x1024 .f32) (g : Vec Ideal S1x1024 .f32) : out0_2 x g = k0_pay1 x g := by
  unfold out0_2
  refine (View.canon_unit_zero zeros2 inb_S1024x1024_S1024x1024_0_0 _).trans ?_
  rw [show View.ld x r0_0 = x from View.ld_unit_zero zeros2 _ x, show View.ld g r0_1 = g from View.ld_unit_zero zeros2 _ g]

theorem flushed_rows (t : Fin cfg0.N) (_ : (cfg0.win 2).flush t = true) :
    (dats m 0 c).flushed 2 t = ((cfg0.win 2).blk t).view.read (Elt Ideal) (normedRows (xs m c) (gs m c)) := by
  obtain ⟨-, -, ⟨h0, h1⟩⟩ := places t
  rw [Value.flushed2, out_eq]
  have key : ∀ (y : S1024x1024.Idx) (z : S16384x1024.Idx), (z 0).val = 1024 * t.val + (y 0).val → (z 1).val = (y 1).val →
      k0_pay1 (iblk m c 0 t) (iblk m c 1 t) y = normedRows (xs m c) (gs m c) z := by
    intro y z e0 e1
    obtain ⟨r, e, rfl⟩ : ∃ (r e : Fin 1024), y = ix2 r e := ⟨y 0, y 1, eq_ix2 y⟩
    obtain ⟨r', e', rfl⟩ : ∃ (r' : Fin 16384) (e' : Fin 1024), z = ix2 r' e' := ⟨z 0, z 1, eq_ix2 z⟩
    obtain rfl : r' = place t r := Fin.ext e0
    obtain rfl : e' = e := Fin.ext e1
    refine (payload_apply _ _ r e').trans ?_
    show _ = normed (fun k => xs m c (ix2 (place t r) k)) (fun k => gs m c (ix1 k)) e'
    exact congrArg₂ (normed · · e') (funext fun k => rows_block m c t r k) (funext fun k => scales_block m c t k)
  funext y
  rw [View.read_apply]
  have z0 : (((cfg0.win 2).blk t).view.emb y 0 : ℕ) = 1024 * t.val + (y 0).val := by
    blk_simp [h0]
    rw [Nat.mul_comm]
  have z1 : (((cfg0.win 2).blk t).view.emb y 1 : ℕ) = (y 1).val := by
    blk_simp [h1]
  rw [Pipeline.Window.cut_apply]
  refine (key ((cfg0.win 2).xinj (grid0.coords t) y) (((cfg0.win 2).blk t).view.emb y) z0 z1).trans ?_
  exact (cast_eq _ _).symm

theorem flushes : ∀ t : Fin cfg0.N, (cfg0.win 2).flush t = true := (by decide +kernel : ∀ t : Fin grid0.N, win0_2.flush t = true)

/-- The indices of a tile's block. -/
theorem mem_block (t : Fin cfg0.N) (i : S16384x1024.Idx) : i ∈ ((cfg0.win 2).blk t).view.set
    ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- The array after the run. -/
theorem array_eq : (dats m 0 c).arrAt 2 cfg0.N = normedRows (xs m c) (gs m c) :=
  (dats m 0 c).arrAt_eq_of_cover 2 _ (flushed_rows m c) fun i => by
    have b0 : (i 0).val < 16384 := (i 0).isLt
    have b1 : (i 1).val < 1024 := (i 1).isLt
    have hn : (i 0).val / 1024 < cfg0.N := by rw [show cfg0.N = 16 from N_0]; omega
    obtain ⟨-, -, ⟨h0, h1⟩⟩ := places ⟨(i 0).val / 1024, hn⟩
    refine ⟨⟨(i 0).val / 1024, hn⟩, flushes _, ?_⟩
    rw [mem_block]
    intro a
    match a with
    | ⟨0, _⟩ =>
      show win0_2.index ⟨(i 0).val / 1024, hn⟩ 0 * 1024 ≤ (i 0).val ∧ (i 0).val < win0_2.index ⟨(i 0).val / 1024, hn⟩ 0 * 1024 + 1024
      rw [h0]
      show (i 0).val / 1024 * 1024 ≤ (i 0).val ∧ (i 0).val < (i 0).val / 1024 * 1024 + 1024
      omega
    | ⟨1, _⟩ =>
      show win0_2.index ⟨(i 0).val / 1024, hn⟩ 1 * 1024 ≤ (i 1).val ∧ (i 1).val < win0_2.index ⟨(i 0).val / 1024, hn⟩ 1 * 1024 + 1024
      rw [h1]
      omega

end Cert.NormIdeal.Rows

namespace Cert.NormReferenceIdeal.Rows

open Cert.NormReferenceIdeal Cert.NormReferenceIdeal.Gen Cert.NormReferenceIdeal.Read Idealize.ShloMosaic Idealize.ShloMosaic.TcCoe Idealize.SL.Sem Cert.Gated
open Cert.FfnReferenceIdeal.Conv (same1 same2)

variable (x : FVec Ideal ⟨2, ![16384, 1024]⟩ .f32) (g : FVec Ideal ⟨1, ![1024]⟩ .f32)

theorem squares_at (t : Fin 16384) : val_main_v1 (F := Ideal) x (ix1 t) = ∑ k : Fin 1024, x (ix2 t k) * x (ix2 t k) := by
  rw [val_main_v1_apply, show val_main_cst (F := Ideal) (Shape.Idx.first h_S_) = 0 from Ideal.ofBits_zero .f32, zero_add]
  refine Finset.sum_congr rfl fun k _ => ?_
  rw [same2 (idx_main_v1 (ix1 t) k) t k rfl rfl, val_main_v0_apply]
  rfl

/-- The reference's rows. -/
theorem rows_eq : val_main_v12 (F := Ideal) x g = normedRows x g := by
  funext i
  obtain ⟨t, k, rfl⟩ : ∃ (t : Fin 16384) (k : Fin 1024), i = ix2 t k := ⟨i 0, i 1, eq_ix2 i⟩
  rw [val_main_v12_apply, val_main_v9_apply, val_main_v11_apply, val_main_v10_apply, val_main_v8_apply, val_main_v7_apply, val_main_v6_apply,
    val_main_v4_apply, val_main_v2_apply, val_main_v3_apply, val_main_v5_apply, val_main_cst_0_apply, val_main_cst_1_apply,
    same1 (idx_main_v10 (idx_main_v11 (ix2 t k))) k rfl, same1 (idx_main_v2 (idx_main_v8 (ix2 t k))) t rfl, squares_at]
  show _ = normed (fun a => x (ix2 t a)) (fun a => g (ix1 a)) k
  rfl

end Cert.NormReferenceIdeal.Rows

end
-- ==== Proof.Joined.lean ====
/-
  The first output projection: the kernel adds to every row the products of two arrays with the two halves of a matrix, its reference that of the two side by side with the whole.
-/
module

public import proofs.«01_k».proof.Proof.Norm
public import proofs.«01_k».proof.Proof.Gen.JoinedIdeal.Value
public import proofs.«01_k».proof.Proof.Gen.JoinedReferenceIdeal.Run
public import proofs.«01_k».proof.Proof.Gen.JoinedReferenceIdeal.Read
public import Idealize.ShloMosaic.Lib.Pipeline.ValueKit.Geometry

@[expose] public section

set_option maxRecDepth 16384

noncomputable section

namespace Cert.Gated

open Idealize.ShloMosaic Idealize.ShloMosaic.TcCoe

/-- A row of the matrix's upper half, and of its lower one. -/
abbrev upper (k : Fin 512) : Fin 1024 := ⟨k.val, by omega⟩
abbrev lower (k : Fin 512) : Fin 1024 := ⟨512 + k.val, by omega⟩

/-- An array with the products of two others and the two halves of a matrix added. -/
def joined (x : FVec Ideal ⟨2, ![16384, 1024]⟩ .f32) (a b : FVec Ideal ⟨2, ![16384, 512]⟩ .bf16) (w : FVec Ideal ⟨2, ![1024, 1024]⟩ .f32) : FVec Ideal ⟨2, ![16384, 1024]⟩ .f32 :=
  fun i => x i + ((∑ k : Fin 512, a (ix2 (i 0) k) * w (ix2 (upper k) (i 1))) + ∑ k : Fin 512, b (ix2 (i 0) k) * w (ix2 (lower k) (i 1)))

/-- A sum over all rows of the matrix is one over each half. -/
theorem sum_halves (f : Fin 1024 → EReal) : ∑ k, f k = (∑ k : Fin 512, f (upper k)) + ∑ k : Fin 512, f (lower k) :=
  Fin.sum_univ_add (a := 512) (b := 512) f

end Cert.Gated

namespace Cert.JoinedIdeal.Rows

open Cert.JoinedIdeal Cert.JoinedIdeal.Gen Idealize.ShloMosaic Idealize.ShloMosaic.TcCoe Idealize.SL.Sem Cert.Gated
open Cert.NormIdeal.Rows (zeros2)

theorem payload_apply (x : Vec Ideal S512x1024 .f32) (a : Vec Ideal S512x512 .bf16) (u : Vec Ideal S512x1024 .bf16) (b : Vec Ideal S512x512 .bf16)
    (l : Vec Ideal S512x1024 .bf16) (r : Fin 512) (j : Fin 1024) :
    k0_pay1 x a u b l (ix2 r j) = x (ix2 r j) + ((∑ k : Fin 512, a (ix2 r k) * u (ix2 k j)) + ∑ k : Fin 512, b (ix2 r k) * l (ix2 k j)) := by
  unfold k0_pay1
  rw [← add_assoc]
  pointwise

variable (m : (ℓ : Loc nD τ sig) → Buf (Elt Ideal) ℓ) (c : Dev nD)

/-- The rows, the two arrays that are multiplied and the matrix. -/
abbrev xs : FVec Ideal ⟨2, ![16384, 1024]⟩ .f32 := m ((c : Thread nD τ).loc main_arg0)
abbrev firsts : FVec Ideal ⟨2, ![16384, 512]⟩ .bf16 := m ((c : Thread nD τ).loc main_arg1)
abbrev seconds : FVec Ideal ⟨2, ![16384, 512]⟩ .bf16 := m ((c : Thread nD τ).loc main_arg2)
abbrev ws : FVec Ideal ⟨2, ![1024, 1024]⟩ .f32 := m ((c : Thread nD τ).loc main_arg3)

/-- The upper half of the matrix as the launch finds it. -/
theorem upper_laid (k : Fin 512) (j : Fin 1024) : (V m c main_v1 : FVec Ideal S512x1024 .bf16) (ix2 k j) = ws m c (ix2 (upper k) j) := by
  have h : (V m c main_v1 : FVec Ideal S512x1024 .bf16)
      = extractStridedSlice S512x1024 ![0, 0] (truncf .bf16 (ws m c) bitsLt_bf16_f32) slices_S1024x1024_S512x1024_0_0 := by
    unfold V
    after_results_simp
  rw [h]
  pointwise

/-- The lower half of the matrix as the launch finds it. -/
theorem lower_laid (k : Fin 512) (j : Fin 1024) : (V m c main_v2 : FVec Ideal S512x1024 .bf16) (ix2 k j) = ws m c (ix2 (lower k) j) := by
  have h : (V m c main_v2 : FVec Ideal S512x1024 .bf16)
      = extractStridedSlice S512x1024 ![512, 0] (truncf .bf16 (ws m c) bitsLt_bf16_f32) slices_S1024x1024_S512x1024_512_0 := by
    unfold V
    after_results_simp
  rw [h]
  pointwise

theorem places : ∀ t : Fin cfg0.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0) :=
  (by decide +kernel : ∀ t : Fin grid0.N, _)

theorem point_lt (t : Fin cfg0.N) : t.val < 32 := lt_of_lt_of_eq t.isLt (show cfg0.N = 32 from N_0)

/-- A row of the array from its tile. -/
abbrev place (t : Fin cfg0.N) (r : Fin 512) : Fin 16384 := ⟨512 * t.val + r.val, by have := point_lt t; omega⟩

/-- A tile's rows. -/
theorem rows_block (t : Fin cfg0.N) (r : Fin 512) (k : Fin 1024) :
    (iblk m c 0 t : Vec Ideal S512x1024 .f32) (ix2 r k) = xs m c (ix2 (place t r) k) := by
  obtain ⟨⟨h0, h1⟩, -⟩ := places t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t 0 * 512 + 1 * r.val = 512 * t.val + r.val; rw [h0]; omega
  | ⟨1, _⟩ => show win0_0.index t 1 * 1024 + 1 * k.val = k.val; rw [h1]; omega

/-- A tile's rows of the first array. -/
theorem firsts_block (t : Fin cfg0.N) (r : Fin 512) (k : Fin 512) :
    (iblk m c 1 t : Vec Ideal S512x512 .bf16) (ix2 r k) = firsts m c (ix2 (place t r) k) := by
  obtain ⟨-, ⟨h0, h1⟩, -⟩ := places t
  unfold iblk
  rw [View.read_apply]
  show V m c main_arg1 _ = _
  rw [V_main_arg1]
  refine congrArg (m ((c : Thread nD τ).loc main_arg1)) ?_
  funext a
  apply Fin.ext
  match a with
  | ⟨0, _⟩ => show win0_1.index t 0 * 512 + 1 * r.val = 512 * t.val + r.val; rw [h0]; omega
  | ⟨1, _⟩ => show win0_1.index t 1 * 512 + 1 * k.val = k.val; rw [h1]; omega

/-- A tile's rows of the second array. -/
theorem seconds_block (t : Fin cfg0.N) (r : Fin 512) (k : Fin 512) :
    (iblk m c 2 t : Vec Ideal S512x512 .bf16) (ix2 r k) = seconds m c (ix2 (place t r) k) := by
  obtain ⟨-, -, ⟨h0, h1⟩, -⟩ := places t
  unfold iblk
  rw [View.read_apply]
  show V m c main_arg2 _ = _
  rw [V_main_arg2]
  refine congrArg (m ((c : Thread nD τ).loc main_arg2)) ?_
  funext a
  apply Fin.ext
  match a with
  | ⟨0, _⟩ => show win0_2.index t 0 * 512 + 1 * r.val = 512 * t.val + r.val; rw [h0]; omega
  | ⟨1, _⟩ => show win0_2.index t 1 * 512 + 1 * k.val = k.val; rw [h1]; omega

/-- Every tile has the whole upper half. -/
theorem upper_block (t : Fin cfg0.N) (k : Fin 512) (j : Fin 1024) :
    (iblk m c 3 t : Vec Ideal S512x1024 .bf16) (ix2 k j) = ws m c (ix2 (upper k) j) := by
  obtain ⟨-, -, -, ⟨h0, h1⟩, -⟩ := places t
  rw [← upper_laid]
  unfold iblk
  rw [View.read_apply]
  show V m c main_v1 _ = V m c main_v1 _
  refine congrArg (V m c main_v1) ?_
  funext a
  apply Fin.ext
  match a with
  | ⟨0, _⟩ => show win0_3.index t 0 * 512 + 1 * k.val = k.val; rw [h0]; omega
  | ⟨1, _⟩ => show win0_3.index t 1 * 1024 + 1 * j.val = j.val; rw [h1]; omega

/-- Every tile has the whole lower half. -/
theorem lower_block (t : Fin cfg0.N) (k : Fin 512) (j : Fin 1024) :
    (iblk m c 4 t : Vec Ideal S512x1024 .bf16) (ix2 k j) = ws m c (ix2 (lower k) j) := by
  obtain ⟨-, -, -, -, ⟨h0, h1⟩, -⟩ := places t
  rw [← lower_laid]
  unfold iblk
  rw [View.read_apply]
  show V m c main_v2 _ = V m c main_v2 _
  refine congrArg (V m c main_v2) ?_
  funext a
  apply Fin.ext
  match a with
  | ⟨0, _⟩ => show win0_4.index t 0 * 512 + 1 * k.val = k.val; rw [h0]; omega
  | ⟨1, _⟩ => show win0_4.index t 1 * 1024 + 1 * j.val = j.val; rw [h1]; omega

/-- What the body leaves in its output block. -/
theorem out_eq (x : Vec Ideal S512x1024 .f32) (a b : Vec Ideal S512x512 .bf16) (u l : Vec Ideal S512x1024 .bf16) : out0_5 x a b u l = k0_pay1 x a u b l := by
  unfold out0_5
  refine (View.canon_unit_zero zeros2 inb_S512x1024_S512x1024_0_0 _).trans ?_
  simp only [show View.ld x r0_0 = x from View.ld_unit_zero zeros2 _ x, show View.ld a r0_1 = a from View.ld_unit_zero zeros2 _ a,
    show View.ld b r0_1 = b from View.ld_unit_zero zeros2 _ b, show View.ld u r0_0 = u from View.ld_unit_zero zeros2 _ u,
    show View.ld l r0_0 = l from View.ld_unit_zero zeros2 _ l]

theorem flushed_rows (t : Fin cfg0.N) (_ : (cfg0.win 5).flush t = true) :
    (dats m 0 c).flushed 5 t = ((cfg0.win 5).blk t).view.read (Elt Ideal) (joined (xs m c) (firsts m c) (seconds m c) (ws m c)) := by
  obtain ⟨-, -, -, -, -, ⟨h0, h1⟩⟩ := places t
  rw [Value.flushed5, out_eq]
  have key : ∀ (y : S512x1024.Idx) (z : S16384x1024.Idx), (z 0).val = 512 * t.val + (y 0).val → (z 1).val = (y 1).val →
      k0_pay1 (iblk m c 0 t) (iblk m c 1 t) (iblk m c 3 t) (iblk m c 2 t) (iblk m c 4 t) y = joined (xs m c) (firsts m c) (seconds m c) (ws m c) z := by
    intro y z e0 e1
    obtain ⟨r, e, rfl⟩ : ∃ (r : Fin 512) (e : Fin 1024), y = ix2 r e := ⟨y 0, y 1, eq_ix2 y⟩
    obtain ⟨r', e', rfl⟩ : ∃ (r' : Fin 16384) (e' : Fin 1024), z = ix2 r' e' := ⟨z 0, z 1, eq_ix2 z⟩
    obtain rfl : r' = place t r := Fin.ext e0
    obtain rfl : e' = e := Fin.ext e1
    refine (payload_apply _ _ _ _ _ r e').trans ?_
    exact congrArg₂ (· + ·) (rows_block m c t r e') (congrArg₂ (· + ·)
      (Finset.sum_congr rfl fun k _ => congrArg₂ (· * ·) (firsts_block m c t r k) (upper_block m c t k e'))
      (Finset.sum_congr rfl fun k _ => congrArg₂ (· * ·) (seconds_block m c t r k) (lower_block m c t k e')))
  funext y
  rw [View.read_apply]
  have z0 : (((cfg0.win 5).blk t).view.emb y 0 : ℕ) = 512 * t.val + (y 0).val := by
    blk_simp [h0]
    rw [Nat.mul_comm]
  have z1 : (((cfg0.win 5).blk t).view.emb y 1 : ℕ) = (y 1).val := by
    blk_simp [h1]
  rw [Pipeline.Window.cut_apply]
  refine (key ((cfg0.win 5).xinj (grid0.coords t) y) (((cfg0.win 5).blk t).view.emb y) z0 z1).trans ?_
  exact (cast_eq _ _).symm

theorem flushes : ∀ t : Fin cfg0.N, (cfg0.win 5).flush t = true := (by decide +kernel : ∀ t : Fin grid0.N, win0_5.flush t = true)

/-- The indices of a tile's block. -/
theorem mem_block (t : Fin cfg0.N) (i : S16384x1024.Idx) : i ∈ ((cfg0.win 5).blk t).view.set
    ↔ ∀ a : Fin 2, win0_5.index t a * S512x1024.size a ≤ (i a).val ∧ (i a).val < win0_5.index t a * S512x1024.size a + S512x1024.size a := by
  show i ∈ ((View.whole main_v3).slice (win0_5.rect t)).set ↔ _
  rw [View.set_slice_whole, Rect.mem_set_unit]
  exact Iff.rfl

/-- The array after the run. -/
theorem array_eq : (dats m 0 c).arrAt 5 cfg0.N = joined (xs m c) (firsts m c) (seconds m c) (ws m c) :=
  (dats m 0 c).arrAt_eq_of_cover 5 _ (flushed_rows m c) fun i => by
    have b0 : (i 0).val < 16384 := (i 0).isLt
    have b1 : (i 1).val < 1024 := (i 1).isLt
    have hn : (i 0).val / 512 < cfg0.N := by rw [show cfg0.N = 32 from N_0]; omega
    obtain ⟨-, -, -, -, -, ⟨h0, h1⟩⟩ := places ⟨(i 0).val / 512, hn⟩
    refine ⟨⟨(i 0).val / 512, hn⟩, flushes _, ?_⟩
    rw [mem_block]
    intro a
    match a with
    | ⟨0, _⟩ =>
      show win0_5.index ⟨(i 0).val / 512, hn⟩ 0 * 512 ≤ (i 0).val ∧ (i 0).val < win0_5.index ⟨(i 0).val / 512, hn⟩ 0 * 512 + 512
      rw [h0]
      show (i 0).val / 512 * 512 ≤ (i 0).val ∧ (i 0).val < (i 0).val / 512 * 512 + 512
      omega
    | ⟨1, _⟩ =>
      show win0_5.index ⟨(i 0).val / 512, hn⟩ 1 * 1024 ≤ (i 1).val ∧ (i 1).val < win0_5.index ⟨(i 0).val / 512, hn⟩ 1 * 1024 + 1024
      rw [h1]
      omega

end Cert.JoinedIdeal.Rows

namespace Cert.JoinedReferenceIdeal.Rows

open Cert.JoinedReferenceIdeal Cert.JoinedReferenceIdeal.Gen Cert.JoinedReferenceIdeal.Read Idealize.ShloMosaic Idealize.ShloMosaic.TcCoe Idealize.SL.Sem Cert.Gated
open Cert.FfnReferenceIdeal.Conv (same2)

variable (x : FVec Ideal ⟨2, ![16384, 1024]⟩ .f32) (a b : FVec Ideal ⟨2, ![16384, 512]⟩ .bf16) (w : FVec Ideal ⟨2, ![1024, 1024]⟩ .f32)

/-- The two arrays side by side: the first in the columns before 512, the second in the others. -/
theorem side_first (t : Fin 16384) (k : Fin 512) : val_main_v0 (F := Ideal) a b (ix2 t (upper k)) = a (ix2 t k) := by
  unfold val_main_v0
  refine concatenate_pair_apply_left (s₁ := S16384x512) (s₂ := S16384x512) (t := S16384x1024) 1 _ _ concatenates_S16384x512_S16384x512_S16384x1024_d1 (ix2 t (upper k)) rfl (ix2 t k) (fun d => ?_)
  match d with
  | ⟨0, _⟩ => rfl
  | ⟨1, _⟩ => rfl

theorem side_second (t : Fin 16384) (k : Fin 512) : val_main_v0 (F := Ideal) a b (ix2 t (lower k)) = b (ix2 t k) := by
  unfold val_main_v0
  refine concatenate_pair_apply_right (s₁ := S16384x512) (s₂ := S16384x512) (t := S16384x1024) 1 _ _ concatenates_S16384x512_S16384x512_S16384x1024_d1 (ix2 t (lower k)) rfl rfl (ix2 t k) (fun d hd => ?_) ?_
  · match d with
    | ⟨0, _⟩ => rfl
    | ⟨1, _⟩ => exact absurd rfl hd
  · show k.val + 512 = 512 + k.val
    omega

theorem wide_at (t : Fin 16384) (j : Fin 1024) (k : Fin 1024) :
    val_main_v1 (F := Ideal) a b (lidx_main_v2 (ix2 t j) k) * w (ridx_main_v2 (ix2 t j) k) = val_main_v0 (F := Ideal) a b (ix2 t k) * w (ix2 k j) := by
  rw [same2 (lidx_main_v2 (ix2 t j) k) t k rfl rfl, same2 (ridx_main_v2 (ix2 t j) k) k j rfl rfl]
  rfl

/-- The reference's rows. -/
theorem rows_eq : val_main_v3 (F := Ideal) x a b w = joined x a b w := by
  funext i
  obtain ⟨t, j, rfl⟩ : ∃ (t : Fin 16384) (j : Fin 1024), i = ix2 t j := ⟨i 0, i 1, eq_ix2 i⟩
  rw [val_main_v3_apply, val_main_v2_apply, sum_halves]
  refine congrArg (x (ix2 t j) + ·) (congrArg₂ (· + ·) (Finset.sum_congr rfl fun k _ => ?_) (Finset.sum_congr rfl fun k _ => ?_))
  · rw [wide_at, side_first]
    rfl
  · rw [wide_at, side_second]
    rfl

end Cert.JoinedReferenceIdeal.Rows

end
-- ==== Proof.Added.lean ====
/-
  The second output projection: the kernel and its reference add to every row its product with a matrix.
-/
module

public import proofs.«01_k».proof.Proof.Norm
public import proofs.«01_k».proof.Proof.Gen.AddedIdeal.Value
public import proofs.«01_k».proof.Proof.Gen.AddedReferenceIdeal.Run
public import proofs.«01_k».proof.Proof.Gen.AddedReferenceIdeal.Read
public import Idealize.ShloMosaic.Lib.Pipeline.ValueKit.Geometry

@[expose] public section

set_option maxRecDepth 16384

noncomputable section

namespace Cert.Gated

open Idealize.ShloMosaic Idealize.ShloMosaic.TcCoe

/-- An array with the product of another and a matrix added. -/
def added (x : FVec Ideal ⟨2, ![16384, 1024]⟩ .f32) (a : FVec Ideal ⟨2, ![16384, 1024]⟩ .bf16) (w : FVec Ideal ⟨2, ![1024, 1024]⟩ .f32) : FVec Ideal ⟨2, ![16384, 1024]⟩ .f32 :=
  fun i => x i + ∑ k : Fin 1024, a (ix2 (i 0) k) * w (ix2 k (i 1))

end Cert.Gated

namespace Cert.AddedIdeal.Rows

open Cert.AddedIdeal Cert.AddedIdeal.Gen Idealize.ShloMosaic Idealize.ShloMosaic.TcCoe Idealize.SL.Sem Cert.Gated
open Cert.NormIdeal.Rows (zeros2)

theorem payload_apply (x : Vec Ideal S512x1024 .f32) (a : Vec Ideal S512x1024 .bf16) (w : Vec Ideal S1024x1024 .bf16) (r : Fin 512) (j : Fin 1024) :
    k0_pay1 x a w (ix2 r j) = x (ix2 r j) + ∑ k : Fin 1024, a (ix2 r k) * w (ix2 k j) := by
  unfold k0_pay1
  pointwise

variable (m : (ℓ : Loc nD τ sig) → Buf (Elt Ideal) ℓ) (c : Dev nD)

/-- The rows, what is multiplied and the matrix. -/
abbrev xs : FVec Ideal ⟨2, ![16384, 1024]⟩ .f32 := m ((c : Thread nD τ).loc main_arg0)
abbrev acts : FVec Ideal ⟨2, ![16384, 1024]⟩ .bf16 := m ((c : Thread nD τ).loc main_arg1)
abbrev ws : FVec Ideal ⟨2, ![1024, 1024]⟩ .f32 := m ((c : Thread nD τ).loc main_arg2)

/-- The matrix as the launch finds it. -/
theorem weights_laid (k j : Fin 1024) : (V m c main_v0 : FVec Ideal S1024x1024 .bf16) (ix2 k j) = ws m c (ix2 k j) := by
  have h : (V m c main_v0 : FVec Ideal S1024x1024 .bf16) = truncf .bf16 (ws m c) bitsLt_bf16_f32 := by
    unfold V
    after_results_simp
  rw [h]
  rfl

theorem places : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0) :=
  (by decide +kernel : ∀ t : Fin grid0.N, _)

theorem point_lt (t : Fin cfg0.N) : t.val < 32 := lt_of_lt_of_eq t.isLt (show cfg0.N = 32 from N_0)

/-- A row of the array from its tile. -/
abbrev place (t : Fin cfg0.N) (r : Fin 512) : Fin 16384 := ⟨512 * t.val + r.val, by have := point_lt t; omega⟩

/-- A tile's rows. -/
theorem rows_block (t : Fin cfg0.N) (r : Fin 512) (k : Fin 1024) :
    (iblk m c 0 t : Vec Ideal S512x1024 .f32) (ix2 r k) = xs m c (ix2 (place t r) k) := by
  obtain ⟨⟨h0, h1⟩, -⟩ := places t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t 0 * 512 + 1 * r.val = 512 * t.val + r.val; rw [h0]; omega
  | ⟨1, _⟩ => show win0_0.index t 1 * 1024 + 1 * k.val = k.val; rw [h1]; omega

/-- A tile's rows of what is multiplied. -/
theorem acts_block (t : Fin cfg0.N) (r : Fin 512) (k : Fin 1024) :
    (iblk m c 1 t : Vec Ideal S512x1024 .bf16) (ix2 r k) = acts m c (ix2 (place t r) k) := by
  obtain ⟨-, ⟨h0, h1⟩, -⟩ := places t
  unfold iblk
  rw [View.read_apply]
  show V m c main_arg1 _ = _
  rw [V_main_arg1]
  refine congrArg (m ((c : Thread nD τ).loc main_arg1)) ?_
  funext a
  apply Fin.ext
  match a with
  | ⟨0, _⟩ => show win0_1.index t 0 * 512 + 1 * r.val = 512 * t.val + r.val; rw [h0]; omega
  | ⟨1, _⟩ => show win0_1.index t 1 * 1024 + 1 * k.val = k.val; rw [h1]; omega

/-- Every tile has the whole matrix. -/
theorem weights_block (t : Fin cfg0.N) (k : Fin 1024) (j : Fin 1024) :
    (iblk m c 2 t : Vec Ideal S1024x1024 .bf16) (ix2 k j) = ws m c (ix2 k j) := by
  obtain ⟨-, -, ⟨h0, h1⟩, -⟩ := places t
  rw [← weights_laid]
  unfold iblk
  rw [View.read_apply]
  show V m c main_v0 _ = V m c main_v0 _
  refine congrArg (V m c main_v0) ?_
  funext a
  apply Fin.ext
  match a with
  | ⟨0, _⟩ => show win0_2.index t 0 * 1024 + 1 * k.val = k.val; rw [h0]; omega
  | ⟨1, _⟩ => show win0_2.index t 1 * 1024 + 1 * j.val = j.val; rw [h1]; omega

/-- What the body leaves in its output block. -/
theorem out_eq (x : Vec Ideal S512x1024 .f32) (a : Vec Ideal S512x1024 .bf16) (w : Vec Ideal S1024x1024 .bf16) : out0_3 x a w = k0_pay1 x a w := by
  unfold out0_3
  refine (View.canon_unit_zero zeros2 inb_S512x1024_S512x1024_0_0 _).trans ?_
  simp only [show View.ld x r0_0 = x from View.ld_unit_zero zeros2 _ x, show View.ld a r0_0 = a from View.ld_unit_zero zeros2 _ a,
    show View.ld w r0_1 = w from View.ld_unit_zero zeros2 _ w]

theorem flushed_rows (t : Fin cfg0.N) (_ : (cfg0.win 3).flush t = true) :
    (dats m 0 c).flushed 3 t = ((cfg0.win 3).blk t).view.read (Elt Ideal) (added (xs m c) (acts m c) (ws m c)) := by
  obtain ⟨-, -, -, ⟨h0, h1⟩⟩ := places t
  rw [Value.flushed3, out_eq]
  have key : ∀ (y : S512x1024.Idx) (z : S16384x1024.Idx), (z 0).val = 512 * t.val + (y 0).val → (z 1).val = (y 1).val →
      k0_pay1 (iblk m c 0 t) (iblk m c 1 t) (iblk m c 2 t) y = added (xs m c) (acts m c) (ws m c) z := by
    intro y z e0 e1
    obtain ⟨r, e, rfl⟩ : ∃ (r : Fin 512) (e : Fin 1024), y = ix2 r e := ⟨y 0, y 1, eq_ix2 y⟩
    obtain ⟨r', e', rfl⟩ : ∃ (r' : Fin 16384) (e' : Fin 1024), z = ix2 r' e' := ⟨z 0, z 1, eq_ix2 z⟩
    obtain rfl : r' = place t r := Fin.ext e0
    obtain rfl : e' = e := Fin.ext e1
    refine (payload_apply _ _ _  r e').trans ?_
    exact congrArg₂ (· + ·) (rows_block m c t r e') (Finset.sum_congr rfl fun k _ => congrArg₂ (· * ·) (acts_block m c t r k) (weights_block m c t k e'))
  funext y
  rw [View.read_apply]
  have z0 : (((cfg0.win 3).blk t).view.emb y 0 : ℕ) = 512 * t.val + (y 0).val := by
    blk_simp [h0]
    rw [Nat.mul_comm]
  have z1 : (((cfg0.win 3).blk t).view.emb y 1 : ℕ) = (y 1).val := by
    blk_simp [h1]
  rw [Pipeline.Window.cut_apply]
  refine (key ((cfg0.win 3).xinj (grid0.coords t) y) (((cfg0.win 3).blk t).view.emb y) z0 z1).trans ?_
  exact (cast_eq _ _).symm

theorem flushes : ∀ t : Fin cfg0.N, (cfg0.win 3).flush t = true := (by decide +kernel : ∀ t : Fin grid0.N, win0_3.flush t = true)

/-- The indices of a tile's block. -/
theorem mem_block (t : Fin cfg0.N) (i : S16384x1024.Idx) : i ∈ ((cfg0.win 3).blk t).view.set
    ↔ ∀ a : Fin 2, win0_3.index t a * S512x1024.size a ≤ (i a).val ∧ (i a).val < win0_3.index t a * S512x1024.size a + S512x1024.size a := by
  show i ∈ ((View.whole main_v1).slice (win0_3.rect t)).set ↔ _
  rw [View.set_slice_whole, Rect.mem_set_unit]
  exact Iff.rfl

/-- The array after the run. -/
theorem array_eq : (dats m 0 c).arrAt 3 cfg0.N = added (xs m c) (acts m c) (ws m c) :=
  (dats m 0 c).arrAt_eq_of_cover 3 _ (flushed_rows m c) fun i => by
    have b0 : (i 0).val < 16384 := (i 0).isLt
    have b1 : (i 1).val < 1024 := (i 1).isLt
    have hn : (i 0).val / 512 < cfg0.N := by rw [show cfg0.N = 32 from N_0]; omega
    obtain ⟨-, -, -, ⟨h0, h1⟩⟩ := places ⟨(i 0).val / 512, hn⟩
    refine ⟨⟨(i 0).val / 512, hn⟩, flushes _, ?_⟩
    rw [mem_block]
    intro a
    match a with
    | ⟨0, _⟩ =>
      show win0_3.index ⟨(i 0).val / 512, hn⟩ 0 * 512 ≤ (i 0).val ∧ (i 0).val < win0_3.index ⟨(i 0).val / 512, hn⟩ 0 * 512 + 512
      rw [h0]
      show (i 0).val / 512 * 512 ≤ (i 0).val ∧ (i 0).val < (i 0).val / 512 * 512 + 512
      omega
    | ⟨1, _⟩ =>
      show win0_3.index ⟨(i 0).val / 512, hn⟩ 1 * 1024 ≤ (i 1).val ∧ (i 1).val < win0_3.index ⟨(i 0).val / 512, hn⟩ 1 * 1024 + 1024
      rw [h1]
      omega

end Cert.AddedIdeal.Rows

namespace Cert.AddedReferenceIdeal.Rows

open Cert.AddedReferenceIdeal Cert.AddedReferenceIdeal.Gen Cert.AddedReferenceIdeal.Read Idealize.ShloMosaic Idealize.ShloMosaic.TcCoe Idealize.SL.Sem Cert.Gated
open Cert.FfnReferenceIdeal.Conv (same2)

/-- The reference's rows. -/
theorem rows_eq (x : FVec Ideal ⟨2, ![16384, 1024]⟩ .f32) (a : FVec Ideal ⟨2, ![16384, 1024]⟩ .bf16) (w : FVec Ideal ⟨2, ![1024, 1024]⟩ .f32) :
    val_main_v2 (F := Ideal) x a w = added x a w := by
  funext i
  obtain ⟨t, j, rfl⟩ : ∃ (t : Fin 16384) (j : Fin 1024), i = ix2 t j := ⟨i 0, i 1, eq_ix2 i⟩
  rw [val_main_v2_apply, val_main_v1_apply]
  refine congrArg (x (ix2 t j) + ·) (Finset.sum_congr rfl fun k _ => ?_)
  rw [same2 (lidx_main_v1 (ix2 t j) k) t k rfl rfl, same2 (ridx_main_v1 (ix2 t j) k) k j rfl rfl]
  rfl

end Cert.AddedReferenceIdeal.Rows

end
-- ==== Proof.Latent.lean ====
/-
  The latent rows: the kernel leaves, and its reference computes, the normed projections of the normed rows, and their products with the heads' value weights.
-/
module

public import proofs.«01_k».proof.Proof.Norm
public import proofs.«01_k».proof.Proof.Gen.LatentIdeal.Value
public import proofs.«01_k».proof.Proof.Gen.LatentReferenceIdeal.Run
public import proofs.«01_k».proof.Proof.Gen.LatentReferenceIdeal.Read
public import Idealize.ShloMosaic.Lib.Pipeline.ValueKit.Geometry

@[expose] public section

set_option maxRecDepth 16384

noncomputable section

namespace Cert.Gated

open Idealize.ShloMosaic Idealize.ShloMosaic.TcCoe

/-- A column of the latent part among those of the weights, and among those with zeros after them. -/
abbrev kept (j : Fin 256) : Fin 288 := ⟨j.val, by omega⟩
abbrev keptPad (j : Fin 256) : Fin 384 := ⟨j.val, by omega⟩

/-- A short row over the root of its mean square, scaled column by column. -/
def normedShort (v s : Fin 256 → EReal) (j : Fin 256) : EReal :=
  v j * Ideal.rsqrt (Ideal.div (∑ a : Fin 256, v a * v a) (Ideal.ofBits .f32 0x43800000#32) + Ideal.ofBits .f32 0x358637BD#32) * s j

/-- The latent rows of an array. -/
def latents (x : FVec Ideal ⟨2, ![16384, 1024]⟩ .f32) (g : FVec Ideal ⟨1, ![1024]⟩ .f32) (w : FVec Ideal ⟨2, ![1024, 288]⟩ .f32)
    (s : FVec Ideal ⟨1, ![256]⟩ .f32) : FVec Ideal ⟨2, ![16384, 256]⟩ .f32 :=
  fun i => normedShort (fun j => ∑ k : Fin 1024, normedRows x g (ix2 (i 0) k) * w (ix2 k (kept j))) (fun j => s (ix1 j)) (i 1)

/-- A column's head and its place in it. -/
abbrev headOf (e : Fin 1024) : Fin 16 := ⟨e.val / 64, by omega⟩
abbrev laneOf (e : Fin 1024) : Fin 64 := ⟨e.val % 64, by omega⟩

/-- The heads' values, side by side. -/
def latentValues (x : FVec Ideal ⟨2, ![16384, 1024]⟩ .f32) (g : FVec Ideal ⟨1, ![1024]⟩ .f32) (w : FVec Ideal ⟨2, ![1024, 288]⟩ .f32)
    (s : FVec Ideal ⟨1, ![256]⟩ .f32) (u : FVec Ideal ⟨3, ![256, 16, 64]⟩ .f32) : FVec Ideal ⟨2, ![16384, 1024]⟩ .bf16 :=
  fun i => ∑ a : Fin 256, latents x g w s (ix2 (i 0) a) * u (ix3 a (headOf (i 1)) (laneOf (i 1)))

end Cert.Gated

namespace Cert.LatentIdeal.Rows

open Cert.LatentIdeal Cert.LatentIdeal.Gen Idealize.ShloMosaic Idealize.ShloMosaic.TcCoe Idealize.SL.Sem Cert.Gated
open Cert.NormIdeal.Rows (zeros2)

theorem normed_payload (x : Vec Ideal S512x1024 .f32) (g : Vec Ideal S1x1024 .f32) (r : Fin 512) (k : Fin 1024) :
    k0_pay3 x g (ix2 r k) = normed (fun a => x (ix2 r a)) (fun a => g (ix2 0 a)) k := by
  unfold k0_pay3 normed
  pointwise

theorem product_payload (h : FVec Ideal S512x1024 .bf16) (w : Vec Ideal S1024x384 .bf16) (r : Fin 512) (j : Fin 384) :
    k0_pay24 h w (ix2 r j) = ∑ k : Fin 1024, h (ix2 r k) * w (ix2 k j) := by
  unfold k0_pay24
  pointwise

theorem latent_payload (h : FVec Ideal S512x1024 .bf16) (w : Vec Ideal S1024x384 .bf16) (s : Vec Ideal S1x256 .f32) (r : Fin 512) (j : Fin 256) :
    k0_pay25 h w s (ix2 r j) = normedShort (fun a => k0_pay24 h w (ix2 r (keptPad a))) (fun a => s (ix2 0 a)) j := by
  unfold k0_pay25 normedShort
  generalize k0_pay24 h w = y
  have cut : ∀ (r : Fin 512) (a : Fin 256), extractStridedSlice S512x256 ![0, 0] y slices_S512x384_o0_0_S512x256 (ix2 r a) = y (ix2 r (keptPad a)) := fun r a =>
    extractStridedSlice_apply ![0, 0] y slices_S512x384_o0_0_S512x256 (ix2 r a) (ix2 r (keptPad a)) (fun d => match d with
      | ⟨0, _⟩ => by show r.val = 0 + r.val; omega
      | ⟨1, _⟩ => by show a.val = 0 + a.val; omega)
  simp only [← cut]
  generalize extractStridedSlice S512x256 ![0, 0] y slices_S512x384_o0_0_S512x256 = z
  pointwise

theorem values_payload (l : FVec Ideal S512x384 .bf16) (u : Vec Ideal S256x1024 .bf16) (r : Fin 512) (e : Fin 1024) :
    k0_pay2 l u (ix2 r e) = ∑ a : Fin 256, l (ix2 r (keptPad a)) * u (ix2 a e) := by
  unfold k0_pay2
  have cut : ∀ (r : Fin 512) (a : Fin 256), extractStridedSlice S512x256 ![0, 0] l slices_S512x384_o0_0_S512x256 (ix2 r a) = l (ix2 r (keptPad a)) := fun r a =>
    extractStridedSlice_apply ![0, 0] l slices_S512x384_o0_0_S512x256 (ix2 r a) (ix2 r (keptPad a)) (fun d => match d with
      | ⟨0, _⟩ => by show r.val = 0 + r.val; omega
      | ⟨1, _⟩ => by show a.val = 0 + a.val; omega)
  simp only [← cut]
  generalize extractStridedSlice S512x256 ![0, 0] l slices_S512x384_o0_0_S512x256 = z
  pointwise

/-- The first columns of the row the values are made of are the latent ones. -/
theorem row_payload (h : FVec Ideal S512x1024 .bf16) (w : Vec Ideal S1024x384 .bf16) (s : Vec Ideal S1x256 .f32) (p q o : Vec Ideal S512x128 .f32) (r : Fin 512) (a : Fin 256) :
    k0_pay28 h w s p q o (ix2 r (keptPad a)) = k0_pay25 h w s (ix2 r a) := by
  unfold k0_pay28
  generalize k0_pay25 h w s = y
  generalize k0_pay26 h w p q o = z
  refine concatenate_pair_apply_left (s₁ := S512x256) (s₂ := S512x128) (t := S512x384) 1 _ _ concatenates_S512x256_S512x128_S512x384_d1 (ix2 r (keptPad a)) rfl (ix2 r a) (fun d => ?_)
  match d with
  | ⟨0, _⟩ => rfl
  | ⟨1, _⟩ => rfl

variable (m : (ℓ : Loc nD τ sig) → Buf (Elt Ideal) ℓ) (c : Dev nD)

/-- The rows, their scales, the weights, the latent scales and the value weights. -/
abbrev xs : FVec Ideal ⟨2, ![16384, 1024]⟩ .f32 := m ((c : Thread nD τ).loc main_arg0)
abbrev gs : FVec Ideal ⟨1, ![1024]⟩ .f32 := m ((c : Thread nD τ).loc main_arg1)
abbrev ws : FVec Ideal ⟨2, ![1024, 288]⟩ .f32 := m ((c : Thread nD τ).loc main_arg5)
abbrev ss : FVec Ideal ⟨1, ![256]⟩ .f32 := m ((c : Thread nD τ).loc main_arg6)
abbrev us : FVec Ideal ⟨3, ![256, 16, 64]⟩ .f32 := m ((c : Thread nD τ).loc main_arg8)

theorem scales_laid (k : Fin 1024) : (V m c main_v28 : FVec Ideal S1x1024 .f32) (ix2 0 k) = gs m c (ix1 k) := by
  have h : (V m c main_v28 : FVec Ideal S1x1024 .f32) = shapeCast S1x1024 (gs m c) shapeCasts_S1024_S1x1024 := by
    unfold V
    simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11]
    after_results_simp
    rfl
  rw [h]
  pointwise

theorem latent_scales_laid (k : Fin 256) : (V m c main_v31 : FVec Ideal S1x256 .f32) (ix2 0 k) = ss m c (ix1 k) := by
  have h : (V m c main_v31 : FVec Ideal S1x256 .f32) = shapeCast S1x256 (ss m c) shapeCasts_S256_S1x256 := by
    unfold V
    simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11]
    after_results_simp
    rfl
  rw [h]
  pointwise

/-- The weights, with columns of zeros after them. -/
theorem weights_laid (k : Fin 1024) (j : Fin 256) :
    (V m c main_v8 : FVec Ideal S1024x384 .bf16) (ix2 k (keptPad j)) = ws m c (ix2 k (kept j)) := by
  have e : (V m c main_v8 : FVec Ideal S1024x384 .bf16) = truncf .bf16 (concatenate S1024x384 1 [⟨S1024x288, ws m c⟩,
      ⟨S1024x96, broadcastInDim S1024x96 ![] bcast_S_S1024x96 (constant S_ .f32 0x00000000#32 : FVec Ideal S_ .f32)⟩] concatenates_S1024x288_S1024x96_S1024x384_d1) bitsLt_bf16_f32 := by
    unfold V
    simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11]
    after_results_simp
    rfl
  rw [e]
  refine concatenate_pair_apply_left (s₁ := S1024x288) (s₂ := S1024x96) (t := S1024x384) 1 _ _ concatenates_S1024x288_S1024x96_S1024x384_d1 (ix2 k (keptPad j)) rfl (ix2 k (kept j)) (fun a => ?_)
  match a with
  | ⟨0, _⟩ => rfl
  | ⟨1, _⟩ => rfl

/-- The value weights, the heads side by side. -/
theorem value_weights_laid (a : Fin 256) (e : Fin 1024) :
    (V m c main_v27 : FVec Ideal S256x1024 .bf16) (ix2 a e) = us m c (ix3 a (headOf e) (laneOf e)) := by
  have h : (V m c main_v27 : FVec Ideal S256x1024 .bf16) = truncf .bf16 (shapeCast S256x1024 (us m c) shapeCasts_S256x16x64_S256x1024) bitsLt_bf16_f32 := by
    unfold V
    simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11]
    after_results_simp
    rfl
  rw [h]
  refine shapeCast_apply (us m c) shapeCasts_S256x16x64_S256x1024 (ix2 a e) (ix3 a (headOf e) (laneOf e)) ?_
  rewrite [Shape.rowMajor_val_three, Shape.rowMajor_val_two]
  show (a.val * 16 + e.val / 64) * 64 + e.val % 64 = a.val * 1024 + e.val
  omega

theorem places : ∀ t : Fin cfg0.N,
    (win0_0.index t 0 = t.val ∧ win0_0.index t 1 = 0) ∧ (win0_1.index t 0 = 0 ∧ win0_1.index t 1 = 0)
    ∧ (win0_5.index t 0 = 0 ∧ win0_5.index t 1 = 0) ∧ (win0_6.index t 0 = 0 ∧ win0_6.index t 1 = 0)
    ∧ (win0_8.index t 0 = 0 ∧ win0_8.index t 1 = 0) ∧ (win0_16.index t 0 = t.val ∧ win0_16.index t 1 = 0)
    ∧ (win0_19.index t 0 = t.val ∧ win0_19.index t 1 = 0) :=
  (by decide +kernel : ∀ t : Fin grid0.N, _)

theorem point_lt (t : Fin cfg0.N) : t.val < 32 := lt_of_lt_of_eq t.isLt (show cfg0.N = 32 from N_0)

/-- A row of the array from its tile. -/
abbrev place (t : Fin cfg0.N) (r : Fin 512) : Fin 16384 := ⟨512 * t.val + r.val, by have := point_lt t; omega⟩

/-- A tile's rows. -/
theorem rows_block (t : Fin cfg0.N) (r : Fin 512) (k : Fin 1024) :
    (iblk m c 0 t : Vec Ideal S512x1024 .f32) (ix2 r k) = xs m c (ix2 (place t r) k) := by
  obtain ⟨⟨h0, h1⟩, -⟩ := places t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t 0 * 512 + 1 * r.val = 512 * t.val + r.val; rw [h0]; omega
  | ⟨1, _⟩ => show win0_0.index t 1 * 1024 + 1 * k.val = k.val; rw [h1]; omega

theorem scales_block (t : Fin cfg0.N) (k : Fin 1024) : (iblk m c 1 t : Vec Ideal S1x1024 .f32) (ix2 0 k) = gs m c (ix1 k) := by
  obtain ⟨-, ⟨h0, h1⟩, -⟩ := places t
  rw [← scales_laid]
  unfold iblk
  rw [View.read_apply]
  show V m c main_v28 _ = V m c main_v28 _
  refine congrArg (V m c main_v28) ?_
  funext a
  apply Fin.ext
  match a with
  | ⟨0, _⟩ => show win0_1.index t 0 * 1 + 1 * 0 = 0; rw [h0]
  | ⟨1, _⟩ => show win0_1.index t 1 * 1024 + 1 * k.val = k.val; rw [h1]; omega

theorem weights_block (t : Fin cfg0.N) (k : Fin 1024) (j : Fin 256) :
    (iblk m c 5 t : Vec Ideal S1024x384 .bf16) (ix2 k (keptPad j)) = ws m c (ix2 k (kept j)) := by
  obtain ⟨-, -, ⟨h0, h1⟩, -⟩ := places t
  rw [← weights_laid]
  unfold iblk
  rw [View.read_apply]
  show V m c main_v8 _ = V m c main_v8 _
  refine congrArg (V m c main_v8) ?_
  funext a
  apply Fin.ext
  match a with
  | ⟨0, _⟩ => show win0_5.index t 0 * 1024 + 1 * k.val = k.val; rw [h0]; omega
  | ⟨1, _⟩ => show win0_5.index t 1 * 384 + 1 * j.val = j.val; rw [h1]; omega

theorem latent_scales_block (t : Fin cfg0.N) (k : Fin 256) : (iblk m c 6 t : Vec Ideal S1x256 .f32) (ix2 0 k) = ss m c (ix1 k) := by
  obtain ⟨-, -, -, ⟨h0, h1⟩, -⟩ := places t
  rw [← latent_scales_laid]
  unfold iblk
  rw [View.read_apply]
  show V m c main_v31 _ = V m c main_v31 _
  refine congrArg (V m c main_v31) ?_
  funext a
  apply Fin.ext
  match a with
  | ⟨0, _⟩ => show win0_6.index t 0 * 1 + 1 * 0 = 0; rw [h0]
  | ⟨1, _⟩ => show win0_6.index t 1 * 256 + 1 * k.val = k.val; rw [h1]; omega

theorem value_weights_block (t : Fin cfg0.N) (a : Fin 256) (e : Fin 1024) :
    (iblk m c 8 t : Vec Ideal S256x1024 .bf16) (ix2 a e) = us m c (ix3 a (headOf e) (laneOf e)) := by
  obtain ⟨-, -, -, -, ⟨h0, h1⟩, -⟩ := places t
  rw [← value_weights_laid]
  unfold iblk
  rw [View.read_apply]
  show V m c main_v27 _ = V m c main_v27 _
  refine congrArg (V m c main_v27) ?_
  funext d
  apply Fin.ext
  match d with
  | ⟨0, _⟩ => show win0_8.index t 0 * 256 + 1 * a.val = a.val; rw [h0]; omega
  | ⟨1, _⟩ => show win0_8.index t 1 * 1024 + 1 * e.val = e.val; rw [h1]; omega

/-- What the body leaves in the two output blocks. -/
theorem latent_out (x0 : Vec Ideal S512x1024 .f32) (x1 : Vec Ideal S1x1024 .f32) (x2 : Vec Ideal S1024x512 .bf16) (x3 : Vec Ideal S1x512 .f32) (x4 : Vec Ideal S512x2048 .bf16) (x5 : Vec Ideal S1024x384 .bf16) (x6 : Vec Ideal S1x256 .f32) (x7 : Vec Ideal S384x2048 .bf16) (x8 : Vec Ideal S256x1024 .bf16) (x9 : Vec Ideal S512x128 .f32) (x10 : Vec Ideal S512x128 .f32) (x11 : Vec Ideal S512x128 .f32) (x12 : Vec Ideal S512x128 .f32) (x13 : Vec Ideal S512x128 .f32) (x14 : Vec Ideal S512x128 .f32) :
    out0_16 x0 x1 x2 x3 x4 x5 x6 x7 x8 x9 x10 x11 x12 x13 x14 = k0_pay25 (k0_pay3 x0 x1) x5 x6 := by
  unfold out0_16 k0_pay30
  refine (View.canon_unit_zero zeros2 inb_S512x256_S512x256_0_0 _).trans ?_
  rw [show View.ld x0 r0_0 = x0 from View.ld_unit_zero zeros2 _ x0, show View.ld x1 r0_1 = x1 from View.ld_unit_zero zeros2 _ x1,
    show View.ld x5 r0_6 = x5 from View.ld_unit_zero zeros2 _ x5, show View.ld x6 r0_7 = x6 from View.ld_unit_zero zeros2 _ x6]

theorem values_out (x0 : Vec Ideal S512x1024 .f32) (x1 : Vec Ideal S1x1024 .f32) (x2 : Vec Ideal S1024x512 .bf16) (x3 : Vec Ideal S1x512 .f32) (x4 : Vec Ideal S512x2048 .bf16) (x5 : Vec Ideal S1024x384 .bf16) (x6 : Vec Ideal S1x256 .f32) (x7 : Vec Ideal S384x2048 .bf16) (x8 : Vec Ideal S256x1024 .bf16) (x9 : Vec Ideal S512x128 .f32) (x10 : Vec Ideal S512x128 .f32) (x11 : Vec Ideal S512x128 .f32) (x12 : Vec Ideal S512x128 .f32) (x13 : Vec Ideal S512x128 .f32) (x14 : Vec Ideal S512x128 .f32) :
    out0_19 x0 x1 x2 x3 x4 x5 x6 x7 x8 x9 x10 x11 x12 x13 x14 = k0_pay2 (k0_pay28 (k0_pay3 x0 x1) x5 x6 x12 x13 x14) x8 := by
  unfold out0_19 k0_pay35 k0_pay30
  refine (View.canon_unit_zero zeros2 inb_S512x1024_S512x1024_0_0 _).trans ?_
  rw [show View.ld x0 r0_0 = x0 from View.ld_unit_zero zeros2 _ x0, show View.ld x1 r0_1 = x1 from View.ld_unit_zero zeros2 _ x1,
    show View.ld x5 r0_6 = x5 from View.ld_unit_zero zeros2 _ x5, show View.ld x6 r0_7 = x6 from View.ld_unit_zero zeros2 _ x6,
    show View.ld x8 r0_11 = x8 from View.ld_unit_zero zeros2 _ x8, show View.ld x12 r0_5 = x12 from View.ld_unit_zero zeros2 _ x12,
    show View.ld x13 r0_5 = x13 from View.ld_unit_zero zeros2 _ x13, show View.ld x14 r0_5 = x14 from View.ld_unit_zero zeros2 _ x14]

/-- A tile's latent rows. -/
theorem tile_latents (t : Fin cfg0.N) (r : Fin 512) (j : Fin 256) :
    k0_pay25 (k0_pay3 (iblk m c 0 t) (iblk m c 1 t)) (iblk m c 5 t) (iblk m c 6 t) (ix2 r j)
      = latents (xs m c) (gs m c) (ws m c) (ss m c) (ix2 (place t r) j) := by
  refine (latent_payload _ _ _ r j).trans ?_
  show _ = normedShort (fun j => ∑ k : Fin 1024, normedRows (xs m c) (gs m c) (ix2 (place t r) k) * ws m c (ix2 k (kept j))) (fun j => ss m c (ix1 j)) j
  refine congrArg₂ (normedShort · · j) (funext fun a => (product_payload _ _ r (keptPad a)).trans ?_) (funext fun a => latent_scales_block m c t a)
  refine Finset.sum_congr rfl fun k _ => congrArg₂ (· * ·) ((normed_payload _ _ r k).trans ?_) (weights_block m c t k a)
  show _ = normed (fun a => xs m c (ix2 (place t r) a)) (fun a => gs m c (ix1 a)) k
  exact congrArg₂ (normed · · k) (funext fun a => rows_block m c t r a) (funext fun a => scales_block m c t a)

theorem flushed_latents (t : Fin cfg0.N) (_ : (cfg0.win 16).flush t = true) :
    (dats m 0 c).flushed 16 t = ((cfg0.win 16).blk t).view.read (Elt Ideal) (latents (xs m c) (gs m c) (ws m c) (ss m c)) := by
  obtain ⟨-, -, -, -, -, ⟨h0, h1⟩, -⟩ := places t
  rw [Value.flushed16, latent_out]
  have key : ∀ (y : S512x256.Idx) (z : S16384x256.Idx), (z 0).val = 512 * t.val + (y 0).val → (z 1).val = (y 1).val →
      k0_pay25 (k0_pay3 (iblk m c 0 t) (iblk m c 1 t)) (iblk m c 5 t) (iblk m c 6 t) y = latents (xs m c) (gs m c) (ws m c) (ss m c) z := by
    intro y z e0 e1
    obtain ⟨r, e, rfl⟩ : ∃ (r : Fin 512) (e : Fin 256), y = ix2 r e := ⟨y 0, y 1, eq_ix2 y⟩
    obtain ⟨r', e', rfl⟩ : ∃ (r' : Fin 16384) (e' : Fin 256), z = ix2 r' e' := ⟨z 0, z 1, eq_ix2 z⟩
    obtain rfl : r' = place t r := Fin.ext e0
    obtain rfl : e' = e := Fin.ext e1
    exact tile_latents m c t r e'
  funext y
  rw [View.read_apply]
  have z0 : (((cfg0.win 16).blk t).view.emb y 0 : ℕ) = 512 * t.val + (y 0).val := by
    blk_simp [h0]
    rw [Nat.mul_comm]
  have z1 : (((cfg0.win 16).blk t).view.emb y 1 : ℕ) = (y 1).val := by
    blk_simp [h1]
  rw [Pipeline.Window.cut_apply]
  refine (key ((cfg0.win 16).xinj (grid0.coords t) y) (((cfg0.win 16).blk t).view.emb y) z0 z1).trans ?_
  exact (cast_eq _ _).symm

theorem flushes_latents : ∀ t : Fin cfg0.N, (cfg0.win 16).flush t = true := (by decide +kernel : ∀ t : Fin grid0.N, win0_16.flush t = true)

/-- The indices of a tile's block. -/
theorem mem_latents (t : Fin cfg0.N) (i : S16384x256.Idx) : i ∈ ((cfg0.win 16).blk t).view.set
    ↔ ∀ a : Fin 2, win0_16.index t a * S512x256.size a ≤ (i a).val ∧ (i a).val < win0_16.index t a * S512x256.size a + S512x256.size a := by
  show i ∈ ((View.whole main_v102_1).slice (win0_16.rect t)).set ↔ _
  rw [View.set_slice_whole, Rect.mem_set_unit]
  exact Iff.rfl

/-- The array after the run. -/
theorem latents_eq : (dats m 0 c).arrAt 16 cfg0.N = latents (xs m c) (gs m c) (ws m c) (ss m c) :=
  (dats m 0 c).arrAt_eq_of_cover 16 _ (flushed_latents m c) fun i => by
    have b0 : (i 0).val < 16384 := (i 0).isLt
    have b1 : (i 1).val < 256 := (i 1).isLt
    have hn : (i 0).val / 512 < cfg0.N := by rw [show cfg0.N = 32 from N_0]; omega
    obtain ⟨-, -, -, -, -, ⟨h0, h1⟩, -⟩ := places ⟨(i 0).val / 512, hn⟩
    refine ⟨⟨(i 0).val / 512, hn⟩, flushes_latents _, ?_⟩
    rw [mem_latents]
    intro a
    match a with
    | ⟨0, _⟩ =>
      show win0_16.index ⟨(i 0).val / 512, hn⟩ 0 * 512 ≤ (i 0).val ∧ (i 0).val < win0_16.index ⟨(i 0).val / 512, hn⟩ 0 * 512 + 512
      rw [h0]
      show (i 0).val / 512 * 512 ≤ (i 0).val ∧ (i 0).val < (i 0).val / 512 * 512 + 512
      omega
    | ⟨1, _⟩ =>
      show win0_16.index ⟨(i 0).val / 512, hn⟩ 1 * 256 ≤ (i 1).val ∧ (i 1).val < win0_16.index ⟨(i 0).val / 512, hn⟩ 1 * 256 + 256
      rw [h1]
      omega

theorem flushed_values (t : Fin cfg0.N) (_ : (cfg0.win 19).flush t = true) :
    (dats m 0 c).flushed 19 t = ((cfg0.win 19).blk t).view.read (Elt Ideal) (latentValues (xs m c) (gs m c) (ws m c) (ss m c) (us m c)) := by
  obtain ⟨-, -, -, -, -, -, ⟨h0, h1⟩⟩ := places t
  rw [Value.flushed19, values_out]
  have key : ∀ (y : S512x1024.Idx) (z : S16384x1024.Idx), (z 0).val = 512 * t.val + (y 0).val → (z 1).val = (y 1).val →
      k0_pay2 (k0_pay28 (k0_pay3 (iblk m c 0 t) (iblk m c 1 t)) (iblk m c 5 t) (iblk m c 6 t) (iblk m c 12 t) (iblk m c 13 t) (iblk m c 14 t)) (iblk m c 8 t) y = latentValues (xs m c) (gs m c) (ws m c) (ss m c) (us m c) z := by
    intro y z e0 e1
    obtain ⟨r, e, rfl⟩ : ∃ (r : Fin 512) (e : Fin 1024), y = ix2 r e := ⟨y 0, y 1, eq_ix2 y⟩
    obtain ⟨r', e', rfl⟩ : ∃ (r' : Fin 16384) (e' : Fin 1024), z = ix2 r' e' := ⟨z 0, z 1, eq_ix2 z⟩
    obtain rfl : r' = place t r := Fin.ext e0
    obtain rfl : e' = e := Fin.ext e1
    refine (values_payload _ _ r e').trans ?_
    exact Finset.sum_congr rfl fun a _ => congrArg₂ (· * ·) ((row_payload _ _ _ _ _ _ r a).trans (tile_latents m c t r a)) (value_weights_block m c t a e')
  funext y
  rw [View.read_apply]
  have z0 : (((cfg0.win 19).blk t).view.emb y 0 : ℕ) = 512 * t.val + (y 0).val := by
    blk_simp [h0]
    rw [Nat.mul_comm]
  have z1 : (((cfg0.win 19).blk t).view.emb y 1 : ℕ) = (y 1).val := by
    blk_simp [h1]
  rw [Pipeline.Window.cut_apply]
  refine (key ((cfg0.win 19).xinj (grid0.coords t) y) (((cfg0.win 19).blk t).view.emb y) z0 z1).trans ?_
  exact (cast_eq _ _).symm

theorem flushes_values : ∀ t : Fin cfg0.N, (cfg0.win 19).flush t = true := (by decide +kernel : ∀ t : Fin grid0.N, win0_19.flush t = true)

/-- The indices of a tile's block. -/
theorem mem_values (t : Fin cfg0.N) (i : S16384x1024.Idx) : i ∈ ((cfg0.win 19).blk t).view.set
    ↔ ∀ a : Fin 2, win0_19.index t a * S512x1024.size a ≤ (i a).val ∧ (i a).val < win0_19.index t a * S512x1024.size a + S512x1024.size a := by
  show i ∈ ((View.whole main_v102_4).slice (win0_19.rect t)).set ↔ _
  rw [View.set_slice_whole, Rect.mem_set_unit]
  exact Iff.rfl

/-- The array after the run. -/
theorem values_eq : (dats m 0 c).arrAt 19 cfg0.N = latentValues (xs m c) (gs m c) (ws m c) (ss m c) (us m c) :=
  (dats m 0 c).arrAt_eq_of_cover 19 _ (flushed_values m c) fun i => by
    have b0 : (i 0).val < 16384 := (i 0).isLt
    have b1 : (i 1).val < 1024 := (i 1).isLt
    have hn : (i 0).val / 512 < cfg0.N := by rw [show cfg0.N = 32 from N_0]; omega
    obtain ⟨-, -, -, -, -, -, ⟨h0, h1⟩⟩ := places ⟨(i 0).val / 512, hn⟩
    refine ⟨⟨(i 0).val / 512, hn⟩, flushes_values _, ?_⟩
    rw [mem_values]
    intro a
    match a with
    | ⟨0, _⟩ =>
      show win0_19.index ⟨(i 0).val / 512, hn⟩ 0 * 512 ≤ (i 0).val ∧ (i 0).val < win0_19.index ⟨(i 0).val / 512, hn⟩ 0 * 512 + 512
      rw [h0]
      show (i 0).val / 512 * 512 ≤ (i 0).val ∧ (i 0).val < (i 0).val / 512 * 512 + 512
      omega
    | ⟨1, _⟩ =>
      show win0_19.index ⟨(i 0).val / 512, hn⟩ 1 * 1024 ≤ (i 1).val ∧ (i 1).val < win0_19.index ⟨(i 0).val / 512, hn⟩ 1 * 1024 + 1024
      rw [h1]
      omega

end Cert.LatentIdeal.Rows

namespace Cert.LatentReferenceIdeal.Rows

open Cert.LatentReferenceIdeal Cert.LatentReferenceIdeal.Gen Cert.LatentReferenceIdeal.Read Idealize.ShloMosaic Idealize.ShloMosaic.TcCoe Idealize.SL.Sem Cert.Gated
open Cert.FfnReferenceIdeal.Conv (same1 same2)

variable (x : FVec Ideal ⟨2, ![16384, 1024]⟩ .f32) (g : FVec Ideal ⟨1, ![1024]⟩ .f32) (w : FVec Ideal ⟨2, ![1024, 288]⟩ .f32)
  (s : FVec Ideal ⟨1, ![256]⟩ .f32) (u : FVec Ideal ⟨3, ![256, 16, 64]⟩ .f32)

theorem squares_at (t : Fin 16384) : val_main_v1 (F := Ideal) x (ix1 t) = ∑ k : Fin 1024, x (ix2 t k) * x (ix2 t k) := by
  rw [val_main_v1_apply, show val_main_cst (F := Ideal) (Shape.Idx.first h_S_) = 0 from Ideal.ofBits_zero .f32, zero_add]
  refine Finset.sum_congr rfl fun k _ => ?_
  rw [same2 (idx_main_v1 (ix1 t) k) t k rfl rfl, val_main_v0_apply]
  rfl

/-- The reference's normed rows. -/
theorem normed_at (t : Fin 16384) (k : Fin 1024) : val_main_v12 (F := Ideal) x g (ix2 t k) = normedRows x g (ix2 t k) := by
  rw [val_main_v12_apply, val_main_v9_apply, val_main_v11_apply, val_main_v10_apply, val_main_v8_apply, val_main_v7_apply, val_main_v6_apply,
    val_main_v4_apply, val_main_v2_apply, val_main_v3_apply, val_main_v5_apply, val_main_cst_0_apply, val_main_cst_1_apply,
    same1 (idx_main_v10 (idx_main_v11 (ix2 t k))) k rfl, same1 (idx_main_v2 (idx_main_v8 (ix2 t k))) t rfl, squares_at]
  show _ = normed (fun a => x (ix2 t a)) (fun a => g (ix1 a)) k
  rfl

/-- Their products with the latent columns of the weights. -/
theorem product_at (t : Fin 16384) (j : Fin 256) :
    val_main_v14 (F := Ideal) x g w (ix2 t j) = ∑ k : Fin 1024, normedRows x g (ix2 t k) * w (ix2 k (kept j)) := by
  rw [val_main_v14_apply, val_main_v13_apply]
  refine Finset.sum_congr rfl fun k _ => ?_
  rw [same2 (lidx_main_v13 (idx_main_v14 (ix2 t j)) k) t k rfl rfl, same2 (ridx_main_v13 (idx_main_v14 (ix2 t j)) k) k (kept j) rfl rfl, normed_at]

theorem latent_squares_at (t : Fin 16384) : val_main_v16 (F := Ideal) x g w (ix1 t)
    = ∑ a : Fin 256, val_main_v14 (F := Ideal) x g w (ix2 t a) * val_main_v14 (F := Ideal) x g w (ix2 t a) := by
  rw [val_main_v16_apply, show val_main_cst_2 (F := Ideal) (Shape.Idx.first h_S_) = 0 from Ideal.ofBits_zero .f32, zero_add]
  refine Finset.sum_congr rfl fun k _ => ?_
  rw [same2 (idx_main_v16 (ix1 t) k) t k rfl rfl, val_main_v15_apply]
  rfl

theorem latent_at (t : Fin 16384) (j : Fin 256) : val_main_v27 (F := Ideal) x g w s (ix2 t j) = latents x g w s (ix2 t j) := by
  rw [val_main_v27_apply, val_main_v24_apply, val_main_v26_apply, val_main_v25_apply, val_main_v23_apply, val_main_v22_apply, val_main_v21_apply,
    val_main_v19_apply, val_main_v17_apply, val_main_v18_apply, val_main_v20_apply, val_main_cst_3_apply, val_main_cst_4_apply,
    same1 (idx_main_v25 (idx_main_v26 (ix2 t j))) j rfl, same1 (idx_main_v17 (idx_main_v23 (ix2 t j))) t rfl, latent_squares_at]
  simp only [product_at]
  rfl

/-- The reference's latent rows. -/
theorem latents_eq : val_main_v27 (F := Ideal) x g w s = latents x g w s := by
  funext i
  obtain ⟨t, j, rfl⟩ : ∃ (t : Fin 16384) (j : Fin 256), i = ix2 t j := ⟨i 0, i 1, eq_ix2 i⟩
  exact latent_at x g w s t j

/-- The reference's values. -/
theorem values_eq : val_main_v30 (F := Ideal) x g w s u = latentValues x g w s u := by
  funext i
  obtain ⟨t, e, rfl⟩ : ∃ (t : Fin 16384) (e : Fin 1024), i = ix2 t e := ⟨i 0, i 1, eq_ix2 i⟩
  rw [val_main_v30_apply, val_main_v29_apply, val_main_v28_apply]
  show (∑ k : Fin 256, _) = ∑ a : Fin 256, latents x g w s (ix2 t a) * u (ix3 a (headOf e) (laneOf e))
  refine Finset.sum_congr rfl fun k _ => ?_
  refine congrArg₂ (· * ·) ((congrArg _ (same2 _ t k ?_ rfl)).trans (latent_at x g w s t k)) (congrArg u ?_)
  · show (t.val * 1024 + e.val) / 1024 = t.val
    omega
  · funext d
    apply Fin.ext
    match d with
    | ⟨0, _⟩ => rfl
    | ⟨1, _⟩ => show (t.val * 1024 + e.val) / 64 % 16 = e.val / 64; omega
    | ⟨2, _⟩ => show (t.val * 1024 + e.val) % 64 = e.val % 64; omega

end Cert.LatentReferenceIdeal.Rows

end
-- ==== Proof.NormSample.lean ====
/-
  The last norm of the sample: the kernel leaves, and its reference computes, every row over the root of its mean square, scaled column by column.
-/
module

public import proofs.«01_k».proof.Proof.Norm
public import proofs.«01_k».proof.Proof.Gen.NormSampleIdeal.Value
public import proofs.«01_k».proof.Proof.Gen.NormSampleReferenceIdeal.Run
public import proofs.«01_k».proof.Proof.Gen.NormSampleReferenceIdeal.Read
public import Idealize.ShloMosaic.Lib.Pipeline.ValueKit.Geometry

@[expose] public section

set_option maxRecDepth 16384

noncomputable section

namespace Cert.Gated

open Idealize.ShloMosaic Idealize.ShloMosaic.TcCoe

/-- The normed rows of an array. -/
def sampleRows (x : FVec Ideal ⟨2, ![128, 1024]⟩ .f32) (g : FVec Ideal ⟨1, ![1024]⟩ .f32) : FVec Ideal ⟨2, ![128, 1024]⟩ .f32 :=
  fun i => normed (fun k => x (ix2 (i 0) k)) (fun k => g (ix1 k)) (i 1)

end Cert.Gated

namespace Cert.NormSampleIdeal.Rows

open Cert.NormSampleIdeal Cert.NormSampleIdeal.Gen Idealize.ShloMosaic Idealize.ShloMosaic.TcCoe Idealize.SL.Sem Cert.Gated
open Cert.NormIdeal.Rows (zeros2)

theorem payload_apply (x : Vec Ideal S128x1024 .f32) (g : Vec Ideal S1x1024 .f32) (r : Fin 128) (k : Fin 1024) :
    k0_pay1 x g (ix2 r k) = normed (fun a => x (ix2 r a)) (fun a => g (ix2 0 a)) k := by
  unfold k0_pay1 normed
  pointwise

variable (m : (ℓ : Loc nD τ sig) → Buf (Elt Ideal) ℓ) (c : Dev nD)

/-- The rows and their scales. -/
abbrev xs : FVec Ideal ⟨2, ![128, 1024]⟩ .f32 := m ((c : Thread nD τ).loc main_arg0)
abbrev gs : FVec Ideal ⟨1, ![1024]⟩ .f32 := m ((c : Thread nD τ).loc main_arg1)

/-- The scales as one row, as the launch finds them. -/
theorem scales_laid (k : Fin 1024) : (V m c main_v0 : FVec Ideal S1x1024 .f32) (ix2 0 k) = gs m c (ix1 k) := by
  have h : (V m c main_v0 : FVec Ideal S1x1024 .f32) = shapeCast S1x1024 (gs m c) shapeCasts_S1024_S1x1024 := by
    unfold V
    after_results_simp
    rfl
  rw [h]
  pointwise

theorem places : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

theorem point_lt (t : Fin cfg0.N) : t.val < 1 := lt_of_lt_of_eq t.isLt (show cfg0.N = 1 from N_0)

/-- A row of the array from its tile. -/
abbrev place (t : Fin cfg0.N) (r : Fin 128) : Fin 128 := ⟨128 * t.val + r.val, by have := point_lt t; omega⟩

/-- A tile's rows. -/
theorem rows_block (t : Fin cfg0.N) (r : Fin 128) (k : Fin 1024) :
    (iblk m c 0 t : Vec Ideal S128x1024 .f32) (ix2 r k) = xs m c (ix2 (place t r) k) := by
  obtain ⟨⟨h0, h1⟩, -⟩ := places t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t 0 * 128 + 1 * r.val = 128 * t.val + r.val; rw [h0]; omega
  | ⟨1, _⟩ => show win0_0.index t 1 * 1024 + 1 * k.val = k.val; rw [h1]; omega

theorem scales_block (t : Fin cfg0.N) (k : Fin 1024) : (iblk m c 1 t : Vec Ideal S1x1024 .f32) (ix2 0 k) = gs m c (ix1 k) := by
  obtain ⟨-, ⟨h0, h1⟩, -⟩ := places t
  rw [← scales_laid]
  unfold iblk
  rw [View.read_apply]
  show V m c main_v0 _ = V m c main_v0 _
  refine congrArg (V m c main_v0) ?_
  funext a
  apply Fin.ext
  match a with
  | ⟨0, _⟩ => show win0_1.index t 0 * 1 + 1 * 0 = 0; rw [h0]
  | ⟨1, _⟩ => show win0_1.index t 1 * 1024 + 1 * k.val = k.val; rw [h1]; omega

/-- What the body leaves in its output block. -/
theorem out_eq (x : Vec Ideal S128x1024 .f32) (g : Vec Ideal S1x1024 .f32) : out0_2 x g = k0_pay1 x g := by
  unfold out0_2
  refine (View.canon_unit_zero zeros2 inb_S128x1024_S128x1024_0_0 _).trans ?_
  rw [show View.ld x r0_0 = x from View.ld_unit_zero zeros2 _ x, show View.ld g r0_1 = g from View.ld_unit_zero zeros2 _ g]

theorem flushed_rows (t : Fin cfg0.N) (_ : (cfg0.win 2).flush t = true) :
    (dats m 0 c).flushed 2 t = ((cfg0.win 2).blk t).view.read (Elt Ideal) (sampleRows (xs m c) (gs m c)) := by
  obtain ⟨-, -, ⟨h0, h1⟩⟩ := places t
  rw [Value.flushed2, out_eq]
  have key : ∀ (y : S128x1024.Idx) (z : S128x1024.Idx), (z 0).val = 128 * t.val + (y 0).val → (z 1).val = (y 1).val →
      k0_pay1 (iblk m c 0 t) (iblk m c 1 t) y = sampleRows (xs m c) (gs m c) z := by
    intro y z e0 e1
    obtain ⟨r, e, rfl⟩ : ∃ (r : Fin 128) (e : Fin 1024), y = ix2 r e := ⟨y 0, y 1, eq_ix2 y⟩
    obtain ⟨r', e', rfl⟩ : ∃ (r' : Fin 128) (e' : Fin 1024), z = ix2 r' e' := ⟨z 0, z 1, eq_ix2 z⟩
    obtain rfl : r' = place t r := Fin.ext e0
    obtain rfl : e' = e := Fin.ext e1
    refine (payload_apply _ _ r e').trans ?_
    show _ = normed (fun k => xs m c (ix2 (place t r) k)) (fun k => gs m c (ix1 k)) e'
    exact congrArg₂ (normed · · e') (funext fun k => rows_block m c t r k) (funext fun k => scales_block m c t k)
  funext y
  rw [View.read_apply]
  have z0 : (((cfg0.win 2).blk t).view.emb y 0 : ℕ) = 128 * t.val + (y 0).val := by
    blk_simp [h0]
    omega
  have z1 : (((cfg0.win 2).blk t).view.emb y 1 : ℕ) = (y 1).val := by
    blk_simp [h1]
  rw [Pipeline.Window.cut_apply]
  refine (key ((cfg0.win 2).xinj (grid0.coords t) y) (((cfg0.win 2).blk t).view.emb y) z0 z1).trans ?_
  exact (cast_eq _ _).symm

theorem flushes : ∀ t : Fin cfg0.N, (cfg0.win 2).flush t = true := (by decide +kernel : ∀ t : Fin grid0.N, win0_2.flush t = true)

/-- The indices of a tile's block. -/
theorem mem_block (t : Fin cfg0.N) (i : S128x1024.Idx) : i ∈ ((cfg0.win 2).blk t).view.set
    ↔ ∀ a : Fin 2, win0_2.index t a * S128x1024.size a ≤ (i a).val ∧ (i a).val < win0_2.index t a * S128x1024.size a + S128x1024.size a := by
  show i ∈ ((View.whole main_v1).slice (win0_2.rect t)).set ↔ _
  rw [View.set_slice_whole, Rect.mem_set_unit]
  exact Iff.rfl

/-- The array after the run. -/
theorem array_eq : (dats m 0 c).arrAt 2 cfg0.N = sampleRows (xs m c) (gs m c) :=
  (dats m 0 c).arrAt_eq_of_cover 2 _ (flushed_rows m c) fun i => by
    have b0 : (i 0).val < 128 := (i 0).isLt
    have b1 : (i 1).val < 1024 := (i 1).isLt
    have hn : (i 0).val / 128 < cfg0.N := by rw [show cfg0.N = 1 from N_0]; omega
    obtain ⟨-, -, ⟨h0, h1⟩⟩ := places ⟨(i 0).val / 128, hn⟩
    refine ⟨⟨(i 0).val / 128, hn⟩, flushes _, ?_⟩
    rw [mem_block]
    intro a
    match a with
    | ⟨0, _⟩ =>
      show win0_2.index ⟨(i 0).val / 128, hn⟩ 0 * 128 ≤ (i 0).val ∧ (i 0).val < win0_2.index ⟨(i 0).val / 128, hn⟩ 0 * 128 + 128
      rw [h0]
      show (i 0).val / 128 * 128 ≤ (i 0).val ∧ (i 0).val < (i 0).val / 128 * 128 + 128
      omega
    | ⟨1, _⟩ =>
      show win0_2.index ⟨(i 0).val / 128, hn⟩ 1 * 1024 ≤ (i 1).val ∧ (i 1).val < win0_2.index ⟨(i 0).val / 128, hn⟩ 1 * 1024 + 1024
      rw [h1]
      omega

end Cert.NormSampleIdeal.Rows

namespace Cert.NormSampleReferenceIdeal.Rows

open Cert.NormSampleReferenceIdeal Cert.NormSampleReferenceIdeal.Gen Cert.NormSampleReferenceIdeal.Read Idealize.ShloMosaic Idealize.ShloMosaic.TcCoe Idealize.SL.Sem Cert.Gated
open Cert.FfnReferenceIdeal.Conv (same1 same2)

variable (x : FVec Ideal ⟨2, ![128, 1024]⟩ .f32) (g : FVec Ideal ⟨1, ![1024]⟩ .f32)

theorem squares_at (t : Fin 128) : val_main_v1 (F := Ideal) x (ix1 t) = ∑ k : Fin 1024, x (ix2 t k) * x (ix2 t k) := by
  rw [val_main_v1_apply, show val_main_cst (F := Ideal) (Shape.Idx.first h_S_) = 0 from Ideal.ofBits_zero .f32, zero_add]
  refine Finset.sum_congr rfl fun k _ => ?_
  rw [same2 (idx_main_v1 (ix1 t) k) t k rfl rfl, val_main_v0_apply]
  rfl

/-- The reference's rows. -/
theorem rows_eq : val_main_v12 (F := Ideal) x g = sampleRows x g := by
  funext i
  obtain ⟨t, k, rfl⟩ : ∃ (t : Fin 128) (k : Fin 1024), i = ix2 t k := ⟨i 0, i 1, eq_ix2 i⟩
  rw [val_main_v12_apply, val_main_v9_apply, val_main_v11_apply, val_main_v10_apply, val_main_v8_apply, val_main_v7_apply, val_main_v6_apply,
    val_main_v4_apply, val_main_v2_apply, val_main_v3_apply, val_main_v5_apply, val_main_cst_0_apply, val_main_cst_1_apply,
    same1 (idx_main_v10 (idx_main_v11 (ix2 t k))) k rfl, same1 (idx_main_v2 (idx_main_v8 (ix2 t k))) t rfl, squares_at]
  show _ = normed (fun a => x (ix2 t a)) (fun a => g (ix1 a)) k
  rfl

end Cert.NormSampleReferenceIdeal.Rows

end
-- ==== Proof.HeadsReference.lean ====
/-
  The first projection's columns of values and keys and the logs of its forget gates, as its reference computes them:
  every row is normed, multiplied by the weights, and sliced, and the gates' columns pass through the log of the logistic function.
-/
module

public import proofs.«01_k».proof.Proof.Norm
public import proofs.«01_k».proof.Proof.Gen.ProjectReferenceIdeal.Run
public import proofs.«01_k».proof.Proof.Gen.ProjectReferenceIdeal.Read

@[expose] public section

set_option maxRecDepth 16384

noncomputable section

namespace Cert.Gated

open Idealize.ShloMosaic Idealize.ShloMosaic.TcCoe

variable (x : FVec Ideal ⟨2, ![16384, 1024]⟩ .f32) (g : FVec Ideal ⟨1, ![1024]⟩ .f32) (w : FVec Ideal ⟨2, ![1024, 1544]⟩ .f32)
  (b : FVec Ideal ⟨1, ![8]⟩ .f32)

/-- The product of a normed row with a column of the weights. -/
def projected (t : Fin 16384) (j : Fin 1544) : EReal :=
  ∑ k : Fin 1024, normed (fun a => x (ix2 t a)) (fun a => g (ix1 a)) k * w (ix2 k j)

/-- The products with 128 columns from the column `o` on. -/
def columns (o : ℕ) (ho : o + 128 ≤ 1544) : FVec Ideal ⟨2, ![16384, 128]⟩ .f32 :=
  fun i => projected x g w (i 0) ⟨o + (i 1).val, lt_of_lt_of_le (Nat.add_lt_add_left (i 1).isLt o) ho⟩

/-- The log of the logistic function of `f`. -/
def logLogistic (f : EReal) : EReal := min f 0 - Ideal.log1p (Ideal.exp (0 - max f (-f)))

/-- The logs of the forget gates. -/
def forgets : FVec Ideal ⟨2, ![16384, 8]⟩ .f32 :=
  fun i => logLogistic (projected x g w (i 0) ⟨1536 + (i 1).val, Nat.add_lt_add_left (i 1).isLt 1536⟩ + b (ix1 (i 1)))

theorem exp_nonneg (v : EReal) : 0 ≤ Ideal.exp v := by
  induction v using EReal.rec with
  | bot => exact le_refl _
  | top => exact le_top
  | coe r => exact EReal.coe_nonneg.mpr (Real.exp_pos r).le

theorem log1p_nonneg (v : EReal) (h : 0 ≤ v) : 0 ≤ Ideal.log1p v := by
  unfold Ideal.log1p
  induction v using EReal.rec with
  | bot => exact absurd h (by simp)
  | top => exact le_top.trans_eq (by rw [show (1 : EReal) + ⊤ = ⊤ from EReal.add_top_of_ne_bot (EReal.coe_ne_bot 1), Ideal.log_top])
  | coe r =>
    have h0 : 0 ≤ r := EReal.coe_nonneg.mp h
    rw [show (1 : EReal) + (r : EReal) = ((1 + r : ℝ) : EReal) from rfl, Ideal.log_coe, if_neg (by linarith)]
    exact EReal.coe_nonneg.mpr (Real.log_nonneg (by linarith))

/-- The negative of the softplus of the negative is the log of the logistic function. -/
theorem softplus_neg (f : EReal) : -(max (-f) 0 + Ideal.log1p (Ideal.exp (-(max (-f - 0) (-(-f - 0)))))) = logLogistic f := by
  have hl := log1p_nonneg _ (exp_nonneg (-(max f (-f))))
  rw [sub_zero, neg_neg, max_comm (-f) f]
  unfold logLogistic
  rw [zero_sub, EReal.neg_add (Or.inl (ne_of_gt (lt_of_lt_of_le EReal.bot_lt_zero (le_max_right _ _))))
    (Or.inr (ne_of_gt (lt_of_lt_of_le EReal.bot_lt_zero hl)))]
  congr 1
  rcases le_total f 0 with h | h
  · rw [min_eq_left h, max_eq_left (EReal.neg_nonneg.mpr h), neg_neg]
  · rw [min_eq_right h, max_eq_right ((EReal.neg_le_neg_iff.mpr h).trans_eq neg_zero), neg_zero]

end Cert.Gated

namespace Cert.ProjectReferenceIdeal.Heads

open Cert.ProjectReferenceIdeal Cert.ProjectReferenceIdeal.Gen Cert.ProjectReferenceIdeal.Read Idealize.ShloMosaic Idealize.ShloMosaic.TcCoe Idealize.SL.Sem Cert.Gated
open Cert.FfnReferenceIdeal.Conv (same1 same2)

variable (x : FVec Ideal ⟨2, ![16384, 1024]⟩ .f32) (g : FVec Ideal ⟨1, ![1024]⟩ .f32) (w : FVec Ideal ⟨2, ![1024, 1544]⟩ .f32)
  (b : FVec Ideal ⟨1, ![8]⟩ .f32)

theorem squares_at (t : Fin 16384) : val_main_v1 (F := Ideal) x (ix1 t) = ∑ k : Fin 1024, x (ix2 t k) * x (ix2 t k) := by
  rw [val_main_v1_apply, show val_main_cst (F := Ideal) (Shape.Idx.first h_S_) = 0 from Ideal.ofBits_zero .f32, zero_add]
  refine Finset.sum_congr rfl fun k _ => ?_
  rw [same2 (idx_main_v1 (ix1 t) k) t k rfl rfl, val_main_v0_apply]
  rfl

/-- The reference's rows. -/
theorem rows_at (t : Fin 16384) (k : Fin 1024) : val_main_v12 (F := Ideal) x g (ix2 t k) = normed (fun a => x (ix2 t a)) (fun a => g (ix1 a)) k := by
  rw [val_main_v12_apply, val_main_v9_apply, val_main_v11_apply, val_main_v10_apply, val_main_v8_apply, val_main_v7_apply, val_main_v6_apply,
    val_main_v4_apply, val_main_v2_apply, val_main_v3_apply, val_main_v5_apply, val_main_cst_0_apply, val_main_cst_1_apply,
    same1 (idx_main_v10 (idx_main_v11 (ix2 t k))) k rfl, same1 (idx_main_v2 (idx_main_v8 (ix2 t k))) t rfl, squares_at]
  rfl

/-- Its products. -/
theorem products_at (i : S16384x1544.Idx) : val_main_v13 (F := Ideal) x g w i = projected x g w (i 0) (i 1) := by
  obtain ⟨t, j, rfl⟩ : ∃ (t : Fin 16384) (j : Fin 1544), i = ix2 t j := ⟨i 0, i 1, eq_ix2 i⟩
  rw [val_main_v13_apply]
  refine Finset.sum_congr rfl fun k _ => ?_
  rw [same2 (lidx_main_v13 (ix2 t j) k) t k rfl rfl, same2 (ridx_main_v13 (ix2 t j) k) k j rfl rfl, rows_at]
  rfl

theorem first_values : val_main_v14 (F := Ideal) x g w = columns x g w 640 (by omega) := by
  funext i
  rw [val_main_v14_apply, products_at]
  rfl

theorem second_keys : val_main_v15 (F := Ideal) x g w = columns x g w 1280 (by omega) := by
  funext i
  rw [val_main_v15_apply, products_at]
  rfl

theorem second_values : val_main_v16 (F := Ideal) x g w = columns x g w 1408 (by omega) := by
  funext i
  rw [val_main_v16_apply, products_at]
  rfl

/-- The gates' columns with their offsets. -/
theorem gates_at (i : S16384x8.Idx) : val_main_v20 (F := Ideal) x g w b i
    = projected x g w (i 0) ⟨1536 + (i 1).val, Nat.add_lt_add_left (i 1).isLt 1536⟩ + b (ix1 (i 1)) := by
  rw [val_main_v20_apply, val_main_v17_apply, products_at, val_main_v19_apply, val_main_v18_apply, same1 (idx_main_v18 (idx_main_v19 i)) (i 1) rfl]
  rfl

theorem logs : val_main_v21 (F := Ideal) x g w b = forgets x g w b := by
  funext i
  rw [val_main_v21_apply, val_main_call0_v1_apply]
  have hne : val_main_call0_call0_v4 (F := Ideal) x g w b i = 0#1 := by
    rw [val_main_call0_call0_v4_apply]
    show BitVec.ofBool (decide (_ ≠ _)) = 0#1
    rw [decide_eq_false (fun h => h rfl)]
    rfl
  rw [hne, val_main_call0_call0_v11_apply, val_main_call0_call0_v1_apply, val_main_call0_call0_v10_apply, val_main_call0_call0_v9_apply,
    val_main_call0_call0_v8_apply, val_main_call0_call0_v7_apply, val_main_call0_call0_v3_apply, val_main_call0_call0_v2_apply,
    val_main_call0_call0_v0_apply, val_main_call0_v0_apply, gates_at]
  generalize hf : projected x g w (i 0) ⟨1536 + (i 1).val, Nat.add_lt_add_left (i 1).isLt 1536⟩ + b (ix1 (i 1)) = f
  rw [show ∀ j, val_main_call0_call0_cst (F := Ideal) j = 0 from fun j => Ideal.ofBits_zero .f32]
  refine Eq.trans ?_ ((softplus_neg f).trans (congrArg logLogistic hf.symm))
  rfl

end Cert.ProjectReferenceIdeal.Heads

end
-- ==== Proof.HeadsSampleReference.lean ====
/-
  The sample's first projection's columns of values and keys and the logs of its forget gates, as its reference computes them:
  every row is normed, multiplied by the weights, and sliced, and the gates' columns pass through the log of the logistic function.
-/
module

public import proofs.«01_k».proof.Proof.HeadsReference
public import proofs.«01_k».proof.Proof.Gen.ProjectSampleReferenceIdeal.Run
public import proofs.«01_k».proof.Proof.Gen.ProjectSampleReferenceIdeal.Read

@[expose] public section

set_option maxRecDepth 16384

noncomputable section

namespace Cert.Gated

open Idealize.ShloMosaic Idealize.ShloMosaic.TcCoe

variable (x : FVec Ideal ⟨2, ![128, 1024]⟩ .f32) (g : FVec Ideal ⟨1, ![1024]⟩ .f32) (w : FVec Ideal ⟨2, ![1024, 1544]⟩ .f32)
  (b : FVec Ideal ⟨1, ![8]⟩ .f32)

/-- The product of a normed row with a column of the weights. -/
def sampleProjected (t : Fin 128) (j : Fin 1544) : EReal :=
  ∑ k : Fin 1024, normed (fun a => x (ix2 t a)) (fun a => g (ix1 a)) k * w (ix2 k j)

/-- The products with 128 columns from the column `o` on. -/
def sampleColumns (o : ℕ) (ho : o + 128 ≤ 1544) : FVec Ideal ⟨2, ![128, 128]⟩ .f32 :=
  fun i => sampleProjected x g w (i 0) ⟨o + (i 1).val, lt_of_lt_of_le (Nat.add_lt_add_left (i 1).isLt o) ho⟩

/-- The logs of the forget gates. -/
def sampleForgets : FVec Ideal ⟨2, ![128, 8]⟩ .f32 :=
  fun i => logLogistic (sampleProjected x g w (i 0) ⟨1536 + (i 1).val, Nat.add_lt_add_left (i 1).isLt 1536⟩ + b (ix1 (i 1)))

end Cert.Gated

namespace Cert.ProjectSampleReferenceIdeal.Heads

open Cert.ProjectSampleReferenceIdeal Cert.ProjectSampleReferenceIdeal.Gen Cert.ProjectSampleReferenceIdeal.Read Idealize.ShloMosaic Idealize.ShloMosaic.TcCoe Idealize.SL.Sem Cert.Gated
open Cert.FfnReferenceIdeal.Conv (same1 same2)

variable (x : FVec Ideal ⟨2, ![128, 1024]⟩ .f32) (g : FVec Ideal ⟨1, ![1024]⟩ .f32) (w : FVec Ideal ⟨2, ![1024, 1544]⟩ .f32)
  (b : FVec Ideal ⟨1, ![8]⟩ .f32)

theorem squares_at (t : Fin 128) : val_main_v1 (F := Ideal) x (ix1 t) = ∑ k : Fin 1024, x (ix2 t k) * x (ix2 t k) := by
  rw [val_main_v1_apply, show val_main_cst (F := Ideal) (Shape.Idx.first h_S_) = 0 from Ideal.ofBits_zero .f32, zero_add]
  refine Finset.sum_congr rfl fun k _ => ?_
  rw [same2 (idx_main_v1 (ix1 t) k) t k rfl rfl, val_main_v0_apply]
  rfl

/-- The reference's rows. -/
theorem rows_at (t : Fin 128) (k : Fin 1024) : val_main_v12 (F := Ideal) x g (ix2 t k) = normed (fun a => x (ix2 t a)) (fun a => g (ix1 a)) k := by
  rw [val_main_v12_apply, val_main_v9_apply, val_main_v11_apply, val_main_v10_apply, val_main_v8_apply, val_main_v7_apply, val_main_v6_apply,
    val_main_v4_apply, val_main_v2_apply, val_main_v3_apply, val_main_v5_apply, val_main_cst_0_apply, val_main_cst_1_apply,
    same1 (idx_main_v10 (idx_main_v11 (ix2 t k))) k rfl, same1 (idx_main_v2 (idx_main_v8 (ix2 t k))) t rfl, squares_at]
  rfl

/-- Its products. -/
theorem products_at (i : S128x1544.Idx) : val_main_v13 (F := Ideal) x g w i = sampleProjected x g w (i 0) (i 1) := by
  obtain ⟨t, j, rfl⟩ : ∃ (t : Fin 128) (j : Fin 1544), i = ix2 t j := ⟨i 0, i 1, eq_ix2 i⟩
  rw [val_main_v13_apply]
  refine Finset.sum_congr rfl fun k _ => ?_
  rw [same2 (lidx_main_v13 (ix2 t j) k) t k rfl rfl, same2 (ridx_main_v13 (ix2 t j) k) k j rfl rfl, rows_at]
  rfl

theorem first_values : val_main_v14 (F := Ideal) x g w = sampleColumns x g w 640 (by omega) := by
  funext i
  rw [val_main_v14_apply, products_at]
  rfl

theorem second_keys : val_main_v15 (F := Ideal) x g w = sampleColumns x g w 1280 (by omega) := by
  funext i
  rw [val_main_v15_apply, products_at]
  rfl

theorem second_values : val_main_v16 (F := Ideal) x g w = sampleColumns x g w 1408 (by omega) := by
  funext i
  rw [val_main_v16_apply, products_at]
  rfl

/-- The gates' columns with their offsets. -/
theorem gates_at (i : S128x8.Idx) : val_main_v20 (F := Ideal) x g w b i
    = sampleProjected x g w (i 0) ⟨1536 + (i 1).val, Nat.add_lt_add_left (i 1).isLt 1536⟩ + b (ix1 (i 1)) := by
  rw [val_main_v20_apply, val_main_v17_apply, products_at, val_main_v19_apply, val_main_v18_apply, same1 (idx_main_v18 (idx_main_v19 i)) (i 1) rfl]
  rfl

theorem logs : val_main_v21 (F := Ideal) x g w b = sampleForgets x g w b := by
  funext i
  rw [val_main_v21_apply, val_main_call0_v1_apply]
  have hne : val_main_call0_call0_v4 (F := Ideal) x g w b i = 0#1 := by
    rw [val_main_call0_call0_v4_apply]
    show BitVec.ofBool (decide (_ ≠ _)) = 0#1
    rw [decide_eq_false (fun h => h rfl)]
    rfl
  rw [hne, val_main_call0_call0_v11_apply, val_main_call0_call0_v1_apply, val_main_call0_call0_v10_apply, val_main_call0_call0_v9_apply,
    val_main_call0_call0_v8_apply, val_main_call0_call0_v7_apply, val_main_call0_call0_v3_apply, val_main_call0_call0_v2_apply,
    val_main_call0_call0_v0_apply, val_main_call0_v0_apply, gates_at]
  generalize hf : sampleProjected x g w (i 0) ⟨1536 + (i 1).val, Nat.add_lt_add_left (i 1).isLt 1536⟩ + b (ix1 (i 1)) = f
  rw [show ∀ j, val_main_call0_call0_cst (F := Ideal) j = 0 from fun j => Ideal.ofBits_zero .f32]
  refine Eq.trans ?_ ((softplus_neg f).trans (congrArg logLogistic hf.symm))
  rfl

end Cert.ProjectSampleReferenceIdeal.Heads

end
-- ==== Proof.HeadsSample.lean ====
/-
  What the sample's first projection's body leaves in its output blocks for the values, the keys and the logs of the forget gates.
-/
module

public import proofs.«01_k».proof.Proof.HeadsSampleReference
public import proofs.«01_k».proof.Proof.Gen.ProjectSampleIdeal.Value
public import Idealize.ShloMosaic.Lib.Pipeline.ValueKit.Geometry

@[expose] public section

set_option maxRecDepth 16384

noncomputable section

namespace Cert.ProjectSampleIdeal.Heads

open Cert.ProjectSampleIdeal Cert.ProjectSampleIdeal.Gen Idealize.ShloMosaic Idealize.ShloMosaic.TcCoe Idealize.SL.Sem Cert.Gated
open Cert.NormIdeal.Rows (zeros2)

section
variable {F : FTy → Type} [FloatOps F]

/-- A whole load of a whole buffer reads its contents. -/
theorem whole_read {s : Shape} {e : EltTy} (a : Memref sig .tc .vmem s e) (h : a.IsWhole) (x : Vec F s e) {off : Fin s.rank → ℕ} (inb) (ho : off = fun _ => 0) :
    (View.readAt (Elt F) a.view (Rect.unit (s := s) off s.size inb).toLoadRect (h.unread x) : Vec F s e) = x := by
  rw [View.readAt_eq_ld, h.read_unread]
  exact View.ld_unit_zero ho inb x

variable (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x1664 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S128x512 .bf16) (harg11 : arg11.IsWhole) (arg12 : Memref sig .tc .vmem S128x128 .f32) (harg12 : arg12.IsWhole) (arg13 : Memref sig .tc .vmem S128x128 .f32) (harg13 : arg13.IsWhole) (arg14 : Memref sig .tc .vmem S128x8 .f32) (harg14 : arg14.IsWhole) (arg15 : Memref sig .tc .vmem S128x8 .bf16) (harg15 : arg15.IsWhole) (arg16 : Memref sig .tc .vmem S128x8 .bf16) (harg16 : arg16.IsWhole) (arg17 : Memref sig .tc .vmem S128x8 .bf16) (harg17 : arg17.IsWhole) (arg18 : Memref sig .tc .vmem S1x128 .f32) (harg18 : arg18.IsWhole)
  (x0 : Vec F S128x1024 .f32) (x1 : Vec F S1x1024 .f32) (x2 : Vec F S1024x1664 .bf16) (x3 : Vec F S1x128 .f32) (x4 x5 x6 : Vec F S128x128 .f32)

/-- The product of the normed rows. -/
theorem productA : kernelRun0_A.sl.r c arg1 harg1 arg2 harg2 arg3 harg3 x0 x1 x2 = k0_pay7 x0 x1 x2 := by
  unfold kernelRun0_A.sl.r
  rw [whole_read arg1 harg1 x0 _ zeros2, whole_read arg2 harg2 x1 _ zeros2, whole_read arg3 harg3 x2 _ zeros2]

theorem leftA9 (hc0 : cond0_0 i) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 = k0_pay16 (k0_pay7 x0 x1 x2) := by
  unfold out0_A_9
  rw [View.read_writes_junk_eq_canon]
  unfold kernelRun0_A
  dsimp only
  refine (View.canon_unit_zero zeros2 inb_S128x128_S128x128_0_0 _).trans ?_
  rw [productA]

theorem leftA11 (hc0 : cond0_0 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 = k0_pay20 (k0_pay7 x0 x1 x2) := by
  unfold out0_A_11
  rw [View.read_writes_junk_eq_canon]
  unfold kernelRun0_A
  dsimp only
  refine (View.canon_unit_zero zeros2 inb_S128x128_S128x128_0_0 _).trans ?_
  rw [productA]

theorem leftA12 (hc0 : cond0_0 i) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 = k0_pay21 (k0_pay7 x0 x1 x2) := by
  unfold out0_A_12
  rw [View.read_writes_junk_eq_canon]
  unfold kernelRun0_A
  dsimp only
  refine (View.canon_unit_zero zeros2 inb_S128x128_S128x128_0_0 _).trans ?_
  rw [productA]

theorem leftA13 (hc0 : cond0_0 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 = k0_pay23 (k0_pay7 x0 x1 x2) x3 := by
  unfold out0_A_13
  rw [View.read_writes_junk_eq_canon]
  unfold kernelRun0_A
  dsimp only
  refine (View.canon_unit_zero zeros2 inb_S128x8_S128x8_0_0 _).trans ?_
  rw [productA, whole_read arg4 harg4 x3 _ zeros2]

end

section
variable (x : Vec Ideal S128x1024 .f32) (g : Vec Ideal S1x1024 .f32) (w : Vec Ideal S1024x1664 .bf16) (b : Vec Ideal S1x128 .f32)

/-- The product of the normed rows of a tile, at an index. -/
theorem product_apply (r : Fin 128) (j : Fin 1664) :
    k0_pay7 x g w (ix2 r j) = ∑ k : Fin 1024, normed (fun a => x (ix2 r a)) (fun a => g (ix2 0 a)) k * w (ix2 k j) := by
  unfold k0_pay7 normed
  pointwise

theorem first_values_apply (v : FVec Ideal S128x1664 .f32) (r : Fin 128) (j : Fin 128) : k0_pay16 v (ix2 r j) = v (ix2 r ⟨640 + j.val, by omega⟩) := by
  unfold k0_pay16
  pointwise

theorem second_keys_apply (v : FVec Ideal S128x1664 .f32) (r : Fin 128) (j : Fin 128) : k0_pay20 v (ix2 r j) = v (ix2 r ⟨1280 + j.val, by omega⟩) := by
  unfold k0_pay20
  pointwise

theorem second_values_apply (v : FVec Ideal S128x1664 .f32) (r : Fin 128) (j : Fin 128) : k0_pay21 v (ix2 r j) = v (ix2 r ⟨1408 + j.val, by omega⟩) := by
  unfold k0_pay21
  pointwise

theorem logs_apply (v : FVec Ideal S128x1664 .f32) (r : Fin 128) (j : Fin 8) :
    k0_pay23 v b (ix2 r j) = logLogistic (v (ix2 r ⟨1536 + j.val, by omega⟩) + b (ix2 0 ⟨j.val, by omega⟩)) := by
  unfold k0_pay23 k0_pay22 logLogistic
  pointwise
  rfl

end

variable (m : (ℓ : Loc nD τ sig) → Buf (Elt Ideal) ℓ) (c : Dev nD)

/-- The rows, their scales, the weights and the offsets of the gates. -/
abbrev xs : FVec Ideal ⟨2, ![128, 1024]⟩ .f32 := m ((c : Thread nD τ).loc main_arg0)
abbrev gs : FVec Ideal ⟨1, ![1024]⟩ .f32 := m ((c : Thread nD τ).loc main_arg1)
abbrev ws : FVec Ideal ⟨2, ![1024, 1544]⟩ .f32 := m ((c : Thread nD τ).loc main_arg2)
abbrev bs : FVec Ideal ⟨1, ![8]⟩ .f32 := m ((c : Thread nD τ).loc main_arg3)

/-- The scales as one row, as the launch finds them. -/
theorem scales_laid (k : Fin 1024) : (V m c main_v6 : FVec Ideal S1x1024 .f32) (ix2 0 k) = gs m c (ix1 k) := by
  have h : (V m c main_v6 : FVec Ideal S1x1024 .f32) = shapeCast S1x1024 (gs m c) shapeCasts_S1024_S1x1024 := by
    unfold V
    simp only [List.flatten_cons, List.flatten_nil, List.append_nil, List.cons_append, List.nil_append, hostOps0, hostOps0_1, hostOps0_2, hostOps0_3, hostOps0_4, hostOps0_5]
    after_results_simp
    rfl
  rw [h]
  pointwise

/-- The weights, with columns of zeros after them. -/
theorem weights_laid (k : Fin 1024) (j : Fin 1664) (h : j.val < 1544) :
    (V m c main_v2 : FVec Ideal S1024x1664 .bf16) (ix2 k j) = ws m c (ix2 k ⟨j.val, h⟩) := by
  have e : (V m c main_v2 : FVec Ideal S1024x1664 .bf16) = truncf .bf16 (concatenate S1024x1664 1 [⟨S1024x1544, ws m c⟩,
      ⟨S1024x120, broadcastInDim S1024x120 ![] bcast_S_S1024x120 (constant S_ .f32 0x00000000#32 : FVec Ideal S_ .f32)⟩] concatenates_S1024x1544_S1024x120_S1024x1664_d1) bitsLt_bf16_f32 := by
    unfold V
    simp only [List.flatten_cons, List.flatten_nil, List.append_nil, List.cons_append, List.nil_append, hostOps0, hostOps0_1, hostOps0_2, hostOps0_3, hostOps0_4, hostOps0_5]
    after_results_simp
    rfl
  rw [e]
  refine concatenate_pair_apply_left (s₁ := S1024x1544) (s₂ := S1024x120) (t := S1024x1664) 1 _ _ concatenates_S1024x1544_S1024x120_S1024x1664_d1 (ix2 k j) rfl (ix2 k (⟨j.val, h⟩ : Fin 1544)) (fun a => ?_)
  match a with
  | ⟨0, _⟩ => rfl
  | ⟨1, _⟩ => rfl

/-- The offsets, with zeros after them. -/
theorem offsets_laid (j : Fin 128) (h : j.val < 8) : (V m c main_v5 : FVec Ideal S1x128 .f32) (ix2 0 j) = bs m c (ix1 ⟨j.val, h⟩) := by
  have e : (V m c main_v5 : FVec Ideal S1x128 .f32) = shapeCast S1x128 (concatenate S128 0 [⟨S8, bs m c⟩,
      ⟨S120, broadcastInDim S120 ![] bcast_S_S120 (constant S_ .f32 0x00000000#32 : FVec Ideal S_ .f32)⟩] concatenates_S8_S120_S128_d0) shapeCasts_S128_S1x128 := by
    unfold V
    simp only [List.flatten_cons, List.flatten_nil, List.append_nil, List.cons_append, List.nil_append, hostOps0, hostOps0_1, hostOps0_2, hostOps0_3, hostOps0_4, hostOps0_5]
    after_results_simp
    rfl
  have flat : ∀ v : FVec Ideal S128 .f32, shapeCast S1x128 v shapeCasts_S128_S1x128 (ix2 0 j) = v (ix1 j) := fun v => by pointwise
  rw [e, flat]
  refine concatenate_pair_apply_left (s₁ := S8) (s₂ := S120) (t := S128) 0 _ _ _ (ix1 j) rfl (ix1 (⟨j.val, h⟩ : Fin 8)) (fun a => ?_)
  match a with
  | ⟨0, _⟩ => rfl

theorem places : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) :=
  (by decide +kernel : ∀ t : Fin grid0.N, _)

theorem point_lt (t : Fin cfg0.N) : t.val < 1 := lt_of_lt_of_eq t.isLt (show cfg0.N = 1 from N_0)

/-- A row of the array from its tile. -/
abbrev place (t : Fin cfg0.N) (r : Fin 128) : Fin 128 := ⟨128 * t.val + r.val, by have := point_lt t; omega⟩

theorem rows_block (t : Fin cfg0.N) (r : Fin 128) (k : Fin 1024) :
    (iblk m c 0 t : Vec Ideal S128x1024 .f32) (ix2 r k) = xs m c (ix2 (place t r) k) := by
  obtain ⟨⟨h0, h1⟩, -⟩ := places t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t 0 * 128 + 1 * r.val = 128 * t.val + r.val; rw [h0]; omega
  | ⟨1, _⟩ => show win0_0.index t 1 * 1024 + 1 * k.val = k.val; rw [h1]; omega

theorem scales_block (t : Fin cfg0.N) (k : Fin 1024) : (iblk m c 1 t : Vec Ideal S1x1024 .f32) (ix2 0 k) = gs m c (ix1 k) := by
  obtain ⟨-, ⟨h0, h1⟩, -⟩ := places t
  rw [← scales_laid]
  unfold iblk
  rw [View.read_apply]
  show V m c main_v6 _ = V m c main_v6 _
  refine congrArg (V m c main_v6) ?_
  funext a
  apply Fin.ext
  match a with
  | ⟨0, _⟩ => show win0_1.index t 0 * 1 + 1 * 0 = 0; rw [h0]
  | ⟨1, _⟩ => show win0_1.index t 1 * 1024 + 1 * k.val = k.val; rw [h1]; omega

theorem weights_block (t : Fin cfg0.N) (k : Fin 1024) (j : Fin 1664) (h : j.val < 1544) :
    (iblk m c 2 t : Vec Ideal S1024x1664 .bf16) (ix2 k j) = ws m c (ix2 k ⟨j.val, h⟩) := by
  obtain ⟨-, -, ⟨h0, h1⟩, -⟩ := places t
  rw [← weights_laid m c k j h]
  unfold iblk
  rw [View.read_apply]
  show V m c main_v2 _ = V m c main_v2 _
  refine congrArg (V m c main_v2) ?_
  funext a
  apply Fin.ext
  match a with
  | ⟨0, _⟩ => show win0_2.index t 0 * 1024 + 1 * k.val = k.val; rw [h0]; omega
  | ⟨1, _⟩ => show win0_2.index t 1 * 1664 + 1 * j.val = j.val; rw [h1]; omega

theorem offsets_block (t : Fin cfg0.N) (j : Fin 128) (h : j.val < 8) : (iblk m c 3 t : Vec Ideal S1x128 .f32) (ix2 0 j) = bs m c (ix1 ⟨j.val, h⟩) := by
  obtain ⟨-, -, -, ⟨h0, h1⟩⟩ := places t
  rw [← offsets_laid m c j h]
  unfold iblk
  rw [View.read_apply]
  show V m c main_v5 _ = V m c main_v5 _
  refine congrArg (V m c main_v5) ?_
  funext a
  apply Fin.ext
  match a with
  | ⟨0, _⟩ => show win0_3.index t 0 * 1 + 1 * 0 = 0; rw [h0]
  | ⟨1, _⟩ => show win0_3.index t 1 * 128 + 1 * j.val = j.val; rw [h1]; omega

/-- The products of tile `t`. -/
abbrev made (t : Fin cfg0.N) : FVec Ideal S128x1664 .f32 := k0_pay7 (iblk m c 0 t) (iblk m c 1 t) (iblk m c 2 t)

theorem made_apply (t : Fin cfg0.N) (r : Fin 128) (j : Fin 1664) (h : j.val < 1544) :
    made m c t (ix2 r j) = sampleProjected (xs m c) (gs m c) (ws m c) (place t r) ⟨j.val, h⟩ := by
  refine (product_apply _ _ _ r j).trans (Finset.sum_congr rfl fun k _ => ?_)
  rw [weights_block m c t k j h]
  exact congrArg (· * _) (congrArg₂ (normed · · k) (funext fun a => rows_block m c t r a) (funext fun a => scales_block m c t a))

theorem outs_places : ∀ t : Fin cfg0.N,
    (win0_9.index t 0 = t.val ∧ win0_9.index t 1 = 0) ∧ (win0_11.index t 0 = t.val ∧ win0_11.index t 1 = 0)
    ∧ (win0_12.index t 0 = t.val ∧ win0_12.index t 1 = 0) ∧ (win0_13.index t 0 = t.val ∧ win0_13.index t 1 = 0) :=
  (by decide +kernel : ∀ t : Fin grid0.N, _)

/-- A tile's first values are those of the array. -/
theorem flushed_first_values (t : Fin cfg0.N) (_ : (cfg0.win 9).flush t = true) :
    (dats m 0 c).flushed 9 t = ((cfg0.win 9).blk t).view.read (Elt Ideal) (sampleColumns (xs m c) (gs m c) (ws m c) 640 (by omega)) := by
  obtain ⟨⟨h0, h1⟩, -⟩ := outs_places t
  rw [Value.flushed9_A, leftA9]
  have key : ∀ (y : S128x128.Idx) (z : S128x128.Idx), (z 0).val = 128 * t.val + (y 0).val → (z 1).val = (y 1).val →
      k0_pay16 (made m c t) y = sampleColumns (xs m c) (gs m c) (ws m c) 640 (by omega) z := by
    intro y z e0 e1
    obtain ⟨r, e, rfl⟩ : ∃ (r : Fin 128) (e : Fin 128), y = ix2 r e := ⟨y 0, y 1, eq_ix2 y⟩
    obtain ⟨r', e', rfl⟩ : ∃ (r' : Fin 128) (e' : Fin 128), z = ix2 r' e' := ⟨z 0, z 1, eq_ix2 z⟩
    obtain rfl : r' = place t r := Fin.ext e0
    obtain rfl : e' = e := Fin.ext e1
    refine (first_values_apply _ r e').trans ?_
    exact made_apply m c t r _ (show 640 + e'.val < 1544 by have := e'.isLt; omega)
  funext y
  rw [View.read_apply]
  have z0 : (((cfg0.win 9).blk t).view.emb y 0 : ℕ) = 128 * t.val + (y 0).val := by
    blk_simp [h0]
    omega
  have z1 : (((cfg0.win 9).blk t).view.emb y 1 : ℕ) = (y 1).val := by
    blk_simp [h1]
  rw [Pipeline.Window.cut_apply]
  refine (key ((cfg0.win 9).xinj (grid0.coords t) y) (((cfg0.win 9).blk t).view.emb y) z0 z1).trans ?_
  exact (cast_eq _ _).symm

theorem flushes_first_values : ∀ t : Fin cfg0.N, (cfg0.win 9).flush t = true := (by decide +kernel : ∀ t : Fin grid0.N, win0_9.flush t = true)

theorem mem_first_values (t : Fin cfg0.N) (i : S128x128.Idx) : i ∈ ((cfg0.win 9).blk t).view.set
    ↔ ∀ a : Fin 2, win0_9.index t a * S128x128.size a ≤ (i a).val ∧ (i a).val < win0_9.index t a * S128x128.size a + S128x128.size a := by
  show i ∈ ((View.whole main_v43_2).slice (win0_9.rect t)).set ↔ _
  rw [View.set_slice_whole, Rect.mem_set_unit]
  exact Iff.rfl

theorem first_values_array : (dats m 0 c).arrAt 9 cfg0.N = sampleColumns (xs m c) (gs m c) (ws m c) 640 (by omega) :=
  (dats m 0 c).arrAt_eq_of_cover 9 _ (flushed_first_values m c) fun i => by
    have b0 : (i 0).val < 128 := (i 0).isLt
    have b1 : (i 1).val < 128 := (i 1).isLt
    have hn : (i 0).val / 128 < cfg0.N := by rw [show cfg0.N = 1 from N_0]; omega
    obtain ⟨⟨h0, h1⟩, -⟩ := outs_places ⟨(i 0).val / 128, hn⟩
    refine ⟨⟨(i 0).val / 128, hn⟩, flushes_first_values _, ?_⟩
    rw [mem_first_values]
    intro a
    match a with
    | ⟨0, _⟩ =>
      show win0_9.index ⟨(i 0).val / 128, hn⟩ 0 * 128 ≤ (i 0).val ∧ (i 0).val < win0_9.index ⟨(i 0).val / 128, hn⟩ 0 * 128 + 128
      rw [h0]
      show (i 0).val / 128 * 128 ≤ (i 0).val ∧ (i 0).val < (i 0).val / 128 * 128 + 128
      omega
    | ⟨1, _⟩ =>
      show win0_9.index ⟨(i 0).val / 128, hn⟩ 1 * 128 ≤ (i 1).val ∧ (i 1).val < win0_9.index ⟨(i 0).val / 128, hn⟩ 1 * 128 + 128
      rw [h1]
      omega

/-- A tile's second keys are those of the array. -/
theorem flushed_second_keys (t : Fin cfg0.N) (_ : (cfg0.win 11).flush t = true) :
    (dats m 0 c).flushed 11 t = ((cfg0.win 11).blk t).view.read (Elt Ideal) (sampleColumns (xs m c) (gs m c) (ws m c) 1280 (by omega)) := by
  obtain ⟨-, ⟨h0, h1⟩, -⟩ := outs_places t
  rw [Value.flushed11_A, leftA11]
  have key : ∀ (y : S128x128.Idx) (z : S128x128.Idx), (z 0).val = 128 * t.val + (y 0).val → (z 1).val = (y 1).val →
      k0_pay20 (made m c t) y = sampleColumns (xs m c) (gs m c) (ws m c) 1280 (by omega) z := by
    intro y z e0 e1
    obtain ⟨r, e, rfl⟩ : ∃ (r : Fin 128) (e : Fin 128), y = ix2 r e := ⟨y 0, y 1, eq_ix2 y⟩
    obtain ⟨r', e', rfl⟩ : ∃ (r' : Fin 128) (e' : Fin 128), z = ix2 r' e' := ⟨z 0, z 1, eq_ix2 z⟩
    obtain rfl : r' = place t r := Fin.ext e0
    obtain rfl : e' = e := Fin.ext e1
    refine (second_keys_apply _ r e').trans ?_
    exact made_apply m c t r _ (show 1280 + e'.val < 1544 by have := e'.isLt; omega)
  funext y
  rw [View.read_apply]
  have z0 : (((cfg0.win 11).blk t).view.emb y 0 : ℕ) = 128 * t.val + (y 0).val := by
    blk_simp [h0]
    omega
  have z1 : (((cfg0.win 11).blk t).view.emb y 1 : ℕ) = (y 1).val := by
    blk_simp [h1]
  rw [Pipeline.Window.cut_apply]
  refine (key ((cfg0.win 11).xinj (grid0.coords t) y) (((cfg0.win 11).blk t).view.emb y) z0 z1).trans ?_
  exact (cast_eq _ _).symm

theorem flushes_second_keys : ∀ t : Fin cfg0.N, (cfg0.win 11).flush t = true := (by decide +kernel : ∀ t : Fin grid0.N, win0_11.flush t = true)

theorem mem_second_keys (t : Fin cfg0.N) (i : S128x128.Idx) : i ∈ ((cfg0.win 11).blk t).view.set
    ↔ ∀ a : Fin 2, win0_11.index t a * S128x128.size a ≤ (i a).val ∧ (i a).val < win0_11.index t a * S128x128.size a + S128x128.size a := by
  show i ∈ ((View.whole main_v43_4).slice (win0_11.rect t)).set ↔ _
  rw [View.set_slice_whole, Rect.mem_set_unit]
  exact Iff.rfl

theorem second_keys_array : (dats m 0 c).arrAt 11 cfg0.N = sampleColumns (xs m c) (gs m c) (ws m c) 1280 (by omega) :=
  (dats m 0 c).arrAt_eq_of_cover 11 _ (flushed_second_keys m c) fun i => by
    have b0 : (i 0).val < 128 := (i 0).isLt
    have b1 : (i 1).val < 128 := (i 1).isLt
    have hn : (i 0).val / 128 < cfg0.N := by rw [show cfg0.N = 1 from N_0]; omega
    obtain ⟨-, ⟨h0, h1⟩, -⟩ := outs_places ⟨(i 0).val / 128, hn⟩
    refine ⟨⟨(i 0).val / 128, hn⟩, flushes_second_keys _, ?_⟩
    rw [mem_second_keys]
    intro a
    match a with
    | ⟨0, _⟩ =>
      show win0_11.index ⟨(i 0).val / 128, hn⟩ 0 * 128 ≤ (i 0).val ∧ (i 0).val < win0_11.index ⟨(i 0).val / 128, hn⟩ 0 * 128 + 128
      rw [h0]
      show (i 0).val / 128 * 128 ≤ (i 0).val ∧ (i 0).val < (i 0).val / 128 * 128 + 128
      omega
    | ⟨1, _⟩ =>
      show win0_11.index ⟨(i 0).val / 128, hn⟩ 1 * 128 ≤ (i 1).val ∧ (i 1).val < win0_11.index ⟨(i 0).val / 128, hn⟩ 1 * 128 + 128
      rw [h1]
      omega

/-- A tile's second values are those of the array. -/
theorem flushed_second_values (t : Fin cfg0.N) (_ : (cfg0.win 12).flush t = true) :
    (dats m 0 c).flushed 12 t = ((cfg0.win 12).blk t).view.read (Elt Ideal) (sampleColumns (xs m c) (gs m c) (ws m c) 1408 (by omega)) := by
  obtain ⟨-, -, ⟨h0, h1⟩, -⟩ := outs_places t
  rw [Value.flushed12_A, leftA12]
  have key : ∀ (y : S128x128.Idx) (z : S128x128.Idx), (z 0).val = 128 * t.val + (y 0).val → (z 1).val = (y 1).val →
      k0_pay21 (made m c t) y = sampleColumns (xs m c) (gs m c) (ws m c) 1408 (by omega) z := by
    intro y z e0 e1
    obtain ⟨r, e, rfl⟩ : ∃ (r : Fin 128) (e : Fin 128), y = ix2 r e := ⟨y 0, y 1, eq_ix2 y⟩
    obtain ⟨r', e', rfl⟩ : ∃ (r' : Fin 128) (e' : Fin 128), z = ix2 r' e' := ⟨z 0, z 1, eq_ix2 z⟩
    obtain rfl : r' = place t r := Fin.ext e0
    obtain rfl : e' = e := Fin.ext e1
    refine (second_values_apply _ r e').trans ?_
    exact made_apply m c t r _ (show 1408 + e'.val < 1544 by have := e'.isLt; omega)
  funext y
  rw [View.read_apply]
  have z0 : (((cfg0.win 12).blk t).view.emb y 0 : ℕ) = 128 * t.val + (y 0).val := by
    blk_simp [h0]
    omega
  have z1 : (((cfg0.win 12).blk t).view.emb y 1 : ℕ) = (y 1).val := by
    blk_simp [h1]
  rw [Pipeline.Window.cut_apply]
  refine (key ((cfg0.win 12).xinj (grid0.coords t) y) (((cfg0.win 12).blk t).view.emb y) z0 z1).trans ?_
  exact (cast_eq _ _).symm

theorem flushes_second_values : ∀ t : Fin cfg0.N, (cfg0.win 12).flush t = true := (by decide +kernel : ∀ t : Fin grid0.N, win0_12.flush t = true)

theorem mem_second_values (t : Fin cfg0.N) (i : S128x128.Idx) : i ∈ ((cfg0.win 12).blk t).view.set
    ↔ ∀ a : Fin 2, win0_12.index t a * S128x128.size a ≤ (i a).val ∧ (i a).val < win0_12.index t a * S128x128.size a + S128x128.size a := by
  show i ∈ ((View.whole main_v43_5).slice (win0_12.rect t)).set ↔ _
  rw [View.set_slice_whole, Rect.mem_set_unit]
  exact Iff.rfl

theorem second_values_array : (dats m 0 c).arrAt 12 cfg0.N = sampleColumns (xs m c) (gs m c) (ws m c) 1408 (by omega) :=
  (dats m 0 c).arrAt_eq_of_cover 12 _ (flushed_second_values m c) fun i => by
    have b0 : (i 0).val < 128 := (i 0).isLt
    have b1 : (i 1).val < 128 := (i 1).isLt
    have hn : (i 0).val / 128 < cfg0.N := by rw [show cfg0.N = 1 from N_0]; omega
    obtain ⟨-, -, ⟨h0, h1⟩, -⟩ := outs_places ⟨(i 0).val / 128, hn⟩
    refine ⟨⟨(i 0).val / 128, hn⟩, flushes_second_values _, ?_⟩
    rw [mem_second_values]
    intro a
    match a with
    | ⟨0, _⟩ =>
      show win0_12.index ⟨(i 0).val / 128, hn⟩ 0 * 128 ≤ (i 0).val ∧ (i 0).val < win0_12.index ⟨(i 0).val / 128, hn⟩ 0 * 128 + 128
      rw [h0]
      show (i 0).val / 128 * 128 ≤ (i 0).val ∧ (i 0).val < (i 0).val / 128 * 128 + 128
      omega
    | ⟨1, _⟩ =>
      show win0_12.index ⟨(i 0).val / 128, hn⟩ 1 * 128 ≤ (i 1).val ∧ (i 1).val < win0_12.index ⟨(i 0).val / 128, hn⟩ 1 * 128 + 128
      rw [h1]
      omega

/-- A tile's logs are those of the array. -/
theorem flushed_logs (t : Fin cfg0.N) (_ : (cfg0.win 13).flush t = true) :
    (dats m 0 c).flushed 13 t = ((cfg0.win 13).blk t).view.read (Elt Ideal) (sampleForgets (xs m c) (gs m c) (ws m c) (bs m c)) := by
  obtain ⟨-, -, -, ⟨h0, h1⟩⟩ := outs_places t
  rw [Value.flushed13_A, leftA13]
  have key : ∀ (y : S128x8.Idx) (z : S128x8.Idx), (z 0).val = 128 * t.val + (y 0).val → (z 1).val = (y 1).val →
      k0_pay23 (made m c t) (iblk m c 3 t) y = sampleForgets (xs m c) (gs m c) (ws m c) (bs m c) z := by
    intro y z e0 e1
    obtain ⟨r, e, rfl⟩ : ∃ (r : Fin 128) (e : Fin 8), y = ix2 r e := ⟨y 0, y 1, eq_ix2 y⟩
    obtain ⟨r', e', rfl⟩ : ∃ (r' : Fin 128) (e' : Fin 8), z = ix2 r' e' := ⟨z 0, z 1, eq_ix2 z⟩
    obtain rfl : r' = place t r := Fin.ext e0
    obtain rfl : e' = e := Fin.ext e1
    refine (logs_apply _ _ r e').trans ?_
    exact congrArg logLogistic (congrArg₂ (· + ·) (made_apply m c t r _ (show 1536 + e'.val < 1544 by have := e'.isLt; omega)) (offsets_block m c t _ e'.isLt))
  funext y
  rw [View.read_apply]
  have z0 : (((cfg0.win 13).blk t).view.emb y 0 : ℕ) = 128 * t.val + (y 0).val := by
    blk_simp [h0]
    omega
  have z1 : (((cfg0.win 13).blk t).view.emb y 1 : ℕ) = (y 1).val := by
    blk_simp [h1]
  rw [Pipeline.Window.cut_apply]
  refine (key ((cfg0.win 13).xinj (grid0.coords t) y) (((cfg0.win 13).blk t).view.emb y) z0 z1).trans ?_
  exact (cast_eq _ _).symm

theorem flushes_logs : ∀ t : Fin cfg0.N, (cfg0.win 13).flush t = true := (by decide +kernel : ∀ t : Fin grid0.N, win0_13.flush t = true)

theorem mem_logs (t : Fin cfg0.N) (i : S128x8.Idx) : i ∈ ((cfg0.win 13).blk t).view.set
    ↔ ∀ a : Fin 2, win0_13.index t a * S128x8.size a ≤ (i a).val ∧ (i a).val < win0_13.index t a * S128x8.size a + S128x8.size a := by
  show i ∈ ((View.whole main_v43_6).slice (win0_13.rect t)).set ↔ _
  rw [View.set_slice_whole, Rect.mem_set_unit]
  exact Iff.rfl

theorem logs_array : (dats m 0 c).arrAt 13 cfg0.N = sampleForgets (xs m c) (gs m c) (ws m c) (bs m c) :=
  (dats m 0 c).arrAt_eq_of_cover 13 _ (flushed_logs m c) fun i => by
    have b0 : (i 0).val < 128 := (i 0).isLt
    have b1 : (i 1).val < 8 := (i 1).isLt
    have hn : (i 0).val / 128 < cfg0.N := by rw [show cfg0.N = 1 from N_0]; omega
    obtain ⟨-, -, -, ⟨h0, h1⟩⟩ := outs_places ⟨(i 0).val / 128, hn⟩
    refine ⟨⟨(i 0).val / 128, hn⟩, flushes_logs _, ?_⟩
    rw [mem_logs]
    intro a
    match a with
    | ⟨0, _⟩ =>
      show win0_13.index ⟨(i 0).val / 128, hn⟩ 0 * 128 ≤ (i 0).val ∧ (i 0).val < win0_13.index ⟨(i 0).val / 128, hn⟩ 0 * 128 + 128
      rw [h0]
      show (i 0).val / 128 * 128 ≤ (i 0).val ∧ (i 0).val < (i 0).val / 128 * 128 + 128
      omega
    | ⟨1, _⟩ =>
      show win0_13.index ⟨(i 0).val / 128, hn⟩ 1 * 8 ≤ (i 1).val ∧ (i 1).val < win0_13.index ⟨(i 0).val / 128, hn⟩ 1 * 8 + 8
      rw [h1]
      omega

end Cert.ProjectSampleIdeal.Heads

end
-- ==== Proof.LatentSample.lean ====
/-
  The sample's latent rows: the kernel leaves, and its reference computes, the normed projections of the normed rows.
-/
module

public import proofs.«01_k».proof.Proof.NormSample
public import proofs.«01_k».proof.Proof.Latent
public import proofs.«01_k».proof.Proof.Gen.LatentSampleIdeal.Value
public import proofs.«01_k».proof.Proof.Gen.LatentSampleReferenceIdeal.Run
public import proofs.«01_k».proof.Proof.Gen.LatentSampleReferenceIdeal.Read
public import Idealize.ShloMosaic.Lib.Pipeline.ValueKit.Geometry

@[expose] public section

set_option maxRecDepth 16384

noncomputable section

namespace Cert.Gated

open Idealize.ShloMosaic Idealize.ShloMosaic.TcCoe

/-- The latent rows of an array. -/
def sampleLatents (x : FVec Ideal ⟨2, ![128, 1024]⟩ .f32) (g : FVec Ideal ⟨1, ![1024]⟩ .f32) (w : FVec Ideal ⟨2, ![1024, 288]⟩ .f32)
    (s : FVec Ideal ⟨1, ![256]⟩ .f32) : FVec Ideal ⟨2, ![128, 256]⟩ .f32 :=
  fun i => normedShort (fun j => ∑ k : Fin 1024, sampleRows x g (ix2 (i 0) k) * w (ix2 k (kept j))) (fun j => s (ix1 j)) (i 1)

end Cert.Gated

namespace Cert.LatentSampleIdeal.Rows

open Cert.LatentSampleIdeal Cert.LatentSampleIdeal.Gen Idealize.ShloMosaic Idealize.ShloMosaic.TcCoe Idealize.SL.Sem Cert.Gated
open Cert.NormIdeal.Rows (zeros2)

theorem normed_payload (x : Vec Ideal S128x1024 .f32) (g : Vec Ideal S1x1024 .f32) (r : Fin 128) (k : Fin 1024) :
    k0_pay3 x g (ix2 r k) = normed (fun a => x (ix2 r a)) (fun a => g (ix2 0 a)) k := by
  unfold k0_pay3 normed
  pointwise

theorem product_payload (h : FVec Ideal S128x1024 .bf16) (w : Vec Ideal S1024x384 .bf16) (r : Fin 128) (j : Fin 384) :
    k0_pay24 h w (ix2 r j) = ∑ k : Fin 1024, h (ix2 r k) * w (ix2 k j) := by
  unfold k0_pay24
  pointwise

theorem latent_payload (h : FVec Ideal S128x1024 .bf16) (w : Vec Ideal S1024x384 .bf16) (s : Vec Ideal S1x256 .f32) (r : Fin 128) (j : Fin 256) :
    k0_pay25 h w s (ix2 r j) = normedShort (fun a => k0_pay24 h w (ix2 r (keptPad a))) (fun a => s (ix2 0 a)) j := by
  unfold k0_pay25 normedShort
  generalize k0_pay24 h w = y
  have cut : ∀ (r : Fin 128) (a : Fin 256), extractStridedSlice S128x256 ![0, 0] y slices_S128x384_o0_0_S128x256 (ix2 r a) = y (ix2 r (keptPad a)) := fun r a =>
    extractStridedSlice_apply ![0, 0] y slices_S128x384_o0_0_S128x256 (ix2 r a) (ix2 r (keptPad a)) (fun d => match d with
      | ⟨0, _⟩ => by show r.val = 0 + r.val; omega
      | ⟨1, _⟩ => by show a.val = 0 + a.val; omega)
  simp only [← cut]
  generalize extractStridedSlice S128x256 ![0, 0] y slices_S128x384_o0_0_S128x256 = z
  pointwise

variable (m : (ℓ : Loc nD τ sig) → Buf (Elt Ideal) ℓ) (c : Dev nD)

/-- The rows, their scales, the weights and the latent scales. -/
abbrev xs : FVec Ideal ⟨2, ![128, 1024]⟩ .f32 := m ((c : Thread nD τ).loc main_arg0)
abbrev gs : FVec Ideal ⟨1, ![1024]⟩ .f32 := m ((c : Thread nD τ).loc main_arg1)
abbrev ws : FVec Ideal ⟨2, ![1024, 288]⟩ .f32 := m ((c : Thread nD τ).loc main_arg5)
abbrev ss : FVec Ideal ⟨1, ![256]⟩ .f32 := m ((c : Thread nD τ).loc main_arg6)

theorem scales_laid (k : Fin 1024) : (V m c main_v28 : FVec Ideal S1x1024 .f32) (ix2 0 k) = gs m c (ix1 k) := by
  have h : (V m c main_v28 : FVec Ideal S1x1024 .f32) = shapeCast S1x1024 (gs m c) shapeCasts_S1024_S1x1024 := by
    unfold V
    simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11]
    after_results_simp
    rfl
  rw [h]
  pointwise

theorem latent_scales_laid (k : Fin 256) : (V m c main_v31 : FVec Ideal S1x256 .f32) (ix2 0 k) = ss m c (ix1 k) := by
  have h : (V m c main_v31 : FVec Ideal S1x256 .f32) = shapeCast S1x256 (ss m c) shapeCasts_S256_S1x256 := by
    unfold V
    simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11]
    after_results_simp
    rfl
  rw [h]
  pointwise

/-- The weights, with columns of zeros after them. -/
theorem weights_laid (k : Fin 1024) (j : Fin 256) :
    (V m c main_v8 : FVec Ideal S1024x384 .bf16) (ix2 k (keptPad j)) = ws m c (ix2 k (kept j)) := by
  have e : (V m c main_v8 : FVec Ideal S1024x384 .bf16) = truncf .bf16 (concatenate S1024x384 1 [⟨S1024x288, ws m c⟩,
      ⟨S1024x96, broadcastInDim S1024x96 ![] bcast_S_S1024x96 (constant S_ .f32 0x00000000#32 : FVec Ideal S_ .f32)⟩] concatenates_S1024x288_S1024x96_S1024x384_d1) bitsLt_bf16_f32 := by
    unfold V
    simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11]
    after_results_simp
    rfl
  rw [e]
  refine concatenate_pair_apply_left (s₁ := S1024x288) (s₂ := S1024x96) (t := S1024x384) 1 _ _ concatenates_S1024x288_S1024x96_S1024x384_d1 (ix2 k (keptPad j)) rfl (ix2 k (kept j)) (fun a => ?_)
  match a with
  | ⟨0, _⟩ => rfl
  | ⟨1, _⟩ => rfl

theorem places : ∀ t : Fin cfg0.N,
    (win0_0.index t 0 = t.val ∧ win0_0.index t 1 = 0) ∧ (win0_1.index t 0 = 0 ∧ win0_1.index t 1 = 0)
    ∧ (win0_5.index t 0 = 0 ∧ win0_5.index t 1 = 0) ∧ (win0_6.index t 0 = 0 ∧ win0_6.index t 1 = 0)
    ∧ (win0_8.index t 0 = 0 ∧ win0_8.index t 1 = 0) ∧ (win0_16.index t 0 = t.val ∧ win0_16.index t 1 = 0)
    ∧ (win0_19.index t 0 = t.val ∧ win0_19.index t 1 = 0) :=
  (by decide +kernel : ∀ t : Fin grid0.N, _)

theorem point_lt (t : Fin cfg0.N) : t.val < 1 := lt_of_lt_of_eq t.isLt (show cfg0.N = 1 from N_0)

/-- A row of the array from its tile. -/
abbrev place (t : Fin cfg0.N) (r : Fin 128) : Fin 128 := ⟨128 * t.val + r.val, by have := point_lt t; omega⟩

/-- A tile's rows. -/
theorem rows_block (t : Fin cfg0.N) (r : Fin 128) (k : Fin 1024) :
    (iblk m c 0 t : Vec Ideal S128x1024 .f32) (ix2 r k) = xs m c (ix2 (place t r) k) := by
  obtain ⟨⟨h0, h1⟩, -⟩ := places t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t 0 * 128 + 1 * r.val = 128 * t.val + r.val; rw [h0]; omega
  | ⟨1, _⟩ => show win0_0.index t 1 * 1024 + 1 * k.val = k.val; rw [h1]; omega

theorem scales_block (t : Fin cfg0.N) (k : Fin 1024) : (iblk m c 1 t : Vec Ideal S1x1024 .f32) (ix2 0 k) = gs m c (ix1 k) := by
  obtain ⟨-, ⟨h0, h1⟩, -⟩ := places t
  rw [← scales_laid]
  unfold iblk
  rw [View.read_apply]
  show V m c main_v28 _ = V m c main_v28 _
  refine congrArg (V m c main_v28) ?_
  funext a
  apply Fin.ext
  match a with
  | ⟨0, _⟩ => show win0_1.index t 0 * 1 + 1 * 0 = 0; rw [h0]
  | ⟨1, _⟩ => show win0_1.index t 1 * 1024 + 1 * k.val = k.val; rw [h1]; omega

theorem weights_block (t : Fin cfg0.N) (k : Fin 1024) (j : Fin 256) :
    (iblk m c 5 t : Vec Ideal S1024x384 .bf16) (ix2 k (keptPad j)) = ws m c (ix2 k (kept j)) := by
  obtain ⟨-, -, ⟨h0, h1⟩, -⟩ := places t
  rw [← weights_laid]
  unfold iblk
  rw [View.read_apply]
  show V m c main_v8 _ = V m c main_v8 _
  refine congrArg (V m c main_v8) ?_
  funext a
  apply Fin.ext
  match a with
  | ⟨0, _⟩ => show win0_5.index t 0 * 1024 + 1 * k.val = k.val; rw [h0]; omega
  | ⟨1, _⟩ => show win0_5.index t 1 * 384 + 1 * j.val = j.val; rw [h1]; omega

theorem latent_scales_block (t : Fin cfg0.N) (k : Fin 256) : (iblk m c 6 t : Vec Ideal S1x256 .f32) (ix2 0 k) = ss m c (ix1 k) := by
  obtain ⟨-, -, -, ⟨h0, h1⟩, -⟩ := places t
  rw [← latent_scales_laid]
  unfold iblk
  rw [View.read_apply]
  show V m c main_v31 _ = V m c main_v31 _
  refine congrArg (V m c main_v31) ?_
  funext a
  apply Fin.ext
  match a with
  | ⟨0, _⟩ => show win0_6.index t 0 * 1 + 1 * 0 = 0; rw [h0]
  | ⟨1, _⟩ => show win0_6.index t 1 * 256 + 1 * k.val = k.val; rw [h1]; omega

/-- What the body leaves in the latent rows' block. -/
theorem latent_out (x0 : Vec Ideal S128x1024 .f32) (x1 : Vec Ideal S1x1024 .f32) (x2 : Vec Ideal S1024x512 .bf16) (x3 : Vec Ideal S1x512 .f32) (x4 : Vec Ideal S512x2048 .bf16) (x5 : Vec Ideal S1024x384 .bf16) (x6 : Vec Ideal S1x256 .f32) (x7 : Vec Ideal S384x2048 .bf16) (x8 : Vec Ideal S256x1024 .bf16) (x9 : Vec Ideal S128x128 .f32) (x10 : Vec Ideal S128x128 .f32) (x11 : Vec Ideal S128x128 .f32) (x12 : Vec Ideal S128x128 .f32) (x13 : Vec Ideal S128x128 .f32) (x14 : Vec Ideal S128x128 .f32) :
    out0_16 x0 x1 x2 x3 x4 x5 x6 x7 x8 x9 x10 x11 x12 x13 x14 = k0_pay25 (k0_pay3 x0 x1) x5 x6 := by
  unfold out0_16 k0_pay30
  refine (View.canon_unit_zero zeros2 inb_S128x256_S128x256_0_0 _).trans ?_
  rw [show View.ld x0 r0_0 = x0 from View.ld_unit_zero zeros2 _ x0, show View.ld x1 r0_1 = x1 from View.ld_unit_zero zeros2 _ x1,
    show View.ld x5 r0_7 = x5 from View.ld_unit_zero zeros2 _ x5, show View.ld x6 r0_8 = x6 from View.ld_unit_zero zeros2 _ x6]

/-- A tile's latent rows. -/
theorem tile_sampleLatents (t : Fin cfg0.N) (r : Fin 128) (j : Fin 256) :
    k0_pay25 (k0_pay3 (iblk m c 0 t) (iblk m c 1 t)) (iblk m c 5 t) (iblk m c 6 t) (ix2 r j)
      = sampleLatents (xs m c) (gs m c) (ws m c) (ss m c) (ix2 (place t r) j) := by
  refine (latent_payload _ _ _ r j).trans ?_
  show _ = normedShort (fun j => ∑ k : Fin 1024, sampleRows (xs m c) (gs m c) (ix2 (place t r) k) * ws m c (ix2 k (kept j))) (fun j => ss m c (ix1 j)) j
  refine congrArg₂ (normedShort · · j) (funext fun a => (product_payload _ _ r (keptPad a)).trans ?_) (funext fun a => latent_scales_block m c t a)
  refine Finset.sum_congr rfl fun k _ => congrArg₂ (· * ·) ((normed_payload _ _ r k).trans ?_) (weights_block m c t k a)
  show _ = normed (fun a => xs m c (ix2 (place t r) a)) (fun a => gs m c (ix1 a)) k
  exact congrArg₂ (normed · · k) (funext fun a => rows_block m c t r a) (funext fun a => scales_block m c t a)

theorem flushed_sampleLatents (t : Fin cfg0.N) (_ : (cfg0.win 16).flush t = true) :
    (dats m 0 c).flushed 16 t = ((cfg0.win 16).blk t).view.read (Elt Ideal) (sampleLatents (xs m c) (gs m c) (ws m c) (ss m c)) := by
  obtain ⟨-, -, -, -, -, ⟨h0, h1⟩, -⟩ := places t
  rw [Value.flushed16, latent_out]
  have key : ∀ (y : S128x256.Idx) (z : S128x256.Idx), (z 0).val = 128 * t.val + (y 0).val → (z 1).val = (y 1).val →
      k0_pay25 (k0_pay3 (iblk m c 0 t) (iblk m c 1 t)) (iblk m c 5 t) (iblk m c 6 t) y = sampleLatents (xs m c) (gs m c) (ws m c) (ss m c) z := by
    intro y z e0 e1
    obtain ⟨r, e, rfl⟩ : ∃ (r : Fin 128) (e : Fin 256), y = ix2 r e := ⟨y 0, y 1, eq_ix2 y⟩
    obtain ⟨r', e', rfl⟩ : ∃ (r' : Fin 128) (e' : Fin 256), z = ix2 r' e' := ⟨z 0, z 1, eq_ix2 z⟩
    obtain rfl : r' = place t r := Fin.ext e0
    obtain rfl : e' = e := Fin.ext e1
    exact tile_sampleLatents m c t r e'
  funext y
  rw [View.read_apply]
  have z0 : (((cfg0.win 16).blk t).view.emb y 0 : ℕ) = 128 * t.val + (y 0).val := by
    blk_simp [h0]
    omega
  have z1 : (((cfg0.win 16).blk t).view.emb y 1 : ℕ) = (y 1).val := by
    blk_simp [h1]
  rw [Pipeline.Window.cut_apply]
  refine (key ((cfg0.win 16).xinj (grid0.coords t) y) (((cfg0.win 16).blk t).view.emb y) z0 z1).trans ?_
  exact (cast_eq _ _).symm

theorem flushes_sampleLatents : ∀ t : Fin cfg0.N, (cfg0.win 16).flush t = true := (by decide +kernel : ∀ t : Fin grid0.N, win0_16.flush t = true)

/-- The indices of a tile's block. -/
theorem mem_sampleLatents (t : Fin cfg0.N) (i : S128x256.Idx) : i ∈ ((cfg0.win 16).blk t).view.set
    ↔ ∀ a : Fin 2, win0_16.index t a * S128x256.size a ≤ (i a).val ∧ (i a).val < win0_16.index t a * S128x256.size a + S128x256.size a := by
  show i ∈ ((View.whole main_v102_1).slice (win0_16.rect t)).set ↔ _
  rw [View.set_slice_whole, Rect.mem_set_unit]
  exact Iff.rfl

/-- The array after the run. -/
theorem latents_eq : (dats m 0 c).arrAt 16 cfg0.N = sampleLatents (xs m c) (gs m c) (ws m c) (ss m c) :=
  (dats m 0 c).arrAt_eq_of_cover 16 _ (flushed_sampleLatents m c) fun i => by
    have b0 : (i 0).val < 128 := (i 0).isLt
    have b1 : (i 1).val < 256 := (i 1).isLt
    have hn : (i 0).val / 128 < cfg0.N := by rw [show cfg0.N = 1 from N_0]; omega
    obtain ⟨-, -, -, -, -, ⟨h0, h1⟩, -⟩ := places ⟨(i 0).val / 128, hn⟩
    refine ⟨⟨(i 0).val / 128, hn⟩, flushes_sampleLatents _, ?_⟩
    rw [mem_sampleLatents]
    intro a
    match a with
    | ⟨0, _⟩ =>
      show win0_16.index ⟨(i 0).val / 128, hn⟩ 0 * 128 ≤ (i 0).val ∧ (i 0).val < win0_16.index ⟨(i 0).val / 128, hn⟩ 0 * 128 + 128
      rw [h0]
      show (i 0).val / 128 * 128 ≤ (i 0).val ∧ (i 0).val < (i 0).val / 128 * 128 + 128
      omega
    | ⟨1, _⟩ =>
      show win0_16.index ⟨(i 0).val / 128, hn⟩ 1 * 256 ≤ (i 1).val ∧ (i 1).val < win0_16.index ⟨(i 0).val / 128, hn⟩ 1 * 256 + 256
      rw [h1]
      omega

end Cert.LatentSampleIdeal.Rows

namespace Cert.LatentSampleReferenceIdeal.Rows

open Cert.LatentSampleReferenceIdeal Cert.LatentSampleReferenceIdeal.Gen Cert.LatentSampleReferenceIdeal.Read Idealize.ShloMosaic Idealize.ShloMosaic.TcCoe Idealize.SL.Sem Cert.Gated
open Cert.FfnReferenceIdeal.Conv (same1 same2)

variable (x : FVec Ideal ⟨2, ![128, 1024]⟩ .f32) (g : FVec Ideal ⟨1, ![1024]⟩ .f32) (w : FVec Ideal ⟨2, ![1024, 288]⟩ .f32)
  (s : FVec Ideal ⟨1, ![256]⟩ .f32)

theorem squares_at (t : Fin 128) : val_main_v1 (F := Ideal) x (ix1 t) = ∑ k : Fin 1024, x (ix2 t k) * x (ix2 t k) := by
  rw [val_main_v1_apply, show val_main_cst (F := Ideal) (Shape.Idx.first h_S_) = 0 from Ideal.ofBits_zero .f32, zero_add]
  refine Finset.sum_congr rfl fun k _ => ?_
  rw [same2 (idx_main_v1 (ix1 t) k) t k rfl rfl, val_main_v0_apply]
  rfl

/-- The reference's normed rows. -/
theorem normed_at (t : Fin 128) (k : Fin 1024) : val_main_v12 (F := Ideal) x g (ix2 t k) = sampleRows x g (ix2 t k) := by
  rw [val_main_v12_apply, val_main_v9_apply, val_main_v11_apply, val_main_v10_apply, val_main_v8_apply, val_main_v7_apply, val_main_v6_apply,
    val_main_v4_apply, val_main_v2_apply, val_main_v3_apply, val_main_v5_apply, val_main_cst_0_apply, val_main_cst_1_apply,
    same1 (idx_main_v10 (idx_main_v11 (ix2 t k))) k rfl, same1 (idx_main_v2 (idx_main_v8 (ix2 t k))) t rfl, squares_at]
  show _ = normed (fun a => x (ix2 t a)) (fun a => g (ix1 a)) k
  rfl

/-- Their products with the latent columns of the weights. -/
theorem product_at (t : Fin 128) (j : Fin 256) :
    val_main_v14 (F := Ideal) x g w (ix2 t j) = ∑ k : Fin 1024, sampleRows x g (ix2 t k) * w (ix2 k (kept j)) := by
  rw [val_main_v14_apply, val_main_v13_apply]
  refine Finset.sum_congr rfl fun k _ => ?_
  rw [same2 (lidx_main_v13 (idx_main_v14 (ix2 t j)) k) t k rfl rfl, same2 (ridx_main_v13 (idx_main_v14 (ix2 t j)) k) k (kept j) rfl rfl, normed_at]

theorem latent_squares_at (t : Fin 128) : val_main_v16 (F := Ideal) x g w (ix1 t)
    = ∑ a : Fin 256, val_main_v14 (F := Ideal) x g w (ix2 t a) * val_main_v14 (F := Ideal) x g w (ix2 t a) := by
  rw [val_main_v16_apply, show val_main_cst_2 (F := Ideal) (Shape.Idx.first h_S_) = 0 from Ideal.ofBits_zero .f32, zero_add]
  refine Finset.sum_congr rfl fun k _ => ?_
  rw [same2 (idx_main_v16 (ix1 t) k) t k rfl rfl, val_main_v15_apply]
  rfl

theorem latent_at (t : Fin 128) (j : Fin 256) : val_main_v27 (F := Ideal) x g w s (ix2 t j) = sampleLatents x g w s (ix2 t j) := by
  rw [val_main_v27_apply, val_main_v24_apply, val_main_v26_apply, val_main_v25_apply, val_main_v23_apply, val_main_v22_apply, val_main_v21_apply,
    val_main_v19_apply, val_main_v17_apply, val_main_v18_apply, val_main_v20_apply, val_main_cst_3_apply, val_main_cst_4_apply,
    same1 (idx_main_v25 (idx_main_v26 (ix2 t j))) j rfl, same1 (idx_main_v17 (idx_main_v23 (ix2 t j))) t rfl, latent_squares_at]
  simp only [product_at]
  rfl

/-- The reference's latent rows. -/
theorem latents_eq : val_main_v27 (F := Ideal) x g w s = sampleLatents x g w s := by
  funext i
  obtain ⟨t, j, rfl⟩ : ∃ (t : Fin 128) (j : Fin 256), i = ix2 t j := ⟨i 0, i 1, eq_ix2 i⟩
  exact latent_at x g w s t j

end Cert.LatentSampleReferenceIdeal.Rows

end
-- ==== Proof.Heads.lean ====
/-
  What the first projection's body leaves in its output blocks for the values, the keys and the logs of the forget gates.
-/
module

public import proofs.«01_k».proof.Proof.HeadsReference
public import proofs.«01_k».proof.Proof.Gen.ProjectIdeal.Value
public import Idealize.ShloMosaic.Lib.Pipeline.ValueKit.Geometry

@[expose] public section

set_option maxRecDepth 16384

noncomputable section

namespace Cert.ProjectIdeal.Heads

open Cert.ProjectIdeal Cert.ProjectIdeal.Gen Idealize.ShloMosaic Idealize.ShloMosaic.TcCoe Idealize.SL.Sem Cert.Gated

theorem zeros2 : (![0, 0] : Fin 2 → ℕ) = fun _ => 0 := by
  funext a
  match a with
  | ⟨0, _⟩ => rfl
  | ⟨1, _⟩ => rfl

section
variable {F : FTy → Type} [FloatOps F]

/-- A whole load of a whole buffer reads its contents. -/
theorem whole_read {s : Shape} {e : EltTy} (a : Memref sig .tc .vmem s e) (h : a.IsWhole) (x : Vec F s e) {off : Fin s.rank → ℕ} (inb) (ho : off = fun _ => 0) :
    (View.readAt (Elt F) a.view (Rect.unit (s := s) off s.size inb).toLoadRect (h.unread x) : Vec F s e) = x := by
  rw [View.readAt_eq_ld, h.read_unread]
  exact View.ld_unit_zero ho inb x

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1664 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S512x128 .f32) (harg12 : arg12.IsWhole) (arg13 : Memref sig .tc .vmem S512x128 .f32) (harg13 : arg13.IsWhole) (arg14 : Memref sig .tc .vmem S512x8 .f32) (harg14 : arg14.IsWhole) (arg15 : Memref sig .tc .vmem S512x8 .bf16) (harg15 : arg15.IsWhole) (arg16 : Memref sig .tc .vmem S512x8 .bf16) (harg16 : arg16.IsWhole) (arg17 : Memref sig .tc .vmem S512x8 .bf16) (harg17 : arg17.IsWhole) (arg18 : Memref sig .tc .vmem S1x128 .f32) (harg18 : arg18.IsWhole)
  (x0 : Vec F S512x1024 .f32) (x1 : Vec F S1x1024 .f32) (x2 : Vec F S1024x1664 .bf16) (x3 : Vec F S1x128 .f32) (x4 x5 x6 : Vec F S512x128 .f32) (xs0 : Vec F S1x128 .f32)

/-- The product of the normed rows, in either case. -/
theorem productA : kernelRun0_A.sl.r c arg1 harg1 arg2 harg2 arg3 harg3 x0 x1 x2 = k0_pay7 x0 x1 x2 := by
  unfold kernelRun0_A.sl.r
  rw [whole_read arg1 harg1 x0 _ zeros2, whole_read arg2 harg2 x1 _ zeros2, whole_read arg3 harg3 x2 _ zeros2]

/-- The product of the normed rows, in either case. -/
theorem productB : kernelRun0_B.sl.r c arg1 harg1 arg2 harg2 arg3 harg3 x0 x1 x2 = k0_pay7 x0 x1 x2 := by
  unfold kernelRun0_B.sl.r
  rw [whole_read arg1 harg1 x0 _ zeros2, whole_read arg2 harg2 x1 _ zeros2, whole_read arg3 harg3 x2 _ zeros2]

theorem leftA9 (hc0 : cond0_0 i) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 = k0_pay16 (k0_pay7 x0 x1 x2) := by
  unfold out0_A_9
  rw [View.read_writes_junk_eq_canon]
  unfold kernelRun0_A
  dsimp only
  refine (View.canon_unit_zero zeros2 inb_S512x128_S512x128_0_0 _).trans ?_
  rw [productA]

theorem leftA11 (hc0 : cond0_0 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 = k0_pay20 (k0_pay7 x0 x1 x2) := by
  unfold out0_A_11
  rw [View.read_writes_junk_eq_canon]
  unfold kernelRun0_A
  dsimp only
  refine (View.canon_unit_zero zeros2 inb_S512x128_S512x128_0_0 _).trans ?_
  rw [productA]

theorem leftA12 (hc0 : cond0_0 i) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 = k0_pay21 (k0_pay7 x0 x1 x2) := by
  unfold out0_A_12
  rw [View.read_writes_junk_eq_canon]
  unfold kernelRun0_A
  dsimp only
  refine (View.canon_unit_zero zeros2 inb_S512x128_S512x128_0_0 _).trans ?_
  rw [productA]

theorem leftA13 (hc0 : cond0_0 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 = k0_pay23 (k0_pay7 x0 x1 x2) x3 := by
  unfold out0_A_13
  rw [View.read_writes_junk_eq_canon]
  unfold kernelRun0_A
  dsimp only
  refine (View.canon_unit_zero zeros2 inb_S512x8_S512x8_0_0 _).trans ?_
  rw [productA, whole_read arg4 harg4 x3 _ zeros2]

theorem leftB9 (hc0 : ¬ cond0_0 i) : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 xs0 = k0_pay16 (k0_pay7 x0 x1 x2) := by
  unfold out0_B_9
  rw [View.read_writes_junk_eq_canon]
  unfold kernelRun0_B
  dsimp only
  refine (View.canon_unit_zero zeros2 inb_S512x128_S512x128_0_0 _).trans ?_
  rw [productB]

theorem leftB11 (hc0 : ¬ cond0_0 i) : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 xs0 = k0_pay20 (k0_pay7 x0 x1 x2) := by
  unfold out0_B_11
  rw [View.read_writes_junk_eq_canon]
  unfold kernelRun0_B
  dsimp only
  refine (View.canon_unit_zero zeros2 inb_S512x128_S512x128_0_0 _).trans ?_
  rw [productB]

theorem leftB12 (hc0 : ¬ cond0_0 i) : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 xs0 = k0_pay21 (k0_pay7 x0 x1 x2) := by
  unfold out0_B_12
  rw [View.read_writes_junk_eq_canon]
  unfold kernelRun0_B
  dsimp only
  refine (View.canon_unit_zero zeros2 inb_S512x128_S512x128_0_0 _).trans ?_
  rw [productB]

theorem leftB13 (hc0 : ¬ cond0_0 i) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 xs0 = k0_pay23 (k0_pay7 x0 x1 x2) x3 := by
  unfold out0_B_13
  rw [View.read_writes_junk_eq_canon]
  unfold kernelRun0_B
  dsimp only
  refine (View.canon_unit_zero zeros2 inb_S512x8_S512x8_0_0 _).trans ?_
  rw [productB, whole_read arg4 harg4 x3 _ zeros2]

end

section
variable (x : Vec Ideal S512x1024 .f32) (g : Vec Ideal S1x1024 .f32) (w : Vec Ideal S1024x1664 .bf16) (b : Vec Ideal S1x128 .f32)

/-- The product of the normed rows of a tile, at an index. -/
theorem product_apply (r : Fin 512) (j : Fin 1664) :
    k0_pay7 x g w (ix2 r j) = ∑ k : Fin 1024, normed (fun a => x (ix2 r a)) (fun a => g (ix2 0 a)) k * w (ix2 k j) := by
  unfold k0_pay7 normed
  pointwise

theorem first_values_apply (v : FVec Ideal S512x1664 .f32) (r : Fin 512) (j : Fin 128) : k0_pay16 v (ix2 r j) = v (ix2 r ⟨640 + j.val, by omega⟩) := by
  unfold k0_pay16
  pointwise

theorem second_keys_apply (v : FVec Ideal S512x1664 .f32) (r : Fin 512) (j : Fin 128) : k0_pay20 v (ix2 r j) = v (ix2 r ⟨1280 + j.val, by omega⟩) := by
  unfold k0_pay20
  pointwise

theorem second_values_apply (v : FVec Ideal S512x1664 .f32) (r : Fin 512) (j : Fin 128) : k0_pay21 v (ix2 r j) = v (ix2 r ⟨1408 + j.val, by omega⟩) := by
  unfold k0_pay21
  pointwise

theorem logs_apply (v : FVec Ideal S512x1664 .f32) (r : Fin 512) (j : Fin 8) :
    k0_pay23 v b (ix2 r j) = logLogistic (v (ix2 r ⟨1536 + j.val, by omega⟩) + b (ix2 0 ⟨j.val, by omega⟩)) := by
  unfold k0_pay23 k0_pay22 logLogistic
  pointwise
  rfl

end

variable (m : (ℓ : Loc nD τ sig) → Buf (Elt Ideal) ℓ) (c : Dev nD)

/-- The rows, their scales, the weights and the offsets of the gates. -/
abbrev xs : FVec Ideal ⟨2, ![16384, 1024]⟩ .f32 := m ((c : Thread nD τ).loc main_arg0)
abbrev gs : FVec Ideal ⟨1, ![1024]⟩ .f32 := m ((c : Thread nD τ).loc main_arg1)
abbrev ws : FVec Ideal ⟨2, ![1024, 1544]⟩ .f32 := m ((c : Thread nD τ).loc main_arg2)
abbrev bs : FVec Ideal ⟨1, ![8]⟩ .f32 := m ((c : Thread nD τ).loc main_arg3)

/-- The scales as one row, as the launch finds them. -/
theorem scales_laid (k : Fin 1024) : (V m c main_v7 : FVec Ideal S1x1024 .f32) (ix2 0 k) = gs m c (ix1 k) := by
  have h : (V m c main_v7 : FVec Ideal S1x1024 .f32) = shapeCast S1x1024 (gs m c) shapeCasts_S1024_S1x1024 := by
    unfold V
    simp only [List.flatten_cons, List.flatten_nil, List.append_nil, List.cons_append, List.nil_append, hostOps0, hostOps0_1, hostOps0_2, hostOps0_3, hostOps0_4, hostOps0_5]
    after_results_simp
    rfl
  rw [h]
  pointwise

/-- The weights, with columns of zeros after them. -/
theorem weights_laid (k : Fin 1024) (j : Fin 1664) (h : j.val < 1544) :
    (V m c main_v2 : FVec Ideal S1024x1664 .bf16) (ix2 k j) = ws m c (ix2 k ⟨j.val, h⟩) := by
  have e : (V m c main_v2 : FVec Ideal S1024x1664 .bf16) = truncf .bf16 (concatenate S1024x1664 1 [⟨S1024x1544, ws m c⟩,
      ⟨S1024x120, broadcastInDim S1024x120 ![] bcast_S_S1024x120 (constant S_ .f32 0x00000000#32 : FVec Ideal S_ .f32)⟩] concatenates_S1024x1544_S1024x120_S1024x1664_d1) bitsLt_bf16_f32 := by
    unfold V
    simp only [List.flatten_cons, List.flatten_nil, List.append_nil, List.cons_append, List.nil_append, hostOps0, hostOps0_1, hostOps0_2, hostOps0_3, hostOps0_4, hostOps0_5]
    after_results_simp
    rfl
  rw [e]
  refine concatenate_pair_apply_left (s₁ := S1024x1544) (s₂ := S1024x120) (t := S1024x1664) 1 _ _ concatenates_S1024x1544_S1024x120_S1024x1664_d1 (ix2 k j) rfl (ix2 k (⟨j.val, h⟩ : Fin 1544)) (fun a => ?_)
  match a with
  | ⟨0, _⟩ => rfl
  | ⟨1, _⟩ => rfl

/-- The offsets, with zeros after them. -/
theorem offsets_laid (j : Fin 128) (h : j.val < 8) : (V m c main_v5 : FVec Ideal S1x128 .f32) (ix2 0 j) = bs m c (ix1 ⟨j.val, h⟩) := by
  have e : (V m c main_v5 : FVec Ideal S1x128 .f32) = shapeCast S1x128 (concatenate S128 0 [⟨S8, bs m c⟩,
      ⟨S120, broadcastInDim S120 ![] bcast_S_S120 (constant S_ .f32 0x00000000#32 : FVec Ideal S_ .f32)⟩] concatenates_S8_S120_S128_d0) shapeCasts_S128_S1x128 := by
    unfold V
    simp only [List.flatten_cons, List.flatten_nil, List.append_nil, List.cons_append, List.nil_append, hostOps0, hostOps0_1, hostOps0_2, hostOps0_3, hostOps0_4, hostOps0_5]
    after_results_simp
    rfl
  have flat : ∀ v : FVec Ideal S128 .f32, shapeCast S1x128 v shapeCasts_S128_S1x128 (ix2 0 j) = v (ix1 j) := fun v => by pointwise
  rw [e, flat]
  refine concatenate_pair_apply_left (s₁ := S8) (s₂ := S120) (t := S128) 0 _ _ _ (ix1 j) rfl (ix1 (⟨j.val, h⟩ : Fin 8)) (fun a => ?_)
  match a with
  | ⟨0, _⟩ => rfl

theorem places : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) :=
  (by decide +kernel : ∀ t : Fin grid0.N, _)

theorem point_lt (t : Fin cfg0.N) : t.val < 32 := lt_of_lt_of_eq t.isLt (show cfg0.N = 32 from N_0)

/-- A row of the array from its tile. -/
abbrev place (t : Fin cfg0.N) (r : Fin 512) : Fin 16384 := ⟨512 * t.val + r.val, by have := point_lt t; omega⟩

theorem rows_block (t : Fin cfg0.N) (r : Fin 512) (k : Fin 1024) :
    (iblk m c 0 t : Vec Ideal S512x1024 .f32) (ix2 r k) = xs m c (ix2 (place t r) k) := by
  obtain ⟨⟨h0, h1⟩, -⟩ := places t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t 0 * 512 + 1 * r.val = 512 * t.val + r.val; rw [h0]; omega
  | ⟨1, _⟩ => show win0_0.index t 1 * 1024 + 1 * k.val = k.val; rw [h1]; omega

theorem scales_block (t : Fin cfg0.N) (k : Fin 1024) : (iblk m c 1 t : Vec Ideal S1x1024 .f32) (ix2 0 k) = gs m c (ix1 k) := by
  obtain ⟨-, ⟨h0, h1⟩, -⟩ := places t
  rw [← scales_laid]
  unfold iblk
  rw [View.read_apply]
  show V m c main_v7 _ = V m c main_v7 _
  refine congrArg (V m c main_v7) ?_
  funext a
  apply Fin.ext
  match a with
  | ⟨0, _⟩ => show win0_1.index t 0 * 1 + 1 * 0 = 0; rw [h0]
  | ⟨1, _⟩ => show win0_1.index t 1 * 1024 + 1 * k.val = k.val; rw [h1]; omega

theorem weights_block (t : Fin cfg0.N) (k : Fin 1024) (j : Fin 1664) (h : j.val < 1544) :
    (iblk m c 2 t : Vec Ideal S1024x1664 .bf16) (ix2 k j) = ws m c (ix2 k ⟨j.val, h⟩) := by
  obtain ⟨-, -, ⟨h0, h1⟩, -⟩ := places t
  rw [← weights_laid m c k j h]
  unfold iblk
  rw [View.read_apply]
  show V m c main_v2 _ = V m c main_v2 _
  refine congrArg (V m c main_v2) ?_
  funext a
  apply Fin.ext
  match a with
  | ⟨0, _⟩ => show win0_2.index t 0 * 1024 + 1 * k.val = k.val; rw [h0]; omega
  | ⟨1, _⟩ => show win0_2.index t 1 * 1664 + 1 * j.val = j.val; rw [h1]; omega

theorem offsets_block (t : Fin cfg0.N) (j : Fin 128) (h : j.val < 8) : (iblk m c 3 t : Vec Ideal S1x128 .f32) (ix2 0 j) = bs m c (ix1 ⟨j.val, h⟩) := by
  obtain ⟨-, -, -, ⟨h0, h1⟩⟩ := places t
  rw [← offsets_laid m c j h]
  unfold iblk
  rw [View.read_apply]
  show V m c main_v5 _ = V m c main_v5 _
  refine congrArg (V m c main_v5) ?_
  funext a
  apply Fin.ext
  match a with
  | ⟨0, _⟩ => show win0_3.index t 0 * 1 + 1 * 0 = 0; rw [h0]
  | ⟨1, _⟩ => show win0_3.index t 1 * 128 + 1 * j.val = j.val; rw [h1]; omega

/-- The products of tile `t`. -/
abbrev made (t : Fin cfg0.N) : FVec Ideal S512x1664 .f32 := k0_pay7 (iblk m c 0 t) (iblk m c 1 t) (iblk m c 2 t)

theorem made_apply (t : Fin cfg0.N) (r : Fin 512) (j : Fin 1664) (h : j.val < 1544) :
    made m c t (ix2 r j) = projected (xs m c) (gs m c) (ws m c) (place t r) ⟨j.val, h⟩ := by
  refine (product_apply _ _ _ r j).trans (Finset.sum_congr rfl fun k _ => ?_)
  rw [weights_block m c t k j h]
  exact congrArg (· * _) (congrArg₂ (normed · · k) (funext fun a => rows_block m c t r a) (funext fun a => scales_block m c t a))

theorem held9 (t : Fin cfg0.N) : (outsAt0 m c t.val t.isLt).2.2.1 = k0_pay16 (made m c t) := by
  by_cases h0 : t.val % 32 = 0
  · rw [outsAt0_A m c t h0]
    dsimp only
    rw [leftA9]
  · rw [outsAt0_B m c t h0]
    dsimp only
    rw [leftB9]

theorem held11 (t : Fin cfg0.N) : (outsAt0 m c t.val t.isLt).2.2.2.2.1 = k0_pay20 (made m c t) := by
  by_cases h0 : t.val % 32 = 0
  · rw [outsAt0_A m c t h0]
    dsimp only
    rw [leftA11]
  · rw [outsAt0_B m c t h0]
    dsimp only
    rw [leftB11]

theorem held12 (t : Fin cfg0.N) : (outsAt0 m c t.val t.isLt).2.2.2.2.2.1 = k0_pay21 (made m c t) := by
  by_cases h0 : t.val % 32 = 0
  · rw [outsAt0_A m c t h0]
    dsimp only
    rw [leftA12]
  · rw [outsAt0_B m c t h0]
    dsimp only
    rw [leftB12]

theorem held13 (t : Fin cfg0.N) : (outsAt0 m c t.val t.isLt).2.2.2.2.2.2.1 = k0_pay23 (made m c t) (iblk m c 3 t) := by
  by_cases h0 : t.val % 32 = 0
  · rw [outsAt0_A m c t h0]
    dsimp only
    rw [leftA13]
  · rw [outsAt0_B m c t h0]
    dsimp only
    rw [leftB13]

theorem first_values_array : (dats m 0 c).arrAt 9 cfg0.N = columns (xs m c) (gs m c) (ws m c) 640 (by omega) := by
  rw [Value.final9]
  funext i
  have b0 : (i 0).val < 16384 := (i 0).isLt
  have b1 : (i 1).val < 128 := (i 1).isLt
  have hn : Value.pt9Of i < cfg0.N := by
    rw [show cfg0.N = 32 from N_0]
    show 1 * ((i 0).val / 512 - 0) + 1 * ((i 1).val / 128 - 0) < 32
    omega
  unfold Value.G9
  rw [dif_pos hn, ← Value.outsAt0_sweep m c (Value.pt9Of i) hn, held9 m c ⟨Value.pt9Of i, hn⟩,
    show Value.loc9Of i = ix2 (⟨(i 0).val % 512, by omega⟩ : Fin 512) (⟨(i 1).val % 128, by omega⟩ : Fin 128) from eq_ix2 _, first_values_apply,
    made_apply m c _ _ _ (show 640 + (i 1).val % 128 < 1544 by omega)]
  refine congrArg₂ (projected (xs m c) (gs m c) (ws m c)) (Fin.ext ?_) (Fin.ext ?_)
  · show 512 * (1 * ((i 0).val / 512 - 0) + 1 * ((i 1).val / 128 - 0)) + (i 0).val % 512 = (i 0).val
    omega
  · show 640 + (i 1).val % 128 = 640 + (i 1).val
    omega

theorem second_keys_array : (dats m 0 c).arrAt 11 cfg0.N = columns (xs m c) (gs m c) (ws m c) 1280 (by omega) := by
  rw [Value.final11]
  funext i
  have b0 : (i 0).val < 16384 := (i 0).isLt
  have b1 : (i 1).val < 128 := (i 1).isLt
  have hn : Value.pt11Of i < cfg0.N := by
    rw [show cfg0.N = 32 from N_0]
    show 1 * ((i 0).val / 512 - 0) + 1 * ((i 1).val / 128 - 0) < 32
    omega
  unfold Value.G11
  rw [dif_pos hn, ← Value.outsAt0_sweep m c (Value.pt11Of i) hn, held11 m c ⟨Value.pt11Of i, hn⟩,
    show Value.loc11Of i = ix2 (⟨(i 0).val % 512, by omega⟩ : Fin 512) (⟨(i 1).val % 128, by omega⟩ : Fin 128) from eq_ix2 _, second_keys_apply,
    made_apply m c _ _ _ (show 1280 + (i 1).val % 128 < 1544 by omega)]
  refine congrArg₂ (projected (xs m c) (gs m c) (ws m c)) (Fin.ext ?_) (Fin.ext ?_)
  · show 512 * (1 * ((i 0).val / 512 - 0) + 1 * ((i 1).val / 128 - 0)) + (i 0).val % 512 = (i 0).val
    omega
  · show 1280 + (i 1).val % 128 = 1280 + (i 1).val
    omega

theorem second_values_array : (dats m 0 c).arrAt 12 cfg0.N = columns (xs m c) (gs m c) (ws m c) 1408 (by omega) := by
  rw [Value.final12]
  funext i
  have b0 : (i 0).val < 16384 := (i 0).isLt
  have b1 : (i 1).val < 128 := (i 1).isLt
  have hn : Value.pt12Of i < cfg0.N := by
    rw [show cfg0.N = 32 from N_0]
    show 1 * ((i 0).val / 512 - 0) + 1 * ((i 1).val / 128 - 0) < 32
    omega
  unfold Value.G12
  rw [dif_pos hn, ← Value.outsAt0_sweep m c (Value.pt12Of i) hn, held12 m c ⟨Value.pt12Of i, hn⟩,
    show Value.loc12Of i = ix2 (⟨(i 0).val % 512, by omega⟩ : Fin 512) (⟨(i 1).val % 128, by omega⟩ : Fin 128) from eq_ix2 _, second_values_apply,
    made_apply m c _ _ _ (show 1408 + (i 1).val % 128 < 1544 by omega)]
  refine congrArg₂ (projected (xs m c) (gs m c) (ws m c)) (Fin.ext ?_) (Fin.ext ?_)
  · show 512 * (1 * ((i 0).val / 512 - 0) + 1 * ((i 1).val / 128 - 0)) + (i 0).val % 512 = (i 0).val
    omega
  · show 1408 + (i 1).val % 128 = 1408 + (i 1).val
    omega

theorem logs_array : (dats m 0 c).arrAt 13 cfg0.N = forgets (xs m c) (gs m c) (ws m c) (bs m c) := by
  rw [Value.final13]
  funext i
  have b0 : (i 0).val < 16384 := (i 0).isLt
  have b1 : (i 1).val < 8 := (i 1).isLt
  have hn : Value.pt13Of i < cfg0.N := by
    rw [show cfg0.N = 32 from N_0]
    show 1 * ((i 0).val / 512 - 0) + 1 * ((i 1).val / 8 - 0) < 32
    omega
  unfold Value.G13
  rw [dif_pos hn, ← Value.outsAt0_sweep m c (Value.pt13Of i) hn, held13 m c ⟨Value.pt13Of i, hn⟩,
    show Value.loc13Of i = ix2 (⟨(i 0).val % 512, by omega⟩ : Fin 512) (⟨(i 1).val % 8, by omega⟩ : Fin 8) from eq_ix2 _, logs_apply,
    made_apply m c _ _ _ (show 1536 + (i 1).val % 8 < 1544 by omega), offsets_block m c _ _ (show (i 1).val % 8 < 8 by omega)]
  refine congrArg logLogistic (congrArg₂ (· + ·) (congrArg₂ (projected (xs m c) (gs m c) (ws m c)) (Fin.ext ?_) (Fin.ext ?_)) (congrArg (fun k => bs m c (ix1 k)) (Fin.ext ?_)))
  · show 512 * (1 * ((i 0).val / 512 - 0) + 1 * ((i 1).val / 8 - 0)) + (i 0).val % 512 = (i 0).val
    omega
  · show 1536 + (i 1).val % 8 = 1536 + (i 1).val
    omega
  · show (i 1).val % 8 = (i 1).val
    omega

end Cert.ProjectIdeal.Heads

end
-- ==== Proof.lean ====
/-
  The claims.

  The kernel walks a grid of heads and query tiles. For one head and one tile of 1024 queries it goes over the keys
  a block at a time, keeping for each query a running maximum, a running mass and a running weighted sum of values
  (Softmax.lean: what the three hold after any number of keys; Chain.lean, Body.lean, Tile.lean, Loads.lean,
  Columns.lean, Block.lean: that one grid point's loop is that walk). Array.lean puts the tiles together: the
  kernel's result is `attend` (Goal.lean) of its arguments. Reference.lean reads the reference's softmax at an index
  and finds the same function, when the queries and the keys are finite; Finite.lean reads that off the precondition.

  The feed-forward kernel walks over the tokens 512 rows at a time, and within a tile over the 2816 inner columns 256 at
  a time (Chunk.lean: one such block of columns; Steps.lean: the eleven blocks one after another; Whole.lean: a whole
  tile, the rows it hands to the next and the rows it returns; Values.lean: the tile at an index). Layer.lean puts the
  tiles together: the two results are `layer` and `trail` (Gated.lean) of the arguments. FfnReference.lean reads the
  reference at an index and finds the same two functions.

  The grouped attention walks a grid of query tiles of 512, each for two key heads that four query heads share, the four
  stacked into one block of rows. GroupedRun.lean and GroupedIdealRun.lean run it; GroupedBody.lean, GroupedTile.lean and
  GroupedBlock.lean say what one grid point computes; GroupedArray.lean puts the tiles together into `attend`
  (GroupedGoal.lean). GroupedReference.lean finds the same function in its reference, and GroupedFinite.lean reads its
  precondition.

  The first projection walks over the tokens 512 rows at a time. Heads.lean puts its tiles together into `columns` and
  `forgets`, which HeadsReference.lean defines and finds in the reference. Norm.lean does the same for the last norm,
  Joined.lean and Added.lean for the two output projections, NormSample.lean, HeadsSample.lean and
  LatentSample.lean for the sample's norm and projections, Latent.lean for the latent rows and values the second attention reads.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Reference
public import proofs.«01_k».proof.Proof.Finite
public import proofs.«01_k».proof.Proof.Layer
public import proofs.«01_k».proof.Proof.FfnReference
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.GroupedRun
public import proofs.«01_k».proof.Proof.GroupedArray
public import proofs.«01_k».proof.Proof.GroupedReference
public import proofs.«01_k».proof.Proof.GroupedFinite
public import proofs.«01_k».proof.Proof.Norm
public import proofs.«01_k».proof.Proof.Joined
public import proofs.«01_k».proof.Proof.Added
public import proofs.«01_k».proof.Proof.Latent
public import proofs.«01_k».proof.Proof.NormSample
public import proofs.«01_k».proof.Proof.HeadsSample
public import proofs.«01_k».proof.Proof.LatentSample
public import proofs.«01_k».proof.Proof.HeadsReference
public import proofs.«01_k».proof.Proof.Heads
public import proofs.«01_k».proof.Proof.Gen.Grouped
public import proofs.«01_k».proof.Proof.Gen.Grouped.Skeleton
public import proofs.«01_k».proof.Proof.Gen.Grouped.Loops
public import proofs.«01_k».proof.Proof.Gen.Grouped.Launch
public import proofs.«01_k».proof.Proof.Gen.Grouped.Points
public import proofs.«01_k».proof.Proof.Gen.GroupedIdeal
public import proofs.«01_k».proof.Proof.Gen.GroupedIdeal.Skeleton
public import proofs.«01_k».proof.Proof.Gen.GroupedIdeal.Loops
public import proofs.«01_k».proof.Proof.Gen.GroupedIdeal.Launch
public import proofs.«01_k».proof.Proof.Gen.GroupedIdeal.Points
public import proofs.«01_k».proof.Proof.Gen.GroupedReferenceIdeal
public import proofs.«01_k».proof.Proof.Gen.GroupedReferenceIdeal.Run
public import proofs.«01_k».proof.Proof.Gen.GroupedReferenceIdeal.Read
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.ProjectReferenceIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.Joined
public import proofs.«01_k».proof.Proof.Gen.Joined.Skeleton
public import proofs.«01_k».proof.Proof.Gen.Joined.Launch
public import proofs.«01_k».proof.Proof.Gen.Joined.Points
public import proofs.«01_k».proof.Proof.Gen.Joined.Frame
public import proofs.«01_k».proof.Proof.Gen.JoinedIdeal
public import proofs.«01_k».proof.Proof.Gen.JoinedIdeal.Skeleton
public import proofs.«01_k».proof.Proof.Gen.JoinedIdeal.Launch
public import proofs.«01_k».proof.Proof.Gen.JoinedIdeal.Points
public import proofs.«01_k».proof.Proof.Gen.JoinedIdeal.Frame
public import proofs.«01_k».proof.Proof.Gen.JoinedIdeal.Value
public import proofs.«01_k».proof.Proof.Gen.JoinedReferenceIdeal
public import proofs.«01_k».proof.Proof.Gen.JoinedReferenceIdeal.Run
public import proofs.«01_k».proof.Proof.Gen.JoinedReferenceIdeal.Read
public import proofs.«01_k».proof.Proof.Gen.Added
public import proofs.«01_k».proof.Proof.Gen.Added.Skeleton
public import proofs.«01_k».proof.Proof.Gen.Added.Launch
public import proofs.«01_k».proof.Proof.Gen.Added.Points
public import proofs.«01_k».proof.Proof.Gen.Added.Frame
public import proofs.«01_k».proof.Proof.Gen.AddedIdeal
public import proofs.«01_k».proof.Proof.Gen.AddedIdeal.Skeleton
public import proofs.«01_k».proof.Proof.Gen.AddedIdeal.Launch
public import proofs.«01_k».proof.Proof.Gen.AddedIdeal.Points
public import proofs.«01_k».proof.Proof.Gen.AddedIdeal.Frame
public import proofs.«01_k».proof.Proof.Gen.AddedIdeal.Value
public import proofs.«01_k».proof.Proof.Gen.AddedReferenceIdeal
public import proofs.«01_k».proof.Proof.Gen.AddedReferenceIdeal.Run
public import proofs.«01_k».proof.Proof.Gen.AddedReferenceIdeal.Read
public import proofs.«01_k».proof.Proof.Gen.Latent
public import proofs.«01_k».proof.Proof.Gen.Latent.Skeleton
public import proofs.«01_k».proof.Proof.Gen.Latent.Launch
public import proofs.«01_k».proof.Proof.Gen.Latent.Points
public import proofs.«01_k».proof.Proof.Gen.Latent.Frame
public import proofs.«01_k».proof.Proof.Gen.LatentIdeal
public import proofs.«01_k».proof.Proof.Gen.LatentIdeal.Skeleton
public import proofs.«01_k».proof.Proof.Gen.LatentIdeal.Launch
public import proofs.«01_k».proof.Proof.Gen.LatentIdeal.Points
public import proofs.«01_k».proof.Proof.Gen.LatentIdeal.Frame
public import proofs.«01_k».proof.Proof.Gen.LatentIdeal.Value
public import proofs.«01_k».proof.Proof.Gen.LatentReferenceIdeal
public import proofs.«01_k».proof.Proof.Gen.LatentReferenceIdeal.Run
public import proofs.«01_k».proof.Proof.Gen.LatentReferenceIdeal.Read
public import proofs.«01_k».proof.Proof.Gen.NormSample
public import proofs.«01_k».proof.Proof.Gen.NormSample.Skeleton
public import proofs.«01_k».proof.Proof.Gen.NormSample.Launch
public import proofs.«01_k».proof.Proof.Gen.NormSample.Points
public import proofs.«01_k».proof.Proof.Gen.NormSample.Frame
public import proofs.«01_k».proof.Proof.Gen.NormSampleIdeal
public import proofs.«01_k».proof.Proof.Gen.NormSampleIdeal.Skeleton
public import proofs.«01_k».proof.Proof.Gen.NormSampleIdeal.Launch
public import proofs.«01_k».proof.Proof.Gen.NormSampleIdeal.Points
public import proofs.«01_k».proof.Proof.Gen.NormSampleIdeal.Frame
public import proofs.«01_k».proof.Proof.Gen.NormSampleIdeal.Value
public import proofs.«01_k».proof.Proof.Gen.NormSampleReferenceIdeal
public import proofs.«01_k».proof.Proof.Gen.NormSampleReferenceIdeal.Run
public import proofs.«01_k».proof.Proof.Gen.NormSampleReferenceIdeal.Read
public import proofs.«01_k».proof.Proof.Gen.ProjectSample
public import proofs.«01_k».proof.Proof.Gen.ProjectSample.Skeleton
public import proofs.«01_k».proof.Proof.Gen.ProjectSample.Launch
public import proofs.«01_k».proof.Proof.Gen.ProjectSample.Points
public import proofs.«01_k».proof.Proof.Gen.ProjectSample.Frame
public import proofs.«01_k».proof.Proof.Gen.ProjectSampleIdeal
public import proofs.«01_k».proof.Proof.Gen.ProjectSampleIdeal.Skeleton
public import proofs.«01_k».proof.Proof.Gen.ProjectSampleIdeal.Launch
public import proofs.«01_k».proof.Proof.Gen.ProjectSampleIdeal.Points
public import proofs.«01_k».proof.Proof.Gen.ProjectSampleIdeal.Frame
public import proofs.«01_k».proof.Proof.Gen.ProjectSampleIdeal.Value
public import proofs.«01_k».proof.Proof.Gen.ProjectSampleReferenceIdeal
public import proofs.«01_k».proof.Proof.Gen.ProjectSampleReferenceIdeal.Run
public import proofs.«01_k».proof.Proof.Gen.ProjectSampleReferenceIdeal.Read
public import proofs.«01_k».proof.Proof.Gen.LatentSample
public import proofs.«01_k».proof.Proof.Gen.LatentSample.Skeleton
public import proofs.«01_k».proof.Proof.Gen.LatentSample.Launch
public import proofs.«01_k».proof.Proof.Gen.LatentSample.Points
public import proofs.«01_k».proof.Proof.Gen.LatentSample.Frame
public import proofs.«01_k».proof.Proof.Gen.LatentSampleIdeal
public import proofs.«01_k».proof.Proof.Gen.LatentSampleIdeal.Skeleton
public import proofs.«01_k».proof.Proof.Gen.LatentSampleIdeal.Launch
public import proofs.«01_k».proof.Proof.Gen.LatentSampleIdeal.Points
public import proofs.«01_k».proof.Proof.Gen.LatentSampleIdeal.Frame
public import proofs.«01_k».proof.Proof.Gen.LatentSampleIdeal.Value
public import proofs.«01_k».proof.Proof.Gen.LatentSampleReferenceIdeal
public import proofs.«01_k».proof.Proof.Gen.LatentSampleReferenceIdeal.Run
public import proofs.«01_k».proof.Proof.Gen.LatentSampleReferenceIdeal.Read
public import Idealize.ShloMosaic.Adequacy
public import Idealize.ShloMosaic.Init

@[expose] public section

noncomputable section

namespace Cert.Proof

open Idealize.ShloMosaic Idealize.SL.Sem

/-- The kernel as written runs, keeps its arguments and leaves every counter at zero. -/
theorem frame_kernel : Cert.quiescent_Kernel (hKernel := Cert.Kernel.Gen.facts) := fun m ρ _ => Cert.Kernel.Gen.frame m ρ

/-- So does the kernel over exact numbers. -/
theorem frame_ideal : Cert.quiescent_KernelIdeal (hKernelIdeal := Cert.KernelIdeal.Gen.facts) := fun m ρ _ => Cert.KernelIdeal.Gen.frame m ρ

/-- So does the kernel over exact numbers, on the arguments the value claim is about. -/
theorem frame_ideal_finite : Cert.quiescent_KernelIdeal_pre_finite (hKernelIdeal := Cert.KernelIdeal.Gen.facts)
    (hPre_finite := Cert.Pre_finite.sound) := fun m ρ _ => Cert.KernelIdeal.Gen.frame m ρ

/-- So does the reference. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- So does the reference, on the arguments the value claim is about. -/
theorem frame_reference_finite : Cert.quiescent_ReferenceIdeal_pre_finite (hReferenceIdeal := Cert.ReferenceIdeal.Gen.facts)
    (hPre_finite := Cert.Pre_finite.sound) := fun m ρ _ => frame_reference m ρ trivial

/-- The named constant is the word it replaces. -/
theorem preserves : Cert.preserves_Kernel_KernelIdeal :=
  IdealRules.named_const.statement Cert.KernelIdeal.κ "mask" .f32 0xF149F2CA#32 ⊥ rfl

/-- On finite queries and keys the kernel and the reference compute the same attention. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.sound) := by
  intro m ρ m' ρ' hpre hagree
  refine ⟨fun c => Cert.Softmax.attend (Cert.KernelIdeal.Attn.qs m c) (Cert.KernelIdeal.Attn.ks m c) (Cert.KernelIdeal.Attn.vs m c), ?_, ?_⟩
  · exact (θ_run _ _ _).mono (fun r h c => ⟨(h c).1.trans (Cert.KernelIdeal.Attn.array_eq m c), (h c).2⟩)
      (Cert.KernelIdeal.Value.run_blocks (F := Ideal) m ρ)
  · refine (θ_run _ _ _).mono (fun r h c => ⟨(h c).1.trans ?_, (h c).2⟩) (Cert.ReferenceIdeal.Value.run (F := Ideal) m' ρ')
    obtain ⟨hq, hk⟩ := @Cert.Pre_finite.finite_of Cert.Pre_finite.sound _ _ _ (hpre c)
    obtain ⟨e0, e1, e2⟩ := hagree c
    have eq0 : Cert.ReferenceIdeal.Attn.qs m' c = Cert.KernelIdeal.Attn.qs m c := e0
    have eq1 : Cert.ReferenceIdeal.Attn.ks m' c = Cert.KernelIdeal.Attn.ks m c := e1
    have eq2 : Cert.ReferenceIdeal.Attn.vs m' c = Cert.KernelIdeal.Attn.vs m c := e2
    have h := Cert.ReferenceIdeal.Attn.result_eq m' c (fun i => by rw [eq0]; exact hq i) (fun i => by rw [eq1]; exact hk i)
    rw [eq0, eq1, eq2] at h
    exact h

/-- The feed-forward kernel as written runs, keeps its arguments and leaves every counter at zero. -/
theorem frame_ffn : Cert.quiescent_Ffn (hFfn := Cert.Ffn.Gen.facts) := fun m ρ _ => Cert.Ffn.Gen.frame m ρ

/-- So does the feed-forward kernel over exact numbers. -/
theorem frame_ffn_ideal : Cert.quiescent_FfnIdeal (hFfnIdeal := Cert.FfnIdeal.Gen.facts) := fun m ρ _ => Cert.FfnIdeal.Gen.frame m ρ

/-- So does its reference. -/
theorem frame_ffn_reference : Cert.quiescent_FfnReferenceIdeal (hFfnReferenceIdeal := Cert.FfnReferenceIdeal.Gen.facts) := fun m ρ _ =>
  (θ_run Cert.FfnReferenceIdeal.defs _ _).mono (fun r h => ⟨fun c => (h c).2.2, Idealize.ShloMosaic.sem_eq_zero_of_no_sems (by decide) r.2⟩)
    (Cert.FfnReferenceIdeal.Value.run (F := Ideal) m ρ)

/-- No operation of the feed-forward kernel is replaced. -/
theorem preserves_ffn : Cert.preserves_Ffn_FfnIdeal := trivial

/-- The feed-forward kernel and its reference compute the same two arrays. -/
theorem algebraic_ffn : Cert.algebraic_FfnIdeal_FfnReferenceIdeal (hFfnIdeal := Cert.FfnIdeal.Gen.facts)
    (hFfnReferenceIdeal := Cert.FfnReferenceIdeal.Gen.facts) := by
  intro m ρ m' ρ' _ hagree
  refine ⟨fun c => Cert.Gated.layer (Cert.FfnIdeal.Conv.xs m c) (Cert.FfnIdeal.Conv.gs m c) (Cert.FfnIdeal.Conv.wgs m c)
      (Cert.FfnIdeal.Conv.wus m c) (Cert.FfnIdeal.Conv.cws m c) (Cert.FfnIdeal.Conv.cbs m c) (Cert.FfnIdeal.Conv.wds m c),
    fun c => Cert.Gated.trail (Cert.FfnIdeal.Conv.xs m c) (Cert.FfnIdeal.Conv.gs m c) (Cert.FfnIdeal.Conv.wgs m c), ?_, ?_⟩
  · exact (θ_run _ _ _).mono (fun r h c => ⟨(h c).1.trans (Cert.FfnIdeal.Conv.first_array m c),
      (h c).2.1.trans (Cert.FfnIdeal.Conv.second_array m c), (h c).2.2⟩) (Cert.FfnIdeal.Value.run_blocks (F := Ideal) m ρ)
  · refine (θ_run _ _ _).mono (fun r h c => ⟨(h c).1.trans ?_, (h c).2.1.trans ?_, (h c).2.2⟩)
      (Cert.FfnReferenceIdeal.Value.run (F := Ideal) m' ρ')
    · obtain ⟨e0, e1, e2, e3, e4, e5, e6⟩ := hagree c
      rw [Cert.FfnReferenceIdeal.Read.val_main_v40_eq, e0, e1, e2, e3, e4, e5, e6]
      exact Cert.FfnReferenceIdeal.Conv.layer_eq _ _ _ _ _ _ _
    · obtain ⟨e0, e1, e2, -⟩ := hagree c
      rw [e0, e1, e2]
      exact Cert.FfnReferenceIdeal.Conv.trail_eq _ _ _

/-- The grouped attention as written runs, keeps its arguments and leaves every counter at zero. -/
theorem frame_grouped : Cert.quiescent_Grouped (hGrouped := Cert.Grouped.Gen.facts) := fun m ρ _ => Cert.Grouped.Run.frame m ρ

/-- So does the grouped attention over exact numbers. -/
theorem frame_grouped_ideal : Cert.quiescent_GroupedIdeal (hGroupedIdeal := Cert.GroupedIdeal.Gen.facts) :=
  fun m ρ _ => Cert.GroupedIdeal.Run.frame m ρ

/-- So does it on the arguments the value claim is about. -/
theorem frame_grouped_ideal_finite : Cert.quiescent_GroupedIdeal_pre_finite_grouped (hGroupedIdeal := Cert.GroupedIdeal.Gen.facts)
    (hPre_finite_grouped := Cert.Pre_finite_grouped.sound) := fun m ρ _ => Cert.GroupedIdeal.Run.frame m ρ

/-- So does its reference. -/
theorem frame_grouped_reference : Cert.quiescent_GroupedReferenceIdeal (hGroupedReferenceIdeal := Cert.GroupedReferenceIdeal.Gen.facts) :=
  fun m ρ _ =>
  (θ_run Cert.GroupedReferenceIdeal.defs _ _).mono (fun r h => ⟨fun c => (h c).2, Idealize.ShloMosaic.sem_eq_zero_of_no_sems (by decide) r.2⟩)
    (Cert.GroupedReferenceIdeal.Value.run (F := Ideal) m ρ)

/-- So does its reference, on the arguments the value claim is about. -/
theorem frame_grouped_reference_finite : Cert.quiescent_GroupedReferenceIdeal_pre_finite_grouped
    (hGroupedReferenceIdeal := Cert.GroupedReferenceIdeal.Gen.facts) (hPre_finite_grouped := Cert.Pre_finite_grouped.sound) :=
  fun m ρ _ => frame_grouped_reference m ρ trivial

/-- The constant named in the grouped attention is the word it replaces. -/
theorem preserves_grouped : Cert.preserves_Grouped_GroupedIdeal :=
  IdealRules.named_const.statement Cert.GroupedIdeal.κ "mask" .f32 0xF149F2CA#32 ⊥ rfl

/-- On finite queries and keys the grouped attention and its reference compute the same array. -/
theorem algebraic_grouped : Cert.algebraic_GroupedIdeal_GroupedReferenceIdeal_pre_finite_grouped
    (hGroupedIdeal := Cert.GroupedIdeal.Gen.facts) (hGroupedReferenceIdeal := Cert.GroupedReferenceIdeal.Gen.facts)
    (hPre_finite_grouped := Cert.Pre_finite_grouped.sound) := by
  intro m ρ m' ρ' hpre hagree
  refine ⟨fun c => Cert.Softmax.Shared.attend (Cert.GroupedIdeal.Run.qs m c) (Cert.GroupedIdeal.Run.ks m c) (Cert.GroupedIdeal.Run.vs m c), ?_, ?_⟩
  · exact (θ_run _ _ _).mono (fun r h c => ⟨(h c).1.trans (Cert.GroupedIdeal.Run.result_array m c), (h c).2⟩)
      (Cert.GroupedIdeal.Run.run_blocks (F := Ideal) m ρ)
  · refine (θ_run _ _ _).mono (fun r h c => ⟨(h c).1.trans ?_, (h c).2⟩) (Cert.GroupedReferenceIdeal.Value.run (F := Ideal) m' ρ')
    obtain ⟨hq, hk⟩ := @Cert.Pre_finite_grouped.finite_of Cert.Pre_finite_grouped.sound _ _ _ (hpre c)
    obtain ⟨e0, e1, e2⟩ := hagree c
    have eq0 : Cert.GroupedReferenceIdeal.Attn.qs m' c = Cert.GroupedIdeal.Run.qs m c := e0
    have eq1 : Cert.GroupedReferenceIdeal.Attn.ks m' c = Cert.GroupedIdeal.Run.ks m c := e1
    have eq2 : Cert.GroupedReferenceIdeal.Attn.vs m' c = Cert.GroupedIdeal.Run.vs m c := e2
    have h := Cert.GroupedReferenceIdeal.Attn.result_eq m' c (fun i => by rw [eq0]; exact hq i) (fun i => by rw [eq1]; exact hk i)
    rw [eq0, eq1, eq2] at h
    exact h

/-- The first projection as written runs, keeps its arguments and leaves every counter at zero. -/
theorem frame_project : Cert.quiescent_Project (hProject := Cert.Project.Gen.facts) := fun m ρ _ => Cert.Project.Gen.frame m ρ

/-- So does the first projection over exact numbers. -/
theorem frame_project_ideal : Cert.quiescent_ProjectIdeal (hProjectIdeal := Cert.ProjectIdeal.Gen.facts) := fun m ρ _ => Cert.ProjectIdeal.Gen.frame m ρ

/-- So does its reference. -/
theorem frame_project_reference : Cert.quiescent_ProjectReferenceIdeal (hProjectReferenceIdeal := Cert.ProjectReferenceIdeal.Gen.facts) :=
  fun m ρ _ => (θ_run Cert.ProjectReferenceIdeal.defs _ _).mono
    (fun r h => ⟨fun c => (h c).2.2.2.2, Idealize.ShloMosaic.sem_eq_zero_of_no_sems (by decide) r.2⟩) (Cert.ProjectReferenceIdeal.Value.run (F := Ideal) m ρ)

/-- No operation of the first projection is replaced. -/
theorem preserves_project : Cert.preserves_Project_ProjectIdeal := trivial

/-- The first projection and its reference compute the same values, keys and logs of forget gates. -/
theorem algebraic_project : Cert.algebraic_ProjectIdeal_ProjectReferenceIdeal (hProjectIdeal := Cert.ProjectIdeal.Gen.facts)
    (hProjectReferenceIdeal := Cert.ProjectReferenceIdeal.Gen.facts) := by
  intro m ρ m' ρ' _ hagree
  refine ⟨fun c => Cert.Gated.columns (Cert.ProjectIdeal.Heads.xs m c) (Cert.ProjectIdeal.Heads.gs m c) (Cert.ProjectIdeal.Heads.ws m c) 640 (by omega),
    fun c => Cert.Gated.columns (Cert.ProjectIdeal.Heads.xs m c) (Cert.ProjectIdeal.Heads.gs m c) (Cert.ProjectIdeal.Heads.ws m c) 1280 (by omega),
    fun c => Cert.Gated.columns (Cert.ProjectIdeal.Heads.xs m c) (Cert.ProjectIdeal.Heads.gs m c) (Cert.ProjectIdeal.Heads.ws m c) 1408 (by omega),
    fun c => Cert.Gated.forgets (Cert.ProjectIdeal.Heads.xs m c) (Cert.ProjectIdeal.Heads.gs m c) (Cert.ProjectIdeal.Heads.ws m c)
      (Cert.ProjectIdeal.Heads.bs m c), ?_, ?_⟩
  · exact (θ_run _ _ _).mono (fun r h c => ⟨(h c).2.2.1.trans (Cert.ProjectIdeal.Heads.first_values_array m c),
      (h c).2.2.2.2.1.trans (Cert.ProjectIdeal.Heads.second_keys_array m c), (h c).2.2.2.2.2.1.trans (Cert.ProjectIdeal.Heads.second_values_array m c),
      (h c).2.2.2.2.2.2.1.trans (Cert.ProjectIdeal.Heads.logs_array m c), (h c).2.2.2.2.2.2.2.2.2.2⟩) (Cert.ProjectIdeal.Value.run_blocks (F := Ideal) m ρ)
  · refine (θ_run _ _ _).mono (fun r h c => ⟨(h c).1.trans ?_, (h c).2.1.trans ?_, (h c).2.2.1.trans ?_, (h c).2.2.2.1.trans ?_, (h c).2.2.2.2⟩)
      (Cert.ProjectReferenceIdeal.Value.run (F := Ideal) m' ρ')
    · obtain ⟨e0, e1, e2, -⟩ := hagree c
      rw [e0, e1, e2]
      exact Cert.ProjectReferenceIdeal.Heads.first_values _ _ _
    · obtain ⟨e0, e1, e2, -⟩ := hagree c
      rw [e0, e1, e2]
      exact Cert.ProjectReferenceIdeal.Heads.second_keys _ _ _
    · obtain ⟨e0, e1, e2, -⟩ := hagree c
      rw [e0, e1, e2]
      exact Cert.ProjectReferenceIdeal.Heads.second_values _ _ _
    · obtain ⟨e0, e1, e2, e3⟩ := hagree c
      rw [Cert.ProjectReferenceIdeal.Read.val_main_v21_eq, e0, e1, e2, e3]
      exact Cert.ProjectReferenceIdeal.Heads.logs _ _ _ _

/-- The last norm as written runs, keeps its arguments and leaves every counter at zero. -/
theorem frame_norm : Cert.quiescent_Norm (hNorm := Cert.Norm.Gen.facts) := fun m ρ _ => Cert.Norm.Gen.frame m ρ

/-- So does the last norm over exact numbers. -/
theorem frame_norm_ideal : Cert.quiescent_NormIdeal (hNormIdeal := Cert.NormIdeal.Gen.facts) := fun m ρ _ => Cert.NormIdeal.Gen.frame m ρ

/-- So does its reference. -/
theorem frame_norm_reference : Cert.quiescent_NormReferenceIdeal (hNormReferenceIdeal := Cert.NormReferenceIdeal.Gen.facts) := fun m ρ _ =>
  (θ_run Cert.NormReferenceIdeal.defs _ _).mono (fun r h => ⟨fun c => (h c).2, Idealize.ShloMosaic.sem_eq_zero_of_no_sems (by decide) r.2⟩)
    (Cert.NormReferenceIdeal.Value.run (F := Ideal) m ρ)

/-- No operation of the last norm is replaced. -/
theorem preserves_norm : Cert.preserves_Norm_NormIdeal := trivial

/-- The last norm and its reference compute the same array. -/
theorem algebraic_norm : Cert.algebraic_NormIdeal_NormReferenceIdeal (hNormIdeal := Cert.NormIdeal.Gen.facts)
    (hNormReferenceIdeal := Cert.NormReferenceIdeal.Gen.facts) := by
  intro m ρ m' ρ' _ hagree
  refine ⟨fun c => Cert.Gated.normedRows (Cert.NormIdeal.Rows.xs m c) (Cert.NormIdeal.Rows.gs m c), ?_, ?_⟩
  · exact (θ_run _ _ _).mono (fun r h c => ⟨(h c).1.trans (Cert.NormIdeal.Rows.array_eq m c), (h c).2⟩)
      (Cert.NormIdeal.Value.run_blocks (F := Ideal) m ρ)
  · refine (θ_run _ _ _).mono (fun r h c => ⟨(h c).1.trans ?_, (h c).2⟩) (Cert.NormReferenceIdeal.Value.run (F := Ideal) m' ρ')
    obtain ⟨e0, e1⟩ := hagree c
    rw [e0, e1]
    exact Cert.NormReferenceIdeal.Rows.rows_eq _ _

/-- The first output projection as written runs, keeps its arguments and leaves every counter at zero. -/
theorem frame_joined : Cert.quiescent_Joined (hJoined := Cert.Joined.Gen.facts) := fun m ρ _ => Cert.Joined.Gen.frame m ρ

/-- So does the first output projection over exact numbers. -/
theorem frame_joined_ideal : Cert.quiescent_JoinedIdeal (hJoinedIdeal := Cert.JoinedIdeal.Gen.facts) := fun m ρ _ => Cert.JoinedIdeal.Gen.frame m ρ

/-- So does its reference. -/
theorem frame_joined_reference : Cert.quiescent_JoinedReferenceIdeal (hJoinedReferenceIdeal := Cert.JoinedReferenceIdeal.Gen.facts) := fun m ρ _ =>
  (θ_run Cert.JoinedReferenceIdeal.defs _ _).mono (fun r h => ⟨fun c => (h c).2, Idealize.ShloMosaic.sem_eq_zero_of_no_sems (by decide) r.2⟩)
    (Cert.JoinedReferenceIdeal.Value.run (F := Ideal) m ρ)

/-- No operation of the first output projection is replaced. -/
theorem preserves_joined : Cert.preserves_Joined_JoinedIdeal := trivial

/-- The first output projection and its reference compute the same array. -/
theorem algebraic_joined : Cert.algebraic_JoinedIdeal_JoinedReferenceIdeal (hJoinedIdeal := Cert.JoinedIdeal.Gen.facts)
    (hJoinedReferenceIdeal := Cert.JoinedReferenceIdeal.Gen.facts) := by
  intro m ρ m' ρ' _ hagree
  refine ⟨fun c => Cert.Gated.joined (Cert.JoinedIdeal.Rows.xs m c) (Cert.JoinedIdeal.Rows.firsts m c) (Cert.JoinedIdeal.Rows.seconds m c) (Cert.JoinedIdeal.Rows.ws m c), ?_, ?_⟩
  · exact (θ_run _ _ _).mono (fun r h c => ⟨(h c).1.trans (Cert.JoinedIdeal.Rows.array_eq m c), (h c).2⟩)
      (Cert.JoinedIdeal.Value.run_blocks (F := Ideal) m ρ)
  · refine (θ_run _ _ _).mono (fun r h c => ⟨(h c).1.trans ?_, (h c).2⟩) (Cert.JoinedReferenceIdeal.Value.run (F := Ideal) m' ρ')
    obtain ⟨e0, e1, e2, e3⟩ := hagree c
    rw [e0, e1, e2, e3]
    exact Cert.JoinedReferenceIdeal.Rows.rows_eq _ _ _ _

/-- The second output projection as written runs, keeps its arguments and leaves every counter at zero. -/
theorem frame_added : Cert.quiescent_Added (hAdded := Cert.Added.Gen.facts) := fun m ρ _ => Cert.Added.Gen.frame m ρ

/-- So does the second output projection over exact numbers. -/
theorem frame_added_ideal : Cert.quiescent_AddedIdeal (hAddedIdeal := Cert.AddedIdeal.Gen.facts) := fun m ρ _ => Cert.AddedIdeal.Gen.frame m ρ

/-- So does its reference. -/
theorem frame_added_reference : Cert.quiescent_AddedReferenceIdeal (hAddedReferenceIdeal := Cert.AddedReferenceIdeal.Gen.facts) := fun m ρ _ =>
  (θ_run Cert.AddedReferenceIdeal.defs _ _).mono (fun r h => ⟨fun c => (h c).2, Idealize.ShloMosaic.sem_eq_zero_of_no_sems (by decide) r.2⟩)
    (Cert.AddedReferenceIdeal.Value.run (F := Ideal) m ρ)

/-- No operation of the second output projection is replaced. -/
theorem preserves_added : Cert.preserves_Added_AddedIdeal := trivial

/-- The second output projection and its reference compute the same array. -/
theorem algebraic_added : Cert.algebraic_AddedIdeal_AddedReferenceIdeal (hAddedIdeal := Cert.AddedIdeal.Gen.facts)
    (hAddedReferenceIdeal := Cert.AddedReferenceIdeal.Gen.facts) := by
  intro m ρ m' ρ' _ hagree
  refine ⟨fun c => Cert.Gated.added (Cert.AddedIdeal.Rows.xs m c) (Cert.AddedIdeal.Rows.acts m c) (Cert.AddedIdeal.Rows.ws m c), ?_, ?_⟩
  · exact (θ_run _ _ _).mono (fun r h c => ⟨(h c).1.trans (Cert.AddedIdeal.Rows.array_eq m c), (h c).2⟩)
      (Cert.AddedIdeal.Value.run_blocks (F := Ideal) m ρ)
  · refine (θ_run _ _ _).mono (fun r h c => ⟨(h c).1.trans ?_, (h c).2⟩) (Cert.AddedReferenceIdeal.Value.run (F := Ideal) m' ρ')
    obtain ⟨e0, e1, e2⟩ := hagree c
    rw [e0, e1, e2]
    exact Cert.AddedReferenceIdeal.Rows.rows_eq _ _ _

/-- The latent projection as written runs, keeps its arguments and leaves every counter at zero. -/
theorem frame_latent : Cert.quiescent_Latent (hLatent := Cert.Latent.Gen.facts) := fun m ρ _ => Cert.Latent.Gen.frame m ρ

/-- So does the latent projection over exact numbers. -/
theorem frame_latent_ideal : Cert.quiescent_LatentIdeal (hLatentIdeal := Cert.LatentIdeal.Gen.facts) := fun m ρ _ => Cert.LatentIdeal.Gen.frame m ρ

/-- So does its reference. -/
theorem frame_latent_reference : Cert.quiescent_LatentReferenceIdeal (hLatentReferenceIdeal := Cert.LatentReferenceIdeal.Gen.facts) := fun m ρ _ =>
  (θ_run Cert.LatentReferenceIdeal.defs _ _).mono (fun r h => ⟨fun c => (h c).2.2, Idealize.ShloMosaic.sem_eq_zero_of_no_sems (by decide) r.2⟩)
    (Cert.LatentReferenceIdeal.Value.run (F := Ideal) m ρ)

/-- No operation of the latent projection is replaced. -/
theorem preserves_latent : Cert.preserves_Latent_LatentIdeal := trivial

/-- The latent projection and its reference compute the same two arrays. -/
theorem algebraic_latent : Cert.algebraic_LatentIdeal_LatentReferenceIdeal (hLatentIdeal := Cert.LatentIdeal.Gen.facts)
    (hLatentReferenceIdeal := Cert.LatentReferenceIdeal.Gen.facts) := by
  intro m ρ m' ρ' _ hagree
  refine ⟨fun c => Cert.Gated.latents (Cert.LatentIdeal.Rows.xs m c) (Cert.LatentIdeal.Rows.gs m c) (Cert.LatentIdeal.Rows.ws m c)
      (Cert.LatentIdeal.Rows.ss m c),
    fun c => Cert.Gated.latentValues (Cert.LatentIdeal.Rows.xs m c) (Cert.LatentIdeal.Rows.gs m c) (Cert.LatentIdeal.Rows.ws m c)
      (Cert.LatentIdeal.Rows.ss m c) (Cert.LatentIdeal.Rows.us m c), ?_, ?_⟩
  · exact (θ_run _ _ _).mono (fun r h c => ⟨(h c).2.1.trans (Cert.LatentIdeal.Rows.latents_eq m c),
      (h c).2.2.2.2.1.trans (Cert.LatentIdeal.Rows.values_eq m c), (h c).2.2.2.2.2⟩) (Cert.LatentIdeal.Value.run_blocks (F := Ideal) m ρ)
  · refine (θ_run _ _ _).mono (fun r h c => ⟨(h c).1.trans ?_, (h c).2.1.trans ?_, (h c).2.2⟩)
      (Cert.LatentReferenceIdeal.Value.run (F := Ideal) m' ρ')
    · obtain ⟨e0, e1, -, -, -, e5, e6, -, -⟩ := hagree c
      rw [Cert.LatentReferenceIdeal.Read.val_main_v27_eq, e0, e1, e5, e6]
      exact Cert.LatentReferenceIdeal.Rows.latents_eq _ _ _ _
    · obtain ⟨e0, e1, -, -, -, e5, e6, -, e8⟩ := hagree c
      rw [Cert.LatentReferenceIdeal.Read.val_main_v30_eq, e0, e1, e5, e6, e8]
      exact Cert.LatentReferenceIdeal.Rows.values_eq _ _ _ _ _

/-- The sample's last norm as written runs, keeps its arguments and leaves every counter at zero. -/
theorem frame_norm_sample : Cert.quiescent_NormSample (hNormSample := Cert.NormSample.Gen.facts) := fun m ρ _ => Cert.NormSample.Gen.frame m ρ

/-- So does the sample's last norm over exact numbers. -/
theorem frame_norm_sample_ideal : Cert.quiescent_NormSampleIdeal (hNormSampleIdeal := Cert.NormSampleIdeal.Gen.facts) := fun m ρ _ => Cert.NormSampleIdeal.Gen.frame m ρ

/-- So does its reference. -/
theorem frame_norm_sample_reference : Cert.quiescent_NormSampleReferenceIdeal (hNormSampleReferenceIdeal := Cert.NormSampleReferenceIdeal.Gen.facts) := fun m ρ _ =>
  (θ_run Cert.NormSampleReferenceIdeal.defs _ _).mono (fun r h => ⟨fun c => (h c).2, Idealize.ShloMosaic.sem_eq_zero_of_no_sems (by decide) r.2⟩)
    (Cert.NormSampleReferenceIdeal.Value.run (F := Ideal) m ρ)

/-- No operation of the sample's last norm is replaced. -/
theorem preserves_norm_sample : Cert.preserves_NormSample_NormSampleIdeal := trivial

/-- The sample's last norm and its reference compute the same array. -/
theorem algebraic_norm_sample : Cert.algebraic_NormSampleIdeal_NormSampleReferenceIdeal (hNormSampleIdeal := Cert.NormSampleIdeal.Gen.facts)
    (hNormSampleReferenceIdeal := Cert.NormSampleReferenceIdeal.Gen.facts) := by
  intro m ρ m' ρ' _ hagree
  refine ⟨fun c => Cert.Gated.sampleRows (Cert.NormSampleIdeal.Rows.xs m c) (Cert.NormSampleIdeal.Rows.gs m c), ?_, ?_⟩
  · exact (θ_run _ _ _).mono (fun r h c => ⟨(h c).1.trans (Cert.NormSampleIdeal.Rows.array_eq m c), (h c).2⟩)
      (Cert.NormSampleIdeal.Value.run_blocks (F := Ideal) m ρ)
  · refine (θ_run _ _ _).mono (fun r h c => ⟨(h c).1.trans ?_, (h c).2⟩) (Cert.NormSampleReferenceIdeal.Value.run (F := Ideal) m' ρ')
    obtain ⟨e0, e1⟩ := hagree c
    rw [e0, e1]
    exact Cert.NormSampleReferenceIdeal.Rows.rows_eq _ _

/-- The sample's first projection as written runs, keeps its arguments and leaves every counter at zero. -/
theorem frame_project_sample : Cert.quiescent_ProjectSample (hProjectSample := Cert.ProjectSample.Gen.facts) := fun m ρ _ => Cert.ProjectSample.Gen.frame m ρ

/-- So does the sample's first projection over exact numbers. -/
theorem frame_project_sample_ideal : Cert.quiescent_ProjectSampleIdeal (hProjectSampleIdeal := Cert.ProjectSampleIdeal.Gen.facts) := fun m ρ _ => Cert.ProjectSampleIdeal.Gen.frame m ρ

/-- So does its reference. -/
theorem frame_project_sample_reference : Cert.quiescent_ProjectSampleReferenceIdeal (hProjectSampleReferenceIdeal := Cert.ProjectSampleReferenceIdeal.Gen.facts) :=
  fun m ρ _ => (θ_run Cert.ProjectSampleReferenceIdeal.defs _ _).mono
    (fun r h => ⟨fun c => (h c).2.2.2.2, Idealize.ShloMosaic.sem_eq_zero_of_no_sems (by decide) r.2⟩) (Cert.ProjectSampleReferenceIdeal.Value.run (F := Ideal) m ρ)

/-- No operation of the sample's first projection is replaced. -/
theorem preserves_project_sample : Cert.preserves_ProjectSample_ProjectSampleIdeal := trivial

/-- The sample's first projection and its reference compute the same values, keys and logs of forget gates. -/
theorem algebraic_project_sample : Cert.algebraic_ProjectSampleIdeal_ProjectSampleReferenceIdeal (hProjectSampleIdeal := Cert.ProjectSampleIdeal.Gen.facts)
    (hProjectSampleReferenceIdeal := Cert.ProjectSampleReferenceIdeal.Gen.facts) := by
  intro m ρ m' ρ' _ hagree
  refine ⟨fun c => Cert.Gated.sampleColumns (Cert.ProjectSampleIdeal.Heads.xs m c) (Cert.ProjectSampleIdeal.Heads.gs m c) (Cert.ProjectSampleIdeal.Heads.ws m c) 640 (by omega),
    fun c => Cert.Gated.sampleColumns (Cert.ProjectSampleIdeal.Heads.xs m c) (Cert.ProjectSampleIdeal.Heads.gs m c) (Cert.ProjectSampleIdeal.Heads.ws m c) 1280 (by omega),
    fun c => Cert.Gated.sampleColumns (Cert.ProjectSampleIdeal.Heads.xs m c) (Cert.ProjectSampleIdeal.Heads.gs m c) (Cert.ProjectSampleIdeal.Heads.ws m c) 1408 (by omega),
    fun c => Cert.Gated.sampleForgets (Cert.ProjectSampleIdeal.Heads.xs m c) (Cert.ProjectSampleIdeal.Heads.gs m c) (Cert.ProjectSampleIdeal.Heads.ws m c)
      (Cert.ProjectSampleIdeal.Heads.bs m c), ?_, ?_⟩
  · exact (θ_run _ _ _).mono (fun r h c => ⟨(h c).2.2.1.trans (Cert.ProjectSampleIdeal.Heads.first_values_array m c),
      (h c).2.2.2.2.1.trans (Cert.ProjectSampleIdeal.Heads.second_keys_array m c), (h c).2.2.2.2.2.1.trans (Cert.ProjectSampleIdeal.Heads.second_values_array m c),
      (h c).2.2.2.2.2.2.1.trans (Cert.ProjectSampleIdeal.Heads.logs_array m c), (h c).2.2.2.2.2.2.2.2.2.2⟩) (Cert.ProjectSampleIdeal.Value.run_blocks (F := Ideal) m ρ)
  · refine (θ_run _ _ _).mono (fun r h c => ⟨(h c).1.trans ?_, (h c).2.1.trans ?_, (h c).2.2.1.trans ?_, (h c).2.2.2.1.trans ?_, (h c).2.2.2.2⟩)
      (Cert.ProjectSampleReferenceIdeal.Value.run (F := Ideal) m' ρ')
    · obtain ⟨e0, e1, e2, -⟩ := hagree c
      rw [e0, e1, e2]
      exact Cert.ProjectSampleReferenceIdeal.Heads.first_values _ _ _
    · obtain ⟨e0, e1, e2, -⟩ := hagree c
      rw [e0, e1, e2]
      exact Cert.ProjectSampleReferenceIdeal.Heads.second_keys _ _ _
    · obtain ⟨e0, e1, e2, -⟩ := hagree c
      rw [e0, e1, e2]
      exact Cert.ProjectSampleReferenceIdeal.Heads.second_values _ _ _
    · obtain ⟨e0, e1, e2, e3⟩ := hagree c
      rw [Cert.ProjectSampleReferenceIdeal.Read.val_main_v21_eq, e0, e1, e2, e3]
      exact Cert.ProjectSampleReferenceIdeal.Heads.logs _ _ _ _

/-- The sample's latent projection as written runs, keeps its arguments and leaves every counter at zero. -/
theorem frame_latent_sample : Cert.quiescent_LatentSample (hLatentSample := Cert.LatentSample.Gen.facts) := fun m ρ _ => Cert.LatentSample.Gen.frame m ρ

/-- So does the sample's latent projection over exact numbers. -/
theorem frame_latent_sample_ideal : Cert.quiescent_LatentSampleIdeal (hLatentSampleIdeal := Cert.LatentSampleIdeal.Gen.facts) :=
  fun m ρ _ => Cert.LatentSampleIdeal.Gen.frame m ρ

/-- So does its reference. -/
theorem frame_latent_sample_reference : Cert.quiescent_LatentSampleReferenceIdeal
    (hLatentSampleReferenceIdeal := Cert.LatentSampleReferenceIdeal.Gen.facts) := fun m ρ _ =>
  (θ_run Cert.LatentSampleReferenceIdeal.defs _ _).mono (fun r h => ⟨fun c => (h c).2, Idealize.ShloMosaic.sem_eq_zero_of_no_sems (by decide) r.2⟩)
    (Cert.LatentSampleReferenceIdeal.Value.run (F := Ideal) m ρ)

/-- No operation of the sample's latent projection is replaced. -/
theorem preserves_latent_sample : Cert.preserves_LatentSample_LatentSampleIdeal := trivial

/-- The sample's latent projection and its reference compute the same rows. -/
theorem algebraic_latent_sample : Cert.algebraic_LatentSampleIdeal_LatentSampleReferenceIdeal
    (hLatentSampleIdeal := Cert.LatentSampleIdeal.Gen.facts) (hLatentSampleReferenceIdeal := Cert.LatentSampleReferenceIdeal.Gen.facts) := by
  intro m ρ m' ρ' _ hagree
  refine ⟨fun c => Cert.Gated.sampleLatents (Cert.LatentSampleIdeal.Rows.xs m c) (Cert.LatentSampleIdeal.Rows.gs m c)
      (Cert.LatentSampleIdeal.Rows.ws m c) (Cert.LatentSampleIdeal.Rows.ss m c), ?_, ?_⟩
  · exact (θ_run _ _ _).mono (fun r h c => ⟨(h c).2.1.trans (Cert.LatentSampleIdeal.Rows.latents_eq m c), (h c).2.2.2.2.2⟩)
      (Cert.LatentSampleIdeal.Value.run_blocks (F := Ideal) m ρ)
  · refine (θ_run _ _ _).mono (fun r h c => ⟨(h c).1.trans ?_, (h c).2⟩) (Cert.LatentSampleReferenceIdeal.Value.run (F := Ideal) m' ρ')
    obtain ⟨e0, e1, -, -, -, e5, e6, -, -⟩ := hagree c
    rw [Cert.LatentSampleReferenceIdeal.Read.val_main_v27_eq, e0, e1, e5, e6]
    exact Cert.LatentSampleReferenceIdeal.Rows.latents_eq _ _ _ _

/-- All of it. -/
theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts, Cert.Grouped.Gen.facts,
  Cert.GroupedIdeal.Gen.facts, Cert.GroupedReferenceIdeal.Gen.facts,
  Cert.Project.Gen.facts, Cert.ProjectIdeal.Gen.facts, Cert.ProjectReferenceIdeal.Gen.facts, Cert.Norm.Gen.facts, Cert.NormIdeal.Gen.facts,
  Cert.NormReferenceIdeal.Gen.facts, Cert.Joined.Gen.facts, Cert.JoinedIdeal.Gen.facts, Cert.JoinedReferenceIdeal.Gen.facts,
  Cert.Added.Gen.facts, Cert.AddedIdeal.Gen.facts, Cert.AddedReferenceIdeal.Gen.facts,
  Cert.Latent.Gen.facts, Cert.LatentIdeal.Gen.facts, Cert.LatentReferenceIdeal.Gen.facts,
  Cert.NormSample.Gen.facts, Cert.NormSampleIdeal.Gen.facts, Cert.NormSampleReferenceIdeal.Gen.facts,
  Cert.ProjectSample.Gen.facts, Cert.ProjectSampleIdeal.Gen.facts, Cert.ProjectSampleReferenceIdeal.Gen.facts,
  Cert.LatentSample.Gen.facts, Cert.LatentSampleIdeal.Gen.facts, Cert.LatentSampleReferenceIdeal.Gen.facts, Cert.Pre_finite.sound, Cert.Pre_finite_grouped.sound,
  frame_kernel, frame_ideal, frame_ideal_finite, frame_reference, frame_reference_finite, frame_ffn, frame_ffn_ideal, frame_ffn_reference,
  frame_grouped, frame_grouped_ideal, frame_grouped_ideal_finite, frame_grouped_reference, frame_grouped_reference_finite,
  frame_project, frame_project_ideal, frame_project_reference, frame_norm, frame_norm_ideal, frame_norm_reference,
  frame_joined, frame_joined_ideal, frame_joined_reference, frame_added, frame_added_ideal, frame_added_reference,
  frame_latent, frame_latent_ideal, frame_latent_reference,
  frame_norm_sample, frame_norm_sample_ideal, frame_norm_sample_reference,
  frame_project_sample, frame_project_sample_ideal, frame_project_sample_reference,
  frame_latent_sample, frame_latent_sample_ideal, frame_latent_sample_reference,
  preserves, algebraic, preserves_ffn, algebraic_ffn, preserves_grouped, algebraic_grouped,
  preserves_project, algebraic_project, preserves_norm, algebraic_norm,
  preserves_joined, algebraic_joined, preserves_added, algebraic_added,
  preserves_latent, algebraic_latent,
  preserves_norm_sample, algebraic_norm_sample,
  preserves_project_sample, algebraic_project_sample,
  preserves_latent_sample, algebraic_latent_sample⟩

end Cert.Proof

end
